-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelGateUp (m : (ℓ : Loc Cert.KernelGateUp.nD Cert.KernelGateUp.τ Cert.KernelGateUp.sig) → Buf (Elt Bits) ℓ) : Prop :=
  True

def Pre_KernelGateUpIdeal (m : (ℓ : Loc Cert.KernelGateUpIdeal.nD Cert.KernelGateUpIdeal.τ Cert.KernelGateUpIdeal.sig) → Buf (Elt Ideal) ℓ) : Prop :=
  True

def Pre_ReferenceGateUpIdeal (m : (ℓ : Loc Cert.ReferenceGateUpIdeal.nD Cert.ReferenceGateUpIdeal.τ Cert.ReferenceGateUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_KernelUpIdeal_finite_up [hPre_finite_up : Cert.Pre_finite_up.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2))) = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_finite_up [hPre_finite_up : Cert.Pre_finite_up.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2))) = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))) = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))) = (fun _ => 1#1)

def Pre_KernelMmIn (m : (ℓ : Loc Cert.KernelMmIn.nD Cert.KernelMmIn.τ Cert.KernelMmIn.sig) → Buf (Elt Bits) ℓ) : Prop :=
  True

def Pre_KernelMmInIdeal (m : (ℓ : Loc Cert.KernelMmInIdeal.nD Cert.KernelMmInIdeal.τ Cert.KernelMmInIdeal.sig) → Buf (Elt Ideal) ℓ) : Prop :=
  True

def Pre_ReferenceMmInIdeal (m : (ℓ : Loc Cert.ReferenceMmInIdeal.nD Cert.ReferenceMmInIdeal.τ Cert.ReferenceMmInIdeal.sig) → Buf (Elt Ideal) ℓ) : Prop :=
  True

def Pre_KernelMmOut (m : (ℓ : Loc Cert.KernelMmOut.nD Cert.KernelMmOut.τ Cert.KernelMmOut.sig) → Buf (Elt Bits) ℓ) : Prop :=
  True

def Pre_KernelMmOutIdeal (m : (ℓ : Loc Cert.KernelMmOutIdeal.nD Cert.KernelMmOutIdeal.τ Cert.KernelMmOutIdeal.sig) → Buf (Elt Ideal) ℓ) : Prop :=
  True

def Pre_ReferenceMmOutIdeal (m : (ℓ : Loc Cert.ReferenceMmOutIdeal.nD Cert.ReferenceMmOutIdeal.τ Cert.ReferenceMmOutIdeal.sig) → Buf (Elt Ideal) ℓ) : Prop :=
  True

def Pre_KernelFfnDown (m : (ℓ : Loc Cert.KernelFfnDown.nD Cert.KernelFfnDown.τ Cert.KernelFfnDown.sig) → Buf (Elt Bits) ℓ) : Prop :=
  True

def Pre_KernelFfnDownIdeal (m : (ℓ : Loc Cert.KernelFfnDownIdeal.nD Cert.KernelFfnDownIdeal.τ Cert.KernelFfnDownIdeal.sig) → Buf (Elt Ideal) ℓ) : Prop :=
  True

def Pre_KernelFfnDownIdeal_finite_ffn_down [hPre_finite_ffn_down : Cert.Pre_finite_ffn_down.Facts] (m : (ℓ : Loc Cert.KernelFfnDownIdeal.nD Cert.KernelFfnDownIdeal.τ Cert.KernelFfnDownIdeal.sig) → Buf (Elt Ideal) ℓ) : Prop :=
  ∀ c : Dev Cert.KernelFfnDownIdeal.nD,
    (Cert.Pre_finite_ffn_down.fn (F := Ideal) (m ((c.tc : Thread Cert.KernelFfnDownIdeal.nD Cert.KernelFfnDownIdeal.τ).loc Cert.KernelFfnDownIdeal.main_arg0)) (m ((c.tc : Thread Cert.KernelFfnDownIdeal.nD Cert.KernelFfnDownIdeal.τ).loc Cert.KernelFfnDownIdeal.main_arg1)) (m ((c.tc : Thread Cert.KernelFfnDownIdeal.nD Cert.KernelFfnDownIdeal.τ).loc Cert.KernelFfnDownIdeal.main_arg2)) (m ((c.tc : Thread Cert.KernelFfnDownIdeal.nD Cert.KernelFfnDownIdeal.τ).loc Cert.KernelFfnDownIdeal.main_arg3)) (m ((c.tc : Thread Cert.KernelFfnDownIdeal.nD Cert.KernelFfnDownIdeal.τ).loc Cert.KernelFfnDownIdeal.main_arg4))) = (fun _ => 1#1)

def Pre_ReferenceFfnDownIdeal (m : (ℓ : Loc Cert.ReferenceFfnDownIdeal.nD Cert.ReferenceFfnDownIdeal.τ Cert.ReferenceFfnDownIdeal.sig) → Buf (Elt Ideal) ℓ) : Prop :=
  True

def Pre_ReferenceFfnDownIdeal_finite_ffn_down [hPre_finite_ffn_down : Cert.Pre_finite_ffn_down.Facts] (m : (ℓ : Loc Cert.ReferenceFfnDownIdeal.nD Cert.ReferenceFfnDownIdeal.τ Cert.ReferenceFfnDownIdeal.sig) → Buf (Elt Ideal) ℓ) : Prop :=
  ∀ c : Dev Cert.ReferenceFfnDownIdeal.nD,
    (Cert.Pre_finite_ffn_down.fn (F := Ideal) (m ((c.tc : Thread Cert.ReferenceFfnDownIdeal.nD Cert.ReferenceFfnDownIdeal.τ).loc Cert.ReferenceFfnDownIdeal.main_arg0)) (m ((c.tc : Thread Cert.ReferenceFfnDownIdeal.nD Cert.ReferenceFfnDownIdeal.τ).loc Cert.ReferenceFfnDownIdeal.main_arg1)) (m ((c.tc : Thread Cert.ReferenceFfnDownIdeal.nD Cert.ReferenceFfnDownIdeal.τ).loc Cert.ReferenceFfnDownIdeal.main_arg2)) (m ((c.tc : Thread Cert.ReferenceFfnDownIdeal.nD Cert.ReferenceFfnDownIdeal.τ).loc Cert.ReferenceFfnDownIdeal.main_arg3)) (m ((c.tc : Thread Cert.ReferenceFfnDownIdeal.nD Cert.ReferenceFfnDownIdeal.τ).loc Cert.ReferenceFfnDownIdeal.main_arg4))) = (fun _ => 1#1)

def Pre_KernelBwdIn (m : (ℓ : Loc Cert.KernelBwdIn.nD Cert.KernelBwdIn.τ Cert.KernelBwdIn.sig) → Buf (Elt Bits) ℓ) : Prop :=
  True

def Pre_KernelBwdInIdeal (m : (ℓ : Loc Cert.KernelBwdInIdeal.nD Cert.KernelBwdInIdeal.τ Cert.KernelBwdInIdeal.sig) → Buf (Elt Ideal) ℓ) : Prop :=
  True

def Pre_KernelBwdInIdeal_finite_bwd_in [hPre_finite_bwd_in : Cert.Pre_finite_bwd_in.Facts] (m : (ℓ : Loc Cert.KernelBwdInIdeal.nD Cert.KernelBwdInIdeal.τ Cert.KernelBwdInIdeal.sig) → Buf (Elt Ideal) ℓ) : Prop :=
  ∀ c : Dev Cert.KernelBwdInIdeal.nD,
    (Cert.Pre_finite_bwd_in.fn (F := Ideal) (m ((c.tc : Thread Cert.KernelBwdInIdeal.nD Cert.KernelBwdInIdeal.τ).loc Cert.KernelBwdInIdeal.main_arg0)) (m ((c.tc : Thread Cert.KernelBwdInIdeal.nD Cert.KernelBwdInIdeal.τ).loc Cert.KernelBwdInIdeal.main_arg1)) (m ((c.tc : Thread Cert.KernelBwdInIdeal.nD Cert.KernelBwdInIdeal.τ).loc Cert.KernelBwdInIdeal.main_arg2)) (m ((c.tc : Thread Cert.KernelBwdInIdeal.nD Cert.KernelBwdInIdeal.τ).loc Cert.KernelBwdInIdeal.main_arg3)) (m ((c.tc : Thread Cert.KernelBwdInIdeal.nD Cert.KernelBwdInIdeal.τ).loc Cert.KernelBwdInIdeal.main_arg4)) (m ((c.tc : Thread Cert.KernelBwdInIdeal.nD Cert.KernelBwdInIdeal.τ).loc Cert.KernelBwdInIdeal.main_arg5)) (m ((c.tc : Thread Cert.KernelBwdInIdeal.nD Cert.KernelBwdInIdeal.τ).loc Cert.KernelBwdInIdeal.main_arg6)) (m ((c.tc : Thread Cert.KernelBwdInIdeal.nD Cert.KernelBwdInIdeal.τ).loc Cert.KernelBwdInIdeal.main_arg7)) (m ((c.tc : Thread Cert.KernelBwdInIdeal.nD Cert.KernelBwdInIdeal.τ).loc Cert.KernelBwdInIdeal.main_arg8)) (m ((c.tc : Thread Cert.KernelBwdInIdeal.nD Cert.KernelBwdInIdeal.τ).loc Cert.KernelBwdInIdeal.main_arg9))) = (fun _ => 1#1)

def Pre_ReferenceBwdInIdeal (m : (ℓ : Loc Cert.ReferenceBwdInIdeal.nD Cert.ReferenceBwdInIdeal.τ Cert.ReferenceBwdInIdeal.sig) → Buf (Elt Ideal) ℓ) : Prop :=
  True

def Pre_ReferenceBwdInIdeal_finite_bwd_in [hPre_finite_bwd_in : Cert.Pre_finite_bwd_in.Facts] (m : (ℓ : Loc Cert.ReferenceBwdInIdeal.nD Cert.ReferenceBwdInIdeal.τ Cert.ReferenceBwdInIdeal.sig) → Buf (Elt Ideal) ℓ) : Prop :=
  ∀ c : Dev Cert.ReferenceBwdInIdeal.nD,
    (Cert.Pre_finite_bwd_in.fn (F := Ideal) (m ((c.tc : Thread Cert.ReferenceBwdInIdeal.nD Cert.ReferenceBwdInIdeal.τ).loc Cert.ReferenceBwdInIdeal.main_arg0)) (m ((c.tc : Thread Cert.ReferenceBwdInIdeal.nD Cert.ReferenceBwdInIdeal.τ).loc Cert.ReferenceBwdInIdeal.main_arg1)) (m ((c.tc : Thread Cert.ReferenceBwdInIdeal.nD Cert.ReferenceBwdInIdeal.τ).loc Cert.ReferenceBwdInIdeal.main_arg2)) (m ((c.tc : Thread Cert.ReferenceBwdInIdeal.nD Cert.ReferenceBwdInIdeal.τ).loc Cert.ReferenceBwdInIdeal.main_arg3)) (m ((c.tc : Thread Cert.ReferenceBwdInIdeal.nD Cert.ReferenceBwdInIdeal.τ).loc Cert.ReferenceBwdInIdeal.main_arg4)) (m ((c.tc : Thread Cert.ReferenceBwdInIdeal.nD Cert.ReferenceBwdInIdeal.τ).loc Cert.ReferenceBwdInIdeal.main_arg5)) (m ((c.tc : Thread Cert.ReferenceBwdInIdeal.nD Cert.ReferenceBwdInIdeal.τ).loc Cert.ReferenceBwdInIdeal.main_arg6)) (m ((c.tc : Thread Cert.ReferenceBwdInIdeal.nD Cert.ReferenceBwdInIdeal.τ).loc Cert.ReferenceBwdInIdeal.main_arg7)) (m ((c.tc : Thread Cert.ReferenceBwdInIdeal.nD Cert.ReferenceBwdInIdeal.τ).loc Cert.ReferenceBwdInIdeal.main_arg8)) (m ((c.tc : Thread Cert.ReferenceBwdInIdeal.nD Cert.ReferenceBwdInIdeal.τ).loc Cert.ReferenceBwdInIdeal.main_arg9))) = (fun _ => 1#1)

def Pre_KernelMixOut (m : (ℓ : Loc Cert.KernelMixOut.nD Cert.KernelMixOut.τ Cert.KernelMixOut.sig) → Buf (Elt Bits) ℓ) : Prop :=
  True

def Pre_KernelMixOutIdeal (m : (ℓ : Loc Cert.KernelMixOutIdeal.nD Cert.KernelMixOutIdeal.τ Cert.KernelMixOutIdeal.sig) → Buf (Elt Ideal) ℓ) : Prop :=
  True

def Pre_KernelMixOutIdeal_finite_mix_out [hPre_finite_mix_out : Cert.Pre_finite_mix_out.Facts] (m : (ℓ : Loc Cert.KernelMixOutIdeal.nD Cert.KernelMixOutIdeal.τ Cert.KernelMixOutIdeal.sig) → Buf (Elt Ideal) ℓ) : Prop :=
  ∀ c : Dev Cert.KernelMixOutIdeal.nD,
    (Cert.Pre_finite_mix_out.fn (F := Ideal) (m ((c.tc : Thread Cert.KernelMixOutIdeal.nD Cert.KernelMixOutIdeal.τ).loc Cert.KernelMixOutIdeal.main_arg0)) (m ((c.tc : Thread Cert.KernelMixOutIdeal.nD Cert.KernelMixOutIdeal.τ).loc Cert.KernelMixOutIdeal.main_arg1)) (m ((c.tc : Thread Cert.KernelMixOutIdeal.nD Cert.KernelMixOutIdeal.τ).loc Cert.KernelMixOutIdeal.main_arg2)) (m ((c.tc : Thread Cert.KernelMixOutIdeal.nD Cert.KernelMixOutIdeal.τ).loc Cert.KernelMixOutIdeal.main_arg3)) (m ((c.tc : Thread Cert.KernelMixOutIdeal.nD Cert.KernelMixOutIdeal.τ).loc Cert.KernelMixOutIdeal.main_arg4)) (m ((c.tc : Thread Cert.KernelMixOutIdeal.nD Cert.KernelMixOutIdeal.τ).loc Cert.KernelMixOutIdeal.main_arg5))) = (fun _ => 1#1)

def Pre_ReferenceMixOutIdeal (m : (ℓ : Loc Cert.ReferenceMixOutIdeal.nD Cert.ReferenceMixOutIdeal.τ Cert.ReferenceMixOutIdeal.sig) → Buf (Elt Ideal) ℓ) : Prop :=
  True

def Pre_ReferenceMixOutIdeal_finite_mix_out [hPre_finite_mix_out : Cert.Pre_finite_mix_out.Facts] (m : (ℓ : Loc Cert.ReferenceMixOutIdeal.nD Cert.ReferenceMixOutIdeal.τ Cert.ReferenceMixOutIdeal.sig) → Buf (Elt Ideal) ℓ) : Prop :=
  ∀ c : Dev Cert.ReferenceMixOutIdeal.nD,
    (Cert.Pre_finite_mix_out.fn (F := Ideal) (m ((c.tc : Thread Cert.ReferenceMixOutIdeal.nD Cert.ReferenceMixOutIdeal.τ).loc Cert.ReferenceMixOutIdeal.main_arg0)) (m ((c.tc : Thread Cert.ReferenceMixOutIdeal.nD Cert.ReferenceMixOutIdeal.τ).loc Cert.ReferenceMixOutIdeal.main_arg1)) (m ((c.tc : Thread Cert.ReferenceMixOutIdeal.nD Cert.ReferenceMixOutIdeal.τ).loc Cert.ReferenceMixOutIdeal.main_arg2)) (m ((c.tc : Thread Cert.ReferenceMixOutIdeal.nD Cert.ReferenceMixOutIdeal.τ).loc Cert.ReferenceMixOutIdeal.main_arg3)) (m ((c.tc : Thread Cert.ReferenceMixOutIdeal.nD Cert.ReferenceMixOutIdeal.τ).loc Cert.ReferenceMixOutIdeal.main_arg4)) (m ((c.tc : Thread Cert.ReferenceMixOutIdeal.nD Cert.ReferenceMixOutIdeal.τ).loc Cert.ReferenceMixOutIdeal.main_arg5))) = (fun _ => 1#1)

def Pre_KernelMixIn (m : (ℓ : Loc Cert.KernelMixIn.nD Cert.KernelMixIn.τ Cert.KernelMixIn.sig) → Buf (Elt Bits) ℓ) : Prop :=
  True

def Pre_KernelMixInIdeal (m : (ℓ : Loc Cert.KernelMixInIdeal.nD Cert.KernelMixInIdeal.τ Cert.KernelMixInIdeal.sig) → Buf (Elt Ideal) ℓ) : Prop :=
  True

def Pre_KernelMixInIdeal_finite_mix_in [hPre_finite_mix_in : Cert.Pre_finite_mix_in.Facts] (m : (ℓ : Loc Cert.KernelMixInIdeal.nD Cert.KernelMixInIdeal.τ Cert.KernelMixInIdeal.sig) → Buf (Elt Ideal) ℓ) : Prop :=
  ∀ c : Dev Cert.KernelMixInIdeal.nD,
    (Cert.Pre_finite_mix_in.fn (F := Ideal) (m ((c.tc : Thread Cert.KernelMixInIdeal.nD Cert.KernelMixInIdeal.τ).loc Cert.KernelMixInIdeal.main_arg0)) (m ((c.tc : Thread Cert.KernelMixInIdeal.nD Cert.KernelMixInIdeal.τ).loc Cert.KernelMixInIdeal.main_arg1)) (m ((c.tc : Thread Cert.KernelMixInIdeal.nD Cert.KernelMixInIdeal.τ).loc Cert.KernelMixInIdeal.main_arg2)) (m ((c.tc : Thread Cert.KernelMixInIdeal.nD Cert.KernelMixInIdeal.τ).loc Cert.KernelMixInIdeal.main_arg3)) (m ((c.tc : Thread Cert.KernelMixInIdeal.nD Cert.KernelMixInIdeal.τ).loc Cert.KernelMixInIdeal.main_arg4)) (m ((c.tc : Thread Cert.KernelMixInIdeal.nD Cert.KernelMixInIdeal.τ).loc Cert.KernelMixInIdeal.main_arg5))) = (fun _ => 1#1)

def Pre_ReferenceMixInIdeal (m : (ℓ : Loc Cert.ReferenceMixInIdeal.nD Cert.ReferenceMixInIdeal.τ Cert.ReferenceMixInIdeal.sig) → Buf (Elt Ideal) ℓ) : Prop :=
  True

def Pre_ReferenceMixInIdeal_finite_mix_in [hPre_finite_mix_in : Cert.Pre_finite_mix_in.Facts] (m : (ℓ : Loc Cert.ReferenceMixInIdeal.nD Cert.ReferenceMixInIdeal.τ Cert.ReferenceMixInIdeal.sig) → Buf (Elt Ideal) ℓ) : Prop :=
  ∀ c : Dev Cert.ReferenceMixInIdeal.nD,
    (Cert.Pre_finite_mix_in.fn (F := Ideal) (m ((c.tc : Thread Cert.ReferenceMixInIdeal.nD Cert.ReferenceMixInIdeal.τ).loc Cert.ReferenceMixInIdeal.main_arg0)) (m ((c.tc : Thread Cert.ReferenceMixInIdeal.nD Cert.ReferenceMixInIdeal.τ).loc Cert.ReferenceMixInIdeal.main_arg1)) (m ((c.tc : Thread Cert.ReferenceMixInIdeal.nD Cert.ReferenceMixInIdeal.τ).loc Cert.ReferenceMixInIdeal.main_arg2)) (m ((c.tc : Thread Cert.ReferenceMixInIdeal.nD Cert.ReferenceMixInIdeal.τ).loc Cert.ReferenceMixInIdeal.main_arg3)) (m ((c.tc : Thread Cert.ReferenceMixInIdeal.nD Cert.ReferenceMixInIdeal.τ).loc Cert.ReferenceMixInIdeal.main_arg4)) (m ((c.tc : Thread Cert.ReferenceMixInIdeal.nD Cert.ReferenceMixInIdeal.τ).loc Cert.ReferenceMixInIdeal.main_arg5))) = (fun _ => 1#1)

def Pre_KernelAdamFfn (m : (ℓ : Loc Cert.KernelAdamFfn.nD Cert.KernelAdamFfn.τ Cert.KernelAdamFfn.sig) → Buf (Elt Bits) ℓ) : Prop :=
  True

def Pre_KernelAdamFfnIdeal (m : (ℓ : Loc Cert.KernelAdamFfnIdeal.nD Cert.KernelAdamFfnIdeal.τ Cert.KernelAdamFfnIdeal.sig) → Buf (Elt Ideal) ℓ) : Prop :=
  True

def Pre_ReferenceAdamFfnIdeal (m : (ℓ : Loc Cert.ReferenceAdamFfnIdeal.nD Cert.ReferenceAdamFfnIdeal.τ Cert.ReferenceAdamFfnIdeal.sig) → Buf (Elt Ideal) ℓ) : Prop :=
  True

def Pre_KernelAdamMix (m : (ℓ : Loc Cert.KernelAdamMix.nD Cert.KernelAdamMix.τ Cert.KernelAdamMix.sig) → Buf (Elt Bits) ℓ) : Prop :=
  True

def Pre_KernelAdamMixIdeal (m : (ℓ : Loc Cert.KernelAdamMixIdeal.nD Cert.KernelAdamMixIdeal.τ Cert.KernelAdamMixIdeal.sig) → Buf (Elt Ideal) ℓ) : Prop :=
  True

def Pre_ReferenceAdamMixIdeal (m : (ℓ : Loc Cert.ReferenceAdamMixIdeal.nD Cert.ReferenceAdamMixIdeal.τ Cert.ReferenceAdamMixIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelGateUp [hKernelGateUp : Cert.KernelGateUp.Facts] : Prop :=
  ∀ (m : (ℓ : Loc Cert.KernelGateUp.nD Cert.KernelGateUp.τ Cert.KernelGateUp.sig) → Buf (Elt Bits) ℓ) (g : Dev Cert.KernelGateUp.nD → PrngReg), Pre_KernelGateUp m →
    θ_run (Cert.KernelGateUp.defs (F := Bits)) (onTc (τ := Cert.KernelGateUp.τ) (Cert.KernelGateUp.main (F := Bits))) ⟨m, fun _ => 0, g⟩ (fun r => (∀ c : Dev Cert.KernelGateUp.nD,
      r.2.mem ((c.tc : Thread Cert.KernelGateUp.nD Cert.KernelGateUp.τ).loc Cert.KernelGateUp.main_arg0) = m ((c.tc : Thread Cert.KernelGateUp.nD Cert.KernelGateUp.τ).loc Cert.KernelGateUp.main_arg0)
      ∧ r.2.mem ((c.tc : Thread Cert.KernelGateUp.nD Cert.KernelGateUp.τ).loc Cert.KernelGateUp.main_arg1) = m ((c.tc : Thread Cert.KernelGateUp.nD Cert.KernelGateUp.τ).loc Cert.KernelGateUp.main_arg1)
      ∧ r.2.mem ((c.tc : Thread Cert.KernelGateUp.nD Cert.KernelGateUp.τ).loc Cert.KernelGateUp.main_arg2) = m ((c.tc : Thread Cert.KernelGateUp.nD Cert.KernelGateUp.τ).loc Cert.KernelGateUp.main_arg2))
      ∧ r.2.sem = fun _ => 0)

def quiescent_KernelGateUpIdeal [hKernelGateUpIdeal : Cert.KernelGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg), Pre_KernelGateUpIdeal m →
    θ_run (Cert.KernelGateUpIdeal.defs (F := Ideal)) (onTc (τ := Cert.KernelGateUpIdeal.τ) (Cert.KernelGateUpIdeal.main (F := Ideal))) ⟨m, fun _ => 0, g⟩ (fun r => (∀ c : Dev Cert.KernelGateUpIdeal.nD,
      r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
      ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
      ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ r.2.sem = fun _ => 0)

def quiescent_ReferenceGateUpIdeal [hReferenceGateUpIdeal : Cert.ReferenceGateUpIdeal.Facts] : Prop :=
  ∀ (m : (ℓ : Loc Cert.ReferenceGateUpIdeal.nD Cert.ReferenceGateUpIdeal.τ Cert.ReferenceGateUpIdeal.sig) → Buf (Elt Ideal) ℓ) (g : Dev Cert.ReferenceGateUpIdeal.nD → PrngReg), Pre_ReferenceGateUpIdeal m →
    θ_run (Cert.ReferenceGateUpIdeal.defs (F := Ideal)) (onTc (τ := Cert.ReferenceGateUpIdeal.τ) (Cert.ReferenceGateUpIdeal.main (F := Ideal))) ⟨m, fun _ => 0, g⟩ (fun r => (∀ c : Dev Cert.ReferenceGateUpIdeal.nD,
      r.2.mem ((c.tc : Thread Cert.ReferenceGateUpIdeal.nD Cert.ReferenceGateUpIdeal.τ).loc Cert.ReferenceGateUpIdeal.main_arg0) = m ((c.tc : Thread Cert.ReferenceGateUpIdeal.nD Cert.ReferenceGateUpIdeal.τ).loc Cert.ReferenceGateUpIdeal.main_arg0)
      ∧ r.2.mem ((c.tc : Thread Cert.ReferenceGateUpIdeal.nD Cert.ReferenceGateUpIdeal.τ).loc Cert.ReferenceGateUpIdeal.main_arg1) = m ((c.tc : Thread Cert.ReferenceGateUpIdeal.nD Cert.ReferenceGateUpIdeal.τ).loc Cert.ReferenceGateUpIdeal.main_arg1)
      ∧ r.2.mem ((c.tc : Thread Cert.ReferenceGateUpIdeal.nD Cert.ReferenceGateUpIdeal.τ).loc Cert.ReferenceGateUpIdeal.main_arg2) = m ((c.tc : Thread Cert.ReferenceGateUpIdeal.nD Cert.ReferenceGateUpIdeal.τ).loc Cert.ReferenceGateUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_KernelUpIdeal_pre_finite_up [hKernelUpIdeal : Cert.KernelUpIdeal.Facts] [hPre_finite_up : Cert.Pre_finite_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal_finite_up m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_ReferenceUpIdeal_pre_finite_up [hReferenceUpIdeal : Cert.ReferenceUpIdeal.Facts] [hPre_finite_up : Cert.Pre_finite_up.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_finite_up m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelMmIn [hKernelMmIn : Cert.KernelMmIn.Facts] : Prop :=
  ∀ (m : (ℓ : Loc Cert.KernelMmIn.nD Cert.KernelMmIn.τ Cert.KernelMmIn.sig) → Buf (Elt Bits) ℓ) (g : Dev Cert.KernelMmIn.nD → PrngReg), Pre_KernelMmIn m →
    θ_run (Cert.KernelMmIn.defs (F := Bits)) (onTc (τ := Cert.KernelMmIn.τ) (Cert.KernelMmIn.main (F := Bits))) ⟨m, fun _ => 0, g⟩ (fun r => (∀ c : Dev Cert.KernelMmIn.nD,
      r.2.mem ((c.tc : Thread Cert.KernelMmIn.nD Cert.KernelMmIn.τ).loc Cert.KernelMmIn.main_arg0) = m ((c.tc : Thread Cert.KernelMmIn.nD Cert.KernelMmIn.τ).loc Cert.KernelMmIn.main_arg0)
      ∧ r.2.mem ((c.tc : Thread Cert.KernelMmIn.nD Cert.KernelMmIn.τ).loc Cert.KernelMmIn.main_arg1) = m ((c.tc : Thread Cert.KernelMmIn.nD Cert.KernelMmIn.τ).loc Cert.KernelMmIn.main_arg1)
      ∧ r.2.mem ((c.tc : Thread Cert.KernelMmIn.nD Cert.KernelMmIn.τ).loc Cert.KernelMmIn.main_arg2) = m ((c.tc : Thread Cert.KernelMmIn.nD Cert.KernelMmIn.τ).loc Cert.KernelMmIn.main_arg2)
      ∧ r.2.mem ((c.tc : Thread Cert.KernelMmIn.nD Cert.KernelMmIn.τ).loc Cert.KernelMmIn.main_arg3) = m ((c.tc : Thread Cert.KernelMmIn.nD Cert.KernelMmIn.τ).loc Cert.KernelMmIn.main_arg3)
      ∧ r.2.mem ((c.tc : Thread Cert.KernelMmIn.nD Cert.KernelMmIn.τ).loc Cert.KernelMmIn.main_arg4) = m ((c.tc : Thread Cert.KernelMmIn.nD Cert.KernelMmIn.τ).loc Cert.KernelMmIn.main_arg4))
      ∧ r.2.sem = fun _ => 0)

def quiescent_KernelMmInIdeal [hKernelMmInIdeal : Cert.KernelMmInIdeal.Facts] : Prop :=
  ∀ (m : (ℓ : Loc Cert.KernelMmInIdeal.nD Cert.KernelMmInIdeal.τ Cert.KernelMmInIdeal.sig) → Buf (Elt Ideal) ℓ) (g : Dev Cert.KernelMmInIdeal.nD → PrngReg), Pre_KernelMmInIdeal m →
    θ_run (Cert.KernelMmInIdeal.defs (F := Ideal)) (onTc (τ := Cert.KernelMmInIdeal.τ) (Cert.KernelMmInIdeal.main (F := Ideal))) ⟨m, fun _ => 0, g⟩ (fun r => (∀ c : Dev Cert.KernelMmInIdeal.nD,
      r.2.mem ((c.tc : Thread Cert.KernelMmInIdeal.nD Cert.KernelMmInIdeal.τ).loc Cert.KernelMmInIdeal.main_arg0) = m ((c.tc : Thread Cert.KernelMmInIdeal.nD Cert.KernelMmInIdeal.τ).loc Cert.KernelMmInIdeal.main_arg0)
      ∧ r.2.mem ((c.tc : Thread Cert.KernelMmInIdeal.nD Cert.KernelMmInIdeal.τ).loc Cert.KernelMmInIdeal.main_arg1) = m ((c.tc : Thread Cert.KernelMmInIdeal.nD Cert.KernelMmInIdeal.τ).loc Cert.KernelMmInIdeal.main_arg1)
      ∧ r.2.mem ((c.tc : Thread Cert.KernelMmInIdeal.nD Cert.KernelMmInIdeal.τ).loc Cert.KernelMmInIdeal.main_arg2) = m ((c.tc : Thread Cert.KernelMmInIdeal.nD Cert.KernelMmInIdeal.τ).loc Cert.KernelMmInIdeal.main_arg2)
      ∧ r.2.mem ((c.tc : Thread Cert.KernelMmInIdeal.nD Cert.KernelMmInIdeal.τ).loc Cert.KernelMmInIdeal.main_arg3) = m ((c.tc : Thread Cert.KernelMmInIdeal.nD Cert.KernelMmInIdeal.τ).loc Cert.KernelMmInIdeal.main_arg3)
      ∧ r.2.mem ((c.tc : Thread Cert.KernelMmInIdeal.nD Cert.KernelMmInIdeal.τ).loc Cert.KernelMmInIdeal.main_arg4) = m ((c.tc : Thread Cert.KernelMmInIdeal.nD Cert.KernelMmInIdeal.τ).loc Cert.KernelMmInIdeal.main_arg4))
      ∧ r.2.sem = fun _ => 0)

def quiescent_ReferenceMmInIdeal [hReferenceMmInIdeal : Cert.ReferenceMmInIdeal.Facts] : Prop :=
  ∀ (m : (ℓ : Loc Cert.ReferenceMmInIdeal.nD Cert.ReferenceMmInIdeal.τ Cert.ReferenceMmInIdeal.sig) → Buf (Elt Ideal) ℓ) (g : Dev Cert.ReferenceMmInIdeal.nD → PrngReg), Pre_ReferenceMmInIdeal m →
    θ_run (Cert.ReferenceMmInIdeal.defs (F := Ideal)) (onTc (τ := Cert.ReferenceMmInIdeal.τ) (Cert.ReferenceMmInIdeal.main (F := Ideal))) ⟨m, fun _ => 0, g⟩ (fun r => (∀ c : Dev Cert.ReferenceMmInIdeal.nD,
      r.2.mem ((c.tc : Thread Cert.ReferenceMmInIdeal.nD Cert.ReferenceMmInIdeal.τ).loc Cert.ReferenceMmInIdeal.main_arg0) = m ((c.tc : Thread Cert.ReferenceMmInIdeal.nD Cert.ReferenceMmInIdeal.τ).loc Cert.ReferenceMmInIdeal.main_arg0)
      ∧ r.2.mem ((c.tc : Thread Cert.ReferenceMmInIdeal.nD Cert.ReferenceMmInIdeal.τ).loc Cert.ReferenceMmInIdeal.main_arg1) = m ((c.tc : Thread Cert.ReferenceMmInIdeal.nD Cert.ReferenceMmInIdeal.τ).loc Cert.ReferenceMmInIdeal.main_arg1)
      ∧ r.2.mem ((c.tc : Thread Cert.ReferenceMmInIdeal.nD Cert.ReferenceMmInIdeal.τ).loc Cert.ReferenceMmInIdeal.main_arg2) = m ((c.tc : Thread Cert.ReferenceMmInIdeal.nD Cert.ReferenceMmInIdeal.τ).loc Cert.ReferenceMmInIdeal.main_arg2)
      ∧ r.2.mem ((c.tc : Thread Cert.ReferenceMmInIdeal.nD Cert.ReferenceMmInIdeal.τ).loc Cert.ReferenceMmInIdeal.main_arg3) = m ((c.tc : Thread Cert.ReferenceMmInIdeal.nD Cert.ReferenceMmInIdeal.τ).loc Cert.ReferenceMmInIdeal.main_arg3)
      ∧ r.2.mem ((c.tc : Thread Cert.ReferenceMmInIdeal.nD Cert.ReferenceMmInIdeal.τ).loc Cert.ReferenceMmInIdeal.main_arg4) = m ((c.tc : Thread Cert.ReferenceMmInIdeal.nD Cert.ReferenceMmInIdeal.τ).loc Cert.ReferenceMmInIdeal.main_arg4))
      ∧ r.2.sem = fun _ => 0)

def quiescent_KernelMmOut [hKernelMmOut : Cert.KernelMmOut.Facts] : Prop :=
  ∀ (m : (ℓ : Loc Cert.KernelMmOut.nD Cert.KernelMmOut.τ Cert.KernelMmOut.sig) → Buf (Elt Bits) ℓ) (g : Dev Cert.KernelMmOut.nD → PrngReg), Pre_KernelMmOut m →
    θ_run (Cert.KernelMmOut.defs (F := Bits)) (onTc (τ := Cert.KernelMmOut.τ) (Cert.KernelMmOut.main (F := Bits))) ⟨m, fun _ => 0, g⟩ (fun r => (∀ c : Dev Cert.KernelMmOut.nD,
      r.2.mem ((c.tc : Thread Cert.KernelMmOut.nD Cert.KernelMmOut.τ).loc Cert.KernelMmOut.main_arg0) = m ((c.tc : Thread Cert.KernelMmOut.nD Cert.KernelMmOut.τ).loc Cert.KernelMmOut.main_arg0)
      ∧ r.2.mem ((c.tc : Thread Cert.KernelMmOut.nD Cert.KernelMmOut.τ).loc Cert.KernelMmOut.main_arg1) = m ((c.tc : Thread Cert.KernelMmOut.nD Cert.KernelMmOut.τ).loc Cert.KernelMmOut.main_arg1)
      ∧ r.2.mem ((c.tc : Thread Cert.KernelMmOut.nD Cert.KernelMmOut.τ).loc Cert.KernelMmOut.main_arg2) = m ((c.tc : Thread Cert.KernelMmOut.nD Cert.KernelMmOut.τ).loc Cert.KernelMmOut.main_arg2)
      ∧ r.2.mem ((c.tc : Thread Cert.KernelMmOut.nD Cert.KernelMmOut.τ).loc Cert.KernelMmOut.main_arg3) = m ((c.tc : Thread Cert.KernelMmOut.nD Cert.KernelMmOut.τ).loc Cert.KernelMmOut.main_arg3)
      ∧ r.2.mem ((c.tc : Thread Cert.KernelMmOut.nD Cert.KernelMmOut.τ).loc Cert.KernelMmOut.main_arg4) = m ((c.tc : Thread Cert.KernelMmOut.nD Cert.KernelMmOut.τ).loc Cert.KernelMmOut.main_arg4)
      ∧ r.2.mem ((c.tc : Thread Cert.KernelMmOut.nD Cert.KernelMmOut.τ).loc Cert.KernelMmOut.main_arg5) = m ((c.tc : Thread Cert.KernelMmOut.nD Cert.KernelMmOut.τ).loc Cert.KernelMmOut.main_arg5)
      ∧ r.2.mem ((c.tc : Thread Cert.KernelMmOut.nD Cert.KernelMmOut.τ).loc Cert.KernelMmOut.main_arg6) = m ((c.tc : Thread Cert.KernelMmOut.nD Cert.KernelMmOut.τ).loc Cert.KernelMmOut.main_arg6)
      ∧ r.2.mem ((c.tc : Thread Cert.KernelMmOut.nD Cert.KernelMmOut.τ).loc Cert.KernelMmOut.main_arg7) = m ((c.tc : Thread Cert.KernelMmOut.nD Cert.KernelMmOut.τ).loc Cert.KernelMmOut.main_arg7))
      ∧ r.2.sem = fun _ => 0)

def quiescent_KernelMmOutIdeal [hKernelMmOutIdeal : Cert.KernelMmOutIdeal.Facts] : Prop :=
  ∀ (m : (ℓ : Loc Cert.KernelMmOutIdeal.nD Cert.KernelMmOutIdeal.τ Cert.KernelMmOutIdeal.sig) → Buf (Elt Ideal) ℓ) (g : Dev Cert.KernelMmOutIdeal.nD → PrngReg), Pre_KernelMmOutIdeal m →
    θ_run (Cert.KernelMmOutIdeal.defs (F := Ideal)) (onTc (τ := Cert.KernelMmOutIdeal.τ) (Cert.KernelMmOutIdeal.main (F := Ideal))) ⟨m, fun _ => 0, g⟩ (fun r => (∀ c : Dev Cert.KernelMmOutIdeal.nD,
      r.2.mem ((c.tc : Thread Cert.KernelMmOutIdeal.nD Cert.KernelMmOutIdeal.τ).loc Cert.KernelMmOutIdeal.main_arg0) = m ((c.tc : Thread Cert.KernelMmOutIdeal.nD Cert.KernelMmOutIdeal.τ).loc Cert.KernelMmOutIdeal.main_arg0)
      ∧ r.2.mem ((c.tc : Thread Cert.KernelMmOutIdeal.nD Cert.KernelMmOutIdeal.τ).loc Cert.KernelMmOutIdeal.main_arg1) = m ((c.tc : Thread Cert.KernelMmOutIdeal.nD Cert.KernelMmOutIdeal.τ).loc Cert.KernelMmOutIdeal.main_arg1)
      ∧ r.2.mem ((c.tc : Thread Cert.KernelMmOutIdeal.nD Cert.KernelMmOutIdeal.τ).loc Cert.KernelMmOutIdeal.main_arg2) = m ((c.tc : Thread Cert.KernelMmOutIdeal.nD Cert.KernelMmOutIdeal.τ).loc Cert.KernelMmOutIdeal.main_arg2)
      ∧ r.2.mem ((c.tc : Thread Cert.KernelMmOutIdeal.nD Cert.KernelMmOutIdeal.τ).loc Cert.KernelMmOutIdeal.main_arg3) = m ((c.tc : Thread Cert.KernelMmOutIdeal.nD Cert.KernelMmOutIdeal.τ).loc Cert.KernelMmOutIdeal.main_arg3)
      ∧ r.2.mem ((c.tc : Thread Cert.KernelMmOutIdeal.nD Cert.KernelMmOutIdeal.τ).loc Cert.KernelMmOutIdeal.main_arg4) = m ((c.tc : Thread Cert.KernelMmOutIdeal.nD Cert.KernelMmOutIdeal.τ).loc Cert.KernelMmOutIdeal.main_arg4)
      ∧ r.2.mem ((c.tc : Thread Cert.KernelMmOutIdeal.nD Cert.KernelMmOutIdeal.τ).loc Cert.KernelMmOutIdeal.main_arg5) = m ((c.tc : Thread Cert.KernelMmOutIdeal.nD Cert.KernelMmOutIdeal.τ).loc Cert.KernelMmOutIdeal.main_arg5)
      ∧ r.2.mem ((c.tc : Thread Cert.KernelMmOutIdeal.nD Cert.KernelMmOutIdeal.τ).loc Cert.KernelMmOutIdeal.main_arg6) = m ((c.tc : Thread Cert.KernelMmOutIdeal.nD Cert.KernelMmOutIdeal.τ).loc Cert.KernelMmOutIdeal.main_arg6)
      ∧ r.2.mem ((c.tc : Thread Cert.KernelMmOutIdeal.nD Cert.KernelMmOutIdeal.τ).loc Cert.KernelMmOutIdeal.main_arg7) = m ((c.tc : Thread Cert.KernelMmOutIdeal.nD Cert.KernelMmOutIdeal.τ).loc Cert.KernelMmOutIdeal.main_arg7))
      ∧ r.2.sem = fun _ => 0)

def quiescent_ReferenceMmOutIdeal [hReferenceMmOutIdeal : Cert.ReferenceMmOutIdeal.Facts] : Prop :=
  ∀ (m : (ℓ : Loc Cert.ReferenceMmOutIdeal.nD Cert.ReferenceMmOutIdeal.τ Cert.ReferenceMmOutIdeal.sig) → Buf (Elt Ideal) ℓ) (g : Dev Cert.ReferenceMmOutIdeal.nD → PrngReg), Pre_ReferenceMmOutIdeal m →
    θ_run (Cert.ReferenceMmOutIdeal.defs (F := Ideal)) (onTc (τ := Cert.ReferenceMmOutIdeal.τ) (Cert.ReferenceMmOutIdeal.main (F := Ideal))) ⟨m, fun _ => 0, g⟩ (fun r => (∀ c : Dev Cert.ReferenceMmOutIdeal.nD,
      r.2.mem ((c.tc : Thread Cert.ReferenceMmOutIdeal.nD Cert.ReferenceMmOutIdeal.τ).loc Cert.ReferenceMmOutIdeal.main_arg0) = m ((c.tc : Thread Cert.ReferenceMmOutIdeal.nD Cert.ReferenceMmOutIdeal.τ).loc Cert.ReferenceMmOutIdeal.main_arg0)
      ∧ r.2.mem ((c.tc : Thread Cert.ReferenceMmOutIdeal.nD Cert.ReferenceMmOutIdeal.τ).loc Cert.ReferenceMmOutIdeal.main_arg1) = m ((c.tc : Thread Cert.ReferenceMmOutIdeal.nD Cert.ReferenceMmOutIdeal.τ).loc Cert.ReferenceMmOutIdeal.main_arg1)
      ∧ r.2.mem ((c.tc : Thread Cert.ReferenceMmOutIdeal.nD Cert.ReferenceMmOutIdeal.τ).loc Cert.ReferenceMmOutIdeal.main_arg2) = m ((c.tc : Thread Cert.ReferenceMmOutIdeal.nD Cert.ReferenceMmOutIdeal.τ).loc Cert.ReferenceMmOutIdeal.main_arg2)
      ∧ r.2.mem ((c.tc : Thread Cert.ReferenceMmOutIdeal.nD Cert.ReferenceMmOutIdeal.τ).loc Cert.ReferenceMmOutIdeal.main_arg3) = m ((c.tc : Thread Cert.ReferenceMmOutIdeal.nD Cert.ReferenceMmOutIdeal.τ).loc Cert.ReferenceMmOutIdeal.main_arg3)
      ∧ r.2.mem ((c.tc : Thread Cert.ReferenceMmOutIdeal.nD Cert.ReferenceMmOutIdeal.τ).loc Cert.ReferenceMmOutIdeal.main_arg4) = m ((c.tc : Thread Cert.ReferenceMmOutIdeal.nD Cert.ReferenceMmOutIdeal.τ).loc Cert.ReferenceMmOutIdeal.main_arg4)
      ∧ r.2.mem ((c.tc : Thread Cert.ReferenceMmOutIdeal.nD Cert.ReferenceMmOutIdeal.τ).loc Cert.ReferenceMmOutIdeal.main_arg5) = m ((c.tc : Thread Cert.ReferenceMmOutIdeal.nD Cert.ReferenceMmOutIdeal.τ).loc Cert.ReferenceMmOutIdeal.main_arg5)
      ∧ r.2.mem ((c.tc : Thread Cert.ReferenceMmOutIdeal.nD Cert.ReferenceMmOutIdeal.τ).loc Cert.ReferenceMmOutIdeal.main_arg6) = m ((c.tc : Thread Cert.ReferenceMmOutIdeal.nD Cert.ReferenceMmOutIdeal.τ).loc Cert.ReferenceMmOutIdeal.main_arg6)
      ∧ r.2.mem ((c.tc : Thread Cert.ReferenceMmOutIdeal.nD Cert.ReferenceMmOutIdeal.τ).loc Cert.ReferenceMmOutIdeal.main_arg7) = m ((c.tc : Thread Cert.ReferenceMmOutIdeal.nD Cert.ReferenceMmOutIdeal.τ).loc Cert.ReferenceMmOutIdeal.main_arg7))
      ∧ r.2.sem = fun _ => 0)

def quiescent_KernelFfnDown [hKernelFfnDown : Cert.KernelFfnDown.Facts] : Prop :=
  ∀ (m : (ℓ : Loc Cert.KernelFfnDown.nD Cert.KernelFfnDown.τ Cert.KernelFfnDown.sig) → Buf (Elt Bits) ℓ) (g : Dev Cert.KernelFfnDown.nD → PrngReg), Pre_KernelFfnDown m →
    θ_run (Cert.KernelFfnDown.defs (F := Bits)) (onTc (τ := Cert.KernelFfnDown.τ) (Cert.KernelFfnDown.main (F := Bits))) ⟨m, fun _ => 0, g⟩ (fun r => (∀ c : Dev Cert.KernelFfnDown.nD,
      r.2.mem ((c.tc : Thread Cert.KernelFfnDown.nD Cert.KernelFfnDown.τ).loc Cert.KernelFfnDown.main_arg0) = m ((c.tc : Thread Cert.KernelFfnDown.nD Cert.KernelFfnDown.τ).loc Cert.KernelFfnDown.main_arg0)
      ∧ r.2.mem ((c.tc : Thread Cert.KernelFfnDown.nD Cert.KernelFfnDown.τ).loc Cert.KernelFfnDown.main_arg1) = m ((c.tc : Thread Cert.KernelFfnDown.nD Cert.KernelFfnDown.τ).loc Cert.KernelFfnDown.main_arg1)
      ∧ r.2.mem ((c.tc : Thread Cert.KernelFfnDown.nD Cert.KernelFfnDown.τ).loc Cert.KernelFfnDown.main_arg2) = m ((c.tc : Thread Cert.KernelFfnDown.nD Cert.KernelFfnDown.τ).loc Cert.KernelFfnDown.main_arg2)
      ∧ r.2.mem ((c.tc : Thread Cert.KernelFfnDown.nD Cert.KernelFfnDown.τ).loc Cert.KernelFfnDown.main_arg3) = m ((c.tc : Thread Cert.KernelFfnDown.nD Cert.KernelFfnDown.τ).loc Cert.KernelFfnDown.main_arg3)
      ∧ r.2.mem ((c.tc : Thread Cert.KernelFfnDown.nD Cert.KernelFfnDown.τ).loc Cert.KernelFfnDown.main_arg4) = m ((c.tc : Thread Cert.KernelFfnDown.nD Cert.KernelFfnDown.τ).loc Cert.KernelFfnDown.main_arg4))
      ∧ r.2.sem = fun _ => 0)

def quiescent_KernelFfnDownIdeal [hKernelFfnDownIdeal : Cert.KernelFfnDownIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg), Pre_KernelFfnDownIdeal m →
    θ_run (Cert.KernelFfnDownIdeal.defs (F := Ideal)) (onTc (τ := Cert.KernelFfnDownIdeal.τ) (Cert.KernelFfnDownIdeal.main (F := Ideal))) ⟨m, fun _ => 0, g⟩ (fun r => (∀ c : Dev Cert.KernelFfnDownIdeal.nD,
      r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
      ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1)
      ∧ r.2.mem ((c.tc : Thread Cert.KernelFfnDownIdeal.nD Cert.KernelFfnDownIdeal.τ).loc Cert.KernelFfnDownIdeal.main_arg2) = m ((c.tc : Thread Cert.KernelFfnDownIdeal.nD Cert.KernelFfnDownIdeal.τ).loc Cert.KernelFfnDownIdeal.main_arg2)
      ∧ r.2.mem ((c.tc : Thread Cert.KernelFfnDownIdeal.nD Cert.KernelFfnDownIdeal.τ).loc Cert.KernelFfnDownIdeal.main_arg3) = m ((c.tc : Thread Cert.KernelFfnDownIdeal.nD Cert.KernelFfnDownIdeal.τ).loc Cert.KernelFfnDownIdeal.main_arg3)
      ∧ r.2.mem ((c.tc : Thread Cert.KernelFfnDownIdeal.nD Cert.KernelFfnDownIdeal.τ).loc Cert.KernelFfnDownIdeal.main_arg4) = m ((c.tc : Thread Cert.KernelFfnDownIdeal.nD Cert.KernelFfnDownIdeal.τ).loc Cert.KernelFfnDownIdeal.main_arg4))
      ∧ r.2.sem = fun _ => 0)

def quiescent_KernelFfnDownIdeal_pre_finite_ffn_down [hKernelFfnDownIdeal : Cert.KernelFfnDownIdeal.Facts] [hPre_finite_ffn_down : Cert.Pre_finite_ffn_down.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg), Pre_KernelFfnDownIdeal_finite_ffn_down m →
    θ_run (Cert.KernelFfnDownIdeal.defs (F := Ideal)) (onTc (τ := Cert.KernelFfnDownIdeal.τ) (Cert.KernelFfnDownIdeal.main (F := Ideal))) ⟨m, fun _ => 0, g⟩ (fun r => (∀ c : Dev Cert.KernelFfnDownIdeal.nD,
      r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
      ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1)
      ∧ r.2.mem ((c.tc : Thread Cert.KernelFfnDownIdeal.nD Cert.KernelFfnDownIdeal.τ).loc Cert.KernelFfnDownIdeal.main_arg2) = m ((c.tc : Thread Cert.KernelFfnDownIdeal.nD Cert.KernelFfnDownIdeal.τ).loc Cert.KernelFfnDownIdeal.main_arg2)
      ∧ r.2.mem ((c.tc : Thread Cert.KernelFfnDownIdeal.nD Cert.KernelFfnDownIdeal.τ).loc Cert.KernelFfnDownIdeal.main_arg3) = m ((c.tc : Thread Cert.KernelFfnDownIdeal.nD Cert.KernelFfnDownIdeal.τ).loc Cert.KernelFfnDownIdeal.main_arg3)
      ∧ r.2.mem ((c.tc : Thread Cert.KernelFfnDownIdeal.nD Cert.KernelFfnDownIdeal.τ).loc Cert.KernelFfnDownIdeal.main_arg4) = m ((c.tc : Thread Cert.KernelFfnDownIdeal.nD Cert.KernelFfnDownIdeal.τ).loc Cert.KernelFfnDownIdeal.main_arg4))
      ∧ r.2.sem = fun _ => 0)

def quiescent_ReferenceFfnDownIdeal [hReferenceFfnDownIdeal : Cert.ReferenceFfnDownIdeal.Facts] : Prop :=
  ∀ (m : (ℓ : Loc Cert.ReferenceFfnDownIdeal.nD Cert.ReferenceFfnDownIdeal.τ Cert.ReferenceFfnDownIdeal.sig) → Buf (Elt Ideal) ℓ) (g : Dev Cert.ReferenceFfnDownIdeal.nD → PrngReg), Pre_ReferenceFfnDownIdeal m →
    θ_run (Cert.ReferenceFfnDownIdeal.defs (F := Ideal)) (onTc (τ := Cert.ReferenceFfnDownIdeal.τ) (Cert.ReferenceFfnDownIdeal.main (F := Ideal))) ⟨m, fun _ => 0, g⟩ (fun r => (∀ c : Dev Cert.ReferenceFfnDownIdeal.nD,
      r.2.mem ((c.tc : Thread Cert.ReferenceFfnDownIdeal.nD Cert.ReferenceFfnDownIdeal.τ).loc Cert.ReferenceFfnDownIdeal.main_arg0) = m ((c.tc : Thread Cert.ReferenceFfnDownIdeal.nD Cert.ReferenceFfnDownIdeal.τ).loc Cert.ReferenceFfnDownIdeal.main_arg0)
      ∧ r.2.mem ((c.tc : Thread Cert.ReferenceFfnDownIdeal.nD Cert.ReferenceFfnDownIdeal.τ).loc Cert.ReferenceFfnDownIdeal.main_arg1) = m ((c.tc : Thread Cert.ReferenceFfnDownIdeal.nD Cert.ReferenceFfnDownIdeal.τ).loc Cert.ReferenceFfnDownIdeal.main_arg1)
      ∧ r.2.mem ((c.tc : Thread Cert.ReferenceFfnDownIdeal.nD Cert.ReferenceFfnDownIdeal.τ).loc Cert.ReferenceFfnDownIdeal.main_arg2) = m ((c.tc : Thread Cert.ReferenceFfnDownIdeal.nD Cert.ReferenceFfnDownIdeal.τ).loc Cert.ReferenceFfnDownIdeal.main_arg2)
      ∧ r.2.mem ((c.tc : Thread Cert.ReferenceFfnDownIdeal.nD Cert.ReferenceFfnDownIdeal.τ).loc Cert.ReferenceFfnDownIdeal.main_arg3) = m ((c.tc : Thread Cert.ReferenceFfnDownIdeal.nD Cert.ReferenceFfnDownIdeal.τ).loc Cert.ReferenceFfnDownIdeal.main_arg3)
      ∧ r.2.mem ((c.tc : Thread Cert.ReferenceFfnDownIdeal.nD Cert.ReferenceFfnDownIdeal.τ).loc Cert.ReferenceFfnDownIdeal.main_arg4) = m ((c.tc : Thread Cert.ReferenceFfnDownIdeal.nD Cert.ReferenceFfnDownIdeal.τ).loc Cert.ReferenceFfnDownIdeal.main_arg4))
      ∧ r.2.sem = fun _ => 0)

def quiescent_ReferenceFfnDownIdeal_pre_finite_ffn_down [hReferenceFfnDownIdeal : Cert.ReferenceFfnDownIdeal.Facts] [hPre_finite_ffn_down : Cert.Pre_finite_ffn_down.Facts] : Prop :=
  ∀ (m : (ℓ : Loc Cert.ReferenceFfnDownIdeal.nD Cert.ReferenceFfnDownIdeal.τ Cert.ReferenceFfnDownIdeal.sig) → Buf (Elt Ideal) ℓ) (g : Dev Cert.ReferenceFfnDownIdeal.nD → PrngReg), Pre_ReferenceFfnDownIdeal_finite_ffn_down m →
    θ_run (Cert.ReferenceFfnDownIdeal.defs (F := Ideal)) (onTc (τ := Cert.ReferenceFfnDownIdeal.τ) (Cert.ReferenceFfnDownIdeal.main (F := Ideal))) ⟨m, fun _ => 0, g⟩ (fun r => (∀ c : Dev Cert.ReferenceFfnDownIdeal.nD,
      r.2.mem ((c.tc : Thread Cert.ReferenceFfnDownIdeal.nD Cert.ReferenceFfnDownIdeal.τ).loc Cert.ReferenceFfnDownIdeal.main_arg0) = m ((c.tc : Thread Cert.ReferenceFfnDownIdeal.nD Cert.ReferenceFfnDownIdeal.τ).loc Cert.ReferenceFfnDownIdeal.main_arg0)
      ∧ r.2.mem ((c.tc : Thread Cert.ReferenceFfnDownIdeal.nD Cert.ReferenceFfnDownIdeal.τ).loc Cert.ReferenceFfnDownIdeal.main_arg1) = m ((c.tc : Thread Cert.ReferenceFfnDownIdeal.nD Cert.ReferenceFfnDownIdeal.τ).loc Cert.ReferenceFfnDownIdeal.main_arg1)
      ∧ r.2.mem ((c.tc : Thread Cert.ReferenceFfnDownIdeal.nD Cert.ReferenceFfnDownIdeal.τ).loc Cert.ReferenceFfnDownIdeal.main_arg2) = m ((c.tc : Thread Cert.ReferenceFfnDownIdeal.nD Cert.ReferenceFfnDownIdeal.τ).loc Cert.ReferenceFfnDownIdeal.main_arg2)
      ∧ r.2.mem ((c.tc : Thread Cert.ReferenceFfnDownIdeal.nD Cert.ReferenceFfnDownIdeal.τ).loc Cert.ReferenceFfnDownIdeal.main_arg3) = m ((c.tc : Thread Cert.ReferenceFfnDownIdeal.nD Cert.ReferenceFfnDownIdeal.τ).loc Cert.ReferenceFfnDownIdeal.main_arg3)
      ∧ r.2.mem ((c.tc : Thread Cert.ReferenceFfnDownIdeal.nD Cert.ReferenceFfnDownIdeal.τ).loc Cert.ReferenceFfnDownIdeal.main_arg4) = m ((c.tc : Thread Cert.ReferenceFfnDownIdeal.nD Cert.ReferenceFfnDownIdeal.τ).loc Cert.ReferenceFfnDownIdeal.main_arg4))
      ∧ r.2.sem = fun _ => 0)

def quiescent_KernelBwdIn [hKernelBwdIn : Cert.KernelBwdIn.Facts] : Prop :=
  ∀ (m : (ℓ : Loc Cert.KernelBwdIn.nD Cert.KernelBwdIn.τ Cert.KernelBwdIn.sig) → Buf (Elt Bits) ℓ) (g : Dev Cert.KernelBwdIn.nD → PrngReg), Pre_KernelBwdIn m →
    θ_run (Cert.KernelBwdIn.defs (F := Bits)) (onTc (τ := Cert.KernelBwdIn.τ) (Cert.KernelBwdIn.main (F := Bits))) ⟨m, fun _ => 0, g⟩ (fun r => (∀ c : Dev Cert.KernelBwdIn.nD,
      r.2.mem ((c.tc : Thread Cert.KernelBwdIn.nD Cert.KernelBwdIn.τ).loc Cert.KernelBwdIn.main_arg0) = m ((c.tc : Thread Cert.KernelBwdIn.nD Cert.KernelBwdIn.τ).loc Cert.KernelBwdIn.main_arg0)
      ∧ r.2.mem ((c.tc : Thread Cert.KernelBwdIn.nD Cert.KernelBwdIn.τ).loc Cert.KernelBwdIn.main_arg1) = m ((c.tc : Thread Cert.KernelBwdIn.nD Cert.KernelBwdIn.τ).loc Cert.KernelBwdIn.main_arg1)
      ∧ r.2.mem ((c.tc : Thread Cert.KernelBwdIn.nD Cert.KernelBwdIn.τ).loc Cert.KernelBwdIn.main_arg2) = m ((c.tc : Thread Cert.KernelBwdIn.nD Cert.KernelBwdIn.τ).loc Cert.KernelBwdIn.main_arg2)
      ∧ r.2.mem ((c.tc : Thread Cert.KernelBwdIn.nD Cert.KernelBwdIn.τ).loc Cert.KernelBwdIn.main_arg3) = m ((c.tc : Thread Cert.KernelBwdIn.nD Cert.KernelBwdIn.τ).loc Cert.KernelBwdIn.main_arg3)
      ∧ r.2.mem ((c.tc : Thread Cert.KernelBwdIn.nD Cert.KernelBwdIn.τ).loc Cert.KernelBwdIn.main_arg4) = m ((c.tc : Thread Cert.KernelBwdIn.nD Cert.KernelBwdIn.τ).loc Cert.KernelBwdIn.main_arg4)
      ∧ r.2.mem ((c.tc : Thread Cert.KernelBwdIn.nD Cert.KernelBwdIn.τ).loc Cert.KernelBwdIn.main_arg5) = m ((c.tc : Thread Cert.KernelBwdIn.nD Cert.KernelBwdIn.τ).loc Cert.KernelBwdIn.main_arg5)
      ∧ r.2.mem ((c.tc : Thread Cert.KernelBwdIn.nD Cert.KernelBwdIn.τ).loc Cert.KernelBwdIn.main_arg6) = m ((c.tc : Thread Cert.KernelBwdIn.nD Cert.KernelBwdIn.τ).loc Cert.KernelBwdIn.main_arg6)
      ∧ r.2.mem ((c.tc : Thread Cert.KernelBwdIn.nD Cert.KernelBwdIn.τ).loc Cert.KernelBwdIn.main_arg7) = m ((c.tc : Thread Cert.KernelBwdIn.nD Cert.KernelBwdIn.τ).loc Cert.KernelBwdIn.main_arg7)
      ∧ r.2.mem ((c.tc : Thread Cert.KernelBwdIn.nD Cert.KernelBwdIn.τ).loc Cert.KernelBwdIn.main_arg8) = m ((c.tc : Thread Cert.KernelBwdIn.nD Cert.KernelBwdIn.τ).loc Cert.KernelBwdIn.main_arg8)
      ∧ r.2.mem ((c.tc : Thread Cert.KernelBwdIn.nD Cert.KernelBwdIn.τ).loc Cert.KernelBwdIn.main_arg9) = m ((c.tc : Thread Cert.KernelBwdIn.nD Cert.KernelBwdIn.τ).loc Cert.KernelBwdIn.main_arg9))
      ∧ r.2.sem = fun _ => 0)

def quiescent_KernelBwdInIdeal [hKernelBwdInIdeal : Cert.KernelBwdInIdeal.Facts] : Prop :=
  ∀ (m : (ℓ : Loc Cert.KernelBwdInIdeal.nD Cert.KernelBwdInIdeal.τ Cert.KernelBwdInIdeal.sig) → Buf (Elt Ideal) ℓ) (g : Dev Cert.KernelBwdInIdeal.nD → PrngReg), Pre_KernelBwdInIdeal m →
    θ_run (Cert.KernelBwdInIdeal.defs (F := Ideal)) (onTc (τ := Cert.KernelBwdInIdeal.τ) (Cert.KernelBwdInIdeal.main (F := Ideal))) ⟨m, fun _ => 0, g⟩ (fun r => (∀ c : Dev Cert.KernelBwdInIdeal.nD,
      r.2.mem ((c.tc : Thread Cert.KernelBwdInIdeal.nD Cert.KernelBwdInIdeal.τ).loc Cert.KernelBwdInIdeal.main_arg0) = m ((c.tc : Thread Cert.KernelBwdInIdeal.nD Cert.KernelBwdInIdeal.τ).loc Cert.KernelBwdInIdeal.main_arg0)
      ∧ r.2.mem ((c.tc : Thread Cert.KernelBwdInIdeal.nD Cert.KernelBwdInIdeal.τ).loc Cert.KernelBwdInIdeal.main_arg1) = m ((c.tc : Thread Cert.KernelBwdInIdeal.nD Cert.KernelBwdInIdeal.τ).loc Cert.KernelBwdInIdeal.main_arg1)
      ∧ r.2.mem ((c.tc : Thread Cert.KernelBwdInIdeal.nD Cert.KernelBwdInIdeal.τ).loc Cert.KernelBwdInIdeal.main_arg2) = m ((c.tc : Thread Cert.KernelBwdInIdeal.nD Cert.KernelBwdInIdeal.τ).loc Cert.KernelBwdInIdeal.main_arg2)
      ∧ r.2.mem ((c.tc : Thread Cert.KernelBwdInIdeal.nD Cert.KernelBwdInIdeal.τ).loc Cert.KernelBwdInIdeal.main_arg3) = m ((c.tc : Thread Cert.KernelBwdInIdeal.nD Cert.KernelBwdInIdeal.τ).loc Cert.KernelBwdInIdeal.main_arg3)
      ∧ r.2.mem ((c.tc : Thread Cert.KernelBwdInIdeal.nD Cert.KernelBwdInIdeal.τ).loc Cert.KernelBwdInIdeal.main_arg4) = m ((c.tc : Thread Cert.KernelBwdInIdeal.nD Cert.KernelBwdInIdeal.τ).loc Cert.KernelBwdInIdeal.main_arg4)
      ∧ r.2.mem ((c.tc : Thread Cert.KernelBwdInIdeal.nD Cert.KernelBwdInIdeal.τ).loc Cert.KernelBwdInIdeal.main_arg5) = m ((c.tc : Thread Cert.KernelBwdInIdeal.nD Cert.KernelBwdInIdeal.τ).loc Cert.KernelBwdInIdeal.main_arg5)
      ∧ r.2.mem ((c.tc : Thread Cert.KernelBwdInIdeal.nD Cert.KernelBwdInIdeal.τ).loc Cert.KernelBwdInIdeal.main_arg6) = m ((c.tc : Thread Cert.KernelBwdInIdeal.nD Cert.KernelBwdInIdeal.τ).loc Cert.KernelBwdInIdeal.main_arg6)
      ∧ r.2.mem ((c.tc : Thread Cert.KernelBwdInIdeal.nD Cert.KernelBwdInIdeal.τ).loc Cert.KernelBwdInIdeal.main_arg7) = m ((c.tc : Thread Cert.KernelBwdInIdeal.nD Cert.KernelBwdInIdeal.τ).loc Cert.KernelBwdInIdeal.main_arg7)
      ∧ r.2.mem ((c.tc : Thread Cert.KernelBwdInIdeal.nD Cert.KernelBwdInIdeal.τ).loc Cert.KernelBwdInIdeal.main_arg8) = m ((c.tc : Thread Cert.KernelBwdInIdeal.nD Cert.KernelBwdInIdeal.τ).loc Cert.KernelBwdInIdeal.main_arg8)
      ∧ r.2.mem ((c.tc : Thread Cert.KernelBwdInIdeal.nD Cert.KernelBwdInIdeal.τ).loc Cert.KernelBwdInIdeal.main_arg9) = m ((c.tc : Thread Cert.KernelBwdInIdeal.nD Cert.KernelBwdInIdeal.τ).loc Cert.KernelBwdInIdeal.main_arg9))
      ∧ r.2.sem = fun _ => 0)

def quiescent_KernelBwdInIdeal_pre_finite_bwd_in [hKernelBwdInIdeal : Cert.KernelBwdInIdeal.Facts] [hPre_finite_bwd_in : Cert.Pre_finite_bwd_in.Facts] : Prop :=
  ∀ (m : (ℓ : Loc Cert.KernelBwdInIdeal.nD Cert.KernelBwdInIdeal.τ Cert.KernelBwdInIdeal.sig) → Buf (Elt Ideal) ℓ) (g : Dev Cert.KernelBwdInIdeal.nD → PrngReg), Pre_KernelBwdInIdeal_finite_bwd_in m →
    θ_run (Cert.KernelBwdInIdeal.defs (F := Ideal)) (onTc (τ := Cert.KernelBwdInIdeal.τ) (Cert.KernelBwdInIdeal.main (F := Ideal))) ⟨m, fun _ => 0, g⟩ (fun r => (∀ c : Dev Cert.KernelBwdInIdeal.nD,
      r.2.mem ((c.tc : Thread Cert.KernelBwdInIdeal.nD Cert.KernelBwdInIdeal.τ).loc Cert.KernelBwdInIdeal.main_arg0) = m ((c.tc : Thread Cert.KernelBwdInIdeal.nD Cert.KernelBwdInIdeal.τ).loc Cert.KernelBwdInIdeal.main_arg0)
      ∧ r.2.mem ((c.tc : Thread Cert.KernelBwdInIdeal.nD Cert.KernelBwdInIdeal.τ).loc Cert.KernelBwdInIdeal.main_arg1) = m ((c.tc : Thread Cert.KernelBwdInIdeal.nD Cert.KernelBwdInIdeal.τ).loc Cert.KernelBwdInIdeal.main_arg1)
      ∧ r.2.mem ((c.tc : Thread Cert.KernelBwdInIdeal.nD Cert.KernelBwdInIdeal.τ).loc Cert.KernelBwdInIdeal.main_arg2) = m ((c.tc : Thread Cert.KernelBwdInIdeal.nD Cert.KernelBwdInIdeal.τ).loc Cert.KernelBwdInIdeal.main_arg2)
      ∧ r.2.mem ((c.tc : Thread Cert.KernelBwdInIdeal.nD Cert.KernelBwdInIdeal.τ).loc Cert.KernelBwdInIdeal.main_arg3) = m ((c.tc : Thread Cert.KernelBwdInIdeal.nD Cert.KernelBwdInIdeal.τ).loc Cert.KernelBwdInIdeal.main_arg3)
      ∧ r.2.mem ((c.tc : Thread Cert.KernelBwdInIdeal.nD Cert.KernelBwdInIdeal.τ).loc Cert.KernelBwdInIdeal.main_arg4) = m ((c.tc : Thread Cert.KernelBwdInIdeal.nD Cert.KernelBwdInIdeal.τ).loc Cert.KernelBwdInIdeal.main_arg4)
      ∧ r.2.mem ((c.tc : Thread Cert.KernelBwdInIdeal.nD Cert.KernelBwdInIdeal.τ).loc Cert.KernelBwdInIdeal.main_arg5) = m ((c.tc : Thread Cert.KernelBwdInIdeal.nD Cert.KernelBwdInIdeal.τ).loc Cert.KernelBwdInIdeal.main_arg5)
      ∧ r.2.mem ((c.tc : Thread Cert.KernelBwdInIdeal.nD Cert.KernelBwdInIdeal.τ).loc Cert.KernelBwdInIdeal.main_arg6) = m ((c.tc : Thread Cert.KernelBwdInIdeal.nD Cert.KernelBwdInIdeal.τ).loc Cert.KernelBwdInIdeal.main_arg6)
      ∧ r.2.mem ((c.tc : Thread Cert.KernelBwdInIdeal.nD Cert.KernelBwdInIdeal.τ).loc Cert.KernelBwdInIdeal.main_arg7) = m ((c.tc : Thread Cert.KernelBwdInIdeal.nD Cert.KernelBwdInIdeal.τ).loc Cert.KernelBwdInIdeal.main_arg7)
      ∧ r.2.mem ((c.tc : Thread Cert.KernelBwdInIdeal.nD Cert.KernelBwdInIdeal.τ).loc Cert.KernelBwdInIdeal.main_arg8) = m ((c.tc : Thread Cert.KernelBwdInIdeal.nD Cert.KernelBwdInIdeal.τ).loc Cert.KernelBwdInIdeal.main_arg8)
      ∧ r.2.mem ((c.tc : Thread Cert.KernelBwdInIdeal.nD Cert.KernelBwdInIdeal.τ).loc Cert.KernelBwdInIdeal.main_arg9) = m ((c.tc : Thread Cert.KernelBwdInIdeal.nD Cert.KernelBwdInIdeal.τ).loc Cert.KernelBwdInIdeal.main_arg9))
      ∧ r.2.sem = fun _ => 0)

def quiescent_ReferenceBwdInIdeal [hReferenceBwdInIdeal : Cert.ReferenceBwdInIdeal.Facts] : Prop :=
  ∀ (m : (ℓ : Loc Cert.ReferenceBwdInIdeal.nD Cert.ReferenceBwdInIdeal.τ Cert.ReferenceBwdInIdeal.sig) → Buf (Elt Ideal) ℓ) (g : Dev Cert.ReferenceBwdInIdeal.nD → PrngReg), Pre_ReferenceBwdInIdeal m →
    θ_run (Cert.ReferenceBwdInIdeal.defs (F := Ideal)) (onTc (τ := Cert.ReferenceBwdInIdeal.τ) (Cert.ReferenceBwdInIdeal.main (F := Ideal))) ⟨m, fun _ => 0, g⟩ (fun r => (∀ c : Dev Cert.ReferenceBwdInIdeal.nD,
      r.2.mem ((c.tc : Thread Cert.ReferenceBwdInIdeal.nD Cert.ReferenceBwdInIdeal.τ).loc Cert.ReferenceBwdInIdeal.main_arg0) = m ((c.tc : Thread Cert.ReferenceBwdInIdeal.nD Cert.ReferenceBwdInIdeal.τ).loc Cert.ReferenceBwdInIdeal.main_arg0)
      ∧ r.2.mem ((c.tc : Thread Cert.ReferenceBwdInIdeal.nD Cert.ReferenceBwdInIdeal.τ).loc Cert.ReferenceBwdInIdeal.main_arg1) = m ((c.tc : Thread Cert.ReferenceBwdInIdeal.nD Cert.ReferenceBwdInIdeal.τ).loc Cert.ReferenceBwdInIdeal.main_arg1)
      ∧ r.2.mem ((c.tc : Thread Cert.ReferenceBwdInIdeal.nD Cert.ReferenceBwdInIdeal.τ).loc Cert.ReferenceBwdInIdeal.main_arg2) = m ((c.tc : Thread Cert.ReferenceBwdInIdeal.nD Cert.ReferenceBwdInIdeal.τ).loc Cert.ReferenceBwdInIdeal.main_arg2)
      ∧ r.2.mem ((c.tc : Thread Cert.ReferenceBwdInIdeal.nD Cert.ReferenceBwdInIdeal.τ).loc Cert.ReferenceBwdInIdeal.main_arg3) = m ((c.tc : Thread Cert.ReferenceBwdInIdeal.nD Cert.ReferenceBwdInIdeal.τ).loc Cert.ReferenceBwdInIdeal.main_arg3)
      ∧ r.2.mem ((c.tc : Thread Cert.ReferenceBwdInIdeal.nD Cert.ReferenceBwdInIdeal.τ).loc Cert.ReferenceBwdInIdeal.main_arg4) = m ((c.tc : Thread Cert.ReferenceBwdInIdeal.nD Cert.ReferenceBwdInIdeal.τ).loc Cert.ReferenceBwdInIdeal.main_arg4)
      ∧ r.2.mem ((c.tc : Thread Cert.ReferenceBwdInIdeal.nD Cert.ReferenceBwdInIdeal.τ).loc Cert.ReferenceBwdInIdeal.main_arg5) = m ((c.tc : Thread Cert.ReferenceBwdInIdeal.nD Cert.ReferenceBwdInIdeal.τ).loc Cert.ReferenceBwdInIdeal.main_arg5)
      ∧ r.2.mem ((c.tc : Thread Cert.ReferenceBwdInIdeal.nD Cert.ReferenceBwdInIdeal.τ).loc Cert.ReferenceBwdInIdeal.main_arg6) = m ((c.tc : Thread Cert.ReferenceBwdInIdeal.nD Cert.ReferenceBwdInIdeal.τ).loc Cert.ReferenceBwdInIdeal.main_arg6)
      ∧ r.2.mem ((c.tc : Thread Cert.ReferenceBwdInIdeal.nD Cert.ReferenceBwdInIdeal.τ).loc Cert.ReferenceBwdInIdeal.main_arg7) = m ((c.tc : Thread Cert.ReferenceBwdInIdeal.nD Cert.ReferenceBwdInIdeal.τ).loc Cert.ReferenceBwdInIdeal.main_arg7)
      ∧ r.2.mem ((c.tc : Thread Cert.ReferenceBwdInIdeal.nD Cert.ReferenceBwdInIdeal.τ).loc Cert.ReferenceBwdInIdeal.main_arg8) = m ((c.tc : Thread Cert.ReferenceBwdInIdeal.nD Cert.ReferenceBwdInIdeal.τ).loc Cert.ReferenceBwdInIdeal.main_arg8)
      ∧ r.2.mem ((c.tc : Thread Cert.ReferenceBwdInIdeal.nD Cert.ReferenceBwdInIdeal.τ).loc Cert.ReferenceBwdInIdeal.main_arg9) = m ((c.tc : Thread Cert.ReferenceBwdInIdeal.nD Cert.ReferenceBwdInIdeal.τ).loc Cert.ReferenceBwdInIdeal.main_arg9))
      ∧ r.2.sem = fun _ => 0)

def quiescent_ReferenceBwdInIdeal_pre_finite_bwd_in [hReferenceBwdInIdeal : Cert.ReferenceBwdInIdeal.Facts] [hPre_finite_bwd_in : Cert.Pre_finite_bwd_in.Facts] : Prop :=
  ∀ (m : (ℓ : Loc Cert.ReferenceBwdInIdeal.nD Cert.ReferenceBwdInIdeal.τ Cert.ReferenceBwdInIdeal.sig) → Buf (Elt Ideal) ℓ) (g : Dev Cert.ReferenceBwdInIdeal.nD → PrngReg), Pre_ReferenceBwdInIdeal_finite_bwd_in m →
    θ_run (Cert.ReferenceBwdInIdeal.defs (F := Ideal)) (onTc (τ := Cert.ReferenceBwdInIdeal.τ) (Cert.ReferenceBwdInIdeal.main (F := Ideal))) ⟨m, fun _ => 0, g⟩ (fun r => (∀ c : Dev Cert.ReferenceBwdInIdeal.nD,
      r.2.mem ((c.tc : Thread Cert.ReferenceBwdInIdeal.nD Cert.ReferenceBwdInIdeal.τ).loc Cert.ReferenceBwdInIdeal.main_arg0) = m ((c.tc : Thread Cert.ReferenceBwdInIdeal.nD Cert.ReferenceBwdInIdeal.τ).loc Cert.ReferenceBwdInIdeal.main_arg0)
      ∧ r.2.mem ((c.tc : Thread Cert.ReferenceBwdInIdeal.nD Cert.ReferenceBwdInIdeal.τ).loc Cert.ReferenceBwdInIdeal.main_arg1) = m ((c.tc : Thread Cert.ReferenceBwdInIdeal.nD Cert.ReferenceBwdInIdeal.τ).loc Cert.ReferenceBwdInIdeal.main_arg1)
      ∧ r.2.mem ((c.tc : Thread Cert.ReferenceBwdInIdeal.nD Cert.ReferenceBwdInIdeal.τ).loc Cert.ReferenceBwdInIdeal.main_arg2) = m ((c.tc : Thread Cert.ReferenceBwdInIdeal.nD Cert.ReferenceBwdInIdeal.τ).loc Cert.ReferenceBwdInIdeal.main_arg2)
      ∧ r.2.mem ((c.tc : Thread Cert.ReferenceBwdInIdeal.nD Cert.ReferenceBwdInIdeal.τ).loc Cert.ReferenceBwdInIdeal.main_arg3) = m ((c.tc : Thread Cert.ReferenceBwdInIdeal.nD Cert.ReferenceBwdInIdeal.τ).loc Cert.ReferenceBwdInIdeal.main_arg3)
      ∧ r.2.mem ((c.tc : Thread Cert.ReferenceBwdInIdeal.nD Cert.ReferenceBwdInIdeal.τ).loc Cert.ReferenceBwdInIdeal.main_arg4) = m ((c.tc : Thread Cert.ReferenceBwdInIdeal.nD Cert.ReferenceBwdInIdeal.τ).loc Cert.ReferenceBwdInIdeal.main_arg4)
      ∧ r.2.mem ((c.tc : Thread Cert.ReferenceBwdInIdeal.nD Cert.ReferenceBwdInIdeal.τ).loc Cert.ReferenceBwdInIdeal.main_arg5) = m ((c.tc : Thread Cert.ReferenceBwdInIdeal.nD Cert.ReferenceBwdInIdeal.τ).loc Cert.ReferenceBwdInIdeal.main_arg5)
      ∧ r.2.mem ((c.tc : Thread Cert.ReferenceBwdInIdeal.nD Cert.ReferenceBwdInIdeal.τ).loc Cert.ReferenceBwdInIdeal.main_arg6) = m ((c.tc : Thread Cert.ReferenceBwdInIdeal.nD Cert.ReferenceBwdInIdeal.τ).loc Cert.ReferenceBwdInIdeal.main_arg6)
      ∧ r.2.mem ((c.tc : Thread Cert.ReferenceBwdInIdeal.nD Cert.ReferenceBwdInIdeal.τ).loc Cert.ReferenceBwdInIdeal.main_arg7) = m ((c.tc : Thread Cert.ReferenceBwdInIdeal.nD Cert.ReferenceBwdInIdeal.τ).loc Cert.ReferenceBwdInIdeal.main_arg7)
      ∧ r.2.mem ((c.tc : Thread Cert.ReferenceBwdInIdeal.nD Cert.ReferenceBwdInIdeal.τ).loc Cert.ReferenceBwdInIdeal.main_arg8) = m ((c.tc : Thread Cert.ReferenceBwdInIdeal.nD Cert.ReferenceBwdInIdeal.τ).loc Cert.ReferenceBwdInIdeal.main_arg8)
      ∧ r.2.mem ((c.tc : Thread Cert.ReferenceBwdInIdeal.nD Cert.ReferenceBwdInIdeal.τ).loc Cert.ReferenceBwdInIdeal.main_arg9) = m ((c.tc : Thread Cert.ReferenceBwdInIdeal.nD Cert.ReferenceBwdInIdeal.τ).loc Cert.ReferenceBwdInIdeal.main_arg9))
      ∧ r.2.sem = fun _ => 0)

def quiescent_KernelMixOut [hKernelMixOut : Cert.KernelMixOut.Facts] : Prop :=
  ∀ (m : (ℓ : Loc Cert.KernelMixOut.nD Cert.KernelMixOut.τ Cert.KernelMixOut.sig) → Buf (Elt Bits) ℓ) (g : Dev Cert.KernelMixOut.nD → PrngReg), Pre_KernelMixOut m →
    θ_run (Cert.KernelMixOut.defs (F := Bits)) (onTc (τ := Cert.KernelMixOut.τ) (Cert.KernelMixOut.main (F := Bits))) ⟨m, fun _ => 0, g⟩ (fun r => (∀ c : Dev Cert.KernelMixOut.nD,
      r.2.mem ((c.tc : Thread Cert.KernelMixOut.nD Cert.KernelMixOut.τ).loc Cert.KernelMixOut.main_arg0) = m ((c.tc : Thread Cert.KernelMixOut.nD Cert.KernelMixOut.τ).loc Cert.KernelMixOut.main_arg0)
      ∧ r.2.mem ((c.tc : Thread Cert.KernelMixOut.nD Cert.KernelMixOut.τ).loc Cert.KernelMixOut.main_arg1) = m ((c.tc : Thread Cert.KernelMixOut.nD Cert.KernelMixOut.τ).loc Cert.KernelMixOut.main_arg1)
      ∧ r.2.mem ((c.tc : Thread Cert.KernelMixOut.nD Cert.KernelMixOut.τ).loc Cert.KernelMixOut.main_arg2) = m ((c.tc : Thread Cert.KernelMixOut.nD Cert.KernelMixOut.τ).loc Cert.KernelMixOut.main_arg2)
      ∧ r.2.mem ((c.tc : Thread Cert.KernelMixOut.nD Cert.KernelMixOut.τ).loc Cert.KernelMixOut.main_arg3) = m ((c.tc : Thread Cert.KernelMixOut.nD Cert.KernelMixOut.τ).loc Cert.KernelMixOut.main_arg3)
      ∧ r.2.mem ((c.tc : Thread Cert.KernelMixOut.nD Cert.KernelMixOut.τ).loc Cert.KernelMixOut.main_arg4) = m ((c.tc : Thread Cert.KernelMixOut.nD Cert.KernelMixOut.τ).loc Cert.KernelMixOut.main_arg4)
      ∧ r.2.mem ((c.tc : Thread Cert.KernelMixOut.nD Cert.KernelMixOut.τ).loc Cert.KernelMixOut.main_arg5) = m ((c.tc : Thread Cert.KernelMixOut.nD Cert.KernelMixOut.τ).loc Cert.KernelMixOut.main_arg5))
      ∧ r.2.sem = fun _ => 0)

def quiescent_KernelMixOutIdeal [hKernelMixOutIdeal : Cert.KernelMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
      ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
      ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
      ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5))
      ∧ r.2.sem = fun _ => 0)

def quiescent_KernelMixOutIdeal_pre_finite_mix_out [hKernelMixOutIdeal : Cert.KernelMixOutIdeal.Facts] [hPre_finite_mix_out : Cert.Pre_finite_mix_out.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal_finite_mix_out m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
      ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
      ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
      ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5))
      ∧ r.2.sem = fun _ => 0)

def quiescent_ReferenceMixOutIdeal [hReferenceMixOutIdeal : Cert.ReferenceMixOutIdeal.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2)
      ∧ r.2.mem ((c.tc : Thread Cert.ReferenceMixOutIdeal.nD Cert.ReferenceMixOutIdeal.τ).loc Cert.ReferenceMixOutIdeal.main_arg3) = m ((c.tc : Thread Cert.ReferenceMixOutIdeal.nD Cert.ReferenceMixOutIdeal.τ).loc Cert.ReferenceMixOutIdeal.main_arg3)
      ∧ r.2.mem ((c.tc : Thread Cert.ReferenceMixOutIdeal.nD Cert.ReferenceMixOutIdeal.τ).loc Cert.ReferenceMixOutIdeal.main_arg4) = m ((c.tc : Thread Cert.ReferenceMixOutIdeal.nD Cert.ReferenceMixOutIdeal.τ).loc Cert.ReferenceMixOutIdeal.main_arg4)
      ∧ r.2.mem ((c.tc : Thread Cert.ReferenceMixOutIdeal.nD Cert.ReferenceMixOutIdeal.τ).loc Cert.ReferenceMixOutIdeal.main_arg5) = m ((c.tc : Thread Cert.ReferenceMixOutIdeal.nD Cert.ReferenceMixOutIdeal.τ).loc Cert.ReferenceMixOutIdeal.main_arg5))
      ∧ r.2.sem = fun _ => 0)

def quiescent_ReferenceMixOutIdeal_pre_finite_mix_out [hReferenceMixOutIdeal : Cert.ReferenceMixOutIdeal.Facts] [hPre_finite_mix_out : Cert.Pre_finite_mix_out.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal_finite_mix_out m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2)
      ∧ r.2.mem ((c.tc : Thread Cert.ReferenceMixOutIdeal.nD Cert.ReferenceMixOutIdeal.τ).loc Cert.ReferenceMixOutIdeal.main_arg3) = m ((c.tc : Thread Cert.ReferenceMixOutIdeal.nD Cert.ReferenceMixOutIdeal.τ).loc Cert.ReferenceMixOutIdeal.main_arg3)
      ∧ r.2.mem ((c.tc : Thread Cert.ReferenceMixOutIdeal.nD Cert.ReferenceMixOutIdeal.τ).loc Cert.ReferenceMixOutIdeal.main_arg4) = m ((c.tc : Thread Cert.ReferenceMixOutIdeal.nD Cert.ReferenceMixOutIdeal.τ).loc Cert.ReferenceMixOutIdeal.main_arg4)
      ∧ r.2.mem ((c.tc : Thread Cert.ReferenceMixOutIdeal.nD Cert.ReferenceMixOutIdeal.τ).loc Cert.ReferenceMixOutIdeal.main_arg5) = m ((c.tc : Thread Cert.ReferenceMixOutIdeal.nD Cert.ReferenceMixOutIdeal.τ).loc Cert.ReferenceMixOutIdeal.main_arg5))
      ∧ r.2.sem = fun _ => 0)

def quiescent_KernelMixIn [hKernelMixIn : Cert.KernelMixIn.Facts] : Prop :=
  ∀ (m : (ℓ : Loc Cert.KernelMixIn.nD Cert.KernelMixIn.τ Cert.KernelMixIn.sig) → Buf (Elt Bits) ℓ) (g : Dev Cert.KernelMixIn.nD → PrngReg), Pre_KernelMixIn m →
    θ_run (Cert.KernelMixIn.defs (F := Bits)) (onTc (τ := Cert.KernelMixIn.τ) (Cert.KernelMixIn.main (F := Bits))) ⟨m, fun _ => 0, g⟩ (fun r => (∀ c : Dev Cert.KernelMixIn.nD,
      r.2.mem ((c.tc : Thread Cert.KernelMixIn.nD Cert.KernelMixIn.τ).loc Cert.KernelMixIn.main_arg0) = m ((c.tc : Thread Cert.KernelMixIn.nD Cert.KernelMixIn.τ).loc Cert.KernelMixIn.main_arg0)
      ∧ r.2.mem ((c.tc : Thread Cert.KernelMixIn.nD Cert.KernelMixIn.τ).loc Cert.KernelMixIn.main_arg1) = m ((c.tc : Thread Cert.KernelMixIn.nD Cert.KernelMixIn.τ).loc Cert.KernelMixIn.main_arg1)
      ∧ r.2.mem ((c.tc : Thread Cert.KernelMixIn.nD Cert.KernelMixIn.τ).loc Cert.KernelMixIn.main_arg2) = m ((c.tc : Thread Cert.KernelMixIn.nD Cert.KernelMixIn.τ).loc Cert.KernelMixIn.main_arg2)
      ∧ r.2.mem ((c.tc : Thread Cert.KernelMixIn.nD Cert.KernelMixIn.τ).loc Cert.KernelMixIn.main_arg3) = m ((c.tc : Thread Cert.KernelMixIn.nD Cert.KernelMixIn.τ).loc Cert.KernelMixIn.main_arg3)
      ∧ r.2.mem ((c.tc : Thread Cert.KernelMixIn.nD Cert.KernelMixIn.τ).loc Cert.KernelMixIn.main_arg4) = m ((c.tc : Thread Cert.KernelMixIn.nD Cert.KernelMixIn.τ).loc Cert.KernelMixIn.main_arg4)
      ∧ r.2.mem ((c.tc : Thread Cert.KernelMixIn.nD Cert.KernelMixIn.τ).loc Cert.KernelMixIn.main_arg5) = m ((c.tc : Thread Cert.KernelMixIn.nD Cert.KernelMixIn.τ).loc Cert.KernelMixIn.main_arg5))
      ∧ r.2.sem = fun _ => 0)

def quiescent_KernelMixInIdeal [hKernelMixInIdeal : Cert.KernelMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
      ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4)
      ∧ r.2.mem ((c.tc : Thread Cert.KernelMixInIdeal.nD Cert.KernelMixInIdeal.τ).loc Cert.KernelMixInIdeal.main_arg5) = m ((c.tc : Thread Cert.KernelMixInIdeal.nD Cert.KernelMixInIdeal.τ).loc Cert.KernelMixInIdeal.main_arg5))
      ∧ r.2.sem = fun _ => 0)

def quiescent_KernelMixInIdeal_pre_finite_mix_in [hKernelMixInIdeal : Cert.KernelMixInIdeal.Facts] [hPre_finite_mix_in : Cert.Pre_finite_mix_in.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal_finite_mix_in m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
      ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4)
      ∧ r.2.mem ((c.tc : Thread Cert.KernelMixInIdeal.nD Cert.KernelMixInIdeal.τ).loc Cert.KernelMixInIdeal.main_arg5) = m ((c.tc : Thread Cert.KernelMixInIdeal.nD Cert.KernelMixInIdeal.τ).loc Cert.KernelMixInIdeal.main_arg5))
      ∧ r.2.sem = fun _ => 0)

def quiescent_ReferenceMixInIdeal [hReferenceMixInIdeal : Cert.ReferenceMixInIdeal.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1)
      ∧ r.2.mem ((c.tc : Thread Cert.ReferenceMixInIdeal.nD Cert.ReferenceMixInIdeal.τ).loc Cert.ReferenceMixInIdeal.main_arg2) = m ((c.tc : Thread Cert.ReferenceMixInIdeal.nD Cert.ReferenceMixInIdeal.τ).loc Cert.ReferenceMixInIdeal.main_arg2)
      ∧ r.2.mem ((c.tc : Thread Cert.ReferenceMixInIdeal.nD Cert.ReferenceMixInIdeal.τ).loc Cert.ReferenceMixInIdeal.main_arg3) = m ((c.tc : Thread Cert.ReferenceMixInIdeal.nD Cert.ReferenceMixInIdeal.τ).loc Cert.ReferenceMixInIdeal.main_arg3)
      ∧ r.2.mem ((c.tc : Thread Cert.ReferenceMixInIdeal.nD Cert.ReferenceMixInIdeal.τ).loc Cert.ReferenceMixInIdeal.main_arg4) = m ((c.tc : Thread Cert.ReferenceMixInIdeal.nD Cert.ReferenceMixInIdeal.τ).loc Cert.ReferenceMixInIdeal.main_arg4)
      ∧ r.2.mem ((c.tc : Thread Cert.ReferenceMixInIdeal.nD Cert.ReferenceMixInIdeal.τ).loc Cert.ReferenceMixInIdeal.main_arg5) = m ((c.tc : Thread Cert.ReferenceMixInIdeal.nD Cert.ReferenceMixInIdeal.τ).loc Cert.ReferenceMixInIdeal.main_arg5))
      ∧ r.2.sem = fun _ => 0)

def quiescent_ReferenceMixInIdeal_pre_finite_mix_in [hReferenceMixInIdeal : Cert.ReferenceMixInIdeal.Facts] [hPre_finite_mix_in : Cert.Pre_finite_mix_in.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal_finite_mix_in m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1)
      ∧ r.2.mem ((c.tc : Thread Cert.ReferenceMixInIdeal.nD Cert.ReferenceMixInIdeal.τ).loc Cert.ReferenceMixInIdeal.main_arg2) = m ((c.tc : Thread Cert.ReferenceMixInIdeal.nD Cert.ReferenceMixInIdeal.τ).loc Cert.ReferenceMixInIdeal.main_arg2)
      ∧ r.2.mem ((c.tc : Thread Cert.ReferenceMixInIdeal.nD Cert.ReferenceMixInIdeal.τ).loc Cert.ReferenceMixInIdeal.main_arg3) = m ((c.tc : Thread Cert.ReferenceMixInIdeal.nD Cert.ReferenceMixInIdeal.τ).loc Cert.ReferenceMixInIdeal.main_arg3)
      ∧ r.2.mem ((c.tc : Thread Cert.ReferenceMixInIdeal.nD Cert.ReferenceMixInIdeal.τ).loc Cert.ReferenceMixInIdeal.main_arg4) = m ((c.tc : Thread Cert.ReferenceMixInIdeal.nD Cert.ReferenceMixInIdeal.τ).loc Cert.ReferenceMixInIdeal.main_arg4)
      ∧ r.2.mem ((c.tc : Thread Cert.ReferenceMixInIdeal.nD Cert.ReferenceMixInIdeal.τ).loc Cert.ReferenceMixInIdeal.main_arg5) = m ((c.tc : Thread Cert.ReferenceMixInIdeal.nD Cert.ReferenceMixInIdeal.τ).loc Cert.ReferenceMixInIdeal.main_arg5))
      ∧ r.2.sem = fun _ => 0)

def quiescent_KernelAdamFfn [hKernelAdamFfn : Cert.KernelAdamFfn.Facts] : Prop :=
  ∀ (m : (ℓ : Loc Cert.KernelAdamFfn.nD Cert.KernelAdamFfn.τ Cert.KernelAdamFfn.sig) → Buf (Elt Bits) ℓ) (g : Dev Cert.KernelAdamFfn.nD → PrngReg), Pre_KernelAdamFfn m →
    θ_run (Cert.KernelAdamFfn.defs (F := Bits)) (onTc (τ := Cert.KernelAdamFfn.τ) (Cert.KernelAdamFfn.main (F := Bits))) ⟨m, fun _ => 0, g⟩ (fun r => (∀ c : Dev Cert.KernelAdamFfn.nD,
      r.2.mem ((c.tc : Thread Cert.KernelAdamFfn.nD Cert.KernelAdamFfn.τ).loc Cert.KernelAdamFfn.main_arg0) = m ((c.tc : Thread Cert.KernelAdamFfn.nD Cert.KernelAdamFfn.τ).loc Cert.KernelAdamFfn.main_arg0)
      ∧ r.2.mem ((c.tc : Thread Cert.KernelAdamFfn.nD Cert.KernelAdamFfn.τ).loc Cert.KernelAdamFfn.main_arg1) = m ((c.tc : Thread Cert.KernelAdamFfn.nD Cert.KernelAdamFfn.τ).loc Cert.KernelAdamFfn.main_arg1)
      ∧ r.2.mem ((c.tc : Thread Cert.KernelAdamFfn.nD Cert.KernelAdamFfn.τ).loc Cert.KernelAdamFfn.main_arg2) = m ((c.tc : Thread Cert.KernelAdamFfn.nD Cert.KernelAdamFfn.τ).loc Cert.KernelAdamFfn.main_arg2)
      ∧ r.2.mem ((c.tc : Thread Cert.KernelAdamFfn.nD Cert.KernelAdamFfn.τ).loc Cert.KernelAdamFfn.main_arg3) = m ((c.tc : Thread Cert.KernelAdamFfn.nD Cert.KernelAdamFfn.τ).loc Cert.KernelAdamFfn.main_arg3)
      ∧ r.2.mem ((c.tc : Thread Cert.KernelAdamFfn.nD Cert.KernelAdamFfn.τ).loc Cert.KernelAdamFfn.main_arg4) = m ((c.tc : Thread Cert.KernelAdamFfn.nD Cert.KernelAdamFfn.τ).loc Cert.KernelAdamFfn.main_arg4)
      ∧ r.2.mem ((c.tc : Thread Cert.KernelAdamFfn.nD Cert.KernelAdamFfn.τ).loc Cert.KernelAdamFfn.main_arg5) = m ((c.tc : Thread Cert.KernelAdamFfn.nD Cert.KernelAdamFfn.τ).loc Cert.KernelAdamFfn.main_arg5)
      ∧ r.2.mem ((c.tc : Thread Cert.KernelAdamFfn.nD Cert.KernelAdamFfn.τ).loc Cert.KernelAdamFfn.main_arg6) = m ((c.tc : Thread Cert.KernelAdamFfn.nD Cert.KernelAdamFfn.τ).loc Cert.KernelAdamFfn.main_arg6)
      ∧ r.2.mem ((c.tc : Thread Cert.KernelAdamFfn.nD Cert.KernelAdamFfn.τ).loc Cert.KernelAdamFfn.main_arg7) = m ((c.tc : Thread Cert.KernelAdamFfn.nD Cert.KernelAdamFfn.τ).loc Cert.KernelAdamFfn.main_arg7)
      ∧ r.2.mem ((c.tc : Thread Cert.KernelAdamFfn.nD Cert.KernelAdamFfn.τ).loc Cert.KernelAdamFfn.main_arg8) = m ((c.tc : Thread Cert.KernelAdamFfn.nD Cert.KernelAdamFfn.τ).loc Cert.KernelAdamFfn.main_arg8)
      ∧ r.2.mem ((c.tc : Thread Cert.KernelAdamFfn.nD Cert.KernelAdamFfn.τ).loc Cert.KernelAdamFfn.main_arg9) = m ((c.tc : Thread Cert.KernelAdamFfn.nD Cert.KernelAdamFfn.τ).loc Cert.KernelAdamFfn.main_arg9)
      ∧ r.2.mem ((c.tc : Thread Cert.KernelAdamFfn.nD Cert.KernelAdamFfn.τ).loc Cert.KernelAdamFfn.main_arg10) = m ((c.tc : Thread Cert.KernelAdamFfn.nD Cert.KernelAdamFfn.τ).loc Cert.KernelAdamFfn.main_arg10)
      ∧ r.2.mem ((c.tc : Thread Cert.KernelAdamFfn.nD Cert.KernelAdamFfn.τ).loc Cert.KernelAdamFfn.main_arg11) = m ((c.tc : Thread Cert.KernelAdamFfn.nD Cert.KernelAdamFfn.τ).loc Cert.KernelAdamFfn.main_arg11)
      ∧ r.2.mem ((c.tc : Thread Cert.KernelAdamFfn.nD Cert.KernelAdamFfn.τ).loc Cert.KernelAdamFfn.main_arg12) = m ((c.tc : Thread Cert.KernelAdamFfn.nD Cert.KernelAdamFfn.τ).loc Cert.KernelAdamFfn.main_arg12))
      ∧ r.2.sem = fun _ => 0)

def quiescent_KernelAdamFfnIdeal [hKernelAdamFfnIdeal : Cert.KernelAdamFfnIdeal.Facts] : Prop :=
  ∀ (m : (ℓ : Loc Cert.KernelAdamFfnIdeal.nD Cert.KernelAdamFfnIdeal.τ Cert.KernelAdamFfnIdeal.sig) → Buf (Elt Ideal) ℓ) (g : Dev Cert.KernelAdamFfnIdeal.nD → PrngReg), Pre_KernelAdamFfnIdeal m →
    θ_run (Cert.KernelAdamFfnIdeal.defs (F := Ideal)) (onTc (τ := Cert.KernelAdamFfnIdeal.τ) (Cert.KernelAdamFfnIdeal.main (F := Ideal))) ⟨m, fun _ => 0, g⟩ (fun r => (∀ c : Dev Cert.KernelAdamFfnIdeal.nD,
      r.2.mem ((c.tc : Thread Cert.KernelAdamFfnIdeal.nD Cert.KernelAdamFfnIdeal.τ).loc Cert.KernelAdamFfnIdeal.main_arg0) = m ((c.tc : Thread Cert.KernelAdamFfnIdeal.nD Cert.KernelAdamFfnIdeal.τ).loc Cert.KernelAdamFfnIdeal.main_arg0)
      ∧ r.2.mem ((c.tc : Thread Cert.KernelAdamFfnIdeal.nD Cert.KernelAdamFfnIdeal.τ).loc Cert.KernelAdamFfnIdeal.main_arg1) = m ((c.tc : Thread Cert.KernelAdamFfnIdeal.nD Cert.KernelAdamFfnIdeal.τ).loc Cert.KernelAdamFfnIdeal.main_arg1)
      ∧ r.2.mem ((c.tc : Thread Cert.KernelAdamFfnIdeal.nD Cert.KernelAdamFfnIdeal.τ).loc Cert.KernelAdamFfnIdeal.main_arg2) = m ((c.tc : Thread Cert.KernelAdamFfnIdeal.nD Cert.KernelAdamFfnIdeal.τ).loc Cert.KernelAdamFfnIdeal.main_arg2)
      ∧ r.2.mem ((c.tc : Thread Cert.KernelAdamFfnIdeal.nD Cert.KernelAdamFfnIdeal.τ).loc Cert.KernelAdamFfnIdeal.main_arg3) = m ((c.tc : Thread Cert.KernelAdamFfnIdeal.nD Cert.KernelAdamFfnIdeal.τ).loc Cert.KernelAdamFfnIdeal.main_arg3)
      ∧ r.2.mem ((c.tc : Thread Cert.KernelAdamFfnIdeal.nD Cert.KernelAdamFfnIdeal.τ).loc Cert.KernelAdamFfnIdeal.main_arg4) = m ((c.tc : Thread Cert.KernelAdamFfnIdeal.nD Cert.KernelAdamFfnIdeal.τ).loc Cert.KernelAdamFfnIdeal.main_arg4)
      ∧ r.2.mem ((c.tc : Thread Cert.KernelAdamFfnIdeal.nD Cert.KernelAdamFfnIdeal.τ).loc Cert.KernelAdamFfnIdeal.main_arg5) = m ((c.tc : Thread Cert.KernelAdamFfnIdeal.nD Cert.KernelAdamFfnIdeal.τ).loc Cert.KernelAdamFfnIdeal.main_arg5)
      ∧ r.2.mem ((c.tc : Thread Cert.KernelAdamFfnIdeal.nD Cert.KernelAdamFfnIdeal.τ).loc Cert.KernelAdamFfnIdeal.main_arg6) = m ((c.tc : Thread Cert.KernelAdamFfnIdeal.nD Cert.KernelAdamFfnIdeal.τ).loc Cert.KernelAdamFfnIdeal.main_arg6)
      ∧ r.2.mem ((c.tc : Thread Cert.KernelAdamFfnIdeal.nD Cert.KernelAdamFfnIdeal.τ).loc Cert.KernelAdamFfnIdeal.main_arg7) = m ((c.tc : Thread Cert.KernelAdamFfnIdeal.nD Cert.KernelAdamFfnIdeal.τ).loc Cert.KernelAdamFfnIdeal.main_arg7)
      ∧ r.2.mem ((c.tc : Thread Cert.KernelAdamFfnIdeal.nD Cert.KernelAdamFfnIdeal.τ).loc Cert.KernelAdamFfnIdeal.main_arg8) = m ((c.tc : Thread Cert.KernelAdamFfnIdeal.nD Cert.KernelAdamFfnIdeal.τ).loc Cert.KernelAdamFfnIdeal.main_arg8)
      ∧ r.2.mem ((c.tc : Thread Cert.KernelAdamFfnIdeal.nD Cert.KernelAdamFfnIdeal.τ).loc Cert.KernelAdamFfnIdeal.main_arg9) = m ((c.tc : Thread Cert.KernelAdamFfnIdeal.nD Cert.KernelAdamFfnIdeal.τ).loc Cert.KernelAdamFfnIdeal.main_arg9)
      ∧ r.2.mem ((c.tc : Thread Cert.KernelAdamFfnIdeal.nD Cert.KernelAdamFfnIdeal.τ).loc Cert.KernelAdamFfnIdeal.main_arg10) = m ((c.tc : Thread Cert.KernelAdamFfnIdeal.nD Cert.KernelAdamFfnIdeal.τ).loc Cert.KernelAdamFfnIdeal.main_arg10)
      ∧ r.2.mem ((c.tc : Thread Cert.KernelAdamFfnIdeal.nD Cert.KernelAdamFfnIdeal.τ).loc Cert.KernelAdamFfnIdeal.main_arg11) = m ((c.tc : Thread Cert.KernelAdamFfnIdeal.nD Cert.KernelAdamFfnIdeal.τ).loc Cert.KernelAdamFfnIdeal.main_arg11)
      ∧ r.2.mem ((c.tc : Thread Cert.KernelAdamFfnIdeal.nD Cert.KernelAdamFfnIdeal.τ).loc Cert.KernelAdamFfnIdeal.main_arg12) = m ((c.tc : Thread Cert.KernelAdamFfnIdeal.nD Cert.KernelAdamFfnIdeal.τ).loc Cert.KernelAdamFfnIdeal.main_arg12))
      ∧ r.2.sem = fun _ => 0)

def quiescent_ReferenceAdamFfnIdeal [hReferenceAdamFfnIdeal : Cert.ReferenceAdamFfnIdeal.Facts] : Prop :=
  ∀ (m : (ℓ : Loc Cert.ReferenceAdamFfnIdeal.nD Cert.ReferenceAdamFfnIdeal.τ Cert.ReferenceAdamFfnIdeal.sig) → Buf (Elt Ideal) ℓ) (g : Dev Cert.ReferenceAdamFfnIdeal.nD → PrngReg), Pre_ReferenceAdamFfnIdeal m →
    θ_run (Cert.ReferenceAdamFfnIdeal.defs (F := Ideal)) (onTc (τ := Cert.ReferenceAdamFfnIdeal.τ) (Cert.ReferenceAdamFfnIdeal.main (F := Ideal))) ⟨m, fun _ => 0, g⟩ (fun r => (∀ c : Dev Cert.ReferenceAdamFfnIdeal.nD,
      r.2.mem ((c.tc : Thread Cert.ReferenceAdamFfnIdeal.nD Cert.ReferenceAdamFfnIdeal.τ).loc Cert.ReferenceAdamFfnIdeal.main_arg0) = m ((c.tc : Thread Cert.ReferenceAdamFfnIdeal.nD Cert.ReferenceAdamFfnIdeal.τ).loc Cert.ReferenceAdamFfnIdeal.main_arg0)
      ∧ r.2.mem ((c.tc : Thread Cert.ReferenceAdamFfnIdeal.nD Cert.ReferenceAdamFfnIdeal.τ).loc Cert.ReferenceAdamFfnIdeal.main_arg1) = m ((c.tc : Thread Cert.ReferenceAdamFfnIdeal.nD Cert.ReferenceAdamFfnIdeal.τ).loc Cert.ReferenceAdamFfnIdeal.main_arg1)
      ∧ r.2.mem ((c.tc : Thread Cert.ReferenceAdamFfnIdeal.nD Cert.ReferenceAdamFfnIdeal.τ).loc Cert.ReferenceAdamFfnIdeal.main_arg2) = m ((c.tc : Thread Cert.ReferenceAdamFfnIdeal.nD Cert.ReferenceAdamFfnIdeal.τ).loc Cert.ReferenceAdamFfnIdeal.main_arg2)
      ∧ r.2.mem ((c.tc : Thread Cert.ReferenceAdamFfnIdeal.nD Cert.ReferenceAdamFfnIdeal.τ).loc Cert.ReferenceAdamFfnIdeal.main_arg3) = m ((c.tc : Thread Cert.ReferenceAdamFfnIdeal.nD Cert.ReferenceAdamFfnIdeal.τ).loc Cert.ReferenceAdamFfnIdeal.main_arg3)
      ∧ r.2.mem ((c.tc : Thread Cert.ReferenceAdamFfnIdeal.nD Cert.ReferenceAdamFfnIdeal.τ).loc Cert.ReferenceAdamFfnIdeal.main_arg4) = m ((c.tc : Thread Cert.ReferenceAdamFfnIdeal.nD Cert.ReferenceAdamFfnIdeal.τ).loc Cert.ReferenceAdamFfnIdeal.main_arg4)
      ∧ r.2.mem ((c.tc : Thread Cert.ReferenceAdamFfnIdeal.nD Cert.ReferenceAdamFfnIdeal.τ).loc Cert.ReferenceAdamFfnIdeal.main_arg5) = m ((c.tc : Thread Cert.ReferenceAdamFfnIdeal.nD Cert.ReferenceAdamFfnIdeal.τ).loc Cert.ReferenceAdamFfnIdeal.main_arg5)
      ∧ r.2.mem ((c.tc : Thread Cert.ReferenceAdamFfnIdeal.nD Cert.ReferenceAdamFfnIdeal.τ).loc Cert.ReferenceAdamFfnIdeal.main_arg6) = m ((c.tc : Thread Cert.ReferenceAdamFfnIdeal.nD Cert.ReferenceAdamFfnIdeal.τ).loc Cert.ReferenceAdamFfnIdeal.main_arg6)
      ∧ r.2.mem ((c.tc : Thread Cert.ReferenceAdamFfnIdeal.nD Cert.ReferenceAdamFfnIdeal.τ).loc Cert.ReferenceAdamFfnIdeal.main_arg7) = m ((c.tc : Thread Cert.ReferenceAdamFfnIdeal.nD Cert.ReferenceAdamFfnIdeal.τ).loc Cert.ReferenceAdamFfnIdeal.main_arg7)
      ∧ r.2.mem ((c.tc : Thread Cert.ReferenceAdamFfnIdeal.nD Cert.ReferenceAdamFfnIdeal.τ).loc Cert.ReferenceAdamFfnIdeal.main_arg8) = m ((c.tc : Thread Cert.ReferenceAdamFfnIdeal.nD Cert.ReferenceAdamFfnIdeal.τ).loc Cert.ReferenceAdamFfnIdeal.main_arg8)
      ∧ r.2.mem ((c.tc : Thread Cert.ReferenceAdamFfnIdeal.nD Cert.ReferenceAdamFfnIdeal.τ).loc Cert.ReferenceAdamFfnIdeal.main_arg9) = m ((c.tc : Thread Cert.ReferenceAdamFfnIdeal.nD Cert.ReferenceAdamFfnIdeal.τ).loc Cert.ReferenceAdamFfnIdeal.main_arg9)
      ∧ r.2.mem ((c.tc : Thread Cert.ReferenceAdamFfnIdeal.nD Cert.ReferenceAdamFfnIdeal.τ).loc Cert.ReferenceAdamFfnIdeal.main_arg10) = m ((c.tc : Thread Cert.ReferenceAdamFfnIdeal.nD Cert.ReferenceAdamFfnIdeal.τ).loc Cert.ReferenceAdamFfnIdeal.main_arg10)
      ∧ r.2.mem ((c.tc : Thread Cert.ReferenceAdamFfnIdeal.nD Cert.ReferenceAdamFfnIdeal.τ).loc Cert.ReferenceAdamFfnIdeal.main_arg11) = m ((c.tc : Thread Cert.ReferenceAdamFfnIdeal.nD Cert.ReferenceAdamFfnIdeal.τ).loc Cert.ReferenceAdamFfnIdeal.main_arg11)
      ∧ r.2.mem ((c.tc : Thread Cert.ReferenceAdamFfnIdeal.nD Cert.ReferenceAdamFfnIdeal.τ).loc Cert.ReferenceAdamFfnIdeal.main_arg12) = m ((c.tc : Thread Cert.ReferenceAdamFfnIdeal.nD Cert.ReferenceAdamFfnIdeal.τ).loc Cert.ReferenceAdamFfnIdeal.main_arg12))
      ∧ r.2.sem = fun _ => 0)

def quiescent_KernelAdamMix [hKernelAdamMix : Cert.KernelAdamMix.Facts] : Prop :=
  ∀ (m : (ℓ : Loc Cert.KernelAdamMix.nD Cert.KernelAdamMix.τ Cert.KernelAdamMix.sig) → Buf (Elt Bits) ℓ) (g : Dev Cert.KernelAdamMix.nD → PrngReg), Pre_KernelAdamMix m →
    θ_run (Cert.KernelAdamMix.defs (F := Bits)) (onTc (τ := Cert.KernelAdamMix.τ) (Cert.KernelAdamMix.main (F := Bits))) ⟨m, fun _ => 0, g⟩ (fun r => (∀ c : Dev Cert.KernelAdamMix.nD,
      r.2.mem ((c.tc : Thread Cert.KernelAdamMix.nD Cert.KernelAdamMix.τ).loc Cert.KernelAdamMix.main_arg0) = m ((c.tc : Thread Cert.KernelAdamMix.nD Cert.KernelAdamMix.τ).loc Cert.KernelAdamMix.main_arg0)
      ∧ r.2.mem ((c.tc : Thread Cert.KernelAdamMix.nD Cert.KernelAdamMix.τ).loc Cert.KernelAdamMix.main_arg1) = m ((c.tc : Thread Cert.KernelAdamMix.nD Cert.KernelAdamMix.τ).loc Cert.KernelAdamMix.main_arg1)
      ∧ r.2.mem ((c.tc : Thread Cert.KernelAdamMix.nD Cert.KernelAdamMix.τ).loc Cert.KernelAdamMix.main_arg2) = m ((c.tc : Thread Cert.KernelAdamMix.nD Cert.KernelAdamMix.τ).loc Cert.KernelAdamMix.main_arg2)
      ∧ r.2.mem ((c.tc : Thread Cert.KernelAdamMix.nD Cert.KernelAdamMix.τ).loc Cert.KernelAdamMix.main_arg3) = m ((c.tc : Thread Cert.KernelAdamMix.nD Cert.KernelAdamMix.τ).loc Cert.KernelAdamMix.main_arg3)
      ∧ r.2.mem ((c.tc : Thread Cert.KernelAdamMix.nD Cert.KernelAdamMix.τ).loc Cert.KernelAdamMix.main_arg4) = m ((c.tc : Thread Cert.KernelAdamMix.nD Cert.KernelAdamMix.τ).loc Cert.KernelAdamMix.main_arg4)
      ∧ r.2.mem ((c.tc : Thread Cert.KernelAdamMix.nD Cert.KernelAdamMix.τ).loc Cert.KernelAdamMix.main_arg5) = m ((c.tc : Thread Cert.KernelAdamMix.nD Cert.KernelAdamMix.τ).loc Cert.KernelAdamMix.main_arg5)
      ∧ r.2.mem ((c.tc : Thread Cert.KernelAdamMix.nD Cert.KernelAdamMix.τ).loc Cert.KernelAdamMix.main_arg6) = m ((c.tc : Thread Cert.KernelAdamMix.nD Cert.KernelAdamMix.τ).loc Cert.KernelAdamMix.main_arg6)
      ∧ r.2.mem ((c.tc : Thread Cert.KernelAdamMix.nD Cert.KernelAdamMix.τ).loc Cert.KernelAdamMix.main_arg7) = m ((c.tc : Thread Cert.KernelAdamMix.nD Cert.KernelAdamMix.τ).loc Cert.KernelAdamMix.main_arg7))
      ∧ r.2.sem = fun _ => 0)

def quiescent_KernelAdamMixIdeal [hKernelAdamMixIdeal : Cert.KernelAdamMixIdeal.Facts] : Prop :=
  ∀ (m : (ℓ : Loc Cert.KernelAdamMixIdeal.nD Cert.KernelAdamMixIdeal.τ Cert.KernelAdamMixIdeal.sig) → Buf (Elt Ideal) ℓ) (g : Dev Cert.KernelAdamMixIdeal.nD → PrngReg), Pre_KernelAdamMixIdeal m →
    θ_run (Cert.KernelAdamMixIdeal.defs (F := Ideal)) (onTc (τ := Cert.KernelAdamMixIdeal.τ) (Cert.KernelAdamMixIdeal.main (F := Ideal))) ⟨m, fun _ => 0, g⟩ (fun r => (∀ c : Dev Cert.KernelAdamMixIdeal.nD,
      r.2.mem ((c.tc : Thread Cert.KernelAdamMixIdeal.nD Cert.KernelAdamMixIdeal.τ).loc Cert.KernelAdamMixIdeal.main_arg0) = m ((c.tc : Thread Cert.KernelAdamMixIdeal.nD Cert.KernelAdamMixIdeal.τ).loc Cert.KernelAdamMixIdeal.main_arg0)
      ∧ r.2.mem ((c.tc : Thread Cert.KernelAdamMixIdeal.nD Cert.KernelAdamMixIdeal.τ).loc Cert.KernelAdamMixIdeal.main_arg1) = m ((c.tc : Thread Cert.KernelAdamMixIdeal.nD Cert.KernelAdamMixIdeal.τ).loc Cert.KernelAdamMixIdeal.main_arg1)
      ∧ r.2.mem ((c.tc : Thread Cert.KernelAdamMixIdeal.nD Cert.KernelAdamMixIdeal.τ).loc Cert.KernelAdamMixIdeal.main_arg2) = m ((c.tc : Thread Cert.KernelAdamMixIdeal.nD Cert.KernelAdamMixIdeal.τ).loc Cert.KernelAdamMixIdeal.main_arg2)
      ∧ r.2.mem ((c.tc : Thread Cert.KernelAdamMixIdeal.nD Cert.KernelAdamMixIdeal.τ).loc Cert.KernelAdamMixIdeal.main_arg3) = m ((c.tc : Thread Cert.KernelAdamMixIdeal.nD Cert.KernelAdamMixIdeal.τ).loc Cert.KernelAdamMixIdeal.main_arg3)
      ∧ r.2.mem ((c.tc : Thread Cert.KernelAdamMixIdeal.nD Cert.KernelAdamMixIdeal.τ).loc Cert.KernelAdamMixIdeal.main_arg4) = m ((c.tc : Thread Cert.KernelAdamMixIdeal.nD Cert.KernelAdamMixIdeal.τ).loc Cert.KernelAdamMixIdeal.main_arg4)
      ∧ r.2.mem ((c.tc : Thread Cert.KernelAdamMixIdeal.nD Cert.KernelAdamMixIdeal.τ).loc Cert.KernelAdamMixIdeal.main_arg5) = m ((c.tc : Thread Cert.KernelAdamMixIdeal.nD Cert.KernelAdamMixIdeal.τ).loc Cert.KernelAdamMixIdeal.main_arg5)
      ∧ r.2.mem ((c.tc : Thread Cert.KernelAdamMixIdeal.nD Cert.KernelAdamMixIdeal.τ).loc Cert.KernelAdamMixIdeal.main_arg6) = m ((c.tc : Thread Cert.KernelAdamMixIdeal.nD Cert.KernelAdamMixIdeal.τ).loc Cert.KernelAdamMixIdeal.main_arg6)
      ∧ r.2.mem ((c.tc : Thread Cert.KernelAdamMixIdeal.nD Cert.KernelAdamMixIdeal.τ).loc Cert.KernelAdamMixIdeal.main_arg7) = m ((c.tc : Thread Cert.KernelAdamMixIdeal.nD Cert.KernelAdamMixIdeal.τ).loc Cert.KernelAdamMixIdeal.main_arg7))
      ∧ r.2.sem = fun _ => 0)

def quiescent_ReferenceAdamMixIdeal [hReferenceAdamMixIdeal : Cert.ReferenceAdamMixIdeal.Facts] : Prop :=
  ∀ (m : (ℓ : Loc Cert.ReferenceAdamMixIdeal.nD Cert.ReferenceAdamMixIdeal.τ Cert.ReferenceAdamMixIdeal.sig) → Buf (Elt Ideal) ℓ) (g : Dev Cert.ReferenceAdamMixIdeal.nD → PrngReg), Pre_ReferenceAdamMixIdeal m →
    θ_run (Cert.ReferenceAdamMixIdeal.defs (F := Ideal)) (onTc (τ := Cert.ReferenceAdamMixIdeal.τ) (Cert.ReferenceAdamMixIdeal.main (F := Ideal))) ⟨m, fun _ => 0, g⟩ (fun r => (∀ c : Dev Cert.ReferenceAdamMixIdeal.nD,
      r.2.mem ((c.tc : Thread Cert.ReferenceAdamMixIdeal.nD Cert.ReferenceAdamMixIdeal.τ).loc Cert.ReferenceAdamMixIdeal.main_arg0) = m ((c.tc : Thread Cert.ReferenceAdamMixIdeal.nD Cert.ReferenceAdamMixIdeal.τ).loc Cert.ReferenceAdamMixIdeal.main_arg0)
      ∧ r.2.mem ((c.tc : Thread Cert.ReferenceAdamMixIdeal.nD Cert.ReferenceAdamMixIdeal.τ).loc Cert.ReferenceAdamMixIdeal.main_arg1) = m ((c.tc : Thread Cert.ReferenceAdamMixIdeal.nD Cert.ReferenceAdamMixIdeal.τ).loc Cert.ReferenceAdamMixIdeal.main_arg1)
      ∧ r.2.mem ((c.tc : Thread Cert.ReferenceAdamMixIdeal.nD Cert.ReferenceAdamMixIdeal.τ).loc Cert.ReferenceAdamMixIdeal.main_arg2) = m ((c.tc : Thread Cert.ReferenceAdamMixIdeal.nD Cert.ReferenceAdamMixIdeal.τ).loc Cert.ReferenceAdamMixIdeal.main_arg2)
      ∧ r.2.mem ((c.tc : Thread Cert.ReferenceAdamMixIdeal.nD Cert.ReferenceAdamMixIdeal.τ).loc Cert.ReferenceAdamMixIdeal.main_arg3) = m ((c.tc : Thread Cert.ReferenceAdamMixIdeal.nD Cert.ReferenceAdamMixIdeal.τ).loc Cert.ReferenceAdamMixIdeal.main_arg3)
      ∧ r.2.mem ((c.tc : Thread Cert.ReferenceAdamMixIdeal.nD Cert.ReferenceAdamMixIdeal.τ).loc Cert.ReferenceAdamMixIdeal.main_arg4) = m ((c.tc : Thread Cert.ReferenceAdamMixIdeal.nD Cert.ReferenceAdamMixIdeal.τ).loc Cert.ReferenceAdamMixIdeal.main_arg4)
      ∧ r.2.mem ((c.tc : Thread Cert.ReferenceAdamMixIdeal.nD Cert.ReferenceAdamMixIdeal.τ).loc Cert.ReferenceAdamMixIdeal.main_arg5) = m ((c.tc : Thread Cert.ReferenceAdamMixIdeal.nD Cert.ReferenceAdamMixIdeal.τ).loc Cert.ReferenceAdamMixIdeal.main_arg5)
      ∧ r.2.mem ((c.tc : Thread Cert.ReferenceAdamMixIdeal.nD Cert.ReferenceAdamMixIdeal.τ).loc Cert.ReferenceAdamMixIdeal.main_arg6) = m ((c.tc : Thread Cert.ReferenceAdamMixIdeal.nD Cert.ReferenceAdamMixIdeal.τ).loc Cert.ReferenceAdamMixIdeal.main_arg6)
      ∧ r.2.mem ((c.tc : Thread Cert.ReferenceAdamMixIdeal.nD Cert.ReferenceAdamMixIdeal.τ).loc Cert.ReferenceAdamMixIdeal.main_arg7) = m ((c.tc : Thread Cert.ReferenceAdamMixIdeal.nD Cert.ReferenceAdamMixIdeal.τ).loc Cert.ReferenceAdamMixIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v682) = v0 c
          ∧ r.2.mem ((c.tc : Thread Cert.ReferenceIdeal.nD Cert.ReferenceIdeal.τ).loc Cert.ReferenceIdeal.main_v658) = v1 c
          ∧ r.2.mem ((c.tc : Thread Cert.ReferenceIdeal.nD Cert.ReferenceIdeal.τ).loc Cert.ReferenceIdeal.main_v620) = v2 c
          ∧ r.2.mem ((c.tc : Thread Cert.ReferenceIdeal.nD Cert.ReferenceIdeal.τ).loc Cert.ReferenceIdeal.main_v281) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelGateUp_KernelGateUpIdeal : Prop :=
  True

def algebraic_KernelGateUpIdeal_ReferenceGateUpIdeal [hKernelGateUpIdeal : Cert.KernelGateUpIdeal.Facts] [hReferenceGateUpIdeal : Cert.ReferenceGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg)
    (m' : (ℓ : Loc Cert.ReferenceGateUpIdeal.nD Cert.ReferenceGateUpIdeal.τ Cert.ReferenceGateUpIdeal.sig) → Buf (Elt Ideal) ℓ) (g' : Dev Cert.ReferenceGateUpIdeal.nD → PrngReg), Pre_KernelGateUpIdeal m →
    (∀ c : Dev Cert.KernelGateUpIdeal.nD,
      m' ((c.tc : Thread Cert.ReferenceGateUpIdeal.nD Cert.ReferenceGateUpIdeal.τ).loc Cert.ReferenceGateUpIdeal.main_arg0) = m ((c.tc : Thread Cert.KernelGateUpIdeal.nD Cert.KernelGateUpIdeal.τ).loc Cert.KernelGateUpIdeal.main_arg0)
      ∧ m' ((c.tc : Thread Cert.ReferenceGateUpIdeal.nD Cert.ReferenceGateUpIdeal.τ).loc Cert.ReferenceGateUpIdeal.main_arg1) = m ((c.tc : Thread Cert.KernelGateUpIdeal.nD Cert.KernelGateUpIdeal.τ).loc Cert.KernelGateUpIdeal.main_arg1)
      ∧ m' ((c.tc : Thread Cert.ReferenceGateUpIdeal.nD Cert.ReferenceGateUpIdeal.τ).loc Cert.ReferenceGateUpIdeal.main_arg2) = m ((c.tc : Thread Cert.KernelGateUpIdeal.nD Cert.KernelGateUpIdeal.τ).loc Cert.KernelGateUpIdeal.main_arg2)) →
    ∃ (v0 : (c : Dev Cert.KernelGateUpIdeal.nD) → Buf (Elt Ideal) ((c.tc : Thread Cert.KernelGateUpIdeal.nD Cert.KernelGateUpIdeal.τ).loc Cert.KernelGateUpIdeal.main_v0_0)) (v1 : (c : Dev Cert.KernelGateUpIdeal.nD) → Buf (Elt Ideal) ((c.tc : Thread Cert.KernelGateUpIdeal.nD Cert.KernelGateUpIdeal.τ).loc Cert.KernelGateUpIdeal.main_v0_1)),
      θ_run (Cert.KernelGateUpIdeal.defs (F := Ideal)) (onTc (τ := Cert.KernelGateUpIdeal.τ) (Cert.KernelGateUpIdeal.main (F := Ideal))) ⟨m, fun _ => 0, g⟩ (fun r => ∀ c : Dev Cert.KernelGateUpIdeal.nD,
          r.2.mem ((c.tc : Thread Cert.KernelGateUpIdeal.nD Cert.KernelGateUpIdeal.τ).loc Cert.KernelGateUpIdeal.main_v0_0) = v0 c
          ∧ r.2.mem ((c.tc : Thread Cert.KernelGateUpIdeal.nD Cert.KernelGateUpIdeal.τ).loc Cert.KernelGateUpIdeal.main_v0_1) = v1 c
          ∧ r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
          ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
          ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ θ_run (Cert.ReferenceGateUpIdeal.defs (F := Ideal)) (onTc (τ := Cert.ReferenceGateUpIdeal.τ) (Cert.ReferenceGateUpIdeal.main (F := Ideal))) ⟨m', fun _ => 0, g'⟩ (fun r => ∀ c : Dev Cert.ReferenceGateUpIdeal.nD,
          r.2.mem ((c.tc : Thread Cert.ReferenceGateUpIdeal.nD Cert.ReferenceGateUpIdeal.τ).loc Cert.ReferenceGateUpIdeal.main_v11) = v0 c
          ∧ r.2.mem ((c.tc : Thread Cert.ReferenceGateUpIdeal.nD Cert.ReferenceGateUpIdeal.τ).loc Cert.ReferenceGateUpIdeal.main_v13) = v1 c
          ∧ r.2.mem ((c.tc : Thread Cert.ReferenceGateUpIdeal.nD Cert.ReferenceGateUpIdeal.τ).loc Cert.ReferenceGateUpIdeal.main_arg0) = m' ((c.tc : Thread Cert.ReferenceGateUpIdeal.nD Cert.ReferenceGateUpIdeal.τ).loc Cert.ReferenceGateUpIdeal.main_arg0)
          ∧ r.2.mem ((c.tc : Thread Cert.ReferenceGateUpIdeal.nD Cert.ReferenceGateUpIdeal.τ).loc Cert.ReferenceGateUpIdeal.main_arg1) = m' ((c.tc : Thread Cert.ReferenceGateUpIdeal.nD Cert.ReferenceGateUpIdeal.τ).loc Cert.ReferenceGateUpIdeal.main_arg1)
          ∧ r.2.mem ((c.tc : Thread Cert.ReferenceGateUpIdeal.nD Cert.ReferenceGateUpIdeal.τ).loc Cert.ReferenceGateUpIdeal.main_arg2) = m' ((c.tc : Thread Cert.ReferenceGateUpIdeal.nD Cert.ReferenceGateUpIdeal.τ).loc Cert.ReferenceGateUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v8) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v22) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelUp_KernelUpIdeal : Prop :=
  True

def algebraic_KernelUpIdeal_ReferenceUpIdeal_pre_finite_up [hKernelUpIdeal : Cert.KernelUpIdeal.Facts] [hReferenceUpIdeal : Cert.ReferenceUpIdeal.Facts] [hPre_finite_up : Cert.Pre_finite_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal_finite_up m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)) (v2 : (c : Dev Cert.KernelUpIdeal.nD) → Buf (Elt Ideal) ((c.tc : Thread Cert.KernelUpIdeal.nD Cert.KernelUpIdeal.τ).loc Cert.KernelUpIdeal.main_v0_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_v0_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v13) = v0 c
          ∧ r.2.mem ((c.tc : Thread Cert.ReferenceUpIdeal.nD Cert.ReferenceUpIdeal.τ).loc Cert.ReferenceUpIdeal.main_v14) = v1 c
          ∧ r.2.mem ((c.tc : Thread Cert.ReferenceUpIdeal.nD Cert.ReferenceUpIdeal.τ).loc Cert.ReferenceUpIdeal.main_v15) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v4_0)) (v1 : (c : Dev Cert.KernelActIdeal.nD) → Buf (Elt Ideal) ((c.tc : Thread Cert.KernelActIdeal.nD Cert.KernelActIdeal.τ).loc Cert.KernelActIdeal.main_v4_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v4_0) = v0 c
          ∧ r.2.mem ((c.tc : Thread Cert.KernelActIdeal.nD Cert.KernelActIdeal.τ).loc Cert.KernelActIdeal.main_v4_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v9) = v0 c
          ∧ r.2.mem ((c.tc : Thread Cert.ReferenceActIdeal.nD Cert.ReferenceActIdeal.τ).loc Cert.ReferenceActIdeal.main_v10) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelMmIn_KernelMmInIdeal : Prop :=
  True

def algebraic_KernelMmInIdeal_ReferenceMmInIdeal [hKernelMmInIdeal : Cert.KernelMmInIdeal.Facts] [hReferenceMmInIdeal : Cert.ReferenceMmInIdeal.Facts] : Prop :=
  ∀ (m : (ℓ : Loc Cert.KernelMmInIdeal.nD Cert.KernelMmInIdeal.τ Cert.KernelMmInIdeal.sig) → Buf (Elt Ideal) ℓ) (g : Dev Cert.KernelMmInIdeal.nD → PrngReg)
    (m' : (ℓ : Loc Cert.ReferenceMmInIdeal.nD Cert.ReferenceMmInIdeal.τ Cert.ReferenceMmInIdeal.sig) → Buf (Elt Ideal) ℓ) (g' : Dev Cert.ReferenceMmInIdeal.nD → PrngReg), Pre_KernelMmInIdeal m →
    (∀ c : Dev Cert.KernelMmInIdeal.nD,
      m' ((c.tc : Thread Cert.ReferenceMmInIdeal.nD Cert.ReferenceMmInIdeal.τ).loc Cert.ReferenceMmInIdeal.main_arg0) = m ((c.tc : Thread Cert.KernelMmInIdeal.nD Cert.KernelMmInIdeal.τ).loc Cert.KernelMmInIdeal.main_arg0)
      ∧ m' ((c.tc : Thread Cert.ReferenceMmInIdeal.nD Cert.ReferenceMmInIdeal.τ).loc Cert.ReferenceMmInIdeal.main_arg1) = m ((c.tc : Thread Cert.KernelMmInIdeal.nD Cert.KernelMmInIdeal.τ).loc Cert.KernelMmInIdeal.main_arg1)
      ∧ m' ((c.tc : Thread Cert.ReferenceMmInIdeal.nD Cert.ReferenceMmInIdeal.τ).loc Cert.ReferenceMmInIdeal.main_arg2) = m ((c.tc : Thread Cert.KernelMmInIdeal.nD Cert.KernelMmInIdeal.τ).loc Cert.KernelMmInIdeal.main_arg2)
      ∧ m' ((c.tc : Thread Cert.ReferenceMmInIdeal.nD Cert.ReferenceMmInIdeal.τ).loc Cert.ReferenceMmInIdeal.main_arg3) = m ((c.tc : Thread Cert.KernelMmInIdeal.nD Cert.KernelMmInIdeal.τ).loc Cert.KernelMmInIdeal.main_arg3)
      ∧ m' ((c.tc : Thread Cert.ReferenceMmInIdeal.nD Cert.ReferenceMmInIdeal.τ).loc Cert.ReferenceMmInIdeal.main_arg4) = m ((c.tc : Thread Cert.KernelMmInIdeal.nD Cert.KernelMmInIdeal.τ).loc Cert.KernelMmInIdeal.main_arg4)) →
    ∃ (v0 : (c : Dev Cert.KernelMmInIdeal.nD) → Buf (Elt Ideal) ((c.tc : Thread Cert.KernelMmInIdeal.nD Cert.KernelMmInIdeal.τ).loc Cert.KernelMmInIdeal.main_v0_0)) (v1 : (c : Dev Cert.KernelMmInIdeal.nD) → Buf (Elt Ideal) ((c.tc : Thread Cert.KernelMmInIdeal.nD Cert.KernelMmInIdeal.τ).loc Cert.KernelMmInIdeal.main_v0_1)) (v2 : (c : Dev Cert.KernelMmInIdeal.nD) → Buf (Elt Ideal) ((c.tc : Thread Cert.KernelMmInIdeal.nD Cert.KernelMmInIdeal.τ).loc Cert.KernelMmInIdeal.main_v0_2)),
      θ_run (Cert.KernelMmInIdeal.defs (F := Ideal)) (onTc (τ := Cert.KernelMmInIdeal.τ) (Cert.KernelMmInIdeal.main (F := Ideal))) ⟨m, fun _ => 0, g⟩ (fun r => ∀ c : Dev Cert.KernelMmInIdeal.nD,
          r.2.mem ((c.tc : Thread Cert.KernelMmInIdeal.nD Cert.KernelMmInIdeal.τ).loc Cert.KernelMmInIdeal.main_v0_0) = v0 c
          ∧ r.2.mem ((c.tc : Thread Cert.KernelMmInIdeal.nD Cert.KernelMmInIdeal.τ).loc Cert.KernelMmInIdeal.main_v0_1) = v1 c
          ∧ r.2.mem ((c.tc : Thread Cert.KernelMmInIdeal.nD Cert.KernelMmInIdeal.τ).loc Cert.KernelMmInIdeal.main_v0_2) = v2 c
          ∧ r.2.mem ((c.tc : Thread Cert.KernelMmInIdeal.nD Cert.KernelMmInIdeal.τ).loc Cert.KernelMmInIdeal.main_arg0) = m ((c.tc : Thread Cert.KernelMmInIdeal.nD Cert.KernelMmInIdeal.τ).loc Cert.KernelMmInIdeal.main_arg0)
          ∧ r.2.mem ((c.tc : Thread Cert.KernelMmInIdeal.nD Cert.KernelMmInIdeal.τ).loc Cert.KernelMmInIdeal.main_arg1) = m ((c.tc : Thread Cert.KernelMmInIdeal.nD Cert.KernelMmInIdeal.τ).loc Cert.KernelMmInIdeal.main_arg1)
          ∧ r.2.mem ((c.tc : Thread Cert.KernelMmInIdeal.nD Cert.KernelMmInIdeal.τ).loc Cert.KernelMmInIdeal.main_arg2) = m ((c.tc : Thread Cert.KernelMmInIdeal.nD Cert.KernelMmInIdeal.τ).loc Cert.KernelMmInIdeal.main_arg2)
          ∧ r.2.mem ((c.tc : Thread Cert.KernelMmInIdeal.nD Cert.KernelMmInIdeal.τ).loc Cert.KernelMmInIdeal.main_arg3) = m ((c.tc : Thread Cert.KernelMmInIdeal.nD Cert.KernelMmInIdeal.τ).loc Cert.KernelMmInIdeal.main_arg3)
          ∧ r.2.mem ((c.tc : Thread Cert.KernelMmInIdeal.nD Cert.KernelMmInIdeal.τ).loc Cert.KernelMmInIdeal.main_arg4) = m ((c.tc : Thread Cert.KernelMmInIdeal.nD Cert.KernelMmInIdeal.τ).loc Cert.KernelMmInIdeal.main_arg4))
      ∧ θ_run (Cert.ReferenceMmInIdeal.defs (F := Ideal)) (onTc (τ := Cert.ReferenceMmInIdeal.τ) (Cert.ReferenceMmInIdeal.main (F := Ideal))) ⟨m', fun _ => 0, g'⟩ (fun r => ∀ c : Dev Cert.ReferenceMmInIdeal.nD,
          r.2.mem ((c.tc : Thread Cert.ReferenceMmInIdeal.nD Cert.ReferenceMmInIdeal.τ).loc Cert.ReferenceMmInIdeal.main_v23) = v0 c
          ∧ r.2.mem ((c.tc : Thread Cert.ReferenceMmInIdeal.nD Cert.ReferenceMmInIdeal.τ).loc Cert.ReferenceMmInIdeal.main_v36) = v1 c
          ∧ r.2.mem ((c.tc : Thread Cert.ReferenceMmInIdeal.nD Cert.ReferenceMmInIdeal.τ).loc Cert.ReferenceMmInIdeal.main_v48) = v2 c
          ∧ r.2.mem ((c.tc : Thread Cert.ReferenceMmInIdeal.nD Cert.ReferenceMmInIdeal.τ).loc Cert.ReferenceMmInIdeal.main_arg0) = m' ((c.tc : Thread Cert.ReferenceMmInIdeal.nD Cert.ReferenceMmInIdeal.τ).loc Cert.ReferenceMmInIdeal.main_arg0)
          ∧ r.2.mem ((c.tc : Thread Cert.ReferenceMmInIdeal.nD Cert.ReferenceMmInIdeal.τ).loc Cert.ReferenceMmInIdeal.main_arg1) = m' ((c.tc : Thread Cert.ReferenceMmInIdeal.nD Cert.ReferenceMmInIdeal.τ).loc Cert.ReferenceMmInIdeal.main_arg1)
          ∧ r.2.mem ((c.tc : Thread Cert.ReferenceMmInIdeal.nD Cert.ReferenceMmInIdeal.τ).loc Cert.ReferenceMmInIdeal.main_arg2) = m' ((c.tc : Thread Cert.ReferenceMmInIdeal.nD Cert.ReferenceMmInIdeal.τ).loc Cert.ReferenceMmInIdeal.main_arg2)
          ∧ r.2.mem ((c.tc : Thread Cert.ReferenceMmInIdeal.nD Cert.ReferenceMmInIdeal.τ).loc Cert.ReferenceMmInIdeal.main_arg3) = m' ((c.tc : Thread Cert.ReferenceMmInIdeal.nD Cert.ReferenceMmInIdeal.τ).loc Cert.ReferenceMmInIdeal.main_arg3)
          ∧ r.2.mem ((c.tc : Thread Cert.ReferenceMmInIdeal.nD Cert.ReferenceMmInIdeal.τ).loc Cert.ReferenceMmInIdeal.main_arg4) = m' ((c.tc : Thread Cert.ReferenceMmInIdeal.nD Cert.ReferenceMmInIdeal.τ).loc Cert.ReferenceMmInIdeal.main_arg4))

def preserves_KernelMmOut_KernelMmOutIdeal : Prop :=
  True

def algebraic_KernelMmOutIdeal_ReferenceMmOutIdeal [hKernelMmOutIdeal : Cert.KernelMmOutIdeal.Facts] [hReferenceMmOutIdeal : Cert.ReferenceMmOutIdeal.Facts] : Prop :=
  ∀ (m : (ℓ : Loc Cert.KernelMmOutIdeal.nD Cert.KernelMmOutIdeal.τ Cert.KernelMmOutIdeal.sig) → Buf (Elt Ideal) ℓ) (g : Dev Cert.KernelMmOutIdeal.nD → PrngReg)
    (m' : (ℓ : Loc Cert.ReferenceMmOutIdeal.nD Cert.ReferenceMmOutIdeal.τ Cert.ReferenceMmOutIdeal.sig) → Buf (Elt Ideal) ℓ) (g' : Dev Cert.ReferenceMmOutIdeal.nD → PrngReg), Pre_KernelMmOutIdeal m →
    (∀ c : Dev Cert.KernelMmOutIdeal.nD,
      m' ((c.tc : Thread Cert.ReferenceMmOutIdeal.nD Cert.ReferenceMmOutIdeal.τ).loc Cert.ReferenceMmOutIdeal.main_arg0) = m ((c.tc : Thread Cert.KernelMmOutIdeal.nD Cert.KernelMmOutIdeal.τ).loc Cert.KernelMmOutIdeal.main_arg0)
      ∧ m' ((c.tc : Thread Cert.ReferenceMmOutIdeal.nD Cert.ReferenceMmOutIdeal.τ).loc Cert.ReferenceMmOutIdeal.main_arg1) = m ((c.tc : Thread Cert.KernelMmOutIdeal.nD Cert.KernelMmOutIdeal.τ).loc Cert.KernelMmOutIdeal.main_arg1)
      ∧ m' ((c.tc : Thread Cert.ReferenceMmOutIdeal.nD Cert.ReferenceMmOutIdeal.τ).loc Cert.ReferenceMmOutIdeal.main_arg2) = m ((c.tc : Thread Cert.KernelMmOutIdeal.nD Cert.KernelMmOutIdeal.τ).loc Cert.KernelMmOutIdeal.main_arg2)
      ∧ m' ((c.tc : Thread Cert.ReferenceMmOutIdeal.nD Cert.ReferenceMmOutIdeal.τ).loc Cert.ReferenceMmOutIdeal.main_arg3) = m ((c.tc : Thread Cert.KernelMmOutIdeal.nD Cert.KernelMmOutIdeal.τ).loc Cert.KernelMmOutIdeal.main_arg3)
      ∧ m' ((c.tc : Thread Cert.ReferenceMmOutIdeal.nD Cert.ReferenceMmOutIdeal.τ).loc Cert.ReferenceMmOutIdeal.main_arg4) = m ((c.tc : Thread Cert.KernelMmOutIdeal.nD Cert.KernelMmOutIdeal.τ).loc Cert.KernelMmOutIdeal.main_arg4)
      ∧ m' ((c.tc : Thread Cert.ReferenceMmOutIdeal.nD Cert.ReferenceMmOutIdeal.τ).loc Cert.ReferenceMmOutIdeal.main_arg5) = m ((c.tc : Thread Cert.KernelMmOutIdeal.nD Cert.KernelMmOutIdeal.τ).loc Cert.KernelMmOutIdeal.main_arg5)
      ∧ m' ((c.tc : Thread Cert.ReferenceMmOutIdeal.nD Cert.ReferenceMmOutIdeal.τ).loc Cert.ReferenceMmOutIdeal.main_arg6) = m ((c.tc : Thread Cert.KernelMmOutIdeal.nD Cert.KernelMmOutIdeal.τ).loc Cert.KernelMmOutIdeal.main_arg6)
      ∧ m' ((c.tc : Thread Cert.ReferenceMmOutIdeal.nD Cert.ReferenceMmOutIdeal.τ).loc Cert.ReferenceMmOutIdeal.main_arg7) = m ((c.tc : Thread Cert.KernelMmOutIdeal.nD Cert.KernelMmOutIdeal.τ).loc Cert.KernelMmOutIdeal.main_arg7)) →
    ∃ (v0 : (c : Dev Cert.KernelMmOutIdeal.nD) → Buf (Elt Ideal) ((c.tc : Thread Cert.KernelMmOutIdeal.nD Cert.KernelMmOutIdeal.τ).loc Cert.KernelMmOutIdeal.main_v0_0)) (v1 : (c : Dev Cert.KernelMmOutIdeal.nD) → Buf (Elt Ideal) ((c.tc : Thread Cert.KernelMmOutIdeal.nD Cert.KernelMmOutIdeal.τ).loc Cert.KernelMmOutIdeal.main_v0_1)) (v2 : (c : Dev Cert.KernelMmOutIdeal.nD) → Buf (Elt Ideal) ((c.tc : Thread Cert.KernelMmOutIdeal.nD Cert.KernelMmOutIdeal.τ).loc Cert.KernelMmOutIdeal.main_v0_2)) (v3 : (c : Dev Cert.KernelMmOutIdeal.nD) → Buf (Elt Ideal) ((c.tc : Thread Cert.KernelMmOutIdeal.nD Cert.KernelMmOutIdeal.τ).loc Cert.KernelMmOutIdeal.main_v0_3)),
      θ_run (Cert.KernelMmOutIdeal.defs (F := Ideal)) (onTc (τ := Cert.KernelMmOutIdeal.τ) (Cert.KernelMmOutIdeal.main (F := Ideal))) ⟨m, fun _ => 0, g⟩ (fun r => ∀ c : Dev Cert.KernelMmOutIdeal.nD,
          r.2.mem ((c.tc : Thread Cert.KernelMmOutIdeal.nD Cert.KernelMmOutIdeal.τ).loc Cert.KernelMmOutIdeal.main_v0_0) = v0 c
          ∧ r.2.mem ((c.tc : Thread Cert.KernelMmOutIdeal.nD Cert.KernelMmOutIdeal.τ).loc Cert.KernelMmOutIdeal.main_v0_1) = v1 c
          ∧ r.2.mem ((c.tc : Thread Cert.KernelMmOutIdeal.nD Cert.KernelMmOutIdeal.τ).loc Cert.KernelMmOutIdeal.main_v0_2) = v2 c
          ∧ r.2.mem ((c.tc : Thread Cert.KernelMmOutIdeal.nD Cert.KernelMmOutIdeal.τ).loc Cert.KernelMmOutIdeal.main_v0_3) = v3 c
          ∧ r.2.mem ((c.tc : Thread Cert.KernelMmOutIdeal.nD Cert.KernelMmOutIdeal.τ).loc Cert.KernelMmOutIdeal.main_arg0) = m ((c.tc : Thread Cert.KernelMmOutIdeal.nD Cert.KernelMmOutIdeal.τ).loc Cert.KernelMmOutIdeal.main_arg0)
          ∧ r.2.mem ((c.tc : Thread Cert.KernelMmOutIdeal.nD Cert.KernelMmOutIdeal.τ).loc Cert.KernelMmOutIdeal.main_arg1) = m ((c.tc : Thread Cert.KernelMmOutIdeal.nD Cert.KernelMmOutIdeal.τ).loc Cert.KernelMmOutIdeal.main_arg1)
          ∧ r.2.mem ((c.tc : Thread Cert.KernelMmOutIdeal.nD Cert.KernelMmOutIdeal.τ).loc Cert.KernelMmOutIdeal.main_arg2) = m ((c.tc : Thread Cert.KernelMmOutIdeal.nD Cert.KernelMmOutIdeal.τ).loc Cert.KernelMmOutIdeal.main_arg2)
          ∧ r.2.mem ((c.tc : Thread Cert.KernelMmOutIdeal.nD Cert.KernelMmOutIdeal.τ).loc Cert.KernelMmOutIdeal.main_arg3) = m ((c.tc : Thread Cert.KernelMmOutIdeal.nD Cert.KernelMmOutIdeal.τ).loc Cert.KernelMmOutIdeal.main_arg3)
          ∧ r.2.mem ((c.tc : Thread Cert.KernelMmOutIdeal.nD Cert.KernelMmOutIdeal.τ).loc Cert.KernelMmOutIdeal.main_arg4) = m ((c.tc : Thread Cert.KernelMmOutIdeal.nD Cert.KernelMmOutIdeal.τ).loc Cert.KernelMmOutIdeal.main_arg4)
          ∧ r.2.mem ((c.tc : Thread Cert.KernelMmOutIdeal.nD Cert.KernelMmOutIdeal.τ).loc Cert.KernelMmOutIdeal.main_arg5) = m ((c.tc : Thread Cert.KernelMmOutIdeal.nD Cert.KernelMmOutIdeal.τ).loc Cert.KernelMmOutIdeal.main_arg5)
          ∧ r.2.mem ((c.tc : Thread Cert.KernelMmOutIdeal.nD Cert.KernelMmOutIdeal.τ).loc Cert.KernelMmOutIdeal.main_arg6) = m ((c.tc : Thread Cert.KernelMmOutIdeal.nD Cert.KernelMmOutIdeal.τ).loc Cert.KernelMmOutIdeal.main_arg6)
          ∧ r.2.mem ((c.tc : Thread Cert.KernelMmOutIdeal.nD Cert.KernelMmOutIdeal.τ).loc Cert.KernelMmOutIdeal.main_arg7) = m ((c.tc : Thread Cert.KernelMmOutIdeal.nD Cert.KernelMmOutIdeal.τ).loc Cert.KernelMmOutIdeal.main_arg7))
      ∧ θ_run (Cert.ReferenceMmOutIdeal.defs (F := Ideal)) (onTc (τ := Cert.ReferenceMmOutIdeal.τ) (Cert.ReferenceMmOutIdeal.main (F := Ideal))) ⟨m', fun _ => 0, g'⟩ (fun r => ∀ c : Dev Cert.ReferenceMmOutIdeal.nD,
          r.2.mem ((c.tc : Thread Cert.ReferenceMmOutIdeal.nD Cert.ReferenceMmOutIdeal.τ).loc Cert.ReferenceMmOutIdeal.main_v40) = v0 c
          ∧ r.2.mem ((c.tc : Thread Cert.ReferenceMmOutIdeal.nD Cert.ReferenceMmOutIdeal.τ).loc Cert.ReferenceMmOutIdeal.main_v26) = v1 c
          ∧ r.2.mem ((c.tc : Thread Cert.ReferenceMmOutIdeal.nD Cert.ReferenceMmOutIdeal.τ).loc Cert.ReferenceMmOutIdeal.main_v39) = v2 c
          ∧ r.2.mem ((c.tc : Thread Cert.ReferenceMmOutIdeal.nD Cert.ReferenceMmOutIdeal.τ).loc Cert.ReferenceMmOutIdeal.main_v53) = v3 c
          ∧ r.2.mem ((c.tc : Thread Cert.ReferenceMmOutIdeal.nD Cert.ReferenceMmOutIdeal.τ).loc Cert.ReferenceMmOutIdeal.main_arg0) = m' ((c.tc : Thread Cert.ReferenceMmOutIdeal.nD Cert.ReferenceMmOutIdeal.τ).loc Cert.ReferenceMmOutIdeal.main_arg0)
          ∧ r.2.mem ((c.tc : Thread Cert.ReferenceMmOutIdeal.nD Cert.ReferenceMmOutIdeal.τ).loc Cert.ReferenceMmOutIdeal.main_arg1) = m' ((c.tc : Thread Cert.ReferenceMmOutIdeal.nD Cert.ReferenceMmOutIdeal.τ).loc Cert.ReferenceMmOutIdeal.main_arg1)
          ∧ r.2.mem ((c.tc : Thread Cert.ReferenceMmOutIdeal.nD Cert.ReferenceMmOutIdeal.τ).loc Cert.ReferenceMmOutIdeal.main_arg2) = m' ((c.tc : Thread Cert.ReferenceMmOutIdeal.nD Cert.ReferenceMmOutIdeal.τ).loc Cert.ReferenceMmOutIdeal.main_arg2)
          ∧ r.2.mem ((c.tc : Thread Cert.ReferenceMmOutIdeal.nD Cert.ReferenceMmOutIdeal.τ).loc Cert.ReferenceMmOutIdeal.main_arg3) = m' ((c.tc : Thread Cert.ReferenceMmOutIdeal.nD Cert.ReferenceMmOutIdeal.τ).loc Cert.ReferenceMmOutIdeal.main_arg3)
          ∧ r.2.mem ((c.tc : Thread Cert.ReferenceMmOutIdeal.nD Cert.ReferenceMmOutIdeal.τ).loc Cert.ReferenceMmOutIdeal.main_arg4) = m' ((c.tc : Thread Cert.ReferenceMmOutIdeal.nD Cert.ReferenceMmOutIdeal.τ).loc Cert.ReferenceMmOutIdeal.main_arg4)
          ∧ r.2.mem ((c.tc : Thread Cert.ReferenceMmOutIdeal.nD Cert.ReferenceMmOutIdeal.τ).loc Cert.ReferenceMmOutIdeal.main_arg5) = m' ((c.tc : Thread Cert.ReferenceMmOutIdeal.nD Cert.ReferenceMmOutIdeal.τ).loc Cert.ReferenceMmOutIdeal.main_arg5)
          ∧ r.2.mem ((c.tc : Thread Cert.ReferenceMmOutIdeal.nD Cert.ReferenceMmOutIdeal.τ).loc Cert.ReferenceMmOutIdeal.main_arg6) = m' ((c.tc : Thread Cert.ReferenceMmOutIdeal.nD Cert.ReferenceMmOutIdeal.τ).loc Cert.ReferenceMmOutIdeal.main_arg6)
          ∧ r.2.mem ((c.tc : Thread Cert.ReferenceMmOutIdeal.nD Cert.ReferenceMmOutIdeal.τ).loc Cert.ReferenceMmOutIdeal.main_arg7) = m' ((c.tc : Thread Cert.ReferenceMmOutIdeal.nD Cert.ReferenceMmOutIdeal.τ).loc Cert.ReferenceMmOutIdeal.main_arg7))

def preserves_KernelFfnDown_KernelFfnDownIdeal : Prop :=
  True

def algebraic_KernelFfnDownIdeal_ReferenceFfnDownIdeal_pre_finite_ffn_down [hKernelFfnDownIdeal : Cert.KernelFfnDownIdeal.Facts] [hReferenceFfnDownIdeal : Cert.ReferenceFfnDownIdeal.Facts] [hPre_finite_ffn_down : Cert.Pre_finite_ffn_down.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg)
    (m' : (ℓ : Loc Cert.ReferenceFfnDownIdeal.nD Cert.ReferenceFfnDownIdeal.τ Cert.ReferenceFfnDownIdeal.sig) → Buf (Elt Ideal) ℓ) (g' : Dev Cert.ReferenceFfnDownIdeal.nD → PrngReg), Pre_KernelFfnDownIdeal_finite_ffn_down m →
    (∀ c : Dev Cert.KernelFfnDownIdeal.nD,
      m' ((c.tc : Thread Cert.ReferenceFfnDownIdeal.nD Cert.ReferenceFfnDownIdeal.τ).loc Cert.ReferenceFfnDownIdeal.main_arg0) = m ((c.tc : Thread Cert.KernelFfnDownIdeal.nD Cert.KernelFfnDownIdeal.τ).loc Cert.KernelFfnDownIdeal.main_arg0)
      ∧ m' ((c.tc : Thread Cert.ReferenceFfnDownIdeal.nD Cert.ReferenceFfnDownIdeal.τ).loc Cert.ReferenceFfnDownIdeal.main_arg1) = m ((c.tc : Thread Cert.KernelFfnDownIdeal.nD Cert.KernelFfnDownIdeal.τ).loc Cert.KernelFfnDownIdeal.main_arg1)
      ∧ m' ((c.tc : Thread Cert.ReferenceFfnDownIdeal.nD Cert.ReferenceFfnDownIdeal.τ).loc Cert.ReferenceFfnDownIdeal.main_arg2) = m ((c.tc : Thread Cert.KernelFfnDownIdeal.nD Cert.KernelFfnDownIdeal.τ).loc Cert.KernelFfnDownIdeal.main_arg2)
      ∧ m' ((c.tc : Thread Cert.ReferenceFfnDownIdeal.nD Cert.ReferenceFfnDownIdeal.τ).loc Cert.ReferenceFfnDownIdeal.main_arg3) = m ((c.tc : Thread Cert.KernelFfnDownIdeal.nD Cert.KernelFfnDownIdeal.τ).loc Cert.KernelFfnDownIdeal.main_arg3)
      ∧ m' ((c.tc : Thread Cert.ReferenceFfnDownIdeal.nD Cert.ReferenceFfnDownIdeal.τ).loc Cert.ReferenceFfnDownIdeal.main_arg4) = m ((c.tc : Thread Cert.KernelFfnDownIdeal.nD Cert.KernelFfnDownIdeal.τ).loc Cert.KernelFfnDownIdeal.main_arg4)) →
    ∃ (v0 : (c : Dev Cert.KernelFfnDownIdeal.nD) → Buf (Elt Ideal) ((c.tc : Thread Cert.KernelFfnDownIdeal.nD Cert.KernelFfnDownIdeal.τ).loc Cert.KernelFfnDownIdeal.main_v0_0)) (v1 : (c : Dev Cert.KernelFfnDownIdeal.nD) → Buf (Elt Ideal) ((c.tc : Thread Cert.KernelFfnDownIdeal.nD Cert.KernelFfnDownIdeal.τ).loc Cert.KernelFfnDownIdeal.main_v0_1)) (v2 : (c : Dev Cert.KernelFfnDownIdeal.nD) → Buf (Elt Ideal) ((c.tc : Thread Cert.KernelFfnDownIdeal.nD Cert.KernelFfnDownIdeal.τ).loc Cert.KernelFfnDownIdeal.main_v0_2)) (v3 : (c : Dev Cert.KernelFfnDownIdeal.nD) → Buf (Elt Ideal) ((c.tc : Thread Cert.KernelFfnDownIdeal.nD Cert.KernelFfnDownIdeal.τ).loc Cert.KernelFfnDownIdeal.main_v0_3)),
      θ_run (Cert.KernelFfnDownIdeal.defs (F := Ideal)) (onTc (τ := Cert.KernelFfnDownIdeal.τ) (Cert.KernelFfnDownIdeal.main (F := Ideal))) ⟨m, fun _ => 0, g⟩ (fun r => ∀ c : Dev Cert.KernelFfnDownIdeal.nD,
          r.2.mem ((c.tc : Thread Cert.KernelFfnDownIdeal.nD Cert.KernelFfnDownIdeal.τ).loc Cert.KernelFfnDownIdeal.main_v0_0) = v0 c
          ∧ r.2.mem ((c.tc : Thread Cert.KernelFfnDownIdeal.nD Cert.KernelFfnDownIdeal.τ).loc Cert.KernelFfnDownIdeal.main_v0_1) = v1 c
          ∧ r.2.mem ((c.tc : Thread Cert.KernelFfnDownIdeal.nD Cert.KernelFfnDownIdeal.τ).loc Cert.KernelFfnDownIdeal.main_v0_2) = v2 c
          ∧ r.2.mem ((c.tc : Thread Cert.KernelFfnDownIdeal.nD Cert.KernelFfnDownIdeal.τ).loc Cert.KernelFfnDownIdeal.main_v0_3) = v3 c
          ∧ r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
          ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1)
          ∧ r.2.mem ((c.tc : Thread Cert.KernelFfnDownIdeal.nD Cert.KernelFfnDownIdeal.τ).loc Cert.KernelFfnDownIdeal.main_arg2) = m ((c.tc : Thread Cert.KernelFfnDownIdeal.nD Cert.KernelFfnDownIdeal.τ).loc Cert.KernelFfnDownIdeal.main_arg2)
          ∧ r.2.mem ((c.tc : Thread Cert.KernelFfnDownIdeal.nD Cert.KernelFfnDownIdeal.τ).loc Cert.KernelFfnDownIdeal.main_arg3) = m ((c.tc : Thread Cert.KernelFfnDownIdeal.nD Cert.KernelFfnDownIdeal.τ).loc Cert.KernelFfnDownIdeal.main_arg3)
          ∧ r.2.mem ((c.tc : Thread Cert.KernelFfnDownIdeal.nD Cert.KernelFfnDownIdeal.τ).loc Cert.KernelFfnDownIdeal.main_arg4) = m ((c.tc : Thread Cert.KernelFfnDownIdeal.nD Cert.KernelFfnDownIdeal.τ).loc Cert.KernelFfnDownIdeal.main_arg4))
      ∧ θ_run (Cert.ReferenceFfnDownIdeal.defs (F := Ideal)) (onTc (τ := Cert.ReferenceFfnDownIdeal.τ) (Cert.ReferenceFfnDownIdeal.main (F := Ideal))) ⟨m', fun _ => 0, g'⟩ (fun r => ∀ c : Dev Cert.ReferenceFfnDownIdeal.nD,
          r.2.mem ((c.tc : Thread Cert.ReferenceFfnDownIdeal.nD Cert.ReferenceFfnDownIdeal.τ).loc Cert.ReferenceFfnDownIdeal.main_v55) = v0 c
          ∧ r.2.mem ((c.tc : Thread Cert.ReferenceFfnDownIdeal.nD Cert.ReferenceFfnDownIdeal.τ).loc Cert.ReferenceFfnDownIdeal.main_v35) = v1 c
          ∧ r.2.mem ((c.tc : Thread Cert.ReferenceFfnDownIdeal.nD Cert.ReferenceFfnDownIdeal.τ).loc Cert.ReferenceFfnDownIdeal.main_v56) = v2 c
          ∧ r.2.mem ((c.tc : Thread Cert.ReferenceFfnDownIdeal.nD Cert.ReferenceFfnDownIdeal.τ).loc Cert.ReferenceFfnDownIdeal.main_v38) = v3 c
          ∧ r.2.mem ((c.tc : Thread Cert.ReferenceFfnDownIdeal.nD Cert.ReferenceFfnDownIdeal.τ).loc Cert.ReferenceFfnDownIdeal.main_arg0) = m' ((c.tc : Thread Cert.ReferenceFfnDownIdeal.nD Cert.ReferenceFfnDownIdeal.τ).loc Cert.ReferenceFfnDownIdeal.main_arg0)
          ∧ r.2.mem ((c.tc : Thread Cert.ReferenceFfnDownIdeal.nD Cert.ReferenceFfnDownIdeal.τ).loc Cert.ReferenceFfnDownIdeal.main_arg1) = m' ((c.tc : Thread Cert.ReferenceFfnDownIdeal.nD Cert.ReferenceFfnDownIdeal.τ).loc Cert.ReferenceFfnDownIdeal.main_arg1)
          ∧ r.2.mem ((c.tc : Thread Cert.ReferenceFfnDownIdeal.nD Cert.ReferenceFfnDownIdeal.τ).loc Cert.ReferenceFfnDownIdeal.main_arg2) = m' ((c.tc : Thread Cert.ReferenceFfnDownIdeal.nD Cert.ReferenceFfnDownIdeal.τ).loc Cert.ReferenceFfnDownIdeal.main_arg2)
          ∧ r.2.mem ((c.tc : Thread Cert.ReferenceFfnDownIdeal.nD Cert.ReferenceFfnDownIdeal.τ).loc Cert.ReferenceFfnDownIdeal.main_arg3) = m' ((c.tc : Thread Cert.ReferenceFfnDownIdeal.nD Cert.ReferenceFfnDownIdeal.τ).loc Cert.ReferenceFfnDownIdeal.main_arg3)
          ∧ r.2.mem ((c.tc : Thread Cert.ReferenceFfnDownIdeal.nD Cert.ReferenceFfnDownIdeal.τ).loc Cert.ReferenceFfnDownIdeal.main_arg4) = m' ((c.tc : Thread Cert.ReferenceFfnDownIdeal.nD Cert.ReferenceFfnDownIdeal.τ).loc Cert.ReferenceFfnDownIdeal.main_arg4))

def preserves_KernelBwdIn_KernelBwdInIdeal : Prop :=
  True

def algebraic_KernelBwdInIdeal_ReferenceBwdInIdeal_pre_finite_bwd_in [hKernelBwdInIdeal : Cert.KernelBwdInIdeal.Facts] [hReferenceBwdInIdeal : Cert.ReferenceBwdInIdeal.Facts] [hPre_finite_bwd_in : Cert.Pre_finite_bwd_in.Facts] : Prop :=
  ∀ (m : (ℓ : Loc Cert.KernelBwdInIdeal.nD Cert.KernelBwdInIdeal.τ Cert.KernelBwdInIdeal.sig) → Buf (Elt Ideal) ℓ) (g : Dev Cert.KernelBwdInIdeal.nD → PrngReg)
    (m' : (ℓ : Loc Cert.ReferenceBwdInIdeal.nD Cert.ReferenceBwdInIdeal.τ Cert.ReferenceBwdInIdeal.sig) → Buf (Elt Ideal) ℓ) (g' : Dev Cert.ReferenceBwdInIdeal.nD → PrngReg), Pre_KernelBwdInIdeal_finite_bwd_in m →
    (∀ c : Dev Cert.KernelBwdInIdeal.nD,
      m' ((c.tc : Thread Cert.ReferenceBwdInIdeal.nD Cert.ReferenceBwdInIdeal.τ).loc Cert.ReferenceBwdInIdeal.main_arg0) = m ((c.tc : Thread Cert.KernelBwdInIdeal.nD Cert.KernelBwdInIdeal.τ).loc Cert.KernelBwdInIdeal.main_arg0)
      ∧ m' ((c.tc : Thread Cert.ReferenceBwdInIdeal.nD Cert.ReferenceBwdInIdeal.τ).loc Cert.ReferenceBwdInIdeal.main_arg1) = m ((c.tc : Thread Cert.KernelBwdInIdeal.nD Cert.KernelBwdInIdeal.τ).loc Cert.KernelBwdInIdeal.main_arg1)
      ∧ m' ((c.tc : Thread Cert.ReferenceBwdInIdeal.nD Cert.ReferenceBwdInIdeal.τ).loc Cert.ReferenceBwdInIdeal.main_arg2) = m ((c.tc : Thread Cert.KernelBwdInIdeal.nD Cert.KernelBwdInIdeal.τ).loc Cert.KernelBwdInIdeal.main_arg2)
      ∧ m' ((c.tc : Thread Cert.ReferenceBwdInIdeal.nD Cert.ReferenceBwdInIdeal.τ).loc Cert.ReferenceBwdInIdeal.main_arg3) = m ((c.tc : Thread Cert.KernelBwdInIdeal.nD Cert.KernelBwdInIdeal.τ).loc Cert.KernelBwdInIdeal.main_arg3)
      ∧ m' ((c.tc : Thread Cert.ReferenceBwdInIdeal.nD Cert.ReferenceBwdInIdeal.τ).loc Cert.ReferenceBwdInIdeal.main_arg4) = m ((c.tc : Thread Cert.KernelBwdInIdeal.nD Cert.KernelBwdInIdeal.τ).loc Cert.KernelBwdInIdeal.main_arg4)
      ∧ m' ((c.tc : Thread Cert.ReferenceBwdInIdeal.nD Cert.ReferenceBwdInIdeal.τ).loc Cert.ReferenceBwdInIdeal.main_arg5) = m ((c.tc : Thread Cert.KernelBwdInIdeal.nD Cert.KernelBwdInIdeal.τ).loc Cert.KernelBwdInIdeal.main_arg5)
      ∧ m' ((c.tc : Thread Cert.ReferenceBwdInIdeal.nD Cert.ReferenceBwdInIdeal.τ).loc Cert.ReferenceBwdInIdeal.main_arg6) = m ((c.tc : Thread Cert.KernelBwdInIdeal.nD Cert.KernelBwdInIdeal.τ).loc Cert.KernelBwdInIdeal.main_arg6)
      ∧ m' ((c.tc : Thread Cert.ReferenceBwdInIdeal.nD Cert.ReferenceBwdInIdeal.τ).loc Cert.ReferenceBwdInIdeal.main_arg7) = m ((c.tc : Thread Cert.KernelBwdInIdeal.nD Cert.KernelBwdInIdeal.τ).loc Cert.KernelBwdInIdeal.main_arg7)
      ∧ m' ((c.tc : Thread Cert.ReferenceBwdInIdeal.nD Cert.ReferenceBwdInIdeal.τ).loc Cert.ReferenceBwdInIdeal.main_arg8) = m ((c.tc : Thread Cert.KernelBwdInIdeal.nD Cert.KernelBwdInIdeal.τ).loc Cert.KernelBwdInIdeal.main_arg8)
      ∧ m' ((c.tc : Thread Cert.ReferenceBwdInIdeal.nD Cert.ReferenceBwdInIdeal.τ).loc Cert.ReferenceBwdInIdeal.main_arg9) = m ((c.tc : Thread Cert.KernelBwdInIdeal.nD Cert.KernelBwdInIdeal.τ).loc Cert.KernelBwdInIdeal.main_arg9)) →
    ∃ (v0 : (c : Dev Cert.KernelBwdInIdeal.nD) → Buf (Elt Ideal) ((c.tc : Thread Cert.KernelBwdInIdeal.nD Cert.KernelBwdInIdeal.τ).loc Cert.KernelBwdInIdeal.main_v0_0)) (v1 : (c : Dev Cert.KernelBwdInIdeal.nD) → Buf (Elt Ideal) ((c.tc : Thread Cert.KernelBwdInIdeal.nD Cert.KernelBwdInIdeal.τ).loc Cert.KernelBwdInIdeal.main_v0_1)) (v2 : (c : Dev Cert.KernelBwdInIdeal.nD) → Buf (Elt Ideal) ((c.tc : Thread Cert.KernelBwdInIdeal.nD Cert.KernelBwdInIdeal.τ).loc Cert.KernelBwdInIdeal.main_v0_2)) (v3 : (c : Dev Cert.KernelBwdInIdeal.nD) → Buf (Elt Ideal) ((c.tc : Thread Cert.KernelBwdInIdeal.nD Cert.KernelBwdInIdeal.τ).loc Cert.KernelBwdInIdeal.main_v0_3)),
      θ_run (Cert.KernelBwdInIdeal.defs (F := Ideal)) (onTc (τ := Cert.KernelBwdInIdeal.τ) (Cert.KernelBwdInIdeal.main (F := Ideal))) ⟨m, fun _ => 0, g⟩ (fun r => ∀ c : Dev Cert.KernelBwdInIdeal.nD,
          r.2.mem ((c.tc : Thread Cert.KernelBwdInIdeal.nD Cert.KernelBwdInIdeal.τ).loc Cert.KernelBwdInIdeal.main_v0_0) = v0 c
          ∧ r.2.mem ((c.tc : Thread Cert.KernelBwdInIdeal.nD Cert.KernelBwdInIdeal.τ).loc Cert.KernelBwdInIdeal.main_v0_1) = v1 c
          ∧ r.2.mem ((c.tc : Thread Cert.KernelBwdInIdeal.nD Cert.KernelBwdInIdeal.τ).loc Cert.KernelBwdInIdeal.main_v0_2) = v2 c
          ∧ r.2.mem ((c.tc : Thread Cert.KernelBwdInIdeal.nD Cert.KernelBwdInIdeal.τ).loc Cert.KernelBwdInIdeal.main_v0_3) = v3 c
          ∧ r.2.mem ((c.tc : Thread Cert.KernelBwdInIdeal.nD Cert.KernelBwdInIdeal.τ).loc Cert.KernelBwdInIdeal.main_arg0) = m ((c.tc : Thread Cert.KernelBwdInIdeal.nD Cert.KernelBwdInIdeal.τ).loc Cert.KernelBwdInIdeal.main_arg0)
          ∧ r.2.mem ((c.tc : Thread Cert.KernelBwdInIdeal.nD Cert.KernelBwdInIdeal.τ).loc Cert.KernelBwdInIdeal.main_arg1) = m ((c.tc : Thread Cert.KernelBwdInIdeal.nD Cert.KernelBwdInIdeal.τ).loc Cert.KernelBwdInIdeal.main_arg1)
          ∧ r.2.mem ((c.tc : Thread Cert.KernelBwdInIdeal.nD Cert.KernelBwdInIdeal.τ).loc Cert.KernelBwdInIdeal.main_arg2) = m ((c.tc : Thread Cert.KernelBwdInIdeal.nD Cert.KernelBwdInIdeal.τ).loc Cert.KernelBwdInIdeal.main_arg2)
          ∧ r.2.mem ((c.tc : Thread Cert.KernelBwdInIdeal.nD Cert.KernelBwdInIdeal.τ).loc Cert.KernelBwdInIdeal.main_arg3) = m ((c.tc : Thread Cert.KernelBwdInIdeal.nD Cert.KernelBwdInIdeal.τ).loc Cert.KernelBwdInIdeal.main_arg3)
          ∧ r.2.mem ((c.tc : Thread Cert.KernelBwdInIdeal.nD Cert.KernelBwdInIdeal.τ).loc Cert.KernelBwdInIdeal.main_arg4) = m ((c.tc : Thread Cert.KernelBwdInIdeal.nD Cert.KernelBwdInIdeal.τ).loc Cert.KernelBwdInIdeal.main_arg4)
          ∧ r.2.mem ((c.tc : Thread Cert.KernelBwdInIdeal.nD Cert.KernelBwdInIdeal.τ).loc Cert.KernelBwdInIdeal.main_arg5) = m ((c.tc : Thread Cert.KernelBwdInIdeal.nD Cert.KernelBwdInIdeal.τ).loc Cert.KernelBwdInIdeal.main_arg5)
          ∧ r.2.mem ((c.tc : Thread Cert.KernelBwdInIdeal.nD Cert.KernelBwdInIdeal.τ).loc Cert.KernelBwdInIdeal.main_arg6) = m ((c.tc : Thread Cert.KernelBwdInIdeal.nD Cert.KernelBwdInIdeal.τ).loc Cert.KernelBwdInIdeal.main_arg6)
          ∧ r.2.mem ((c.tc : Thread Cert.KernelBwdInIdeal.nD Cert.KernelBwdInIdeal.τ).loc Cert.KernelBwdInIdeal.main_arg7) = m ((c.tc : Thread Cert.KernelBwdInIdeal.nD Cert.KernelBwdInIdeal.τ).loc Cert.KernelBwdInIdeal.main_arg7)
          ∧ r.2.mem ((c.tc : Thread Cert.KernelBwdInIdeal.nD Cert.KernelBwdInIdeal.τ).loc Cert.KernelBwdInIdeal.main_arg8) = m ((c.tc : Thread Cert.KernelBwdInIdeal.nD Cert.KernelBwdInIdeal.τ).loc Cert.KernelBwdInIdeal.main_arg8)
          ∧ r.2.mem ((c.tc : Thread Cert.KernelBwdInIdeal.nD Cert.KernelBwdInIdeal.τ).loc Cert.KernelBwdInIdeal.main_arg9) = m ((c.tc : Thread Cert.KernelBwdInIdeal.nD Cert.KernelBwdInIdeal.τ).loc Cert.KernelBwdInIdeal.main_arg9))
      ∧ θ_run (Cert.ReferenceBwdInIdeal.defs (F := Ideal)) (onTc (τ := Cert.ReferenceBwdInIdeal.τ) (Cert.ReferenceBwdInIdeal.main (F := Ideal))) ⟨m', fun _ => 0, g'⟩ (fun r => ∀ c : Dev Cert.ReferenceBwdInIdeal.nD,
          r.2.mem ((c.tc : Thread Cert.ReferenceBwdInIdeal.nD Cert.ReferenceBwdInIdeal.τ).loc Cert.ReferenceBwdInIdeal.main_v45) = v0 c
          ∧ r.2.mem ((c.tc : Thread Cert.ReferenceBwdInIdeal.nD Cert.ReferenceBwdInIdeal.τ).loc Cert.ReferenceBwdInIdeal.main_v80) = v1 c
          ∧ r.2.mem ((c.tc : Thread Cert.ReferenceBwdInIdeal.nD Cert.ReferenceBwdInIdeal.τ).loc Cert.ReferenceBwdInIdeal.main_v28) = v2 c
          ∧ r.2.mem ((c.tc : Thread Cert.ReferenceBwdInIdeal.nD Cert.ReferenceBwdInIdeal.τ).loc Cert.ReferenceBwdInIdeal.main_v63) = v3 c
          ∧ r.2.mem ((c.tc : Thread Cert.ReferenceBwdInIdeal.nD Cert.ReferenceBwdInIdeal.τ).loc Cert.ReferenceBwdInIdeal.main_arg0) = m' ((c.tc : Thread Cert.ReferenceBwdInIdeal.nD Cert.ReferenceBwdInIdeal.τ).loc Cert.ReferenceBwdInIdeal.main_arg0)
          ∧ r.2.mem ((c.tc : Thread Cert.ReferenceBwdInIdeal.nD Cert.ReferenceBwdInIdeal.τ).loc Cert.ReferenceBwdInIdeal.main_arg1) = m' ((c.tc : Thread Cert.ReferenceBwdInIdeal.nD Cert.ReferenceBwdInIdeal.τ).loc Cert.ReferenceBwdInIdeal.main_arg1)
          ∧ r.2.mem ((c.tc : Thread Cert.ReferenceBwdInIdeal.nD Cert.ReferenceBwdInIdeal.τ).loc Cert.ReferenceBwdInIdeal.main_arg2) = m' ((c.tc : Thread Cert.ReferenceBwdInIdeal.nD Cert.ReferenceBwdInIdeal.τ).loc Cert.ReferenceBwdInIdeal.main_arg2)
          ∧ r.2.mem ((c.tc : Thread Cert.ReferenceBwdInIdeal.nD Cert.ReferenceBwdInIdeal.τ).loc Cert.ReferenceBwdInIdeal.main_arg3) = m' ((c.tc : Thread Cert.ReferenceBwdInIdeal.nD Cert.ReferenceBwdInIdeal.τ).loc Cert.ReferenceBwdInIdeal.main_arg3)
          ∧ r.2.mem ((c.tc : Thread Cert.ReferenceBwdInIdeal.nD Cert.ReferenceBwdInIdeal.τ).loc Cert.ReferenceBwdInIdeal.main_arg4) = m' ((c.tc : Thread Cert.ReferenceBwdInIdeal.nD Cert.ReferenceBwdInIdeal.τ).loc Cert.ReferenceBwdInIdeal.main_arg4)
          ∧ r.2.mem ((c.tc : Thread Cert.ReferenceBwdInIdeal.nD Cert.ReferenceBwdInIdeal.τ).loc Cert.ReferenceBwdInIdeal.main_arg5) = m' ((c.tc : Thread Cert.ReferenceBwdInIdeal.nD Cert.ReferenceBwdInIdeal.τ).loc Cert.ReferenceBwdInIdeal.main_arg5)
          ∧ r.2.mem ((c.tc : Thread Cert.ReferenceBwdInIdeal.nD Cert.ReferenceBwdInIdeal.τ).loc Cert.ReferenceBwdInIdeal.main_arg6) = m' ((c.tc : Thread Cert.ReferenceBwdInIdeal.nD Cert.ReferenceBwdInIdeal.τ).loc Cert.ReferenceBwdInIdeal.main_arg6)
          ∧ r.2.mem ((c.tc : Thread Cert.ReferenceBwdInIdeal.nD Cert.ReferenceBwdInIdeal.τ).loc Cert.ReferenceBwdInIdeal.main_arg7) = m' ((c.tc : Thread Cert.ReferenceBwdInIdeal.nD Cert.ReferenceBwdInIdeal.τ).loc Cert.ReferenceBwdInIdeal.main_arg7)
          ∧ r.2.mem ((c.tc : Thread Cert.ReferenceBwdInIdeal.nD Cert.ReferenceBwdInIdeal.τ).loc Cert.ReferenceBwdInIdeal.main_arg8) = m' ((c.tc : Thread Cert.ReferenceBwdInIdeal.nD Cert.ReferenceBwdInIdeal.τ).loc Cert.ReferenceBwdInIdeal.main_arg8)
          ∧ r.2.mem ((c.tc : Thread Cert.ReferenceBwdInIdeal.nD Cert.ReferenceBwdInIdeal.τ).loc Cert.ReferenceBwdInIdeal.main_arg9) = m' ((c.tc : Thread Cert.ReferenceBwdInIdeal.nD Cert.ReferenceBwdInIdeal.τ).loc Cert.ReferenceBwdInIdeal.main_arg9))

def preserves_KernelMixOut_KernelMixOutIdeal : Prop :=
  True

def algebraic_KernelMixOutIdeal_ReferenceMixOutIdeal_pre_finite_mix_out [hKernelMixOutIdeal : Cert.KernelMixOutIdeal.Facts] [hReferenceMixOutIdeal : Cert.ReferenceMixOutIdeal.Facts] [hPre_finite_mix_out : Cert.Pre_finite_mix_out.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg)
    (m' : (ℓ : Loc Cert.ReferenceMixOutIdeal.nD Cert.ReferenceMixOutIdeal.τ Cert.ReferenceMixOutIdeal.sig) → Buf (Elt Ideal) ℓ) (g' : Dev Cert.ReferenceMixOutIdeal.nD → PrngReg), Pre_KernelMixOutIdeal_finite_mix_out m →
    (∀ c : Dev Cert.KernelMixOutIdeal.nD,
      m' ((c.tc : Thread Cert.ReferenceMixOutIdeal.nD Cert.ReferenceMixOutIdeal.τ).loc Cert.ReferenceMixOutIdeal.main_arg0) = m ((c.tc : Thread Cert.KernelMixOutIdeal.nD Cert.KernelMixOutIdeal.τ).loc Cert.KernelMixOutIdeal.main_arg0)
      ∧ m' ((c.tc : Thread Cert.ReferenceMixOutIdeal.nD Cert.ReferenceMixOutIdeal.τ).loc Cert.ReferenceMixOutIdeal.main_arg1) = m ((c.tc : Thread Cert.KernelMixOutIdeal.nD Cert.KernelMixOutIdeal.τ).loc Cert.KernelMixOutIdeal.main_arg1)
      ∧ m' ((c.tc : Thread Cert.ReferenceMixOutIdeal.nD Cert.ReferenceMixOutIdeal.τ).loc Cert.ReferenceMixOutIdeal.main_arg2) = m ((c.tc : Thread Cert.KernelMixOutIdeal.nD Cert.KernelMixOutIdeal.τ).loc Cert.KernelMixOutIdeal.main_arg2)
      ∧ m' ((c.tc : Thread Cert.ReferenceMixOutIdeal.nD Cert.ReferenceMixOutIdeal.τ).loc Cert.ReferenceMixOutIdeal.main_arg3) = m ((c.tc : Thread Cert.KernelMixOutIdeal.nD Cert.KernelMixOutIdeal.τ).loc Cert.KernelMixOutIdeal.main_arg3)
      ∧ m' ((c.tc : Thread Cert.ReferenceMixOutIdeal.nD Cert.ReferenceMixOutIdeal.τ).loc Cert.ReferenceMixOutIdeal.main_arg4) = m ((c.tc : Thread Cert.KernelMixOutIdeal.nD Cert.KernelMixOutIdeal.τ).loc Cert.KernelMixOutIdeal.main_arg4)
      ∧ m' ((c.tc : Thread Cert.ReferenceMixOutIdeal.nD Cert.ReferenceMixOutIdeal.τ).loc Cert.ReferenceMixOutIdeal.main_arg5) = m ((c.tc : Thread Cert.KernelMixOutIdeal.nD Cert.KernelMixOutIdeal.τ).loc Cert.KernelMixOutIdeal.main_arg5)) →
    ∃ (v0 : (c : Dev Cert.KernelMixOutIdeal.nD) → Buf (Elt Ideal) ((c.tc : Thread Cert.KernelMixOutIdeal.nD Cert.KernelMixOutIdeal.τ).loc Cert.KernelMixOutIdeal.main_v0_0)) (v1 : (c : Dev Cert.KernelMixOutIdeal.nD) → Buf (Elt Ideal) ((c.tc : Thread Cert.KernelMixOutIdeal.nD Cert.KernelMixOutIdeal.τ).loc Cert.KernelMixOutIdeal.main_v0_1)) (v2 : (c : Dev Cert.KernelMixOutIdeal.nD) → Buf (Elt Ideal) ((c.tc : Thread Cert.KernelMixOutIdeal.nD Cert.KernelMixOutIdeal.τ).loc Cert.KernelMixOutIdeal.main_v0_2)) (v3 : (c : Dev Cert.KernelMixOutIdeal.nD) → Buf (Elt Ideal) ((c.tc : Thread Cert.KernelMixOutIdeal.nD Cert.KernelMixOutIdeal.τ).loc Cert.KernelMixOutIdeal.main_v0_3)),
      θ_run (Cert.KernelMixOutIdeal.defs (F := Ideal)) (onTc (τ := Cert.KernelMixOutIdeal.τ) (Cert.KernelMixOutIdeal.main (F := Ideal))) ⟨m, fun _ => 0, g⟩ (fun r => ∀ c : Dev Cert.KernelMixOutIdeal.nD,
          r.2.mem ((c.tc : Thread Cert.KernelMixOutIdeal.nD Cert.KernelMixOutIdeal.τ).loc Cert.KernelMixOutIdeal.main_v0_0) = v0 c
          ∧ r.2.mem ((c.tc : Thread Cert.KernelMixOutIdeal.nD Cert.KernelMixOutIdeal.τ).loc Cert.KernelMixOutIdeal.main_v0_1) = v1 c
          ∧ r.2.mem ((c.tc : Thread Cert.KernelMixOutIdeal.nD Cert.KernelMixOutIdeal.τ).loc Cert.KernelMixOutIdeal.main_v0_2) = v2 c
          ∧ r.2.mem ((c.tc : Thread Cert.KernelMixOutIdeal.nD Cert.KernelMixOutIdeal.τ).loc Cert.KernelMixOutIdeal.main_v0_3) = v3 c
          ∧ r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
          ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
          ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
          ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
          ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
          ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5))
      ∧ θ_run (Cert.ReferenceMixOutIdeal.defs (F := Ideal)) (onTc (τ := Cert.ReferenceMixOutIdeal.τ) (Cert.ReferenceMixOutIdeal.main (F := Ideal))) ⟨m', fun _ => 0, g'⟩ (fun r => ∀ c : Dev Cert.ReferenceMixOutIdeal.nD,
          r.2.mem ((c.tc : Thread Cert.ReferenceMixOutIdeal.nD Cert.ReferenceMixOutIdeal.τ).loc Cert.ReferenceMixOutIdeal.main_v34) = v0 c
          ∧ r.2.mem ((c.tc : Thread Cert.ReferenceMixOutIdeal.nD Cert.ReferenceMixOutIdeal.τ).loc Cert.ReferenceMixOutIdeal.main_v67) = v1 c
          ∧ r.2.mem ((c.tc : Thread Cert.ReferenceMixOutIdeal.nD Cert.ReferenceMixOutIdeal.τ).loc Cert.ReferenceMixOutIdeal.main_v41) = v2 c
          ∧ r.2.mem ((c.tc : Thread Cert.ReferenceMixOutIdeal.nD Cert.ReferenceMixOutIdeal.τ).loc Cert.ReferenceMixOutIdeal.main_v38) = v3 c
          ∧ r.2.mem ((c.tc : Thread Cert.ReferenceMixOutIdeal.nD Cert.ReferenceMixOutIdeal.τ).loc Cert.ReferenceMixOutIdeal.main_arg0) = m' ((c.tc : Thread Cert.ReferenceMixOutIdeal.nD Cert.ReferenceMixOutIdeal.τ).loc Cert.ReferenceMixOutIdeal.main_arg0)
          ∧ r.2.mem ((c.tc : Thread Cert.ReferenceMixOutIdeal.nD Cert.ReferenceMixOutIdeal.τ).loc Cert.ReferenceMixOutIdeal.main_arg1) = m' ((c.tc : Thread Cert.ReferenceMixOutIdeal.nD Cert.ReferenceMixOutIdeal.τ).loc Cert.ReferenceMixOutIdeal.main_arg1)
          ∧ r.2.mem ((c.tc : Thread Cert.ReferenceMixOutIdeal.nD Cert.ReferenceMixOutIdeal.τ).loc Cert.ReferenceMixOutIdeal.main_arg2) = m' ((c.tc : Thread Cert.ReferenceMixOutIdeal.nD Cert.ReferenceMixOutIdeal.τ).loc Cert.ReferenceMixOutIdeal.main_arg2)
          ∧ r.2.mem ((c.tc : Thread Cert.ReferenceMixOutIdeal.nD Cert.ReferenceMixOutIdeal.τ).loc Cert.ReferenceMixOutIdeal.main_arg3) = m' ((c.tc : Thread Cert.ReferenceMixOutIdeal.nD Cert.ReferenceMixOutIdeal.τ).loc Cert.ReferenceMixOutIdeal.main_arg3)
          ∧ r.2.mem ((c.tc : Thread Cert.ReferenceMixOutIdeal.nD Cert.ReferenceMixOutIdeal.τ).loc Cert.ReferenceMixOutIdeal.main_arg4) = m' ((c.tc : Thread Cert.ReferenceMixOutIdeal.nD Cert.ReferenceMixOutIdeal.τ).loc Cert.ReferenceMixOutIdeal.main_arg4)
          ∧ r.2.mem ((c.tc : Thread Cert.ReferenceMixOutIdeal.nD Cert.ReferenceMixOutIdeal.τ).loc Cert.ReferenceMixOutIdeal.main_arg5) = m' ((c.tc : Thread Cert.ReferenceMixOutIdeal.nD Cert.ReferenceMixOutIdeal.τ).loc Cert.ReferenceMixOutIdeal.main_arg5))

def preserves_KernelMixIn_KernelMixInIdeal : Prop :=
  True

def algebraic_KernelMixInIdeal_ReferenceMixInIdeal_pre_finite_mix_in [hKernelMixInIdeal : Cert.KernelMixInIdeal.Facts] [hReferenceMixInIdeal : Cert.ReferenceMixInIdeal.Facts] [hPre_finite_mix_in : Cert.Pre_finite_mix_in.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg)
    (m' : (ℓ : Loc Cert.ReferenceMixInIdeal.nD Cert.ReferenceMixInIdeal.τ Cert.ReferenceMixInIdeal.sig) → Buf (Elt Ideal) ℓ) (g' : Dev Cert.ReferenceMixInIdeal.nD → PrngReg), Pre_KernelMixInIdeal_finite_mix_in m →
    (∀ c : Dev Cert.KernelMixInIdeal.nD,
      m' ((c.tc : Thread Cert.ReferenceMixInIdeal.nD Cert.ReferenceMixInIdeal.τ).loc Cert.ReferenceMixInIdeal.main_arg0) = m ((c.tc : Thread Cert.KernelMixInIdeal.nD Cert.KernelMixInIdeal.τ).loc Cert.KernelMixInIdeal.main_arg0)
      ∧ m' ((c.tc : Thread Cert.ReferenceMixInIdeal.nD Cert.ReferenceMixInIdeal.τ).loc Cert.ReferenceMixInIdeal.main_arg1) = m ((c.tc : Thread Cert.KernelMixInIdeal.nD Cert.KernelMixInIdeal.τ).loc Cert.KernelMixInIdeal.main_arg1)
      ∧ m' ((c.tc : Thread Cert.ReferenceMixInIdeal.nD Cert.ReferenceMixInIdeal.τ).loc Cert.ReferenceMixInIdeal.main_arg2) = m ((c.tc : Thread Cert.KernelMixInIdeal.nD Cert.KernelMixInIdeal.τ).loc Cert.KernelMixInIdeal.main_arg2)
      ∧ m' ((c.tc : Thread Cert.ReferenceMixInIdeal.nD Cert.ReferenceMixInIdeal.τ).loc Cert.ReferenceMixInIdeal.main_arg3) = m ((c.tc : Thread Cert.KernelMixInIdeal.nD Cert.KernelMixInIdeal.τ).loc Cert.KernelMixInIdeal.main_arg3)
      ∧ m' ((c.tc : Thread Cert.ReferenceMixInIdeal.nD Cert.ReferenceMixInIdeal.τ).loc Cert.ReferenceMixInIdeal.main_arg4) = m ((c.tc : Thread Cert.KernelMixInIdeal.nD Cert.KernelMixInIdeal.τ).loc Cert.KernelMixInIdeal.main_arg4)
      ∧ m' ((c.tc : Thread Cert.ReferenceMixInIdeal.nD Cert.ReferenceMixInIdeal.τ).loc Cert.ReferenceMixInIdeal.main_arg5) = m ((c.tc : Thread Cert.KernelMixInIdeal.nD Cert.KernelMixInIdeal.τ).loc Cert.KernelMixInIdeal.main_arg5)) →
    ∃ (v0 : (c : Dev Cert.KernelMixInIdeal.nD) → Buf (Elt Ideal) ((c.tc : Thread Cert.KernelMixInIdeal.nD Cert.KernelMixInIdeal.τ).loc Cert.KernelMixInIdeal.main_v0_0)) (v1 : (c : Dev Cert.KernelMixInIdeal.nD) → Buf (Elt Ideal) ((c.tc : Thread Cert.KernelMixInIdeal.nD Cert.KernelMixInIdeal.τ).loc Cert.KernelMixInIdeal.main_v0_1)) (v2 : (c : Dev Cert.KernelMixInIdeal.nD) → Buf (Elt Ideal) ((c.tc : Thread Cert.KernelMixInIdeal.nD Cert.KernelMixInIdeal.τ).loc Cert.KernelMixInIdeal.main_v0_2)),
      θ_run (Cert.KernelMixInIdeal.defs (F := Ideal)) (onTc (τ := Cert.KernelMixInIdeal.τ) (Cert.KernelMixInIdeal.main (F := Ideal))) ⟨m, fun _ => 0, g⟩ (fun r => ∀ c : Dev Cert.KernelMixInIdeal.nD,
          r.2.mem ((c.tc : Thread Cert.KernelMixInIdeal.nD Cert.KernelMixInIdeal.τ).loc Cert.KernelMixInIdeal.main_v0_0) = v0 c
          ∧ r.2.mem ((c.tc : Thread Cert.KernelMixInIdeal.nD Cert.KernelMixInIdeal.τ).loc Cert.KernelMixInIdeal.main_v0_1) = v1 c
          ∧ r.2.mem ((c.tc : Thread Cert.KernelMixInIdeal.nD Cert.KernelMixInIdeal.τ).loc Cert.KernelMixInIdeal.main_v0_2) = v2 c
          ∧ r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
          ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
          ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
          ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3)
          ∧ r.2.mem ((c.tc : Thread Cert.KernelMixInIdeal.nD Cert.KernelMixInIdeal.τ).loc Cert.KernelMixInIdeal.main_arg4) = m ((c.tc : Thread Cert.KernelMixInIdeal.nD Cert.KernelMixInIdeal.τ).loc Cert.KernelMixInIdeal.main_arg4)
          ∧ r.2.mem ((c.tc : Thread Cert.KernelMixInIdeal.nD Cert.KernelMixInIdeal.τ).loc Cert.KernelMixInIdeal.main_arg5) = m ((c.tc : Thread Cert.KernelMixInIdeal.nD Cert.KernelMixInIdeal.τ).loc Cert.KernelMixInIdeal.main_arg5))
      ∧ θ_run (Cert.ReferenceMixInIdeal.defs (F := Ideal)) (onTc (τ := Cert.ReferenceMixInIdeal.τ) (Cert.ReferenceMixInIdeal.main (F := Ideal))) ⟨m', fun _ => 0, g'⟩ (fun r => ∀ c : Dev Cert.ReferenceMixInIdeal.nD,
          r.2.mem ((c.tc : Thread Cert.ReferenceMixInIdeal.nD Cert.ReferenceMixInIdeal.τ).loc Cert.ReferenceMixInIdeal.main_v78) = v0 c
          ∧ r.2.mem ((c.tc : Thread Cert.ReferenceMixInIdeal.nD Cert.ReferenceMixInIdeal.τ).loc Cert.ReferenceMixInIdeal.main_v79) = v1 c
          ∧ r.2.mem ((c.tc : Thread Cert.ReferenceMixInIdeal.nD Cert.ReferenceMixInIdeal.τ).loc Cert.ReferenceMixInIdeal.main_v60) = v2 c
          ∧ r.2.mem ((c.tc : Thread Cert.ReferenceMixInIdeal.nD Cert.ReferenceMixInIdeal.τ).loc Cert.ReferenceMixInIdeal.main_arg0) = m' ((c.tc : Thread Cert.ReferenceMixInIdeal.nD Cert.ReferenceMixInIdeal.τ).loc Cert.ReferenceMixInIdeal.main_arg0)
          ∧ r.2.mem ((c.tc : Thread Cert.ReferenceMixInIdeal.nD Cert.ReferenceMixInIdeal.τ).loc Cert.ReferenceMixInIdeal.main_arg1) = m' ((c.tc : Thread Cert.ReferenceMixInIdeal.nD Cert.ReferenceMixInIdeal.τ).loc Cert.ReferenceMixInIdeal.main_arg1)
          ∧ r.2.mem ((c.tc : Thread Cert.ReferenceMixInIdeal.nD Cert.ReferenceMixInIdeal.τ).loc Cert.ReferenceMixInIdeal.main_arg2) = m' ((c.tc : Thread Cert.ReferenceMixInIdeal.nD Cert.ReferenceMixInIdeal.τ).loc Cert.ReferenceMixInIdeal.main_arg2)
          ∧ r.2.mem ((c.tc : Thread Cert.ReferenceMixInIdeal.nD Cert.ReferenceMixInIdeal.τ).loc Cert.ReferenceMixInIdeal.main_arg3) = m' ((c.tc : Thread Cert.ReferenceMixInIdeal.nD Cert.ReferenceMixInIdeal.τ).loc Cert.ReferenceMixInIdeal.main_arg3)
          ∧ r.2.mem ((c.tc : Thread Cert.ReferenceMixInIdeal.nD Cert.ReferenceMixInIdeal.τ).loc Cert.ReferenceMixInIdeal.main_arg4) = m' ((c.tc : Thread Cert.ReferenceMixInIdeal.nD Cert.ReferenceMixInIdeal.τ).loc Cert.ReferenceMixInIdeal.main_arg4)
          ∧ r.2.mem ((c.tc : Thread Cert.ReferenceMixInIdeal.nD Cert.ReferenceMixInIdeal.τ).loc Cert.ReferenceMixInIdeal.main_arg5) = m' ((c.tc : Thread Cert.ReferenceMixInIdeal.nD Cert.ReferenceMixInIdeal.τ).loc Cert.ReferenceMixInIdeal.main_arg5))

def preserves_KernelAdamFfn_KernelAdamFfnIdeal : Prop :=
  True

def algebraic_KernelAdamFfnIdeal_ReferenceAdamFfnIdeal [hKernelAdamFfnIdeal : Cert.KernelAdamFfnIdeal.Facts] [hReferenceAdamFfnIdeal : Cert.ReferenceAdamFfnIdeal.Facts] : Prop :=
  ∀ (m : (ℓ : Loc Cert.KernelAdamFfnIdeal.nD Cert.KernelAdamFfnIdeal.τ Cert.KernelAdamFfnIdeal.sig) → Buf (Elt Ideal) ℓ) (g : Dev Cert.KernelAdamFfnIdeal.nD → PrngReg)
    (m' : (ℓ : Loc Cert.ReferenceAdamFfnIdeal.nD Cert.ReferenceAdamFfnIdeal.τ Cert.ReferenceAdamFfnIdeal.sig) → Buf (Elt Ideal) ℓ) (g' : Dev Cert.ReferenceAdamFfnIdeal.nD → PrngReg), Pre_KernelAdamFfnIdeal m →
    (∀ c : Dev Cert.KernelAdamFfnIdeal.nD,
      m' ((c.tc : Thread Cert.ReferenceAdamFfnIdeal.nD Cert.ReferenceAdamFfnIdeal.τ).loc Cert.ReferenceAdamFfnIdeal.main_arg0) = m ((c.tc : Thread Cert.KernelAdamFfnIdeal.nD Cert.KernelAdamFfnIdeal.τ).loc Cert.KernelAdamFfnIdeal.main_arg0)
      ∧ m' ((c.tc : Thread Cert.ReferenceAdamFfnIdeal.nD Cert.ReferenceAdamFfnIdeal.τ).loc Cert.ReferenceAdamFfnIdeal.main_arg1) = m ((c.tc : Thread Cert.KernelAdamFfnIdeal.nD Cert.KernelAdamFfnIdeal.τ).loc Cert.KernelAdamFfnIdeal.main_arg1)
      ∧ m' ((c.tc : Thread Cert.ReferenceAdamFfnIdeal.nD Cert.ReferenceAdamFfnIdeal.τ).loc Cert.ReferenceAdamFfnIdeal.main_arg2) = m ((c.tc : Thread Cert.KernelAdamFfnIdeal.nD Cert.KernelAdamFfnIdeal.τ).loc Cert.KernelAdamFfnIdeal.main_arg2)
      ∧ m' ((c.tc : Thread Cert.ReferenceAdamFfnIdeal.nD Cert.ReferenceAdamFfnIdeal.τ).loc Cert.ReferenceAdamFfnIdeal.main_arg3) = m ((c.tc : Thread Cert.KernelAdamFfnIdeal.nD Cert.KernelAdamFfnIdeal.τ).loc Cert.KernelAdamFfnIdeal.main_arg3)
      ∧ m' ((c.tc : Thread Cert.ReferenceAdamFfnIdeal.nD Cert.ReferenceAdamFfnIdeal.τ).loc Cert.ReferenceAdamFfnIdeal.main_arg4) = m ((c.tc : Thread Cert.KernelAdamFfnIdeal.nD Cert.KernelAdamFfnIdeal.τ).loc Cert.KernelAdamFfnIdeal.main_arg4)
      ∧ m' ((c.tc : Thread Cert.ReferenceAdamFfnIdeal.nD Cert.ReferenceAdamFfnIdeal.τ).loc Cert.ReferenceAdamFfnIdeal.main_arg5) = m ((c.tc : Thread Cert.KernelAdamFfnIdeal.nD Cert.KernelAdamFfnIdeal.τ).loc Cert.KernelAdamFfnIdeal.main_arg5)
      ∧ m' ((c.tc : Thread Cert.ReferenceAdamFfnIdeal.nD Cert.ReferenceAdamFfnIdeal.τ).loc Cert.ReferenceAdamFfnIdeal.main_arg6) = m ((c.tc : Thread Cert.KernelAdamFfnIdeal.nD Cert.KernelAdamFfnIdeal.τ).loc Cert.KernelAdamFfnIdeal.main_arg6)
      ∧ m' ((c.tc : Thread Cert.ReferenceAdamFfnIdeal.nD Cert.ReferenceAdamFfnIdeal.τ).loc Cert.ReferenceAdamFfnIdeal.main_arg7) = m ((c.tc : Thread Cert.KernelAdamFfnIdeal.nD Cert.KernelAdamFfnIdeal.τ).loc Cert.KernelAdamFfnIdeal.main_arg7)
      ∧ m' ((c.tc : Thread Cert.ReferenceAdamFfnIdeal.nD Cert.ReferenceAdamFfnIdeal.τ).loc Cert.ReferenceAdamFfnIdeal.main_arg8) = m ((c.tc : Thread Cert.KernelAdamFfnIdeal.nD Cert.KernelAdamFfnIdeal.τ).loc Cert.KernelAdamFfnIdeal.main_arg8)
      ∧ m' ((c.tc : Thread Cert.ReferenceAdamFfnIdeal.nD Cert.ReferenceAdamFfnIdeal.τ).loc Cert.ReferenceAdamFfnIdeal.main_arg9) = m ((c.tc : Thread Cert.KernelAdamFfnIdeal.nD Cert.KernelAdamFfnIdeal.τ).loc Cert.KernelAdamFfnIdeal.main_arg9)
      ∧ m' ((c.tc : Thread Cert.ReferenceAdamFfnIdeal.nD Cert.ReferenceAdamFfnIdeal.τ).loc Cert.ReferenceAdamFfnIdeal.main_arg10) = m ((c.tc : Thread Cert.KernelAdamFfnIdeal.nD Cert.KernelAdamFfnIdeal.τ).loc Cert.KernelAdamFfnIdeal.main_arg10)
      ∧ m' ((c.tc : Thread Cert.ReferenceAdamFfnIdeal.nD Cert.ReferenceAdamFfnIdeal.τ).loc Cert.ReferenceAdamFfnIdeal.main_arg11) = m ((c.tc : Thread Cert.KernelAdamFfnIdeal.nD Cert.KernelAdamFfnIdeal.τ).loc Cert.KernelAdamFfnIdeal.main_arg11)
      ∧ m' ((c.tc : Thread Cert.ReferenceAdamFfnIdeal.nD Cert.ReferenceAdamFfnIdeal.τ).loc Cert.ReferenceAdamFfnIdeal.main_arg12) = m ((c.tc : Thread Cert.KernelAdamFfnIdeal.nD Cert.KernelAdamFfnIdeal.τ).loc Cert.KernelAdamFfnIdeal.main_arg12)) →
    ∃ (v0 : (c : Dev Cert.KernelAdamFfnIdeal.nD) → Buf (Elt Ideal) ((c.tc : Thread Cert.KernelAdamFfnIdeal.nD Cert.KernelAdamFfnIdeal.τ).loc Cert.KernelAdamFfnIdeal.main_v15_0)) (v1 : (c : Dev Cert.KernelAdamFfnIdeal.nD) → Buf (Elt Ideal) ((c.tc : Thread Cert.KernelAdamFfnIdeal.nD Cert.KernelAdamFfnIdeal.τ).loc Cert.KernelAdamFfnIdeal.main_v15_1)) (v2 : (c : Dev Cert.KernelAdamFfnIdeal.nD) → Buf (Elt Ideal) ((c.tc : Thread Cert.KernelAdamFfnIdeal.nD Cert.KernelAdamFfnIdeal.τ).loc Cert.KernelAdamFfnIdeal.main_v15_2)) (v3 : (c : Dev Cert.KernelAdamFfnIdeal.nD) → Buf (Elt Ideal) ((c.tc : Thread Cert.KernelAdamFfnIdeal.nD Cert.KernelAdamFfnIdeal.τ).loc Cert.KernelAdamFfnIdeal.main_v15_3)) (v4 : (c : Dev Cert.KernelAdamFfnIdeal.nD) → Buf (Elt Ideal) ((c.tc : Thread Cert.KernelAdamFfnIdeal.nD Cert.KernelAdamFfnIdeal.τ).loc Cert.KernelAdamFfnIdeal.main_v15_4)) (v5 : (c : Dev Cert.KernelAdamFfnIdeal.nD) → Buf (Elt Ideal) ((c.tc : Thread Cert.KernelAdamFfnIdeal.nD Cert.KernelAdamFfnIdeal.τ).loc Cert.KernelAdamFfnIdeal.main_v15_5)) (v6 : (c : Dev Cert.KernelAdamFfnIdeal.nD) → Buf (Elt Ideal) ((c.tc : Thread Cert.KernelAdamFfnIdeal.nD Cert.KernelAdamFfnIdeal.τ).loc Cert.KernelAdamFfnIdeal.main_v15_6)) (v7 : (c : Dev Cert.KernelAdamFfnIdeal.nD) → Buf (Elt Ideal) ((c.tc : Thread Cert.KernelAdamFfnIdeal.nD Cert.KernelAdamFfnIdeal.τ).loc Cert.KernelAdamFfnIdeal.main_v15_7)) (v8 : (c : Dev Cert.KernelAdamFfnIdeal.nD) → Buf (Elt Ideal) ((c.tc : Thread Cert.KernelAdamFfnIdeal.nD Cert.KernelAdamFfnIdeal.τ).loc Cert.KernelAdamFfnIdeal.main_v15_8)) (v9 : (c : Dev Cert.KernelAdamFfnIdeal.nD) → Buf (Elt Ideal) ((c.tc : Thread Cert.KernelAdamFfnIdeal.nD Cert.KernelAdamFfnIdeal.τ).loc Cert.KernelAdamFfnIdeal.main_v15_9)) (v10 : (c : Dev Cert.KernelAdamFfnIdeal.nD) → Buf (Elt Ideal) ((c.tc : Thread Cert.KernelAdamFfnIdeal.nD Cert.KernelAdamFfnIdeal.τ).loc Cert.KernelAdamFfnIdeal.main_v15_10)) (v11 : (c : Dev Cert.KernelAdamFfnIdeal.nD) → Buf (Elt Ideal) ((c.tc : Thread Cert.KernelAdamFfnIdeal.nD Cert.KernelAdamFfnIdeal.τ).loc Cert.KernelAdamFfnIdeal.main_v15_11)),
      θ_run (Cert.KernelAdamFfnIdeal.defs (F := Ideal)) (onTc (τ := Cert.KernelAdamFfnIdeal.τ) (Cert.KernelAdamFfnIdeal.main (F := Ideal))) ⟨m, fun _ => 0, g⟩ (fun r => ∀ c : Dev Cert.KernelAdamFfnIdeal.nD,
          r.2.mem ((c.tc : Thread Cert.KernelAdamFfnIdeal.nD Cert.KernelAdamFfnIdeal.τ).loc Cert.KernelAdamFfnIdeal.main_v15_0) = v0 c
          ∧ r.2.mem ((c.tc : Thread Cert.KernelAdamFfnIdeal.nD Cert.KernelAdamFfnIdeal.τ).loc Cert.KernelAdamFfnIdeal.main_v15_1) = v1 c
          ∧ r.2.mem ((c.tc : Thread Cert.KernelAdamFfnIdeal.nD Cert.KernelAdamFfnIdeal.τ).loc Cert.KernelAdamFfnIdeal.main_v15_2) = v2 c
          ∧ r.2.mem ((c.tc : Thread Cert.KernelAdamFfnIdeal.nD Cert.KernelAdamFfnIdeal.τ).loc Cert.KernelAdamFfnIdeal.main_v15_3) = v3 c
          ∧ r.2.mem ((c.tc : Thread Cert.KernelAdamFfnIdeal.nD Cert.KernelAdamFfnIdeal.τ).loc Cert.KernelAdamFfnIdeal.main_v15_4) = v4 c
          ∧ r.2.mem ((c.tc : Thread Cert.KernelAdamFfnIdeal.nD Cert.KernelAdamFfnIdeal.τ).loc Cert.KernelAdamFfnIdeal.main_v15_5) = v5 c
          ∧ r.2.mem ((c.tc : Thread Cert.KernelAdamFfnIdeal.nD Cert.KernelAdamFfnIdeal.τ).loc Cert.KernelAdamFfnIdeal.main_v15_6) = v6 c
          ∧ r.2.mem ((c.tc : Thread Cert.KernelAdamFfnIdeal.nD Cert.KernelAdamFfnIdeal.τ).loc Cert.KernelAdamFfnIdeal.main_v15_7) = v7 c
          ∧ r.2.mem ((c.tc : Thread Cert.KernelAdamFfnIdeal.nD Cert.KernelAdamFfnIdeal.τ).loc Cert.KernelAdamFfnIdeal.main_v15_8) = v8 c
          ∧ r.2.mem ((c.tc : Thread Cert.KernelAdamFfnIdeal.nD Cert.KernelAdamFfnIdeal.τ).loc Cert.KernelAdamFfnIdeal.main_v15_9) = v9 c
          ∧ r.2.mem ((c.tc : Thread Cert.KernelAdamFfnIdeal.nD Cert.KernelAdamFfnIdeal.τ).loc Cert.KernelAdamFfnIdeal.main_v15_10) = v10 c
          ∧ r.2.mem ((c.tc : Thread Cert.KernelAdamFfnIdeal.nD Cert.KernelAdamFfnIdeal.τ).loc Cert.KernelAdamFfnIdeal.main_v15_11) = v11 c
          ∧ r.2.mem ((c.tc : Thread Cert.KernelAdamFfnIdeal.nD Cert.KernelAdamFfnIdeal.τ).loc Cert.KernelAdamFfnIdeal.main_arg0) = m ((c.tc : Thread Cert.KernelAdamFfnIdeal.nD Cert.KernelAdamFfnIdeal.τ).loc Cert.KernelAdamFfnIdeal.main_arg0)
          ∧ r.2.mem ((c.tc : Thread Cert.KernelAdamFfnIdeal.nD Cert.KernelAdamFfnIdeal.τ).loc Cert.KernelAdamFfnIdeal.main_arg1) = m ((c.tc : Thread Cert.KernelAdamFfnIdeal.nD Cert.KernelAdamFfnIdeal.τ).loc Cert.KernelAdamFfnIdeal.main_arg1)
          ∧ r.2.mem ((c.tc : Thread Cert.KernelAdamFfnIdeal.nD Cert.KernelAdamFfnIdeal.τ).loc Cert.KernelAdamFfnIdeal.main_arg2) = m ((c.tc : Thread Cert.KernelAdamFfnIdeal.nD Cert.KernelAdamFfnIdeal.τ).loc Cert.KernelAdamFfnIdeal.main_arg2)
          ∧ r.2.mem ((c.tc : Thread Cert.KernelAdamFfnIdeal.nD Cert.KernelAdamFfnIdeal.τ).loc Cert.KernelAdamFfnIdeal.main_arg3) = m ((c.tc : Thread Cert.KernelAdamFfnIdeal.nD Cert.KernelAdamFfnIdeal.τ).loc Cert.KernelAdamFfnIdeal.main_arg3)
          ∧ r.2.mem ((c.tc : Thread Cert.KernelAdamFfnIdeal.nD Cert.KernelAdamFfnIdeal.τ).loc Cert.KernelAdamFfnIdeal.main_arg4) = m ((c.tc : Thread Cert.KernelAdamFfnIdeal.nD Cert.KernelAdamFfnIdeal.τ).loc Cert.KernelAdamFfnIdeal.main_arg4)
          ∧ r.2.mem ((c.tc : Thread Cert.KernelAdamFfnIdeal.nD Cert.KernelAdamFfnIdeal.τ).loc Cert.KernelAdamFfnIdeal.main_arg5) = m ((c.tc : Thread Cert.KernelAdamFfnIdeal.nD Cert.KernelAdamFfnIdeal.τ).loc Cert.KernelAdamFfnIdeal.main_arg5)
          ∧ r.2.mem ((c.tc : Thread Cert.KernelAdamFfnIdeal.nD Cert.KernelAdamFfnIdeal.τ).loc Cert.KernelAdamFfnIdeal.main_arg6) = m ((c.tc : Thread Cert.KernelAdamFfnIdeal.nD Cert.KernelAdamFfnIdeal.τ).loc Cert.KernelAdamFfnIdeal.main_arg6)
          ∧ r.2.mem ((c.tc : Thread Cert.KernelAdamFfnIdeal.nD Cert.KernelAdamFfnIdeal.τ).loc Cert.KernelAdamFfnIdeal.main_arg7) = m ((c.tc : Thread Cert.KernelAdamFfnIdeal.nD Cert.KernelAdamFfnIdeal.τ).loc Cert.KernelAdamFfnIdeal.main_arg7)
          ∧ r.2.mem ((c.tc : Thread Cert.KernelAdamFfnIdeal.nD Cert.KernelAdamFfnIdeal.τ).loc Cert.KernelAdamFfnIdeal.main_arg8) = m ((c.tc : Thread Cert.KernelAdamFfnIdeal.nD Cert.KernelAdamFfnIdeal.τ).loc Cert.KernelAdamFfnIdeal.main_arg8)
          ∧ r.2.mem ((c.tc : Thread Cert.KernelAdamFfnIdeal.nD Cert.KernelAdamFfnIdeal.τ).loc Cert.KernelAdamFfnIdeal.main_arg9) = m ((c.tc : Thread Cert.KernelAdamFfnIdeal.nD Cert.KernelAdamFfnIdeal.τ).loc Cert.KernelAdamFfnIdeal.main_arg9)
          ∧ r.2.mem ((c.tc : Thread Cert.KernelAdamFfnIdeal.nD Cert.KernelAdamFfnIdeal.τ).loc Cert.KernelAdamFfnIdeal.main_arg10) = m ((c.tc : Thread Cert.KernelAdamFfnIdeal.nD Cert.KernelAdamFfnIdeal.τ).loc Cert.KernelAdamFfnIdeal.main_arg10)
          ∧ r.2.mem ((c.tc : Thread Cert.KernelAdamFfnIdeal.nD Cert.KernelAdamFfnIdeal.τ).loc Cert.KernelAdamFfnIdeal.main_arg11) = m ((c.tc : Thread Cert.KernelAdamFfnIdeal.nD Cert.KernelAdamFfnIdeal.τ).loc Cert.KernelAdamFfnIdeal.main_arg11)
          ∧ r.2.mem ((c.tc : Thread Cert.KernelAdamFfnIdeal.nD Cert.KernelAdamFfnIdeal.τ).loc Cert.KernelAdamFfnIdeal.main_arg12) = m ((c.tc : Thread Cert.KernelAdamFfnIdeal.nD Cert.KernelAdamFfnIdeal.τ).loc Cert.KernelAdamFfnIdeal.main_arg12))
      ∧ θ_run (Cert.ReferenceAdamFfnIdeal.defs (F := Ideal)) (onTc (τ := Cert.ReferenceAdamFfnIdeal.τ) (Cert.ReferenceAdamFfnIdeal.main (F := Ideal))) ⟨m', fun _ => 0, g'⟩ (fun r => ∀ c : Dev Cert.ReferenceAdamFfnIdeal.nD,
          r.2.mem ((c.tc : Thread Cert.ReferenceAdamFfnIdeal.nD Cert.ReferenceAdamFfnIdeal.τ).loc Cert.ReferenceAdamFfnIdeal.main_arg3) = v0 c
          ∧ r.2.mem ((c.tc : Thread Cert.ReferenceAdamFfnIdeal.nD Cert.ReferenceAdamFfnIdeal.τ).loc Cert.ReferenceAdamFfnIdeal.main_v29) = v1 c
          ∧ r.2.mem ((c.tc : Thread Cert.ReferenceAdamFfnIdeal.nD Cert.ReferenceAdamFfnIdeal.τ).loc Cert.ReferenceAdamFfnIdeal.main_v10) = v2 c
          ∧ r.2.mem ((c.tc : Thread Cert.ReferenceAdamFfnIdeal.nD Cert.ReferenceAdamFfnIdeal.τ).loc Cert.ReferenceAdamFfnIdeal.main_v16) = v3 c
          ∧ r.2.mem ((c.tc : Thread Cert.ReferenceAdamFfnIdeal.nD Cert.ReferenceAdamFfnIdeal.τ).loc Cert.ReferenceAdamFfnIdeal.main_arg4) = v4 c
          ∧ r.2.mem ((c.tc : Thread Cert.ReferenceAdamFfnIdeal.nD Cert.ReferenceAdamFfnIdeal.τ).loc Cert.ReferenceAdamFfnIdeal.main_v59) = v5 c
          ∧ r.2.mem ((c.tc : Thread Cert.ReferenceAdamFfnIdeal.nD Cert.ReferenceAdamFfnIdeal.τ).loc Cert.ReferenceAdamFfnIdeal.main_v40) = v6 c
          ∧ r.2.mem ((c.tc : Thread Cert.ReferenceAdamFfnIdeal.nD Cert.ReferenceAdamFfnIdeal.τ).loc Cert.ReferenceAdamFfnIdeal.main_v46) = v7 c
          ∧ r.2.mem ((c.tc : Thread Cert.ReferenceAdamFfnIdeal.nD Cert.ReferenceAdamFfnIdeal.τ).loc Cert.ReferenceAdamFfnIdeal.main_arg5) = v8 c
          ∧ r.2.mem ((c.tc : Thread Cert.ReferenceAdamFfnIdeal.nD Cert.ReferenceAdamFfnIdeal.τ).loc Cert.ReferenceAdamFfnIdeal.main_v86) = v9 c
          ∧ r.2.mem ((c.tc : Thread Cert.ReferenceAdamFfnIdeal.nD Cert.ReferenceAdamFfnIdeal.τ).loc Cert.ReferenceAdamFfnIdeal.main_v67) = v10 c
          ∧ r.2.mem ((c.tc : Thread Cert.ReferenceAdamFfnIdeal.nD Cert.ReferenceAdamFfnIdeal.τ).loc Cert.ReferenceAdamFfnIdeal.main_v73) = v11 c
          ∧ r.2.mem ((c.tc : Thread Cert.ReferenceAdamFfnIdeal.nD Cert.ReferenceAdamFfnIdeal.τ).loc Cert.ReferenceAdamFfnIdeal.main_arg0) = m' ((c.tc : Thread Cert.ReferenceAdamFfnIdeal.nD Cert.ReferenceAdamFfnIdeal.τ).loc Cert.ReferenceAdamFfnIdeal.main_arg0)
          ∧ r.2.mem ((c.tc : Thread Cert.ReferenceAdamFfnIdeal.nD Cert.ReferenceAdamFfnIdeal.τ).loc Cert.ReferenceAdamFfnIdeal.main_arg1) = m' ((c.tc : Thread Cert.ReferenceAdamFfnIdeal.nD Cert.ReferenceAdamFfnIdeal.τ).loc Cert.ReferenceAdamFfnIdeal.main_arg1)
          ∧ r.2.mem ((c.tc : Thread Cert.ReferenceAdamFfnIdeal.nD Cert.ReferenceAdamFfnIdeal.τ).loc Cert.ReferenceAdamFfnIdeal.main_arg2) = m' ((c.tc : Thread Cert.ReferenceAdamFfnIdeal.nD Cert.ReferenceAdamFfnIdeal.τ).loc Cert.ReferenceAdamFfnIdeal.main_arg2)
          ∧ r.2.mem ((c.tc : Thread Cert.ReferenceAdamFfnIdeal.nD Cert.ReferenceAdamFfnIdeal.τ).loc Cert.ReferenceAdamFfnIdeal.main_arg3) = m' ((c.tc : Thread Cert.ReferenceAdamFfnIdeal.nD Cert.ReferenceAdamFfnIdeal.τ).loc Cert.ReferenceAdamFfnIdeal.main_arg3)
          ∧ r.2.mem ((c.tc : Thread Cert.ReferenceAdamFfnIdeal.nD Cert.ReferenceAdamFfnIdeal.τ).loc Cert.ReferenceAdamFfnIdeal.main_arg4) = m' ((c.tc : Thread Cert.ReferenceAdamFfnIdeal.nD Cert.ReferenceAdamFfnIdeal.τ).loc Cert.ReferenceAdamFfnIdeal.main_arg4)
          ∧ r.2.mem ((c.tc : Thread Cert.ReferenceAdamFfnIdeal.nD Cert.ReferenceAdamFfnIdeal.τ).loc Cert.ReferenceAdamFfnIdeal.main_arg5) = m' ((c.tc : Thread Cert.ReferenceAdamFfnIdeal.nD Cert.ReferenceAdamFfnIdeal.τ).loc Cert.ReferenceAdamFfnIdeal.main_arg5)
          ∧ r.2.mem ((c.tc : Thread Cert.ReferenceAdamFfnIdeal.nD Cert.ReferenceAdamFfnIdeal.τ).loc Cert.ReferenceAdamFfnIdeal.main_arg6) = m' ((c.tc : Thread Cert.ReferenceAdamFfnIdeal.nD Cert.ReferenceAdamFfnIdeal.τ).loc Cert.ReferenceAdamFfnIdeal.main_arg6)
          ∧ r.2.mem ((c.tc : Thread Cert.ReferenceAdamFfnIdeal.nD Cert.ReferenceAdamFfnIdeal.τ).loc Cert.ReferenceAdamFfnIdeal.main_arg7) = m' ((c.tc : Thread Cert.ReferenceAdamFfnIdeal.nD Cert.ReferenceAdamFfnIdeal.τ).loc Cert.ReferenceAdamFfnIdeal.main_arg7)
          ∧ r.2.mem ((c.tc : Thread Cert.ReferenceAdamFfnIdeal.nD Cert.ReferenceAdamFfnIdeal.τ).loc Cert.ReferenceAdamFfnIdeal.main_arg8) = m' ((c.tc : Thread Cert.ReferenceAdamFfnIdeal.nD Cert.ReferenceAdamFfnIdeal.τ).loc Cert.ReferenceAdamFfnIdeal.main_arg8)
          ∧ r.2.mem ((c.tc : Thread Cert.ReferenceAdamFfnIdeal.nD Cert.ReferenceAdamFfnIdeal.τ).loc Cert.ReferenceAdamFfnIdeal.main_arg9) = m' ((c.tc : Thread Cert.ReferenceAdamFfnIdeal.nD Cert.ReferenceAdamFfnIdeal.τ).loc Cert.ReferenceAdamFfnIdeal.main_arg9)
          ∧ r.2.mem ((c.tc : Thread Cert.ReferenceAdamFfnIdeal.nD Cert.ReferenceAdamFfnIdeal.τ).loc Cert.ReferenceAdamFfnIdeal.main_arg10) = m' ((c.tc : Thread Cert.ReferenceAdamFfnIdeal.nD Cert.ReferenceAdamFfnIdeal.τ).loc Cert.ReferenceAdamFfnIdeal.main_arg10)
          ∧ r.2.mem ((c.tc : Thread Cert.ReferenceAdamFfnIdeal.nD Cert.ReferenceAdamFfnIdeal.τ).loc Cert.ReferenceAdamFfnIdeal.main_arg11) = m' ((c.tc : Thread Cert.ReferenceAdamFfnIdeal.nD Cert.ReferenceAdamFfnIdeal.τ).loc Cert.ReferenceAdamFfnIdeal.main_arg11)
          ∧ r.2.mem ((c.tc : Thread Cert.ReferenceAdamFfnIdeal.nD Cert.ReferenceAdamFfnIdeal.τ).loc Cert.ReferenceAdamFfnIdeal.main_arg12) = m' ((c.tc : Thread Cert.ReferenceAdamFfnIdeal.nD Cert.ReferenceAdamFfnIdeal.τ).loc Cert.ReferenceAdamFfnIdeal.main_arg12))

def preserves_KernelAdamMix_KernelAdamMixIdeal : Prop :=
  True

def algebraic_KernelAdamMixIdeal_ReferenceAdamMixIdeal [hKernelAdamMixIdeal : Cert.KernelAdamMixIdeal.Facts] [hReferenceAdamMixIdeal : Cert.ReferenceAdamMixIdeal.Facts] : Prop :=
  ∀ (m : (ℓ : Loc Cert.KernelAdamMixIdeal.nD Cert.KernelAdamMixIdeal.τ Cert.KernelAdamMixIdeal.sig) → Buf (Elt Ideal) ℓ) (g : Dev Cert.KernelAdamMixIdeal.nD → PrngReg)
    (m' : (ℓ : Loc Cert.ReferenceAdamMixIdeal.nD Cert.ReferenceAdamMixIdeal.τ Cert.ReferenceAdamMixIdeal.sig) → Buf (Elt Ideal) ℓ) (g' : Dev Cert.ReferenceAdamMixIdeal.nD → PrngReg), Pre_KernelAdamMixIdeal m →
    (∀ c : Dev Cert.KernelAdamMixIdeal.nD,
      m' ((c.tc : Thread Cert.ReferenceAdamMixIdeal.nD Cert.ReferenceAdamMixIdeal.τ).loc Cert.ReferenceAdamMixIdeal.main_arg0) = m ((c.tc : Thread Cert.KernelAdamMixIdeal.nD Cert.KernelAdamMixIdeal.τ).loc Cert.KernelAdamMixIdeal.main_arg0)
      ∧ m' ((c.tc : Thread Cert.ReferenceAdamMixIdeal.nD Cert.ReferenceAdamMixIdeal.τ).loc Cert.ReferenceAdamMixIdeal.main_arg1) = m ((c.tc : Thread Cert.KernelAdamMixIdeal.nD Cert.KernelAdamMixIdeal.τ).loc Cert.KernelAdamMixIdeal.main_arg1)
      ∧ m' ((c.tc : Thread Cert.ReferenceAdamMixIdeal.nD Cert.ReferenceAdamMixIdeal.τ).loc Cert.ReferenceAdamMixIdeal.main_arg2) = m ((c.tc : Thread Cert.KernelAdamMixIdeal.nD Cert.KernelAdamMixIdeal.τ).loc Cert.KernelAdamMixIdeal.main_arg2)
      ∧ m' ((c.tc : Thread Cert.ReferenceAdamMixIdeal.nD Cert.ReferenceAdamMixIdeal.τ).loc Cert.ReferenceAdamMixIdeal.main_arg3) = m ((c.tc : Thread Cert.KernelAdamMixIdeal.nD Cert.KernelAdamMixIdeal.τ).loc Cert.KernelAdamMixIdeal.main_arg3)
      ∧ m' ((c.tc : Thread Cert.ReferenceAdamMixIdeal.nD Cert.ReferenceAdamMixIdeal.τ).loc Cert.ReferenceAdamMixIdeal.main_arg4) = m ((c.tc : Thread Cert.KernelAdamMixIdeal.nD Cert.KernelAdamMixIdeal.τ).loc Cert.KernelAdamMixIdeal.main_arg4)
      ∧ m' ((c.tc : Thread Cert.ReferenceAdamMixIdeal.nD Cert.ReferenceAdamMixIdeal.τ).loc Cert.ReferenceAdamMixIdeal.main_arg5) = m ((c.tc : Thread Cert.KernelAdamMixIdeal.nD Cert.KernelAdamMixIdeal.τ).loc Cert.KernelAdamMixIdeal.main_arg5)
      ∧ m' ((c.tc : Thread Cert.ReferenceAdamMixIdeal.nD Cert.ReferenceAdamMixIdeal.τ).loc Cert.ReferenceAdamMixIdeal.main_arg6) = m ((c.tc : Thread Cert.KernelAdamMixIdeal.nD Cert.KernelAdamMixIdeal.τ).loc Cert.KernelAdamMixIdeal.main_arg6)
      ∧ m' ((c.tc : Thread Cert.ReferenceAdamMixIdeal.nD Cert.ReferenceAdamMixIdeal.τ).loc Cert.ReferenceAdamMixIdeal.main_arg7) = m ((c.tc : Thread Cert.KernelAdamMixIdeal.nD Cert.KernelAdamMixIdeal.τ).loc Cert.KernelAdamMixIdeal.main_arg7)) →
    ∃ (v0 : (c : Dev Cert.KernelAdamMixIdeal.nD) → Buf (Elt Ideal) ((c.tc : Thread Cert.KernelAdamMixIdeal.nD Cert.KernelAdamMixIdeal.τ).loc Cert.KernelAdamMixIdeal.main_v6_0)) (v1 : (c : Dev Cert.KernelAdamMixIdeal.nD) → Buf (Elt Ideal) ((c.tc : Thread Cert.KernelAdamMixIdeal.nD Cert.KernelAdamMixIdeal.τ).loc Cert.KernelAdamMixIdeal.main_v6_1)) (v2 : (c : Dev Cert.KernelAdamMixIdeal.nD) → Buf (Elt Ideal) ((c.tc : Thread Cert.KernelAdamMixIdeal.nD Cert.KernelAdamMixIdeal.τ).loc Cert.KernelAdamMixIdeal.main_v6_2)) (v3 : (c : Dev Cert.KernelAdamMixIdeal.nD) → Buf (Elt Ideal) ((c.tc : Thread Cert.KernelAdamMixIdeal.nD Cert.KernelAdamMixIdeal.τ).loc Cert.KernelAdamMixIdeal.main_v6_3)) (v4 : (c : Dev Cert.KernelAdamMixIdeal.nD) → Buf (Elt Ideal) ((c.tc : Thread Cert.KernelAdamMixIdeal.nD Cert.KernelAdamMixIdeal.τ).loc Cert.KernelAdamMixIdeal.main_v6_4)) (v5 : (c : Dev Cert.KernelAdamMixIdeal.nD) → Buf (Elt Ideal) ((c.tc : Thread Cert.KernelAdamMixIdeal.nD Cert.KernelAdamMixIdeal.τ).loc Cert.KernelAdamMixIdeal.main_v6_5)) (v6 : (c : Dev Cert.KernelAdamMixIdeal.nD) → Buf (Elt Ideal) ((c.tc : Thread Cert.KernelAdamMixIdeal.nD Cert.KernelAdamMixIdeal.τ).loc Cert.KernelAdamMixIdeal.main_v6_6)) (v7 : (c : Dev Cert.KernelAdamMixIdeal.nD) → Buf (Elt Ideal) ((c.tc : Thread Cert.KernelAdamMixIdeal.nD Cert.KernelAdamMixIdeal.τ).loc Cert.KernelAdamMixIdeal.main_v6_7)),
      θ_run (Cert.KernelAdamMixIdeal.defs (F := Ideal)) (onTc (τ := Cert.KernelAdamMixIdeal.τ) (Cert.KernelAdamMixIdeal.main (F := Ideal))) ⟨m, fun _ => 0, g⟩ (fun r => ∀ c : Dev Cert.KernelAdamMixIdeal.nD,
          r.2.mem ((c.tc : Thread Cert.KernelAdamMixIdeal.nD Cert.KernelAdamMixIdeal.τ).loc Cert.KernelAdamMixIdeal.main_v6_0) = v0 c
          ∧ r.2.mem ((c.tc : Thread Cert.KernelAdamMixIdeal.nD Cert.KernelAdamMixIdeal.τ).loc Cert.KernelAdamMixIdeal.main_v6_1) = v1 c
          ∧ r.2.mem ((c.tc : Thread Cert.KernelAdamMixIdeal.nD Cert.KernelAdamMixIdeal.τ).loc Cert.KernelAdamMixIdeal.main_v6_2) = v2 c
          ∧ r.2.mem ((c.tc : Thread Cert.KernelAdamMixIdeal.nD Cert.KernelAdamMixIdeal.τ).loc Cert.KernelAdamMixIdeal.main_v6_3) = v3 c
          ∧ r.2.mem ((c.tc : Thread Cert.KernelAdamMixIdeal.nD Cert.KernelAdamMixIdeal.τ).loc Cert.KernelAdamMixIdeal.main_v6_4) = v4 c
          ∧ r.2.mem ((c.tc : Thread Cert.KernelAdamMixIdeal.nD Cert.KernelAdamMixIdeal.τ).loc Cert.KernelAdamMixIdeal.main_v6_5) = v5 c
          ∧ r.2.mem ((c.tc : Thread Cert.KernelAdamMixIdeal.nD Cert.KernelAdamMixIdeal.τ).loc Cert.KernelAdamMixIdeal.main_v6_6) = v6 c
          ∧ r.2.mem ((c.tc : Thread Cert.KernelAdamMixIdeal.nD Cert.KernelAdamMixIdeal.τ).loc Cert.KernelAdamMixIdeal.main_v6_7) = v7 c
          ∧ r.2.mem ((c.tc : Thread Cert.KernelAdamMixIdeal.nD Cert.KernelAdamMixIdeal.τ).loc Cert.KernelAdamMixIdeal.main_arg0) = m ((c.tc : Thread Cert.KernelAdamMixIdeal.nD Cert.KernelAdamMixIdeal.τ).loc Cert.KernelAdamMixIdeal.main_arg0)
          ∧ r.2.mem ((c.tc : Thread Cert.KernelAdamMixIdeal.nD Cert.KernelAdamMixIdeal.τ).loc Cert.KernelAdamMixIdeal.main_arg1) = m ((c.tc : Thread Cert.KernelAdamMixIdeal.nD Cert.KernelAdamMixIdeal.τ).loc Cert.KernelAdamMixIdeal.main_arg1)
          ∧ r.2.mem ((c.tc : Thread Cert.KernelAdamMixIdeal.nD Cert.KernelAdamMixIdeal.τ).loc Cert.KernelAdamMixIdeal.main_arg2) = m ((c.tc : Thread Cert.KernelAdamMixIdeal.nD Cert.KernelAdamMixIdeal.τ).loc Cert.KernelAdamMixIdeal.main_arg2)
          ∧ r.2.mem ((c.tc : Thread Cert.KernelAdamMixIdeal.nD Cert.KernelAdamMixIdeal.τ).loc Cert.KernelAdamMixIdeal.main_arg3) = m ((c.tc : Thread Cert.KernelAdamMixIdeal.nD Cert.KernelAdamMixIdeal.τ).loc Cert.KernelAdamMixIdeal.main_arg3)
          ∧ r.2.mem ((c.tc : Thread Cert.KernelAdamMixIdeal.nD Cert.KernelAdamMixIdeal.τ).loc Cert.KernelAdamMixIdeal.main_arg4) = m ((c.tc : Thread Cert.KernelAdamMixIdeal.nD Cert.KernelAdamMixIdeal.τ).loc Cert.KernelAdamMixIdeal.main_arg4)
          ∧ r.2.mem ((c.tc : Thread Cert.KernelAdamMixIdeal.nD Cert.KernelAdamMixIdeal.τ).loc Cert.KernelAdamMixIdeal.main_arg5) = m ((c.tc : Thread Cert.KernelAdamMixIdeal.nD Cert.KernelAdamMixIdeal.τ).loc Cert.KernelAdamMixIdeal.main_arg5)
          ∧ r.2.mem ((c.tc : Thread Cert.KernelAdamMixIdeal.nD Cert.KernelAdamMixIdeal.τ).loc Cert.KernelAdamMixIdeal.main_arg6) = m ((c.tc : Thread Cert.KernelAdamMixIdeal.nD Cert.KernelAdamMixIdeal.τ).loc Cert.KernelAdamMixIdeal.main_arg6)
          ∧ r.2.mem ((c.tc : Thread Cert.KernelAdamMixIdeal.nD Cert.KernelAdamMixIdeal.τ).loc Cert.KernelAdamMixIdeal.main_arg7) = m ((c.tc : Thread Cert.KernelAdamMixIdeal.nD Cert.KernelAdamMixIdeal.τ).loc Cert.KernelAdamMixIdeal.main_arg7))
      ∧ θ_run (Cert.ReferenceAdamMixIdeal.defs (F := Ideal)) (onTc (τ := Cert.ReferenceAdamMixIdeal.τ) (Cert.ReferenceAdamMixIdeal.main (F := Ideal))) ⟨m', fun _ => 0, g'⟩ (fun r => ∀ c : Dev Cert.ReferenceAdamMixIdeal.nD,
          r.2.mem ((c.tc : Thread Cert.ReferenceAdamMixIdeal.nD Cert.ReferenceAdamMixIdeal.τ).loc Cert.ReferenceAdamMixIdeal.main_arg2) = v0 c
          ∧ r.2.mem ((c.tc : Thread Cert.ReferenceAdamMixIdeal.nD Cert.ReferenceAdamMixIdeal.τ).loc Cert.ReferenceAdamMixIdeal.main_v26) = v1 c
          ∧ r.2.mem ((c.tc : Thread Cert.ReferenceAdamMixIdeal.nD Cert.ReferenceAdamMixIdeal.τ).loc Cert.ReferenceAdamMixIdeal.main_v7) = v2 c
          ∧ r.2.mem ((c.tc : Thread Cert.ReferenceAdamMixIdeal.nD Cert.ReferenceAdamMixIdeal.τ).loc Cert.ReferenceAdamMixIdeal.main_v13) = v3 c
          ∧ r.2.mem ((c.tc : Thread Cert.ReferenceAdamMixIdeal.nD Cert.ReferenceAdamMixIdeal.τ).loc Cert.ReferenceAdamMixIdeal.main_arg3) = v4 c
          ∧ r.2.mem ((c.tc : Thread Cert.ReferenceAdamMixIdeal.nD Cert.ReferenceAdamMixIdeal.τ).loc Cert.ReferenceAdamMixIdeal.main_v53) = v5 c
          ∧ r.2.mem ((c.tc : Thread Cert.ReferenceAdamMixIdeal.nD Cert.ReferenceAdamMixIdeal.τ).loc Cert.ReferenceAdamMixIdeal.main_v34) = v6 c
          ∧ r.2.mem ((c.tc : Thread Cert.ReferenceAdamMixIdeal.nD Cert.ReferenceAdamMixIdeal.τ).loc Cert.ReferenceAdamMixIdeal.main_v40) = v7 c
          ∧ r.2.mem ((c.tc : Thread Cert.ReferenceAdamMixIdeal.nD Cert.ReferenceAdamMixIdeal.τ).loc Cert.ReferenceAdamMixIdeal.main_arg0) = m' ((c.tc : Thread Cert.ReferenceAdamMixIdeal.nD Cert.ReferenceAdamMixIdeal.τ).loc Cert.ReferenceAdamMixIdeal.main_arg0)
          ∧ r.2.mem ((c.tc : Thread Cert.ReferenceAdamMixIdeal.nD Cert.ReferenceAdamMixIdeal.τ).loc Cert.ReferenceAdamMixIdeal.main_arg1) = m' ((c.tc : Thread Cert.ReferenceAdamMixIdeal.nD Cert.ReferenceAdamMixIdeal.τ).loc Cert.ReferenceAdamMixIdeal.main_arg1)
          ∧ r.2.mem ((c.tc : Thread Cert.ReferenceAdamMixIdeal.nD Cert.ReferenceAdamMixIdeal.τ).loc Cert.ReferenceAdamMixIdeal.main_arg2) = m' ((c.tc : Thread Cert.ReferenceAdamMixIdeal.nD Cert.ReferenceAdamMixIdeal.τ).loc Cert.ReferenceAdamMixIdeal.main_arg2)
          ∧ r.2.mem ((c.tc : Thread Cert.ReferenceAdamMixIdeal.nD Cert.ReferenceAdamMixIdeal.τ).loc Cert.ReferenceAdamMixIdeal.main_arg3) = m' ((c.tc : Thread Cert.ReferenceAdamMixIdeal.nD Cert.ReferenceAdamMixIdeal.τ).loc Cert.ReferenceAdamMixIdeal.main_arg3)
          ∧ r.2.mem ((c.tc : Thread Cert.ReferenceAdamMixIdeal.nD Cert.ReferenceAdamMixIdeal.τ).loc Cert.ReferenceAdamMixIdeal.main_arg4) = m' ((c.tc : Thread Cert.ReferenceAdamMixIdeal.nD Cert.ReferenceAdamMixIdeal.τ).loc Cert.ReferenceAdamMixIdeal.main_arg4)
          ∧ r.2.mem ((c.tc : Thread Cert.ReferenceAdamMixIdeal.nD Cert.ReferenceAdamMixIdeal.τ).loc Cert.ReferenceAdamMixIdeal.main_arg5) = m' ((c.tc : Thread Cert.ReferenceAdamMixIdeal.nD Cert.ReferenceAdamMixIdeal.τ).loc Cert.ReferenceAdamMixIdeal.main_arg5)
          ∧ r.2.mem ((c.tc : Thread Cert.ReferenceAdamMixIdeal.nD Cert.ReferenceAdamMixIdeal.τ).loc Cert.ReferenceAdamMixIdeal.main_arg6) = m' ((c.tc : Thread Cert.ReferenceAdamMixIdeal.nD Cert.ReferenceAdamMixIdeal.τ).loc Cert.ReferenceAdamMixIdeal.main_arg6)
          ∧ r.2.mem ((c.tc : Thread Cert.ReferenceAdamMixIdeal.nD Cert.ReferenceAdamMixIdeal.τ).loc Cert.ReferenceAdamMixIdeal.main_arg7) = m' ((c.tc : Thread Cert.ReferenceAdamMixIdeal.nD Cert.ReferenceAdamMixIdeal.τ).loc Cert.ReferenceAdamMixIdeal.main_arg7))

def Claim : Prop :=
  ∃ (hKernel : Cert.Kernel.Facts) (hKernelIdeal : Cert.KernelIdeal.Facts) (hReferenceIdeal : Cert.ReferenceIdeal.Facts) (hKernelGateUp : Cert.KernelGateUp.Facts) (hKernelGateUpIdeal : Cert.KernelGateUpIdeal.Facts) (hReferenceGateUpIdeal : Cert.ReferenceGateUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelUp : Cert.KernelUp.Facts) (hKernelUpIdeal : Cert.KernelUpIdeal.Facts) (hReferenceUpIdeal : Cert.ReferenceUpIdeal.Facts) (hKernelAct : Cert.KernelAct.Facts) (hKernelActIdeal : Cert.KernelActIdeal.Facts) (hReferenceActIdeal : Cert.ReferenceActIdeal.Facts) (hKernelMmIn : Cert.KernelMmIn.Facts) (hKernelMmInIdeal : Cert.KernelMmInIdeal.Facts) (hReferenceMmInIdeal : Cert.ReferenceMmInIdeal.Facts) (hKernelMmOut : Cert.KernelMmOut.Facts) (hKernelMmOutIdeal : Cert.KernelMmOutIdeal.Facts) (hReferenceMmOutIdeal : Cert.ReferenceMmOutIdeal.Facts) (hKernelFfnDown : Cert.KernelFfnDown.Facts) (hKernelFfnDownIdeal : Cert.KernelFfnDownIdeal.Facts) (hReferenceFfnDownIdeal : Cert.ReferenceFfnDownIdeal.Facts) (hKernelBwdIn : Cert.KernelBwdIn.Facts) (hKernelBwdInIdeal : Cert.KernelBwdInIdeal.Facts) (hReferenceBwdInIdeal : Cert.ReferenceBwdInIdeal.Facts) (hKernelMixOut : Cert.KernelMixOut.Facts) (hKernelMixOutIdeal : Cert.KernelMixOutIdeal.Facts) (hReferenceMixOutIdeal : Cert.ReferenceMixOutIdeal.Facts) (hKernelMixIn : Cert.KernelMixIn.Facts) (hKernelMixInIdeal : Cert.KernelMixInIdeal.Facts) (hReferenceMixInIdeal : Cert.ReferenceMixInIdeal.Facts) (hKernelAdamFfn : Cert.KernelAdamFfn.Facts) (hKernelAdamFfnIdeal : Cert.KernelAdamFfnIdeal.Facts) (hReferenceAdamFfnIdeal : Cert.ReferenceAdamFfnIdeal.Facts) (hKernelAdamMix : Cert.KernelAdamMix.Facts) (hKernelAdamMixIdeal : Cert.KernelAdamMixIdeal.Facts) (hReferenceAdamMixIdeal : Cert.ReferenceAdamMixIdeal.Facts) (hPre_finite_up : Cert.Pre_finite_up.Facts) (hPre_finite_act : Cert.Pre_finite_act.Facts) (hPre_finite_ffn_down : Cert.Pre_finite_ffn_down.Facts) (hPre_finite_bwd_in : Cert.Pre_finite_bwd_in.Facts) (hPre_finite_mix_out : Cert.Pre_finite_mix_out.Facts) (hPre_finite_mix_in : Cert.Pre_finite_mix_in.Facts),
    quiescent_Kernel (hKernel := hKernel)
    ∧ quiescent_KernelIdeal (hKernelIdeal := hKernelIdeal)
    ∧ quiescent_ReferenceIdeal (hReferenceIdeal := hReferenceIdeal)
    ∧ quiescent_KernelGateUp (hKernelGateUp := hKernelGateUp)
    ∧ quiescent_KernelGateUpIdeal (hKernelGateUpIdeal := hKernelGateUpIdeal)
    ∧ quiescent_ReferenceGateUpIdeal (hReferenceGateUpIdeal := hReferenceGateUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelUp (hKernelUp := hKernelUp)
    ∧ quiescent_KernelUpIdeal (hKernelUpIdeal := hKernelUpIdeal)
    ∧ quiescent_KernelUpIdeal_pre_finite_up (hKernelUpIdeal := hKernelUpIdeal) (hPre_finite_up := hPre_finite_up)
    ∧ quiescent_ReferenceUpIdeal (hReferenceUpIdeal := hReferenceUpIdeal)
    ∧ quiescent_ReferenceUpIdeal_pre_finite_up (hReferenceUpIdeal := hReferenceUpIdeal) (hPre_finite_up := hPre_finite_up)
    ∧ quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelMmIn (hKernelMmIn := hKernelMmIn)
    ∧ quiescent_KernelMmInIdeal (hKernelMmInIdeal := hKernelMmInIdeal)
    ∧ quiescent_ReferenceMmInIdeal (hReferenceMmInIdeal := hReferenceMmInIdeal)
    ∧ quiescent_KernelMmOut (hKernelMmOut := hKernelMmOut)
    ∧ quiescent_KernelMmOutIdeal (hKernelMmOutIdeal := hKernelMmOutIdeal)
    ∧ quiescent_ReferenceMmOutIdeal (hReferenceMmOutIdeal := hReferenceMmOutIdeal)
    ∧ quiescent_KernelFfnDown (hKernelFfnDown := hKernelFfnDown)
    ∧ quiescent_KernelFfnDownIdeal (hKernelFfnDownIdeal := hKernelFfnDownIdeal)
    ∧ quiescent_KernelFfnDownIdeal_pre_finite_ffn_down (hKernelFfnDownIdeal := hKernelFfnDownIdeal) (hPre_finite_ffn_down := hPre_finite_ffn_down)
    ∧ quiescent_ReferenceFfnDownIdeal (hReferenceFfnDownIdeal := hReferenceFfnDownIdeal)
    ∧ quiescent_ReferenceFfnDownIdeal_pre_finite_ffn_down (hReferenceFfnDownIdeal := hReferenceFfnDownIdeal) (hPre_finite_ffn_down := hPre_finite_ffn_down)
    ∧ quiescent_KernelBwdIn (hKernelBwdIn := hKernelBwdIn)
    ∧ quiescent_KernelBwdInIdeal (hKernelBwdInIdeal := hKernelBwdInIdeal)
    ∧ quiescent_KernelBwdInIdeal_pre_finite_bwd_in (hKernelBwdInIdeal := hKernelBwdInIdeal) (hPre_finite_bwd_in := hPre_finite_bwd_in)
    ∧ quiescent_ReferenceBwdInIdeal (hReferenceBwdInIdeal := hReferenceBwdInIdeal)
    ∧ quiescent_ReferenceBwdInIdeal_pre_finite_bwd_in (hReferenceBwdInIdeal := hReferenceBwdInIdeal) (hPre_finite_bwd_in := hPre_finite_bwd_in)
    ∧ quiescent_KernelMixOut (hKernelMixOut := hKernelMixOut)
    ∧ quiescent_KernelMixOutIdeal (hKernelMixOutIdeal := hKernelMixOutIdeal)
    ∧ quiescent_KernelMixOutIdeal_pre_finite_mix_out (hKernelMixOutIdeal := hKernelMixOutIdeal) (hPre_finite_mix_out := hPre_finite_mix_out)
    ∧ quiescent_ReferenceMixOutIdeal (hReferenceMixOutIdeal := hReferenceMixOutIdeal)
    ∧ quiescent_ReferenceMixOutIdeal_pre_finite_mix_out (hReferenceMixOutIdeal := hReferenceMixOutIdeal) (hPre_finite_mix_out := hPre_finite_mix_out)
    ∧ quiescent_KernelMixIn (hKernelMixIn := hKernelMixIn)
    ∧ quiescent_KernelMixInIdeal (hKernelMixInIdeal := hKernelMixInIdeal)
    ∧ quiescent_KernelMixInIdeal_pre_finite_mix_in (hKernelMixInIdeal := hKernelMixInIdeal) (hPre_finite_mix_in := hPre_finite_mix_in)
    ∧ quiescent_ReferenceMixInIdeal (hReferenceMixInIdeal := hReferenceMixInIdeal)
    ∧ quiescent_ReferenceMixInIdeal_pre_finite_mix_in (hReferenceMixInIdeal := hReferenceMixInIdeal) (hPre_finite_mix_in := hPre_finite_mix_in)
    ∧ quiescent_KernelAdamFfn (hKernelAdamFfn := hKernelAdamFfn)
    ∧ quiescent_KernelAdamFfnIdeal (hKernelAdamFfnIdeal := hKernelAdamFfnIdeal)
    ∧ quiescent_ReferenceAdamFfnIdeal (hReferenceAdamFfnIdeal := hReferenceAdamFfnIdeal)
    ∧ quiescent_KernelAdamMix (hKernelAdamMix := hKernelAdamMix)
    ∧ quiescent_KernelAdamMixIdeal (hKernelAdamMixIdeal := hKernelAdamMixIdeal)
    ∧ quiescent_ReferenceAdamMixIdeal (hReferenceAdamMixIdeal := hReferenceAdamMixIdeal)
    ∧ preserves_Kernel_KernelIdeal
    ∧ algebraic_KernelIdeal_ReferenceIdeal (hKernelIdeal := hKernelIdeal) (hReferenceIdeal := hReferenceIdeal)
    ∧ preserves_KernelGateUp_KernelGateUpIdeal
    ∧ algebraic_KernelGateUpIdeal_ReferenceGateUpIdeal (hKernelGateUpIdeal := hKernelGateUpIdeal) (hReferenceGateUpIdeal := hReferenceGateUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelUp_KernelUpIdeal
    ∧ algebraic_KernelUpIdeal_ReferenceUpIdeal_pre_finite_up (hKernelUpIdeal := hKernelUpIdeal) (hReferenceUpIdeal := hReferenceUpIdeal) (hPre_finite_up := hPre_finite_up)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelMmIn_KernelMmInIdeal
    ∧ algebraic_KernelMmInIdeal_ReferenceMmInIdeal (hKernelMmInIdeal := hKernelMmInIdeal) (hReferenceMmInIdeal := hReferenceMmInIdeal)
    ∧ preserves_KernelMmOut_KernelMmOutIdeal
    ∧ algebraic_KernelMmOutIdeal_ReferenceMmOutIdeal (hKernelMmOutIdeal := hKernelMmOutIdeal) (hReferenceMmOutIdeal := hReferenceMmOutIdeal)
    ∧ preserves_KernelFfnDown_KernelFfnDownIdeal
    ∧ algebraic_KernelFfnDownIdeal_ReferenceFfnDownIdeal_pre_finite_ffn_down (hKernelFfnDownIdeal := hKernelFfnDownIdeal) (hReferenceFfnDownIdeal := hReferenceFfnDownIdeal) (hPre_finite_ffn_down := hPre_finite_ffn_down)
    ∧ preserves_KernelBwdIn_KernelBwdInIdeal
    ∧ algebraic_KernelBwdInIdeal_ReferenceBwdInIdeal_pre_finite_bwd_in (hKernelBwdInIdeal := hKernelBwdInIdeal) (hReferenceBwdInIdeal := hReferenceBwdInIdeal) (hPre_finite_bwd_in := hPre_finite_bwd_in)
    ∧ preserves_KernelMixOut_KernelMixOutIdeal
    ∧ algebraic_KernelMixOutIdeal_ReferenceMixOutIdeal_pre_finite_mix_out (hKernelMixOutIdeal := hKernelMixOutIdeal) (hReferenceMixOutIdeal := hReferenceMixOutIdeal) (hPre_finite_mix_out := hPre_finite_mix_out)
    ∧ preserves_KernelMixIn_KernelMixInIdeal
    ∧ algebraic_KernelMixInIdeal_ReferenceMixInIdeal_pre_finite_mix_in (hKernelMixInIdeal := hKernelMixInIdeal) (hReferenceMixInIdeal := hReferenceMixInIdeal) (hPre_finite_mix_in := hPre_finite_mix_in)
    ∧ preserves_KernelAdamFfn_KernelAdamFfnIdeal
    ∧ algebraic_KernelAdamFfnIdeal_ReferenceAdamFfnIdeal (hKernelAdamFfnIdeal := hKernelAdamFfnIdeal) (hReferenceAdamFfnIdeal := hReferenceAdamFfnIdeal)
    ∧ preserves_KernelAdamMix_KernelAdamMixIdeal
    ∧ algebraic_KernelAdamMixIdeal_ReferenceAdamMixIdeal (hKernelAdamMixIdeal := hKernelAdamMixIdeal) (hReferenceAdamMixIdeal := hReferenceAdamMixIdeal)
-- ==== Pre_finite_act.lean ====
abbrev S2176x1024 : Shape := ⟨2, ![2176, 1024]⟩
abbrev S2816x1024 : Shape := ⟨2, ![2816, 1024]⟩
abbrev S2176x2816 : Shape := ⟨2, ![2176, 2816]⟩
abbrev S_ : Shape := ⟨0, ![]⟩

class Facts : Prop where
  bitsLt_bf16_f32 : FTy.bits .bf16 < FTy.bits .f32
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2176x2816 : S_.BroadcastsInDim S2176x2816 (![] : Fin 0 → Fin S2176x2816.rank)
  reducesTo_S2176x2816_S_d0_1 : S2176x2816.ReducesTo [0, 1] S_

variable [Facts]

def fn_part1 {F : FTy → Type} [FloatOps F] (main_v4 : IVec S_ 1) (main_v9 : IVec S_ 1) (main_v13 : IVec S_ 1) (main_v16 : IVec S2176x2816 1) : IVec S_ 1 :=
  let main_c_5 : IVec S_ 1 := constantI S_ 1 1#1
  let main_v17 : IVec S_ 1 := (fun x v => Host.reduce IntOp.andi x v reducesTo_S2176x2816_S_d0_1 h_S_) main_v16 main_c_5
  let main_v18 : IVec S_ 1 := andi main_v4 main_v9
  let main_v19 : IVec S_ 1 := andi main_v18 main_v13
  let main_v20 : IVec S_ 1 := andi main_v19 main_v17
  main_v20

def fn {F : FTy → Type} [FloatOps F] (main_arg0 : FVec F S2176x1024 .bf16) (main_arg1 : FVec F S2816x1024 .bf16) (main_arg2 : FVec F S2176x2816 .f32) (main_arg3 : FVec F S2176x2816 .f32) : IVec S_ 1 :=
  let main_v0 : FVec F S2176x1024 .f32 := (extf .f32 · bitsLt_bf16_f32) main_arg0
  let main_v1 : FVec F S2176x1024 .f32 := Host.absf main_v0
  let main_cst : FVec F S_ .f32 := constant S_ .f32 0x7F800000#32
  let main_v2 : FVec F S2176x1024 .f32 := broadcastInDim S2176x1024 ![] bcast_S_S2176x1024 main_cst
  let main_v3 : IVec S2176x1024 1 := cmpf .olt main_v1 main_v2
  let main_c : IVec S_ 1 := constantI S_ 1 1#1
  let main_v4 : IVec S_ 1 := (fun x v => Host.reduce IntOp.andi x v reducesTo_S2176x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S2176x2816 .f32 := Host.absf main_arg2
  let main_cst_2 : FVec F S_ .f32 := constant S_ .f32 0x7F800000#32
  let main_v11 : FVec F S2176x2816 .f32 := broadcastInDim S2176x2816 ![] bcast_S_S2176x2816 main_cst_2
  let main_v12 : IVec S2176x2816 1 := cmpf .olt main_v10 main_v11
  let main_c_3 : IVec S_ 1 := constantI S_ 1 1#1
  let main_v13 : IVec S_ 1 := (fun x v => Host.reduce IntOp.andi x v reducesTo_S2176x2816_S_d0_1 h_S_) main_v12 main_c_3
  let main_v14 : FVec F S2176x2816 .f32 := Host.absf main_arg3
  let main_cst_4 : FVec F S_ .f32 := constant S_ .f32 0x7F800000#32
  let main_v15 : FVec F S2176x2816 .f32 := broadcastInDim S2176x2816 ![] bcast_S_S2176x2816 main_cst_4
  let main_v16 : IVec S2176x2816 1 := cmpf .olt main_v14 main_v15
  fn_part1 (F := F) main_v4 main_v9 main_v13 main_v16
-- ==== Pre_finite_bwd_in.lean ====
abbrev S2176x2816 : Shape := ⟨2, ![2176, 2816]⟩
abbrev S2816x1024 : Shape := ⟨2, ![2816, 1024]⟩
abbrev S2176x1024 : Shape := ⟨2, ![2176, 1024]⟩
abbrev S1x1024 : Shape := ⟨2, ![1, 1024]⟩
abbrev S8x128 : Shape := ⟨2, ![8, 128]⟩
abbrev S_ : Shape := ⟨0, ![]⟩

class Facts : Prop where
  bitsLt_bf16_f32 : FTy.bits .bf16 < FTy.bits .f32
  bcast_S_S2176x2816 : S_.BroadcastsInDim S2176x2816 (![] : Fin 0 → Fin S2176x2816.rank)
  reducesTo_S2176x2816_S_d0_1 : S2176x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2176x1024 : S_.BroadcastsInDim S2176x1024 (![] : Fin 0 → Fin S2176x1024.rank)
  reducesTo_S2176x1024_S_d0_1 : S2176x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_v4 : IVec S_ 1) (main_v9 : IVec S_ 1) (main_v14 : IVec S_ 1) (main_v19 : IVec S_ 1) (main_v23 : IVec S_ 1) (main_v27 : IVec S_ 1) (main_v31 : IVec S_ 1) (main_v32 : FVec F S1x1024 .f32) (main_cst_12 : FVec F S_ .f32) : IVec S_ 1 :=
  let main_v33 : FVec F S1x1024 .f32 := broadcastInDim S1x1024 ![] bcast_S_S1x1024 main_cst_12
  let main_v34 : IVec S1x1024 1 := cmpf .olt main_v32 main_v33
  let main_c_13 : IVec S_ 1 := constantI S_ 1 1#1
  let main_v35 : IVec S_ 1 := (fun x v => Host.reduce IntOp.andi x v reducesTo_S1x1024_S_d0_1 h_S_) main_v34 main_c_13
  let main_v36 : FVec F S1x1024 .f32 := Host.absf main_arg8
  let main_cst_14 : FVec F S_ .f32 := constant S_ .f32 0x7F800000#32
  let main_v37 : FVec F S1x1024 .f32 := broadcastInDim S1x1024 ![] bcast_S_S1x1024 main_cst_14
  let main_v38 : IVec S1x1024 1 := cmpf .olt main_v36 main_v37
  let main_c_15 : IVec S_ 1 := constantI S_ 1 1#1
  let main_v39 : IVec S_ 1 := (fun x v => Host.reduce IntOp.andi x v reducesTo_S1x1024_S_d0_1 h_S_) main_v38 main_c_15
  let main_v40 : IVec S_ 1 := andi main_v4 main_v9
  let main_v41 : IVec S_ 1 := andi main_v40 main_v14
  let main_v42 : IVec S_ 1 := andi main_v41 main_v19
  let main_v43 : IVec S_ 1 := andi main_v42 main_v23
  let main_v44 : IVec S_ 1 := andi main_v43 main_v27
  let main_v45 : IVec S_ 1 := andi main_v44 main_v31
  let main_v46 : IVec S_ 1 := andi main_v45 main_v35
  let main_v47 : IVec S_ 1 := andi main_v46 main_v39
  main_v47

def fn_part1 {F : FTy → Type} [FloatOps F] (main_arg4 : FVec F S2176x1024 .f32) (main_arg5 : FVec F S2176x1024 .f32) (main_arg6 : FVec F S2176x1024 .f32) (main_arg7 : FVec F S1x1024 .f32) (main_arg8 : FVec F S1x1024 .f32) (main_v4 : IVec S_ 1) (main_v9 : IVec S_ 1) (main_v14 : IVec S_ 1) (main_v16 : FVec F S2816x1024 .f32) (main_cst_4 : FVec F S_ .f32) : IVec S_ 1 :=
  let main_v17 : FVec F S2816x1024 .f32 := broadcastInDim S2816x1024 ![] bcast_S_S2816x1024 main_cst_4
  let main_v18 : IVec S2816x1024 1 := cmpf .olt main_v16 main_v17
  let main_c_5 : IVec S_ 1 := constantI S_ 1 1#1
  let main_v19 : IVec S_ 1 := (fun x v => Host.reduce IntOp.andi x v reducesTo_S2816x1024_S_d0_1 h_S_) main_v18 main_c_5
  let main_v20 : FVec F S2176x1024 .f32 := Host.absf main_arg4
  let main_cst_6 : FVec F S_ .f32 := constant S_ .f32 0x7F800000#32
  let main_v21 : FVec F S2176x1024 .f32 := broadcastInDim S2176x1024 ![] bcast_S_S2176x1024 main_cst_6
  let main_v22 : IVec S2176x1024 1 := cmpf .olt main_v20 main_v21
  let main_c_7 : IVec S_ 1 := constantI S_ 1 1#1
  let main_v23 : IVec S_ 1 := (fun x v => Host.reduce IntOp.andi x v reducesTo_S2176x1024_S_d0_1 h_S_) main_v22 main_c_7
  let main_v24 : FVec F S2176x1024 .f32 := Host.absf main_arg5
  let main_cst_8 : FVec F S_ .f32 := constant S_ .f32 0x7F800000#32
  let main_v25 : FVec F S2176x1024 .f32 := broadcastInDim S2176x1024 ![] bcast_S_S2176x1024 main_cst_8
  let main_v26 : IVec S2176x1024 1 := cmpf .olt main_v24 main_v25
  let main_c_9 : IVec S_ 1 := constantI S_ 1 1#1
  let main_v27 : IVec S_ 1 := (fun x v => Host.reduce IntOp.andi x v reducesTo_S2176x1024_S_d0_1 h_S_) main_v26 main_c_9
  let main_v28 : FVec F S2176x1024 .f32 := Host.absf main_arg6
  let main_cst_10 : FVec F S_ .f32 := constant S_ .f32 0x7F800000#32
  let main_v29 : FVec F S2176x1024 .f32 := broadcastInDim S2176x1024 ![] bcast_S_S2176x1024 main_cst_10
  let main_v30 : IVec S2176x1024 1 := cmpf .olt main_v28 main_v29
  let main_c_11 : IVec S_ 1 := constantI S_ 1 1#1
  let main_v31 : IVec S_ 1 := (fun x v => Host.reduce IntOp.andi x v reducesTo_S2176x1024_S_d0_1 h_S_) main_v30 main_c_11
  let main_v32 : FVec F S1x1024 .f32 := Host.absf main_arg7
  let main_cst_12 : FVec F S_ .f32 := constant S_ .f32 0x7F800000#32
  fn_part2 (F := F) main_arg8 main_v4 main_v9 main_v14 main_v19 main_v23 main_v27 main_v31 main_v32 main_cst_12

def fn {F : FTy → Type} [FloatOps F] (main_arg0 : FVec F S2176x2816 .bf16) (main_arg1 : FVec F S2176x2816 .bf16) (main_arg2 : FVec F S2816x1024 .bf16) (main_arg3 : FVec F S2816x1024 .bf16) (main_arg4 : FVec F S2176x1024 .f32) (main_arg5 : FVec F S2176x1024 .f32) (main_arg6 : FVec F S2176x1024 .f32) (main_arg7 : FVec F S1x1024 .f32) (main_arg8 : FVec F S1x1024 .f32) (main_arg9 : FVec F S8x128 .f32) : IVec S_ 1 :=
  let main_v0 : FVec F S2176x2816 .f32 := (extf .f32 · bitsLt_bf16_f32) main_arg0
  let main_v1 : FVec F S2176x2816 .f32 := Host.absf main_v0
  let main_cst : FVec F S_ .f32 := constant S_ .f32 0x7F800000#32
  let main_v2 : FVec F S2176x2816 .f32 := broadcastInDim S2176x2816 ![] bcast_S_S2176x2816 main_cst
  let main_v3 : IVec S2176x2816 1 := cmpf .olt main_v1 main_v2
  let main_c : IVec S_ 1 := constantI S_ 1 1#1
  let main_v4 : IVec S_ 1 := (fun x v => Host.reduce IntOp.andi x v reducesTo_S2176x2816_S_d0_1 h_S_) main_v3 main_c
  let main_v5 : FVec F S2176x2816 .f32 := (extf .f32 · bitsLt_bf16_f32) main_arg1
  let main_v6 : FVec F S2176x2816 .f32 := Host.absf main_v5
  let main_cst_0 : FVec F S_ .f32 := constant S_ .f32 0x7F800000#32
  let main_v7 : FVec F S2176x2816 .f32 := broadcastInDim S2176x2816 ![] bcast_S_S2176x2816 main_cst_0
  let main_v8 : IVec S2176x2816 1 := cmpf .olt main_v6 main_v7
  let main_c_1 : IVec S_ 1 := constantI S_ 1 1#1
  let main_v9 : IVec S_ 1 := (fun x v => Host.reduce IntOp.andi x v reducesTo_S2176x2816_S_d0_1 h_S_) main_v8 main_c_1
  let main_v10 : FVec F S2816x1024 .f32 := (extf .f32 · bitsLt_bf16_f32) main_arg2
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : FVec F S2816x1024 .f32 := (extf .f32 · bitsLt_bf16_f32) main_arg3
  let main_v16 : FVec F S2816x1024 .f32 := Host.absf main_v15
  let main_cst_4 : FVec F S_ .f32 := constant S_ .f32 0x7F800000#32
  fn_part1 (F := F) main_arg4 main_arg5 main_arg6 main_arg7 main_arg8 main_v4 main_v9 main_v14 main_v16 main_cst_4
-- ==== Pre_finite_ffn_down.lean ====
abbrev S2176x2816 : Shape := ⟨2, ![2176, 2816]⟩
abbrev S2816x1024 : Shape := ⟨2, ![2816, 1024]⟩
abbrev S2176x1024 : Shape := ⟨2, ![2176, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2176x2816 : S_.BroadcastsInDim S2176x2816 (![] : Fin 0 → Fin S2176x2816.rank)
  reducesTo_S2176x2816_S_d0_1 : S2176x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2176x1024 : S_.BroadcastsInDim S2176x1024 (![] : Fin 0 → Fin S2176x1024.rank)
  reducesTo_S2176x1024_S_d0_1 : S2176x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v4 : IVec S_ 1) (main_v9 : IVec S_ 1) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v4 main_v9
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S2176x2816 .bf16) (main_arg1 : FVec F S2816x1024 .bf16) (main_arg2 : FVec F S2176x1024 .f32) (main_arg3 : FVec F S2048x1024 .f32) (main_arg4 : FVec F S1x1024 .f32) : IVec S_ 1 :=
  let main_v0 : FVec F S2176x2816 .f32 := (extf .f32 · bitsLt_bf16_f32) main_arg0
  let main_v1 : FVec F S2176x2816 .f32 := Host.absf main_v0
  let main_cst : FVec F S_ .f32 := constant S_ .f32 0x7F800000#32
  let main_v2 : FVec F S2176x2816 .f32 := broadcastInDim S2176x2816 ![] bcast_S_S2176x2816 main_cst
  let main_v3 : IVec S2176x2816 1 := cmpf .olt main_v1 main_v2
  let main_c : IVec S_ 1 := constantI S_ 1 1#1
  let main_v4 : IVec S_ 1 := (fun x v => Host.reduce IntOp.andi x v reducesTo_S2176x2816_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S2176x1024 .f32 := Host.absf main_arg2
  let main_cst_2 : FVec F S_ .f32 := constant S_ .f32 0x7F800000#32
  let main_v11 : FVec F S2176x1024 .f32 := broadcastInDim S2176x1024 ![] bcast_S_S2176x1024 main_cst_2
  let main_v12 : IVec S2176x1024 1 := cmpf .olt main_v10 main_v11
  let main_c_3 : IVec S_ 1 := constantI S_ 1 1#1
  let main_v13 : IVec S_ 1 := (fun x v => Host.reduce IntOp.andi x v reducesTo_S2176x1024_S_d0_1 h_S_) main_v12 main_c_3
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v4 main_v9 main_v13 main_v16
-- ==== Pre_finite_mix_in.lean ====
abbrev S5x2176x512 : Shape := ⟨3, ![5, 2176, 512]⟩
abbrev S4x1024x640 : Shape := ⟨3, ![4, 1024, 640]⟩
abbrev S2176x1024 : Shape := ⟨2, ![2176, 1024]⟩
abbrev S1x1024 : Shape := ⟨2, ![1, 1024]⟩
abbrev S8x128 : Shape := ⟨2, ![8, 128]⟩
abbrev S_ : Shape := ⟨0, ![]⟩

class Facts : Prop where
  bitsLt_bf16_f32 : FTy.bits .bf16 < FTy.bits .f32
  bcast_S_S5x2176x512 : S_.BroadcastsInDim S5x2176x512 (![] : Fin 0 → Fin S5x2176x512.rank)
  reducesTo_S5x2176x512_S_d0_1_2 : S5x2176x512.ReducesTo [0, 1, 2] S_
  h_S_ : 0 < S_.numel
  bcast_S_S4x1024x640 : S_.BroadcastsInDim S4x1024x640 (![] : Fin 0 → Fin S4x1024x640.rank)
  reducesTo_S4x1024x640_S_d0_1_2 : S4x1024x640.ReducesTo [0, 1, 2] S_
  bcast_S_S2176x1024 : S_.BroadcastsInDim S2176x1024 (![] : Fin 0 → Fin S2176x1024.rank)
  reducesTo_S2176x1024_S_d0_1 : S2176x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v4 : IVec S_ 1) (main_v9 : IVec S_ 1) (main_v13 : IVec S_ 1) (main_v16 : IVec S2176x1024 1) : IVec S_ 1 :=
  let main_c_5 : IVec S_ 1 := constantI S_ 1 1#1
  let main_v17 : IVec S_ 1 := (fun x v => Host.reduce IntOp.andi x v reducesTo_S2176x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v4 main_v9
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S5x2176x512 .bf16) (main_arg1 : FVec F S4x1024x640 .bf16) (main_arg2 : FVec F S2176x1024 .f32) (main_arg3 : FVec F S2176x1024 .f32) (main_arg4 : FVec F S1x1024 .f32) (main_arg5 : FVec F S8x128 .f32) : IVec S_ 1 :=
  let main_v0 : FVec F S5x2176x512 .f32 := (extf .f32 · bitsLt_bf16_f32) main_arg0
  let main_v1 : FVec F S5x2176x512 .f32 := Host.absf main_v0
  let main_cst : FVec F S_ .f32 := constant S_ .f32 0x7F800000#32
  let main_v2 : FVec F S5x2176x512 .f32 := broadcastInDim S5x2176x512 ![] bcast_S_S5x2176x512 main_cst
  let main_v3 : IVec S5x2176x512 1 := cmpf .olt main_v1 main_v2
  let main_c : IVec S_ 1 := constantI S_ 1 1#1
  let main_v4 : IVec S_ 1 := (fun x v => Host.reduce IntOp.andi x v reducesTo_S5x2176x512_S_d0_1_2 h_S_) main_v3 main_c
  let main_v5 : FVec F S4x1024x640 .f32 := (extf .f32 · bitsLt_bf16_f32) main_arg1
  let main_v6 : FVec F S4x1024x640 .f32 := Host.absf main_v5
  let main_cst_0 : FVec F S_ .f32 := constant S_ .f32 0x7F800000#32
  let main_v7 : FVec F S4x1024x640 .f32 := broadcastInDim S4x1024x640 ![] bcast_S_S4x1024x640 main_cst_0
  let main_v8 : IVec S4x1024x640 1 := cmpf .olt main_v6 main_v7
  let main_c_1 : IVec S_ 1 := constantI S_ 1 1#1
  let main_v9 : IVec S_ 1 := (fun x v => Host.reduce IntOp.andi x v reducesTo_S4x1024x640_S_d0_1_2 h_S_) main_v8 main_c_1
  let main_v10 : FVec F S2176x1024 .f32 := Host.absf main_arg2
  let main_cst_2 : FVec F S_ .f32 := constant S_ .f32 0x7F800000#32
  let main_v11 : FVec F S2176x1024 .f32 := broadcastInDim S2176x1024 ![] bcast_S_S2176x1024 main_cst_2
  let main_v12 : IVec S2176x1024 1 := cmpf .olt main_v10 main_v11
  let main_c_3 : IVec S_ 1 := constantI S_ 1 1#1
  let main_v13 : IVec S_ 1 := (fun x v => Host.reduce IntOp.andi x v reducesTo_S2176x1024_S_d0_1 h_S_) main_v12 main_c_3
  let main_v14 : FVec F S2176x1024 .f32 := Host.absf main_arg3
  let main_cst_4 : FVec F S_ .f32 := constant S_ .f32 0x7F800000#32
  let main_v15 : FVec F S2176x1024 .f32 := broadcastInDim S2176x1024 ![] bcast_S_S2176x1024 main_cst_4
  let main_v16 : IVec S2176x1024 1 := cmpf .olt main_v14 main_v15
  fn_part1 (F := F) main_arg4 main_v4 main_v9 main_v13 main_v16
-- ==== Pre_finite_mix_out.lean ====
abbrev S2176x1024 : Shape := ⟨2, ![2176, 1024]⟩
abbrev S1024x1024 : Shape := ⟨2, ![1024, 1024]⟩
abbrev S2176x512 : Shape := ⟨2, ![2176, 512]⟩
abbrev S1x512 : Shape := ⟨2, ![1, 512]⟩
abbrev S8x128 : Shape := ⟨2, ![8, 128]⟩
abbrev S_ : Shape := ⟨0, ![]⟩

class Facts : Prop where
  bitsLt_bf16_f32 : FTy.bits .bf16 < FTy.bits .f32
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2176x512 : S_.BroadcastsInDim S2176x512 (![] : Fin 0 → Fin S2176x512.rank)
  reducesTo_S2176x512_S_d0_1 : S2176x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v4 : IVec S_ 1) (main_v9 : IVec S_ 1) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : FVec F S1x512 .f32 := Host.absf main_arg4
  let main_cst_6 : FVec F S_ .f32 := constant S_ .f32 0x7F800000#32
  let main_v19 : FVec F S1x512 .f32 := broadcastInDim S1x512 ![] bcast_S_S1x512 main_cst_6
  let main_v20 : IVec S1x512 1 := cmpf .olt main_v18 main_v19
  let main_c_7 : IVec S_ 1 := constantI S_ 1 1#1
  let main_v21 : IVec S_ 1 := (fun x v => Host.reduce IntOp.andi x v reducesTo_S1x512_S_d0_1 h_S_) main_v20 main_c_7
  let main_v22 : IVec S_ 1 := andi main_v4 main_v9
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S2176x1024 .bf16) (main_arg1 : FVec F S1024x1024 .bf16) (main_arg2 : FVec F S2176x512 .f32) (main_arg3 : FVec F S1x512 .f32) (main_arg4 : FVec F S1x512 .f32) (main_arg5 : FVec F S8x128 .f32) : IVec S_ 1 :=
  let main_v0 : FVec F S2176x1024 .f32 := (extf .f32 · bitsLt_bf16_f32) main_arg0
  let main_v1 : FVec F S2176x1024 .f32 := Host.absf main_v0
  let main_cst : FVec F S_ .f32 := constant S_ .f32 0x7F800000#32
  let main_v2 : FVec F S2176x1024 .f32 := broadcastInDim S2176x1024 ![] bcast_S_S2176x1024 main_cst
  let main_v3 : IVec S2176x1024 1 := cmpf .olt main_v1 main_v2
  let main_c : IVec S_ 1 := constantI S_ 1 1#1
  let main_v4 : IVec S_ 1 := (fun x v => Host.reduce IntOp.andi x v reducesTo_S2176x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : FVec F S2176x512 .f32 := Host.absf main_arg2
  let main_cst_2 : FVec F S_ .f32 := constant S_ .f32 0x7F800000#32
  let main_v11 : FVec F S2176x512 .f32 := broadcastInDim S2176x512 ![] bcast_S_S2176x512 main_cst_2
  let main_v12 : IVec S2176x512 1 := cmpf .olt main_v10 main_v11
  let main_c_3 : IVec S_ 1 := constantI S_ 1 1#1
  let main_v13 : IVec S_ 1 := (fun x v => Host.reduce IntOp.andi x v reducesTo_S2176x512_S_d0_1 h_S_) main_v12 main_c_3
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_v4 main_v9 main_v13 main_v16
-- ==== Pre_finite_up.lean ====
abbrev S2176x1024 : Shape := ⟨2, ![2176, 1024]⟩
abbrev S2816x1024 : Shape := ⟨2, ![2816, 1024]⟩
abbrev S_ : Shape := ⟨0, ![]⟩

class Facts : Prop where
  bitsLt_bf16_f32 : FTy.bits .bf16 < FTy.bits .f32
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S2176x1024 .bf16) (main_arg1 : FVec F S2816x1024 .bf16) (main_arg2 : FVec F S2816x1024 .bf16) : IVec S_ 1 :=
  let main_v0 : FVec F S2176x1024 .f32 := (extf .f32 · bitsLt_bf16_f32) main_arg0
  let main_v1 : FVec F S2176x1024 .f32 := Host.absf main_v0
  let main_cst : FVec F S_ .f32 := constant S_ .f32 0x7F800000#32
  let main_v2 : FVec F S2176x1024 .f32 := broadcastInDim S2176x1024 ![] bcast_S_S2176x1024 main_cst
  let main_v3 : IVec S2176x1024 1 := cmpf .olt main_v1 main_v2
  let main_c : IVec S_ 1 := constantI S_ 1 1#1
  let main_v4 : IVec S_ 1 := (fun x v => Host.reduce IntOp.andi x v reducesTo_S2176x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S2816x1024 .f32 := (extf .f32 · bitsLt_bf16_f32) main_arg2
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_c_3 : IVec S_ 1 := constantI S_ 1 1#1
  let main_v14 : IVec S_ 1 := (fun x v => Host.reduce IntOp.andi x v reducesTo_S2816x1024_S_d0_1 h_S_) main_v13 main_c_3
  let main_v15 : IVec S_ 1 := andi main_v4 main_v9
  let main_v16 : IVec S_ 1 := andi main_v15 main_v14
  main_v16
-- ==== Kernel.lean ====
abbrev S5x2176x512 : Shape := ⟨3, ![5, 2176, 512]⟩
abbrev S2176x512 : Shape := ⟨2, ![2176, 512]⟩
abbrev S3x512 : Shape := ⟨2, ![3, 512]⟩
abbrev S31x512 : Shape := ⟨2, ![31, 512]⟩
abbrev S_ : Shape := ⟨0, ![]⟩
abbrev S64x256 : Shape := ⟨2, ![64, 256]⟩
abbrev S3x128 : Shape := ⟨2, ![3, 128]⟩
abbrev S1 : Shape := ⟨1, ![1]⟩
abbrev S2 : Shape := ⟨1, ![2]⟩
abbrev S31x128 : Shape := ⟨2, ![31, 128]⟩
abbrev S1x64x256 : Shape := ⟨3, ![1, 64, 256]⟩
abbrev S4x64x256 : Shape := ⟨3, ![4, 64, 256]⟩
abbrev S1x512 : Shape := ⟨2, ![1, 512]⟩
abbrev S5x2176x128 : Shape := ⟨3, ![5, 2176, 128]⟩
abbrev S2176x128 : Shape := ⟨2, ![2176, 128]⟩
abbrev S1x128 : Shape := ⟨2, ![1, 128]⟩
abbrev S2128x128 : Shape := ⟨2, ![2128, 128]⟩
abbrev S248x128 : Shape := ⟨2, ![248, 128]⟩
abbrev S7x2128x128 : Shape := ⟨3, ![7, 2128, 128]⟩
abbrev S1x3x128 : Shape := ⟨3, ![1, 3, 128]⟩
abbrev S1x31x128 : Shape := ⟨3, ![1, 31, 128]⟩
abbrev S32x128 : Shape := ⟨2, ![32, 128]⟩
abbrev S1x2048x128 : Shape := ⟨3, ![1, 2048, 128]⟩
abbrev S2048x128 : Shape := ⟨2, ![2048, 128]⟩
abbrev S1x16x128 : Shape := ⟨3, ![1, 16, 128]⟩
abbrev S16x128 : Shape := ⟨2, ![16, 128]⟩
abbrev S2120x128 : Shape := ⟨2, ![2120, 128]⟩
abbrev S1x2120x128 : Shape := ⟨3, ![1, 2120, 128]⟩
abbrev S48x128 : Shape := ⟨2, ![48, 128]⟩
abbrev S1x48x128 : Shape := ⟨3, ![1, 48, 128]⟩
abbrev S112x128 : Shape := ⟨2, ![112, 128]⟩
abbrev S1x112x128 : Shape := ⟨3, ![1, 112, 128]⟩
abbrev S8x128 : Shape := ⟨2, ![8, 128]⟩
abbrev S128 : Shape := ⟨1, ![128]⟩

abbrev nBuf : Space → Nat
  | .hbm => 78
  | .vmem => 22
  | .smem => 0
  | _ => 0

abbrev bufTy : (tb : Table) → Fin (tcTables nBuf tb) → BufTy
  | .hbm, ⟨0, _⟩ => ⟨S5x2176x512, .f32⟩
  | .hbm, ⟨1, _⟩ => ⟨S2176x512, .f32⟩
  | .hbm, ⟨2, _⟩ => ⟨S2176x512, .f32⟩
  | .hbm, ⟨3, _⟩ => ⟨S3x512, .f32⟩
  | .hbm, ⟨4, _⟩ => ⟨S31x512, .f32⟩
  | .hbm, ⟨5, _⟩ => ⟨S_, .f32⟩
  | .hbm, ⟨6, _⟩ => ⟨S64x256, .f32⟩
  | .hbm, ⟨7, _⟩ => ⟨S3x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S64x256, .f32⟩
  | .hbm, ⟨14, _⟩ => ⟨S31x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S64x256, .f32⟩
  | .hbm, ⟨21, _⟩ => ⟨S_, .f32⟩
  | .hbm, ⟨22, _⟩ => ⟨S64x256, .f32⟩
  | .hbm, ⟨23, _⟩ => ⟨S3x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S64x256, .f32⟩
  | .hbm, ⟨30, _⟩ => ⟨S31x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S64x256, .f32⟩
  | .hbm, ⟨37, _⟩ => ⟨S_, .f32⟩
  | .hbm, ⟨38, _⟩ => ⟨S64x256, .f32⟩
  | .hbm, ⟨39, _⟩ => ⟨S3x128, .f32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S64x256, .f32⟩
  | .hbm, ⟨46, _⟩ => ⟨S31x128, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S64x256, .f32⟩
  | .hbm, ⟨53, _⟩ => ⟨S_, .f32⟩
  | .hbm, ⟨54, _⟩ => ⟨S64x256, .f32⟩
  | .hbm, ⟨55, _⟩ => ⟨S3x128, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S64x256, .f32⟩
  | .hbm, ⟨62, _⟩ => ⟨S31x128, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S64x256, .f32⟩
  | .hbm, ⟨69, _⟩ => ⟨S1x64x256, .f32⟩
  | .hbm, ⟨70, _⟩ => ⟨S1x64x256, .f32⟩
  | .hbm, ⟨71, _⟩ => ⟨S1x64x256, .f32⟩
  | .hbm, ⟨72, _⟩ => ⟨S1x64x256, .f32⟩
  | .hbm, ⟨73, _⟩ => ⟨S4x64x256, .f32⟩
  | .hbm, ⟨74, _⟩ => ⟨S5x2176x512, .bf16⟩
  | .hbm, ⟨75, _⟩ => ⟨S3x512, .f32⟩
  | .hbm, ⟨76, _⟩ => ⟨S31x512, .f32⟩
  | .hbm, ⟨77, _⟩ => ⟨S1x512, .f32⟩
  | .local _ .vmem, ⟨0, _⟩ => ⟨S5x2176x128, .f32⟩
  | .local _ .vmem, ⟨1, _⟩ => ⟨S5x2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S1x64x256, .f32⟩
  | .local _ .vmem, ⟨7, _⟩ => ⟨S1x64x256, .f32⟩
  | .local _ .vmem, ⟨8, _⟩ => ⟨S5x2176x128, .bf16⟩
  | .local _ .vmem, ⟨9, _⟩ => ⟨S5x2176x128, .bf16⟩
  | .local _ .vmem, ⟨10, _⟩ => ⟨S3x128, .f32⟩
  | .local _ .vmem, ⟨11, _⟩ => ⟨S3x128, .f32⟩
  | .local _ .vmem, ⟨12, _⟩ => ⟨S31x128, .f32⟩
  | .local _ .vmem, ⟨13, _⟩ => ⟨S31x128, .f32⟩
  | .local _ .vmem, ⟨14, _⟩ => ⟨S1x128, .f32⟩
  | .local _ .vmem, ⟨15, _⟩ => ⟨S1x128, .f32⟩
  | .local _ .vmem, ⟨16, _⟩ => ⟨S2128x128, .f32⟩
  | .local _ .vmem, ⟨17, _⟩ => ⟨S2128x128, .f32⟩
  | .local _ .vmem, ⟨18, _⟩ => ⟨S2128x128, .f32⟩
  | .local _ .vmem, ⟨19, _⟩ => ⟨S248x128, .f32⟩
  | .local _ .vmem, ⟨20, _⟩ => ⟨S7x2128x128, .f32⟩
  | .local _ .vmem, ⟨21, _⟩ => ⟨S7x2128x128, .f32⟩
  | _, _ => ⟨S5x2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_6 : Ref sig .tc := ⟨.hbm, 31, rfl⟩
abbrev main_v18 : Ref sig .tc := ⟨.hbm, 32, rfl⟩
abbrev main_c_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_v23 : Ref sig .tc := ⟨.hbm, 39, rfl⟩
abbrev main_c_9 : Ref sig .tc := ⟨.hbm, 40, rfl⟩
abbrev main_v24 : Ref sig .tc := ⟨.hbm, 41, rfl⟩
abbrev main_c_10 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_11 : Ref sig .tc := ⟨.hbm, 47, rfl⟩
abbrev main_v29 : Ref sig .tc := ⟨.hbm, 48, rfl⟩
abbrev main_c_12 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_13 : Ref sig .tc := ⟨.hbm, 53, rfl⟩
abbrev main_v33 : Ref sig .tc := ⟨.hbm, 54, rfl⟩
abbrev main_v34 : Ref sig .tc := ⟨.hbm, 55, rfl⟩
abbrev main_c_14 : Ref sig .tc := ⟨.hbm, 56, rfl⟩
abbrev main_v35 : Ref sig .tc := ⟨.hbm, 57, rfl⟩
abbrev main_c_15 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_16 : Ref sig .tc := ⟨.hbm, 63, rfl⟩
abbrev main_v40 : Ref sig .tc := ⟨.hbm, 64, rfl⟩
abbrev main_c_17 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev main_v49_2 : Ref sig .tc := ⟨.hbm, 76, rfl⟩
abbrev main_v49_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c43_i32 : BitVec 32 := 43#32
  let v42 : BitVec 32 := Scalar.addi c0_i32 c43_i32
  let c1_i32 : BitVec 32 := 1#32
  ⟨c0_i32, v42, c1_i32⟩
def k0_mult1 (k0_t1 : Fin k0_t1_loop.trips) : BitVec 32 :=
  let c32_i32 : BitVec 32 := 32#32
  let c0_i32 : BitVec 32 := 0#32
  let c1_i32 : BitVec 32 := 1#32
  let arg15 : BitVec 32 := Scf.iv c0_i32 c1_i32 k0_t1
  let c48_i32 : BitVec 32 := 48#32
  let v407 : BitVec 32 := Scalar.muli arg15 c48_i32
  let v408 : BitVec 32 := Scalar.addi c32_i32 v407
  v408
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c48_i32_376 : BitVec 32 := 48#32
  let v410 : BitVec 32 := Scalar.muli arg15 c48_i32_376
  let c24_i32 : BitVec 32 := 24#32
  let v413 : BitVec 32 := Scalar.addi v410 c24_i32
  v413
def k0_off1 (k0_t1 : Fin k0_t1_loop.trips) : Fin 3 → Nat :=
  let c5_378 : Index := 5#32
  let c0_i32 : BitVec 32 := 0#32
  let c1_i32 : BitVec 32 := 1#32
  let arg15 : BitVec 32 := Scf.iv c0_i32 c1_i32 k0_t1
  let c48_i32_376 : BitVec 32 := 48#32
  let v410 : BitVec 32 := Scalar.muli arg15 c48_i32_376
  let c24_i32 : BitVec 32 := 24#32
  let v413 : BitVec 32 := Scalar.addi v410 c24_i32
  let v414 : BitVec 32 := v413
  let v415 : Index := Scalar.indexCast v414
  let c0_379 : Index := 0#32
  ![5, v415.toNat, 0]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c48_i32_376 : BitVec 32 := 48#32
  let v410 : BitVec 32 := Scalar.muli arg15 c48_i32_376
  let c24_i32_380 : BitVec 32 := 24#32
  let v422 : BitVec 32 := Scalar.addi v410 c24_i32_380
  v422
def k0_off2 (k0_t1 : Fin k0_t1_loop.trips) : Fin 3 → Nat :=
  let c6_381 : Index := 6#32
  let c0_i32 : BitVec 32 := 0#32
  let c1_i32 : BitVec 32 := 1#32
  let arg15 : BitVec 32 := Scf.iv c0_i32 c1_i32 k0_t1
  let c48_i32_376 : BitVec 32 := 48#32
  let v410 : BitVec 32 := Scalar.muli arg15 c48_i32_376
  let c24_i32_380 : BitVec 32 := 24#32
  let v422 : BitVec 32 := Scalar.addi v410 c24_i32_380
  let v423 : BitVec 32 := v422
  let v424 : Index := Scalar.indexCast v423
  let c0_382 : Index := 0#32
  ![6, v424.toNat, 0]
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c48_i32_376 : BitVec 32 := 48#32
  let v410 : BitVec 32 := Scalar.muli arg15 c48_i32_376
  let c32_i32_383 : BitVec 32 := 32#32
  let v431 : BitVec 32 := Scalar.addi v410 c32_i32_383
  v431
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c48_i32_376 : BitVec 32 := 48#32
  let v410 : BitVec 32 := Scalar.muli arg15 c48_i32_376
  let c32_i32_383 : BitVec 32 := 32#32
  let v431 : BitVec 32 := Scalar.addi v410 c32_i32_383
  let v432 : BitVec 32 := v431
  let v433 : Index := Scalar.indexCast v432
  let c0_384 : Index := 0#32
  ![v433.toNat, 0]
def k0_off4 (k0_t1 : Fin k0_t1_loop.trips) : Fin 2 → Nat :=
  let c32_i32 : BitVec 32 := 32#32
  let c0_i32 : BitVec 32 := 0#32
  let c1_i32 : BitVec 32 := 1#32
  let arg15 : BitVec 32 := Scf.iv c0_i32 c1_i32 k0_t1
  let c48_i32 : BitVec 32 := 48#32
  let v407 : BitVec 32 := Scalar.muli arg15 c48_i32
  let v408 : BitVec 32 := Scalar.addi c32_i32 v407
  let v409 : BitVec 32 := v408
  let v438 : Index := Scalar.indexCast v409
  let c0_385 : Index := 0#32
  ![v438.toNat, 0]
@[reducible] def k0_t2_loop : Scf.Loop 32 :=
  let c0_i32_64 : BitVec 32 := 0#32
  let c43_i32_65 : BitVec 32 := 43#32
  let v79 : BitVec 32 := Scalar.addi c0_i32_64 c43_i32_65
  let c1_i32_66 : BitVec 32 := 1#32
  ⟨c0_i32_64, v79, c1_i32_66⟩
def k0_mult5 (k0_t2 : Fin k0_t2_loop.trips) : BitVec 32 :=
  let c32_i32 : BitVec 32 := 32#32
  let c0_i32_64 : BitVec 32 := 0#32
  let c1_i32_66 : BitVec 32 := 1#32
  let arg15 : BitVec 32 := Scf.iv c0_i32_64 c1_i32_66 k0_t2
  let c48_i32 : BitVec 32 := 48#32
  let v407 : BitVec 32 := Scalar.muli arg15 c48_i32
  let v408 : BitVec 32 := Scalar.addi c32_i32 v407
  v408
def k0_off5 (k0_t2 : Fin k0_t2_loop.trips) : Fin 2 → Nat :=
  let c32_i32 : BitVec 32 := 32#32
  let c0_i32_64 : BitVec 32 := 0#32
  let c1_i32_66 : BitVec 32 := 1#32
  let arg15 : BitVec 32 := Scf.iv c0_i32_64 c1_i32_66 k0_t2
  let c48_i32 : BitVec 32 := 48#32
  let v407 : BitVec 32 := Scalar.muli arg15 c48_i32
  let v408 : BitVec 32 := Scalar.addi c32_i32 v407
  let v409 : BitVec 32 := v408
  let v410 : Index := Scalar.indexCast v409
  let c0_376 : Index := 0#32
  ![v410.toNat, 0]
def k0_mult6 (k0_t2 : Fin k0_t2_loop.trips) : BitVec 32 :=
  let c0_i32_64 : BitVec 32 := 0#32
  let c1_i32_66 : BitVec 32 := 1#32
  let arg15 : BitVec 32 := Scf.iv c0_i32_64 c1_i32_66 k0_t2
  let c48_i32_377 : BitVec 32 := 48#32
  let v412 : BitVec 32 := Scalar.muli arg15 c48_i32_377
  let c24_i32 : BitVec 32 := 24#32
  let v413 : BitVec 32 := Scalar.addi v412 c24_i32
  v413
def k0_off6 (k0_t2 : Fin k0_t2_loop.trips) : Fin 3 → Nat :=
  let c5_378 : Index := 5#32
  let c0_i32_64 : BitVec 32 := 0#32
  let c1_i32_66 : BitVec 32 := 1#32
  let arg15 : BitVec 32 := Scf.iv c0_i32_64 c1_i32_66 k0_t2
  let c48_i32_377 : BitVec 32 := 48#32
  let v412 : BitVec 32 := Scalar.muli arg15 c48_i32_377
  let c24_i32 : BitVec 32 := 24#32
  let v413 : BitVec 32 := Scalar.addi v412 c24_i32
  let v414 : BitVec 32 := v413
  let v415 : Index := Scalar.indexCast v414
  let c0_379 : Index := 0#32
  ![5, v415.toNat, 0]
def k0_mult7 (k0_t2 : Fin k0_t2_loop.trips) : BitVec 32 :=
  let c0_i32_64 : BitVec 32 := 0#32
  let c1_i32_66 : BitVec 32 := 1#32
  let arg15 : BitVec 32 := Scf.iv c0_i32_64 c1_i32_66 k0_t2
  let c48_i32_384 : BitVec 32 := 48#32
  let v435 : BitVec 32 := Scalar.muli arg15 c48_i32_384
  let c24_i32_385 : BitVec 32 := 24#32
  let v436 : BitVec 32 := Scalar.addi v435 c24_i32_385
  v436
def k0_off7 (k0_t2 : Fin k0_t2_loop.trips) : Fin 3 → Nat :=
  let c6_386 : Index := 6#32
  let c0_i32_64 : BitVec 32 := 0#32
  let c1_i32_66 : BitVec 32 := 1#32
  let arg15 : BitVec 32 := Scf.iv c0_i32_64 c1_i32_66 k0_t2
  let c48_i32_384 : BitVec 32 := 48#32
  let v435 : BitVec 32 := Scalar.muli arg15 c48_i32_384
  let c24_i32_385 : BitVec 32 := 24#32
  let v436 : BitVec 32 := Scalar.addi v435 c24_i32_385
  let v437 : BitVec 32 := v436
  let v438 : Index := Scalar.indexCast v437
  let c0_387 : Index := 0#32
  ![6, v438.toNat, 0]
def k0_mult8 (k0_t2 : Fin k0_t2_loop.trips) : BitVec 32 :=
  let c0_i32_64 : BitVec 32 := 0#32
  let c1_i32_66 : BitVec 32 := 1#32
  let arg15 : BitVec 32 := Scf.iv c0_i32_64 c1_i32_66 k0_t2
  let c48_i32_392 : BitVec 32 := 48#32
  let v458 : BitVec 32 := Scalar.muli arg15 c48_i32_392
  let c32_i32_393 : BitVec 32 := 32#32
  let v459 : BitVec 32 := Scalar.addi v458 c32_i32_393
  v459
def k0_off8 (k0_t2 : Fin k0_t2_loop.trips) : Fin 2 → Nat :=
  let c0_i32_64 : BitVec 32 := 0#32
  let c1_i32_66 : BitVec 32 := 1#32
  let arg15 : BitVec 32 := Scf.iv c0_i32_64 c1_i32_66 k0_t2
  let c48_i32_392 : BitVec 32 := 48#32
  let v458 : BitVec 32 := Scalar.muli arg15 c48_i32_392
  let c32_i32_393 : BitVec 32 := 32#32
  let v459 : BitVec 32 := Scalar.addi v458 c32_i32_393
  let v460 : BitVec 32 := v459
  let v461 : Index := Scalar.indexCast v460
  let c0_394 : Index := 0#32
  ![v461.toNat, 0]
@[reducible] def k0_t3_loop : Scf.Loop 32 :=
  let c0_i32_92 : BitVec 32 := 0#32
  let c43_i32_93 : BitVec 32 := 43#32
  let v100 : BitVec 32 := Scalar.addi c0_i32_92 c43_i32_93
  let c1_i32_94 : BitVec 32 := 1#32
  ⟨c0_i32_92, v100, c1_i32_94⟩
def k0_mult9 (k0_t3 : Fin k0_t3_loop.trips) : BitVec 32 :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v407 : BitVec 32 := Scalar.muli arg15 c48_i32
  let v408 : BitVec 32 := Scalar.addi c32_i32 v407
  v408
def k0_mult10 (k0_t3 : Fin k0_t3_loop.trips) : BitVec 32 :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v407 : BitVec 32 := Scalar.muli arg15 c48_i32
  let v408 : BitVec 32 := Scalar.addi c32_i32 v407
  let v409 : BitVec 32 := v408
  let c0_i32_377 : BitVec 32 := 0#32
  let v412 : BitVec 32 := Scalar.addi v409 c0_i32_377
  v412
def k0_off9 (k0_t3 : Fin k0_t3_loop.trips) : Fin 3 → Nat :=
  let c1_378 : Index := 1#32
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v407 : BitVec 32 := Scalar.muli arg15 c48_i32
  let v408 : BitVec 32 := Scalar.addi c32_i32 v407
  let v409 : BitVec 32 := v408
  let c0_i32_377 : BitVec 32 := 0#32
  let v412 : BitVec 32 := Scalar.addi v409 c0_i32_377
  let v413 : BitVec 32 := v412
  let v414 : Index := Scalar.indexCast v413
  let c0_379 : Index := 0#32
  ![1, v414.toNat, 0]
def k0_mult11 (k0_t3 : Fin k0_t3_loop.trips) : BitVec 32 :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v407 : BitVec 32 := Scalar.muli arg15 c48_i32
  let v408 : BitVec 32 := Scalar.addi c32_i32 v407
  let v409 : BitVec 32 := v408
  let c0_i32_380 : BitVec 32 := 0#32
  let v421 : BitVec 32 := Scalar.addi v409 c0_i32_380
  v421
def k0_off10 (k0_t3 : Fin k0_t3_loop.trips) : Fin 3 → Nat :=
  let c0_381 : Index := 0#32
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v407 : BitVec 32 := Scalar.muli arg15 c48_i32
  let v408 : BitVec 32 := Scalar.addi c32_i32 v407
  let v409 : BitVec 32 := v408
  let c0_i32_380 : BitVec 32 := 0#32
  let v421 : BitVec 32 := Scalar.addi v409 c0_i32_380
  let v422 : BitVec 32 := v421
  let v423 : Index := Scalar.indexCast v422
  let c0_382 : Index := 0#32
  ![0, v423.toNat, 0]
def k0_mult12 (k0_t3 : Fin k0_t3_loop.trips) : BitVec 32 :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v407 : BitVec 32 := Scalar.muli arg15 c48_i32
  let v408 : BitVec 32 := Scalar.addi c32_i32 v407
  let v409 : BitVec 32 := v408
  let c0_i32_383 : BitVec 32 := 0#32
  let v430 : BitVec 32 := Scalar.addi v409 c0_i32_383
  v430
def k0_off11 (k0_t3 : Fin k0_t3_loop.trips) : Fin 2 → Nat :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v407 : BitVec 32 := Scalar.muli arg15 c48_i32
  let v408 : BitVec 32 := Scalar.addi c32_i32 v407
  let v409 : BitVec 32 := v408
  let c0_i32_383 : BitVec 32 := 0#32
  let v430 : BitVec 32 := Scalar.addi v409 c0_i32_383
  let v431 : BitVec 32 := v430
  let v432 : Index := Scalar.indexCast v431
  let c0_384 : Index := 0#32
  ![v432.toNat, 0]
def k0_off12 (k0_t3 : Fin k0_t3_loop.trips) : Fin 2 → Nat :=
  let c32_i32 : BitVec 32 := 32#32
  let c0_i32_92 : BitVec 32 := 0#32
  let c1_i32_94 : BitVec 32 := 1#32
  let arg15 : BitVec 32 := Scf.iv c0_i32_92 c1_i32_94 k0_t3
  let c48_i32 : BitVec 32 := 48#32
  let v407 : BitVec 32 := Scalar.muli arg15 c48_i32
  let v408 : BitVec 32 := Scalar.addi c32_i32 v407
  let v409 : BitVec 32 := v408
  let v437 : Index := Scalar.indexCast v409
  let c0_385 : Index := 0#32
  ![v437.toNat, 0]
@[reducible] def k0_t4_loop : Scf.Loop 32 :=
  let c0_i32_210 : BitVec 32 := 0#32
  let c43_i32_211 : BitVec 32 := 43#32
  let v219 : BitVec 32 := Scalar.addi c0_i32_210 c43_i32_211
  let c1_i32_212 : BitVec 32 := 1#32
  ⟨c0_i32_210, v219, c1_i32_212⟩
def k0_mult13 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  v408
def k0_off13 (k0_t4 : Fin k0_t4_loop.trips) : Fin 2 → Nat :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let v410 : Index := Scalar.indexCast v409
  let c0_376 : Index := 0#32
  ![v410.toNat, 0]
def k0_mult14 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c24_i32 : BitVec 32 := 24#32
  let v412 : BitVec 32 := Scalar.addi v409 c24_i32
  v412
def k0_off14 (k0_t4 : Fin k0_t4_loop.trips) (c24_i32 : BitVec 32) : Fin 3 → Nat :=
  let c5_377 : Index := 5#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let v412 : BitVec 32 := Scalar.addi v409 c24_i32
  let v413 : BitVec 32 := v412
  let v414 : Index := Scalar.indexCast v413
  let c0_378 : Index := 0#32
  ![5, v414.toNat, 0]
def k0_mult15 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c24_i32_383 : BitVec 32 := 24#32
  let v434 : BitVec 32 := Scalar.addi v409 c24_i32_383
  v434
def k0_off15 (k0_t4 : Fin k0_t4_loop.trips) (c24_i32_383 : BitVec 32) : Fin 3 → Nat :=
  let c4_384 : Index := 4#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let v434 : BitVec 32 := Scalar.addi v409 c24_i32_383
  let v435 : BitVec 32 := v434
  let v436 : Index := Scalar.indexCast v435
  let c0_385 : Index := 0#32
  ![4, v436.toNat, 0]
def k0_mult16 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c24_i32_390 : BitVec 32 := 24#32
  let v456 : BitVec 32 := Scalar.addi v409 c24_i32_390
  v456
def k0_off16 (k0_t4 : Fin k0_t4_loop.trips) (c24_i32_390 : BitVec 32) : Fin 3 → Nat :=
  let c3_391 : Index := 3#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let v456 : BitVec 32 := Scalar.addi v409 c24_i32_390
  let v457 : BitVec 32 := v456
  let v458 : Index := Scalar.indexCast v457
  let c0_392 : Index := 0#32
  ![3, v458.toNat, 0]
def k0_mult17 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c24_i32_397 : BitVec 32 := 24#32
  let v478 : BitVec 32 := Scalar.addi v409 c24_i32_397
  v478
def k0_off17 (k0_t4 : Fin k0_t4_loop.trips) (c24_i32_397 : BitVec 32) : Fin 3 → Nat :=
  let c2_398 : Index := 2#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let v478 : BitVec 32 := Scalar.addi v409 c24_i32_397
  let v479 : BitVec 32 := v478
  let v480 : Index := Scalar.indexCast v479
  let c0_399 : Index := 0#32
  ![2, v480.toNat, 0]
def k0_mult18 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c24_i32_404 : BitVec 32 := 24#32
  let v500 : BitVec 32 := Scalar.addi v409 c24_i32_404
  v500
def k0_off18 (k0_t4 : Fin k0_t4_loop.trips) (c24_i32_404 : BitVec 32) : Fin 3 → Nat :=
  let c1_405 : Index := 1#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let v500 : BitVec 32 := Scalar.addi v409 c24_i32_404
  let v501 : BitVec 32 := v500
  let v502 : Index := Scalar.indexCast v501
  let c0_406 : Index := 0#32
  ![1, v502.toNat, 0]
def k0_mult19 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c24_i32_411 : BitVec 32 := 24#32
  let v522 : BitVec 32 := Scalar.addi v409 c24_i32_411
  v522
def k0_off19 (k0_t4 : Fin k0_t4_loop.trips) (c24_i32_411 : BitVec 32) : Fin 3 → Nat :=
  let c0_412 : Index := 0#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let v522 : BitVec 32 := Scalar.addi v409 c24_i32_411
  let v523 : BitVec 32 := v522
  let v524 : Index := Scalar.indexCast v523
  let c0_413 : Index := 0#32
  ![0, v524.toNat, 0]
def k0_mult20 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c24_i32_418 : BitVec 32 := 24#32
  let v544 : BitVec 32 := Scalar.addi v409 c24_i32_418
  v544
def k0_off20 (k0_t4 : Fin k0_t4_loop.trips) (c24_i32_418 : BitVec 32) : Fin 2 → Nat :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let v544 : BitVec 32 := Scalar.addi v409 c24_i32_418
  let v545 : BitVec 32 := v544
  let v546 : Index := Scalar.indexCast v545
  let c0_419 : Index := 0#32
  ![v546.toNat, 0]
def k0_mult21 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c16_i32 : BitVec 32 := 16#32
  let v565 : BitVec 32 := Scalar.addi v409 c16_i32
  v565
def k0_off21 (k0_t4 : Fin k0_t4_loop.trips) (c16_i32 : BitVec 32) : Fin 3 → Nat :=
  let c6_424 : Index := 6#32
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let v565 : BitVec 32 := Scalar.addi v409 c16_i32
  let v566 : BitVec 32 := v565
  let v567 : Index := Scalar.indexCast v566
  let c0_425 : Index := 0#32
  ![6, v567.toNat, 0]
def k0_mult22 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c16_i32_430 : BitVec 32 := 16#32
  let v587 : BitVec 32 := Scalar.addi v409 c16_i32_430
  v587
def k0_mult23 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c16_i32_437 : BitVec 32 := 16#32
  let v609 : BitVec 32 := Scalar.addi v409 c16_i32_437
  v609
def k0_mult24 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c16_i32_444 : BitVec 32 := 16#32
  let v631 : BitVec 32 := Scalar.addi v409 c16_i32_444
  v631
def k0_mult25 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c16_i32_451 : BitVec 32 := 16#32
  let v653 : BitVec 32 := Scalar.addi v409 c16_i32_451
  v653
def k0_mult26 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c16_i32_458 : BitVec 32 := 16#32
  let v675 : BitVec 32 := Scalar.addi v409 c16_i32_458
  v675
def k0_mult27 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c16_i32_465 : BitVec 32 := 16#32
  let v697 : BitVec 32 := Scalar.addi v409 c16_i32_465
  v697
def k0_mult28 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c16_i32_472 : BitVec 32 := 16#32
  let v719 : BitVec 32 := Scalar.addi v409 c16_i32_472
  v719
def k0_mult29 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c8_i32 : BitVec 32 := 8#32
  let v740 : BitVec 32 := Scalar.addi v409 c8_i32
  v740
def k0_mult30 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c8_i32_484 : BitVec 32 := 8#32
  let v762 : BitVec 32 := Scalar.addi v409 c8_i32_484
  v762
def k0_mult31 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c8_i32_491 : BitVec 32 := 8#32
  let v784 : BitVec 32 := Scalar.addi v409 c8_i32_491
  v784
def k0_mult32 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c8_i32_498 : BitVec 32 := 8#32
  let v806 : BitVec 32 := Scalar.addi v409 c8_i32_498
  v806
def k0_mult33 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c8_i32_505 : BitVec 32 := 8#32
  let v828 : BitVec 32 := Scalar.addi v409 c8_i32_505
  v828
def k0_mult34 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c8_i32_512 : BitVec 32 := 8#32
  let v850 : BitVec 32 := Scalar.addi v409 c8_i32_512
  v850
def k0_mult35 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c8_i32_519 : BitVec 32 := 8#32
  let v872 : BitVec 32 := Scalar.addi v409 c8_i32_519
  v872
def k0_mult36 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c8_i32_526 : BitVec 32 := 8#32
  let v894 : BitVec 32 := Scalar.addi v409 c8_i32_526
  v894
def k0_mult37 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c0_i32_532 : BitVec 32 := 0#32
  let v915 : BitVec 32 := Scalar.addi v409 c0_i32_532
  v915
def k0_mult38 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c0_i32_539 : BitVec 32 := 0#32
  let v937 : BitVec 32 := Scalar.addi v409 c0_i32_539
  v937
def k0_mult39 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c0_i32_546 : BitVec 32 := 0#32
  let v959 : BitVec 32 := Scalar.addi v409 c0_i32_546
  v959
def k0_mult40 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c0_i32_553 : BitVec 32 := 0#32
  let v981 : BitVec 32 := Scalar.addi v409 c0_i32_553
  v981
def k0_mult41 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c0_i32_560 : BitVec 32 := 0#32
  let v1003 : BitVec 32 := Scalar.addi v409 c0_i32_560
  v1003
def k0_mult42 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c0_i32_567 : BitVec 32 := 0#32
  let v1025 : BitVec 32 := Scalar.addi v409 c0_i32_567
  v1025
def k0_mult43 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c0_i32_574 : BitVec 32 := 0#32
  let v1047 : BitVec 32 := Scalar.addi v409 c0_i32_574
  v1047
def k0_mult44 (k0_t4 : Fin k0_t4_loop.trips) : BitVec 32 :=
  let c32_i32 : BitVec 32 := 32#32
  let c0_i32_210 : BitVec 32 := 0#32
  let c1_i32_212 : BitVec 32 := 1#32
  let arg15 : BitVec 32 := Scf.iv c0_i32_210 c1_i32_212 k0_t4
  let c48_i32 : BitVec 32 := 48#32
  let v407 : BitVec 32 := Scalar.muli arg15 c48_i32
  let v408 : BitVec 32 := Scalar.addi c32_i32 v407
  let v409 : BitVec 32 := v408
  let c0_i32_581 : BitVec 32 := 0#32
  let v1069 : BitVec 32 := Scalar.addi v409 c0_i32_581
  v1069
@[reducible] def k0_t5_loop : Scf.Loop 32 :=
  let c0_i32_324 : BitVec 32 := 0#32
  let c43_i32_325 : BitVec 32 := 43#32
  let v344 : BitVec 32 := Scalar.addi c0_i32_324 c43_i32_325
  let c1_i32_326 : BitVec 32 := 1#32
  ⟨c0_i32_324, v344, c1_i32_326⟩
def k0_mult45 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  v408
def k0_mult46 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c24_i32 : BitVec 32 := 24#32
  let v412 : BitVec 32 := Scalar.addi v409 c24_i32
  v412
def k0_off22 (k0_t5 : Fin k0_t5_loop.trips) (c24_i32 : BitVec 32) : Fin 3 → Nat :=
  let c5_377 : Index := 5#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let v412 : BitVec 32 := Scalar.addi v409 c24_i32
  let v413 : BitVec 32 := v412
  let v414 : Index := Scalar.indexCast v413
  let c0_378 : Index := 0#32
  ![5, v414.toNat, 0]
def k0_mult47 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c24_i32_379 : BitVec 32 := 24#32
  let v421 : BitVec 32 := Scalar.addi v409 c24_i32_379
  v421
def k0_off23 (k0_t5 : Fin k0_t5_loop.trips) (c24_i32_379 : BitVec 32) : Fin 3 → Nat :=
  let c4_380 : Index := 4#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let v421 : BitVec 32 := Scalar.addi v409 c24_i32_379
  let v422 : BitVec 32 := v421
  let v423 : Index := Scalar.indexCast v422
  let c0_381 : Index := 0#32
  ![4, v423.toNat, 0]
def k0_mult48 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c24_i32_382 : BitVec 32 := 24#32
  let v430 : BitVec 32 := Scalar.addi v409 c24_i32_382
  v430
def k0_off24 (k0_t5 : Fin k0_t5_loop.trips) (c24_i32_382 : BitVec 32) : Fin 3 → Nat :=
  let c3_383 : Index := 3#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let v430 : BitVec 32 := Scalar.addi v409 c24_i32_382
  let v431 : BitVec 32 := v430
  let v432 : Index := Scalar.indexCast v431
  let c0_384 : Index := 0#32
  ![3, v432.toNat, 0]
def k0_mult49 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c24_i32_385 : BitVec 32 := 24#32
  let v439 : BitVec 32 := Scalar.addi v409 c24_i32_385
  v439
def k0_off25 (k0_t5 : Fin k0_t5_loop.trips) (c24_i32_385 : BitVec 32) : Fin 3 → Nat :=
  let c2_386 : Index := 2#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let v439 : BitVec 32 := Scalar.addi v409 c24_i32_385
  let v440 : BitVec 32 := v439
  let v441 : Index := Scalar.indexCast v440
  let c0_387 : Index := 0#32
  ![2, v441.toNat, 0]
def k0_mult50 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c24_i32_388 : BitVec 32 := 24#32
  let v448 : BitVec 32 := Scalar.addi v409 c24_i32_388
  v448
def k0_off26 (k0_t5 : Fin k0_t5_loop.trips) (c24_i32_388 : BitVec 32) : Fin 3 → Nat :=
  let c1_389 : Index := 1#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let v448 : BitVec 32 := Scalar.addi v409 c24_i32_388
  let v449 : BitVec 32 := v448
  let v450 : Index := Scalar.indexCast v449
  let c0_390 : Index := 0#32
  ![1, v450.toNat, 0]
def k0_mult51 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c24_i32_391 : BitVec 32 := 24#32
  let v457 : BitVec 32 := Scalar.addi v409 c24_i32_391
  v457
def k0_off27 (k0_t5 : Fin k0_t5_loop.trips) (c24_i32_391 : BitVec 32) : Fin 3 → Nat :=
  let c0_392 : Index := 0#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let v457 : BitVec 32 := Scalar.addi v409 c24_i32_391
  let v458 : BitVec 32 := v457
  let v459 : Index := Scalar.indexCast v458
  let c0_393 : Index := 0#32
  ![0, v459.toNat, 0]
def k0_mult52 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c24_i32_394 : BitVec 32 := 24#32
  let v466 : BitVec 32 := Scalar.addi v409 c24_i32_394
  v466
def k0_off28 (k0_t5 : Fin k0_t5_loop.trips) (c24_i32_394 : BitVec 32) : Fin 2 → Nat :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let v466 : BitVec 32 := Scalar.addi v409 c24_i32_394
  let v467 : BitVec 32 := v466
  let v468 : Index := Scalar.indexCast v467
  let c0_395 : Index := 0#32
  ![v468.toNat, 0]
def k0_mult53 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c16_i32 : BitVec 32 := 16#32
  let v474 : BitVec 32 := Scalar.addi v409 c16_i32
  v474
def k0_off29 (k0_t5 : Fin k0_t5_loop.trips) (c16_i32 : BitVec 32) : Fin 3 → Nat :=
  let c6_396 : Index := 6#32
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let v474 : BitVec 32 := Scalar.addi v409 c16_i32
  let v475 : BitVec 32 := v474
  let v476 : Index := Scalar.indexCast v475
  let c0_397 : Index := 0#32
  ![6, v476.toNat, 0]
def k0_mult54 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c16_i32_398 : BitVec 32 := 16#32
  let v483 : BitVec 32 := Scalar.addi v409 c16_i32_398
  v483
def k0_mult55 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c16_i32_401 : BitVec 32 := 16#32
  let v492 : BitVec 32 := Scalar.addi v409 c16_i32_401
  v492
def k0_mult56 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c16_i32_404 : BitVec 32 := 16#32
  let v501 : BitVec 32 := Scalar.addi v409 c16_i32_404
  v501
def k0_mult57 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c16_i32_407 : BitVec 32 := 16#32
  let v510 : BitVec 32 := Scalar.addi v409 c16_i32_407
  v510
def k0_mult58 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c16_i32_410 : BitVec 32 := 16#32
  let v519 : BitVec 32 := Scalar.addi v409 c16_i32_410
  v519
def k0_mult59 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c16_i32_413 : BitVec 32 := 16#32
  let v528 : BitVec 32 := Scalar.addi v409 c16_i32_413
  v528
def k0_mult60 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c16_i32_416 : BitVec 32 := 16#32
  let v537 : BitVec 32 := Scalar.addi v409 c16_i32_416
  v537
def k0_mult61 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c8_i32 : BitVec 32 := 8#32
  let v545 : BitVec 32 := Scalar.addi v409 c8_i32
  v545
def k0_mult62 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c8_i32_420 : BitVec 32 := 8#32
  let v554 : BitVec 32 := Scalar.addi v409 c8_i32_420
  v554
def k0_mult63 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c8_i32_423 : BitVec 32 := 8#32
  let v563 : BitVec 32 := Scalar.addi v409 c8_i32_423
  v563
def k0_mult64 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c8_i32_426 : BitVec 32 := 8#32
  let v572 : BitVec 32 := Scalar.addi v409 c8_i32_426
  v572
def k0_mult65 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c8_i32_429 : BitVec 32 := 8#32
  let v581 : BitVec 32 := Scalar.addi v409 c8_i32_429
  v581
def k0_mult66 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c8_i32_432 : BitVec 32 := 8#32
  let v590 : BitVec 32 := Scalar.addi v409 c8_i32_432
  v590
def k0_mult67 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c8_i32_435 : BitVec 32 := 8#32
  let v599 : BitVec 32 := Scalar.addi v409 c8_i32_435
  v599
def k0_mult68 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c8_i32_438 : BitVec 32 := 8#32
  let v608 : BitVec 32 := Scalar.addi v409 c8_i32_438
  v608
def k0_mult69 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c0_i32_440 : BitVec 32 := 0#32
  let v616 : BitVec 32 := Scalar.addi v409 c0_i32_440
  v616
def k0_mult70 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c0_i32_443 : BitVec 32 := 0#32
  let v625 : BitVec 32 := Scalar.addi v409 c0_i32_443
  v625
def k0_mult71 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c0_i32_446 : BitVec 32 := 0#32
  let v634 : BitVec 32 := Scalar.addi v409 c0_i32_446
  v634
def k0_mult72 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c0_i32_449 : BitVec 32 := 0#32
  let v643 : BitVec 32 := Scalar.addi v409 c0_i32_449
  v643
def k0_mult73 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c0_i32_452 : BitVec 32 := 0#32
  let v652 : BitVec 32 := Scalar.addi v409 c0_i32_452
  v652
def k0_mult74 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c0_i32_455 : BitVec 32 := 0#32
  let v661 : BitVec 32 := Scalar.addi v409 c0_i32_455
  v661
def k0_mult75 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c0_i32_458 : BitVec 32 := 0#32
  let v670 : BitVec 32 := Scalar.addi v409 c0_i32_458
  v670
def k0_mult76 (k0_t5 : Fin k0_t5_loop.trips) : BitVec 32 :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let c0_i32_461 : BitVec 32 := 0#32
  let v679 : BitVec 32 := Scalar.addi v409 c0_i32_461
  v679
def k0_off30 (k0_t5 : Fin k0_t5_loop.trips) : Fin 2 → Nat :=
  let c32_i32 : BitVec 32 := 32#32
  let c0_i32_324 : BitVec 32 := 0#32
  let c1_i32_326 : BitVec 32 := 1#32
  let arg15 : BitVec 32 := Scf.iv c0_i32_324 c1_i32_326 k0_t5
  let c48_i32 : BitVec 32 := 48#32
  let v407 : BitVec 32 := Scalar.muli arg15 c48_i32
  let v408 : BitVec 32 := Scalar.addi c32_i32 v407
  let v409 : BitVec 32 := v408
  let v686 : Index := Scalar.indexCast v409
  let c0_463 : Index := 0#32
  ![v686.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S5x2176x512 : Shape := ⟨3, ![5, 2176, 512]⟩
abbrev S2176x512 : Shape := ⟨2, ![2176, 512]⟩
abbrev S3x512 : Shape := ⟨2, ![3, 512]⟩
abbrev S31x512 : Shape := ⟨2, ![31, 512]⟩
abbrev S_ : Shape := ⟨0, ![]⟩
abbrev S1x512 : Shape := ⟨2, ![1, 512]⟩
abbrev S5x16x512 : Shape := ⟨3, ![5, 16, 512]⟩
abbrev S5x2048x512 : Shape := ⟨3, ![5, 2048, 512]⟩
abbrev S5x2064x512 : Shape := ⟨3, ![5, 2064, 512]⟩
abbrev S1x2064x512 : Shape := ⟨3, ![1, 2064, 512]⟩
abbrev S2064x512 : Shape := ⟨2, ![2064, 512]⟩
abbrev S2x512 : Shape := ⟨2, ![2, 512]⟩
abbrev S2066x512 : Shape := ⟨2, ![2066, 512]⟩
abbrev S512 : Shape := ⟨1, ![512]⟩
abbrev S30x512 : Shape := ⟨2, ![30, 512]⟩
abbrev S2094x512 : Shape := ⟨2, ![2094, 512]⟩
abbrev S16x512 : Shape := ⟨2, ![16, 512]⟩
abbrev S2048x512 : Shape := ⟨2, ![2048, 512]⟩

abbrev nBuf : Space → Nat
  | .hbm => 842
  | .vmem => 0
  | .smem => 0
  | _ => 0

abbrev hbmTy0_0 (i : Nat) : BufTy := match i % 128 with
  | 0 => ⟨S5x2176x512, .f32⟩
  | 1 => ⟨S2176x512, .f32⟩
  | 2 => ⟨S2176x512, .f32⟩
  | 3 => ⟨S3x512, .f32⟩
  | 4 => ⟨S31x512, .f32⟩
  | 5 => ⟨S_, .f32⟩
  | 6 => ⟨S1x512, .f32⟩
  | 7 => ⟨S5x16x512, .f32⟩
  | 8 => ⟨S5x2048x512, .f32⟩
  | 9 => ⟨S5x2064x512, .f32⟩
  | 10 => ⟨S1x2064x512, .f32⟩
  | 11 => ⟨S2064x512, .f32⟩
  | 12 => ⟨S1x2064x512, .f32⟩
  | 13 => ⟨S2064x512, .f32⟩
  | 14 => ⟨S1x2064x512, .f32⟩
  | 15 => ⟨S2064x512, .f32⟩
  | 16 => ⟨S1x2064x512, .f32⟩
  | 17 => ⟨S2064x512, .f32⟩
  | 18 => ⟨S1x2064x512, .f32⟩
  | 19 => ⟨S2064x512, .f32⟩
  | 20 => ⟨S2064x512, .f32⟩
  | 21 => ⟨S_, .f32⟩
  | 22 => ⟨S2x512, .f32⟩
  | 23 => ⟨S2066x512, .f32⟩
  | 24 => ⟨S_, .f32⟩
  | 25 => ⟨S2x512, .f32⟩
  | 26 => ⟨S1x512, .f32⟩
  | 27 => ⟨S512, .f32⟩
  | 28 => ⟨S1x512, .f32⟩
  | 29 => ⟨S2064x512, .f32⟩
  | 30 => ⟨S2064x512, .f32⟩
  | 31 => ⟨S2064x512, .f32⟩
  | 32 => ⟨S_, .f32⟩
  | 33 => ⟨S2064x512, .f32⟩
  | 34 => ⟨S2064x512, .f32⟩
  | 35 => ⟨S1x512, .f32⟩
  | 36 => ⟨S512, .f32⟩
  | 37 => ⟨S1x512, .f32⟩
  | 38 => ⟨S2064x512, .f32⟩
  | 39 => ⟨S2064x512, .f32⟩
  | 40 => ⟨S2064x512, .f32⟩
  | 41 => ⟨S2064x512, .f32⟩
  | 42 => ⟨S1x512, .f32⟩
  | 43 => ⟨S512, .f32⟩
  | 44 => ⟨S1x512, .f32⟩
  | 45 => ⟨S2064x512, .f32⟩
  | 46 => ⟨S2064x512, .f32⟩
  | 47 => ⟨S2064x512, .f32⟩
  | 48 => ⟨S2064x512, .f32⟩
  | 49 => ⟨S2064x512, .f32⟩
  | 50 => ⟨S2064x512, .f32⟩
  | 51 => ⟨S2064x512, .f32⟩
  | 52 => ⟨S_, .f32⟩
  | 53 => ⟨S2064x512, .f32⟩
  | 54 => ⟨S2064x512, .f32⟩
  | 55 => ⟨S_, .f32⟩
  | 56 => ⟨S2064x512, .f32⟩
  | 57 => ⟨S2064x512, .f32⟩
  | 58 => ⟨S_, .f32⟩
  | 59 => ⟨S2064x512, .f32⟩
  | 60 => ⟨S2064x512, .f32⟩
  | 61 => ⟨S2064x512, .f32⟩
  | 62 => ⟨S2064x512, .f32⟩
  | 63 => ⟨S_, .f32⟩
  | 64 => ⟨S30x512, .f32⟩
  | 65 => ⟨S2094x512, .f32⟩
  | 66 => ⟨S_, .f32⟩
  | 67 => ⟨S30x512, .f32⟩
  | 68 => ⟨S1x512, .f32⟩
  | 69 => ⟨S512, .f32⟩
  | 70 => ⟨S1x512, .f32⟩
  | 71 => ⟨S2064x512, .f32⟩
  | 72 => ⟨S2064x512, .f32⟩
  | 73 => ⟨S2064x512, .f32⟩
  | 74 => ⟨S_, .f32⟩
  | 75 => ⟨S2064x512, .f32⟩
  | 76 => ⟨S2064x512, .f32⟩
  | 77 => ⟨S1x512, .f32⟩
  | 78 => ⟨S512, .f32⟩
  | 79 => ⟨S1x512, .f32⟩
  | 80 => ⟨S2064x512, .f32⟩
  | 81 => ⟨S2064x512, .f32⟩
  | 82 => ⟨S2064x512, .f32⟩
  | 83 => ⟨S2064x512, .f32⟩
  | 84 => ⟨S1x512, .f32⟩
  | 85 => ⟨S512, .f32⟩
  | 86 => ⟨S1x512, .f32⟩
  | 87 => ⟨S2064x512, .f32⟩
  | 88 => ⟨S2064x512, .f32⟩
  | 89 => ⟨S2064x512, .f32⟩
  | 90 => ⟨S2064x512, .f32⟩
  | 91 => ⟨S1x512, .f32⟩
  | 92 => ⟨S512, .f32⟩
  | 93 => ⟨S1x512, .f32⟩
  | 94 => ⟨S2064x512, .f32⟩
  | 95 => ⟨S2064x512, .f32⟩
  | 96 => ⟨S2064x512, .f32⟩
  | 97 => ⟨S2064x512, .f32⟩
  | 98 => ⟨S1x512, .f32⟩
  | 99 => ⟨S512, .f32⟩
  | 100 => ⟨S1x512, .f32⟩
  | 101 => ⟨S2064x512, .f32⟩
  | 102 => ⟨S2064x512, .f32⟩
  | 103 => ⟨S2064x512, .f32⟩
  | 104 => ⟨S2064x512, .f32⟩
  | 105 => ⟨S1x512, .f32⟩
  | 106 => ⟨S512, .f32⟩
  | 107 => ⟨S1x512, .f32⟩
  | 108 => ⟨S2064x512, .f32⟩
  | 109 => ⟨S2064x512, .f32⟩
  | 110 => ⟨S2064x512, .f32⟩
  | 111 => ⟨S2064x512, .f32⟩
  | 112 => ⟨S1x512, .f32⟩
  | 113 => ⟨S512, .f32⟩
  | 114 => ⟨S1x512, .f32⟩
  | 115 => ⟨S2064x512, .f32⟩
  | 116 => ⟨S2064x512, .f32⟩
  | 117 => ⟨S2064x512, .f32⟩
  | 118 => ⟨S2064x512, .f32⟩
  | 119 => ⟨S1x512, .f32⟩
  | 120 => ⟨S512, .f32⟩
  | 121 => ⟨S1x512, .f32⟩
  | 122 => ⟨S2064x512, .f32⟩
  | 123 => ⟨S2064x512, .f32⟩
  | 124 => ⟨S2064x512, .f32⟩
  | 125 => ⟨S2064x512, .f32⟩
  | 126 => ⟨S1x512, .f32⟩
  | 127 => ⟨S512, .f32⟩
  | _ => ⟨S5x2176x512, .f32⟩

abbrev hbmTy0_1 (i : Nat) : BufTy := match i % 128 with
  | 0 => ⟨S1x512, .f32⟩
  | 1 => ⟨S2064x512, .f32⟩
  | 2 => ⟨S2064x512, .f32⟩
  | 3 => ⟨S2064x512, .f32⟩
  | 4 => ⟨S2064x512, .f32⟩
  | 5 => ⟨S1x512, .f32⟩
  | 6 => ⟨S512, .f32⟩
  | 7 => ⟨S1x512, .f32⟩
  | 8 => ⟨S2064x512, .f32⟩
  | 9 => ⟨S2064x512, .f32⟩
  | 10 => ⟨S2064x512, .f32⟩
  | 11 => ⟨S2064x512, .f32⟩
  | 12 => ⟨S1x512, .f32⟩
  | 13 => ⟨S512, .f32⟩
  | 14 => ⟨S1x512, .f32⟩
  | 15 => ⟨S2064x512, .f32⟩
  | 16 => ⟨S2064x512, .f32⟩
  | 17 => ⟨S2064x512, .f32⟩
  | 18 => ⟨S2064x512, .f32⟩
  | 19 => ⟨S1x512, .f32⟩
  | 20 => ⟨S512, .f32⟩
  | 21 => ⟨S1x512, .f32⟩
  | 22 => ⟨S2064x512, .f32⟩
  | 23 => ⟨S2064x512, .f32⟩
  | 24 => ⟨S2064x512, .f32⟩
  | 25 => ⟨S2064x512, .f32⟩
  | 26 => ⟨S1x512, .f32⟩
  | 27 => ⟨S512, .f32⟩
  | 28 => ⟨S1x512, .f32⟩
  | 29 => ⟨S2064x512, .f32⟩
  | 30 => ⟨S2064x512, .f32⟩
  | 31 => ⟨S2064x512, .f32⟩
  | 32 => ⟨S2064x512, .f32⟩
  | 33 => ⟨S1x512, .f32⟩
  | 34 => ⟨S512, .f32⟩
  | 35 => ⟨S1x512, .f32⟩
  | 36 => ⟨S2064x512, .f32⟩
  | 37 => ⟨S2064x512, .f32⟩
  | 38 => ⟨S2064x512, .f32⟩
  | 39 => ⟨S2064x512, .f32⟩
  | 40 => ⟨S1x512, .f32⟩
  | 41 => ⟨S512, .f32⟩
  | 42 => ⟨S1x512, .f32⟩
  | 43 => ⟨S2064x512, .f32⟩
  | 44 => ⟨S2064x512, .f32⟩
  | 45 => ⟨S2064x512, .f32⟩
  | 46 => ⟨S2064x512, .f32⟩
  | 47 => ⟨S1x512, .f32⟩
  | 48 => ⟨S512, .f32⟩
  | 49 => ⟨S1x512, .f32⟩
  | 50 => ⟨S2064x512, .f32⟩
  | 51 => ⟨S2064x512, .f32⟩
  | 52 => ⟨S2064x512, .f32⟩
  | 53 => ⟨S2064x512, .f32⟩
  | 54 => ⟨S1x512, .f32⟩
  | 55 => ⟨S512, .f32⟩
  | 56 => ⟨S1x512, .f32⟩
  | 57 => ⟨S2064x512, .f32⟩
  | 58 => ⟨S2064x512, .f32⟩
  | 59 => ⟨S2064x512, .f32⟩
  | 60 => ⟨S2064x512, .f32⟩
  | 61 => ⟨S1x512, .f32⟩
  | 62 => ⟨S512, .f32⟩
  | 63 => ⟨S1x512, .f32⟩
  | 64 => ⟨S2064x512, .f32⟩
  | 65 => ⟨S2064x512, .f32⟩
  | 66 => ⟨S2064x512, .f32⟩
  | 67 => ⟨S2064x512, .f32⟩
  | 68 => ⟨S1x512, .f32⟩
  | 69 => ⟨S512, .f32⟩
  | 70 => ⟨S1x512, .f32⟩
  | 71 => ⟨S2064x512, .f32⟩
  | 72 => ⟨S2064x512, .f32⟩
  | 73 => ⟨S2064x512, .f32⟩
  | 74 => ⟨S2064x512, .f32⟩
  | 75 => ⟨S1x512, .f32⟩
  | 76 => ⟨S512, .f32⟩
  | 77 => ⟨S1x512, .f32⟩
  | 78 => ⟨S2064x512, .f32⟩
  | 79 => ⟨S2064x512, .f32⟩
  | 80 => ⟨S2064x512, .f32⟩
  | 81 => ⟨S2064x512, .f32⟩
  | 82 => ⟨S1x512, .f32⟩
  | 83 => ⟨S512, .f32⟩
  | 84 => ⟨S1x512, .f32⟩
  | 85 => ⟨S2064x512, .f32⟩
  | 86 => ⟨S2064x512, .f32⟩
  | 87 => ⟨S2064x512, .f32⟩
  | 88 => ⟨S2064x512, .f32⟩
  | 89 => ⟨S1x512, .f32⟩
  | 90 => ⟨S512, .f32⟩
  | 91 => ⟨S1x512, .f32⟩
  | 92 => ⟨S2064x512, .f32⟩
  | 93 => ⟨S2064x512, .f32⟩
  | 94 => ⟨S2064x512, .f32⟩
  | 95 => ⟨S2064x512, .f32⟩
  | 96 => ⟨S1x512, .f32⟩
  | 97 => ⟨S512, .f32⟩
  | 98 => ⟨S1x512, .f32⟩
  | 99 => ⟨S2064x512, .f32⟩
  | 100 => ⟨S2064x512, .f32⟩
  | 101 => ⟨S2064x512, .f32⟩
  | 102 => ⟨S2064x512, .f32⟩
  | 103 => ⟨S1x512, .f32⟩
  | 104 => ⟨S512, .f32⟩
  | 105 => ⟨S1x512, .f32⟩
  | 106 => ⟨S2064x512, .f32⟩
  | 107 => ⟨S2064x512, .f32⟩
  | 108 => ⟨S2064x512, .f32⟩
  | 109 => ⟨S2064x512, .f32⟩
  | 110 => ⟨S1x512, .f32⟩
  | 111 => ⟨S512, .f32⟩
  | 112 => ⟨S1x512, .f32⟩
  | 113 => ⟨S2064x512, .f32⟩
  | 114 => ⟨S2064x512, .f32⟩
  | 115 => ⟨S2064x512, .f32⟩
  | 116 => ⟨S2064x512, .f32⟩
  | 117 => ⟨S1x512, .f32⟩
  | 118 => ⟨S512, .f32⟩
  | 119 => ⟨S1x512, .f32⟩
  | 120 => ⟨S2064x512, .f32⟩
  | 121 => ⟨S2064x512, .f32⟩
  | 122 => ⟨S2064x512, .f32⟩
  | 123 => ⟨S2064x512, .f32⟩
  | 124 => ⟨S1x512, .f32⟩
  | 125 => ⟨S512, .f32⟩
  | 126 => ⟨S1x512, .f32⟩
  | 127 => ⟨S2064x512, .f32⟩
  | _ => ⟨S5x2176x512, .f32⟩

abbrev hbmTy0_2 (i : Nat) : BufTy := match i % 128 with
  | 0 => ⟨S2064x512, .f32⟩
  | 1 => ⟨S2064x512, .f32⟩
  | 2 => ⟨S2064x512, .f32⟩
  | 3 => ⟨S1x512, .f32⟩
  | 4 => ⟨S512, .f32⟩
  | 5 => ⟨S1x512, .f32⟩
  | 6 => ⟨S2064x512, .f32⟩
  | 7 => ⟨S2064x512, .f32⟩
  | 8 => ⟨S2064x512, .f32⟩
  | 9 => ⟨S2064x512, .f32⟩
  | 10 => ⟨S1x512, .f32⟩
  | 11 => ⟨S512, .f32⟩
  | 12 => ⟨S1x512, .f32⟩
  | 13 => ⟨S2064x512, .f32⟩
  | 14 => ⟨S2064x512, .f32⟩
  | 15 => ⟨S2064x512, .f32⟩
  | 16 => ⟨S2064x512, .f32⟩
  | 17 => ⟨S1x512, .f32⟩
  | 18 => ⟨S512, .f32⟩
  | 19 => ⟨S1x512, .f32⟩
  | 20 => ⟨S2064x512, .f32⟩
  | 21 => ⟨S2064x512, .f32⟩
  | 22 => ⟨S2064x512, .f32⟩
  | 23 => ⟨S2064x512, .f32⟩
  | 24 => ⟨S1x512, .f32⟩
  | 25 => ⟨S512, .f32⟩
  | 26 => ⟨S1x512, .f32⟩
  | 27 => ⟨S2064x512, .f32⟩
  | 28 => ⟨S2064x512, .f32⟩
  | 29 => ⟨S2064x512, .f32⟩
  | 30 => ⟨S2064x512, .f32⟩
  | 31 => ⟨S2064x512, .f32⟩
  | 32 => ⟨S2064x512, .f32⟩
  | 33 => ⟨S16x512, .f32⟩
  | 34 => ⟨S2048x512, .f32⟩
  | 35 => ⟨S2064x512, .f32⟩
  | 36 => ⟨S16x512, .f32⟩
  | 37 => ⟨S2048x512, .f32⟩
  | 38 => ⟨S2064x512, .f32⟩
  | 39 => ⟨S_, .f32⟩
  | 40 => ⟨S512, .f32⟩
  | 41 => ⟨S1x512, .f32⟩
  | 42 => ⟨S2064x512, .f32⟩
  | 43 => ⟨S2064x512, .f32⟩
  | 44 => ⟨S2064x512, .f32⟩
  | 45 => ⟨S_, .f32⟩
  | 46 => ⟨S512, .f32⟩
  | 47 => ⟨S1x512, .f32⟩
  | 48 => ⟨S_, .f32⟩
  | 49 => ⟨S2094x512, .f32⟩
  | 50 => ⟨S_, .f32⟩
  | 51 => ⟨S512, .f32⟩
  | 52 => ⟨S1x512, .f32⟩
  | 53 => ⟨S_, .f32⟩
  | 54 => ⟨S31x512, .f32⟩
  | 55 => ⟨S2064x512, .f32⟩
  | 56 => ⟨S2064x512, .f32⟩
  | 57 => ⟨S2064x512, .f32⟩
  | 58 => ⟨S_, .f32⟩
  | 59 => ⟨S512, .f32⟩
  | 60 => ⟨S1x512, .f32⟩
  | 61 => ⟨S_, .f32⟩
  | 62 => ⟨S2094x512, .f32⟩
  | 63 => ⟨S2094x512, .f32⟩
  | 64 => ⟨S_, .f32⟩
  | 65 => ⟨S512, .f32⟩
  | 66 => ⟨S1x512, .f32⟩
  | 67 => ⟨S_, .f32⟩
  | 68 => ⟨S31x512, .f32⟩
  | 69 => ⟨S31x512, .f32⟩
  | 70 => ⟨S2064x512, .f32⟩
  | 71 => ⟨S2064x512, .f32⟩
  | 72 => ⟨S2064x512, .f32⟩
  | 73 => ⟨S_, .f32⟩
  | 74 => ⟨S512, .f32⟩
  | 75 => ⟨S1x512, .f32⟩
  | 76 => ⟨S_, .f32⟩
  | 77 => ⟨S2094x512, .f32⟩
  | 78 => ⟨S2094x512, .f32⟩
  | 79 => ⟨S_, .f32⟩
  | 80 => ⟨S512, .f32⟩
  | 81 => ⟨S1x512, .f32⟩
  | 82 => ⟨S_, .f32⟩
  | 83 => ⟨S31x512, .f32⟩
  | 84 => ⟨S31x512, .f32⟩
  | 85 => ⟨S2064x512, .f32⟩
  | 86 => ⟨S2064x512, .f32⟩
  | 87 => ⟨S2064x512, .f32⟩
  | 88 => ⟨S_, .f32⟩
  | 89 => ⟨S512, .f32⟩
  | 90 => ⟨S1x512, .f32⟩
  | 91 => ⟨S_, .f32⟩
  | 92 => ⟨S2094x512, .f32⟩
  | 93 => ⟨S2094x512, .f32⟩
  | 94 => ⟨S_, .f32⟩
  | 95 => ⟨S512, .f32⟩
  | 96 => ⟨S1x512, .f32⟩
  | 97 => ⟨S_, .f32⟩
  | 98 => ⟨S31x512, .f32⟩
  | 99 => ⟨S31x512, .f32⟩
  | 100 => ⟨S2064x512, .f32⟩
  | 101 => ⟨S2064x512, .f32⟩
  | 102 => ⟨S2064x512, .f32⟩
  | 103 => ⟨S_, .f32⟩
  | 104 => ⟨S512, .f32⟩
  | 105 => ⟨S1x512, .f32⟩
  | 106 => ⟨S_, .f32⟩
  | 107 => ⟨S2094x512, .f32⟩
  | 108 => ⟨S2094x512, .f32⟩
  | 109 => ⟨S_, .f32⟩
  | 110 => ⟨S512, .f32⟩
  | 111 => ⟨S1x512, .f32⟩
  | 112 => ⟨S_, .f32⟩
  | 113 => ⟨S31x512, .f32⟩
  | 114 => ⟨S31x512, .f32⟩
  | 115 => ⟨S2064x512, .f32⟩
  | 116 => ⟨S2064x512, .f32⟩
  | 117 => ⟨S2064x512, .f32⟩
  | 118 => ⟨S_, .f32⟩
  | 119 => ⟨S512, .f32⟩
  | 120 => ⟨S1x512, .f32⟩
  | 121 => ⟨S_, .f32⟩
  | 122 => ⟨S2094x512, .f32⟩
  | 123 => ⟨S2094x512, .f32⟩
  | 124 => ⟨S_, .f32⟩
  | 125 => ⟨S512, .f32⟩
  | 126 => ⟨S1x512, .f32⟩
  | 127 => ⟨S_, .f32⟩
  | _ => ⟨S5x2176x512, .f32⟩

abbrev hbmTy0_3 (i : Nat) : BufTy := match i % 128 with
  | 0 => ⟨S31x512, .f32⟩
  | 1 => ⟨S31x512, .f32⟩
  | 2 => ⟨S2064x512, .f32⟩
  | 3 => ⟨S2064x512, .f32⟩
  | 4 => ⟨S2064x512, .f32⟩
  | 5 => ⟨S_, .f32⟩
  | 6 => ⟨S512, .f32⟩
  | 7 => ⟨S1x512, .f32⟩
  | 8 => ⟨S_, .f32⟩
  | 9 => ⟨S2094x512, .f32⟩
  | 10 => ⟨S2094x512, .f32⟩
  | 11 => ⟨S_, .f32⟩
  | 12 => ⟨S512, .f32⟩
  | 13 => ⟨S1x512, .f32⟩
  | 14 => ⟨S_, .f32⟩
  | 15 => ⟨S31x512, .f32⟩
  | 16 => ⟨S31x512, .f32⟩
  | 17 => ⟨S2064x512, .f32⟩
  | 18 => ⟨S2064x512, .f32⟩
  | 19 => ⟨S2064x512, .f32⟩
  | 20 => ⟨S_, .f32⟩
  | 21 => ⟨S512, .f32⟩
  | 22 => ⟨S1x512, .f32⟩
  | 23 => ⟨S_, .f32⟩
  | 24 => ⟨S2094x512, .f32⟩
  | 25 => ⟨S2094x512, .f32⟩
  | 26 => ⟨S_, .f32⟩
  | 27 => ⟨S512, .f32⟩
  | 28 => ⟨S1x512, .f32⟩
  | 29 => ⟨S_, .f32⟩
  | 30 => ⟨S31x512, .f32⟩
  | 31 => ⟨S31x512, .f32⟩
  | 32 => ⟨S2064x512, .f32⟩
  | 33 => ⟨S2064x512, .f32⟩
  | 34 => ⟨S2064x512, .f32⟩
  | 35 => ⟨S_, .f32⟩
  | 36 => ⟨S512, .f32⟩
  | 37 => ⟨S1x512, .f32⟩
  | 38 => ⟨S_, .f32⟩
  | 39 => ⟨S2094x512, .f32⟩
  | 40 => ⟨S2094x512, .f32⟩
  | 41 => ⟨S_, .f32⟩
  | 42 => ⟨S512, .f32⟩
  | 43 => ⟨S1x512, .f32⟩
  | 44 => ⟨S_, .f32⟩
  | 45 => ⟨S31x512, .f32⟩
  | 46 => ⟨S31x512, .f32⟩
  | 47 => ⟨S2064x512, .f32⟩
  | 48 => ⟨S2064x512, .f32⟩
  | 49 => ⟨S2064x512, .f32⟩
  | 50 => ⟨S_, .f32⟩
  | 51 => ⟨S512, .f32⟩
  | 52 => ⟨S1x512, .f32⟩
  | 53 => ⟨S_, .f32⟩
  | 54 => ⟨S2094x512, .f32⟩
  | 55 => ⟨S2094x512, .f32⟩
  | 56 => ⟨S_, .f32⟩
  | 57 => ⟨S512, .f32⟩
  | 58 => ⟨S1x512, .f32⟩
  | 59 => ⟨S_, .f32⟩
  | 60 => ⟨S31x512, .f32⟩
  | 61 => ⟨S31x512, .f32⟩
  | 62 => ⟨S2064x512, .f32⟩
  | 63 => ⟨S2064x512, .f32⟩
  | 64 => ⟨S2064x512, .f32⟩
  | 65 => ⟨S_, .f32⟩
  | 66 => ⟨S512, .f32⟩
  | 67 => ⟨S1x512, .f32⟩
  | 68 => ⟨S_, .f32⟩
  | 69 => ⟨S2094x512, .f32⟩
  | 70 => ⟨S2094x512, .f32⟩
  | 71 => ⟨S_, .f32⟩
  | 72 => ⟨S512, .f32⟩
  | 73 => ⟨S1x512, .f32⟩
  | 74 => ⟨S_, .f32⟩
  | 75 => ⟨S31x512, .f32⟩
  | 76 => ⟨S31x512, .f32⟩
  | 77 => ⟨S2064x512, .f32⟩
  | 78 => ⟨S2064x512, .f32⟩
  | 79 => ⟨S2064x512, .f32⟩
  | 80 => ⟨S_, .f32⟩
  | 81 => ⟨S512, .f32⟩
  | 82 => ⟨S1x512, .f32⟩
  | 83 => ⟨S_, .f32⟩
  | 84 => ⟨S2094x512, .f32⟩
  | 85 => ⟨S2094x512, .f32⟩
  | 86 => ⟨S_, .f32⟩
  | 87 => ⟨S512, .f32⟩
  | 88 => ⟨S1x512, .f32⟩
  | 89 => ⟨S_, .f32⟩
  | 90 => ⟨S31x512, .f32⟩
  | 91 => ⟨S31x512, .f32⟩
  | 92 => ⟨S2064x512, .f32⟩
  | 93 => ⟨S2064x512, .f32⟩
  | 94 => ⟨S2064x512, .f32⟩
  | 95 => ⟨S_, .f32⟩
  | 96 => ⟨S512, .f32⟩
  | 97 => ⟨S1x512, .f32⟩
  | 98 => ⟨S_, .f32⟩
  | 99 => ⟨S2094x512, .f32⟩
  | 100 => ⟨S2094x512, .f32⟩
  | 101 => ⟨S_, .f32⟩
  | 102 => ⟨S512, .f32⟩
  | 103 => ⟨S1x512, .f32⟩
  | 104 => ⟨S_, .f32⟩
  | 105 => ⟨S31x512, .f32⟩
  | 106 => ⟨S31x512, .f32⟩
  | 107 => ⟨S2064x512, .f32⟩
  | 108 => ⟨S2064x512, .f32⟩
  | 109 => ⟨S2064x512, .f32⟩
  | 110 => ⟨S_, .f32⟩
  | 111 => ⟨S512, .f32⟩
  | 112 => ⟨S1x512, .f32⟩
  | 113 => ⟨S_, .f32⟩
  | 114 => ⟨S2094x512, .f32⟩
  | 115 => ⟨S2094x512, .f32⟩
  | 116 => ⟨S_, .f32⟩
  | 117 => ⟨S512, .f32⟩
  | 118 => ⟨S1x512, .f32⟩
  | 119 => ⟨S_, .f32⟩
  | 120 => ⟨S31x512, .f32⟩
  | 121 => ⟨S31x512, .f32⟩
  | 122 => ⟨S2064x512, .f32⟩
  | 123 => ⟨S2064x512, .f32⟩
  | 124 => ⟨S2064x512, .f32⟩
  | 125 => ⟨S_, .f32⟩
  | 126 => ⟨S512, .f32⟩
  | 127 => ⟨S1x512, .f32⟩
  | _ => ⟨S5x2176x512, .f32⟩

abbrev hbmTy0_4 (i : Nat) : BufTy := match i % 128 with
  | 0 => ⟨S_, .f32⟩
  | 1 => ⟨S2094x512, .f32⟩
  | 2 => ⟨S2094x512, .f32⟩
  | 3 => ⟨S_, .f32⟩
  | 4 => ⟨S512, .f32⟩
  | 5 => ⟨S1x512, .f32⟩
  | 6 => ⟨S_, .f32⟩
  | 7 => ⟨S31x512, .f32⟩
  | 8 => ⟨S31x512, .f32⟩
  | 9 => ⟨S2064x512, .f32⟩
  | 10 => ⟨S2064x512, .f32⟩
  | 11 => ⟨S2064x512, .f32⟩
  | 12 => ⟨S_, .f32⟩
  | 13 => ⟨S512, .f32⟩
  | 14 => ⟨S1x512, .f32⟩
  | 15 => ⟨S_, .f32⟩
  | 16 => ⟨S2094x512, .f32⟩
  | 17 => ⟨S2094x512, .f32⟩
  | 18 => ⟨S_, .f32⟩
  | 19 => ⟨S512, .f32⟩
  | 20 => ⟨S1x512, .f32⟩
  | 21 => ⟨S_, .f32⟩
  | 22 => ⟨S31x512, .f32⟩
  | 23 => ⟨S31x512, .f32⟩
  | 24 => ⟨S2064x512, .f32⟩
  | 25 => ⟨S2064x512, .f32⟩
  | 26 => ⟨S2064x512, .f32⟩
  | 27 => ⟨S_, .f32⟩
  | 28 => ⟨S512, .f32⟩
  | 29 => ⟨S1x512, .f32⟩
  | 30 => ⟨S_, .f32⟩
  | 31 => ⟨S2094x512, .f32⟩
  | 32 => ⟨S2094x512, .f32⟩
  | 33 => ⟨S_, .f32⟩
  | 34 => ⟨S512, .f32⟩
  | 35 => ⟨S1x512, .f32⟩
  | 36 => ⟨S_, .f32⟩
  | 37 => ⟨S31x512, .f32⟩
  | 38 => ⟨S31x512, .f32⟩
  | 39 => ⟨S2064x512, .f32⟩
  | 40 => ⟨S2064x512, .f32⟩
  | 41 => ⟨S2064x512, .f32⟩
  | 42 => ⟨S_, .f32⟩
  | 43 => ⟨S512, .f32⟩
  | 44 => ⟨S1x512, .f32⟩
  | 45 => ⟨S_, .f32⟩
  | 46 => ⟨S2094x512, .f32⟩
  | 47 => ⟨S2094x512, .f32⟩
  | 48 => ⟨S_, .f32⟩
  | 49 => ⟨S512, .f32⟩
  | 50 => ⟨S1x512, .f32⟩
  | 51 => ⟨S_, .f32⟩
  | 52 => ⟨S31x512, .f32⟩
  | 53 => ⟨S31x512, .f32⟩
  | 54 => ⟨S2064x512, .f32⟩
  | 55 => ⟨S2064x512, .f32⟩
  | 56 => ⟨S2064x512, .f32⟩
  | 57 => ⟨S_, .f32⟩
  | 58 => ⟨S512, .f32⟩
  | 59 => ⟨S1x512, .f32⟩
  | 60 => ⟨S_, .f32⟩
  | 61 => ⟨S2094x512, .f32⟩
  | 62 => ⟨S2094x512, .f32⟩
  | 63 => ⟨S_, .f32⟩
  | 64 => ⟨S512, .f32⟩
  | 65 => ⟨S1x512, .f32⟩
  | 66 => ⟨S_, .f32⟩
  | 67 => ⟨S31x512, .f32⟩
  | 68 => ⟨S31x512, .f32⟩
  | 69 => ⟨S2064x512, .f32⟩
  | 70 => ⟨S2064x512, .f32⟩
  | 71 => ⟨S2064x512, .f32⟩
  | 72 => ⟨S_, .f32⟩
  | 73 => ⟨S512, .f32⟩
  | 74 => ⟨S1x512, .f32⟩
  | 75 => ⟨S_, .f32⟩
  | 76 => ⟨S2094x512, .f32⟩
  | 77 => ⟨S2094x512, .f32⟩
  | 78 => ⟨S_, .f32⟩
  | 79 => ⟨S512, .f32⟩
  | 80 => ⟨S1x512, .f32⟩
  | 81 => ⟨S_, .f32⟩
  | 82 => ⟨S31x512, .f32⟩
  | 83 => ⟨S31x512, .f32⟩
  | 84 => ⟨S2064x512, .f32⟩
  | 85 => ⟨S2064x512, .f32⟩
  | 86 => ⟨S2064x512, .f32⟩
  | 87 => ⟨S_, .f32⟩
  | 88 => ⟨S512, .f32⟩
  | 89 => ⟨S1x512, .f32⟩
  | 90 => ⟨S_, .f32⟩
  | 91 => ⟨S2094x512, .f32⟩
  | 92 => ⟨S2094x512, .f32⟩
  | 93 => ⟨S_, .f32⟩
  | 94 => ⟨S512, .f32⟩
  | 95 => ⟨S1x512, .f32⟩
  | 96 => ⟨S_, .f32⟩
  | 97 => ⟨S31x512, .f32⟩
  | 98 => ⟨S31x512, .f32⟩
  | 99 => ⟨S2064x512, .f32⟩
  | 100 => ⟨S2064x512, .f32⟩
  | 101 => ⟨S2064x512, .f32⟩
  | 102 => ⟨S_, .f32⟩
  | 103 => ⟨S512, .f32⟩
  | 104 => ⟨S1x512, .f32⟩
  | 105 => ⟨S_, .f32⟩
  | 106 => ⟨S2094x512, .f32⟩
  | 107 => ⟨S2094x512, .f32⟩
  | 108 => ⟨S_, .f32⟩
  | 109 => ⟨S512, .f32⟩
  | 110 => ⟨S1x512, .f32⟩
  | 111 => ⟨S_, .f32⟩
  | 112 => ⟨S31x512, .f32⟩
  | 113 => ⟨S31x512, .f32⟩
  | 114 => ⟨S2064x512, .f32⟩
  | 115 => ⟨S2064x512, .f32⟩
  | 116 => ⟨S2064x512, .f32⟩
  | 117 => ⟨S_, .f32⟩
  | 118 => ⟨S512, .f32⟩
  | 119 => ⟨S1x512, .f32⟩
  | 120 => ⟨S_, .f32⟩
  | 121 => ⟨S2094x512, .f32⟩
  | 122 => ⟨S2094x512, .f32⟩
  | 123 => ⟨S_, .f32⟩
  | 124 => ⟨S512, .f32⟩
  | 125 => ⟨S1x512, .f32⟩
  | 126 => ⟨S_, .f32⟩
  | 127 => ⟨S31x512, .f32⟩
  | _ => ⟨S5x2176x512, .f32⟩

abbrev hbmTy0_5 (i : Nat) : BufTy := match i % 128 with
  | 0 => ⟨S31x512, .f32⟩
  | 1 => ⟨S2064x512, .f32⟩
  | 2 => ⟨S2064x512, .f32⟩
  | 3 => ⟨S2064x512, .f32⟩
  | 4 => ⟨S_, .f32⟩
  | 5 => ⟨S512, .f32⟩
  | 6 => ⟨S1x512, .f32⟩
  | 7 => ⟨S_, .f32⟩
  | 8 => ⟨S2094x512, .f32⟩
  | 9 => ⟨S2094x512, .f32⟩
  | 10 => ⟨S_, .f32⟩
  | 11 => ⟨S512, .f32⟩
  | 12 => ⟨S1x512, .f32⟩
  | 13 => ⟨S_, .f32⟩
  | 14 => ⟨S31x512, .f32⟩
  | 15 => ⟨S31x512, .f32⟩
  | 16 => ⟨S2064x512, .f32⟩
  | 17 => ⟨S2064x512, .f32⟩
  | 18 => ⟨S2064x512, .f32⟩
  | 19 => ⟨S_, .f32⟩
  | 20 => ⟨S512, .f32⟩
  | 21 => ⟨S1x512, .f32⟩
  | 22 => ⟨S_, .f32⟩
  | 23 => ⟨S2094x512, .f32⟩
  | 24 => ⟨S2094x512, .f32⟩
  | 25 => ⟨S_, .f32⟩
  | 26 => ⟨S512, .f32⟩
  | 27 => ⟨S1x512, .f32⟩
  | 28 => ⟨S_, .f32⟩
  | 29 => ⟨S31x512, .f32⟩
  | 30 => ⟨S31x512, .f32⟩
  | 31 => ⟨S2064x512, .f32⟩
  | 32 => ⟨S2064x512, .f32⟩
  | 33 => ⟨S2064x512, .f32⟩
  | 34 => ⟨S_, .f32⟩
  | 35 => ⟨S512, .f32⟩
  | 36 => ⟨S1x512, .f32⟩
  | 37 => ⟨S_, .f32⟩
  | 38 => ⟨S2094x512, .f32⟩
  | 39 => ⟨S2094x512, .f32⟩
  | 40 => ⟨S_, .f32⟩
  | 41 => ⟨S512, .f32⟩
  | 42 => ⟨S1x512, .f32⟩
  | 43 => ⟨S_, .f32⟩
  | 44 => ⟨S31x512, .f32⟩
  | 45 => ⟨S31x512, .f32⟩
  | 46 => ⟨S2064x512, .f32⟩
  | 47 => ⟨S2064x512, .f32⟩
  | 48 => ⟨S2064x512, .f32⟩
  | 49 => ⟨S_, .f32⟩
  | 50 => ⟨S512, .f32⟩
  | 51 => ⟨S1x512, .f32⟩
  | 52 => ⟨S_, .f32⟩
  | 53 => ⟨S2094x512, .f32⟩
  | 54 => ⟨S2094x512, .f32⟩
  | 55 => ⟨S_, .f32⟩
  | 56 => ⟨S512, .f32⟩
  | 57 => ⟨S1x512, .f32⟩
  | 58 => ⟨S_, .f32⟩
  | 59 => ⟨S31x512, .f32⟩
  | 60 => ⟨S31x512, .f32⟩
  | 61 => ⟨S2064x512, .f32⟩
  | 62 => ⟨S2064x512, .f32⟩
  | 63 => ⟨S2064x512, .f32⟩
  | 64 => ⟨S_, .f32⟩
  | 65 => ⟨S512, .f32⟩
  | 66 => ⟨S1x512, .f32⟩
  | 67 => ⟨S_, .f32⟩
  | 68 => ⟨S2094x512, .f32⟩
  | 69 => ⟨S2094x512, .f32⟩
  | 70 => ⟨S_, .f32⟩
  | 71 => ⟨S512, .f32⟩
  | 72 => ⟨S1x512, .f32⟩
  | 73 => ⟨S_, .f32⟩
  | 74 => ⟨S31x512, .f32⟩
  | 75 => ⟨S31x512, .f32⟩
  | 76 => ⟨S2064x512, .f32⟩
  | 77 => ⟨S2064x512, .f32⟩
  | 78 => ⟨S2064x512, .f32⟩
  | 79 => ⟨S_, .f32⟩
  | 80 => ⟨S512, .f32⟩
  | 81 => ⟨S1x512, .f32⟩
  | 82 => ⟨S_, .f32⟩
  | 83 => ⟨S2094x512, .f32⟩
  | 84 => ⟨S2094x512, .f32⟩
  | 85 => ⟨S_, .f32⟩
  | 86 => ⟨S512, .f32⟩
  | 87 => ⟨S1x512, .f32⟩
  | 88 => ⟨S_, .f32⟩
  | 89 => ⟨S31x512, .f32⟩
  | 90 => ⟨S31x512, .f32⟩
  | 91 => ⟨S2064x512, .f32⟩
  | 92 => ⟨S2064x512, .f32⟩
  | 93 => ⟨S2064x512, .f32⟩
  | 94 => ⟨S_, .f32⟩
  | 95 => ⟨S512, .f32⟩
  | 96 => ⟨S1x512, .f32⟩
  | 97 => ⟨S_, .f32⟩
  | 98 => ⟨S2094x512, .f32⟩
  | 99 => ⟨S2094x512, .f32⟩
  | 100 => ⟨S_, .f32⟩
  | 101 => ⟨S512, .f32⟩
  | 102 => ⟨S1x512, .f32⟩
  | 103 => ⟨S_, .f32⟩
  | 104 => ⟨S31x512, .f32⟩
  | 105 => ⟨S31x512, .f32⟩
  | 106 => ⟨S2064x512, .f32⟩
  | 107 => ⟨S2064x512, .f32⟩
  | 108 => ⟨S2064x512, .f32⟩
  | 109 => ⟨S_, .f32⟩
  | 110 => ⟨S512, .f32⟩
  | 111 => ⟨S1x512, .f32⟩
  | 112 => ⟨S_, .f32⟩
  | 113 => ⟨S2094x512, .f32⟩
  | 114 => ⟨S2094x512, .f32⟩
  | 115 => ⟨S_, .f32⟩
  | 116 => ⟨S512, .f32⟩
  | 117 => ⟨S1x512, .f32⟩
  | 118 => ⟨S_, .f32⟩
  | 119 => ⟨S31x512, .f32⟩
  | 120 => ⟨S31x512, .f32⟩
  | 121 => ⟨S30x512, .f32⟩
  | 122 => ⟨S2064x512, .f32⟩
  | 123 => ⟨S2064x512, .f32⟩
  | 124 => ⟨S2064x512, .f32⟩
  | 125 => ⟨S2064x512, .f32⟩
  | 126 => ⟨S2064x512, .f32⟩
  | 127 => ⟨S2064x512, .f32⟩
  | _ => ⟨S5x2176x512, .f32⟩

abbrev hbmTy0_6 (i : Nat) : BufTy := match i % 128 with
  | 0 => ⟨S2064x512, .f32⟩
  | 1 => ⟨S2064x512, .f32⟩
  | 2 => ⟨S2064x512, .f32⟩
  | 3 => ⟨S_, .f32⟩
  | 4 => ⟨S512, .f32⟩
  | 5 => ⟨S1x512, .f32⟩
  | 6 => ⟨S_, .f32⟩
  | 7 => ⟨S2066x512, .f32⟩
  | 8 => ⟨S_, .f32⟩
  | 9 => ⟨S512, .f32⟩
  | 10 => ⟨S1x512, .f32⟩
  | 11 => ⟨S_, .f32⟩
  | 12 => ⟨S3x512, .f32⟩
  | 13 => ⟨S2064x512, .f32⟩
  | 14 => ⟨S2064x512, .f32⟩
  | 15 => ⟨S2064x512, .f32⟩
  | 16 => ⟨S_, .f32⟩
  | 17 => ⟨S512, .f32⟩
  | 18 => ⟨S1x512, .f32⟩
  | 19 => ⟨S_, .f32⟩
  | 20 => ⟨S2066x512, .f32⟩
  | 21 => ⟨S2066x512, .f32⟩
  | 22 => ⟨S_, .f32⟩
  | 23 => ⟨S512, .f32⟩
  | 24 => ⟨S1x512, .f32⟩
  | 25 => ⟨S_, .f32⟩
  | 26 => ⟨S3x512, .f32⟩
  | 27 => ⟨S3x512, .f32⟩
  | 28 => ⟨S2064x512, .f32⟩
  | 29 => ⟨S2064x512, .f32⟩
  | 30 => ⟨S2064x512, .f32⟩
  | 31 => ⟨S_, .f32⟩
  | 32 => ⟨S512, .f32⟩
  | 33 => ⟨S1x512, .f32⟩
  | 34 => ⟨S_, .f32⟩
  | 35 => ⟨S2066x512, .f32⟩
  | 36 => ⟨S2066x512, .f32⟩
  | 37 => ⟨S_, .f32⟩
  | 38 => ⟨S512, .f32⟩
  | 39 => ⟨S1x512, .f32⟩
  | 40 => ⟨S_, .f32⟩
  | 41 => ⟨S3x512, .f32⟩
  | 42 => ⟨S3x512, .f32⟩
  | 43 => ⟨S2x512, .f32⟩
  | 44 => ⟨S2064x512, .f32⟩
  | 45 => ⟨S2064x512, .f32⟩
  | 46 => ⟨S2064x512, .f32⟩
  | 47 => ⟨S1x2064x512, .f32⟩
  | 48 => ⟨S_, .f32⟩
  | 49 => ⟨S5x2064x512, .f32⟩
  | 50 => ⟨S1x2064x512, .f32⟩
  | 51 => ⟨S_, .f32⟩
  | 52 => ⟨S5x2064x512, .f32⟩
  | 53 => ⟨S5x2064x512, .f32⟩
  | 54 => ⟨S1x2064x512, .f32⟩
  | 55 => ⟨S_, .f32⟩
  | 56 => ⟨S5x2064x512, .f32⟩
  | 57 => ⟨S5x2064x512, .f32⟩
  | 58 => ⟨S1x2064x512, .f32⟩
  | 59 => ⟨S_, .f32⟩
  | 60 => ⟨S5x2064x512, .f32⟩
  | 61 => ⟨S5x2064x512, .f32⟩
  | 62 => ⟨S1x2064x512, .f32⟩
  | 63 => ⟨S_, .f32⟩
  | 64 => ⟨S5x2064x512, .f32⟩
  | 65 => ⟨S5x2064x512, .f32⟩
  | 66 => ⟨S5x16x512, .f32⟩
  | 67 => ⟨S5x2048x512, .f32⟩
  | 68 => ⟨S_, .f32⟩
  | 69 => ⟨S5x2176x512, .f32⟩
  | 70 => ⟨S_, .f32⟩
  | 71 => ⟨S5x2176x512, .f32⟩
  | 72 => ⟨S5x2176x512, .f32⟩
  | 73 => ⟨S5x2176x512, .bf16⟩
  | _ => ⟨S5x2176x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S5x2176x512, .f32⟩

abbrev bufTy : (tb : Table) → Fin (tcTables nBuf tb) → BufTy
  | .hbm, ⟨i, _⟩ => hbmTy i
  | _, _ => ⟨S5x2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_v270 : Ref sig .tc := ⟨.hbm, 285, rfl⟩
abbrev main_v271 : Ref sig .tc := ⟨.hbm, 286, rfl⟩
abbrev main_v272 : Ref sig .tc := ⟨.hbm, 287, rfl⟩
abbrev main_v273 : Ref sig .tc := ⟨.hbm, 288, rfl⟩
abbrev main_v274 : Ref sig .tc := ⟨.hbm, 289, rfl⟩
abbrev main_v275 : Ref sig .tc := ⟨.hbm, 290, rfl⟩
abbrev main_v276 : Ref sig .tc := ⟨.hbm, 291, rfl⟩
abbrev main_v277 : Ref sig .tc := ⟨.hbm, 292, rfl⟩
abbrev main_v278 : Ref sig .tc := ⟨.hbm, 293, rfl⟩
abbrev main_v279 : Ref sig .tc := ⟨.hbm, 294, rfl⟩
abbrev main_cst_9 : Ref sig .tc := ⟨.hbm, 295, rfl⟩
abbrev main_v280 : Ref sig .tc := ⟨.hbm, 296, rfl⟩
abbrev main_v281 : Ref sig .tc := ⟨.hbm, 297, rfl⟩
abbrev main_v282 : Ref sig .tc := ⟨.hbm, 298, rfl⟩
abbrev main_v283 : Ref sig .tc := ⟨.hbm, 299, rfl⟩
abbrev main_v284 : Ref sig .tc := ⟨.hbm, 300, rfl⟩
abbrev main_cst_10 : Ref sig .tc := ⟨.hbm, 301, rfl⟩
abbrev main_v285 : Ref sig .tc := ⟨.hbm, 302, rfl⟩
abbrev main_v286 : Ref sig .tc := ⟨.hbm, 303, rfl⟩
abbrev main_cst_11 : Ref sig .tc := ⟨.hbm, 304, rfl⟩
abbrev main_v287 : Ref sig .tc := ⟨.hbm, 305, rfl⟩
abbrev main_cst_12 : Ref sig .tc := ⟨.hbm, 306, rfl⟩
abbrev main_v288 : Ref sig .tc := ⟨.hbm, 307, rfl⟩
abbrev main_v289 : Ref sig .tc := ⟨.hbm, 308, rfl⟩
abbrev main_cst_13 : Ref sig .tc := ⟨.hbm, 309, rfl⟩
abbrev main_v290 : Ref sig .tc := ⟨.hbm, 310, rfl⟩
abbrev main_v291 : Ref sig .tc := ⟨.hbm, 311, rfl⟩
abbrev main_v292 : Ref sig .tc := ⟨.hbm, 312, rfl⟩
abbrev main_v293 : Ref sig .tc := ⟨.hbm, 313, rfl⟩
abbrev main_cst_14 : Ref sig .tc := ⟨.hbm, 314, rfl⟩
abbrev main_v294 : Ref sig .tc := ⟨.hbm, 315, rfl⟩
abbrev main_v295 : Ref sig .tc := ⟨.hbm, 316, rfl⟩
abbrev main_cst_15 : Ref sig .tc := ⟨.hbm, 317, rfl⟩
abbrev main_v296 : Ref sig .tc := ⟨.hbm, 318, rfl⟩
abbrev main_v297 : Ref sig .tc := ⟨.hbm, 319, rfl⟩
abbrev main_cst_16 : Ref sig .tc := ⟨.hbm, 320, rfl⟩
abbrev main_v298 : Ref sig .tc := ⟨.hbm, 321, rfl⟩
abbrev main_v299 : Ref sig .tc := ⟨.hbm, 322, rfl⟩
abbrev main_cst_17 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_cst_18 : Ref sig .tc := ⟨.hbm, 329, rfl⟩
abbrev main_v305 : Ref sig .tc := ⟨.hbm, 330, rfl⟩
abbrev main_v306 : Ref sig .tc := ⟨.hbm, 331, rfl⟩
abbrev main_cst_19 : Ref sig .tc := ⟨.hbm, 332, rfl⟩
abbrev main_v307 : Ref sig .tc := ⟨.hbm, 333, rfl⟩
abbrev main_v308 : Ref sig .tc := ⟨.hbm, 334, rfl⟩
abbrev main_cst_20 : Ref sig .tc := ⟨.hbm, 335, rfl⟩
abbrev main_v309 : Ref sig .tc := ⟨.hbm, 336, rfl⟩
abbrev main_v310 : Ref sig .tc := ⟨.hbm, 337, rfl⟩
abbrev main_cst_21 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_cst_22 : Ref sig .tc := ⟨.hbm, 344, rfl⟩
abbrev main_v316 : Ref sig .tc := ⟨.hbm, 345, rfl⟩
abbrev main_v317 : Ref sig .tc := ⟨.hbm, 346, rfl⟩
abbrev main_cst_23 : Ref sig .tc := ⟨.hbm, 347, rfl⟩
abbrev main_v318 : Ref sig .tc := ⟨.hbm, 348, rfl⟩
abbrev main_v319 : Ref sig .tc := ⟨.hbm, 349, rfl⟩
abbrev main_cst_24 : Ref sig .tc := ⟨.hbm, 350, rfl⟩
abbrev main_v320 : Ref sig .tc := ⟨.hbm, 351, rfl⟩
abbrev main_v321 : Ref sig .tc := ⟨.hbm, 352, rfl⟩
abbrev main_cst_25 : Ref sig .tc := ⟨.hbm, 353, rfl⟩
abbrev main_v322 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_cst_26 : Ref sig .tc := ⟨.hbm, 359, rfl⟩
abbrev main_v327 : Ref sig .tc := ⟨.hbm, 360, rfl⟩
abbrev main_v328 : Ref sig .tc := ⟨.hbm, 361, rfl⟩
abbrev main_cst_27 : Ref sig .tc := ⟨.hbm, 362, rfl⟩
abbrev main_v329 : Ref sig .tc := ⟨.hbm, 363, rfl⟩
abbrev main_v330 : Ref sig .tc := ⟨.hbm, 364, rfl⟩
abbrev main_cst_28 : Ref sig .tc := ⟨.hbm, 365, rfl⟩
abbrev main_v331 : Ref sig .tc := ⟨.hbm, 366, rfl⟩
abbrev main_v332 : Ref sig .tc := ⟨.hbm, 367, rfl⟩
abbrev main_cst_29 : Ref sig .tc := ⟨.hbm, 368, rfl⟩
abbrev main_v333 : Ref sig .tc := ⟨.hbm, 369, rfl⟩
abbrev main_v334 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩
abbrev main_cst_30 : Ref sig .tc := ⟨.hbm, 374, rfl⟩
abbrev main_v338 : Ref sig .tc := ⟨.hbm, 375, rfl⟩
abbrev main_v339 : Ref sig .tc := ⟨.hbm, 376, rfl⟩
abbrev main_cst_31 : Ref sig .tc := ⟨.hbm, 377, rfl⟩
abbrev main_v340 : Ref sig .tc := ⟨.hbm, 378, rfl⟩
abbrev main_v341 : Ref sig .tc := ⟨.hbm, 379, rfl⟩
abbrev main_cst_32 : Ref sig .tc := ⟨.hbm, 380, rfl⟩
abbrev main_v342 : Ref sig .tc := ⟨.hbm, 381, rfl⟩
abbrev main_v343 : Ref sig .tc := ⟨.hbm, 382, rfl⟩
abbrev main_cst_33 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_cst_34 : Ref sig .tc := ⟨.hbm, 389, rfl⟩
abbrev main_v349 : Ref sig .tc := ⟨.hbm, 390, rfl⟩
abbrev main_v350 : Ref sig .tc := ⟨.hbm, 391, rfl⟩
abbrev main_cst_35 : Ref sig .tc := ⟨.hbm, 392, rfl⟩
abbrev main_v351 : Ref sig .tc := ⟨.hbm, 393, rfl⟩
abbrev main_v352 : Ref sig .tc := ⟨.hbm, 394, rfl⟩
abbrev main_cst_36 : Ref sig .tc := ⟨.hbm, 395, rfl⟩
abbrev main_v353 : Ref sig .tc := ⟨.hbm, 396, rfl⟩
abbrev main_v354 : Ref sig .tc := ⟨.hbm, 397, rfl⟩
abbrev main_cst_37 : Ref sig .tc := ⟨.hbm, 398, rfl⟩
abbrev main_v355 : Ref sig .tc := ⟨.hbm, 399, rfl⟩
abbrev main_v356 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_cst_38 : Ref sig .tc := ⟨.hbm, 404, rfl⟩
abbrev main_v360 : Ref sig .tc := ⟨.hbm, 405, rfl⟩
abbrev main_v361 : Ref sig .tc := ⟨.hbm, 406, rfl⟩
abbrev main_cst_39 : Ref sig .tc := ⟨.hbm, 407, rfl⟩
abbrev main_v362 : Ref sig .tc := ⟨.hbm, 408, rfl⟩
abbrev main_v363 : Ref sig .tc := ⟨.hbm, 409, rfl⟩
abbrev main_cst_40 : Ref sig .tc := ⟨.hbm, 410, rfl⟩
abbrev main_v364 : Ref sig .tc := ⟨.hbm, 411, rfl⟩
abbrev main_v365 : Ref sig .tc := ⟨.hbm, 412, rfl⟩
abbrev main_cst_41 : Ref sig .tc := ⟨.hbm, 413, rfl⟩
abbrev main_v366 : Ref sig .tc := ⟨.hbm, 414, rfl⟩
abbrev main_v367 : Ref sig .tc := ⟨.hbm, 415, rfl⟩
abbrev main_v368 : Ref sig .tc := ⟨.hbm, 416, rfl⟩
abbrev main_v369 : Ref sig .tc := ⟨.hbm, 417, rfl⟩
abbrev main_v370 : Ref sig .tc := ⟨.hbm, 418, rfl⟩
abbrev main_cst_42 : Ref sig .tc := ⟨.hbm, 419, rfl⟩
abbrev main_v371 : Ref sig .tc := ⟨.hbm, 420, rfl⟩
abbrev main_v372 : Ref sig .tc := ⟨.hbm, 421, rfl⟩
abbrev main_cst_43 : Ref sig .tc := ⟨.hbm, 422, rfl⟩
abbrev main_v373 : Ref sig .tc := ⟨.hbm, 423, rfl⟩
abbrev main_v374 : Ref sig .tc := ⟨.hbm, 424, rfl⟩
abbrev main_cst_44 : Ref sig .tc := ⟨.hbm, 425, rfl⟩
abbrev main_v375 : Ref sig .tc := ⟨.hbm, 426, rfl⟩
abbrev main_v376 : Ref sig .tc := ⟨.hbm, 427, rfl⟩
abbrev main_cst_45 : Ref sig .tc := ⟨.hbm, 428, rfl⟩
abbrev main_v377 : Ref sig .tc := ⟨.hbm, 429, rfl⟩
abbrev main_v378 : Ref sig .tc := ⟨.hbm, 430, rfl⟩
abbrev main_v379 : Ref sig .tc := ⟨.hbm, 431, rfl⟩
abbrev main_v380 : Ref sig .tc := ⟨.hbm, 432, rfl⟩
abbrev main_v381 : Ref sig .tc := ⟨.hbm, 433, rfl⟩
abbrev main_cst_46 : Ref sig .tc := ⟨.hbm, 434, rfl⟩
abbrev main_v382 : Ref sig .tc := ⟨.hbm, 435, rfl⟩
abbrev main_v383 : Ref sig .tc := ⟨.hbm, 436, rfl⟩
abbrev main_cst_47 : Ref sig .tc := ⟨.hbm, 437, rfl⟩
abbrev main_v384 : Ref sig .tc := ⟨.hbm, 438, rfl⟩
abbrev main_v385 : Ref sig .tc := ⟨.hbm, 439, rfl⟩
abbrev main_cst_48 : Ref sig .tc := ⟨.hbm, 440, rfl⟩
abbrev main_v386 : Ref sig .tc := ⟨.hbm, 441, rfl⟩
abbrev main_v387 : Ref sig .tc := ⟨.hbm, 442, rfl⟩
abbrev main_cst_49 : Ref sig .tc := ⟨.hbm, 443, rfl⟩
abbrev main_v388 : Ref sig .tc := ⟨.hbm, 444, rfl⟩
abbrev main_v389 : Ref sig .tc := ⟨.hbm, 445, rfl⟩
abbrev main_v390 : Ref sig .tc := ⟨.hbm, 446, rfl⟩
abbrev main_v391 : Ref sig .tc := ⟨.hbm, 447, rfl⟩
abbrev main_v392 : Ref sig .tc := ⟨.hbm, 448, rfl⟩
abbrev main_cst_50 : Ref sig .tc := ⟨.hbm, 449, rfl⟩
abbrev main_v393 : Ref sig .tc := ⟨.hbm, 450, rfl⟩
abbrev main_v394 : Ref sig .tc := ⟨.hbm, 451, rfl⟩
abbrev main_cst_51 : Ref sig .tc := ⟨.hbm, 452, rfl⟩
abbrev main_v395 : Ref sig .tc := ⟨.hbm, 453, rfl⟩
abbrev main_v396 : Ref sig .tc := ⟨.hbm, 454, rfl⟩
abbrev main_cst_52 : Ref sig .tc := ⟨.hbm, 455, rfl⟩
abbrev main_v397 : Ref sig .tc := ⟨.hbm, 456, rfl⟩
abbrev main_v398 : Ref sig .tc := ⟨.hbm, 457, rfl⟩
abbrev main_cst_53 : Ref sig .tc := ⟨.hbm, 458, rfl⟩
abbrev main_v399 : Ref sig .tc := ⟨.hbm, 459, rfl⟩
abbrev main_v400 : Ref sig .tc := ⟨.hbm, 460, rfl⟩
abbrev main_v401 : Ref sig .tc := ⟨.hbm, 461, rfl⟩
abbrev main_v402 : Ref sig .tc := ⟨.hbm, 462, rfl⟩
abbrev main_v403 : Ref sig .tc := ⟨.hbm, 463, rfl⟩
abbrev main_cst_54 : Ref sig .tc := ⟨.hbm, 464, rfl⟩
abbrev main_v404 : Ref sig .tc := ⟨.hbm, 465, rfl⟩
abbrev main_v405 : Ref sig .tc := ⟨.hbm, 466, rfl⟩
abbrev main_cst_55 : Ref sig .tc := ⟨.hbm, 467, rfl⟩
abbrev main_v406 : Ref sig .tc := ⟨.hbm, 468, rfl⟩
abbrev main_v407 : Ref sig .tc := ⟨.hbm, 469, rfl⟩
abbrev main_cst_56 : Ref sig .tc := ⟨.hbm, 470, rfl⟩
abbrev main_v408 : Ref sig .tc := ⟨.hbm, 471, rfl⟩
abbrev main_v409 : Ref sig .tc := ⟨.hbm, 472, rfl⟩
abbrev main_cst_57 : Ref sig .tc := ⟨.hbm, 473, rfl⟩
abbrev main_v410 : Ref sig .tc := ⟨.hbm, 474, rfl⟩
abbrev main_v411 : Ref sig .tc := ⟨.hbm, 475, rfl⟩
abbrev main_v412 : Ref sig .tc := ⟨.hbm, 476, rfl⟩
abbrev main_v413 : Ref sig .tc := ⟨.hbm, 477, rfl⟩
abbrev main_v414 : Ref sig .tc := ⟨.hbm, 478, rfl⟩
abbrev main_cst_58 : Ref sig .tc := ⟨.hbm, 479, rfl⟩
abbrev main_v415 : Ref sig .tc := ⟨.hbm, 480, rfl⟩
abbrev main_v416 : Ref sig .tc := ⟨.hbm, 481, rfl⟩
abbrev main_cst_59 : Ref sig .tc := ⟨.hbm, 482, rfl⟩
abbrev main_v417 : Ref sig .tc := ⟨.hbm, 483, rfl⟩
abbrev main_v418 : Ref sig .tc := ⟨.hbm, 484, rfl⟩
abbrev main_cst_60 : Ref sig .tc := ⟨.hbm, 485, rfl⟩
abbrev main_v419 : Ref sig .tc := ⟨.hbm, 486, rfl⟩
abbrev main_v420 : Ref sig .tc := ⟨.hbm, 487, rfl⟩
abbrev main_cst_61 : Ref sig .tc := ⟨.hbm, 488, rfl⟩
abbrev main_v421 : Ref sig .tc := ⟨.hbm, 489, rfl⟩
abbrev main_v422 : Ref sig .tc := ⟨.hbm, 490, rfl⟩
abbrev main_v423 : Ref sig .tc := ⟨.hbm, 491, rfl⟩
abbrev main_v424 : Ref sig .tc := ⟨.hbm, 492, rfl⟩
abbrev main_v425 : Ref sig .tc := ⟨.hbm, 493, rfl⟩
abbrev main_cst_62 : Ref sig .tc := ⟨.hbm, 494, rfl⟩
abbrev main_v426 : Ref sig .tc := ⟨.hbm, 495, rfl⟩
abbrev main_v427 : Ref sig .tc := ⟨.hbm, 496, rfl⟩
abbrev main_cst_63 : Ref sig .tc := ⟨.hbm, 497, rfl⟩
abbrev main_v428 : Ref sig .tc := ⟨.hbm, 498, rfl⟩
abbrev main_v429 : Ref sig .tc := ⟨.hbm, 499, rfl⟩
abbrev main_cst_64 : Ref sig .tc := ⟨.hbm, 500, rfl⟩
abbrev main_v430 : Ref sig .tc := ⟨.hbm, 501, rfl⟩
abbrev main_v431 : Ref sig .tc := ⟨.hbm, 502, rfl⟩
abbrev main_cst_65 : Ref sig .tc := ⟨.hbm, 503, rfl⟩
abbrev main_v432 : Ref sig .tc := ⟨.hbm, 504, rfl⟩
abbrev main_v433 : Ref sig .tc := ⟨.hbm, 505, rfl⟩
abbrev main_v434 : Ref sig .tc := ⟨.hbm, 506, rfl⟩
abbrev main_v435 : Ref sig .tc := ⟨.hbm, 507, rfl⟩
abbrev main_v436 : Ref sig .tc := ⟨.hbm, 508, rfl⟩
abbrev main_cst_66 : Ref sig .tc := ⟨.hbm, 509, rfl⟩
abbrev main_v437 : Ref sig .tc := ⟨.hbm, 510, rfl⟩
abbrev main_v438 : Ref sig .tc := ⟨.hbm, 511, rfl⟩
abbrev main_cst_67 : Ref sig .tc := ⟨.hbm, 512, rfl⟩
abbrev main_v439 : Ref sig .tc := ⟨.hbm, 513, rfl⟩
abbrev main_v440 : Ref sig .tc := ⟨.hbm, 514, rfl⟩
abbrev main_cst_68 : Ref sig .tc := ⟨.hbm, 515, rfl⟩
abbrev main_v441 : Ref sig .tc := ⟨.hbm, 516, rfl⟩
abbrev main_v442 : Ref sig .tc := ⟨.hbm, 517, rfl⟩
abbrev main_cst_69 : Ref sig .tc := ⟨.hbm, 518, rfl⟩
abbrev main_v443 : Ref sig .tc := ⟨.hbm, 519, rfl⟩
abbrev main_v444 : Ref sig .tc := ⟨.hbm, 520, rfl⟩
abbrev main_v445 : Ref sig .tc := ⟨.hbm, 521, rfl⟩
abbrev main_v446 : Ref sig .tc := ⟨.hbm, 522, rfl⟩
abbrev main_v447 : Ref sig .tc := ⟨.hbm, 523, rfl⟩
abbrev main_cst_70 : Ref sig .tc := ⟨.hbm, 524, rfl⟩
abbrev main_v448 : Ref sig .tc := ⟨.hbm, 525, rfl⟩
abbrev main_v449 : Ref sig .tc := ⟨.hbm, 526, rfl⟩
abbrev main_cst_71 : Ref sig .tc := ⟨.hbm, 527, rfl⟩
abbrev main_v450 : Ref sig .tc := ⟨.hbm, 528, rfl⟩
abbrev main_v451 : Ref sig .tc := ⟨.hbm, 529, rfl⟩
abbrev main_cst_72 : Ref sig .tc := ⟨.hbm, 530, rfl⟩
abbrev main_v452 : Ref sig .tc := ⟨.hbm, 531, rfl⟩
abbrev main_v453 : Ref sig .tc := ⟨.hbm, 532, rfl⟩
abbrev main_cst_73 : Ref sig .tc := ⟨.hbm, 533, rfl⟩
abbrev main_v454 : Ref sig .tc := ⟨.hbm, 534, rfl⟩
abbrev main_v455 : Ref sig .tc := ⟨.hbm, 535, rfl⟩
abbrev main_v456 : Ref sig .tc := ⟨.hbm, 536, rfl⟩
abbrev main_v457 : Ref sig .tc := ⟨.hbm, 537, rfl⟩
abbrev main_v458 : Ref sig .tc := ⟨.hbm, 538, rfl⟩
abbrev main_cst_74 : Ref sig .tc := ⟨.hbm, 539, rfl⟩
abbrev main_v459 : Ref sig .tc := ⟨.hbm, 540, rfl⟩
abbrev main_v460 : Ref sig .tc := ⟨.hbm, 541, rfl⟩
abbrev main_cst_75 : Ref sig .tc := ⟨.hbm, 542, rfl⟩
abbrev main_v461 : Ref sig .tc := ⟨.hbm, 543, rfl⟩
abbrev main_v462 : Ref sig .tc := ⟨.hbm, 544, rfl⟩
abbrev main_cst_76 : Ref sig .tc := ⟨.hbm, 545, rfl⟩
abbrev main_v463 : Ref sig .tc := ⟨.hbm, 546, rfl⟩
abbrev main_v464 : Ref sig .tc := ⟨.hbm, 547, rfl⟩
abbrev main_cst_77 : Ref sig .tc := ⟨.hbm, 548, rfl⟩
abbrev main_v465 : Ref sig .tc := ⟨.hbm, 549, rfl⟩
abbrev main_v466 : Ref sig .tc := ⟨.hbm, 550, rfl⟩
abbrev main_v467 : Ref sig .tc := ⟨.hbm, 551, rfl⟩
abbrev main_v468 : Ref sig .tc := ⟨.hbm, 552, rfl⟩
abbrev main_v469 : Ref sig .tc := ⟨.hbm, 553, rfl⟩
abbrev main_cst_78 : Ref sig .tc := ⟨.hbm, 554, rfl⟩
abbrev main_v470 : Ref sig .tc := ⟨.hbm, 555, rfl⟩
abbrev main_v471 : Ref sig .tc := ⟨.hbm, 556, rfl⟩
abbrev main_cst_79 : Ref sig .tc := ⟨.hbm, 557, rfl⟩
abbrev main_v472 : Ref sig .tc := ⟨.hbm, 558, rfl⟩
abbrev main_v473 : Ref sig .tc := ⟨.hbm, 559, rfl⟩
abbrev main_cst_80 : Ref sig .tc := ⟨.hbm, 560, rfl⟩
abbrev main_v474 : Ref sig .tc := ⟨.hbm, 561, rfl⟩
abbrev main_v475 : Ref sig .tc := ⟨.hbm, 562, rfl⟩
abbrev main_cst_81 : Ref sig .tc := ⟨.hbm, 563, rfl⟩
abbrev main_v476 : Ref sig .tc := ⟨.hbm, 564, rfl⟩
abbrev main_v477 : Ref sig .tc := ⟨.hbm, 565, rfl⟩
abbrev main_v478 : Ref sig .tc := ⟨.hbm, 566, rfl⟩
abbrev main_v479 : Ref sig .tc := ⟨.hbm, 567, rfl⟩
abbrev main_v480 : Ref sig .tc := ⟨.hbm, 568, rfl⟩
abbrev main_cst_82 : Ref sig .tc := ⟨.hbm, 569, rfl⟩
abbrev main_v481 : Ref sig .tc := ⟨.hbm, 570, rfl⟩
abbrev main_v482 : Ref sig .tc := ⟨.hbm, 571, rfl⟩
abbrev main_cst_83 : Ref sig .tc := ⟨.hbm, 572, rfl⟩
abbrev main_v483 : Ref sig .tc := ⟨.hbm, 573, rfl⟩
abbrev main_v484 : Ref sig .tc := ⟨.hbm, 574, rfl⟩
abbrev main_cst_84 : Ref sig .tc := ⟨.hbm, 575, rfl⟩
abbrev main_v485 : Ref sig .tc := ⟨.hbm, 576, rfl⟩
abbrev main_v486 : Ref sig .tc := ⟨.hbm, 577, rfl⟩
abbrev main_cst_85 : Ref sig .tc := ⟨.hbm, 578, rfl⟩
abbrev main_v487 : Ref sig .tc := ⟨.hbm, 579, rfl⟩
abbrev main_v488 : Ref sig .tc := ⟨.hbm, 580, rfl⟩
abbrev main_v489 : Ref sig .tc := ⟨.hbm, 581, rfl⟩
abbrev main_v490 : Ref sig .tc := ⟨.hbm, 582, rfl⟩
abbrev main_v491 : Ref sig .tc := ⟨.hbm, 583, rfl⟩
abbrev main_cst_86 : Ref sig .tc := ⟨.hbm, 584, rfl⟩
abbrev main_v492 : Ref sig .tc := ⟨.hbm, 585, rfl⟩
abbrev main_v493 : Ref sig .tc := ⟨.hbm, 586, rfl⟩
abbrev main_cst_87 : Ref sig .tc := ⟨.hbm, 587, rfl⟩
abbrev main_v494 : Ref sig .tc := ⟨.hbm, 588, rfl⟩
abbrev main_v495 : Ref sig .tc := ⟨.hbm, 589, rfl⟩
abbrev main_cst_88 : Ref sig .tc := ⟨.hbm, 590, rfl⟩
abbrev main_v496 : Ref sig .tc := ⟨.hbm, 591, rfl⟩
abbrev main_v497 : Ref sig .tc := ⟨.hbm, 592, rfl⟩
abbrev main_cst_89 : Ref sig .tc := ⟨.hbm, 593, rfl⟩
abbrev main_v498 : Ref sig .tc := ⟨.hbm, 594, rfl⟩
abbrev main_v499 : Ref sig .tc := ⟨.hbm, 595, rfl⟩
abbrev main_v500 : Ref sig .tc := ⟨.hbm, 596, rfl⟩
abbrev main_v501 : Ref sig .tc := ⟨.hbm, 597, rfl⟩
abbrev main_v502 : Ref sig .tc := ⟨.hbm, 598, rfl⟩
abbrev main_cst_90 : Ref sig .tc := ⟨.hbm, 599, rfl⟩
abbrev main_v503 : Ref sig .tc := ⟨.hbm, 600, rfl⟩
abbrev main_v504 : Ref sig .tc := ⟨.hbm, 601, rfl⟩
abbrev main_cst_91 : Ref sig .tc := ⟨.hbm, 602, rfl⟩
abbrev main_v505 : Ref sig .tc := ⟨.hbm, 603, rfl⟩
abbrev main_v506 : Ref sig .tc := ⟨.hbm, 604, rfl⟩
abbrev main_cst_92 : Ref sig .tc := ⟨.hbm, 605, rfl⟩
abbrev main_v507 : Ref sig .tc := ⟨.hbm, 606, rfl⟩
abbrev main_v508 : Ref sig .tc := ⟨.hbm, 607, rfl⟩
abbrev main_cst_93 : Ref sig .tc := ⟨.hbm, 608, rfl⟩
abbrev main_v509 : Ref sig .tc := ⟨.hbm, 609, rfl⟩
abbrev main_v510 : Ref sig .tc := ⟨.hbm, 610, rfl⟩
abbrev main_v511 : Ref sig .tc := ⟨.hbm, 611, rfl⟩
abbrev main_v512 : Ref sig .tc := ⟨.hbm, 612, rfl⟩
abbrev main_v513 : Ref sig .tc := ⟨.hbm, 613, rfl⟩
abbrev main_cst_94 : Ref sig .tc := ⟨.hbm, 614, rfl⟩
abbrev main_v514 : Ref sig .tc := ⟨.hbm, 615, rfl⟩
abbrev main_v515 : Ref sig .tc := ⟨.hbm, 616, rfl⟩
abbrev main_cst_95 : Ref sig .tc := ⟨.hbm, 617, rfl⟩
abbrev main_v516 : Ref sig .tc := ⟨.hbm, 618, rfl⟩
abbrev main_v517 : Ref sig .tc := ⟨.hbm, 619, rfl⟩
abbrev main_cst_96 : Ref sig .tc := ⟨.hbm, 620, rfl⟩
abbrev main_v518 : Ref sig .tc := ⟨.hbm, 621, rfl⟩
abbrev main_v519 : Ref sig .tc := ⟨.hbm, 622, rfl⟩
abbrev main_cst_97 : Ref sig .tc := ⟨.hbm, 623, rfl⟩
abbrev main_v520 : Ref sig .tc := ⟨.hbm, 624, rfl⟩
abbrev main_v521 : Ref sig .tc := ⟨.hbm, 625, rfl⟩
abbrev main_v522 : Ref sig .tc := ⟨.hbm, 626, rfl⟩
abbrev main_v523 : Ref sig .tc := ⟨.hbm, 627, rfl⟩
abbrev main_v524 : Ref sig .tc := ⟨.hbm, 628, rfl⟩
abbrev main_cst_98 : Ref sig .tc := ⟨.hbm, 629, rfl⟩
abbrev main_v525 : Ref sig .tc := ⟨.hbm, 630, rfl⟩
abbrev main_v526 : Ref sig .tc := ⟨.hbm, 631, rfl⟩
abbrev main_cst_99 : Ref sig .tc := ⟨.hbm, 632, rfl⟩
abbrev main_v527 : Ref sig .tc := ⟨.hbm, 633, rfl⟩
abbrev main_v528 : Ref sig .tc := ⟨.hbm, 634, rfl⟩
abbrev main_cst_100 : Ref sig .tc := ⟨.hbm, 635, rfl⟩
abbrev main_v529 : Ref sig .tc := ⟨.hbm, 636, rfl⟩
abbrev main_v530 : Ref sig .tc := ⟨.hbm, 637, rfl⟩
abbrev main_cst_101 : Ref sig .tc := ⟨.hbm, 638, rfl⟩
abbrev main_v531 : Ref sig .tc := ⟨.hbm, 639, rfl⟩
abbrev main_v532 : Ref sig .tc := ⟨.hbm, 640, rfl⟩
abbrev main_v533 : Ref sig .tc := ⟨.hbm, 641, rfl⟩
abbrev main_v534 : Ref sig .tc := ⟨.hbm, 642, rfl⟩
abbrev main_v535 : Ref sig .tc := ⟨.hbm, 643, rfl⟩
abbrev main_cst_102 : Ref sig .tc := ⟨.hbm, 644, rfl⟩
abbrev main_v536 : Ref sig .tc := ⟨.hbm, 645, rfl⟩
abbrev main_v537 : Ref sig .tc := ⟨.hbm, 646, rfl⟩
abbrev main_cst_103 : Ref sig .tc := ⟨.hbm, 647, rfl⟩
abbrev main_v538 : Ref sig .tc := ⟨.hbm, 648, rfl⟩
abbrev main_v539 : Ref sig .tc := ⟨.hbm, 649, rfl⟩
abbrev main_cst_104 : Ref sig .tc := ⟨.hbm, 650, rfl⟩
abbrev main_v540 : Ref sig .tc := ⟨.hbm, 651, rfl⟩
abbrev main_v541 : Ref sig .tc := ⟨.hbm, 652, rfl⟩
abbrev main_cst_105 : Ref sig .tc := ⟨.hbm, 653, rfl⟩
abbrev main_v542 : Ref sig .tc := ⟨.hbm, 654, rfl⟩
abbrev main_v543 : Ref sig .tc := ⟨.hbm, 655, rfl⟩
abbrev main_v544 : Ref sig .tc := ⟨.hbm, 656, rfl⟩
abbrev main_v545 : Ref sig .tc := ⟨.hbm, 657, rfl⟩
abbrev main_v546 : Ref sig .tc := ⟨.hbm, 658, rfl⟩
abbrev main_cst_106 : Ref sig .tc := ⟨.hbm, 659, rfl⟩
abbrev main_v547 : Ref sig .tc := ⟨.hbm, 660, rfl⟩
abbrev main_v548 : Ref sig .tc := ⟨.hbm, 661, rfl⟩
abbrev main_cst_107 : Ref sig .tc := ⟨.hbm, 662, rfl⟩
abbrev main_v549 : Ref sig .tc := ⟨.hbm, 663, rfl⟩
abbrev main_v550 : Ref sig .tc := ⟨.hbm, 664, rfl⟩
abbrev main_cst_108 : Ref sig .tc := ⟨.hbm, 665, rfl⟩
abbrev main_v551 : Ref sig .tc := ⟨.hbm, 666, rfl⟩
abbrev main_v552 : Ref sig .tc := ⟨.hbm, 667, rfl⟩
abbrev main_cst_109 : Ref sig .tc := ⟨.hbm, 668, rfl⟩
abbrev main_v553 : Ref sig .tc := ⟨.hbm, 669, rfl⟩
abbrev main_v554 : Ref sig .tc := ⟨.hbm, 670, rfl⟩
abbrev main_v555 : Ref sig .tc := ⟨.hbm, 671, rfl⟩
abbrev main_v556 : Ref sig .tc := ⟨.hbm, 672, rfl⟩
abbrev main_v557 : Ref sig .tc := ⟨.hbm, 673, rfl⟩
abbrev main_cst_110 : Ref sig .tc := ⟨.hbm, 674, rfl⟩
abbrev main_v558 : Ref sig .tc := ⟨.hbm, 675, rfl⟩
abbrev main_v559 : Ref sig .tc := ⟨.hbm, 676, rfl⟩
abbrev main_cst_111 : Ref sig .tc := ⟨.hbm, 677, rfl⟩
abbrev main_v560 : Ref sig .tc := ⟨.hbm, 678, rfl⟩
abbrev main_v561 : Ref sig .tc := ⟨.hbm, 679, rfl⟩
abbrev main_cst_112 : Ref sig .tc := ⟨.hbm, 680, rfl⟩
abbrev main_v562 : Ref sig .tc := ⟨.hbm, 681, rfl⟩
abbrev main_v563 : Ref sig .tc := ⟨.hbm, 682, rfl⟩
abbrev main_cst_113 : Ref sig .tc := ⟨.hbm, 683, rfl⟩
abbrev main_v564 : Ref sig .tc := ⟨.hbm, 684, rfl⟩
abbrev main_v565 : Ref sig .tc := ⟨.hbm, 685, rfl⟩
abbrev main_v566 : Ref sig .tc := ⟨.hbm, 686, rfl⟩
abbrev main_v567 : Ref sig .tc := ⟨.hbm, 687, rfl⟩
abbrev main_v568 : Ref sig .tc := ⟨.hbm, 688, rfl⟩
abbrev main_cst_114 : Ref sig .tc := ⟨.hbm, 689, rfl⟩
abbrev main_v569 : Ref sig .tc := ⟨.hbm, 690, rfl⟩
abbrev main_v570 : Ref sig .tc := ⟨.hbm, 691, rfl⟩
abbrev main_cst_115 : Ref sig .tc := ⟨.hbm, 692, rfl⟩
abbrev main_v571 : Ref sig .tc := ⟨.hbm, 693, rfl⟩
abbrev main_v572 : Ref sig .tc := ⟨.hbm, 694, rfl⟩
abbrev main_cst_116 : Ref sig .tc := ⟨.hbm, 695, rfl⟩
abbrev main_v573 : Ref sig .tc := ⟨.hbm, 696, rfl⟩
abbrev main_v574 : Ref sig .tc := ⟨.hbm, 697, rfl⟩
abbrev main_cst_117 : Ref sig .tc := ⟨.hbm, 698, rfl⟩
abbrev main_v575 : Ref sig .tc := ⟨.hbm, 699, rfl⟩
abbrev main_v576 : Ref sig .tc := ⟨.hbm, 700, rfl⟩
abbrev main_v577 : Ref sig .tc := ⟨.hbm, 701, rfl⟩
abbrev main_v578 : Ref sig .tc := ⟨.hbm, 702, rfl⟩
abbrev main_v579 : Ref sig .tc := ⟨.hbm, 703, rfl⟩
abbrev main_cst_118 : Ref sig .tc := ⟨.hbm, 704, rfl⟩
abbrev main_v580 : Ref sig .tc := ⟨.hbm, 705, rfl⟩
abbrev main_v581 : Ref sig .tc := ⟨.hbm, 706, rfl⟩
abbrev main_cst_119 : Ref sig .tc := ⟨.hbm, 707, rfl⟩
abbrev main_v582 : Ref sig .tc := ⟨.hbm, 708, rfl⟩
abbrev main_v583 : Ref sig .tc := ⟨.hbm, 709, rfl⟩
abbrev main_cst_120 : Ref sig .tc := ⟨.hbm, 710, rfl⟩
abbrev main_v584 : Ref sig .tc := ⟨.hbm, 711, rfl⟩
abbrev main_v585 : Ref sig .tc := ⟨.hbm, 712, rfl⟩
abbrev main_cst_121 : Ref sig .tc := ⟨.hbm, 713, rfl⟩
abbrev main_v586 : Ref sig .tc := ⟨.hbm, 714, rfl⟩
abbrev main_v587 : Ref sig .tc := ⟨.hbm, 715, rfl⟩
abbrev main_v588 : Ref sig .tc := ⟨.hbm, 716, rfl⟩
abbrev main_v589 : Ref sig .tc := ⟨.hbm, 717, rfl⟩
abbrev main_v590 : Ref sig .tc := ⟨.hbm, 718, rfl⟩
abbrev main_cst_122 : Ref sig .tc := ⟨.hbm, 719, rfl⟩
abbrev main_v591 : Ref sig .tc := ⟨.hbm, 720, rfl⟩
abbrev main_v592 : Ref sig .tc := ⟨.hbm, 721, rfl⟩
abbrev main_cst_123 : Ref sig .tc := ⟨.hbm, 722, rfl⟩
abbrev main_v593 : Ref sig .tc := ⟨.hbm, 723, rfl⟩
abbrev main_v594 : Ref sig .tc := ⟨.hbm, 724, rfl⟩
abbrev main_cst_124 : Ref sig .tc := ⟨.hbm, 725, rfl⟩
abbrev main_v595 : Ref sig .tc := ⟨.hbm, 726, rfl⟩
abbrev main_v596 : Ref sig .tc := ⟨.hbm, 727, rfl⟩
abbrev main_cst_125 : Ref sig .tc := ⟨.hbm, 728, rfl⟩
abbrev main_v597 : Ref sig .tc := ⟨.hbm, 729, rfl⟩
abbrev main_v598 : Ref sig .tc := ⟨.hbm, 730, rfl⟩
abbrev main_v599 : Ref sig .tc := ⟨.hbm, 731, rfl⟩
abbrev main_v600 : Ref sig .tc := ⟨.hbm, 732, rfl⟩
abbrev main_v601 : Ref sig .tc := ⟨.hbm, 733, rfl⟩
abbrev main_cst_126 : Ref sig .tc := ⟨.hbm, 734, rfl⟩
abbrev main_v602 : Ref sig .tc := ⟨.hbm, 735, rfl⟩
abbrev main_v603 : Ref sig .tc := ⟨.hbm, 736, rfl⟩
abbrev main_cst_127 : Ref sig .tc := ⟨.hbm, 737, rfl⟩
abbrev main_v604 : Ref sig .tc := ⟨.hbm, 738, rfl⟩
abbrev main_v605 : Ref sig .tc := ⟨.hbm, 739, rfl⟩
abbrev main_cst_128 : Ref sig .tc := ⟨.hbm, 740, rfl⟩
abbrev main_v606 : Ref sig .tc := ⟨.hbm, 741, rfl⟩
abbrev main_v607 : Ref sig .tc := ⟨.hbm, 742, rfl⟩
abbrev main_cst_129 : Ref sig .tc := ⟨.hbm, 743, rfl⟩
abbrev main_v608 : Ref sig .tc := ⟨.hbm, 744, rfl⟩
abbrev main_v609 : Ref sig .tc := ⟨.hbm, 745, rfl⟩
abbrev main_v610 : Ref sig .tc := ⟨.hbm, 746, rfl⟩
abbrev main_v611 : Ref sig .tc := ⟨.hbm, 747, rfl⟩
abbrev main_v612 : Ref sig .tc := ⟨.hbm, 748, rfl⟩
abbrev main_cst_130 : Ref sig .tc := ⟨.hbm, 749, rfl⟩
abbrev main_v613 : Ref sig .tc := ⟨.hbm, 750, rfl⟩
abbrev main_v614 : Ref sig .tc := ⟨.hbm, 751, rfl⟩
abbrev main_cst_131 : Ref sig .tc := ⟨.hbm, 752, rfl⟩
abbrev main_v615 : Ref sig .tc := ⟨.hbm, 753, rfl⟩
abbrev main_v616 : Ref sig .tc := ⟨.hbm, 754, rfl⟩
abbrev main_cst_132 : Ref sig .tc := ⟨.hbm, 755, rfl⟩
abbrev main_v617 : Ref sig .tc := ⟨.hbm, 756, rfl⟩
abbrev main_v618 : Ref sig .tc := ⟨.hbm, 757, rfl⟩
abbrev main_cst_133 : Ref sig .tc := ⟨.hbm, 758, rfl⟩
abbrev main_v619 : Ref sig .tc := ⟨.hbm, 759, rfl⟩
abbrev main_v620 : Ref sig .tc := ⟨.hbm, 760, rfl⟩
abbrev main_v621 : Ref sig .tc := ⟨.hbm, 761, rfl⟩
abbrev main_v622 : Ref sig .tc := ⟨.hbm, 762, rfl⟩
abbrev main_v623 : Ref sig .tc := ⟨.hbm, 763, rfl⟩
abbrev main_v624 : Ref sig .tc := ⟨.hbm, 764, rfl⟩
abbrev main_v625 : Ref sig .tc := ⟨.hbm, 765, rfl⟩
abbrev main_v626 : Ref sig .tc := ⟨.hbm, 766, rfl⟩
abbrev main_v627 : Ref sig .tc := ⟨.hbm, 767, rfl⟩
abbrev main_v628 : Ref sig .tc := ⟨.hbm, 768, rfl⟩
abbrev main_v629 : Ref sig .tc := ⟨.hbm, 769, rfl⟩
abbrev main_v630 : Ref sig .tc := ⟨.hbm, 770, rfl⟩
abbrev main_cst_134 : Ref sig .tc := ⟨.hbm, 771, rfl⟩
abbrev main_v631 : Ref sig .tc := ⟨.hbm, 772, rfl⟩
abbrev main_v632 : Ref sig .tc := ⟨.hbm, 773, rfl⟩
abbrev main_cst_135 : Ref sig .tc := ⟨.hbm, 774, rfl⟩
abbrev main_v633 : Ref sig .tc := ⟨.hbm, 775, rfl⟩
abbrev main_cst_136 : Ref sig .tc := ⟨.hbm, 776, rfl⟩
abbrev main_v634 : Ref sig .tc := ⟨.hbm, 777, rfl⟩
abbrev main_v635 : Ref sig .tc := ⟨.hbm, 778, rfl⟩
abbrev main_cst_137 : Ref sig .tc := ⟨.hbm, 779, rfl⟩
abbrev main_v636 : Ref sig .tc := ⟨.hbm, 780, rfl⟩
abbrev main_v637 : Ref sig .tc := ⟨.hbm, 781, rfl⟩
abbrev main_v638 : Ref sig .tc := ⟨.hbm, 782, rfl⟩
abbrev main_v639 : Ref sig .tc := ⟨.hbm, 783, rfl⟩
abbrev main_cst_138 : Ref sig .tc := ⟨.hbm, 784, rfl⟩
abbrev main_v640 : Ref sig .tc := ⟨.hbm, 785, rfl⟩
abbrev main_v641 : Ref sig .tc := ⟨.hbm, 786, rfl⟩
abbrev main_cst_139 : Ref sig .tc := ⟨.hbm, 787, rfl⟩
abbrev main_v642 : Ref sig .tc := ⟨.hbm, 788, rfl⟩
abbrev main_v643 : Ref sig .tc := ⟨.hbm, 789, rfl⟩
abbrev main_cst_140 : Ref sig .tc := ⟨.hbm, 790, rfl⟩
abbrev main_v644 : Ref sig .tc := ⟨.hbm, 791, rfl⟩
abbrev main_v645 : Ref sig .tc := ⟨.hbm, 792, rfl⟩
abbrev main_cst_141 : Ref sig .tc := ⟨.hbm, 793, rfl⟩
abbrev main_v646 : Ref sig .tc := ⟨.hbm, 794, rfl⟩
abbrev main_v647 : Ref sig .tc := ⟨.hbm, 795, rfl⟩
abbrev main_v648 : Ref sig .tc := ⟨.hbm, 796, rfl⟩
abbrev main_v649 : Ref sig .tc := ⟨.hbm, 797, rfl⟩
abbrev main_v650 : Ref sig .tc := ⟨.hbm, 798, rfl⟩
abbrev main_cst_142 : Ref sig .tc := ⟨.hbm, 799, rfl⟩
abbrev main_v651 : Ref sig .tc := ⟨.hbm, 800, rfl⟩
abbrev main_v652 : Ref sig .tc := ⟨.hbm, 801, rfl⟩
abbrev main_cst_143 : Ref sig .tc := ⟨.hbm, 802, rfl⟩
abbrev main_v653 : Ref sig .tc := ⟨.hbm, 803, rfl⟩
abbrev main_v654 : Ref sig .tc := ⟨.hbm, 804, rfl⟩
abbrev main_cst_144 : Ref sig .tc := ⟨.hbm, 805, rfl⟩
abbrev main_v655 : Ref sig .tc := ⟨.hbm, 806, rfl⟩
abbrev main_v656 : Ref sig .tc := ⟨.hbm, 807, rfl⟩
abbrev main_cst_145 : Ref sig .tc := ⟨.hbm, 808, rfl⟩
abbrev main_v657 : Ref sig .tc := ⟨.hbm, 809, rfl⟩
abbrev main_v658 : Ref sig .tc := ⟨.hbm, 810, rfl⟩
abbrev main_v659 : Ref sig .tc := ⟨.hbm, 811, rfl⟩
abbrev main_v660 : Ref sig .tc := ⟨.hbm, 812, rfl⟩
abbrev main_v661 : Ref sig .tc := ⟨.hbm, 813, rfl⟩
abbrev main_v662 : Ref sig .tc := ⟨.hbm, 814, rfl⟩
abbrev main_v663 : Ref sig .tc := ⟨.hbm, 815, rfl⟩
abbrev main_cst_146 : Ref sig .tc := ⟨.hbm, 816, rfl⟩
abbrev main_v664 : Ref sig .tc := ⟨.hbm, 817, rfl⟩
abbrev main_v665 : Ref sig .tc := ⟨.hbm, 818, rfl⟩
abbrev main_cst_147 : Ref sig .tc := ⟨.hbm, 819, rfl⟩
abbrev main_v666 : Ref sig .tc := ⟨.hbm, 820, rfl⟩
abbrev main_v667 : Ref sig .tc := ⟨.hbm, 821, rfl⟩
abbrev main_v668 : Ref sig .tc := ⟨.hbm, 822, rfl⟩
abbrev main_cst_148 : Ref sig .tc := ⟨.hbm, 823, rfl⟩
abbrev main_v669 : Ref sig .tc := ⟨.hbm, 824, rfl⟩
abbrev main_v670 : Ref sig .tc := ⟨.hbm, 825, rfl⟩
abbrev main_v671 : Ref sig .tc := ⟨.hbm, 826, rfl⟩
abbrev main_cst_149 : Ref sig .tc := ⟨.hbm, 827, rfl⟩
abbrev main_v672 : Ref sig .tc := ⟨.hbm, 828, rfl⟩
abbrev main_v673 : Ref sig .tc := ⟨.hbm, 829, rfl⟩
abbrev main_v674 : Ref sig .tc := ⟨.hbm, 830, rfl⟩
abbrev main_cst_150 : Ref sig .tc := ⟨.hbm, 831, rfl⟩
abbrev main_v675 : Ref sig .tc := ⟨.hbm, 832, rfl⟩
abbrev main_v676 : Ref sig .tc := ⟨.hbm, 833, rfl⟩
abbrev main_v677 : Ref sig .tc := ⟨.hbm, 834, rfl⟩
abbrev main_v678 : Ref sig .tc := ⟨.hbm, 835, rfl⟩
abbrev main_cst_151 : Ref sig .tc := ⟨.hbm, 836, rfl⟩
abbrev main_v679 : Ref sig .tc := ⟨.hbm, 837, rfl⟩
abbrev main_cst_152 : Ref sig .tc := ⟨.hbm, 838, rfl⟩
abbrev main_v680 : Ref sig .tc := ⟨.hbm, 839, rfl⟩
abbrev main_v681 : Ref sig .tc := ⟨.hbm, 840, rfl⟩
abbrev main_v682 : Ref sig .tc := ⟨.hbm, 841, rfl⟩

abbrev nD : Nat := 1
abbrev τ : Topo := Topo.v7x

variable {F : FTy → Type} [FloatOps F]
-- ==== KernelGateUp.lean ====
abbrev S2176x1024 : Shape := ⟨2, ![2176, 1024]⟩
abbrev S2176x2816 : Shape := ⟨2, ![2176, 2816]⟩
abbrev S2816x1024 : Shape := ⟨2, ![2816, 1024]⟩
abbrev S2176x1408 : Shape := ⟨2, ![2176, 1408]⟩
abbrev S1408x1024 : Shape := ⟨2, ![1408, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2176x1024, .bf16⟩
  | .hbm, ⟨1, _⟩ => ⟨S2176x2816, .bf16⟩
  | .hbm, ⟨2, _⟩ => ⟨S2176x2816, .bf16⟩
  | .hbm, ⟨3, _⟩ => ⟨S2816x1024, .bf16⟩
  | .hbm, ⟨4, _⟩ => ⟨S2816x1024, .bf16⟩
  | .local _ .vmem, ⟨0, _⟩ => ⟨S2176x1024, .bf16⟩
  | .local _ .vmem, ⟨1, _⟩ => ⟨S2176x1408, .bf16⟩
  | .local _ .vmem, ⟨2, _⟩ => ⟨S2176x1408, .bf16⟩
  | .local _ .vmem, ⟨3, _⟩ => ⟨S2176x1408, .bf16⟩
  | .local _ .vmem, ⟨4, _⟩ => ⟨S2176x1408, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceGateUpIdeal.lean ====
abbrev S2176x1024 : Shape := ⟨2, ![2176, 1024]⟩
abbrev S2176x2816 : Shape := ⟨2, ![2176, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2176x2816, .bf16⟩
  | .hbm, ⟨2, _⟩ => ⟨S2176x2816, .bf16⟩
  | .hbm, ⟨3, _⟩ => ⟨S2176x1024, .f32⟩
  | .hbm, ⟨4, _⟩ => ⟨S_, .f32⟩
  | .hbm, ⟨5, _⟩ => ⟨S1024x2816, .f32⟩
  | .hbm, ⟨6, _⟩ => ⟨S2176x2816, .f32⟩
  | .hbm, ⟨7, _⟩ => ⟨S2176x2816, .f32⟩
  | .hbm, ⟨8, _⟩ => ⟨S2176x2816, .f32⟩
  | .hbm, ⟨9, _⟩ => ⟨S2176x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== KernelDown.lean ====
abbrev S2176x2816 : Shape := ⟨2, ![2176, 2816]⟩
abbrev S2176x1024 : Shape := ⟨2, ![2176, 1024]⟩
abbrev S2816x1024 : Shape := ⟨2, ![2816, 1024]⟩
abbrev S2176x1408 : Shape := ⟨2, ![2176, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2176x2816, .bf16⟩
  | .hbm, ⟨1, _⟩ => ⟨S2176x1024, .bf16⟩
  | .hbm, ⟨2, _⟩ => ⟨S2816x1024, .bf16⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S1408x1024, .bf16⟩
  | .local _ .vmem, ⟨4, _⟩ => ⟨S1408x1024, .bf16⟩
  | _, _ => ⟨S2176x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDownIdeal.lean ====
abbrev S2176x2816 : Shape := ⟨2, ![2176, 2816]⟩
abbrev S2176x1024 : Shape := ⟨2, ![2176, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2176x2816, .bf16⟩
  | .hbm, ⟨1, _⟩ => ⟨S2176x1024, .bf16⟩
  | .hbm, ⟨2, _⟩ => ⟨S2176x2816, .f32⟩
  | .hbm, ⟨3, _⟩ => ⟨S_, .f32⟩
  | .hbm, ⟨4, _⟩ => ⟨S2816x1024, .f32⟩
  | .hbm, ⟨5, _⟩ => ⟨S2176x1024, .f32⟩
  | .hbm, ⟨6, _⟩ => ⟨S2176x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2176x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelOut.lean ====
abbrev S2176x512 : Shape := ⟨2, ![2176, 512]⟩
abbrev S2176x1024 : Shape := ⟨2, ![2176, 1024]⟩
abbrev S8x128 : Shape := ⟨2, ![8, 128]⟩
abbrev S1024x1024 : Shape := ⟨2, ![1024, 1024]⟩
abbrev S512x1024 : Shape := ⟨2, ![512, 1024]⟩

abbrev nBuf : Space → Nat
  | .hbm => 5
  | .vmem => 4
  | .smem => 0
  | _ => 0

abbrev bufTy : (tb : Table) → Fin (tcTables nBuf tb) → BufTy
  | .hbm, ⟨0, _⟩ => ⟨S2176x512, .bf16⟩
  | .hbm, ⟨1, _⟩ => ⟨S2176x512, .bf16⟩
  | .hbm, ⟨2, _⟩ => ⟨S2176x1024, .bf16⟩
  | .hbm, ⟨3, _⟩ => ⟨S8x128, .f32⟩
  | .hbm, ⟨4, _⟩ => ⟨S1024x1024, .bf16⟩
  | .local _ .vmem, ⟨0, _⟩ => ⟨S2176x512, .bf16⟩
  | .local _ .vmem, ⟨1, _⟩ => ⟨S2176x512, .bf16⟩
  | .local _ .vmem, ⟨2, _⟩ => ⟨S2176x1024, .bf16⟩
  | .local _ .vmem, ⟨3, _⟩ => ⟨S1024x1024, .bf16⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceOutIdeal.lean ====
abbrev S2176x512 : Shape := ⟨2, ![2176, 512]⟩
abbrev S2176x1024 : Shape := ⟨2, ![2176, 1024]⟩
abbrev S8x128 : Shape := ⟨2, ![8, 128]⟩
abbrev S_ : Shape := ⟨0, ![]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S2176x512, .bf16⟩
  | .hbm, ⟨2, _⟩ => ⟨S2176x1024, .bf16⟩
  | .hbm, ⟨3, _⟩ => ⟨S8x128, .f32⟩
  | .hbm, ⟨4, _⟩ => ⟨S2176x512, .f32⟩
  | .hbm, ⟨5, _⟩ => ⟨S2176x512, .f32⟩
  | .hbm, ⟨6, _⟩ => ⟨S2176x1024, .f32⟩
  | .hbm, ⟨7, _⟩ => ⟨S_, .f32⟩
  | .hbm, ⟨8, _⟩ => ⟨S1024x1024, .f32⟩
  | .hbm, ⟨9, _⟩ => ⟨S2176x1024, .f32⟩
  | .hbm, ⟨10, _⟩ => ⟨S2176x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelIn.lean ====
abbrev S2176x1024 : Shape := ⟨2, ![2176, 1024]⟩
abbrev S5x2176x512 : Shape := ⟨3, ![5, 2176, 512]⟩
abbrev S1024x2560 : Shape := ⟨2, ![1024, 2560]⟩
abbrev S1x2176x512 : Shape := ⟨3, ![1, 2176, 512]⟩
abbrev S1024x512 : Shape := ⟨2, ![1024, 512]⟩
abbrev S2176x512 : Shape := ⟨2, ![2176, 512]⟩

abbrev nBuf : Space → Nat
  | .hbm => 3
  | .vmem => 5
  | .smem => 0
  | _ => 0

abbrev bufTy : (tb : Table) → Fin (tcTables nBuf tb) → BufTy
  | .hbm, ⟨0, _⟩ => ⟨S2176x1024, .bf16⟩
  | .hbm, ⟨1, _⟩ => ⟨S5x2176x512, .bf16⟩
  | .hbm, ⟨2, _⟩ => ⟨S1024x2560, .bf16⟩
  | .local _ .vmem, ⟨0, _⟩ => ⟨S2176x1024, .bf16⟩
  | .local _ .vmem, ⟨1, _⟩ => ⟨S1x2176x512, .bf16⟩
  | .local _ .vmem, ⟨2, _⟩ => ⟨S1x2176x512, .bf16⟩
  | .local _ .vmem, ⟨3, _⟩ => ⟨S1024x512, .bf16⟩
  | .local _ .vmem, ⟨4, _⟩ => ⟨S1024x512, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceInIdeal.lean ====
abbrev S2176x1024 : Shape := ⟨2, ![2176, 1024]⟩
abbrev S5x2176x512 : Shape := ⟨3, ![5, 2176, 512]⟩
abbrev S_ : Shape := ⟨0, ![]⟩
abbrev S1024x2560 : Shape := ⟨2, ![1024, 2560]⟩
abbrev S2176x2560 : Shape := ⟨2, ![2176, 2560]⟩
abbrev S2176x512 : Shape := ⟨2, ![2176, 512]⟩
abbrev S1x2176x512 : Shape := ⟨3, ![1, 2176, 512]⟩
abbrev S2560x1024 : Shape := ⟨2, ![2560, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S5x2176x512, .bf16⟩
  | .hbm, ⟨2, _⟩ => ⟨S2176x1024, .f32⟩
  | .hbm, ⟨3, _⟩ => ⟨S5x2176x512, .f32⟩
  | .hbm, ⟨4, _⟩ => ⟨S_, .f32⟩
  | .hbm, ⟨5, _⟩ => ⟨S1024x2560, .f32⟩
  | .hbm, ⟨6, _⟩ => ⟨S2176x2560, .f32⟩
  | .hbm, ⟨7, _⟩ => ⟨S2176x512, .f32⟩
  | .hbm, ⟨8, _⟩ => ⟨S2176x512, .f32⟩
  | .hbm, ⟨9, _⟩ => ⟨S2176x512, .f32⟩
  | .hbm, ⟨10, _⟩ => ⟨S2176x512, .f32⟩
  | .hbm, ⟨11, _⟩ => ⟨S2176x512, .f32⟩
  | .hbm, ⟨12, _⟩ => ⟨S1x2176x512, .f32⟩
  | .hbm, ⟨13, _⟩ => ⟨S2176x512, .f32⟩
  | .hbm, ⟨14, _⟩ => ⟨S1x2176x512, .f32⟩
  | .hbm, ⟨15, _⟩ => ⟨S2176x512, .f32⟩
  | .hbm, ⟨16, _⟩ => ⟨S1x2176x512, .f32⟩
  | .hbm, ⟨17, _⟩ => ⟨S2176x512, .f32⟩
  | .hbm, ⟨18, _⟩ => ⟨S1x2176x512, .f32⟩
  | .hbm, ⟨19, _⟩ => ⟨S2176x512, .f32⟩
  | .hbm, ⟨20, _⟩ => ⟨S1x2176x512, .f32⟩
  | .hbm, ⟨21, _⟩ => ⟨S2176x512, .f32⟩
  | .hbm, ⟨22, _⟩ => ⟨S2176x2560, .f32⟩
  | .hbm, ⟨23, _⟩ => ⟨S2560x1024, .f32⟩
  | .hbm, ⟨24, _⟩ => ⟨S1024x2560, .f32⟩
  | .hbm, ⟨25, _⟩ => ⟨S1024x2560, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== KernelUp.lean ====
abbrev S2176x1024 : Shape := ⟨2, ![2176, 1024]⟩
abbrev S2816x1024 : Shape := ⟨2, ![2816, 1024]⟩
abbrev S2176x2816 : Shape := ⟨2, ![2176, 2816]⟩
abbrev S544x1024 : Shape := ⟨2, ![544, 1024]⟩
abbrev S544x2816 : Shape := ⟨2, ![544, 2816]⟩
abbrev S256x1024 : Shape := ⟨2, ![256, 1024]⟩
abbrev S544x256 : Shape := ⟨2, ![544, 256]⟩

abbrev nBuf : Space → Nat
  | .hbm => 6
  | .vmem => 10
  | .smem => 0
  | _ => 0

abbrev bufTy : (tb : Table) → Fin (tcTables nBuf tb) → BufTy
  | .hbm, ⟨0, _⟩ => ⟨S2176x1024, .bf16⟩
  | .hbm, ⟨1, _⟩ => ⟨S2816x1024, .bf16⟩
  | .hbm, ⟨2, _⟩ => ⟨S2816x1024, .bf16⟩
  | .hbm, ⟨3, _⟩ => ⟨S2176x2816, .bf16⟩
  | .hbm, ⟨4, _⟩ => ⟨S2176x2816, .bf16⟩
  | .hbm, ⟨5, _⟩ => ⟨S2176x2816, .bf16⟩
  | .local _ .vmem, ⟨0, _⟩ => ⟨S544x1024, .bf16⟩
  | .local _ .vmem, ⟨1, _⟩ => ⟨S544x1024, .bf16⟩
  | .local _ .vmem, ⟨2, _⟩ => ⟨S2816x1024, .bf16⟩
  | .local _ .vmem, ⟨3, _⟩ => ⟨S2816x1024, .bf16⟩
  | .local _ .vmem, ⟨4, _⟩ => ⟨S544x2816, .bf16⟩
  | .local _ .vmem, ⟨5, _⟩ => ⟨S544x2816, .bf16⟩
  | .local _ .vmem, ⟨6, _⟩ => ⟨S544x2816, .bf16⟩
  | .local _ .vmem, ⟨7, _⟩ => ⟨S544x2816, .bf16⟩
  | .local _ .vmem, ⟨8, _⟩ => ⟨S544x2816, .bf16⟩
  | .local _ .vmem, ⟨9, _⟩ => ⟨S544x2816, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceUpIdeal.lean ====
abbrev S2176x1024 : Shape := ⟨2, ![2176, 1024]⟩
abbrev S2816x1024 : Shape := ⟨2, ![2816, 1024]⟩
abbrev S1024x2816 : Shape := ⟨2, ![1024, 2816]⟩
abbrev S2176x2816 : Shape := ⟨2, ![2176, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2816x1024, .bf16⟩
  | .hbm, ⟨2, _⟩ => ⟨S2816x1024, .bf16⟩
  | .hbm, ⟨3, _⟩ => ⟨S2176x1024, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S1024x2816, .f32⟩
  | .hbm, ⟨8, _⟩ => ⟨S2176x2816, .f32⟩
  | .hbm, ⟨9, _⟩ => ⟨S2176x2816, .f32⟩
  | .hbm, ⟨10, _⟩ => ⟨S2176x2816, .f32⟩
  | .hbm, ⟨11, _⟩ => ⟨S2176x2816, .f32⟩
  | .hbm, ⟨12, _⟩ => ⟨S_, .f32⟩
  | .hbm, ⟨13, _⟩ => ⟨S2176x2816, .f32⟩
  | .hbm, ⟨14, _⟩ => ⟨S2176x2816, .f32⟩
  | .hbm, ⟨15, _⟩ => ⟨S_, .f32⟩
  | .hbm, ⟨16, _⟩ => ⟨S2176x2816, .f32⟩
  | .hbm, ⟨17, _⟩ => ⟨S2176x2816, .f32⟩
  | .hbm, ⟨18, _⟩ => ⟨S_, .f32⟩
  | .hbm, ⟨19, _⟩ => ⟨S2176x2816, .f32⟩
  | .hbm, ⟨20, _⟩ => ⟨S2176x2816, .f32⟩
  | .hbm, ⟨21, _⟩ => ⟨S2176x2816, .f32⟩
  | .hbm, ⟨22, _⟩ => ⟨S2176x2816, .f32⟩
  | .hbm, ⟨23, _⟩ => ⟨S2176x2816, .f32⟩
  | .hbm, ⟨24, _⟩ => ⟨S_, .f32⟩
  | .hbm, ⟨25, _⟩ => ⟨S2176x2816, .f32⟩
  | .hbm, ⟨26, _⟩ => ⟨S2176x2816, .f32⟩
  | .hbm, ⟨27, _⟩ => ⟨S2176x2816, .f32⟩
  | .hbm, ⟨28, _⟩ => ⟨S2176x2816, .f32⟩
  | .hbm, ⟨29, _⟩ => ⟨S2176x2816, .f32⟩
  | .hbm, ⟨30, _⟩ => ⟨S2176x2816, .f32⟩
  | .hbm, ⟨31, _⟩ => ⟨S2176x2816, .f32⟩
  | .hbm, ⟨32, _⟩ => ⟨S2176x2816, .bf16⟩
  | .hbm, ⟨33, _⟩ => ⟨S2176x2816, .bf16⟩
  | .hbm, ⟨34, _⟩ => ⟨S2176x2816, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== KernelAct.lean ====
abbrev S2176x1024 : Shape := ⟨2, ![2176, 1024]⟩
abbrev S2816x1024 : Shape := ⟨2, ![2816, 1024]⟩
abbrev S2176x2816 : Shape := ⟨2, ![2176, 2816]⟩
abbrev S_ : Shape := ⟨0, ![]⟩
abbrev S544x1024 : Shape := ⟨2, ![544, 1024]⟩
abbrev S544x2816 : Shape := ⟨2, ![544, 2816]⟩
abbrev S256x1024 : Shape := ⟨2, ![256, 1024]⟩
abbrev S544x256 : Shape := ⟨2, ![544, 256]⟩

abbrev nBuf : Space → Nat
  | .hbm => 25
  | .vmem => 11
  | .smem => 0
  | _ => 0

abbrev bufTy : (tb : Table) → Fin (tcTables nBuf tb) → BufTy
  | .hbm, ⟨0, _⟩ => ⟨S2176x1024, .bf16⟩
  | .hbm, ⟨1, _⟩ => ⟨S2816x1024, .bf16⟩
  | .hbm, ⟨2, _⟩ => ⟨S2176x2816, .f32⟩
  | .hbm, ⟨3, _⟩ => ⟨S2176x2816, .f32⟩
  | .hbm, ⟨4, _⟩ => ⟨S2176x2816, .f32⟩
  | .hbm, ⟨5, _⟩ => ⟨S2176x2816, .f32⟩
  | .hbm, ⟨6, _⟩ => ⟨S_, .f32⟩
  | .hbm, ⟨7, _⟩ => ⟨S2176x2816, .f32⟩
  | .hbm, ⟨8, _⟩ => ⟨S2176x2816, .f32⟩
  | .hbm, ⟨9, _⟩ => ⟨S_, .f32⟩
  | .hbm, ⟨10, _⟩ => ⟨S2176x2816, .f32⟩
  | .hbm, ⟨11, _⟩ => ⟨S2176x2816, .f32⟩
  | .hbm, ⟨12, _⟩ => ⟨S_, .f32⟩
  | .hbm, ⟨13, _⟩ => ⟨S2176x2816, .f32⟩
  | .hbm, ⟨14, _⟩ => ⟨S2176x2816, .f32⟩
  | .hbm, ⟨15, _⟩ => ⟨S2176x2816, .f32⟩
  | .hbm, ⟨16, _⟩ => ⟨S2176x2816, .f32⟩
  | .hbm, ⟨17, _⟩ => ⟨S2176x2816, .f32⟩
  | .hbm, ⟨18, _⟩ => ⟨S2176x2816, .f32⟩
  | .hbm, ⟨19, _⟩ => ⟨S2176x2816, .f32⟩
  | .hbm, ⟨20, _⟩ => ⟨S2176x2816, .f32⟩
  | .hbm, ⟨21, _⟩ => ⟨S2176x2816, .bf16⟩
  | .hbm, ⟨22, _⟩ => ⟨S2176x2816, .bf16⟩
  | .hbm, ⟨23, _⟩ => ⟨S2176x2816, .bf16⟩
  | .hbm, ⟨24, _⟩ => ⟨S2176x2816, .bf16⟩
  | .local _ .vmem, ⟨0, _⟩ => ⟨S544x1024, .bf16⟩
  | .local _ .vmem, ⟨1, _⟩ => ⟨S544x1024, .bf16⟩
  | .local _ .vmem, ⟨2, _⟩ => ⟨S2816x1024, .bf16⟩
  | .local _ .vmem, ⟨3, _⟩ => ⟨S544x2816, .bf16⟩
  | .local _ .vmem, ⟨4, _⟩ => ⟨S544x2816, .bf16⟩
  | .local _ .vmem, ⟨5, _⟩ => ⟨S544x2816, .bf16⟩
  | .local _ .vmem, ⟨6, _⟩ => ⟨S544x2816, .bf16⟩
  | .local _ .vmem, ⟨7, _⟩ => ⟨S544x2816, .bf16⟩
  | .local _ .vmem, ⟨8, _⟩ => ⟨S544x2816, .bf16⟩
  | .local _ .vmem, ⟨9, _⟩ => ⟨S544x2816, .bf16⟩
  | .local _ .vmem, ⟨10, _⟩ => ⟨S544x2816, .bf16⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceActIdeal.lean ====
abbrev S2176x1024 : Shape := ⟨2, ![2176, 1024]⟩
abbrev S2816x1024 : Shape := ⟨2, ![2816, 1024]⟩
abbrev S2176x2816 : Shape := ⟨2, ![2176, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S2816x1024, .bf16⟩
  | .hbm, ⟨2, _⟩ => ⟨S2176x2816, .f32⟩
  | .hbm, ⟨3, _⟩ => ⟨S2176x2816, .f32⟩
  | .hbm, ⟨4, _⟩ => ⟨S2816x1024, .f32⟩
  | .hbm, ⟨5, _⟩ => ⟨S2176x2816, .f32⟩
  | .hbm, ⟨6, _⟩ => ⟨S2176x2816, .f32⟩
  | .hbm, ⟨7, _⟩ => ⟨S_, .f32⟩
  | .hbm, ⟨8, _⟩ => ⟨S2176x2816, .f32⟩
  | .hbm, ⟨9, _⟩ => ⟨S2176x2816, .f32⟩
  | .hbm, ⟨10, _⟩ => ⟨S_, .f32⟩
  | .hbm, ⟨11, _⟩ => ⟨S2176x2816, .f32⟩
  | .hbm, ⟨12, _⟩ => ⟨S2176x2816, .f32⟩
  | .hbm, ⟨13, _⟩ => ⟨S_, .f32⟩
  | .hbm, ⟨14, _⟩ => ⟨S2176x2816, .f32⟩
  | .hbm, ⟨15, _⟩ => ⟨S2176x2816, .f32⟩
  | .hbm, ⟨16, _⟩ => ⟨S2176x2816, .f32⟩
  | .hbm, ⟨17, _⟩ => ⟨S2176x2816, .f32⟩
  | .hbm, ⟨18, _⟩ => ⟨S2176x2816, .f32⟩
  | .hbm, ⟨19, _⟩ => ⟨S2176x1024, .f32⟩
  | .hbm, ⟨20, _⟩ => ⟨S2176x1024, .f32⟩
  | .hbm, ⟨21, _⟩ => ⟨S2176x2816, .f32⟩
  | .hbm, ⟨22, _⟩ => ⟨S2176x2816, .f32⟩
  | .hbm, ⟨23, _⟩ => ⟨S2176x2816, .f32⟩
  | .hbm, ⟨24, _⟩ => ⟨S2176x2816, .f32⟩
  | .hbm, ⟨25, _⟩ => ⟨S2176x2816, .f32⟩
  | .hbm, ⟨26, _⟩ => ⟨S2176x2816, .f32⟩
  | .hbm, ⟨27, _⟩ => ⟨S2176x2816, .f32⟩
  | .hbm, ⟨28, _⟩ => ⟨S2176x2816, .bf16⟩
  | .hbm, ⟨29, _⟩ => ⟨S2176x2816, .bf16⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== KernelMmIn.lean ====
abbrev S2048x1024 : Shape := ⟨2, ![2048, 1024]⟩
abbrev S4x64x256 : Shape := ⟨3, ![4, 64, 256]⟩
abbrev S4x1024x640 : Shape := ⟨3, ![4, 1024, 640]⟩
abbrev S1x1024 : Shape := ⟨2, ![1, 1024]⟩
abbrev S8x128 : Shape := ⟨2, ![8, 128]⟩
abbrev S2176x1024 : Shape := ⟨2, ![2176, 1024]⟩
abbrev S5x2176x512 : Shape := ⟨3, ![5, 2176, 512]⟩
abbrev S544x1024 : Shape := ⟨2, ![544, 1024]⟩
abbrev S5x544x512 : Shape := ⟨3, ![5, 544, 512]⟩
abbrev S1024x2560 : Shape := ⟨2, ![1024, 2560]⟩
abbrev S1x1024x640 : Shape := ⟨3, ![1, 1024, 640]⟩
abbrev S1024x640 : Shape := ⟨2, ![1024, 640]⟩
abbrev S1x16x256 : Shape := ⟨3, ![1, 16, 256]⟩
abbrev S16x256 : Shape := ⟨2, ![16, 256]⟩
abbrev S544x1 : Shape := ⟨2, ![544, 1]⟩
abbrev S544 : Shape := ⟨1, ![544]⟩
abbrev S1024x512 : Shape := ⟨2, ![1024, 512]⟩
abbrev S544x512 : Shape := ⟨2, ![544, 512]⟩
abbrev S1x544x512 : Shape := ⟨3, ![1, 544, 512]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S4x64x256, .f32⟩
  | .hbm, ⟨2, _⟩ => ⟨S4x1024x640, .bf16⟩
  | .hbm, ⟨3, _⟩ => ⟨S1x1024, .f32⟩
  | .hbm, ⟨4, _⟩ => ⟨S8x128, .f32⟩
  | .hbm, ⟨5, _⟩ => ⟨S2176x1024, .f32⟩
  | .hbm, ⟨6, _⟩ => ⟨S2176x1024, .bf16⟩
  | .hbm, ⟨7, _⟩ => ⟨S5x2176x512, .f32⟩
  | .local _ .vmem, ⟨0, _⟩ => ⟨S544x1024, .f32⟩
  | .local _ .vmem, ⟨1, _⟩ => ⟨S544x1024, .f32⟩
  | .local _ .vmem, ⟨2, _⟩ => ⟨S4x64x256, .f32⟩
  | .local _ .vmem, ⟨3, _⟩ => ⟨S4x1024x640, .bf16⟩
  | .local _ .vmem, ⟨4, _⟩ => ⟨S1x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .bf16⟩
  | .local _ .vmem, ⟨8, _⟩ => ⟨S544x1024, .bf16⟩
  | .local _ .vmem, ⟨9, _⟩ => ⟨S5x544x512, .f32⟩
  | .local _ .vmem, ⟨10, _⟩ => ⟨S5x544x512, .f32⟩
  | .local _ .vmem, ⟨11, _⟩ => ⟨S1024x2560, .bf16⟩
  | .local _ .vmem, ⟨12, _⟩ => ⟨S544x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5x544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMmInIdeal.lean ====
abbrev S2048x1024 : Shape := ⟨2, ![2048, 1024]⟩
abbrev S4x64x256 : Shape := ⟨3, ![4, 64, 256]⟩
abbrev S4x1024x640 : Shape := ⟨3, ![4, 1024, 640]⟩
abbrev S1x1024 : Shape := ⟨2, ![1, 1024]⟩
abbrev S8x128 : Shape := ⟨2, ![8, 128]⟩
abbrev S1x16x256 : Shape := ⟨3, ![1, 16, 256]⟩
abbrev S16x256 : Shape := ⟨2, ![16, 256]⟩
abbrev S16x1024 : Shape := ⟨2, ![16, 1024]⟩
abbrev S1x1024x640 : Shape := ⟨3, ![1, 1024, 640]⟩
abbrev S1024x640 : Shape := ⟨2, ![1024, 640]⟩
abbrev S1024x2560 : Shape := ⟨2, ![1024, 2560]⟩
abbrev S_ : Shape := ⟨0, ![]⟩
abbrev S112x1024 : Shape := ⟨2, ![112, 1024]⟩
abbrev S2176x1024 : Shape := ⟨2, ![2176, 1024]⟩
abbrev S2176 : Shape := ⟨1, ![2176]⟩
abbrev S2176x1 : Shape := ⟨2, ![2176, 1]⟩
abbrev S2176x2560 : Shape := ⟨2, ![2176, 2560]⟩
abbrev S2176x512 : Shape := ⟨2, ![2176, 512]⟩
abbrev S1x2176x512 : Shape := ⟨3, ![1, 2176, 512]⟩
abbrev S5x2176x512 : Shape := ⟨3, ![5, 2176, 512]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x64x256, .f32⟩
  | .hbm, ⟨2, _⟩ => ⟨S4x1024x640, .bf16⟩
  | .hbm, ⟨3, _⟩ => ⟨S1x1024, .f32⟩
  | .hbm, ⟨4, _⟩ => ⟨S8x128, .f32⟩
  | .hbm, ⟨5, _⟩ => ⟨S1x16x256, .f32⟩
  | .hbm, ⟨6, _⟩ => ⟨S16x256, .f32⟩
  | .hbm, ⟨7, _⟩ => ⟨S1x16x256, .f32⟩
  | .hbm, ⟨8, _⟩ => ⟨S16x256, .f32⟩
  | .hbm, ⟨9, _⟩ => ⟨S1x16x256, .f32⟩
  | .hbm, ⟨10, _⟩ => ⟨S16x256, .f32⟩
  | .hbm, ⟨11, _⟩ => ⟨S1x16x256, .f32⟩
  | .hbm, ⟨12, _⟩ => ⟨S16x256, .f32⟩
  | .hbm, ⟨13, _⟩ => ⟨S16x1024, .f32⟩
  | .hbm, ⟨14, _⟩ => ⟨S1x1024x640, .bf16⟩
  | .hbm, ⟨15, _⟩ => ⟨S1024x640, .bf16⟩
  | .hbm, ⟨16, _⟩ => ⟨S1024x640, .f32⟩
  | .hbm, ⟨17, _⟩ => ⟨S1x1024x640, .bf16⟩
  | .hbm, ⟨18, _⟩ => ⟨S1024x640, .bf16⟩
  | .hbm, ⟨19, _⟩ => ⟨S1024x640, .f32⟩
  | .hbm, ⟨20, _⟩ => ⟨S1x1024x640, .bf16⟩
  | .hbm, ⟨21, _⟩ => ⟨S1024x640, .bf16⟩
  | .hbm, ⟨22, _⟩ => ⟨S1024x640, .f32⟩
  | .hbm, ⟨23, _⟩ => ⟨S1x1024x640, .bf16⟩
  | .hbm, ⟨24, _⟩ => ⟨S1024x640, .bf16⟩
  | .hbm, ⟨25, _⟩ => ⟨S1024x640, .f32⟩
  | .hbm, ⟨26, _⟩ => ⟨S1024x2560, .f32⟩
  | .hbm, ⟨27, _⟩ => ⟨S_, .f32⟩
  | .hbm, ⟨28, _⟩ => ⟨S112x1024, .f32⟩
  | .hbm, ⟨29, _⟩ => ⟨S2176x1024, .f32⟩
  | .hbm, ⟨30, _⟩ => ⟨S2176x1024, .f32⟩
  | .hbm, ⟨31, _⟩ => ⟨S_, .f32⟩
  | .hbm, ⟨32, _⟩ => ⟨S2176, .f32⟩
  | .hbm, ⟨33, _⟩ => ⟨S2176x1, .f32⟩
  | .hbm, ⟨34, _⟩ => ⟨S_, .f32⟩
  | .hbm, ⟨35, _⟩ => ⟨S2176x1, .f32⟩
  | .hbm, ⟨36, _⟩ => ⟨S2176x1, .f32⟩
  | .hbm, ⟨37, _⟩ => ⟨S_, .f32⟩
  | .hbm, ⟨38, _⟩ => ⟨S2176x1, .f32⟩
  | .hbm, ⟨39, _⟩ => ⟨S2176x1, .f32⟩
  | .hbm, ⟨40, _⟩ => ⟨S2176x1, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .bf16⟩
  | .hbm, ⟨46, _⟩ => ⟨S2176x2560, .f32⟩
  | .hbm, ⟨47, _⟩ => ⟨S2176x512, .f32⟩
  | .hbm, ⟨48, _⟩ => ⟨S2176x512, .f32⟩
  | .hbm, ⟨49, _⟩ => ⟨S2176x512, .f32⟩
  | .hbm, ⟨50, _⟩ => ⟨S2176x512, .f32⟩
  | .hbm, ⟨51, _⟩ => ⟨S2176x512, .f32⟩
  | .hbm, ⟨52, _⟩ => ⟨S1x2176x512, .f32⟩
  | .hbm, ⟨53, _⟩ => ⟨S1x2176x512, .f32⟩
  | .hbm, ⟨54, _⟩ => ⟨S1x2176x512, .f32⟩
  | .hbm, ⟨55, _⟩ => ⟨S1x2176x512, .f32⟩
  | .hbm, ⟨56, _⟩ => ⟨S1x2176x512, .f32⟩
  | .hbm, ⟨57, _⟩ => ⟨S5x2176x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== KernelMmOut.lean ====
abbrev S2176x512 : Shape := ⟨2, ![2176, 512]⟩
abbrev S2176x1024 : Shape := ⟨2, ![2176, 1024]⟩
abbrev S1024x1024 : Shape := ⟨2, ![1024, 1024]⟩
abbrev S1x512 : Shape := ⟨2, ![1, 512]⟩
abbrev S1x1024 : Shape := ⟨2, ![1, 1024]⟩
abbrev S544x512 : Shape := ⟨2, ![544, 512]⟩
abbrev S544x1024 : Shape := ⟨2, ![544, 1024]⟩
abbrev S192x512 : Shape := ⟨2, ![192, 512]⟩
abbrev S192 : Shape := ⟨1, ![192]⟩
abbrev S192x1 : Shape := ⟨2, ![192, 1]⟩
abbrev S512x1024 : Shape := ⟨2, ![512, 1024]⟩
abbrev S192x1024 : Shape := ⟨2, ![192, 1024]⟩
abbrev S176x512 : Shape := ⟨2, ![176, 512]⟩
abbrev S176 : Shape := ⟨1, ![176]⟩
abbrev S176x1 : Shape := ⟨2, ![176, 1]⟩
abbrev S176x1024 : Shape := ⟨2, ![176, 1024]⟩

abbrev nBuf : Space → Nat
  | .hbm => 12
  | .vmem => 19
  | .smem => 0
  | _ => 0

abbrev bufTy : (tb : Table) → Fin (tcTables nBuf tb) → BufTy
  | .hbm, ⟨0, _⟩ => ⟨S2176x512, .bf16⟩
  | .hbm, ⟨1, _⟩ => ⟨S2176x512, .f32⟩
  | .hbm, ⟨2, _⟩ => ⟨S2176x1024, .f32⟩
  | .hbm, ⟨3, _⟩ => ⟨S1024x1024, .bf16⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S2176x512, .bf16⟩
  | .hbm, ⟨9, _⟩ => ⟨S2176x1024, .f32⟩
  | .hbm, ⟨10, _⟩ => ⟨S2176x1024, .f32⟩
  | .hbm, ⟨11, _⟩ => ⟨S2176x1024, .bf16⟩
  | .local _ .vmem, ⟨0, _⟩ => ⟨S544x512, .bf16⟩
  | .local _ .vmem, ⟨1, _⟩ => ⟨S544x512, .bf16⟩
  | .local _ .vmem, ⟨2, _⟩ => ⟨S544x512, .f32⟩
  | .local _ .vmem, ⟨3, _⟩ => ⟨S544x512, .f32⟩
  | .local _ .vmem, ⟨4, _⟩ => ⟨S544x1024, .f32⟩
  | .local _ .vmem, ⟨5, _⟩ => ⟨S544x1024, .f32⟩
  | .local _ .vmem, ⟨6, _⟩ => ⟨S1024x1024, .bf16⟩
  | .local _ .vmem, ⟨7, _⟩ => ⟨S1x512, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S544x512, .bf16⟩
  | .local _ .vmem, ⟨12, _⟩ => ⟨S544x512, .bf16⟩
  | .local _ .vmem, ⟨13, _⟩ => ⟨S544x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .f32⟩
  | .local _ .vmem, ⟨17, _⟩ => ⟨S544x1024, .bf16⟩
  | .local _ .vmem, ⟨18, _⟩ => ⟨S544x1024, .bf16⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceMmOutIdeal.lean ====
abbrev S2176x512 : Shape := ⟨2, ![2176, 512]⟩
abbrev S2176x1024 : Shape := ⟨2, ![2176, 1024]⟩
abbrev S1024x1024 : Shape := ⟨2, ![1024, 1024]⟩
abbrev S1x512 : Shape := ⟨2, ![1, 512]⟩
abbrev S1x1024 : Shape := ⟨2, ![1, 1024]⟩
abbrev S_ : Shape := ⟨0, ![]⟩
abbrev S2176 : Shape := ⟨1, ![2176]⟩
abbrev S2176x1 : Shape := ⟨2, ![2176, 1]⟩

abbrev nBuf : Space → Nat
  | .hbm => 81
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S2176x512, .f32⟩
  | .hbm, ⟨2, _⟩ => ⟨S2176x1024, .f32⟩
  | .hbm, ⟨3, _⟩ => ⟨S1024x1024, .bf16⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x512, .f32⟩
  | .hbm, ⟨15, _⟩ => ⟨S2176x512, .f32⟩
  | .hbm, ⟨16, _⟩ => ⟨S2176x512, .f32⟩
  | .hbm, ⟨17, _⟩ => ⟨S_, .f32⟩
  | .hbm, ⟨18, _⟩ => ⟨S2176, .f32⟩
  | .hbm, ⟨19, _⟩ => ⟨S2176x1, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S2176x512, .f32⟩
  | .hbm, ⟨24, _⟩ => ⟨S2176x512, .f32⟩
  | .hbm, ⟨25, _⟩ => ⟨S_, .f32⟩
  | .hbm, ⟨26, _⟩ => ⟨S2176x1, .f32⟩
  | .hbm, ⟨27, _⟩ => ⟨S2176x1, .f32⟩
  | .hbm, ⟨28, _⟩ => ⟨S2176x1, .f32⟩
  | .hbm, ⟨29, _⟩ => ⟨S2176x512, .f32⟩
  | .hbm, ⟨30, _⟩ => ⟨S2176x512, .f32⟩
  | .hbm, ⟨31, _⟩ => ⟨S2176x512, .f32⟩
  | .hbm, ⟨32, _⟩ => ⟨S2176x512, .f32⟩
  | .hbm, ⟨33, _⟩ => ⟨S2176x512, .f32⟩
  | .hbm, ⟨34, _⟩ => ⟨S2176x512, .f32⟩
  | .hbm, ⟨35, _⟩ => ⟨S2176x512, .f32⟩
  | .hbm, ⟨36, _⟩ => ⟨S2176x512, .f32⟩
  | .hbm, ⟨37, _⟩ => ⟨S_, .f32⟩
  | .hbm, ⟨38, _⟩ => ⟨S2176x512, .f32⟩
  | .hbm, ⟨39, _⟩ => ⟨S2176x512, .f32⟩
  | .hbm, ⟨40, _⟩ => ⟨S_, .f32⟩
  | .hbm, ⟨41, _⟩ => ⟨S2176x512, .f32⟩
  | .hbm, ⟨42, _⟩ => ⟨S2176x512, .f32⟩
  | .hbm, ⟨43, _⟩ => ⟨S2176x512, .f32⟩
  | .hbm, ⟨44, _⟩ => ⟨S2176x512, .f32⟩
  | .hbm, ⟨45, _⟩ => ⟨S2176x1024, .f32⟩
  | .hbm, ⟨46, _⟩ => ⟨S1024x1024, .f32⟩
  | .hbm, ⟨47, _⟩ => ⟨S2176x1024, .f32⟩
  | .hbm, ⟨48, _⟩ => ⟨S2176x1024, .f32⟩
  | .hbm, ⟨49, _⟩ => ⟨S_, .f32⟩
  | .hbm, ⟨50, _⟩ => ⟨S2176, .f32⟩
  | .hbm, ⟨51, _⟩ => ⟨S2176x1, .f32⟩
  | .hbm, ⟨52, _⟩ => ⟨S_, .f32⟩
  | .hbm, ⟨53, _⟩ => ⟨S2176x1, .f32⟩
  | .hbm, ⟨54, _⟩ => ⟨S2176x1, .f32⟩
  | .hbm, ⟨55, _⟩ => ⟨S_, .f32⟩
  | .hbm, ⟨56, _⟩ => ⟨S2176x1, .f32⟩
  | .hbm, ⟨57, _⟩ => ⟨S2176x1, .f32⟩
  | .hbm, ⟨58, _⟩ => ⟨S2176x1, .f32⟩
  | .hbm, ⟨59, _⟩ => ⟨S2176x1024, .f32⟩
  | .hbm, ⟨60, _⟩ => ⟨S2176x1024, .f32⟩
  | .hbm, ⟨61, _⟩ => ⟨S2176x1024, .f32⟩
  | .hbm, ⟨62, _⟩ => ⟨S2176x1024, .f32⟩
  | .hbm, ⟨63, _⟩ => ⟨S2176x1024, .f32⟩
  | .hbm, ⟨64, _⟩ => ⟨S2176x512, .bf16⟩
  | .hbm, ⟨65, _⟩ => ⟨S2176x1024, .f32⟩
  | .hbm, ⟨66, _⟩ => ⟨S_, .f32⟩
  | .hbm, ⟨67, _⟩ => ⟨S2176, .f32⟩
  | .hbm, ⟨68, _⟩ => ⟨S2176x1, .f32⟩
  | .hbm, ⟨69, _⟩ => ⟨S_, .f32⟩
  | .hbm, ⟨70, _⟩ => ⟨S2176x1, .f32⟩
  | .hbm, ⟨71, _⟩ => ⟨S2176x1, .f32⟩
  | .hbm, ⟨72, _⟩ => ⟨S_, .f32⟩
  | .hbm, ⟨73, _⟩ => ⟨S2176x1, .f32⟩
  | .hbm, ⟨74, _⟩ => ⟨S2176x1, .f32⟩
  | .hbm, ⟨75, _⟩ => ⟨S2176x1, .f32⟩
  | .hbm, ⟨76, _⟩ => ⟨S2176x1024, .f32⟩
  | .hbm, ⟨77, _⟩ => ⟨S2176x1024, .f32⟩
  | .hbm, ⟨78, _⟩ => ⟨S2176x1024, .f32⟩
  | .hbm, ⟨79, _⟩ => ⟨S2176x1024, .f32⟩
  | .hbm, ⟨80, _⟩ => ⟨S2176x1024, .bf16⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]
-- ==== KernelFfnDown.lean ====
abbrev S2176x2816 : Shape := ⟨2, ![2176, 2816]⟩
abbrev S2816x1024 : Shape := ⟨2, ![2816, 1024]⟩
abbrev S2176x1024 : Shape := ⟨2, ![2176, 1024]⟩
abbrev S2048x1024 : Shape := ⟨2, ![2048, 1024]⟩
abbrev S1x1024 : Shape := ⟨2, ![1, 1024]⟩
abbrev S8x128 : Shape := ⟨2, ![8, 128]⟩
abbrev S544x2816 : Shape := ⟨2, ![544, 2816]⟩
abbrev S544x1024 : Shape := ⟨2, ![544, 1024]⟩
abbrev S272x2816 : Shape := ⟨2, ![272, 2816]⟩
abbrev S272x1024 : Shape := ⟨2, ![272, 1024]⟩
abbrev S272 : Shape := ⟨1, ![272]⟩
abbrev S272x1 : Shape := ⟨2, ![272, 1]⟩
abbrev S1x272x1024 : Shape := ⟨3, ![1, 272, 1024]⟩
abbrev S1 : Shape := ⟨1, ![1]⟩
abbrev S1x1x1 : Shape := ⟨3, ![1, 1, 1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2176x2816, .bf16⟩
  | .hbm, ⟨1, _⟩ => ⟨S2816x1024, .bf16⟩
  | .hbm, ⟨2, _⟩ => ⟨S2176x1024, .f32⟩
  | .hbm, ⟨3, _⟩ => ⟨S2048x1024, .f32⟩
  | .hbm, ⟨4, _⟩ => ⟨S1x1024, .f32⟩
  | .hbm, ⟨5, _⟩ => ⟨S2176x1024, .bf16⟩
  | .hbm, ⟨6, _⟩ => ⟨S2176x1024, .f32⟩
  | .hbm, ⟨7, _⟩ => ⟨S8x128, .f32⟩
  | .hbm, ⟨8, _⟩ => ⟨S1x1024, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .bf16⟩
  | .local _ .vmem, ⟨9, _⟩ => ⟨S544x1024, .bf16⟩
  | .local _ .vmem, ⟨10, _⟩ => ⟨S544x1024, .f32⟩
  | .local _ .vmem, ⟨11, _⟩ => ⟨S544x1024, .f32⟩
  | .local _ .vmem, ⟨12, _⟩ => ⟨S8x128, .f32⟩
  | .local _ .vmem, ⟨13, _⟩ => ⟨S1x1024, .f32⟩
  | _, _ => ⟨S2176x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceFfnDownIdeal.lean ====
abbrev S2176x2816 : Shape := ⟨2, ![2176, 2816]⟩
abbrev S2816x1024 : Shape := ⟨2, ![2816, 1024]⟩
abbrev S2176x1024 : Shape := ⟨2, ![2176, 1024]⟩
abbrev S2048x1024 : Shape := ⟨2, ![2048, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S2048 : Shape := ⟨1, ![2048]⟩
abbrev S1024 : Shape := ⟨1, ![1024]⟩
abbrev S8x128 : Shape := ⟨2, ![8, 128]⟩

abbrev nBuf : Space → Nat
  | .hbm => 79
  | .vmem => 0
  | .smem => 0
  | _ => 0

abbrev bufTy : (tb : Table) → Fin (tcTables nBuf tb) → BufTy
  | .hbm, ⟨0, _⟩ => ⟨S2176x2816, .bf16⟩
  | .hbm, ⟨1, _⟩ => ⟨S2816x1024, .bf16⟩
  | .hbm, ⟨2, _⟩ => ⟨S2176x1024, .f32⟩
  | .hbm, ⟨3, _⟩ => ⟨S2048x1024, .f32⟩
  | .hbm, ⟨4, _⟩ => ⟨S1x1024, .f32⟩
  | .hbm, ⟨5, _⟩ => ⟨S2176x2816, .f32⟩
  | .hbm, ⟨6, _⟩ => ⟨S2816x1024, .f32⟩
  | .hbm, ⟨7, _⟩ => ⟨S2176x1024, .f32⟩
  | .hbm, ⟨8, _⟩ => ⟨S2176x1024, .f32⟩
  | .hbm, ⟨9, _⟩ => ⟨S_, .f32⟩
  | .hbm, ⟨10, _⟩ => ⟨S2176, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x1, .f32⟩
  | .hbm, ⟨19, _⟩ => ⟨S2176x1, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S2176x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2176x1024, .f32⟩
  | .hbm, ⟨54, _⟩ => ⟨S2176x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2176x1024, .f32⟩
  | .hbm, ⟨59, _⟩ => ⟨S2176x1024, .f32⟩
  | .hbm, ⟨60, _⟩ => ⟨S2176x1024, .f32⟩
  | .hbm, ⟨61, _⟩ => ⟨S_, .f32⟩
  | .hbm, ⟨62, _⟩ => ⟨S2176, .f32⟩
  | .hbm, ⟨63, _⟩ => ⟨S2176x1, .f32⟩
  | .hbm, ⟨64, _⟩ => ⟨S2176x1024, .f32⟩
  | .hbm, ⟨65, _⟩ => ⟨S2176x1024, .f32⟩
  | .hbm, ⟨66, _⟩ => ⟨S2176x1, .f32⟩
  | .hbm, ⟨67, _⟩ => ⟨S_, .f32⟩
  | .hbm, ⟨68, _⟩ => ⟨S2176x1, .f32⟩
  | .hbm, ⟨69, _⟩ => ⟨S2176x1, .f32⟩
  | .hbm, ⟨70, _⟩ => ⟨S_, .f32⟩
  | .hbm, ⟨71, _⟩ => ⟨S2176, .f32⟩
  | .hbm, ⟨72, _⟩ => ⟨S2176x1024, .f32⟩
  | .hbm, ⟨73, _⟩ => ⟨S2176x1024, .f32⟩
  | .hbm, ⟨74, _⟩ => ⟨S2176x1024, .f32⟩
  | .hbm, ⟨75, _⟩ => ⟨S2176x1024, .f32⟩
  | .hbm, ⟨76, _⟩ => ⟨S2176x1024, .f32⟩
  | .hbm, ⟨77, _⟩ => ⟨S2176x1024, .bf16⟩
  | .hbm, ⟨78, _⟩ => ⟨S8x128, .f32⟩
  | _, _ => ⟨S2176x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== KernelBwdIn.lean ====
abbrev S2176x2816 : Shape := ⟨2, ![2176, 2816]⟩
abbrev S2816x1024 : Shape := ⟨2, ![2816, 1024]⟩
abbrev S2176x1024 : Shape := ⟨2, ![2176, 1024]⟩
abbrev S1x1024 : Shape := ⟨2, ![1, 1024]⟩
abbrev S8x128 : Shape := ⟨2, ![8, 128]⟩
abbrev S544x2816 : Shape := ⟨2, ![544, 2816]⟩
abbrev S544x1024 : Shape := ⟨2, ![544, 1024]⟩
abbrev S192x2816 : Shape := ⟨2, ![192, 2816]⟩
abbrev S192x1024 : Shape := ⟨2, ![192, 1024]⟩
abbrev S192 : Shape := ⟨1, ![192]⟩
abbrev S192x1 : Shape := ⟨2, ![192, 1]⟩
abbrev S1024 : Shape := ⟨1, ![1024]⟩
abbrev S176x2816 : Shape := ⟨2, ![176, 2816]⟩
abbrev S176x1024 : Shape := ⟨2, ![176, 1024]⟩
abbrev S176 : Shape := ⟨1, ![176]⟩
abbrev S176x1 : Shape := ⟨2, ![176, 1]⟩

abbrev nBuf : Space → Nat
  | .hbm => 14
  | .vmem => 20
  | .smem => 0
  | _ => 0

abbrev bufTy : (tb : Table) → Fin (tcTables nBuf tb) → BufTy
  | .hbm, ⟨0, _⟩ => ⟨S2176x2816, .bf16⟩
  | .hbm, ⟨1, _⟩ => ⟨S2176x2816, .bf16⟩
  | .hbm, ⟨2, _⟩ => ⟨S2816x1024, .bf16⟩
  | .hbm, ⟨3, _⟩ => ⟨S2816x1024, .bf16⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S1x1024, .f32⟩
  | .hbm, ⟨8, _⟩ => ⟨S1x1024, .f32⟩
  | .hbm, ⟨9, _⟩ => ⟨S8x128, .f32⟩
  | .hbm, ⟨10, _⟩ => ⟨S2176x1024, .f32⟩
  | .hbm, ⟨11, _⟩ => ⟨S2176x1024, .bf16⟩
  | .hbm, ⟨12, _⟩ => ⟨S1x1024, .f32⟩
  | .hbm, ⟨13, _⟩ => ⟨S1x1024, .f32⟩
  | .local _ .vmem, ⟨0, _⟩ => ⟨S544x2816, .bf16⟩
  | .local _ .vmem, ⟨1, _⟩ => ⟨S544x2816, .bf16⟩
  | .local _ .vmem, ⟨2, _⟩ => ⟨S544x2816, .bf16⟩
  | .local _ .vmem, ⟨3, _⟩ => ⟨S544x2816, .bf16⟩
  | .local _ .vmem, ⟨4, _⟩ => ⟨S2816x1024, .bf16⟩
  | .local _ .vmem, ⟨5, _⟩ => ⟨S2816x1024, .bf16⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S1x1024, .f32⟩
  | .local _ .vmem, ⟨13, _⟩ => ⟨S1x1024, .f32⟩
  | .local _ .vmem, ⟨14, _⟩ => ⟨S544x1024, .f32⟩
  | .local _ .vmem, ⟨15, _⟩ => ⟨S544x1024, .f32⟩
  | .local _ .vmem, ⟨16, _⟩ => ⟨S544x1024, .bf16⟩
  | .local _ .vmem, ⟨17, _⟩ => ⟨S544x1024, .bf16⟩
  | .local _ .vmem, ⟨18, _⟩ => ⟨S1x1024, .f32⟩
  | .local _ .vmem, ⟨19, _⟩ => ⟨S1x1024, .f32⟩
  | _, _ => ⟨S2176x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceBwdInIdeal.lean ====
abbrev S2176x2816 : Shape := ⟨2, ![2176, 2816]⟩
abbrev S2816x1024 : Shape := ⟨2, ![2816, 1024]⟩
abbrev S2176x1024 : Shape := ⟨2, ![2176, 1024]⟩
abbrev S1x1024 : Shape := ⟨2, ![1, 1024]⟩
abbrev S8x128 : Shape := ⟨2, ![8, 128]⟩
abbrev S1024x2816 : Shape := ⟨2, ![1024, 2816]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 107
  | .vmem => 0
  | .smem => 0
  | _ => 0

abbrev bufTy : (tb : Table) → Fin (tcTables nBuf tb) → BufTy
  | .hbm, ⟨0, _⟩ => ⟨S2176x2816, .bf16⟩
  | .hbm, ⟨1, _⟩ => ⟨S2176x2816, .bf16⟩
  | .hbm, ⟨2, _⟩ => ⟨S2816x1024, .bf16⟩
  | .hbm, ⟨3, _⟩ => ⟨S2816x1024, .bf16⟩
  | .hbm, ⟨4, _⟩ => ⟨S2176x1024, .f32⟩
  | .hbm, ⟨5, _⟩ => ⟨S2176x1024, .f32⟩
  | .hbm, ⟨6, _⟩ => ⟨S2176x1024, .f32⟩
  | .hbm, ⟨7, _⟩ => ⟨S1x1024, .f32⟩
  | .hbm, ⟨8, _⟩ => ⟨S1x1024, .f32⟩
  | .hbm, ⟨9, _⟩ => ⟨S8x128, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S1024x2816, .f32⟩
  | .hbm, ⟨14, _⟩ => ⟨S2176x1024, .f32⟩
  | .hbm, ⟨15, _⟩ => ⟨S_, .f32⟩
  | .hbm, ⟨16, _⟩ => ⟨S2176, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S_, .f32⟩
  | .hbm, ⟨22, _⟩ => ⟨S2176x1, .f32⟩
  | .hbm, ⟨23, _⟩ => ⟨S2176x1, .f32⟩
  | .hbm, ⟨24, _⟩ => ⟨S2176x1, .f32⟩
  | .hbm, ⟨25, _⟩ => ⟨S2176x1, .f32⟩
  | .hbm, ⟨26, _⟩ => ⟨S_, .f32⟩
  | .hbm, ⟨27, _⟩ => ⟨S2176x1, .f32⟩
  | .hbm, ⟨28, _⟩ => ⟨S2176x1, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S2176x1024, .f32⟩
  | .hbm, ⟨33, _⟩ => ⟨S2176x2816, .f32⟩
  | .hbm, ⟨34, _⟩ => ⟨S2176x2816, .f32⟩
  | .hbm, ⟨35, _⟩ => ⟨S2176x2816, .f32⟩
  | .hbm, ⟨36, _⟩ => ⟨S2176x2816, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S_, .f32⟩
  | .hbm, ⟨48, _⟩ => ⟨S2176, .f32⟩
  | .hbm, ⟨49, _⟩ => ⟨S2176x1, .f32⟩
  | .hbm, ⟨50, _⟩ => ⟨S2176x1024, .f32⟩
  | .hbm, ⟨51, _⟩ => ⟨S2176x1024, .f32⟩
  | .hbm, ⟨52, _⟩ => ⟨S2176x1024, .f32⟩
  | .hbm, ⟨53, _⟩ => ⟨S2176x1, .f32⟩
  | .hbm, ⟨54, _⟩ => ⟨S_, .f32⟩
  | .hbm, ⟨55, _⟩ => ⟨S2176x1, .f32⟩
  | .hbm, ⟨56, _⟩ => ⟨S2176x1, .f32⟩
  | .hbm, ⟨57, _⟩ => ⟨S_, .f32⟩
  | .hbm, ⟨58, _⟩ => ⟨S2176, .f32⟩
  | .hbm, ⟨59, _⟩ => ⟨S2176x1024, .f32⟩
  | .hbm, ⟨60, _⟩ => ⟨S2176x1024, .f32⟩
  | .hbm, ⟨61, _⟩ => ⟨S2176x1024, .f32⟩
  | .hbm, ⟨62, _⟩ => ⟨S2176x1024, .f32⟩
  | .hbm, ⟨63, _⟩ => ⟨S2176x1024, .f32⟩
  | .hbm, ⟨64, _⟩ => ⟨S2176x1024, .f32⟩
  | .hbm, ⟨65, _⟩ => ⟨S_, .f32⟩
  | .hbm, ⟨66, _⟩ => ⟨S2176, .f32⟩
  | .hbm, ⟨67, _⟩ => ⟨S2176x1, .f32⟩
  | .hbm, ⟨68, _⟩ => ⟨S_, .f32⟩
  | .hbm, ⟨69, _⟩ => ⟨S2176x1, .f32⟩
  | .hbm, ⟨70, _⟩ => ⟨S2176x1, .f32⟩
  | .hbm, ⟨71, _⟩ => ⟨S_, .f32⟩
  | .hbm, ⟨72, _⟩ => ⟨S2176x1, .f32⟩
  | .hbm, ⟨73, _⟩ => ⟨S2176x1, .f32⟩
  | .hbm, ⟨74, _⟩ => ⟨S2176x1, .f32⟩
  | .hbm, ⟨75, _⟩ => ⟨S2176x1, .f32⟩
  | .hbm, ⟨76, _⟩ => ⟨S_, .f32⟩
  | .hbm, ⟨77, _⟩ => ⟨S2176x1, .f32⟩
  | .hbm, ⟨78, _⟩ => ⟨S2176x1, .f32⟩
  | .hbm, ⟨79, _⟩ => ⟨S2176x1024, .f32⟩
  | .hbm, ⟨80, _⟩ => ⟨S2176x1024, .f32⟩
  | .hbm, ⟨81, _⟩ => ⟨S2176x1024, .f32⟩
  | .hbm, ⟨82, _⟩ => ⟨S2176x1024, .f32⟩
  | .hbm, ⟨83, _⟩ => ⟨S2176x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S2176x1024, .f32⟩
  | .hbm, ⟨88, _⟩ => ⟨S2176x1024, .f32⟩
  | .hbm, ⟨89, _⟩ => ⟨S2176x1024, .f32⟩
  | .hbm, ⟨90, _⟩ => ⟨S_, .f32⟩
  | .hbm, ⟨91, _⟩ => ⟨S2176, .f32⟩
  | .hbm, ⟨92, _⟩ => ⟨S2176x1, .f32⟩
  | .hbm, ⟨93, _⟩ => ⟨S2176x1024, .f32⟩
  | .hbm, ⟨94, _⟩ => ⟨S2176x1024, .f32⟩
  | .hbm, ⟨95, _⟩ => ⟨S2176x1, .f32⟩
  | .hbm, ⟨96, _⟩ => ⟨S_, .f32⟩
  | .hbm, ⟨97, _⟩ => ⟨S2176x1, .f32⟩
  | .hbm, ⟨98, _⟩ => ⟨S2176x1, .f32⟩
  | .hbm, ⟨99, _⟩ => ⟨S_, .f32⟩
  | .hbm, ⟨100, _⟩ => ⟨S2176, .f32⟩
  | .hbm, ⟨101, _⟩ => ⟨S2176x1024, .f32⟩
  | .hbm, ⟨102, _⟩ => ⟨S2176x1024, .f32⟩
  | .hbm, ⟨103, _⟩ => ⟨S2176x1024, .f32⟩
  | .hbm, ⟨104, _⟩ => ⟨S2176x1024, .f32⟩
  | .hbm, ⟨105, _⟩ => ⟨S2176x1024, .f32⟩
  | .hbm, ⟨106, _⟩ => ⟨S2176x1024, .bf16⟩
  | _, _ => ⟨S2176x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== KernelMixOut.lean ====
abbrev S2176x1024 : Shape := ⟨2, ![2176, 1024]⟩
abbrev S1024x1024 : Shape := ⟨2, ![1024, 1024]⟩
abbrev S2176x512 : Shape := ⟨2, ![2176, 512]⟩
abbrev S1x512 : Shape := ⟨2, ![1, 512]⟩
abbrev S8x128 : Shape := ⟨2, ![8, 128]⟩
abbrev S544x1024 : Shape := ⟨2, ![544, 1024]⟩
abbrev S544x512 : Shape := ⟨2, ![544, 512]⟩
abbrev S272x1024 : Shape := ⟨2, ![272, 1024]⟩
abbrev S512x1024 : Shape := ⟨2, ![512, 1024]⟩
abbrev S272x512 : Shape := ⟨2, ![272, 512]⟩
abbrev S272 : Shape := ⟨1, ![272]⟩
abbrev S272x1 : Shape := ⟨2, ![272, 1]⟩
abbrev S512 : Shape := ⟨1, ![512]⟩

abbrev nBuf : Space → Nat
  | .hbm => 10
  | .vmem => 13
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x512, .f32⟩
  | .hbm, ⟨3, _⟩ => ⟨S1x512, .f32⟩
  | .hbm, ⟨4, _⟩ => ⟨S1x512, .f32⟩
  | .hbm, ⟨5, _⟩ => ⟨S8x128, .f32⟩
  | .hbm, ⟨6, _⟩ => ⟨S2176x512, .f32⟩
  | .hbm, ⟨7, _⟩ => ⟨S2176x512, .f32⟩
  | .hbm, ⟨8, _⟩ => ⟨S1x512, .f32⟩
  | .hbm, ⟨9, _⟩ => ⟨S1x512, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x512, .f32⟩
  | .local _ .vmem, ⟨4, _⟩ => ⟨S544x512, .f32⟩
  | .local _ .vmem, ⟨5, _⟩ => ⟨S1x512, .f32⟩
  | .local _ .vmem, ⟨6, _⟩ => ⟨S1x512, .f32⟩
  | .local _ .vmem, ⟨7, _⟩ => ⟨S544x512, .f32⟩
  | .local _ .vmem, ⟨8, _⟩ => ⟨S544x512, .f32⟩
  | .local _ .vmem, ⟨9, _⟩ => ⟨S544x512, .f32⟩
  | .local _ .vmem, ⟨10, _⟩ => ⟨S544x512, .f32⟩
  | .local _ .vmem, ⟨11, _⟩ => ⟨S1x512, .f32⟩
  | .local _ .vmem, ⟨12, _⟩ => ⟨S1x512, .f32⟩
  | _, _ => ⟨S2176x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceMixOutIdeal.lean ====
abbrev S2176x1024 : Shape := ⟨2, ![2176, 1024]⟩
abbrev S1024x1024 : Shape := ⟨2, ![1024, 1024]⟩
abbrev S2176x512 : Shape := ⟨2, ![2176, 512]⟩
abbrev S1x512 : Shape := ⟨2, ![1, 512]⟩
abbrev S8x128 : Shape := ⟨2, ![8, 128]⟩
abbrev S_ : Shape := ⟨0, ![]⟩
abbrev S2176 : Shape := ⟨1, ![2176]⟩
abbrev S2176x1 : Shape := ⟨2, ![2176, 1]⟩
abbrev S512 : Shape := ⟨1, ![512]⟩

abbrev nBuf : Space → Nat
  | .hbm => 106
  | .vmem => 0
  | .smem => 0
  | _ => 0

abbrev bufTy : (tb : Table) → Fin (tcTables nBuf tb) → BufTy
  | .hbm, ⟨0, _⟩ => ⟨S2176x1024, .bf16⟩
  | .hbm, ⟨1, _⟩ => ⟨S1024x1024, .bf16⟩
  | .hbm, ⟨2, _⟩ => ⟨S2176x512, .f32⟩
  | .hbm, ⟨3, _⟩ => ⟨S1x512, .f32⟩
  | .hbm, ⟨4, _⟩ => ⟨S1x512, .f32⟩
  | .hbm, ⟨5, _⟩ => ⟨S8x128, .f32⟩
  | .hbm, ⟨6, _⟩ => ⟨S1024x1024, .f32⟩
  | .hbm, ⟨7, _⟩ => ⟨S_, .f32⟩
  | .hbm, ⟨8, _⟩ => ⟨S2176x512, .f32⟩
  | .hbm, ⟨9, _⟩ => ⟨S_, .f32⟩
  | .hbm, ⟨10, _⟩ => ⟨S2176, .f32⟩
  | .hbm, ⟨11, _⟩ => ⟨S2176x1, .f32⟩
  | .hbm, ⟨12, _⟩ => ⟨S_, .f32⟩
  | .hbm, ⟨13, _⟩ => ⟨S2176x1, .f32⟩
  | .hbm, ⟨14, _⟩ => ⟨S2176x1, .f32⟩
  | .hbm, ⟨15, _⟩ => ⟨S2176x512, .f32⟩
  | .hbm, ⟨16, _⟩ => ⟨S2176x512, .f32⟩
  | .hbm, ⟨17, _⟩ => ⟨S2176x512, .f32⟩
  | .hbm, ⟨18, _⟩ => ⟨S_, .f32⟩
  | .hbm, ⟨19, _⟩ => ⟨S2176x512, .f32⟩
  | .hbm, ⟨20, _⟩ => ⟨S2176x512, .f32⟩
  | .hbm, ⟨21, _⟩ => ⟨S_, .f32⟩
  | .hbm, ⟨22, _⟩ => ⟨S2176, .f32⟩
  | .hbm, ⟨23, _⟩ => ⟨S2176x1, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S2176x512, .f32⟩
  | .hbm, ⟨28, _⟩ => ⟨S2176x512, .f32⟩
  | .hbm, ⟨29, _⟩ => ⟨S_, .f32⟩
  | .hbm, ⟨30, _⟩ => ⟨S2176x1, .f32⟩
  | .hbm, ⟨31, _⟩ => ⟨S2176x1, .f32⟩
  | .hbm, ⟨32, _⟩ => ⟨S2176x1, .f32⟩
  | .hbm, ⟨33, _⟩ => ⟨S2176x1, .f32⟩
  | .hbm, ⟨34, _⟩ => ⟨S_, .f32⟩
  | .hbm, ⟨35, _⟩ => ⟨S2176x1, .f32⟩
  | .hbm, ⟨36, _⟩ => ⟨S2176x1, .f32⟩
  | .hbm, ⟨37, _⟩ => ⟨S2176x512, .f32⟩
  | .hbm, ⟨38, _⟩ => ⟨S2176x512, .f32⟩
  | .hbm, ⟨39, _⟩ => ⟨S2176x512, .f32⟩
  | .hbm, ⟨40, _⟩ => ⟨S2176x512, .f32⟩
  | .hbm, ⟨41, _⟩ => ⟨S2176x512, .f32⟩
  | .hbm, ⟨42, _⟩ => ⟨S2176x512, .f32⟩
  | .hbm, ⟨43, _⟩ => ⟨S2176x512, .f32⟩
  | .hbm, ⟨44, _⟩ => ⟨S2176x512, .f32⟩
  | .hbm, ⟨45, _⟩ => ⟨S_, .f32⟩
  | .hbm, ⟨46, _⟩ => ⟨S2176x512, .f32⟩
  | .hbm, ⟨47, _⟩ => ⟨S2176x512, .f32⟩
  | .hbm, ⟨48, _⟩ => ⟨S_, .f32⟩
  | .hbm, ⟨49, _⟩ => ⟨S2176x512, .f32⟩
  | .hbm, ⟨50, _⟩ => ⟨S2176x512, .f32⟩
  | .hbm, ⟨51, _⟩ => ⟨S_, .f32⟩
  | .hbm, ⟨52, _⟩ => ⟨S2176x512, .f32⟩
  | .hbm, ⟨53, _⟩ => ⟨S2176x512, .f32⟩
  | .hbm, ⟨54, _⟩ => ⟨S2176x512, .f32⟩
  | .hbm, ⟨55, _⟩ => ⟨S2176x512, .f32⟩
  | .hbm, ⟨56, _⟩ => ⟨S2176x1024, .f32⟩
  | .hbm, ⟨57, _⟩ => ⟨S2176x1024, .f32⟩
  | .hbm, ⟨58, _⟩ => ⟨S2176x1024, .f32⟩
  | .hbm, ⟨59, _⟩ => ⟨S2176x1024, .f32⟩
  | .hbm, ⟨60, _⟩ => ⟨S2176x512, .f32⟩
  | .hbm, ⟨61, _⟩ => ⟨S2176x512, .f32⟩
  | .hbm, ⟨62, _⟩ => ⟨S2176x512, .f32⟩
  | .hbm, ⟨63, _⟩ => ⟨S2176x512, .f32⟩
  | .hbm, ⟨64, _⟩ => ⟨S2176x512, .f32⟩
  | .hbm, ⟨65, _⟩ => ⟨S2176x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S2176x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S2176x512, .f32⟩
  | .hbm, ⟨74, _⟩ => ⟨S2176x512, .f32⟩
  | .hbm, ⟨75, _⟩ => ⟨S2176x512, .f32⟩
  | .hbm, ⟨76, _⟩ => ⟨S_, .f32⟩
  | .hbm, ⟨77, _⟩ => ⟨S2176, .f32⟩
  | .hbm, ⟨78, _⟩ => ⟨S2176x1, .f32⟩
  | .hbm, ⟨79, _⟩ => ⟨S2176x512, .f32⟩
  | .hbm, ⟨80, _⟩ => ⟨S2176x512, .f32⟩
  | .hbm, ⟨81, _⟩ => ⟨S2176x1, .f32⟩
  | .hbm, ⟨82, _⟩ => ⟨S2176x512, .f32⟩
  | .hbm, ⟨83, _⟩ => ⟨S_, .f32⟩
  | .hbm, ⟨84, _⟩ => ⟨S2176, .f32⟩
  | .hbm, ⟨85, _⟩ => ⟨S2176x1, .f32⟩
  | .hbm, ⟨86, _⟩ => ⟨S_, .f32⟩
  | .hbm, ⟨87, _⟩ => ⟨S2176x1, .f32⟩
  | .hbm, ⟨88, _⟩ => ⟨S2176x1, .f32⟩
  | .hbm, ⟨89, _⟩ => ⟨S_, .f32⟩
  | .hbm, ⟨90, _⟩ => ⟨S2176, .f32⟩
  | .hbm, ⟨91, _⟩ => ⟨S2176x512, .f32⟩
  | .hbm, ⟨92, _⟩ => ⟨S2176x512, .f32⟩
  | .hbm, ⟨93, _⟩ => ⟨S2176x512, .f32⟩
  | .hbm, ⟨94, _⟩ => ⟨S_, .f32⟩
  | .hbm, ⟨95, _⟩ => ⟨S2176, .f32⟩
  | .hbm, ⟨96, _⟩ => ⟨S2176x1, .f32⟩
  | .hbm, ⟨97, _⟩ => ⟨S2176x512, .f32⟩
  | .hbm, ⟨98, _⟩ => ⟨S2176x1, .f32⟩
  | .hbm, ⟨99, _⟩ => ⟨S_, .f32⟩
  | .hbm, ⟨100, _⟩ => ⟨S2176x1, .f32⟩
  | .hbm, ⟨101, _⟩ => ⟨S2176x1, .f32⟩
  | .hbm, ⟨102, _⟩ => ⟨S_, .f32⟩
  | .hbm, ⟨103, _⟩ => ⟨S2176, .f32⟩
  | .hbm, ⟨104, _⟩ => ⟨S2176x512, .f32⟩
  | .hbm, ⟨105, _⟩ => ⟨S2176x512, .f32⟩
  | _, _ => ⟨S2176x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v29_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v29_1 : Ref sig .tc := ⟨.hbm, 54, rfl⟩
abbrev main_v29_0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_cst_15 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]
-- ==== KernelMixIn.lean ====
abbrev S5x2176x512 : Shape := ⟨3, ![5, 2176, 512]⟩
abbrev S4x1024x640 : Shape := ⟨3, ![4, 1024, 640]⟩
abbrev S2176x1024 : Shape := ⟨2, ![2176, 1024]⟩
abbrev S1x1024 : Shape := ⟨2, ![1, 1024]⟩
abbrev S8x128 : Shape := ⟨2, ![8, 128]⟩
abbrev S2048x1024 : Shape := ⟨2, ![2048, 1024]⟩
abbrev S16x1024 : Shape := ⟨2, ![16, 1024]⟩
abbrev S5x544x512 : Shape := ⟨3, ![5, 544, 512]⟩
abbrev S544x1024 : Shape := ⟨2, ![544, 1024]⟩
abbrev S1024x2560 : Shape := ⟨2, ![1024, 2560]⟩
abbrev S1x1024x640 : Shape := ⟨3, ![1, 1024, 640]⟩
abbrev S1024x640 : Shape := ⟨2, ![1024, 640]⟩
abbrev S1x272x512 : Shape := ⟨3, ![1, 272, 512]⟩
abbrev S272x512 : Shape := ⟨2, ![272, 512]⟩
abbrev S1024x512 : Shape := ⟨2, ![1024, 512]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S5x2176x512, .bf16⟩
  | .hbm, ⟨1, _⟩ => ⟨S4x1024x640, .bf16⟩
  | .hbm, ⟨2, _⟩ => ⟨S2176x1024, .f32⟩
  | .hbm, ⟨3, _⟩ => ⟨S2176x1024, .f32⟩
  | .hbm, ⟨4, _⟩ => ⟨S1x1024, .f32⟩
  | .hbm, ⟨5, _⟩ => ⟨S8x128, .f32⟩
  | .hbm, ⟨6, _⟩ => ⟨S2048x1024, .f32⟩
  | .hbm, ⟨7, _⟩ => ⟨S16x1024, .f32⟩
  | .hbm, ⟨8, _⟩ => ⟨S1x1024, .f32⟩
  | .local _ .vmem, ⟨0, _⟩ => ⟨S5x544x512, .bf16⟩
  | .local _ .vmem, ⟨1, _⟩ => ⟨S5x544x512, .bf16⟩
  | .local _ .vmem, ⟨2, _⟩ => ⟨S4x1024x640, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .f32⟩
  | .local _ .vmem, ⟨9, _⟩ => ⟨S544x1024, .f32⟩
  | .local _ .vmem, ⟨10, _⟩ => ⟨S16x1024, .f32⟩
  | .local _ .vmem, ⟨11, _⟩ => ⟨S1x1024, .f32⟩
  | .local _ .vmem, ⟨12, _⟩ => ⟨S1024x2560, .bf16⟩
  | _, _ => ⟨S5x2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v122 : BitVec 1 := Scalar.cmpi .eq arg0 c3_i32
  let v123 : BitVec 32 := Scalar.extui v122
  let c0_i32_88 : BitVec 32 := 0#32
  let v124 : BitVec 1 := Scalar.cmpi .ne v123 c0_i32_88
  v124

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceMixInIdeal.lean ====
abbrev S5x2176x512 : Shape := ⟨3, ![5, 2176, 512]⟩
abbrev S4x1024x640 : Shape := ⟨3, ![4, 1024, 640]⟩
abbrev S2176x1024 : Shape := ⟨2, ![2176, 1024]⟩
abbrev S1x1024 : Shape := ⟨2, ![1, 1024]⟩
abbrev S8x128 : Shape := ⟨2, ![8, 128]⟩
abbrev S1x1024x640 : Shape := ⟨3, ![1, 1024, 640]⟩
abbrev S1024x640 : Shape := ⟨2, ![1024, 640]⟩
abbrev S1024x2560 : Shape := ⟨2, ![1024, 2560]⟩
abbrev S2048x1024 : Shape := ⟨2, ![2048, 1024]⟩
abbrev S16x1024 : Shape := ⟨2, ![16, 1024]⟩
abbrev S112x1024 : Shape := ⟨2, ![112, 1024]⟩
abbrev S_ : Shape := ⟨0, ![]⟩
abbrev S2176 : Shape := ⟨1, ![2176]⟩
abbrev S2176x1 : Shape := ⟨2, ![2176, 1]⟩
abbrev S2176x2560 : Shape := ⟨2, ![2176, 2560]⟩
abbrev S2176x512 : Shape := ⟨2, ![2176, 512]⟩
abbrev S1x2176x512 : Shape := ⟨3, ![1, 2176, 512]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S5x2176x512, .bf16⟩
  | .hbm, ⟨1, _⟩ => ⟨S4x1024x640, .bf16⟩
  | .hbm, ⟨2, _⟩ => ⟨S2176x1024, .f32⟩
  | .hbm, ⟨3, _⟩ => ⟨S2176x1024, .f32⟩
  | .hbm, ⟨4, _⟩ => ⟨S1x1024, .f32⟩
  | .hbm, ⟨5, _⟩ => ⟨S8x128, .f32⟩
  | .hbm, ⟨6, _⟩ => ⟨S1x1024x640, .bf16⟩
  | .hbm, ⟨7, _⟩ => ⟨S1024x640, .bf16⟩
  | .hbm, ⟨8, _⟩ => ⟨S1024x640, .f32⟩
  | .hbm, ⟨9, _⟩ => ⟨S1x1024x640, .bf16⟩
  | .hbm, ⟨10, _⟩ => ⟨S1024x640, .bf16⟩
  | .hbm, ⟨11, _⟩ => ⟨S1024x640, .f32⟩
  | .hbm, ⟨12, _⟩ => ⟨S1x1024x640, .bf16⟩
  | .hbm, ⟨13, _⟩ => ⟨S1024x640, .bf16⟩
  | .hbm, ⟨14, _⟩ => ⟨S1024x640, .f32⟩
  | .hbm, ⟨15, _⟩ => ⟨S1x1024x640, .bf16⟩
  | .hbm, ⟨16, _⟩ => ⟨S1024x640, .bf16⟩
  | .hbm, ⟨17, _⟩ => ⟨S1024x640, .f32⟩
  | .hbm, ⟨18, _⟩ => ⟨S1024x2560, .f32⟩
  | .hbm, ⟨19, _⟩ => ⟨S2048x1024, .f32⟩
  | .hbm, ⟨20, _⟩ => ⟨S16x1024, .f32⟩
  | .hbm, ⟨21, _⟩ => ⟨S112x1024, .f32⟩
  | .hbm, ⟨22, _⟩ => ⟨S2176x1024, .f32⟩
  | .hbm, ⟨23, _⟩ => ⟨S_, .f32⟩
  | .hbm, ⟨24, _⟩ => ⟨S112x1024, .f32⟩
  | .hbm, ⟨25, _⟩ => ⟨S2176x1024, .f32⟩
  | .hbm, ⟨26, _⟩ => ⟨S_, .f32⟩
  | .hbm, ⟨27, _⟩ => ⟨S2176, .f32⟩
  | .hbm, ⟨28, _⟩ => ⟨S2176x1, .f32⟩
  | .hbm, ⟨29, _⟩ => ⟨S_, .f32⟩
  | .hbm, ⟨30, _⟩ => ⟨S2176x1, .f32⟩
  | .hbm, ⟨31, _⟩ => ⟨S2176x1, .f32⟩
  | .hbm, ⟨32, _⟩ => ⟨S_, .f32⟩
  | .hbm, ⟨33, _⟩ => ⟨S2176x1, .f32⟩
  | .hbm, ⟨34, _⟩ => ⟨S2176x1, .f32⟩
  | .hbm, ⟨35, _⟩ => ⟨S2176x1, .f32⟩
  | .hbm, ⟨36, _⟩ => ⟨S2176x1, .f32⟩
  | .hbm, ⟨37, _⟩ => ⟨S_, .f32⟩
  | .hbm, ⟨38, _⟩ => ⟨S2176x1, .f32⟩
  | .hbm, ⟨39, _⟩ => ⟨S2176x1, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x2560, .f32⟩
  | .hbm, ⟨45, _⟩ => ⟨S2176x512, .f32⟩
  | .hbm, ⟨46, _⟩ => ⟨S2176x512, .f32⟩
  | .hbm, ⟨47, _⟩ => ⟨S2176x512, .f32⟩
  | .hbm, ⟨48, _⟩ => ⟨S2176x512, .f32⟩
  | .hbm, ⟨49, _⟩ => ⟨S2176x512, .f32⟩
  | .hbm, ⟨50, _⟩ => ⟨S1x2176x512, .f32⟩
  | .hbm, ⟨51, _⟩ => ⟨S1x2176x512, .f32⟩
  | .hbm, ⟨52, _⟩ => ⟨S1x2176x512, .f32⟩
  | .hbm, ⟨53, _⟩ => ⟨S1x2176x512, .f32⟩
  | .hbm, ⟨54, _⟩ => ⟨S1x2176x512, .f32⟩
  | .hbm, ⟨55, _⟩ => ⟨S5x2176x512, .f32⟩
  | .hbm, ⟨56, _⟩ => ⟨S5x2176x512, .f32⟩
  | .hbm, ⟨57, _⟩ => ⟨S1x2176x512, .f32⟩
  | .hbm, ⟨58, _⟩ => ⟨S2176x512, .f32⟩
  | .hbm, ⟨59, _⟩ => ⟨S1x2176x512, .f32⟩
  | .hbm, ⟨60, _⟩ => ⟨S2176x512, .f32⟩
  | .hbm, ⟨61, _⟩ => ⟨S1x2176x512, .f32⟩
  | .hbm, ⟨62, _⟩ => ⟨S2176x512, .f32⟩
  | .hbm, ⟨63, _⟩ => ⟨S1x2176x512, .f32⟩
  | .hbm, ⟨64, _⟩ => ⟨S2176x512, .f32⟩
  | .hbm, ⟨65, _⟩ => ⟨S1x2176x512, .f32⟩
  | .hbm, ⟨66, _⟩ => ⟨S2176x512, .f32⟩
  | .hbm, ⟨67, _⟩ => ⟨S2176x2560, .f32⟩
  | .hbm, ⟨68, _⟩ => ⟨S2176x1024, .f32⟩
  | .hbm, ⟨69, _⟩ => ⟨S2176x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S2176x1024, .f32⟩
  | .hbm, ⟨74, _⟩ => ⟨S2176x1024, .f32⟩
  | .hbm, ⟨75, _⟩ => ⟨S2176x1024, .f32⟩
  | .hbm, ⟨76, _⟩ => ⟨S_, .f32⟩
  | .hbm, ⟨77, _⟩ => ⟨S2176, .f32⟩
  | .hbm, ⟨78, _⟩ => ⟨S2176x1, .f32⟩
  | .hbm, ⟨79, _⟩ => ⟨S2176x1024, .f32⟩
  | .hbm, ⟨80, _⟩ => ⟨S2176x1024, .f32⟩
  | .hbm, ⟨81, _⟩ => ⟨S2176x1024, .f32⟩
  | .hbm, ⟨82, _⟩ => ⟨S2176x1, .f32⟩
  | .hbm, ⟨83, _⟩ => ⟨S_, .f32⟩
  | .hbm, ⟨84, _⟩ => ⟨S2176x1, .f32⟩
  | .hbm, ⟨85, _⟩ => ⟨S2176x1, .f32⟩
  | .hbm, ⟨86, _⟩ => ⟨S_, .f32⟩
  | .hbm, ⟨87, _⟩ => ⟨S2176, .f32⟩
  | .hbm, ⟨88, _⟩ => ⟨S2176x1024, .f32⟩
  | .hbm, ⟨89, _⟩ => ⟨S2176x1024, .f32⟩
  | .hbm, ⟨90, _⟩ => ⟨S2176x1024, .f32⟩
  | .hbm, ⟨91, _⟩ => ⟨S2176x1024, .f32⟩
  | .hbm, ⟨92, _⟩ => ⟨S2176x1024, .f32⟩
  | .hbm, ⟨93, _⟩ => ⟨S2048x1024, .f32⟩
  | .hbm, ⟨94, _⟩ => ⟨S16x1024, .f32⟩
  | .hbm, ⟨95, _⟩ => ⟨S112x1024, .f32⟩
  | _, _ => ⟨S5x2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_4 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_5 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_6 : Ref sig .tc := ⟨.hbm, 83, rfl⟩
abbrev main_v70 : Ref sig .tc := ⟨.hbm, 84, rfl⟩
abbrev main_v71 : Ref sig .tc := ⟨.hbm, 85, rfl⟩
abbrev main_cst_7 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩

abbrev nD : Nat := 1
abbrev τ : Topo := Topo.v7x

variable {F : FTy → Type} [FloatOps F]
-- ==== KernelAdamFfn.lean ====
abbrev S1x1024x704 : Shape := ⟨3, ![1, 1024, 704]⟩
abbrev S1x704x1024 : Shape := ⟨3, ![1, 704, 1024]⟩
abbrev S704x1024 : Shape := ⟨2, ![704, 1024]⟩
abbrev S8x128 : Shape := ⟨2, ![8, 128]⟩
abbrev S88x1024 : Shape := ⟨2, ![88, 1024]⟩

abbrev nBuf : Space → Nat
  | .hbm => 40
  | .vmem => 48
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S1x1024x704, .f32⟩
  | .hbm, ⟨7, _⟩ => ⟨S1x1024x704, .f32⟩
  | .hbm, ⟨8, _⟩ => ⟨S1x704x1024, .f32⟩
  | .hbm, ⟨9, _⟩ => ⟨S1x1024x704, .f32⟩
  | .hbm, ⟨10, _⟩ => ⟨S1x1024x704, .f32⟩
  | .hbm, ⟨11, _⟩ => ⟨S1x704x1024, .f32⟩
  | .hbm, ⟨12, _⟩ => ⟨S8x128, .f32⟩
  | .hbm, ⟨13, _⟩ => ⟨S1x704x1024, .f32⟩
  | .hbm, ⟨14, _⟩ => ⟨S704x1024, .f32⟩
  | .hbm, ⟨15, _⟩ => ⟨S1x704x1024, .f32⟩
  | .hbm, ⟨16, _⟩ => ⟨S704x1024, .f32⟩
  | .hbm, ⟨17, _⟩ => ⟨S704x1024, .f32⟩
  | .hbm, ⟨18, _⟩ => ⟨S1x704x1024, .f32⟩
  | .hbm, ⟨19, _⟩ => ⟨S704x1024, .f32⟩
  | .hbm, ⟨20, _⟩ => ⟨S1x704x1024, .f32⟩
  | .hbm, ⟨21, _⟩ => ⟨S704x1024, .f32⟩
  | .hbm, ⟨22, _⟩ => ⟨S704x1024, .f32⟩
  | .hbm, ⟨23, _⟩ => ⟨S1x704x1024, .f32⟩
  | .hbm, ⟨24, _⟩ => ⟨S704x1024, .f32⟩
  | .hbm, ⟨25, _⟩ => ⟨S1x704x1024, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S704x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S88x1024, .f32⟩
  | .local _ .vmem, ⟨17, _⟩ => ⟨S88x1024, .f32⟩
  | .local _ .vmem, ⟨18, _⟩ => ⟨S88x1024, .f32⟩
  | .local _ .vmem, ⟨19, _⟩ => ⟨S88x1024, .f32⟩
  | .local _ .vmem, ⟨20, _⟩ => ⟨S88x1024, .f32⟩
  | .local _ .vmem, ⟨21, _⟩ => ⟨S88x1024, .f32⟩
  | .local _ .vmem, ⟨22, _⟩ => ⟨S88x1024, .f32⟩
  | .local _ .vmem, ⟨23, _⟩ => ⟨S88x1024, .f32⟩
  | .local _ .vmem, ⟨24, _⟩ => ⟨S88x1024, .f32⟩
  | .local _ .vmem, ⟨25, _⟩ => ⟨S88x1024, .f32⟩
  | .local _ .vmem, ⟨26, _⟩ => ⟨S88x1024, .f32⟩
  | .local _ .vmem, ⟨27, _⟩ => ⟨S88x1024, .f32⟩
  | .local _ .vmem, ⟨28, _⟩ => ⟨S88x1024, .f32⟩
  | .local _ .vmem, ⟨29, _⟩ => ⟨S88x1024, .f32⟩
  | .local _ .vmem, ⟨30, _⟩ => ⟨S88x1024, .f32⟩
  | .local _ .vmem, ⟨31, _⟩ => ⟨S88x1024, .f32⟩
  | .local _ .vmem, ⟨32, _⟩ => ⟨S88x1024, .f32⟩
  | .local _ .vmem, ⟨33, _⟩ => ⟨S88x1024, .f32⟩
  | .local _ .vmem, ⟨34, _⟩ => ⟨S88x1024, .f32⟩
  | .local _ .vmem, ⟨35, _⟩ => ⟨S88x1024, .f32⟩
  | .local _ .vmem, ⟨36, _⟩ => ⟨S88x1024, .f32⟩
  | .local _ .vmem, ⟨37, _⟩ => ⟨S88x1024, .f32⟩
  | .local _ .vmem, ⟨38, _⟩ => ⟨S88x1024, .f32⟩
  | .local _ .vmem, ⟨39, _⟩ => ⟨S88x1024, .f32⟩
  | .local _ .vmem, ⟨40, _⟩ => ⟨S88x1024, .f32⟩
  | .local _ .vmem, ⟨41, _⟩ => ⟨S88x1024, .f32⟩
  | .local _ .vmem, ⟨42, _⟩ => ⟨S88x1024, .f32⟩
  | .local _ .vmem, ⟨43, _⟩ => ⟨S88x1024, .f32⟩
  | .local _ .vmem, ⟨44, _⟩ => ⟨S88x1024, .f32⟩
  | .local _ .vmem, ⟨45, _⟩ => ⟨S88x1024, .f32⟩
  | .local _ .vmem, ⟨46, _⟩ => ⟨S88x1024, .f32⟩
  | .local _ .vmem, ⟨47, _⟩ => ⟨S88x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev main_v15_6 : Ref sig .tc := ⟨.hbm, 34, rfl⟩
abbrev main_v15_7 : Ref sig .tc := ⟨.hbm, 35, rfl⟩
abbrev main_v15_8 : Ref sig .tc := ⟨.hbm, 36, rfl⟩
abbrev main_v15_9 : Ref sig .tc := ⟨.hbm, 37, rfl⟩
abbrev main_v15_10 : Ref sig .tc := ⟨.hbm, 38, rfl⟩
abbrev main_v15_11 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S88x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S88x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S88x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S88x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S88x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S88x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S88x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S88x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S88x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S88x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S88x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S88x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceAdamFfnIdeal.lean ====
abbrev S1x1024x704 : Shape := ⟨3, ![1, 1024, 704]⟩
abbrev S1x704x1024 : Shape := ⟨3, ![1, 704, 1024]⟩
abbrev S704x1024 : Shape := ⟨2, ![704, 1024]⟩
abbrev S8x128 : Shape := ⟨2, ![8, 128]⟩
abbrev S1024x704 : Shape := ⟨2, ![1024, 704]⟩
abbrev S_ : Shape := ⟨0, ![]⟩

abbrev nBuf : Space → Nat
  | .hbm => 127
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S1x1024x704, .f32⟩
  | .hbm, ⟨7, _⟩ => ⟨S1x1024x704, .f32⟩
  | .hbm, ⟨8, _⟩ => ⟨S1x704x1024, .f32⟩
  | .hbm, ⟨9, _⟩ => ⟨S1x1024x704, .f32⟩
  | .hbm, ⟨10, _⟩ => ⟨S1x1024x704, .f32⟩
  | .hbm, ⟨11, _⟩ => ⟨S1x704x1024, .f32⟩
  | .hbm, ⟨12, _⟩ => ⟨S8x128, .f32⟩
  | .hbm, ⟨13, _⟩ => ⟨S1024x704, .f32⟩
  | .hbm, ⟨14, _⟩ => ⟨S704x1024, .f32⟩
  | .hbm, ⟨15, _⟩ => ⟨S1024x704, .f32⟩
  | .hbm, ⟨16, _⟩ => ⟨S704x1024, .f32⟩
  | .hbm, ⟨17, _⟩ => ⟨S1024x704, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | .hbm, ⟨48, _⟩ => ⟨S704x1024, .f32⟩
  | .hbm, ⟨49, _⟩ => ⟨S_, .f32⟩
  | .hbm, ⟨50, _⟩ => ⟨S704x1024, .f32⟩
  | .hbm, ⟨51, _⟩ => ⟨S704x1024, .f32⟩
  | .hbm, ⟨52, _⟩ => ⟨S1024x704, .f32⟩
  | .hbm, ⟨53, _⟩ => ⟨S704x1024, .f32⟩
  | .hbm, ⟨54, _⟩ => ⟨S1024x704, .f32⟩
  | .hbm, ⟨55, _⟩ => ⟨S704x1024, .f32⟩
  | .hbm, ⟨56, _⟩ => ⟨S1024x704, .f32⟩
  | .hbm, ⟨57, _⟩ => ⟨S704x1024, .f32⟩
  | .hbm, ⟨58, _⟩ => ⟨S_, .f32⟩
  | .hbm, ⟨59, _⟩ => ⟨S704x1024, .f32⟩
  | .hbm, ⟨60, _⟩ => ⟨S704x1024, .f32⟩
  | .hbm, ⟨61, _⟩ => ⟨S_, .f32⟩
  | .hbm, ⟨62, _⟩ => ⟨S704x1024, .f32⟩
  | .hbm, ⟨63, _⟩ => ⟨S704x1024, .f32⟩
  | .hbm, ⟨64, _⟩ => ⟨S704x1024, .f32⟩
  | .hbm, ⟨65, _⟩ => ⟨S_, .f32⟩
  | .hbm, ⟨66, _⟩ => ⟨S704x1024, .f32⟩
  | .hbm, ⟨67, _⟩ => ⟨S704x1024, .f32⟩
  | .hbm, ⟨68, _⟩ => ⟨S704x1024, .f32⟩
  | .hbm, ⟨69, _⟩ => ⟨S_, .f32⟩
  | .hbm, ⟨70, _⟩ => ⟨S704x1024, .f32⟩
  | .hbm, ⟨71, _⟩ => ⟨S704x1024, .f32⟩
  | .hbm, ⟨72, _⟩ => ⟨S704x1024, .f32⟩
  | .hbm, ⟨73, _⟩ => ⟨S_, .f32⟩
  | .hbm, ⟨74, _⟩ => ⟨S704x1024, .f32⟩
  | .hbm, ⟨75, _⟩ => ⟨S704x1024, .f32⟩
  | .hbm, ⟨76, _⟩ => ⟨S_, .f32⟩
  | .hbm, ⟨77, _⟩ => ⟨S704x1024, .f32⟩
  | .hbm, ⟨78, _⟩ => ⟨S704x1024, .f32⟩
  | .hbm, ⟨79, _⟩ => ⟨S704x1024, .f32⟩
  | .hbm, ⟨80, _⟩ => ⟨S_, .f32⟩
  | .hbm, ⟨81, _⟩ => ⟨S704x1024, .f32⟩
  | .hbm, ⟨82, _⟩ => ⟨S704x1024, .f32⟩
  | .hbm, ⟨83, _⟩ => ⟨S704x1024, .f32⟩
  | .hbm, ⟨84, _⟩ => ⟨S_, .f32⟩
  | .hbm, ⟨85, _⟩ => ⟨S704x1024, .f32⟩
  | .hbm, ⟨86, _⟩ => ⟨S704x1024, .f32⟩
  | .hbm, ⟨87, _⟩ => ⟨S704x1024, .f32⟩
  | .hbm, ⟨88, _⟩ => ⟨S_, .f32⟩
  | .hbm, ⟨89, _⟩ => ⟨S704x1024, .f32⟩
  | .hbm, ⟨90, _⟩ => ⟨S704x1024, .f32⟩
  | .hbm, ⟨91, _⟩ => ⟨S704x1024, .f32⟩
  | .hbm, ⟨92, _⟩ => ⟨S704x1024, .f32⟩
  | .hbm, ⟨93, _⟩ => ⟨S704x1024, .f32⟩
  | .hbm, ⟨94, _⟩ => ⟨S_, .f32⟩
  | .hbm, ⟨95, _⟩ => ⟨S704x1024, .f32⟩
  | .hbm, ⟨96, _⟩ => ⟨S704x1024, .f32⟩
  | .hbm, ⟨97, _⟩ => ⟨S_, .f32⟩
  | .hbm, ⟨98, _⟩ => ⟨S704x1024, .f32⟩
  | .hbm, ⟨99, _⟩ => ⟨S704x1024, .f32⟩
  | .hbm, ⟨100, _⟩ => ⟨S704x1024, .f32⟩
  | .hbm, ⟨101, _⟩ => ⟨S_, .f32⟩
  | .hbm, ⟨102, _⟩ => ⟨S704x1024, .f32⟩
  | .hbm, ⟨103, _⟩ => ⟨S704x1024, .f32⟩
  | .hbm, ⟨104, _⟩ => ⟨S704x1024, .f32⟩
  | .hbm, ⟨105, _⟩ => ⟨S_, .f32⟩
  | .hbm, ⟨106, _⟩ => ⟨S704x1024, .f32⟩
  | .hbm, ⟨107, _⟩ => ⟨S704x1024, .f32⟩
  | .hbm, ⟨108, _⟩ => ⟨S704x1024, .f32⟩
  | .hbm, ⟨109, _⟩ => ⟨S_, .f32⟩
  | .hbm, ⟨110, _⟩ => ⟨S704x1024, .f32⟩
  | .hbm, ⟨111, _⟩ => ⟨S704x1024, .f32⟩
  | .hbm, ⟨112, _⟩ => ⟨S_, .f32⟩
  | .hbm, ⟨113, _⟩ => ⟨S704x1024, .f32⟩
  | .hbm, ⟨114, _⟩ => ⟨S704x1024, .f32⟩
  | .hbm, ⟨115, _⟩ => ⟨S704x1024, .f32⟩
  | .hbm, ⟨116, _⟩ => ⟨S_, .f32⟩
  | .hbm, ⟨117, _⟩ => ⟨S704x1024, .f32⟩
  | .hbm, ⟨118, _⟩ => ⟨S704x1024, .f32⟩
  | .hbm, ⟨119, _⟩ => ⟨S704x1024, .f32⟩
  | .hbm, ⟨120, _⟩ => ⟨S_, .f32⟩
  | .hbm, ⟨121, _⟩ => ⟨S704x1024, .f32⟩
  | .hbm, ⟨122, _⟩ => ⟨S704x1024, .f32⟩
  | .hbm, ⟨123, _⟩ => ⟨S704x1024, .f32⟩
  | .hbm, ⟨124, _⟩ => ⟨S_, .f32⟩
  | .hbm, ⟨125, _⟩ => ⟨S704x1024, .f32⟩
  | .hbm, ⟨126, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_17 : Ref sig .tc := ⟨.hbm, 94, rfl⟩
abbrev main_v63 : Ref sig .tc := ⟨.hbm, 95, rfl⟩
abbrev main_v64 : Ref sig .tc := ⟨.hbm, 96, rfl⟩
abbrev main_cst_18 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_19 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_20 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_21 : Ref sig .tc := ⟨.hbm, 109, rfl⟩
abbrev main_v74 : Ref sig .tc := ⟨.hbm, 110, rfl⟩
abbrev main_v75 : Ref sig .tc := ⟨.hbm, 111, rfl⟩
abbrev main_cst_22 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_23 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_24 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_25 : Ref sig .tc := ⟨.hbm, 124, rfl⟩
abbrev main_v85 : Ref sig .tc := ⟨.hbm, 125, rfl⟩
abbrev main_v86 : Ref sig .tc := ⟨.hbm, 126, rfl⟩

abbrev nD : Nat := 1
abbrev τ : Topo := Topo.v7x

variable {F : FTy → Type} [FloatOps F]
-- ==== KernelAdamMix.lean ====
abbrev S1x1024x640 : Shape := ⟨3, ![1, 1024, 640]⟩
abbrev S1x256x1024 : Shape := ⟨3, ![1, 256, 1024]⟩
abbrev S1024x640 : Shape := ⟨2, ![1024, 640]⟩
abbrev S256x1024 : Shape := ⟨2, ![256, 1024]⟩
abbrev S256x640 : Shape := ⟨2, ![256, 640]⟩
abbrev S64x1024 : Shape := ⟨2, ![64, 1024]⟩

abbrev nBuf : Space → Nat
  | .hbm => 22
  | .vmem => 32
  | .smem => 0
  | _ => 0

abbrev bufTy : (tb : Table) → Fin (tcTables nBuf tb) → BufTy
  | .hbm, ⟨0, _⟩ => ⟨S1x1024x640, .f32⟩
  | .hbm, ⟨1, _⟩ => ⟨S1x256x1024, .f32⟩
  | .hbm, ⟨2, _⟩ => ⟨S1024x640, .f32⟩
  | .hbm, ⟨3, _⟩ => ⟨S256x1024, .f32⟩
  | .hbm, ⟨4, _⟩ => ⟨S1x1024x640, .f32⟩
  | .hbm, ⟨5, _⟩ => ⟨S1x256x1024, .f32⟩
  | .hbm, ⟨6, _⟩ => ⟨S1x1024x640, .f32⟩
  | .hbm, ⟨7, _⟩ => ⟨S1x256x1024, .f32⟩
  | .hbm, ⟨8, _⟩ => ⟨S1024x640, .f32⟩
  | .hbm, ⟨9, _⟩ => ⟨S256x1024, .f32⟩
  | .hbm, ⟨10, _⟩ => ⟨S1024x640, .f32⟩
  | .hbm, ⟨11, _⟩ => ⟨S256x1024, .f32⟩
  | .hbm, ⟨12, _⟩ => ⟨S1024x640, .f32⟩
  | .hbm, ⟨13, _⟩ => ⟨S256x1024, .f32⟩
  | .hbm, ⟨14, _⟩ => ⟨S1024x640, .f32⟩
  | .hbm, ⟨15, _⟩ => ⟨S1024x640, .f32⟩
  | .hbm, ⟨16, _⟩ => ⟨S1024x640, .f32⟩
  | .hbm, ⟨17, _⟩ => ⟨S1024x640, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .local _ .vmem, ⟨0, _⟩ => ⟨S256x640, .f32⟩
  | .local _ .vmem, ⟨1, _⟩ => ⟨S256x640, .f32⟩
  | .local _ .vmem, ⟨2, _⟩ => ⟨S64x1024, .f32⟩
  | .local _ .vmem, ⟨3, _⟩ => ⟨S64x1024, .f32⟩
  | .local _ .vmem, ⟨4, _⟩ => ⟨S256x640, .f32⟩
  | .local _ .vmem, ⟨5, _⟩ => ⟨S256x640, .f32⟩
  | .local _ .vmem, ⟨6, _⟩ => ⟨S64x1024, .f32⟩
  | .local _ .vmem, ⟨7, _⟩ => ⟨S64x1024, .f32⟩
  | .local _ .vmem, ⟨8, _⟩ => ⟨S256x640, .f32⟩
  | .local _ .vmem, ⟨9, _⟩ => ⟨S256x640, .f32⟩
  | .local _ .vmem, ⟨10, _⟩ => ⟨S64x1024, .f32⟩
  | .local _ .vmem, ⟨11, _⟩ => ⟨S64x1024, .f32⟩
  | .local _ .vmem, ⟨12, _⟩ => ⟨S256x640, .f32⟩
  | .local _ .vmem, ⟨13, _⟩ => ⟨S256x640, .f32⟩
  | .local _ .vmem, ⟨14, _⟩ => ⟨S64x1024, .f32⟩
  | .local _ .vmem, ⟨15, _⟩ => ⟨S64x1024, .f32⟩
  | .local _ .vmem, ⟨16, _⟩ => ⟨S256x640, .f32⟩
  | .local _ .vmem, ⟨17, _⟩ => ⟨S256x640, .f32⟩
  | .local _ .vmem, ⟨18, _⟩ => ⟨S256x640, .f32⟩
  | .local _ .vmem, ⟨19, _⟩ => ⟨S256x640, .f32⟩
  | .local _ .vmem, ⟨20, _⟩ => ⟨S256x640, .f32⟩
  | .local _ .vmem, ⟨21, _⟩ => ⟨S256x640, .f32⟩
  | .local _ .vmem, ⟨22, _⟩ => ⟨S256x640, .f32⟩
  | .local _ .vmem, ⟨23, _⟩ => ⟨S256x640, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | _, _ => ⟨S1x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceAdamMixIdeal.lean ====
abbrev S1x1024x640 : Shape := ⟨3, ![1, 1024, 640]⟩
abbrev S1x256x1024 : Shape := ⟨3, ![1, 256, 1024]⟩
abbrev S1024x640 : Shape := ⟨2, ![1024, 640]⟩
abbrev S256x1024 : Shape := ⟨2, ![256, 1024]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S1x1024x640, .f32⟩
  | .hbm, ⟨1, _⟩ => ⟨S1x256x1024, .f32⟩
  | .hbm, ⟨2, _⟩ => ⟨S1024x640, .f32⟩
  | .hbm, ⟨3, _⟩ => ⟨S256x1024, .f32⟩
  | .hbm, ⟨4, _⟩ => ⟨S1x1024x640, .f32⟩
  | .hbm, ⟨5, _⟩ => ⟨S1x256x1024, .f32⟩
  | .hbm, ⟨6, _⟩ => ⟨S1x1024x640, .f32⟩
  | .hbm, ⟨7, _⟩ => ⟨S1x256x1024, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S_, .f32⟩
  | .hbm, ⟨15, _⟩ => ⟨S1024x640, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | .hbm, ⟨40, _⟩ => ⟨S1024x640, .f32⟩
  | .hbm, ⟨41, _⟩ => ⟨S_, .f32⟩
  | .hbm, ⟨42, _⟩ => ⟨S1024x640, .f32⟩
  | .hbm, ⟨43, _⟩ => ⟨S1024x640, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S_, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S_, .f32⟩
  | .hbm, ⟨55, _⟩ => ⟨S256x1024, .f32⟩
  | .hbm, ⟨56, _⟩ => ⟨S256x1024, .f32⟩
  | .hbm, ⟨57, _⟩ => ⟨S256x1024, .f32⟩
  | .hbm, ⟨58, _⟩ => ⟨S_, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S_, .f32⟩
  | .hbm, ⟨63, _⟩ => ⟨S256x1024, .f32⟩
  | .hbm, ⟨64, _⟩ => ⟨S256x1024, .f32⟩
  | .hbm, ⟨65, _⟩ => ⟨S_, .f32⟩
  | .hbm, ⟨66, _⟩ => ⟨S256x1024, .f32⟩
  | .hbm, ⟨67, _⟩ => ⟨S256x1024, .f32⟩
  | .hbm, ⟨68, _⟩ => ⟨S256x1024, .f32⟩
  | .hbm, ⟨69, _⟩ => ⟨S_, .f32⟩
  | .hbm, ⟨70, _⟩ => ⟨S256x1024, .f32⟩
  | .hbm, ⟨71, _⟩ => ⟨S256x1024, .f32⟩
  | .hbm, ⟨72, _⟩ => ⟨S256x1024, .f32⟩
  | .hbm, ⟨73, _⟩ => ⟨S_, .f32⟩
  | .hbm, ⟨74, _⟩ => ⟨S256x1024, .f32⟩
  | .hbm, ⟨75, _⟩ => ⟨S256x1024, .f32⟩
  | .hbm, ⟨76, _⟩ => ⟨S256x1024, .f32⟩
  | .hbm, ⟨77, _⟩ => ⟨S_, .f32⟩
  | .hbm, ⟨78, _⟩ => ⟨S256x1024, .f32⟩
  | .hbm, ⟨79, _⟩ => ⟨S256x1024, .f32⟩
  | _, _ => ⟨S1x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_14 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_15 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_16 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== Proof.Body.lean ====
module

public import proofs.«01_k».proof.Proof.Gen.KernelIdeal.Loops
public import proofs.«01_k».proof.Proof.Gen.KernelIdeal.Frame
public import proofs.«01_k».proof.Proof.Gen.KernelIdeal.Skeleton
public import Idealize.ShloMosaic.Lib.Tactic
public import Idealize.ShloMosaic.PureOps.BitExact

@[expose] public section

set_option maxRecDepth 16384

noncomputable section

namespace Cert.Proof.Conv

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-- The kernel's body run once, at any operands held whole: it leaves the four input blocks as they were, the four
    output blocks at contents `Y` the run finds, and the six scratch buffers at some contents. -/
def bodyRun (c : Dev nD) (i : grid0.Coords) (arg1 : Memref sig .tc .vmem S5x2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S1x64x256 .f32) (harg4 : arg4.IsWhole) (arg5 : Memref sig .tc .vmem S5x2176x128 .bf16) (harg5 : arg5.IsWhole) (arg6 : Memref sig .tc .vmem S3x128 .f32) (harg6 : arg6.IsWhole) (arg7 : Memref sig .tc .vmem S31x128 .f32) (harg7 : arg7.IsWhole) (arg8 : Memref sig .tc .vmem S1x128 .f32) (harg8 : arg8.IsWhole) (arg9 : Memref sig .tc .vmem S2128x128 .f32) (harg9 : arg9.IsWhole) (arg10 : Memref sig .tc .vmem S2128x128 .f32) (harg10 : arg10.IsWhole) (arg11 : Memref sig .tc .vmem S2128x128 .f32) (harg11 : arg11.IsWhole) (arg12 : Memref sig .tc .vmem S248x128 .f32) (harg12 : arg12.IsWhole) (arg13 : Memref sig .tc .vmem S7x2128x128 .f32) (harg13 : arg13.IsWhole) (arg14 : Memref sig .tc .vmem S7x2128x128 .f32) (harg14 : arg14.IsWhole) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    { Y : BufTy.Contents (Elt F) arg5.view.ty × BufTy.Contents (Elt F) arg6.view.ty × BufTy.Contents (Elt F) arg7.view.ty × BufTy.Contents (Elt F) arg8.view.ty //
      ∀ (E : Set ℕ) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} Y.1) ∗ (arg6.view.loc (c : Thread nD τ) ↦[arg6.view.set]{fullShare} Y.2.1) ∗ (arg7.view.loc (c : Thread nD τ) ↦[arg7.view.set]{fullShare} Y.2.2.1) ∗ (arg8.view.loc (c : Thread nD τ) ↦[arg8.view.set]{fullShare} Y.2.2.2) ∗ (∃ g : BufTy.Contents (Elt F) arg9.view.ty, (arg9.view.loc (c : Thread nD τ) ↦[arg9.view.set]{fullShare} g)) ∗ (∃ g : BufTy.Contents (Elt F) arg10.view.ty, (arg10.view.loc (c : Thread nD τ) ↦[arg10.view.set]{fullShare} g)) ∗ (∃ g : BufTy.Contents (Elt F) arg11.view.ty, (arg11.view.loc (c : Thread nD τ) ↦[arg11.view.set]{fullShare} g)) ∗ (∃ g : BufTy.Contents (Elt F) arg12.view.ty, (arg12.view.loc (c : Thread nD τ) ↦[arg12.view.set]{fullShare} g)) ∗ (∃ g : BufTy.Contents (Elt F) arg13.view.ty, (arg13.view.loc (c : Thread nD τ) ↦[arg13.view.set]{fullShare} g)) ∗ (∃ g : BufTy.Contents (Elt F) arg14.view.ty, (arg14.view.loc (c : Thread nD τ) ↦[arg14.view.set]{fullShare} g))) -∗ K ⟨⟩))
          ⊢ wp frame (wpE (defs₀ (F := F)) 𝒱₀ (c : Thread nD τ) none) E (cc0_mix_conv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_, ?_, ?_), fun E K => ?run⟩
  case run =>
    iintro ⟨H1, H2, H3, H4, H5, H6, H7, H8, H9, H10, H11, H12, H13, H14, HK⟩
    sl_unfold [cc0_mix_conv_bwd]
    sl_exec
    sl_step
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Proof.Conv

end
-- ==== Proof.Sem.lean ====
module

public import proofs.«01_k».proof.Proof.Gen.KernelIdeal.Skeleton
public import Idealize.ShloMosaic.Lib.PointwiseCore
public import Idealize.ShloMosaic.Lib.WritesUnit
public import Idealize.ShloMosaic.Lib.VecWindow
public import Idealize.ShloMosaic.Lib.Pipeline.Value

@[expose] public section

set_option maxRecDepth 16384

noncomputable section

namespace Cert.Proof.Conv

open Cert.KernelIdeal Cert.KernelIdeal.Gen
open Idealize.ShloMosaic Idealize.ShloMosaic.TcCoe

variable {F : FTy → Type} [FloatOps F]

/-- The zero word read as a float. -/
abbrev z32 : F .f32 := FloatOps.ofBits .f32 0x00000000#32

/-- A running sum from `z`: `((z + f 0) + f 1) + …`, `n` terms, in this order. -/
def lfold (z : F .f32) (f : ℕ → F .f32) : ℕ → F .f32
  | 0 => z
  | n + 1 => FloatOps.addf (lfold z f n) (f n)

/-- The sum of six terms, from the left. -/
def six (p : ℕ → F .f32) : F .f32 :=
  FloatOps.addf (FloatOps.addf (FloatOps.addf (FloatOps.addf (FloatOps.addf (p 0) (p 1)) (p 2)) (p 3)) (p 4)) (p 5)

/-- The one word read as a float. -/
abbrev one32 : F .f32 := FloatOps.ofBits .f32 0x3F800000#32

/-- A sequence as a buffer's row `r` holds it: 32 rows of zeros, the block's rows from 2048 on (16 leading positions), its
    rows from 0 on (2048 further positions), zeros. -/
def seqF (f : ℕ → Fin 128 → F .f32) (r : ℕ) (l : Fin 128) : F .f32 :=
  if r < 32 then z32 else if r < 48 then f (2048 + (r - 32)) l else if r < 2096 then f (r - 48) l else z32

/-- The buffer row that holds the block's row `r`. -/
def pos (r : ℕ) : ℕ := if r < 2048 then 48 + r else r - 2016

/-- Row `k` of the three gate-branch taps, by number. -/
def wrow3 (w : S3x128.Idx → F .f32) (k : ℕ) (l : Fin 128) : F .f32 := if h : k < 3 then w (ix2 ⟨k, h⟩ l) else z32

/-- Row `k` of the thirty-one convolution taps, by number. -/
def wrow31 (w : S31x128.Idx → F .f32) (k : ℕ) (l : Fin 128) : F .f32 := if h : k < 31 then w (ix2 ⟨k, h⟩ l) else z32

/-- Three taps of `s` from row `r` on, the first tap at the first row. -/
def fwd3 (w s : ℕ → Fin 128 → F .f32) (r : ℕ) (l : Fin 128) : F .f32 :=
  lfold z32 (fun k => FloatOps.mulf (w k l) (s (r + k) l)) 3

/-- `n + 1` taps of `d` from row `r` on, the first tap at the last row. -/
def bwd (n : ℕ) (w d : ℕ → Fin 128 → F .f32) (r : ℕ) (l : Fin 128) : F .f32 :=
  lfold z32 (fun k => FloatOps.mulf (w k l) (d (r + (n - k)) l)) (n + 1)

/-- The sum over the first `n` blocks of 48 rows of the product of row `32 + …` of `p` with row `o + …` of `q`, the rows of
    one residue `a` modulo 8. -/
def acc (p q : ℕ → Fin 128 → F .f32) (o n a : ℕ) (l : Fin 128) : F .f32 :=
  lfold z32 (fun k => six fun g => FloatOps.mulf (p (48 * k + 32 + (8 * g + a)) l) (q (48 * k + o + (8 * g + a)) l)) n

section Reads
variable {sig : RefSig} {κ : Kind} {sp : Space}

/-- Every row below `hi` of the buffer reads `s`. -/
def Rows (v : View sig κ sp S2128x128 .f32) (f : BufTy.Contents (Elt F) v.ty) (s : ℕ → Fin 128 → F .f32) (hi : ℕ) : Prop :=
  ∀ (r : ℕ) (h : r < 2128) (l : Fin 128), r < hi → v.read (Elt F) f (ix2 ⟨r, h⟩ l) = s r l

/-- Every row below 2120 of slab `q` of the buffer reads `s`. -/
def Slab (v : View sig κ sp S7x2128x128 .f32) (f : BufTy.Contents (Elt F) v.ty) (q : Fin 7) (s : ℕ → Fin 128 → F .f32) : Prop :=
  ∀ (r : ℕ) (h : r < 2128) (l : Fin 128), r < 2120 → v.read (Elt F) f (ix3 q ⟨r, h⟩ l) = s r l

/-- A load of rows `[o, o + h)` reads `s` there. -/
theorem Rows.ld {v : View sig κ sp S2128x128 .f32} {f : BufTy.Contents (Elt F) v.ty} {s : ℕ → Fin 128 → F .f32} {hi : ℕ}
    (H : Rows v f s hi) {off : Fin 2 → ℕ} {h : ℕ} (o : ℕ)
    (inb : ∀ a, off a + (![h, 128] : Fin 2 → ℕ) a ≤ S2128x128.size a) (hoff : off = ![o, 0]) (hh : o + h ≤ hi) (a : Fin h) (l : Fin 128) :
    v.readAt (Elt F) (Rect.unit (s := S2128x128) off ![h, 128] inb).toLoadRect f (ix2 a l) = s (o + a.val) l := by
  subst hoff
  have h0 := inb 0
  have h1 : o + h ≤ 2128 := h0
  refine Eq.trans ?_ (H (o + a.val) (by omega) l (by omega))
  refine congrArg (v.read (Elt F) f) (Shape.idx_ext₂ ?_ ?_)
  · show o + 1 * a.val = o + a.val; omega
  · show 0 + 1 * l.val = l.val; omega

/-- A load of rows `[o, o + h)` of slab `q` reads `s` there. -/
theorem Slab.ld {v : View sig κ sp S7x2128x128 .f32} {f : BufTy.Contents (Elt F) v.ty} {q : Fin 7} {s : ℕ → Fin 128 → F .f32}
    (H : Slab v f q s) {off : Fin 3 → ℕ} {h : ℕ} (o : ℕ)
    (inb : ∀ a, off a + (![1, h, 128] : Fin 3 → ℕ) a ≤ S7x2128x128.size a) (hoff : off = ![q.val, o, 0]) (hh : o + h ≤ 2120) (a : Fin h) (l : Fin 128) :
    v.readAt (Elt F) (Rect.unit (s := S7x2128x128) off ![1, h, 128] inb).toLoadRect f (ix3 0 a l) = s (o + a.val) l := by
  subst hoff
  refine Eq.trans ?_ (H (o + a.val) (by omega) l (by omega))
  refine congrArg (v.read (Elt F) f) (funext fun x => Fin.ext ?_)
  match x with
  | ⟨0, _⟩ => show q.val + 1 * 0 = q.val; omega
  | ⟨1, _⟩ => show o + 1 * a.val = o + a.val; omega
  | ⟨2, _⟩ => show 0 + 1 * l.val = l.val; omega

/-- A list of stores of `k` tiles of `h` whole rows, the first at row `o`, in order, tile `j` holding `val j`. -/
inductive Tiles {n : ℕ} (h o : ℕ) (val : ℕ → ℕ → Fin 128 → F .f32) : List (View.Piece (Elt F) (⟨2, ![n, 128]⟩ : Shape) .f32) → ℕ → Prop
  | nil : Tiles h o val [] 0
  | cons {L : List (View.Piece (Elt F) (⟨2, ![n, 128]⟩ : Shape) .f32)} {k : ℕ} (off : Fin 2 → ℕ)
      (inb : ∀ a, off a + (![h, 128] : Fin 2 → ℕ) a ≤ (⟨2, ![n, 128]⟩ : Shape).size a)
      (w : (⟨2, ![h, 128]⟩ : Shape).Idx → F .f32) (hL : Tiles h o val L k) (hoff : off = ![o + h * k, 0])
      (hw : ∀ (a : Fin h) (l : Fin 128), w (ix2 a l) = val k a.val l) :
      Tiles h o val (⟨Rect.unit (s := ⟨2, ![n, 128]⟩) off ![h, 128] inb, w⟩ :: L) (k + 1)

/-- Row `a` of tile `j` reads what the tile's store wrote. -/
theorem Tiles.read {n h o : ℕ} {val : ℕ → ℕ → Fin 128 → F .f32} {L : List (View.Piece (Elt F) (⟨2, ![n, 128]⟩ : Shape) .f32)} {k : ℕ}
    (T : Tiles h o val L k) (v : View sig κ sp (⟨2, ![n, 128]⟩ : Shape) .f32) (f : BufTy.Contents (Elt F) v.ty) (j : ℕ) (hj : j < k)
    (a : Fin h) (hr : o + h * j + a.val < n) (l : Fin 128) :
    v.read (Elt F) (v.writes (Elt F) f L) (ix2 ⟨o + h * j + a.val, hr⟩ l) = val j a.val l := by
  induction T with
  | nil => omega
  | @cons L k off inb w hL hoff hw ih =>
    by_cases hjk : j = k
    · subst hjk
      exact (View.read_writes_cons_rows_of_mem v f inb w L _ (ix2 a l) hoff rfl rfl).trans (hw a l)
    · have hlt : j < k := by omega
      refine (View.read_writes_cons_rows_of_not_mem v f inb w L _ hoff (W := h) rfl ?_).trans (ih hlt)
      left
      show o + h * j + a.val < o + h * k
      have : h * (j + 1) ≤ h * k := Nat.mul_le_mul_left h hlt
      have := a.isLt
      rw [Nat.mul_add, Nat.mul_one] at *
      omega

end Reads

end Cert.Proof.Conv

end
-- ==== Proof.Buffers.lean ====
module

public import proofs.«01_k».proof.Proof.Sem

@[expose] public section

set_option maxRecDepth 16384

noncomputable section

namespace Cert.Proof.Conv

open Cert.KernelIdeal Cert.KernelIdeal.Gen
open Idealize.ShloMosaic Idealize.ShloMosaic.TcCoe

variable {F : FTy → Type} [FloatOps F] {sig : RefSig} {κ : Kind} {sp : Space}

/-- Row `r` of plane `p` of a five-plane block, by numbers. -/
def pl (h : S5x2176x128.Idx → F .f32) (p r : ℕ) (l : Fin 128) : F .f32 :=
  if hr : p < 5 ∧ r < 2176 then h (ix3 ⟨p, hr.1⟩ ⟨r, hr.2⟩ l) else z32

/-- Row `r` of a block, by number. -/
def rw2 (d : S2176x128.Idx → F .f32) (r : ℕ) (l : Fin 128) : F .f32 :=
  if hr : r < 2176 then d (ix2 ⟨r, hr⟩ l) else z32

/-- A load of the first 2048 rows of a plane. -/
theorem ldX (v : View sig κ sp S5x2176x128 .f32) (f : BufTy.Contents (Elt F) v.ty) (p : ℕ)
    (inb : ∀ a, (![p, 0, 0] : Fin 3 → ℕ) a + S1x2048x128.size a ≤ S5x2176x128.size a) (a : Fin 2048) (l : Fin 128) :
    v.readAt (Elt F) (Rect.unit (s := S5x2176x128) ![p, 0, 0] S1x2048x128.size inb).toLoadRect f (ix3 0 a l) = pl (v.read (Elt F) f) p a.val l := by
  have hp : p + 1 ≤ 5 := inb 0
  have hr : p < 5 ∧ a.val < 2176 := ⟨by omega, by omega⟩
  rw [pl, dif_pos hr]
  refine congrArg (v.read (Elt F) f) (funext fun x => Fin.ext ?_)
  match x with
  | ⟨0, _⟩ => show p + 1 * 0 = p; omega
  | ⟨1, _⟩ => show 0 + 1 * a.val = a.val; omega
  | ⟨2, _⟩ => show 0 + 1 * l.val = l.val; omega

/-- A load of the sixteen rows of a plane from row 2048 on. -/
theorem ldM (v : View sig κ sp S5x2176x128 .f32) (f : BufTy.Contents (Elt F) v.ty) (p : ℕ)
    (inb : ∀ a, (![p, 2048, 0] : Fin 3 → ℕ) a + S1x16x128.size a ≤ S5x2176x128.size a) (a : Fin 16) (l : Fin 128) :
    v.readAt (Elt F) (Rect.unit (s := S5x2176x128) ![p, 2048, 0] S1x16x128.size inb).toLoadRect f (ix3 0 a l) = pl (v.read (Elt F) f) p (2048 + a.val) l := by
  have hp : p + 1 ≤ 5 := inb 0
  have hr : p < 5 ∧ 2048 + a.val < 2176 := ⟨by omega, by omega⟩
  rw [pl, dif_pos hr]
  refine congrArg (v.read (Elt F) f) (funext fun x => Fin.ext ?_)
  match x with
  | ⟨0, _⟩ => show p + 1 * 0 = p; omega
  | ⟨1, _⟩ => show 2048 + 1 * a.val = 2048 + a.val; omega
  | ⟨2, _⟩ => show 0 + 1 * l.val = l.val; omega

/-- A load of the first 2048 rows. -/
theorem ldX2 (v : View sig κ sp S2176x128 .f32) (f : BufTy.Contents (Elt F) v.ty)
    (inb : ∀ a, (![0, 0] : Fin 2 → ℕ) a + S2048x128.size a ≤ S2176x128.size a) (a : Fin 2048) (l : Fin 128) :
    v.readAt (Elt F) (Rect.unit (s := S2176x128) ![0, 0] S2048x128.size inb).toLoadRect f (ix2 a l) = rw2 (v.read (Elt F) f) a.val l := by
  rw [rw2, dif_pos (by omega : a.val < 2176)]
  refine congrArg (v.read (Elt F) f) (Shape.idx_ext₂ ?_ ?_)
  · show 0 + 1 * a.val = a.val; omega
  · show 0 + 1 * l.val = l.val; omega

/-- A load of the sixteen rows from row 2048 on. -/
theorem ldM2 (v : View sig κ sp S2176x128 .f32) (f : BufTy.Contents (Elt F) v.ty)
    (inb : ∀ a, (![2048, 0] : Fin 2 → ℕ) a + S16x128.size a ≤ S2176x128.size a) (a : Fin 16) (l : Fin 128) :
    v.readAt (Elt F) (Rect.unit (s := S2176x128) ![2048, 0] S16x128.size inb).toLoadRect f (ix2 a l) = rw2 (v.read (Elt F) f) (2048 + a.val) l := by
  rw [rw2, dif_pos (by omega : 2048 + a.val < 2176)]
  refine congrArg (v.read (Elt F) f) (Shape.idx_ext₂ ?_ ?_)
  · show 2048 + 1 * a.val = 2048 + a.val; omega
  · show 0 + 1 * l.val = l.val; omega

/-- The rows of a sequence buffer outside `[32, 2096)` read zero. -/
def ZeroOut (v : View sig κ sp S2128x128 .f32) (f : BufTy.Contents (Elt F) v.ty) : Prop :=
  ∀ (r : ℕ) (h : r < 2128) (l : Fin 128), r < 32 ∨ 2096 ≤ r → v.read (Elt F) f (ix2 ⟨r, h⟩ l) = z32

/-- The two stores of zeros before row 32 and from row 2096 on. -/
theorem zeroOut_of (v : View sig κ sp S2128x128 .f32) (f : BufTy.Contents (Elt F) v.ty) (x y : S32x128.Idx → F .f32)
    (hx : ∀ i, x i = z32) (hy : ∀ i, y i = z32)
    (inb : ∀ a, (![2096, 0] : Fin 2 → ℕ) a + S32x128.size a ≤ S2128x128.size a) (inb' : ∀ a, (![0, 0] : Fin 2 → ℕ) a + S32x128.size a ≤ S2128x128.size a) :
    ZeroOut v (v.writes (Elt F) f [⟨Rect.unit (s := S2128x128) ![2096, 0] S32x128.size inb, x⟩, ⟨Rect.unit (s := S2128x128) ![0, 0] S32x128.size inb', y⟩]) := by
  intro r h l hr
  rcases Nat.lt_or_ge r 32 with h1 | h1
  · refine (View.read_writes_cons_rows_of_not_mem v f inb x _ _ rfl (W := 32) rfl (Or.inl (by show r < 2096; omega))).trans ?_
    exact (View.read_writes_cons_rows_of_mem v f inb' y _ _ (ix2 ⟨r, h1⟩ l) (o := 0) rfl (Nat.zero_add _).symm rfl).trans (hy _)
  · refine (View.read_writes_cons_rows_of_mem v f inb x _ _ (ix2 ⟨r - 2096, by omega⟩ l) (o := 2096) rfl ?_ rfl).trans (hx _)
    show r = 2096 + (r - 2096); omega

/-- The two stores of a sequence's rows over a buffer that is zero elsewhere. -/
theorem rows_put (v : View sig κ sp S2128x128 .f32) (f : BufTy.Contents (Elt F) v.ty) (L : List (View.Piece (Elt F) S2128x128 .f32))
    (g : ℕ → Fin 128 → F .f32) (x : S2048x128.Idx → F .f32) (m : S16x128.Idx → F .f32)
    (hx : ∀ (a : Fin 2048) l, x (ix2 a l) = g a.val l) (hm : ∀ (a : Fin 16) l, m (ix2 a l) = g (2048 + a.val) l)
    (inb : ∀ a, (![48, 0] : Fin 2 → ℕ) a + S2048x128.size a ≤ S2128x128.size a) (inb' : ∀ a, (![32, 0] : Fin 2 → ℕ) a + S16x128.size a ≤ S2128x128.size a)
    (H : ZeroOut v (v.writes (Elt F) f L)) :
    Rows v (v.writes (Elt F) f (⟨Rect.unit (s := S2128x128) ![48, 0] S2048x128.size inb, x⟩ :: ⟨Rect.unit (s := S2128x128) ![32, 0] S16x128.size inb', m⟩ :: L)) (seqF g) 2128 := by
  intro r h l _
  unfold seqF
  by_cases h48 : 48 ≤ r ∧ r < 2096
  · rw [if_neg (by omega), if_neg (by omega), if_pos (by omega)]
    refine (View.read_writes_cons_rows_of_mem v f inb x _ _ (ix2 ⟨r - 48, by omega⟩ l) (o := 48) rfl ?_ rfl).trans (hx _ _)
    show r = 48 + (r - 48); omega
  · refine (View.read_writes_cons_rows_of_not_mem v f inb x _ _ rfl (W := 2048) rfl (by show r < 48 ∨ 48 + 2048 ≤ r; omega)).trans ?_
    by_cases h32 : 32 ≤ r ∧ r < 48
    · rw [if_neg (by omega), if_pos (by omega)]
      refine (View.read_writes_cons_rows_of_mem v f inb' m _ _ (ix2 ⟨r - 32, by omega⟩ l) (o := 32) rfl ?_ rfl).trans (hm _ _)
      show r = 32 + (r - 32); omega
    · refine (View.read_writes_cons_rows_of_not_mem v f inb' m _ _ rfl (W := 16) rfl (by show r < 32 ∨ 32 + 16 ≤ r; omega)).trans ?_
      rw [H r h l (by omega)]
      split
      · rfl
      · rw [if_neg (by omega), if_neg (by omega)]

/-- A sequence buffer is zero outside the sequence's rows. -/
theorem Rows.zeroOut {v : View sig κ sp S2128x128 .f32} {f : BufTy.Contents (Elt F) v.ty} {g : ℕ → Fin 128 → F .f32}
    (H : Rows v f (seqF g) 2128) : ZeroOut v f := by
  intro r h l hr
  rw [H r h l h]
  unfold seqF
  rcases hr with hr | hr
  · rw [if_pos hr]
  · rw [if_neg (by omega), if_neg (by omega), if_neg (by omega)]

/-- The newest store fills slab `q`. -/
theorem Slab.hit (v : View sig κ sp S7x2128x128 .f32) (f : BufTy.Contents (Elt F) v.ty) (L : List (View.Piece (Elt F) S7x2128x128 .f32))
    (q : Fin 7) (s : ℕ → Fin 128 → F .f32) (w : S1x2120x128.Idx → F .f32) (hw : ∀ (a : Fin 2120) l, w (ix3 0 a l) = s a.val l) {off : Fin 3 → ℕ}
    (inb : ∀ a, off a + S1x2120x128.size a ≤ S7x2128x128.size a) (hoff : off = ![q.val, 0, 0]) :
    Slab v (v.writes (Elt F) f (⟨Rect.unit (s := S7x2128x128) off S1x2120x128.size inb, w⟩ :: L)) q s := by
  intro r h l hr
  refine (View.read_writes_cons_unit_of_mem v f inb w L _ (ix3 0 ⟨r, hr⟩ l) hoff (fun a => ?_)).trans (hw _ _)
  match a with
  | ⟨0, _⟩ => rfl
  | ⟨1, _⟩ => exact (Nat.zero_add _).symm
  | ⟨2, _⟩ => exact (Nat.zero_add _).symm

/-- A store into another slab leaves slab `q`. -/
theorem Slab.skip {v : View sig κ sp S7x2128x128 .f32} {f : BufTy.Contents (Elt F) v.ty} {L : List (View.Piece (Elt F) S7x2128x128 .f32)}
    {q : Fin 7} {s : ℕ → Fin 128 → F .f32} (H : Slab v (v.writes (Elt F) f L) q s) (w : S1x2120x128.Idx → F .f32) {off : Fin 3 → ℕ} (q' : ℕ) (hq : q.val ≠ q')
    (inb : ∀ a, off a + S1x2120x128.size a ≤ S7x2128x128.size a) (hoff : off = ![q', 0, 0]) :
    Slab v (v.writes (Elt F) f (⟨Rect.unit (s := S7x2128x128) off S1x2120x128.size inb, w⟩ :: L)) q s := by
  intro r h l hr
  refine (View.read_writes_cons_unit_of_not_mem v f inb w L _ hoff (0 : Fin 3) ?_).trans (H r h l hr)
  show q.val < q' ∨ q' + 1 ≤ q.val
  omega

/-- A shape cast that adds a leading unit axis. -/
theorem slabCast (x : S2120x128.Idx → F .f32) (h : S2120x128.ShapeCasts S1x2120x128) (a : Fin 2120) (l : Fin 128) :
    shapeCast S1x2120x128 x h (ix3 0 a l) = x (ix2 a l) := by
  pointwise

end Cert.Proof.Conv

end
-- ==== Proof.Loops.lean ====
module

public import proofs.«01_k».proof.Proof.Gen.KernelIdeal.Loops
public import proofs.«01_k».proof.Proof.Gen.KernelIdeal.Frame
public import proofs.«01_k».proof.Proof.Gen.KernelIdeal.Skeleton
public import Idealize.ShloMosaic.Lib.Tactic
public import Idealize.ShloMosaic.PureOps.BitExact
public import proofs.«01_k».proof.Proof.Sem

@[expose] public section

set_option maxRecDepth 16384

noncomputable section

namespace Cert.Proof.Conv

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- Three taps of the forward branch at the rows one trip writes. -/
theorem pay81_apply (w : FVec F S3x128 .f32) (x y : Vec F S1x48x128 .f32) (u : Vec F S48x128 .f32) (s : ℕ → Fin 128 → F .f32) (o : ℕ)
    (hx : ∀ (a : Fin 48) l, x (ix3 0 a l) = s (o + a.val) l) (hy : ∀ (a : Fin 48) l, y (ix3 0 a l) = s (o + a.val + 1) l)
    (hu : ∀ (a : Fin 48) l, u (ix2 a l) = s (o + a.val + 2) l) (a : Fin 48) (l : Fin 128) :
    k0_pay81 w x y u (ix2 a l) = fwd3 (wrow3 w) s (o + a.val) l := by
  pointwise [k0_pay81]
  simp only [hx, hy, hu]
  rfl

/-- Three taps of the reversed branch at the rows one trip writes. -/
theorem pay96_apply (w : FVec F S3x128 .f32) (x y : Vec F S1x48x128 .f32) (u : Vec F S48x128 .f32) (s : ℕ → Fin 128 → F .f32) (o : ℕ)
    (hx : ∀ (a : Fin 48) l, x (ix3 0 a l) = s (o + a.val + 2) l) (hy : ∀ (a : Fin 48) l, y (ix3 0 a l) = s (o + a.val + 1) l)
    (hu : ∀ (a : Fin 48) l, u (ix2 a l) = s (o + a.val) l) (a : Fin 48) (l : Fin 128) :
    k0_pay96 w x y u (ix2 a l) = bwd 2 (wrow3 w) s (o + a.val) l := by
  pointwise [k0_pay96]
  simp only [hx, hy, hu]
  rfl

section
variable (𝒱 : Variants) (c : Dev nD) (bd : Option 𝒱.V) (i : grid0.Coords) (arg1 : Memref sig .tc .vmem S5x2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S1x64x256 .f32) (harg4 : arg4.IsWhole) (arg5 : Memref sig .tc .vmem S5x2176x128 .bf16) (harg5 : arg5.IsWhole) (arg6 : Memref sig .tc .vmem S3x128 .f32) (harg6 : arg6.IsWhole) (arg7 : Memref sig .tc .vmem S31x128 .f32) (harg7 : arg7.IsWhole) (arg8 : Memref sig .tc .vmem S1x128 .f32) (harg8 : arg8.IsWhole) (arg9 : Memref sig .tc .vmem S2128x128 .f32) (harg9 : arg9.IsWhole) (arg10 : Memref sig .tc .vmem S2128x128 .f32) (harg10 : arg10.IsWhole) (arg11 : Memref sig .tc .vmem S2128x128 .f32) (harg11 : arg11.IsWhole) (arg12 : Memref sig .tc .vmem S248x128 .f32) (harg12 : arg12.IsWhole) (arg13 : Memref sig .tc .vmem S7x2128x128 .f32) (harg13 : arg13.IsWhole) (arg14 : Memref sig .tc .vmem S7x2128x128 .f32) (harg14 : arg14.IsWhole)

/-- The trips of the first loop store the forward three-tap rows, 48 rows a trip from row 32 on. -/
theorem t1_tiles (v1 : FVec F S3x128 .f32) (v22 : FVec F S2048x128 .f32) (v24 v26 : FVec F S16x128 .f32)
    (X9 : BufTy.Contents (Elt F) arg9.view.ty) (X13 : BufTy.Contents (Elt F) arg13.view.ty) (s : ℕ → Fin 128 → F .f32)
    (H9 : Rows arg9.view X9 s 2128) (H5 : Slab arg13.view X13 5 fun r => s (r + 6)) (H6 : Slab arg13.view X13 6 fun r => s (r + 7))
    (n : ℕ) (hn : n ≤ 43) :
    Tiles 48 32 (fun j a => fwd3 (wrow3 v1) s (48 * j + 30 + a)) (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 v22 v24 v26 X9 X13 n) n := by
  induction n with
  | zero => exact .nil
  | succ k ih =>
    have hk : k < 43 := hn
    rw [show k + 1 = (⟨k, hk⟩ : Fin k0_t1_loop.trips).val + 1 from rfl, pb_k0_t1_succ]
    unfold tripL_k0_t1 trip_k0_t1
    dsimp only
    refine Tiles.cons _ _ _ (ih (by omega)) ?_ ?_
    · rw [k0_off4_eq]; exact congrArg (fun z => ![z, 0]) (Nat.add_comm _ _)
    · refine pay81_apply _ _ _ _ s (48 * k + 30) (fun a l => ?_) (fun a l => ?_) (fun a l => ?_)
      · exact (H5.ld (48 * k + 24) _ (k0_off1_eq _) (by omega) a l).trans (congrArg (fun r => s r l) (by omega))
      · exact (H6.ld (48 * k + 24) _ (k0_off2_eq _) (by omega) a l).trans (congrArg (fun r => s r l) (by omega))
      · exact (H9.ld (48 * k + 32) _ (k0_off3_eq _) (by omega) a l).trans (congrArg (fun r => s r l) (by omega))

/-- The trips of the third loop store the reversed three-tap rows. -/
theorem t3_tiles (v1 : FVec F S3x128 .f32) (c0 c1 : BitVec 32)
    (X10 : BufTy.Contents (Elt F) arg10.view.ty) (X14 : BufTy.Contents (Elt F) arg14.view.ty) (d : ℕ → Fin 128 → F .f32)
    (H10 : Rows arg10.view X10 d 2128) (H0 : Slab arg14.view X14 0 fun r => d (r + 1)) (H1 : Slab arg14.view X14 1 fun r => d (r + 2))
    (n : ℕ) (hn : n ≤ 43) :
    Tiles 48 32 (fun j a => bwd 2 (wrow3 v1) d (48 * j + 32 + a)) (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 c0 c1 X10 X14 n) n := by
  induction n with
  | zero => exact .nil
  | succ k ih =>
    have hk : k < 43 := hn
    rw [show k + 1 = (⟨k, hk⟩ : Fin k0_t3_loop.trips).val + 1 from rfl, pb_k0_t3_succ]
    unfold tripL_k0_t3 trip_k0_t3
    dsimp only
    refine Tiles.cons _ _ _ (ih (by omega)) ?_ ?_
    · rw [k0_off12_eq]; exact congrArg (fun z => ![z, 0]) (Nat.add_comm _ _)
    · refine pay96_apply _ _ _ _ d (48 * k + 32) (fun a l => ?_) (fun a l => ?_) (fun a l => ?_)
      · exact (H1.ld (48 * k + 32) _ (k0_off9_eq _) (by omega) a l).trans (congrArg (fun r => d r l) (by omega))
      · exact (H0.ld (48 * k + 32) _ (k0_off10_eq _) (by omega) a l).trans (congrArg (fun r => d r l) (by omega))
      · exact (H10.ld (48 * k + 32) _ (k0_off11_eq _) (by omega) a l).trans (congrArg (fun r => d r l) (by omega))

/-- A load of rows `[o, o + 8)` of the accumulator reads its rows there. -/
theorem ldAcc {sig : RefSig} {κ : Kind} {sp : Space} (v : View sig κ sp S248x128 .f32) (f : BufTy.Contents (Elt F) v.ty) {off : Fin 2 → ℕ} (o : ℕ)
    (inb : ∀ a, off a + S8x128.size a ≤ S248x128.size a) (hoff : off = ![o, 0]) (a : Fin 8) (l : Fin 128) (hr : o + a.val < 248) :
    v.readAt (Elt F) (Rect.unit (s := S248x128) off S8x128.size inb).toLoadRect f (ix2 a l) = v.read (Elt F) f (ix2 ⟨o + a.val, hr⟩ l) := by
  subst hoff
  refine congrArg (v.read (Elt F) f) (Shape.idx_ext₂ ?_ ?_)
  · show o + 1 * a.val = o + a.val; omega
  · show 0 + 1 * l.val = l.val; omega

/-- The block's six products of one residue added to the accumulator's row, the second factor a loaded slab. -/
theorem pay4_apply (x : Vec F S48x128 .f32) (y : Vec F S1x48x128 .f32) (u : Vec F S8x128 .f32) (p q : ℕ → Fin 128 → F .f32) (o o' : ℕ) (V : ℕ → Fin 128 → F .f32)
    (hx : ∀ (a : Fin 48) l, x (ix2 a l) = p (o + a.val) l) (hy : ∀ (a : Fin 48) l, y (ix3 0 a l) = q (o' + a.val) l)
    (hu : ∀ (a : Fin 8) l, u (ix2 a l) = V a.val l) (a : Fin 8) (l : Fin 128) :
    k0_pay4 x y u (ix2 a l) = FloatOps.addf (V a.val l) (six fun g => FloatOps.mulf (p (o + (8 * g + a.val)) l) (q (o' + (8 * g + a.val)) l)) := by
  pointwise [k0_pay4]
  simp only [hx, hy, hu, six, Nat.mul_zero, Nat.zero_add, Nat.reduceMul]

/-- The same with the second factor the buffer's own rows. -/
theorem pay90_apply (x : Vec F S48x128 .f32) (y : Vec F S48x128 .f32) (u : Vec F S8x128 .f32) (p q : ℕ → Fin 128 → F .f32) (o o' : ℕ) (V : ℕ → Fin 128 → F .f32)
    (hx : ∀ (a : Fin 48) l, x (ix2 a l) = p (o + a.val) l) (hy : ∀ (a : Fin 48) l, y (ix2 a l) = q (o' + a.val) l)
    (hu : ∀ (a : Fin 8) l, u (ix2 a l) = V a.val l) (a : Fin 8) (l : Fin 128) :
    k0_pay90 x y u (ix2 a l) = FloatOps.addf (V a.val l) (six fun g => FloatOps.mulf (p (o + (8 * g + a.val)) l) (q (o' + (8 * g + a.val)) l)) := by
  pointwise [k0_pay90]
  simp only [hx, hy, hu, six, Nat.mul_zero, Nat.zero_add, Nat.reduceMul]

/-- One trip of the second loop adds, tap by tap, its block's products to the accumulator's rows. -/
theorem t2_tiles (v1 : FVec F S3x128 .f32) (c0 c1 : BitVec 32)
    (X9 : BufTy.Contents (Elt F) arg9.view.ty) (X10 : BufTy.Contents (Elt F) arg10.view.ty) (X13 : BufTy.Contents (Elt F) arg13.view.ty)
    (s d : ℕ → Fin 128 → F .f32) (H9 : Rows arg9.view X9 s 2128) (H10 : Rows arg10.view X10 d 2128)
    (H5 : Slab arg13.view X13 5 fun r => s (r + 6)) (H6 : Slab arg13.view X13 6 fun r => s (r + 7))
    (k : Fin k0_t2_loop.trips) (f : BufTy.Contents (Elt F) arg12.view.ty) (V : ℕ → ℕ → Fin 128 → F .f32)
    (hf : ∀ (j : ℕ) (a : Fin 8) (l : Fin 128) (hr : 8 * j + a.val < 248), j < 3 → arg12.view.read (Elt F) f (ix2 ⟨8 * j + a.val, hr⟩ l) = V j a.val l) :
    Tiles 8 0 (fun j a l => FloatOps.addf (V j a l) (six fun g => FloatOps.mulf (d (48 * k.val + 32 + (8 * g + a)) l) (s (48 * k.val + (30 + j) + (8 * g + a)) l)))
      (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 c0 c1 X9 X10 X13 k f) 3 := by
  have hk : k.val < 43 := k.isLt
  have L10 := H10.ld (48 * k.val + 32) (k0_off5_inb k) (k0_off5_eq k) (by omega)
  have L0 : ∀ (a : Fin 48) l, arg13.view.readAt (Elt F) (Rect.unit (s := S7x2128x128) (k0_off6 k) S1x48x128.size (k0_off6_inb k)).toLoadRect X13 (ix3 0 a l) = s (48 * k.val + (30 + 0) + a.val) l :=
    fun a l => (H5.ld (48 * k.val + 24) (k0_off6_inb k) (k0_off6_eq k) (by omega) a l).trans (congrArg (fun r => s r l) (by omega))
  have L1 : ∀ (a : Fin 48) l, arg13.view.readAt (Elt F) (Rect.unit (s := S7x2128x128) (k0_off7 k) S1x48x128.size (k0_off7_inb k)).toLoadRect X13 (ix3 0 a l) = s (48 * k.val + (30 + 1) + a.val) l :=
    fun a l => (H6.ld (48 * k.val + 24) (k0_off7_inb k) (k0_off7_eq k) (by omega) a l).trans (congrArg (fun r => s r l) (by omega))
  have L2 : ∀ (a : Fin 48) l, arg9.view.readAt (Elt F) (Rect.unit (s := S2128x128) (k0_off8 k) S48x128.size (k0_off8_inb k)).toLoadRect X9 (ix2 a l) = s (48 * k.val + (30 + 2) + a.val) l :=
    fun a l => (H9.ld (48 * k.val + 32) (k0_off8_inb k) (k0_off8_eq k) (by omega) a l)
  unfold tripL_k0_t2 trip_k0_t2
  dsimp only
  refine Tiles.cons _ _ _ (Tiles.cons _ _ _ (Tiles.cons _ _ _ .nil rfl ?_) rfl ?_) rfl ?_
  · exact pay4_apply _ _ _ d s _ _ (V 0) L10 L0 (fun a l => (ldAcc _ _ (8 * 0) _ rfl a l _).trans (hf 0 a l (by omega) (by omega)))
  · exact pay4_apply _ _ _ d s _ _ (V 1) L10 L1 (fun a l => (ldAcc _ _ (8 * 1) _ rfl a l _).trans (hf 1 a l (by omega) (by omega)))
  · exact pay90_apply _ _ _ d s _ _ (V 2) L10 L2 (fun a l => (ldAcc _ _ (8 * 2) _ rfl a l _).trans (hf 2 a l (by omega) (by omega)))

/-- After `n` trips of the second loop the accumulator's row `8 j + a` holds the sum over the first `n` blocks. -/
theorem t2_read (v1 : FVec F S3x128 .f32) (c0 c1 : BitVec 32)
    (X9 : BufTy.Contents (Elt F) arg9.view.ty) (X10 : BufTy.Contents (Elt F) arg10.view.ty) (X13 : BufTy.Contents (Elt F) arg13.view.ty)
    (s d : ℕ → Fin 128 → F .f32) (H9 : Rows arg9.view X9 s 2128) (H10 : Rows arg10.view X10 d 2128)
    (H5 : Slab arg13.view X13 5 fun r => s (r + 6)) (H6 : Slab arg13.view X13 6 fun r => s (r + 7))
    (G : BufTy.Contents (Elt F) arg12.view.ty) (hG : ∀ x, arg12.view.read (Elt F) G x = z32) (n : ℕ) (hn : n ≤ 43)
    (j : ℕ) (a : Fin 8) (l : Fin 128) (hr : 8 * j + a.val < 248) (hj : j < 3) :
    arg12.view.read (Elt F) (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 c0 c1 X9 X10 X13 G n)) (ix2 ⟨8 * j + a.val, hr⟩ l)
      = acc d s (30 + j) n a.val l := by
  induction n generalizing j a l with
  | zero => exact hG _
  | succ k ih =>
    have hk : k < 43 := hn
    rw [show k + 1 = (⟨k, hk⟩ : Fin k0_t2_loop.trips).val + 1 from rfl, pb_k0_t2_succ, View.writes_append]
    have T := t2_tiles 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 c0 c1 X9 X10 X13 s d H9 H10 H5 H6 ⟨k, hk⟩ _ (fun j a l => acc d s (30 + j) k a l)
      (fun j a l hr hj => ih (by omega) j a l hr hj)
    have R := T.read arg12.view (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v1 c0 c1 X9 X10 X13 G k)) j hj a (by omega) l
    simp only [Nat.zero_add] at R
    exact R

/-- One trip of the fourth loop adds, tap by tap, its block's products to the accumulator's rows. -/
theorem t4_tiles (v211 : Vec F S2120x128 .f32) (v212 : Vec F S1x2120x128 .f32)
    (X9 : BufTy.Contents (Elt F) arg9.view.ty) (X10 : BufTy.Contents (Elt F) arg10.view.ty) (X14 : BufTy.Contents (Elt F) arg14.view.ty)
    (s d : ℕ → Fin 128 → F .f32) (H9 : Rows arg9.view X9 s 2128) (H10 : Rows arg10.view X10 d 2128)
    (H0 : Slab arg14.view X14 0 fun r => d (r + 1)) (H1 : Slab arg14.view X14 1 fun r => d (r + 2)) (H2 : Slab arg14.view X14 2 fun r => d (r + 3)) (H3 : Slab arg14.view X14 3 fun r => d (r + 4)) (H4 : Slab arg14.view X14 4 fun r => d (r + 5)) (H5 : Slab arg14.view X14 5 fun r => d (r + 6)) (H6 : Slab arg14.view X14 6 fun r => d (r + 7))
    (k : Fin k0_t4_loop.trips) (f : BufTy.Contents (Elt F) arg12.view.ty) (V : ℕ → ℕ → Fin 128 → F .f32)
    (hf : ∀ (j : ℕ) (a : Fin 8) (l : Fin 128) (hr : 8 * j + a.val < 248), arg12.view.read (Elt F) f (ix2 ⟨8 * j + a.val, hr⟩ l) = V j a.val l) :
    Tiles 8 0 (fun j a l => FloatOps.addf (V j a l) (six fun g => FloatOps.mulf (s (48 * k.val + 32 + (8 * g + a)) l) (d (48 * k.val + (32 + (30 - j)) + (8 * g + a)) l)))
      (tripL_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v211 v212 X9 X10 X14 k f) 31 := by
  have hk : k.val < 43 := k.isLt
  have L9 := H9.ld (48 * k.val + 32) (k0_off13_inb k) (k0_off13_eq k) (by omega)
  have P5 (m : Fin 4) (b : BitVec 32) (hb : b = BitVec.ofNat 32 (8 * m.val)) (inb) (e : ℕ) (he : 8 * m.val + 38 = e) (a : Fin 48) (l) :
      arg14.view.readAt (Elt F) (Rect.unit (s := S7x2128x128) (k0_off14 k b) S1x48x128.size inb).toLoadRect X14 (ix3 0 a l) = d (48 * k.val + e + a.val) l := by
    subst hb
    exact (H5.ld (48 * k.val + 8 * m.val + 32) inb (k0_off14_eq k m) (by omega) a l).trans (congrArg (fun r => d r l) (by omega))
  have P4 (m : Fin 4) (b : BitVec 32) (hb : b = BitVec.ofNat 32 (8 * m.val)) (inb) (e : ℕ) (he : 8 * m.val + 37 = e) (a : Fin 48) (l) :
      arg14.view.readAt (Elt F) (Rect.unit (s := S7x2128x128) (k0_off15 k b) S1x48x128.size inb).toLoadRect X14 (ix3 0 a l) = d (48 * k.val + e + a.val) l := by
    subst hb
    exact (H4.ld (48 * k.val + 8 * m.val + 32) inb (k0_off15_eq k m) (by omega) a l).trans (congrArg (fun r => d r l) (by omega))
  have P3 (m : Fin 4) (b : BitVec 32) (hb : b = BitVec.ofNat 32 (8 * m.val)) (inb) (e : ℕ) (he : 8 * m.val + 36 = e) (a : Fin 48) (l) :
      arg14.view.readAt (Elt F) (Rect.unit (s := S7x2128x128) (k0_off16 k b) S1x48x128.size inb).toLoadRect X14 (ix3 0 a l) = d (48 * k.val + e + a.val) l := by
    subst hb
    exact (H3.ld (48 * k.val + 8 * m.val + 32) inb (k0_off16_eq k m) (by omega) a l).trans (congrArg (fun r => d r l) (by omega))
  have P2 (m : Fin 4) (b : BitVec 32) (hb : b = BitVec.ofNat 32 (8 * m.val)) (inb) (e : ℕ) (he : 8 * m.val + 35 = e) (a : Fin 48) (l) :
      arg14.view.readAt (Elt F) (Rect.unit (s := S7x2128x128) (k0_off17 k b) S1x48x128.size inb).toLoadRect X14 (ix3 0 a l) = d (48 * k.val + e + a.val) l := by
    subst hb
    exact (H2.ld (48 * k.val + 8 * m.val + 32) inb (k0_off17_eq k m) (by omega) a l).trans (congrArg (fun r => d r l) (by omega))
  have P1 (m : Fin 4) (b : BitVec 32) (hb : b = BitVec.ofNat 32 (8 * m.val)) (inb) (e : ℕ) (he : 8 * m.val + 34 = e) (a : Fin 48) (l) :
      arg14.view.readAt (Elt F) (Rect.unit (s := S7x2128x128) (k0_off18 k b) S1x48x128.size inb).toLoadRect X14 (ix3 0 a l) = d (48 * k.val + e + a.val) l := by
    subst hb
    exact (H1.ld (48 * k.val + 8 * m.val + 32) inb (k0_off18_eq k m) (by omega) a l).trans (congrArg (fun r => d r l) (by omega))
  have P0 (m : Fin 4) (b : BitVec 32) (hb : b = BitVec.ofNat 32 (8 * m.val)) (inb) (e : ℕ) (he : 8 * m.val + 33 = e) (a : Fin 48) (l) :
      arg14.view.readAt (Elt F) (Rect.unit (s := S7x2128x128) (k0_off19 k b) S1x48x128.size inb).toLoadRect X14 (ix3 0 a l) = d (48 * k.val + e + a.val) l := by
    subst hb
    exact (H0.ld (48 * k.val + 8 * m.val + 32) inb (k0_off19_eq k m) (by omega) a l).trans (congrArg (fun r => d r l) (by omega))
  have P10 (m : Fin 4) (b : BitVec 32) (hb : b = BitVec.ofNat 32 (8 * m.val)) (inb) (e : ℕ) (he : 8 * m.val + 32 = e) (a : Fin 48) (l) :
      arg10.view.readAt (Elt F) (Rect.unit (s := S2128x128) (k0_off20 k b) S48x128.size inb).toLoadRect X10 (ix2 a l) = d (48 * k.val + e + a.val) l := by
    subst hb
    exact (H10.ld (48 * k.val + 8 * m.val + 32) inb (k0_off20_eq k m) (by omega) a l).trans (congrArg (fun r => d r l) (by omega))
  have P6 (m : Fin 3) (b : BitVec 32) (hb : b = BitVec.ofNat 32 (8 * m.val)) (inb) (e : ℕ) (he : 8 * m.val + 39 = e) (a : Fin 48) (l) :
      arg14.view.readAt (Elt F) (Rect.unit (s := S7x2128x128) (k0_off21 k b) S1x48x128.size inb).toLoadRect X14 (ix3 0 a l) = d (48 * k.val + e + a.val) l := by
    subst hb
    exact (H6.ld (48 * k.val + 8 * m.val + 32) inb (k0_off21_eq k m) (by omega) a l).trans (congrArg (fun r => d r l) (by omega))
  have A (j : ℕ) (hj : j < 31) {off : Fin 2 → ℕ} (inb) (hoff : off = ![8 * j, 0]) (a : Fin 8) (l) :
      arg12.view.readAt (Elt F) (Rect.unit (s := S248x128) off S8x128.size inb).toLoadRect f (ix2 a l) = V j a.val l :=
    (ldAcc _ _ (8 * j) inb hoff a l (by omega)).trans (hf j a l (by omega))
  unfold tripL_k0_t4 trip_k0_t4
  dsimp only
  iterate 31 refine Tiles.cons _ _ _ ?_ rfl ?_
  · exact .nil
  · exact pay4_apply _ _ _ s d _ _ _ L9 (P5 3 _ rfl _ _ rfl) (A 0 (by omega) _ rfl)
  · exact pay4_apply _ _ _ s d _ _ _ L9 (P4 3 _ rfl _ _ rfl) (A 1 (by omega) _ rfl)
  · exact pay4_apply _ _ _ s d _ _ _ L9 (P3 3 _ rfl _ _ rfl) (A 2 (by omega) _ rfl)
  · exact pay4_apply _ _ _ s d _ _ _ L9 (P2 3 _ rfl _ _ rfl) (A 3 (by omega) _ rfl)
  · exact pay4_apply _ _ _ s d _ _ _ L9 (P1 3 _ rfl _ _ rfl) (A 4 (by omega) _ rfl)
  · exact pay4_apply _ _ _ s d _ _ _ L9 (P0 3 _ rfl _ _ rfl) (A 5 (by omega) _ rfl)
  · exact pay90_apply _ _ _ s d _ _ _ L9 (P10 3 _ rfl _ _ rfl) (A 6 (by omega) _ rfl)
  · exact pay4_apply _ _ _ s d _ _ _ L9 (P6 2 _ rfl _ _ rfl) (A 7 (by omega) _ rfl)
  · exact pay4_apply _ _ _ s d _ _ _ L9 (P5 2 _ rfl _ _ rfl) (A 8 (by omega) _ rfl)
  · exact pay4_apply _ _ _ s d _ _ _ L9 (P4 2 _ rfl _ _ rfl) (A 9 (by omega) _ rfl)
  · exact pay4_apply _ _ _ s d _ _ _ L9 (P3 2 _ rfl _ _ rfl) (A 10 (by omega) _ rfl)
  · exact pay4_apply _ _ _ s d _ _ _ L9 (P2 2 _ rfl _ _ rfl) (A 11 (by omega) _ rfl)
  · exact pay4_apply _ _ _ s d _ _ _ L9 (P1 2 _ rfl _ _ rfl) (A 12 (by omega) _ rfl)
  · exact pay4_apply _ _ _ s d _ _ _ L9 (P0 2 _ rfl _ _ rfl) (A 13 (by omega) _ rfl)
  · exact pay90_apply _ _ _ s d _ _ _ L9 (P10 2 _ rfl _ _ rfl) (A 14 (by omega) _ rfl)
  · exact pay4_apply _ _ _ s d _ _ _ L9 (P6 1 _ rfl _ _ rfl) (A 15 (by omega) _ rfl)
  · exact pay4_apply _ _ _ s d _ _ _ L9 (P5 1 _ rfl _ _ rfl) (A 16 (by omega) _ rfl)
  · exact pay4_apply _ _ _ s d _ _ _ L9 (P4 1 _ rfl _ _ rfl) (A 17 (by omega) _ rfl)
  · exact pay4_apply _ _ _ s d _ _ _ L9 (P3 1 _ rfl _ _ rfl) (A 18 (by omega) _ rfl)
  · exact pay4_apply _ _ _ s d _ _ _ L9 (P2 1 _ rfl _ _ rfl) (A 19 (by omega) _ rfl)
  · exact pay4_apply _ _ _ s d _ _ _ L9 (P1 1 _ rfl _ _ rfl) (A 20 (by omega) _ rfl)
  · exact pay4_apply _ _ _ s d _ _ _ L9 (P0 1 _ rfl _ _ rfl) (A 21 (by omega) _ rfl)
  · exact pay90_apply _ _ _ s d _ _ _ L9 (P10 1 _ rfl _ _ rfl) (A 22 (by omega) _ rfl)
  · exact pay4_apply _ _ _ s d _ _ _ L9 (P6 0 _ rfl _ _ rfl) (A 23 (by omega) _ rfl)
  · exact pay4_apply _ _ _ s d _ _ _ L9 (P5 0 _ rfl _ _ rfl) (A 24 (by omega) _ rfl)
  · exact pay4_apply _ _ _ s d _ _ _ L9 (P4 0 _ rfl _ _ rfl) (A 25 (by omega) _ rfl)
  · exact pay4_apply _ _ _ s d _ _ _ L9 (P3 0 _ rfl _ _ rfl) (A 26 (by omega) _ rfl)
  · exact pay4_apply _ _ _ s d _ _ _ L9 (P2 0 _ rfl _ _ rfl) (A 27 (by omega) _ rfl)
  · exact pay4_apply _ _ _ s d _ _ _ L9 (P1 0 _ rfl _ _ rfl) (A 28 (by omega) _ rfl)
  · exact pay4_apply _ _ _ s d _ _ _ L9 (P0 0 _ rfl _ _ rfl) (A 29 (by omega) _ rfl)
  · exact pay90_apply _ _ _ s d _ _ _ L9 (P10 0 _ rfl _ _ rfl) (A 30 (by omega) _ rfl)

/-- After `n` trips of the fourth loop the accumulator's row `8 j + a` holds the sum over the first `n` blocks. -/
theorem t4_read (v211 : Vec F S2120x128 .f32) (v212 : Vec F S1x2120x128 .f32)
    (X9 : BufTy.Contents (Elt F) arg9.view.ty) (X10 : BufTy.Contents (Elt F) arg10.view.ty) (X14 : BufTy.Contents (Elt F) arg14.view.ty)
    (s d : ℕ → Fin 128 → F .f32) (H9 : Rows arg9.view X9 s 2128) (H10 : Rows arg10.view X10 d 2128)
    (H0 : Slab arg14.view X14 0 fun r => d (r + 1)) (H1 : Slab arg14.view X14 1 fun r => d (r + 2)) (H2 : Slab arg14.view X14 2 fun r => d (r + 3)) (H3 : Slab arg14.view X14 3 fun r => d (r + 4)) (H4 : Slab arg14.view X14 4 fun r => d (r + 5)) (H5 : Slab arg14.view X14 5 fun r => d (r + 6)) (H6 : Slab arg14.view X14 6 fun r => d (r + 7))
    (G : BufTy.Contents (Elt F) arg12.view.ty) (hG : ∀ x, arg12.view.read (Elt F) G x = z32) (n : ℕ) (hn : n ≤ 43)
    (j : ℕ) (a : Fin 8) (l : Fin 128) (hr : 8 * j + a.val < 248) :
    arg12.view.read (Elt F) (arg12.view.writes (Elt F) G (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v211 v212 X9 X10 X14 G n)) (ix2 ⟨8 * j + a.val, hr⟩ l)
      = acc s d (32 + (30 - j)) n a.val l := by
  induction n generalizing j a l with
  | zero => exact hG _
  | succ k ih =>
    have hk : k < 43 := hn
    rw [show k + 1 = (⟨k, hk⟩ : Fin k0_t4_loop.trips).val + 1 from rfl, pb_k0_t4_succ, View.writes_append]
    have T := t4_tiles 𝒱 c bd i arg1 harg1 arg2 harg2 arg3 harg3 arg4 harg4 arg5 harg5 arg6 harg6 arg7 harg7 arg8 harg8 arg9 harg9 arg10 harg10 arg11 harg11 arg12 harg12 arg13 harg13 arg14 harg14 v211 v212 X9 X10 X14 s d H9 H10 H0 H1 H2 H3 H4 H5 H6 ⟨k, hk⟩ _ (fun j a l => acc s d (32 + (30 - j)) k a l)
      (fun j a l hr => ih (by omega) j a l hr)
    have R := T.read arg12.view (arg12.view.writes (Elt F) G (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v211 v212 X9 X10 X14 G k)) j (by omega) a (by omega) l
    simp only [Nat.zero_add] at R
    exact R

/-- The trips of the fifth loop store the rows of the reversed thirty-one tap convolution. -/
theorem t5_tiles (v3 : FVec F S31x128 .f32) (v332 : Vec F S8x128 .f32)
    (X10 : BufTy.Contents (Elt F) arg10.view.ty) (X14 : BufTy.Contents (Elt F) arg14.view.ty) (d : ℕ → Fin 128 → F .f32)
    (H10 : Rows arg10.view X10 d 2128)
    (H0 : Slab arg14.view X14 0 fun r => d (r + 1)) (H1 : Slab arg14.view X14 1 fun r => d (r + 2)) (H2 : Slab arg14.view X14 2 fun r => d (r + 3)) (H3 : Slab arg14.view X14 3 fun r => d (r + 4)) (H4 : Slab arg14.view X14 4 fun r => d (r + 5)) (H5 : Slab arg14.view X14 5 fun r => d (r + 6)) (H6 : Slab arg14.view X14 6 fun r => d (r + 7))
    (n : ℕ) (hn : n ≤ 43) :
    Tiles 48 32 (fun j a => bwd 30 (wrow31 v3) d (48 * j + 32 + a)) (pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v3 v332 X10 X14 n) n := by
  induction n with
  | zero => exact .nil
  | succ k ih =>
    have hk : k < 43 := hn
    obtain ⟨k, rfl⟩ : ∃ k' : Fin k0_t5_loop.trips, k'.val = k := ⟨⟨k, hk⟩, rfl⟩
    rw [pb_k0_t5_succ]
    have P5 (m : Fin 4) (b : BitVec 32) (hb : b = BitVec.ofNat 32 (8 * m.val)) (inb) (e : ℕ) (he : 8 * m.val + 6 = e) (a : Fin 48) (l) :
        arg14.view.readAt (Elt F) (Rect.unit (s := S7x2128x128) (k0_off22 k b) S1x48x128.size inb).toLoadRect X14 (ix3 0 a l) = d (48 * k.val + 32 + a.val + e) l := by
      subst hb
      exact (H5.ld (48 * k.val + 8 * m.val + 32) inb (k0_off22_eq k m) (by omega) a l).trans (congrArg (fun r => d r l) (by omega))
    have P4 (m : Fin 4) (b : BitVec 32) (hb : b = BitVec.ofNat 32 (8 * m.val)) (inb) (e : ℕ) (he : 8 * m.val + 5 = e) (a : Fin 48) (l) :
        arg14.view.readAt (Elt F) (Rect.unit (s := S7x2128x128) (k0_off23 k b) S1x48x128.size inb).toLoadRect X14 (ix3 0 a l) = d (48 * k.val + 32 + a.val + e) l := by
      subst hb
      exact (H4.ld (48 * k.val + 8 * m.val + 32) inb (k0_off23_eq k m) (by omega) a l).trans (congrArg (fun r => d r l) (by omega))
    have P3 (m : Fin 4) (b : BitVec 32) (hb : b = BitVec.ofNat 32 (8 * m.val)) (inb) (e : ℕ) (he : 8 * m.val + 4 = e) (a : Fin 48) (l) :
        arg14.view.readAt (Elt F) (Rect.unit (s := S7x2128x128) (k0_off24 k b) S1x48x128.size inb).toLoadRect X14 (ix3 0 a l) = d (48 * k.val + 32 + a.val + e) l := by
      subst hb
      exact (H3.ld (48 * k.val + 8 * m.val + 32) inb (k0_off24_eq k m) (by omega) a l).trans (congrArg (fun r => d r l) (by omega))
    have P2 (m : Fin 4) (b : BitVec 32) (hb : b = BitVec.ofNat 32 (8 * m.val)) (inb) (e : ℕ) (he : 8 * m.val + 3 = e) (a : Fin 48) (l) :
        arg14.view.readAt (Elt F) (Rect.unit (s := S7x2128x128) (k0_off25 k b) S1x48x128.size inb).toLoadRect X14 (ix3 0 a l) = d (48 * k.val + 32 + a.val + e) l := by
      subst hb
      exact (H2.ld (48 * k.val + 8 * m.val + 32) inb (k0_off25_eq k m) (by omega) a l).trans (congrArg (fun r => d r l) (by omega))
    have P1 (m : Fin 4) (b : BitVec 32) (hb : b = BitVec.ofNat 32 (8 * m.val)) (inb) (e : ℕ) (he : 8 * m.val + 2 = e) (a : Fin 48) (l) :
        arg14.view.readAt (Elt F) (Rect.unit (s := S7x2128x128) (k0_off26 k b) S1x48x128.size inb).toLoadRect X14 (ix3 0 a l) = d (48 * k.val + 32 + a.val + e) l := by
      subst hb
      exact (H1.ld (48 * k.val + 8 * m.val + 32) inb (k0_off26_eq k m) (by omega) a l).trans (congrArg (fun r => d r l) (by omega))
    have P0 (m : Fin 4) (b : BitVec 32) (hb : b = BitVec.ofNat 32 (8 * m.val)) (inb) (e : ℕ) (he : 8 * m.val + 1 = e) (a : Fin 48) (l) :
        arg14.view.readAt (Elt F) (Rect.unit (s := S7x2128x128) (k0_off27 k b) S1x48x128.size inb).toLoadRect X14 (ix3 0 a l) = d (48 * k.val + 32 + a.val + e) l := by
      subst hb
      exact (H0.ld (48 * k.val + 8 * m.val + 32) inb (k0_off27_eq k m) (by omega) a l).trans (congrArg (fun r => d r l) (by omega))
    have P10 (m : Fin 4) (b : BitVec 32) (hb : b = BitVec.ofNat 32 (8 * m.val)) (inb) (e : ℕ) (he : 8 * m.val + 0 = e) (a : Fin 48) (l) :
        arg10.view.readAt (Elt F) (Rect.unit (s := S2128x128) (k0_off28 k b) S48x128.size inb).toLoadRect X10 (ix2 a l) = d (48 * k.val + 32 + a.val + e) l := by
      subst hb
      exact (H10.ld (48 * k.val + 8 * m.val + 32) inb (k0_off28_eq k m) (by omega) a l).trans (congrArg (fun r => d r l) (by omega))
    have P6 (m : Fin 3) (b : BitVec 32) (hb : b = BitVec.ofNat 32 (8 * m.val)) (inb) (e : ℕ) (he : 8 * m.val + 7 = e) (a : Fin 48) (l) :
        arg14.view.readAt (Elt F) (Rect.unit (s := S7x2128x128) (k0_off29 k b) S1x48x128.size inb).toLoadRect X14 (ix3 0 a l) = d (48 * k.val + 32 + a.val + e) l := by
      subst hb
      exact (H6.ld (48 * k.val + 8 * m.val + 32) inb (k0_off29_eq k m) (by omega) a l).trans (congrArg (fun r => d r l) (by omega))
    unfold tripL_k0_t5 trip_k0_t5
    dsimp only
    refine Tiles.cons _ _ _ (ih (by omega)) ?_ ?_
    · rw [k0_off30_eq]; exact congrArg (fun z => ![z, 0]) (Nat.add_comm _ _)
    · intro a l
      pointwise [k0_pay154, k0_pay52, k0_pay53, k0_pay54, k0_pay55, k0_pay56, k0_pay57, k0_pay58, k0_pay59, k0_pay60, k0_pay61, k0_pay62, k0_pay63, k0_pay64, k0_pay65, trip_k0_t5.sl.r, trip_k0_t5.sl.r_1, trip_k0_t5.sl.r_2, trip_k0_t5.sl.r_3, trip_k0_t5.sl.r_4, trip_k0_t5.sl.r_5, trip_k0_t5.sl.r_6, trip_k0_t5.sl.r_7, trip_k0_t5.sl.r_8]
      simp only [P5 3 24#32 rfl _ (30 - 0) rfl, P4 3 24#32 rfl _ (30 - 1) rfl, P3 3 24#32 rfl _ (30 - 2) rfl, P2 3 24#32 rfl _ (30 - 3) rfl, P1 3 24#32 rfl _ (30 - 4) rfl, P0 3 24#32 rfl _ (30 - 5) rfl, P10 3 24#32 rfl _ (30 - 6) rfl, P6 2 16#32 rfl _ (30 - 7) rfl, P5 2 16#32 rfl _ (30 - 8) rfl, P4 2 16#32 rfl _ (30 - 9) rfl, P3 2 16#32 rfl _ (30 - 10) rfl, P2 2 16#32 rfl _ (30 - 11) rfl, P1 2 16#32 rfl _ (30 - 12) rfl, P0 2 16#32 rfl _ (30 - 13) rfl, P10 2 16#32 rfl _ (30 - 14) rfl, P6 1 8#32 rfl _ (30 - 15) rfl, P5 1 8#32 rfl _ (30 - 16) rfl, P4 1 8#32 rfl _ (30 - 17) rfl, P3 1 8#32 rfl _ (30 - 18) rfl, P2 1 8#32 rfl _ (30 - 19) rfl, P1 1 8#32 rfl _ (30 - 20) rfl, P0 1 8#32 rfl _ (30 - 21) rfl, P10 1 8#32 rfl _ (30 - 22) rfl, P6 0 0#32 rfl _ (30 - 23) rfl, P5 0 0#32 rfl _ (30 - 24) rfl, P4 0 0#32 rfl _ (30 - 25) rfl, P3 0 0#32 rfl _ (30 - 26) rfl, P2 0 0#32 rfl _ (30 - 27) rfl, P1 0 0#32 rfl _ (30 - 28) rfl, P0 0 0#32 rfl _ (30 - 29) rfl, P10 0 0#32 rfl _ (30 - 30) rfl]
      rfl
end

end Cert.Proof.Conv

end
-- ==== Proof.Out.lean ====
module

public import proofs.«01_k».proof.Proof.Gen.KernelIdeal.Loops
public import proofs.«01_k».proof.Proof.Gen.KernelIdeal.Frame
public import proofs.«01_k».proof.Proof.Gen.KernelIdeal.Skeleton
public import Idealize.ShloMosaic.Lib.Tactic
public import Idealize.ShloMosaic.PureOps.BitExact
public import proofs.«01_k».proof.Proof.Body
public import proofs.«01_k».proof.Proof.Sem
public import proofs.«01_k».proof.Proof.Buffers
public import proofs.«01_k».proof.Proof.Loops

@[expose] public section

set_option maxRecDepth 16384

noncomputable section

namespace Cert.Proof.Conv

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- One over one plus the exponential of the negated gate row. -/
def sgF (h : S5x2176x128.Idx → F .f32) (r : ℕ) (l : Fin 128) : F .f32 :=
  FloatOps.divf one32 (FloatOps.addf one32 (FloatOps.exp (FloatOps.subf z32 (pl h 4 r l))))

/-- The short convolution's input: the product of planes 1 and 2. -/
def uF (h : S5x2176x128.Idx → F .f32) (r : ℕ) (l : Fin 128) : F .f32 := FloatOps.mulf (pl h 1 r l) (pl h 2 r l)

/-- The cotangent of the short convolution's result: the cotangent times plane 0. -/
def dF (h : S5x2176x128.Idx → F .f32) (d : S2176x128.Idx → F .f32) (r : ℕ) (l : Fin 128) : F .f32 := FloatOps.mulf (rw2 d r l) (pl h 0 r l)

/-- The long convolution's input: plane 3 times the gate of plane 4. -/
def gF (h : S5x2176x128.Idx → F .f32) (r : ℕ) (l : Fin 128) : F .f32 := FloatOps.mulf (pl h 3 r l) (sgF h r l)

/-- The short convolution's three taps of the packed weights. -/
def wA (w : S1x64x256.Idx → F .f32) : ℕ → Fin 128 → F .f32 :=
  wrow3 fun i => w (ix3 0 ⟨16 + (i 0).val, by have : (i 0).val < 3 := (i 0).isLt; omega⟩ ⟨(i 1).val, by have : (i 1).val < 128 := (i 1).isLt; omega⟩)

/-- The long convolution's thirty-one taps of the packed weights. -/
def wB (w : S1x64x256.Idx → F .f32) : ℕ → Fin 128 → F .f32 :=
  wrow31 fun i => w (ix3 0 ⟨24 + (i 0).val, by have : (i 0).val < 31 := (i 0).isLt; omega⟩ ⟨(i 1).val, by have : (i 1).val < 128 := (i 1).isLt; omega⟩)

/-- The rows a loop of 43 tiles of 48 rows leaves from row 32 on, whatever was there before. -/
theorem taps_read {sig : RefSig} {κ : Kind} {sp : Space} (v : View sig κ sp S2128x128 .f32) (f : BufTy.Contents (Elt F) v.ty)
    (P T : List (View.Piece (Elt F) S2128x128 .f32)) (val : ℕ → ℕ → Fin 128 → F .f32) (H : Tiles 48 32 val P 43)
    (G : ℕ → Fin 128 → F .f32) (hG : ∀ j a l, val j a l = G (48 * j + 32 + a) l) (r : ℕ) (h : r < 2128) (l : Fin 128) (h1 : 32 ≤ r) (h2 : r < 2096) :
    v.read (Elt F) (v.writes (Elt F) f (P ++ T)) (ix2 ⟨r, h⟩ l) = G r l := by
  rw [View.writes_append]
  have e : r = 32 + 48 * ((r - 32) / 48) + (r - 32) % 48 := by omega
  have R := H.read v (v.writes (Elt F) f T) ((r - 32) / 48) (by omega) ⟨(r - 32) % 48, by omega⟩ (by show 32 + 48 * ((r - 32) / 48) + (r - 32) % 48 < 2128; omega) l
  rw [hG] at R
  have e1 : (⟨r, h⟩ : Fin 2128) = ⟨32 + 48 * ((r - 32) / 48) + (r - 32) % 48, by omega⟩ := Fin.ext e
  rw [e1]
  refine R.trans (congrArg (fun r => G r l) ?_)
  show 48 * ((r - 32) / 48) + 32 + (r - 32) % 48 = r
  omega

/-- The 2048 loaded rows of such a loop's result. -/
theorem taps_ldX {sig : RefSig} {κ : Kind} {sp : Space} (v : View sig κ sp S2128x128 .f32) (f : BufTy.Contents (Elt F) v.ty)
    (G : ℕ → Fin 128 → F .f32) (H : ∀ (r : ℕ) (h : r < 2128) (l : Fin 128), 32 ≤ r → r < 2096 → v.read (Elt F) f (ix2 ⟨r, h⟩ l) = G r l)
    (inb : ∀ a, (![48, 0] : Fin 2 → ℕ) a + S2048x128.size a ≤ S2128x128.size a) (a : Fin 2048) (l : Fin 128) :
    v.readAt (Elt F) (Rect.unit (s := S2128x128) ![48, 0] S2048x128.size inb).toLoadRect f (ix2 a l) = G (pos a.val) l := by
  have e : pos a.val = 48 + a.val := by unfold pos; rw [if_pos a.isLt]
  rw [e]
  refine Eq.trans (congrArg (v.read (Elt F) f) (Shape.idx_ext₂ ?_ ?_)) (H (48 + a.val) (by omega) l (by omega) (by omega))
  · show 48 + 1 * a.val = 48 + a.val; omega
  · show 0 + 1 * l.val = l.val; omega

/-- The sixteen leading loaded rows of such a loop's result. -/
theorem taps_ldM {sig : RefSig} {κ : Kind} {sp : Space} (v : View sig κ sp S2128x128 .f32) (f : BufTy.Contents (Elt F) v.ty)
    (G : ℕ → Fin 128 → F .f32) (H : ∀ (r : ℕ) (h : r < 2128) (l : Fin 128), 32 ≤ r → r < 2096 → v.read (Elt F) f (ix2 ⟨r, h⟩ l) = G r l)
    (inb : ∀ a, (![32, 0] : Fin 2 → ℕ) a + S16x128.size a ≤ S2128x128.size a) (a : Fin 16) (l : Fin 128) :
    v.readAt (Elt F) (Rect.unit (s := S2128x128) ![32, 0] S16x128.size inb).toLoadRect f (ix2 a l) = G (pos (2048 + a.val)) l := by
  have e : pos (2048 + a.val) = 32 + a.val := by unfold pos; rw [if_neg (by omega)]; omega
  rw [e]
  refine Eq.trans (congrArg (v.read (Elt F) f) (Shape.idx_ext₂ ?_ ?_)) (H (32 + a.val) (by omega) l (by omega) (by omega))
  · show 32 + 1 * a.val = 32 + a.val; omega
  · show 0 + 1 * l.val = l.val; omega

section
variable (c : Dev nD) (i : grid0.Coords) (arg1 : Memref sig .tc .vmem S5x2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S1x64x256 .f32) (harg4 : arg4.IsWhole) (arg5 : Memref sig .tc .vmem S5x2176x128 .bf16) (harg5 : arg5.IsWhole) (arg6 : Memref sig .tc .vmem S3x128 .f32) (harg6 : arg6.IsWhole) (arg7 : Memref sig .tc .vmem S31x128 .f32) (harg7 : arg7.IsWhole) (arg8 : Memref sig .tc .vmem S1x128 .f32) (harg8 : arg8.IsWhole) (arg9 : Memref sig .tc .vmem S2128x128 .f32) (harg9 : arg9.IsWhole) (arg10 : Memref sig .tc .vmem S2128x128 .f32) (harg10 : arg10.IsWhole) (arg11 : Memref sig .tc .vmem S2128x128 .f32) (harg11 : arg11.IsWhole) (arg12 : Memref sig .tc .vmem S248x128 .f32) (harg12 : arg12.IsWhole) (arg13 : Memref sig .tc .vmem S7x2128x128 .f32) (harg13 : arg13.IsWhole) (arg14 : Memref sig .tc .vmem S7x2128x128 .f32) (harg14 : arg14.IsWhole)
  (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

/-- The forward input's buffer for the short convolution. -/
theorem rows9 : Rows arg9.view (arg9.view.writes (Elt F) arg9.view.junk (bodyRun.sl.H9_4 arg1 f1)) (seqF (uF (arg1.view.read (Elt F) f1))) 2128 := by
  unfold bodyRun.sl.H9_4
  refine rows_put _ _ _ (uF (arg1.view.read (Elt F) f1)) _ _ (fun a l => ?_) (fun a l => ?_) _ _ (zeroOut_of _ _ _ _ (fun _ => ?_) (fun _ => ?_) _ _)
  · pointwise [k0_pay78, bodyRun.sl.r_2, k0_pay74]; rw [ldX, ldX]; rfl
  · pointwise [k0_pay77, bodyRun.sl.r_3, bodyRun.sl.r_4, k0_pay75, k0_pay76]; rw [ldM, ldM]; rfl
  · rfl
  · rfl

/-- The cotangent's buffer for the short convolution. -/
theorem rows10 : Rows arg10.view (arg10.view.writes (Elt F) arg10.view.junk (bodyRun.sl.H10_4 arg1 arg2 f1 f2)) (seqF (dF (arg1.view.read (Elt F) f1) (arg2.view.read (Elt F) f2))) 2128 := by
  unfold bodyRun.sl.H10_4
  refine rows_put _ _ _ (dF (arg1.view.read (Elt F) f1) (arg2.view.read (Elt F) f2)) _ _ (fun a l => ?_) (fun a l => ?_) _ _ (zeroOut_of _ _ _ _ (fun _ => ?_) (fun _ => ?_) _ _)
  · pointwise [k0_pay87]; rw [ldX2, ldX]; rfl
  · pointwise [k0_pay86]; rw [ldM2, ldM]; rfl
  · rfl
  · rfl

/-- The forward input's buffer for the long convolution. -/
theorem rows9g : Rows arg9.view (arg9.view.writes (Elt F) arg9.view.junk (⟨Rect.unit ![48, 0] S2048x128.size inb_S2128x128_S2048x128_48_0, k0_pay109 (bodyRun.sl.r_9 arg1 f1)⟩ :: ⟨Rect.unit ![32, 0] S16x128.size inb_S2128x128_S16x128_32_0, k0_pay108 (bodyRun.sl.r_10 arg1 f1) (bodyRun.sl.r_11 arg1 f1) bodyRun.sl.cst_150⟩ :: bodyRun.sl.H9_4 arg1 f1)) (seqF (gF (arg1.view.read (Elt F) f1))) 2128 := by
  refine rows_put _ _ _ (gF (arg1.view.read (Elt F) f1)) _ _ (fun a l => ?_) (fun a l => ?_) _ _ (rows9 arg1 arg9 f1).zeroOut
  · pointwise [k0_pay109, bodyRun.sl.r_9, k0_pay105]; rw [ldX, ldX]; rfl
  · pointwise [k0_pay108, bodyRun.sl.r_10, bodyRun.sl.r_11, bodyRun.sl.cst_150, k0_pay106, k0_pay107]; rw [ldM, ldM]; rfl

/-- The cotangent's buffer for the long convolution. -/
theorem rows10z : Rows arg10.view (arg10.view.writes (Elt F) arg10.view.junk (bodyRun.sl.H10_6 arg1 arg2 arg3 f1 f2 f3)) (seqF (rw2 (arg3.view.read (Elt F) f3))) 2128 := by
  unfold bodyRun.sl.H10_6
  refine rows_put _ _ _ (rw2 (arg3.view.read (Elt F) f3)) _ _ (fun a l => ?_) (fun a l => ?_) _ _ (rows10 arg1 arg2 arg10 f1 f2).zeroOut
  · pointwise [k0_pay111]; rw [ldX2]
  · pointwise [k0_pay110]; rw [ldM2]

/-- A slab holding a buffer's rows from row `o` on. -/
theorem slab_of {v : View sig .tc .vmem S2128x128 .f32} {f : BufTy.Contents (Elt F) v.ty} {s : ℕ → Fin 128 → F .f32} (H : Rows v f s 2128) (o : ℕ) (ho : o ≤ 8)
    (inb : ∀ a, (![o, 0] : Fin 2 → ℕ) a + S2120x128.size a ≤ S2128x128.size a) (a : Fin 2120) (l : Fin 128) :
    v.readAt (Elt F) (Rect.unit (s := S2128x128) ![o, 0] S2120x128.size inb).toLoadRect f (ix2 a l) = s (a.val + o) l :=
  (H.ld o inb rfl (by omega) a l).trans (congrArg (fun r => s r l) (Nat.add_comm _ _))

theorem slab13_6 : Slab arg13.view (arg13.view.writes (Elt F) f13 [⟨Rect.unit ![6, 0, 0] S1x2120x128.size inb_S7x2128x128_S1x2120x128_6_0_0, k0_pay80 (bodyRun.sl.v38 arg1 arg9 f1)⟩, ⟨Rect.unit ![5, 0, 0] S1x2120x128.size inb_S7x2128x128_S1x2120x128_5_0_0, k0_pay79 (bodyRun.sl.v34 arg1 arg9 f1)⟩]) 6 fun r => seqF (uF (arg1.view.read (Elt F) f1)) (r + 7) :=
  Slab.hit _ _ _ 6 _ _ (fun a l => (slabCast _ _ a l).trans (slab_of (rows9 arg1 arg9 f1) 7 (by omega) _ a l)) _ rfl

theorem slab13_5 : Slab arg13.view (arg13.view.writes (Elt F) f13 [⟨Rect.unit ![6, 0, 0] S1x2120x128.size inb_S7x2128x128_S1x2120x128_6_0_0, k0_pay80 (bodyRun.sl.v38 arg1 arg9 f1)⟩, ⟨Rect.unit ![5, 0, 0] S1x2120x128.size inb_S7x2128x128_S1x2120x128_5_0_0, k0_pay79 (bodyRun.sl.v34 arg1 arg9 f1)⟩]) 5 fun r => seqF (uF (arg1.view.read (Elt F) f1)) (r + 6) :=
  Slab.skip (Slab.hit _ _ _ 5 _ _ (fun a l => (slabCast _ _ a l).trans (slab_of (rows9 arg1 arg9 f1) 6 (by omega) _ a l)) _ rfl) _ 6 (by decide) _ rfl

theorem slab14_1 : Slab arg14.view (arg14.view.writes (Elt F) f14 [⟨Rect.unit ![1, 0, 0] S1x2120x128.size inb_S7x2128x128_S1x2120x128_1_0_0, k0_pay95 (bodyRun.sl.v96 arg1 arg2 arg10 f1 f2)⟩, ⟨Rect.unit ![0, 0, 0] S1x2120x128.size inb_S7x2128x128_S1x2120x128_0_0_0, k0_pay94 (bodyRun.sl.v92 arg1 arg2 arg10 f1 f2)⟩]) 1 fun r => seqF (dF (arg1.view.read (Elt F) f1) (arg2.view.read (Elt F) f2)) (r + 2) :=
  Slab.hit _ _ _ 1 _ _ (fun a l => (slabCast _ _ a l).trans (slab_of (rows10 arg1 arg2 arg10 f1 f2) 2 (by omega) _ a l)) _ rfl

theorem slab14_0 : Slab arg14.view (arg14.view.writes (Elt F) f14 [⟨Rect.unit ![1, 0, 0] S1x2120x128.size inb_S7x2128x128_S1x2120x128_1_0_0, k0_pay95 (bodyRun.sl.v96 arg1 arg2 arg10 f1 f2)⟩, ⟨Rect.unit ![0, 0, 0] S1x2120x128.size inb_S7x2128x128_S1x2120x128_0_0_0, k0_pay94 (bodyRun.sl.v92 arg1 arg2 arg10 f1 f2)⟩]) 0 fun r => seqF (dF (arg1.view.read (Elt F) f1) (arg2.view.read (Elt F) f2)) (r + 1) :=
  Slab.skip (Slab.hit _ _ _ 0 _ _ (fun a l => (slabCast _ _ a l).trans (slab_of (rows10 arg1 arg2 arg10 f1 f2) 1 (by omega) _ a l)) _ rfl) _ 1 (by decide) _ rfl

/-- The second scratch buffer of planes once the long convolution has filled all seven. -/
abbrev planes14 : BufTy.Contents (Elt F) arg14.view.ty := arg14.view.writes (Elt F) f14 (⟨Rect.unit ![6, 0, 0] S1x2120x128.size inb_S7x2128x128_S1x2120x128_6_0_0, k0_pay119 (bodyRun.sl.v211 arg1 arg2 arg3 arg10 f1 f2 f3)⟩ :: ⟨Rect.unit ![5, 0, 0] S1x2120x128.size (by decide), bodyRun.sl.v210 arg1 arg2 arg3 arg10 f1 f2 f3⟩ :: ⟨Rect.unit ![4, 0, 0] S1x2120x128.size (by decide), bodyRun.sl.v206 arg1 arg2 arg3 arg10 f1 f2 f3⟩ :: ⟨Rect.unit ![3, 0, 0] S1x2120x128.size (by decide), bodyRun.sl.v202 arg1 arg2 arg3 arg10 f1 f2 f3⟩ :: ⟨Rect.unit ![2, 0, 0] S1x2120x128.size (by decide), bodyRun.sl.v198 arg1 arg2 arg3 arg10 f1 f2 f3⟩ :: ⟨Rect.unit ![1, 0, 0] S1x2120x128.size (by decide), bodyRun.sl.v194 arg1 arg2 arg3 arg10 f1 f2 f3⟩ :: bodyRun.sl.H14_3 arg1 arg2 arg3 arg10 f1 f2 f3)

theorem slab14z_0 : Slab arg14.view (planes14 arg1 arg2 arg3 arg10 arg14 f1 f2 f3 f14) 0 fun r => seqF (rw2 (arg3.view.read (Elt F) f3)) (r + 1) :=
  (Slab.skip (Slab.skip (Slab.skip (Slab.skip (Slab.skip (Slab.skip (Slab.hit _ _ _ 0 _ _ (fun a l => (slabCast _ _ a l).trans (slab_of (rows10z arg1 arg2 arg3 arg10 f1 f2 f3) 1 (by omega) _ a l)) _ rfl) _ 1 (by decide) _ rfl) _ 2 (by decide) _ rfl) _ 3 (by decide) _ rfl) _ 4 (by decide) _ rfl) _ 5 (by decide) _ rfl) _ 6 (by decide) _ rfl)

theorem slab14z_1 : Slab arg14.view (planes14 arg1 arg2 arg3 arg10 arg14 f1 f2 f3 f14) 1 fun r => seqF (rw2 (arg3.view.read (Elt F) f3)) (r + 2) :=
  (Slab.skip (Slab.skip (Slab.skip (Slab.skip (Slab.skip (Slab.hit _ _ _ 1 _ _ (fun a l => (slabCast _ _ a l).trans (slab_of (rows10z arg1 arg2 arg3 arg10 f1 f2 f3) 2 (by omega) _ a l)) _ rfl) _ 2 (by decide) _ rfl) _ 3 (by decide) _ rfl) _ 4 (by decide) _ rfl) _ 5 (by decide) _ rfl) _ 6 (by decide) _ rfl)

theorem slab14z_2 : Slab arg14.view (planes14 arg1 arg2 arg3 arg10 arg14 f1 f2 f3 f14) 2 fun r => seqF (rw2 (arg3.view.read (Elt F) f3)) (r + 3) :=
  (Slab.skip (Slab.skip (Slab.skip (Slab.skip (Slab.hit _ _ _ 2 _ _ (fun a l => (slabCast _ _ a l).trans (slab_of (rows10z arg1 arg2 arg3 arg10 f1 f2 f3) 3 (by omega) _ a l)) _ rfl) _ 3 (by decide) _ rfl) _ 4 (by decide) _ rfl) _ 5 (by decide) _ rfl) _ 6 (by decide) _ rfl)

theorem slab14z_3 : Slab arg14.view (planes14 arg1 arg2 arg3 arg10 arg14 f1 f2 f3 f14) 3 fun r => seqF (rw2 (arg3.view.read (Elt F) f3)) (r + 4) :=
  (Slab.skip (Slab.skip (Slab.skip (Slab.hit _ _ _ 3 _ _ (fun a l => (slabCast _ _ a l).trans (slab_of (rows10z arg1 arg2 arg3 arg10 f1 f2 f3) 4 (by omega) _ a l)) _ rfl) _ 4 (by decide) _ rfl) _ 5 (by decide) _ rfl) _ 6 (by decide) _ rfl)

theorem slab14z_4 : Slab arg14.view (planes14 arg1 arg2 arg3 arg10 arg14 f1 f2 f3 f14) 4 fun r => seqF (rw2 (arg3.view.read (Elt F) f3)) (r + 5) :=
  (Slab.skip (Slab.skip (Slab.hit _ _ _ 4 _ _ (fun a l => (slabCast _ _ a l).trans (slab_of (rows10z arg1 arg2 arg3 arg10 f1 f2 f3) 5 (by omega) _ a l)) _ rfl) _ 5 (by decide) _ rfl) _ 6 (by decide) _ rfl)

theorem slab14z_5 : Slab arg14.view (planes14 arg1 arg2 arg3 arg10 arg14 f1 f2 f3 f14) 5 fun r => seqF (rw2 (arg3.view.read (Elt F) f3)) (r + 6) :=
  (Slab.skip (Slab.hit _ _ _ 5 _ _ (fun a l => (slabCast _ _ a l).trans (slab_of (rows10z arg1 arg2 arg3 arg10 f1 f2 f3) 6 (by omega) _ a l)) _ rfl) _ 6 (by decide) _ rfl)

theorem slab14z_6 : Slab arg14.view (planes14 arg1 arg2 arg3 arg10 arg14 f1 f2 f3 f14) 6 fun r => seqF (rw2 (arg3.view.read (Elt F) f3)) (r + 7) :=
  (Slab.hit _ _ _ 6 _ _ (fun a l => (slabCast _ _ a l).trans (slab_of (rows10z arg1 arg2 arg3 arg10 f1 f2 f3) 7 (by omega) _ a l)) _ rfl)

/-- The single-precision value at row `r` of plane `p` of the first result, before it is rounded. -/
def out5f (h : S5x2176x128.Idx → F .f32) (d z : S2176x128.Idx → F .f32) (w : S1x64x256.Idx → F .f32) (p r : ℕ) (l : Fin 128) : F .f32 :=
  match p with
  | 0 => FloatOps.mulf (rw2 d r l) (fwd3 (wA w) (seqF (uF h)) (pos r - 2) l)
  | 1 => FloatOps.mulf (bwd 2 (wA w) (seqF (dF h d)) (pos r) l) (pl h 2 r l)
  | 2 => FloatOps.mulf (bwd 2 (wA w) (seqF (dF h d)) (pos r) l) (pl h 1 r l)
  | 3 => FloatOps.mulf (bwd 30 (wB w) (seqF (rw2 z)) (pos r) l) (sgF h r l)
  | _ => FloatOps.mulf (FloatOps.mulf (FloatOps.mulf (bwd 30 (wB w) (seqF (rw2 z)) (pos r) l) (pl h 3 r l)) (sgF h r l)) (FloatOps.subf one32 (sgF h r l))

/-- The first result's block: rows below 2064 are the rounded values, the rest zero. -/
def out5 (h : S5x2176x128.Idx → F .f32) (d z : S2176x128.Idx → F .f32) (w : S1x64x256.Idx → F .f32) : S5x2176x128.Idx → F .bf16 :=
  fun y => if (y 1).val < 2064 then FloatOps.truncf .bf16 bitsLt_bf16_f32 (out5f h d z w (y 0).val (y 1).val (y 2)) else FloatOps.ofBits .bf16 0x0000#16

/-- The second result's block: row `k` sums the accumulator's eight rows of tap `k`. -/
def out6 (h : S5x2176x128.Idx → F .f32) (d : S2176x128.Idx → F .f32) : S3x128.Idx → F .f32 :=
  fun y => k0_pay91 (fun x : S8x128.Idx => acc (seqF (dF h d)) (seqF (uF h)) (30 + (y 0).val) 43 (x 0).val (x 1)) (ix2 0 (y 1))

/-- The third result's block: row `k` sums the accumulator's eight rows of tap `k`. -/
def out7 (h : S5x2176x128.Idx → F .f32) (z : S2176x128.Idx → F .f32) : S31x128.Idx → F .f32 :=
  fun y => k0_pay91 (fun x : S8x128.Idx => acc (seqF (gF h)) (seqF (rw2 z)) (32 + (30 - (y 0).val)) 43 (x 0).val (x 1)) (ix2 0 (y 1))

/-- The fourth result's block: the sum of the cotangent's 2048 rows plus the sum of its sixteen further rows. -/
def out8 (z : S2176x128.Idx → F .f32) : S1x128.Idx → F .f32 :=
  k0_pay112 (fun x : S2048x128.Idx => rw2 z (x 0).val (x 1)) (fun x : S16x128.Idx => rw2 z (2048 + (x 0).val) (x 1))

theorem wA_eq : wrow3 (bodyRun.sl.r arg4 f4) = wA (arg4.view.read (Elt F) f4) := by
  unfold wA
  refine congrArg wrow3 (funext fun x => ?_)
  obtain ⟨k, l, rfl⟩ : ∃ k l, x = ix2 k l := ⟨x 0, x 1, eq_ix2 x⟩
  pointwise [bodyRun.sl.r, k0_pay66]
  refine congrArg (arg4.view.read (Elt F) f4) (funext fun a => Fin.ext ?_)
  match a with
  | ⟨0, _⟩ => rfl
  | ⟨1, _⟩ => show 16 + 1 * k.val = 16 + k.val; omega
  | ⟨2, _⟩ => show 0 + 1 * l.val = l.val; omega

theorem wB_eq : wrow31 (bodyRun.sl.r_1 arg4 f4) = wB (arg4.view.read (Elt F) f4) := by
  unfold wB
  refine congrArg wrow31 (funext fun x => ?_)
  obtain ⟨k, l, rfl⟩ : ∃ k l, x = ix2 k l := ⟨x 0, x 1, eq_ix2 x⟩
  pointwise [bodyRun.sl.r_1, k0_pay67]
  refine congrArg (arg4.view.read (Elt F) f4) (funext fun a => Fin.ext ?_)
  match a with
  | ⟨0, _⟩ => rfl
  | ⟨1, _⟩ => show 24 + 1 * k.val = 24 + k.val; omega
  | ⟨2, _⟩ => show 0 + 1 * l.val = l.val; omega

theorem v44_eq (a : Fin 2048) (l : Fin 128) : bodyRun.sl.v44 c i arg1 harg1 arg2 harg2 arg3 harg3 arg4 harg4 arg5 harg5 arg6 harg6 arg7 harg7 arg8 harg8 arg9 harg9 arg10 harg10 arg11 harg11 arg12 harg12 arg13 harg13 arg14 harg14 f1 f4 f11 f13 (ix2 a l) = fwd3 (wA (arg4.view.read (Elt F) f4)) (seqF (uF (arg1.view.read (Elt F) f1))) (pos a.val - 2) l := by
  unfold bodyRun.sl.v44
  rw [← List.append_nil (pb_k0_t1 _ _ _ _ _ _ _ _ _ _ _ _ _ _ _ _ _ _ _ _ _ _ _ _ _ _ _ _ _ _ _ _ _ _ _ _ _ _ _)]
  refine taps_ldX _ _ (fun r l => fwd3 (wA (arg4.view.read (Elt F) f4)) (seqF (uF (arg1.view.read (Elt F) f1))) (r - 2) l) (taps_read _ _ _ _ _ (t1_tiles _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ (rows9 arg1 arg9 f1) (slab13_5 arg1 arg9 arg13 f1 f13) (slab13_6 arg1 arg9 arg13 f1 f13) 43 le_rfl) _ (fun j a l => ?_)) _ a l
  rw [wA_eq]
  exact congrArg (fun r => fwd3 _ _ r l) (by omega)

theorem v47_eq (a : Fin 16) (l : Fin 128) : bodyRun.sl.v47 c i arg1 harg1 arg2 harg2 arg3 harg3 arg4 harg4 arg5 harg5 arg6 harg6 arg7 harg7 arg8 harg8 arg9 harg9 arg10 harg10 arg11 harg11 arg12 harg12 arg13 harg13 arg14 harg14 f1 f4 f11 f13 (ix2 a l) = fwd3 (wA (arg4.view.read (Elt F) f4)) (seqF (uF (arg1.view.read (Elt F) f1))) (pos (2048 + a.val) - 2) l := by
  unfold bodyRun.sl.v47
  rw [← List.append_nil (pb_k0_t1 _ _ _ _ _ _ _ _ _ _ _ _ _ _ _ _ _ _ _ _ _ _ _ _ _ _ _ _ _ _ _ _ _ _ _ _ _ _ _)]
  refine taps_ldM _ _ (fun r l => fwd3 (wA (arg4.view.read (Elt F) f4)) (seqF (uF (arg1.view.read (Elt F) f1))) (r - 2) l) (taps_read _ _ _ _ _ (t1_tiles _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ (rows9 arg1 arg9 f1) (slab13_5 arg1 arg9 arg13 f1 f13) (slab13_6 arg1 arg9 arg13 f1 f13) 43 le_rfl) _ (fun j a l => ?_)) _ a l
  rw [wA_eq]
  exact congrArg (fun r => fwd3 _ _ r l) (by omega)

theorem v101_eq (a : Fin 2048) (l : Fin 128) : bodyRun.sl.v101 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14 (ix2 a l) = bwd 2 (wA (arg4.view.read (Elt F) f4)) (seqF (dF (arg1.view.read (Elt F) f1) (arg2.view.read (Elt F) f2))) (pos a.val) l := by
  unfold bodyRun.sl.v101
  refine taps_ldX _ _ (fun r l => bwd 2 (wA (arg4.view.read (Elt F) f4)) (seqF (dF (arg1.view.read (Elt F) f1) (arg2.view.read (Elt F) f2))) (r) l) (taps_read _ _ _ _ _ (t3_tiles _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ (rows10 arg1 arg2 arg10 f1 f2) (slab14_0 arg1 arg2 arg10 arg14 f1 f2 f14) (slab14_1 arg1 arg2 arg10 arg14 f1 f2 f14) 43 le_rfl) _ (fun j a l => ?_)) _ a l
  rw [wA_eq]

theorem v105_eq (a : Fin 16) (l : Fin 128) : bodyRun.sl.v105 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14 (ix2 a l) = bwd 2 (wA (arg4.view.read (Elt F) f4)) (seqF (dF (arg1.view.read (Elt F) f1) (arg2.view.read (Elt F) f2))) (pos (2048 + a.val)) l := by
  unfold bodyRun.sl.v105
  refine taps_ldM _ _ (fun r l => bwd 2 (wA (arg4.view.read (Elt F) f4)) (seqF (dF (arg1.view.read (Elt F) f1) (arg2.view.read (Elt F) f2))) (r) l) (taps_read _ _ _ _ _ (t3_tiles _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ (rows10 arg1 arg2 arg10 f1 f2) (slab14_0 arg1 arg2 arg10 arg14 f1 f2 f14) (slab14_1 arg1 arg2 arg10 arg14 f1 f2 f14) 43 le_rfl) _ (fun j a l => ?_)) _ a l
  rw [wA_eq]

theorem v363_eq (a : Fin 2048) (l : Fin 128) : bodyRun.sl.v363 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14 (ix2 a l) = bwd 30 (wB (arg4.view.read (Elt F) f4)) (seqF (rw2 (arg3.view.read (Elt F) f3))) (pos a.val) l := by
  unfold bodyRun.sl.v363
  refine taps_ldX _ _ (fun r l => bwd 30 (wB (arg4.view.read (Elt F) f4)) (seqF (rw2 (arg3.view.read (Elt F) f3))) (r) l) (taps_read _ _ _ _ _ (t5_tiles _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ (rows10z arg1 arg2 arg3 arg10 f1 f2 f3) (slab14z_0 arg1 arg2 arg3 arg10 arg14 f1 f2 f3 f14) (slab14z_1 arg1 arg2 arg3 arg10 arg14 f1 f2 f3 f14) (slab14z_2 arg1 arg2 arg3 arg10 arg14 f1 f2 f3 f14) (slab14z_3 arg1 arg2 arg3 arg10 arg14 f1 f2 f3 f14) (slab14z_4 arg1 arg2 arg3 arg10 arg14 f1 f2 f3 f14) (slab14z_5 arg1 arg2 arg3 arg10 arg14 f1 f2 f3 f14) (slab14z_6 arg1 arg2 arg3 arg10 arg14 f1 f2 f3 f14) 43 le_rfl) _ (fun j a l => ?_)) _ a l
  rw [wB_eq]

theorem v365_eq (a : Fin 16) (l : Fin 128) : bodyRun.sl.v365 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14 (ix2 a l) = bwd 30 (wB (arg4.view.read (Elt F) f4)) (seqF (rw2 (arg3.view.read (Elt F) f3))) (pos (2048 + a.val)) l := by
  unfold bodyRun.sl.v365
  refine taps_ldM _ _ (fun r l => bwd 30 (wB (arg4.view.read (Elt F) f4)) (seqF (rw2 (arg3.view.read (Elt F) f3))) (r) l) (taps_read _ _ _ _ _ (t5_tiles _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ (rows10z arg1 arg2 arg3 arg10 f1 f2 f3) (slab14z_0 arg1 arg2 arg3 arg10 arg14 f1 f2 f3 f14) (slab14z_1 arg1 arg2 arg3 arg10 arg14 f1 f2 f3 f14) (slab14z_2 arg1 arg2 arg3 arg10 arg14 f1 f2 f3 f14) (slab14z_3 arg1 arg2 arg3 arg10 arg14 f1 f2 f3 f14) (slab14z_4 arg1 arg2 arg3 arg10 arg14 f1 f2 f3 f14) (slab14z_5 arg1 arg2 arg3 arg10 arg14 f1 f2 f3 f14) (slab14z_6 arg1 arg2 arg3 arg10 arg14 f1 f2 f3 f14) 43 le_rfl) _ (fun j a l => ?_)) _ a l
  rw [wB_eq]

/-- A buffer just filled with zeros reads zero everywhere. -/
theorem zero12 (f : BufTy.Contents (Elt F) arg12.view.ty) (inb) (T : List (View.Piece (Elt F) S248x128 .f32)) (x : S248x128.Idx) :
    arg12.view.read (Elt F) (arg12.view.writes (Elt F) f (⟨Rect.unit (s := S248x128) ![0, 0] S248x128.size inb, k0_pay88⟩ :: T)) x = z32 := by
  refine (View.read_writes_cons_unit_of_mem arg12.view f inb k0_pay88 T x x rfl fun a => ?_).trans ?_
  · match a with
    | ⟨0, _⟩ => exact (Nat.zero_add _).symm
    | ⟨1, _⟩ => exact (Nat.zero_add _).symm
  · rfl

theorem v80_eq (a : Fin 8) (l : Fin 128) : bodyRun.sl.v80 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f13 (ix2 a l) = acc (seqF (dF (arg1.view.read (Elt F) f1) (arg2.view.read (Elt F) f2))) (seqF (uF (arg1.view.read (Elt F) f1))) (30 + 0) 43 a.val l := by
  unfold bodyRun.sl.v80
  refine (ldAcc arg12.view _ 0 _ rfl a l (by omega)).trans ?_
  rw [View.writes_append]
  exact t2_read _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ (rows9 arg1 arg9 f1) (rows10 arg1 arg2 arg10 f1 f2) (slab13_5 arg1 arg9 arg13 f1 f13) (slab13_6 arg1 arg9 arg13 f1 f13) _ (fun x => zero12 arg12 _ _ _ x) 43 le_rfl 0 a l _ (by decide)

theorem v84_eq (a : Fin 8) (l : Fin 128) : bodyRun.sl.v84 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f13 (ix2 a l) = acc (seqF (dF (arg1.view.read (Elt F) f1) (arg2.view.read (Elt F) f2))) (seqF (uF (arg1.view.read (Elt F) f1))) (30 + 1) 43 a.val l := by
  unfold bodyRun.sl.v84
  refine (ldAcc arg12.view _ 8 _ rfl a l (by omega)).trans ?_
  rw [View.writes_append]
  exact t2_read _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ (rows9 arg1 arg9 f1) (rows10 arg1 arg2 arg10 f1 f2) (slab13_5 arg1 arg9 arg13 f1 f13) (slab13_6 arg1 arg9 arg13 f1 f13) _ (fun x => zero12 arg12 _ _ _ x) 43 le_rfl 1 a l _ (by decide)

theorem v88_eq (a : Fin 8) (l : Fin 128) : bodyRun.sl.v88 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f13 (ix2 a l) = acc (seqF (dF (arg1.view.read (Elt F) f1) (arg2.view.read (Elt F) f2))) (seqF (uF (arg1.view.read (Elt F) f1))) (30 + 2) 43 a.val l := by
  unfold bodyRun.sl.v88
  refine (ldAcc arg12.view _ 16 _ rfl a l (by omega)).trans ?_
  rw [View.writes_append]
  exact t2_read _ _ _ _ arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ (rows9 arg1 arg9 f1) (rows10 arg1 arg2 arg10 f1 f2) (slab13_5 arg1 arg9 arg13 f1 f13) (slab13_6 arg1 arg9 arg13 f1 f13) _ (fun x => zero12 arg12 _ _ _ x) 43 le_rfl 2 a l _ (by decide)

/-- One row of sums of the long convolution, for any of the 31 taps. -/
theorem sumRow (v211 : Vec F S2120x128 .f32) (v212 : Vec F S1x2120x128 .f32) (T : List (View.Piece (Elt F) S248x128 .f32))
    (hT : ∀ f x, arg12.view.read (Elt F) (arg12.view.writes (Elt F) f T) x = z32) (k : ℕ) {off : Fin 2 → ℕ}
    (inb : ∀ a, off a + S8x128.size a ≤ S248x128.size a) (hoff : off = ![8 * k, 0]) (hk : 8 * k + 8 ≤ 248) (a : Fin 1) (l : Fin 128) :
    k0_pay91 (arg12.view.readCov (pb_k0_t4 𝒱₀ c none i arg1 harg1 arg2 harg2 arg3 harg3 arg4 harg4 arg5 harg5 arg6 harg6 arg7 harg7 arg8 harg8 arg9 harg9 arg10 harg10 arg11 harg11 arg12 harg12 arg13 harg13 arg14 harg14 v211 v212
        (arg9.view.writes (Elt F) arg9.view.junk (⟨Rect.unit ![48, 0] S2048x128.size inb_S2128x128_S2048x128_48_0, k0_pay109 (bodyRun.sl.r_9 arg1 f1)⟩ :: ⟨Rect.unit ![32, 0] S16x128.size inb_S2128x128_S16x128_32_0, k0_pay108 (bodyRun.sl.r_10 arg1 f1) (bodyRun.sl.r_11 arg1 f1) bodyRun.sl.cst_150⟩ :: bodyRun.sl.H9_4 arg1 f1))
        (arg10.view.writes (Elt F) arg10.view.junk (bodyRun.sl.H10_6 arg1 arg2 arg3 f1 f2 f3))
        (planes14 arg1 arg2 arg3 arg10 arg14 f1 f2 f3 f14) (arg12.view.writes (Elt F) arg12.view.junk T) k0_t4_loop.trips ++ T)
        (Rect.unit (s := S248x128) off S8x128.size inb).toLoadRect) (ix2 a l)
      = k0_pay91 (fun x : S8x128.Idx => acc (seqF (gF (arg1.view.read (Elt F) f1))) (seqF (rw2 (arg3.view.read (Elt F) f3))) (32 + (30 - k)) 43 (x 0).val (x 1)) (ix2 0 l) := by
  rw [Subsingleton.elim a 0]
  refine congrFun (congrArg k0_pay91 (funext fun x => ?_)) _
  obtain ⟨a, l, rfl⟩ : ∃ a l, x = ix2 a l := ⟨x 0, x 1, eq_ix2 x⟩
  refine (ldAcc arg12.view _ (8 * k) _ hoff a l (by omega)).trans ?_
  rw [View.writes_append]
  exact t4_read _ _ _ _ _ _ _ _ _ _ _ _ _ _ _ _ _ _ _ _ _ _ _ _ _ _ _ _ _ _ _ _ _ _ _ _ _ _ _ (rows9g arg1 arg9 f1) (rows10z arg1 arg2 arg3 arg10 f1 f2 f3)
    (slab14z_0 arg1 arg2 arg3 arg10 arg14 f1 f2 f3 f14) (slab14z_1 arg1 arg2 arg3 arg10 arg14 f1 f2 f3 f14) (slab14z_2 arg1 arg2 arg3 arg10 arg14 f1 f2 f3 f14)
    (slab14z_3 arg1 arg2 arg3 arg10 arg14 f1 f2 f3 f14) (slab14z_4 arg1 arg2 arg3 arg10 arg14 f1 f2 f3 f14) (slab14z_5 arg1 arg2 arg3 arg10 arg14 f1 f2 f3 f14)
    (slab14z_6 arg1 arg2 arg3 arg10 arg14 f1 f2 f3 f14) _ (hT _) 43 le_rfl k a l _

/-- A piece on another plane, or on other rows, is passed over. -/
theorem skip5 {sig : RefSig} {κ : Kind} {sp : Space} (v : View sig κ sp S5x2176x128 .bf16) (f : BufTy.Contents (Elt F) v.ty) (q o W : ℕ)
    (inb : ∀ a, (![q, o, 0] : Fin 3 → ℕ) a + (![1, W, 128] : Fin 3 → ℕ) a ≤ S5x2176x128.size a) (w : (⟨3, ![1, W, 128]⟩ : Shape).Idx → F .bf16)
    (L : List (View.Piece (Elt F) S5x2176x128 .bf16)) (y : S5x2176x128.Idx) (h : (y 0).val ≠ q ∨ (y 1).val < o ∨ o + W ≤ (y 1).val) :
    v.read (Elt F) (v.writes (Elt F) f (⟨Rect.unit (s := S5x2176x128) ![q, o, 0] ![1, W, 128] inb, w⟩ :: L)) y = v.read (Elt F) (v.writes (Elt F) f L) y := by
  rcases h with h | h
  · exact View.read_writes_cons_unit_of_not_mem v f inb w L y rfl 0 (by
      show (y 0).val < q ∨ q + 1 ≤ (y 0).val
      omega)
  · exact View.read_writes_cons_unit_of_not_mem v f inb w L y rfl 1 h

/-- A piece that holds the row gives its own value. -/
theorem hit5 {sig : RefSig} {κ : Kind} {sp : Space} (v : View sig κ sp S5x2176x128 .bf16) (f : BufTy.Contents (Elt F) v.ty) (q o W : ℕ)
    (inb : ∀ a, (![q, o, 0] : Fin 3 → ℕ) a + (![1, W, 128] : Fin 3 → ℕ) a ≤ S5x2176x128.size a) (w : (⟨3, ![1, W, 128]⟩ : Shape).Idx → F .bf16)
    (L : List (View.Piece (Elt F) S5x2176x128 .bf16)) (y : S5x2176x128.Idx) (h0 : (y 0).val = q) (h1 : o ≤ (y 1).val) (h2 : (y 1).val < o + W) (g : ℕ → Fin 128 → F .bf16)
    (hw : ∀ (a : Fin W) (l : Fin 128), w (ix3 0 a l) = g (o + a.val) l) :
    v.read (Elt F) (v.writes (Elt F) f (⟨Rect.unit (s := S5x2176x128) ![q, o, 0] ![1, W, 128] inb, w⟩ :: L)) y = g (y 1).val (y 2) := by
  refine (View.read_writes_cons_unit_of_mem v f inb w L y (ix3 0 ⟨(y 1).val - o, by omega⟩ (y 2)) rfl fun a => ?_).trans ((hw _ _).trans ?_)
  · match a with
    | ⟨0, _⟩ => exact h0
    | ⟨1, _⟩ => show (y 1).val = o + ((y 1).val - o); omega
    | ⟨2, _⟩ => exact (Nat.zero_add _).symm
  · exact congrArg (fun r => g r (y 2)) (by show o + ((y 1).val - o) = (y 1).val; omega)

/-- The fourth result's block. -/
theorem read8 (x : S1x128.Idx) : arg8.view.read (Elt F) (bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.2.2.2 x = out8 (arg3.view.read (Elt F) f3) x := by
  show arg8.view.read (Elt F) (arg8.view.writes (Elt F) arg8.view.junk (bodyRun.sl.H8_1 arg3 f3)) x = _
  unfold bodyRun.sl.H8_1
  refine (View.read_writes_cons_unit_of_mem arg8.view _ inb_S1x128_S1x128_0_0 _ _ x x rfl fun a => ?_).trans ?_
  · match a with
    | ⟨0, _⟩ => exact (Nat.zero_add _).symm
    | ⟨1, _⟩ => exact (Nat.zero_add _).symm
  · unfold out8
    refine congrFun (congrArg₂ k0_pay112 (funext fun x => ?_) (funext fun x => ?_)) _
    · obtain ⟨k, l, rfl⟩ : ∃ k l, x = ix2 k l := ⟨x 0, x 1, eq_ix2 x⟩
      exact ldX2 ..
    · obtain ⟨k, l, rfl⟩ : ∃ k l, x = ix2 k l := ⟨x 0, x 1, eq_ix2 x⟩
      exact ldM2 ..

/-- A row of sums whose accumulator's rows are known. -/
theorem payRow (u : Vec F S8x128 .f32) (V : ℕ → Fin 128 → F .f32) (h : ∀ (a : Fin 8) (l : Fin 128), u (ix2 a l) = V a.val l) :
    k0_pay91 u = k0_pay91 fun x : S8x128.Idx => V (x 0).val (x 1) :=
  congrArg k0_pay91 (funext fun x => by
    obtain ⟨k, l, rfl⟩ : ∃ k l, x = ix2 k l := ⟨x 0, x 1, eq_ix2 x⟩
    exact h k l)

/-- The second result's block. -/
theorem read6 (x : S3x128.Idx) : arg6.view.read (Elt F) (bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.2.1 x = out6 (arg1.view.read (Elt F) f1) (arg2.view.read (Elt F) f2) x := by
  show arg6.view.read (Elt F) (arg6.view.writes (Elt F) arg6.view.junk (bodyRun.sl.H6_3 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f13)) x = _
  unfold bodyRun.sl.H6_3
  have T : Tiles 1 0 (fun k _ l => k0_pay91 (fun x : S8x128.Idx => acc (seqF (dF (arg1.view.read (Elt F) f1) (arg2.view.read (Elt F) f2))) (seqF (uF (arg1.view.read (Elt F) f1))) (30 + k) 43 (x 0).val (x 1)) (ix2 0 l)) _ 3 :=
    .cons _ inb_S3x128_S1x128_2_0 _ (.cons _ inb_S3x128_S1x128_1_0 _ (.cons _ inb_S3x128_S1x128_0_0 _ .nil rfl
      fun a l => (congrFun (payRow _ _ (v80_eq c i arg1 harg1 arg2 harg2 arg3 harg3 arg4 harg4 arg5 harg5 arg6 harg6 arg7 harg7 arg8 harg8 arg9 harg9 arg10 harg10 arg11 harg11 arg12 harg12 arg13 harg13 arg14 harg14 f1 f2 f4 f13)) _).trans (by rw [Subsingleton.elim a 0])) rfl
      fun a l => (congrFun (payRow _ _ (v84_eq c i arg1 harg1 arg2 harg2 arg3 harg3 arg4 harg4 arg5 harg5 arg6 harg6 arg7 harg7 arg8 harg8 arg9 harg9 arg10 harg10 arg11 harg11 arg12 harg12 arg13 harg13 arg14 harg14 f1 f2 f4 f13)) _).trans (by rw [Subsingleton.elim a 0])) rfl
      fun a l => (congrFun (payRow _ _ (v88_eq c i arg1 harg1 arg2 harg2 arg3 harg3 arg4 harg4 arg5 harg5 arg6 harg6 arg7 harg7 arg8 harg8 arg9 harg9 arg10 harg10 arg11 harg11 arg12 harg12 arg13 harg13 arg14 harg14 f1 f2 f4 f13)) _).trans (by rw [Subsingleton.elim a 0])
  have hx : (x 0).val < 3 := (x 0).isLt
  have R := T.read arg6.view arg6.view.junk (x 0).val hx 0 (by show 0 + 1 * (x 0).val + 0 < 3; omega) (x 1)
  have e : x = ix2 ⟨0 + 1 * (x 0).val + 0, by omega⟩ (x 1) := Shape.idx_ext₂ (by show (x 0).val = 0 + 1 * (x 0).val + 0; omega) rfl
  exact (congrArg (arg6.view.read (Elt F) _) e).trans R

/-- The third result's block. -/
theorem read7 (x : S31x128.Idx) : arg7.view.read (Elt F) (bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.2.2.1 x = out7 (arg1.view.read (Elt F) f1) (arg3.view.read (Elt F) f3) x := by
  show arg7.view.read (Elt F) (arg7.view.writes (Elt F) arg7.view.junk (bodyRun.sl.H7_31 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f13 f14)) x = _
  let V : ℕ → ℕ → Fin 128 → F .f32 := fun k _ l => k0_pay91 (fun x : S8x128.Idx => acc (seqF (gF (arg1.view.read (Elt F) f1))) (seqF (rw2 (arg3.view.read (Elt F) f3))) (32 + (30 - k)) 43 (x 0).val (x 1)) (ix2 0 l)
  have T31 : Tiles (n := 31) 1 0 V (bodyRun.sl.H7_31 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f13 f14) 31 := by
    unfold bodyRun.sl.H7_31
    iterate 31 refine Tiles.cons _ _ _ ?_ rfl (sumRow _ _ _ _ _ _ _ _ _ _ _ _ _ _ _ _ _ _ _ _ _ _ _ _ _ _ _ _ _ _ f1 f2 f3 f14 _ _ _ (fun f x => zero12 arg12 f _ _ x) _ _ rfl (by omega))
    exact .nil
  have hx : (x 0).val < 31 := (x 0).isLt
  have R := T31.read arg7.view arg7.view.junk (x 0).val hx 0 (by show 0 + 1 * (x 0).val + 0 < 31; omega) (x 1)
  have e : x = ix2 ⟨0 + 1 * (x 0).val + 0, by omega⟩ (x 1) := Shape.idx_ext₂ (by show (x 0).val = 0 + 1 * (x 0).val + 0; omega) rfl
  exact (congrArg (arg7.view.read (Elt F) _) e).trans R

theorem val5_0_2048 (a : Fin 16) (l : Fin 128) : (k0_pay84 (bodyRun.sl.r_5 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13)) (ix3 0 a l) = FloatOps.truncf .bf16 bitsLt_bf16_f32 (out5f (arg1.view.read (Elt F) f1) (arg2.view.read (Elt F) f2) (arg3.view.read (Elt F) f3) (arg4.view.read (Elt F) f4) 0 (2048 + a.val) l) := by
  pointwise [k0_pay84, bodyRun.sl.r_5, k0_pay82]
  rw [v47_eq, ldM2]
  rfl

theorem val5_0_0 (a : Fin 2048) (l : Fin 128) : (bodyRun.sl.r_6 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13) (ix3 0 a l) = FloatOps.truncf .bf16 bitsLt_bf16_f32 (out5f (arg1.view.read (Elt F) f1) (arg2.view.read (Elt F) f2) (arg3.view.read (Elt F) f3) (arg4.view.read (Elt F) f4) 0 (0 + a.val) l) := by
  pointwise [bodyRun.sl.r_6, k0_pay83]
  rw [v44_eq, ldX2]
  rfl

theorem val5_1_2048 (a : Fin 16) (l : Fin 128) : (k0_pay98 (bodyRun.sl.v105 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14) (View.readAt (Elt F) arg1.view (Rect.unit (s := S5x2176x128) ![2, 2048, 0] S1x16x128.size inb_S5x2176x128_S1x16x128_2_2048_0).toLoadRect f1)) (ix3 0 a l) = FloatOps.truncf .bf16 bitsLt_bf16_f32 (out5f (arg1.view.read (Elt F) f1) (arg2.view.read (Elt F) f2) (arg3.view.read (Elt F) f3) (arg4.view.read (Elt F) f4) 1 (2048 + a.val) l) := by
  pointwise [k0_pay98]
  rw [v105_eq, ldM]
  rfl

theorem val5_1_0 (a : Fin 2048) (l : Fin 128) : (k0_pay97 (bodyRun.sl.v101 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14) (View.readAt (Elt F) arg1.view (Rect.unit (s := S5x2176x128) ![2, 0, 0] S1x2048x128.size inb_S5x2176x128_S1x2048x128_2_0_0).toLoadRect f1)) (ix3 0 a l) = FloatOps.truncf .bf16 bitsLt_bf16_f32 (out5f (arg1.view.read (Elt F) f1) (arg2.view.read (Elt F) f2) (arg3.view.read (Elt F) f3) (arg4.view.read (Elt F) f4) 1 (0 + a.val) l) := by
  pointwise [k0_pay97]
  rw [v101_eq, ldX]
  rfl

theorem val5_2_2048 (a : Fin 16) (l : Fin 128) : (k0_pay103 (bodyRun.sl.r_7 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14)) (ix3 0 a l) = FloatOps.truncf .bf16 bitsLt_bf16_f32 (out5f (arg1.view.read (Elt F) f1) (arg2.view.read (Elt F) f2) (arg3.view.read (Elt F) f3) (arg4.view.read (Elt F) f4) 2 (2048 + a.val) l) := by
  pointwise [k0_pay103, bodyRun.sl.r_7, k0_pay100]
  rw [v105_eq, ldM]
  rfl

theorem val5_2_0 (a : Fin 2048) (l : Fin 128) : (k0_pay102 (bodyRun.sl.r_8 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14)) (ix3 0 a l) = FloatOps.truncf .bf16 bitsLt_bf16_f32 (out5f (arg1.view.read (Elt F) f1) (arg2.view.read (Elt F) f2) (arg3.view.read (Elt F) f3) (arg4.view.read (Elt F) f4) 2 (0 + a.val) l) := by
  pointwise [k0_pay102, bodyRun.sl.r_8, k0_pay101]
  rw [v101_eq, ldX]
  rfl

theorem val5_3_2048 (a : Fin 16) (l : Fin 128) : (k0_pay159 (bodyRun.sl.r_13 arg1 f1) (bodyRun.sl.v365 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14)) (ix3 0 a l) = FloatOps.truncf .bf16 bitsLt_bf16_f32 (out5f (arg1.view.read (Elt F) f1) (arg2.view.read (Elt F) f2) (arg3.view.read (Elt F) f3) (arg4.view.read (Elt F) f4) 3 (2048 + a.val) l) := by
  pointwise [k0_pay159, bodyRun.sl.r_13, bodyRun.sl.r_14, k0_pay156, k0_pay157]
  rw [v365_eq, ldM]
  rfl

theorem val5_3_0 (a : Fin 2048) (l : Fin 128) : (k0_pay158 (bodyRun.sl.r_12 arg1 f1) (bodyRun.sl.v363 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14)) (ix3 0 a l) = FloatOps.truncf .bf16 bitsLt_bf16_f32 (out5f (arg1.view.read (Elt F) f1) (arg2.view.read (Elt F) f2) (arg3.view.read (Elt F) f3) (arg4.view.read (Elt F) f4) 3 (0 + a.val) l) := by
  pointwise [k0_pay158, bodyRun.sl.r_12, k0_pay155]
  rw [v363_eq, ldX]
  rfl

theorem val5_4_2048 (a : Fin 16) (l : Fin 128) : (k0_pay2 (bodyRun.sl.r_14 arg1 f1) (bodyRun.sl.r_16 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14)) (ix3 0 a l) = FloatOps.truncf .bf16 bitsLt_bf16_f32 (out5f (arg1.view.read (Elt F) f1) (arg2.view.read (Elt F) f2) (arg3.view.read (Elt F) f3) (arg4.view.read (Elt F) f4) 4 (2048 + a.val) l) := by
  pointwise [k0_pay2, bodyRun.sl.r_14, bodyRun.sl.r_16, bodyRun.sl.r_13, k0_pay156, k0_pay157, k0_pay162]
  rw [v365_eq, ldM, ldM]
  rfl

theorem val5_4_0 (a : Fin 2048) (l : Fin 128) : (k0_pay1 (bodyRun.sl.r_15 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14)) (ix3 0 a l) = FloatOps.truncf .bf16 bitsLt_bf16_f32 (out5f (arg1.view.read (Elt F) f1) (arg2.view.read (Elt F) f2) (arg3.view.read (Elt F) f3) (arg4.view.read (Elt F) f4) 4 (0 + a.val) l) := by
  pointwise [k0_pay1, bodyRun.sl.r_15, bodyRun.sl.r_12, k0_pay155, k0_pay161]
  rw [v363_eq, ldX, ldX]
  rfl

theorem list5 : (bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.1 = arg5.view.writes (Elt F) f5 [⟨Rect.unit (s := S5x2176x128) ![4, 2064, 0] S1x112x128.size inb_S5x2176x128_S1x112x128_4_2064_0, k0_pay3⟩, ⟨Rect.unit (s := S5x2176x128) ![4, 2048, 0] S1x16x128.size inb_S5x2176x128_S1x16x128_4_2048_0, k0_pay2 (bodyRun.sl.r_14 arg1 f1) (bodyRun.sl.r_16 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14)⟩, ⟨Rect.unit (s := S5x2176x128) ![4, 0, 0] S1x2048x128.size inb_S5x2176x128_S1x2048x128_4_0_0, k0_pay1 (bodyRun.sl.r_15 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14)⟩, ⟨Rect.unit (s := S5x2176x128) ![3, 2064, 0] S1x112x128.size inb_S5x2176x128_S1x112x128_3_2064_0, k0_pay160⟩, ⟨Rect.unit (s := S5x2176x128) ![3, 2048, 0] S1x16x128.size inb_S5x2176x128_S1x16x128_3_2048_0, k0_pay159 (bodyRun.sl.r_13 arg1 f1) (bodyRun.sl.v365 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14)⟩, ⟨Rect.unit (s := S5x2176x128) ![3, 0, 0] S1x2048x128.size inb_S5x2176x128_S1x2048x128_3_0_0, k0_pay158 (bodyRun.sl.r_12 arg1 f1) (bodyRun.sl.v363 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f11 f13 f14)⟩, ⟨Rect.unit (s := S5x2176x128) ![2, 2064, 0] S1x112x128.size inb_S5x2176x128_S1x112x128_2_2064_0, k0_pay104⟩, ⟨Rect.unit (s := S5x2176x128) ![2, 2048, 0] S1x16x128.size inb_S5x2176x128_S1x16x128_2_2048_0, k0_pay103 (bodyRun.sl.r_7 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14)⟩, ⟨Rect.unit (s := S5x2176x128) ![2, 0, 0] S1x2048x128.size inb_S5x2176x128_S1x2048x128_2_0_0, k0_pay102 (bodyRun.sl.r_8 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14)⟩, ⟨Rect.unit (s := S5x2176x128) ![1, 2064, 0] S1x112x128.size inb_S5x2176x128_S1x112x128_1_2064_0, k0_pay99⟩, ⟨Rect.unit (s := S5x2176x128) ![1, 2048, 0] S1x16x128.size inb_S5x2176x128_S1x16x128_1_2048_0, k0_pay98 (bodyRun.sl.v105 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14) (View.readAt (Elt F) arg1.view (Rect.unit (s := S5x2176x128) ![2, 2048, 0] S1x16x128.size inb_S5x2176x128_S1x16x128_2_2048_0).toLoadRect f1)⟩, ⟨Rect.unit (s := S5x2176x128) ![1, 0, 0] S1x2048x128.size inb_S5x2176x128_S1x2048x128_1_0_0, k0_pay97 (bodyRun.sl.v101 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13 f14) (View.readAt (Elt F) arg1.view (Rect.unit (s := S5x2176x128) ![2, 0, 0] S1x2048x128.size inb_S5x2176x128_S1x2048x128_2_0_0).toLoadRect f1)⟩, ⟨Rect.unit (s := S5x2176x128) ![0, 2064, 0] S1x112x128.size inb_S5x2176x128_S1x112x128_0_2064_0, k0_pay85⟩, ⟨Rect.unit (s := S5x2176x128) ![0, 2048, 0] S1x16x128.size inb_S5x2176x128_S1x16x128_0_2048_0, k0_pay84 (bodyRun.sl.r_5 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13)⟩, ⟨Rect.unit (s := S5x2176x128) ![0, 0, 0] S1x2048x128.size inb_S5x2176x128_S1x2048x128_0_0_0, bodyRun.sl.r_6 c i arg1 harg1 arg2 harg2 arg3 harg3 arg4 harg4 arg5 harg5 arg6 harg6 arg7 harg7 arg8 harg8 arg9 harg9 arg10 harg10 arg11 harg11 arg12 harg12 arg13 harg13 arg14 harg14 f1 f2 f4 f11 f13⟩] := rfl

/-- The first result's block. -/
theorem read5 (y : S5x2176x128.Idx) : arg5.view.read (Elt F) (bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).1.1 y = out5 (arg1.view.read (Elt F) f1) (arg2.view.read (Elt F) f2) (arg3.view.read (Elt F) f3) (arg4.view.read (Elt F) f4) y := by
  rw [list5]
  have hp : (y 0).val < 5 := (y 0).isLt
  have hr : (y 1).val < 2176 := (y 1).isLt
  unfold out5
  obtain h0 | h0 | h0 | h0 | h0 : (y 0).val = 0 ∨ (y 0).val = 1 ∨ (y 0).val = 2 ∨ (y 0).val = 3 ∨ (y 0).val = 4 := by omega
  · rw [h0]
    obtain h1 | h1 | h1 : (y 1).val < 2048 ∨ (2048 ≤ (y 1).val ∧ (y 1).val < 2064) ∨ 2064 ≤ (y 1).val := by omega
    · rw [if_pos (by omega : (y 1).val < 2064)]
      repeat refine (skip5 _ _ _ _ _ _ _ _ _ (by omega)).trans ?_
      exact hit5 _ _ 0 0 2048 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 0 r l)) fun a l => by apply val5_0_0
    · rw [if_pos (by omega : (y 1).val < 2064)]
      repeat refine (skip5 _ _ _ _ _ _ _ _ _ (by omega)).trans ?_
      exact hit5 _ _ 0 2048 16 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 0 r l)) fun a l => by apply val5_0_2048
    · rw [if_neg (by omega : ¬ (y 1).val < 2064)]
      repeat refine (skip5 _ _ _ _ _ _ _ _ _ (by omega)).trans ?_
      exact hit5 _ _ 0 2064 112 _ _ _ _ h0 (by omega) (by omega) (fun _ _ => FloatOps.ofBits .bf16 0x0000#16) fun a l => rfl
  · rw [h0]
    obtain h1 | h1 | h1 : (y 1).val < 2048 ∨ (2048 ≤ (y 1).val ∧ (y 1).val < 2064) ∨ 2064 ≤ (y 1).val := by omega
    · rw [if_pos (by omega : (y 1).val < 2064)]
      repeat refine (skip5 _ _ _ _ _ _ _ _ _ (by omega)).trans ?_
      exact hit5 _ _ 1 0 2048 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 1 r l)) fun a l => by apply val5_1_0
    · rw [if_pos (by omega : (y 1).val < 2064)]
      repeat refine (skip5 _ _ _ _ _ _ _ _ _ (by omega)).trans ?_
      exact hit5 _ _ 1 2048 16 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 1 r l)) fun a l => by apply val5_1_2048
    · rw [if_neg (by omega : ¬ (y 1).val < 2064)]
      repeat refine (skip5 _ _ _ _ _ _ _ _ _ (by omega)).trans ?_
      exact hit5 _ _ 1 2064 112 _ _ _ _ h0 (by omega) (by omega) (fun _ _ => FloatOps.ofBits .bf16 0x0000#16) fun a l => rfl
  · rw [h0]
    obtain h1 | h1 | h1 : (y 1).val < 2048 ∨ (2048 ≤ (y 1).val ∧ (y 1).val < 2064) ∨ 2064 ≤ (y 1).val := by omega
    · rw [if_pos (by omega : (y 1).val < 2064)]
      repeat refine (skip5 _ _ _ _ _ _ _ _ _ (by omega)).trans ?_
      exact hit5 _ _ 2 0 2048 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 2 r l)) fun a l => by apply val5_2_0
    · rw [if_pos (by omega : (y 1).val < 2064)]
      repeat refine (skip5 _ _ _ _ _ _ _ _ _ (by omega)).trans ?_
      exact hit5 _ _ 2 2048 16 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 2 r l)) fun a l => by apply val5_2_2048
    · rw [if_neg (by omega : ¬ (y 1).val < 2064)]
      repeat refine (skip5 _ _ _ _ _ _ _ _ _ (by omega)).trans ?_
      exact hit5 _ _ 2 2064 112 _ _ _ _ h0 (by omega) (by omega) (fun _ _ => FloatOps.ofBits .bf16 0x0000#16) fun a l => rfl
  · rw [h0]
    obtain h1 | h1 | h1 : (y 1).val < 2048 ∨ (2048 ≤ (y 1).val ∧ (y 1).val < 2064) ∨ 2064 ≤ (y 1).val := by omega
    · rw [if_pos (by omega : (y 1).val < 2064)]
      repeat refine (skip5 _ _ _ _ _ _ _ _ _ (by omega)).trans ?_
      exact hit5 _ _ 3 0 2048 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 3 r l)) fun a l => by apply val5_3_0
    · rw [if_pos (by omega : (y 1).val < 2064)]
      repeat refine (skip5 _ _ _ _ _ _ _ _ _ (by omega)).trans ?_
      exact hit5 _ _ 3 2048 16 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 3 r l)) fun a l => by apply val5_3_2048
    · rw [if_neg (by omega : ¬ (y 1).val < 2064)]
      repeat refine (skip5 _ _ _ _ _ _ _ _ _ (by omega)).trans ?_
      exact hit5 _ _ 3 2064 112 _ _ _ _ h0 (by omega) (by omega) (fun _ _ => FloatOps.ofBits .bf16 0x0000#16) fun a l => rfl
  · rw [h0]
    obtain h1 | h1 | h1 : (y 1).val < 2048 ∨ (2048 ≤ (y 1).val ∧ (y 1).val < 2064) ∨ 2064 ≤ (y 1).val := by omega
    · rw [if_pos (by omega : (y 1).val < 2064)]
      repeat refine (skip5 _ _ _ _ _ _ _ _ _ (by omega)).trans ?_
      exact hit5 _ _ 4 0 2048 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 4 r l)) fun a l => by apply val5_4_0
    · rw [if_pos (by omega : (y 1).val < 2064)]
      refine (skip5 _ _ _ _ _ _ _ _ _ (by omega)).trans ?_
      exact hit5 _ _ 4 2048 16 _ _ _ _ h0 (by omega) (by omega) (fun r l => FloatOps.truncf .bf16 bitsLt_bf16_f32 (out5f (arg1.view.read (Elt F) f1) (arg2.view.read (Elt F) f2) (arg3.view.read (Elt F) f3) (arg4.view.read (Elt F) f4) 4 r l)) fun a l => by apply val5_4_2048
    · rw [if_neg (by omega : ¬ (y 1).val < 2064)]
      exact hit5 _ _ 4 2064 112 _ _ _ _ h0 (by omega) (by omega) (fun _ _ => FloatOps.ofBits .bf16 0x0000#16) fun a l => rfl

end

end Cert.Proof.Conv

end
-- ==== Proof.Run.lean ====
module

public import proofs.«01_k».proof.Proof.Gen.KernelIdeal.Loops
public import proofs.«01_k».proof.Proof.Gen.KernelIdeal.Frame
public import proofs.«01_k».proof.Proof.Gen.KernelIdeal.Skeleton
public import Idealize.ShloMosaic.Lib.Tactic
public import Idealize.ShloMosaic.PureOps.BitExact
public import proofs.«01_k».proof.Proof.Out

@[expose] public section

set_option maxRecDepth 16384

noncomputable section

namespace Cert.Proof.Conv

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The body over blocks: from the four input blocks and any contents elsewhere it leaves the inputs as they were and
    the four output blocks at `out5` … `out8` of them. -/
theorem body_owns (c : Dev nD) (i : grid0.Coords) (arg1 : Memref sig .tc .vmem S5x2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S1x64x256 .f32) (harg4 : arg4.IsWhole) (arg5 : Memref sig .tc .vmem S5x2176x128 .bf16) (harg5 : arg5.IsWhole) (arg6 : Memref sig .tc .vmem S3x128 .f32) (harg6 : arg6.IsWhole) (arg7 : Memref sig .tc .vmem S31x128 .f32) (harg7 : arg7.IsWhole) (arg8 : Memref sig .tc .vmem S1x128 .f32) (harg8 : arg8.IsWhole) (arg9 : Memref sig .tc .vmem S2128x128 .f32) (harg9 : arg9.IsWhole) (arg10 : Memref sig .tc .vmem S2128x128 .f32) (harg10 : arg10.IsWhole) (arg11 : Memref sig .tc .vmem S2128x128 .f32) (harg11 : arg11.IsWhole) (arg12 : Memref sig .tc .vmem S248x128 .f32) (harg12 : arg12.IsWhole) (arg13 : Memref sig .tc .vmem S7x2128x128 .f32) (harg13 : arg13.IsWhole) (arg14 : Memref sig .tc .vmem S7x2128x128 .f32) (harg14 : arg14.IsWhole)
    (x1 : S5x2176x128.Idx → F .f32) (x2 x3 : S2176x128.Idx → F .f32) (x4 : S1x64x256.Idx → F .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ g : BufTy.Contents (Elt F) arg9.view.ty, (arg9.view.loc (c : Thread nD τ) ↦[arg9.view.set]{fullShare} g)) ∗ (∃ g : BufTy.Contents (Elt F) arg10.view.ty, (arg10.view.loc (c : Thread nD τ) ↦[arg10.view.set]{fullShare} g)) ∗ (∃ g : BufTy.Contents (Elt F) arg11.view.ty, (arg11.view.loc (c : Thread nD τ) ↦[arg11.view.set]{fullShare} g)) ∗ (∃ g : BufTy.Contents (Elt F) arg12.view.ty, (arg12.view.loc (c : Thread nD τ) ↦[arg12.view.set]{fullShare} g)) ∗ (∃ g : BufTy.Contents (Elt F) arg13.view.ty, (arg13.view.loc (c : Thread nD τ) ↦[arg13.view.set]{fullShare} g)) ∗ (∃ g : BufTy.Contents (Elt F) arg14.view.ty, (arg14.view.loc (c : Thread nD τ) ↦[arg14.view.set]{fullShare} g)) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out5 x1 x2 x3 x4) ∗ owns (c : Thread nD τ) arg6 fullShare (out6 x1 x2) ∗ owns (c : Thread nD τ) arg7 fullShare (out7 x1 x3) ∗ owns (c : Thread nD τ) arg8 fullShare (out8 x3) ∗ (∃ g : BufTy.Contents (Elt F) arg9.view.ty, (arg9.view.loc (c : Thread nD τ) ↦[arg9.view.set]{fullShare} g)) ∗ (∃ g : BufTy.Contents (Elt F) arg10.view.ty, (arg10.view.loc (c : Thread nD τ) ↦[arg10.view.set]{fullShare} g)) ∗ (∃ g : BufTy.Contents (Elt F) arg11.view.ty, (arg11.view.loc (c : Thread nD τ) ↦[arg11.view.set]{fullShare} g)) ∗ (∃ g : BufTy.Contents (Elt F) arg12.view.ty, (arg12.view.loc (c : Thread nD τ) ↦[arg12.view.set]{fullShare} g)) ∗ (∃ g : BufTy.Contents (Elt F) arg13.view.ty, (arg13.view.loc (c : Thread nD τ) ↦[arg13.view.set]{fullShare} g)) ∗ (∃ g : BufTy.Contents (Elt F) arg14.view.ty, (arg14.view.loc (c : Thread nD τ) ↦[arg14.view.set]{fullShare} g))) -∗ K ⟨⟩))
      ⊢ wp frame (wpE (defs₀ (F := F)) 𝒱₀ (c : Thread nD τ) none) E (cc0_mix_conv_bwd i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %e1, H1⟩, ⟨%f2, %e2, H2⟩, ⟨%f3, %e3, H3⟩, ⟨%f4, %e4, H4⟩, ⟨%d5, %f5, %e5, H5⟩, ⟨%d6, %f6, %e6, H6⟩, ⟨%d7, %f7, %e7, H7⟩, ⟨%d8, %f8, %e8, H8⟩, ⟨%f9, H9⟩, ⟨%f10, H10⟩, ⟨%f11, H11⟩, ⟨%f12, H12⟩, ⟨%f13, H13⟩, ⟨%f14, H14⟩, HK⟩
  subst e1 e2 e3 e4
  iapply ((bodyRun c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14).2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H9, H10, H11, H12, H13, H14⟩
  iapply HK
  isplitl [H1]
  · iexists _; isplitr [H1]
    · ipureintro; rfl
    iexact H1
  isplitl [H2]
  · iexists _; isplitr [H2]
    · ipureintro; rfl
    iexact H2
  isplitl [H3]
  · iexists _; isplitr [H3]
    · ipureintro; rfl
    iexact H3
  isplitl [H4]
  · iexists _; isplitr [H4]
    · ipureintro; rfl
    iexact H4
  isplitl [H5]
  · iexists _; isplitr [H5]
    · ipureintro; exact funext fun y => read5 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 y
    iexact H5
  isplitl [H6]
  · iexists _; isplitr [H6]
    · ipureintro; exact funext fun y => read6 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 y
    iexact H6
  isplitl [H7]
  · iexists _; isplitr [H7]
    · ipureintro; exact funext fun y => read7 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 y
    iexact H7
  isplitl [H8]
  · iexists _; isplitr [H8]
    · ipureintro; exact funext fun y => read8 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 y
    iexact H8
  isplitl [H9]; · iexact H9
  isplitl [H10]; · iexact H10
  isplitl [H11]; · iexact H11
  isplitl [H12]; · iexact H12
  isplitl [H13]; · iexact H13
  iexact H14

variable (m : (ℓ : Loc nD τ sig) → Buf (Elt F) ℓ) (ρ : Dev nD → PrngReg)

/-- The pipeline's proof data: after the body each input's buffer is at its block and each result's at the value the
    body computes from the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out5 (iblk m c 0 t) (iblk m c 1 t) (iblk m c 2 t) (iblk m c 3 t)
    | ⟨5, _⟩ => out6 (iblk m c 0 t) (iblk m c 1 t)
    | ⟨6, _⟩ => out7 (iblk m c 0 t) (iblk m c 2 t)
    | ⟨7, _⟩ => out8 (iblk m c 2 t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out5 (iblk m c 0 t) (iblk m c 1 t) (iblk m c 2 t) (iblk m c 3 t) := by dsimp only [dats]
theorem after0_5 (c : Dev nD) (t : Fin cfg0.N) : (dats m 0 c).after 5 t = out6 (iblk m c 0 t) (iblk m c 1 t) := by dsimp only [dats]
theorem after0_6 (c : Dev nD) (t : Fin cfg0.N) : (dats m 0 c).after 6 t = out7 (iblk m c 0 t) (iblk m c 2 t) := by dsimp only [dats]
theorem after0_7 (c : Dev nD) (t : Fin cfg0.N) : (dats m 0 c).after 7 t = out8 (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The region's body obligation at every grid point: the four input windows hold their blocks, the six scratch buffers
    come from the invariant and go back into it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7]
  unfold Pipeline.ΦA
  rw [scopedRest0_eq]
  iintro ⟨⟨⟨⟨%f9, H9⟩, ⟨%f10, H10⟩, ⟨%f11, H11⟩, ⟨%f12, H12⟩, ⟨%f13, H13⟩, ⟨%f14, H14⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_owns c _ _ _ _ _ _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H9]; · iexists f9; simp only [Memref.view_whole, View.set_whole]; iexact H9
  isplitl [H10]; · iexists f10; simp only [Memref.view_whole, View.set_whole]; iexact H10
  isplitl [H11]; · iexists f11; simp only [Memref.view_whole, View.set_whole]; iexact H11
  isplitl [H12]; · iexists f12; simp only [Memref.view_whole, View.set_whole]; iexact H12
  isplitl [H13]; · iexists f13; simp only [Memref.view_whole, View.set_whole]; iexact H13
  isplitl [H14]; · iexists f14; simp only [Memref.view_whole, View.set_whole]; iexact H14
  iintro ⟨H0, H1, H2, H3, H4, H5, H6, H7, ⟨%g9, H9⟩, ⟨%g10, H10⟩, ⟨%g11, H11⟩, ⟨%g12, H12⟩, ⟨%g13, H13⟩, ⟨%g14, H14⟩⟩
  simp only [Memref.view_whole, View.set_whole]
  isplitl [H9 H10 H11 H12 H13 H14 Hr]
  · isplitr [Hr]
    · isplitl [H9]; · iexists g9; iexact H9
      isplitl [H10]; · iexists g10; iexact H10
      isplitl [H11]; · iexists g11; iexact H11
      isplitl [H12]; · iexists g12; iexact H12
      isplitl [H13]; · iexists g13; iexact H13
      iexists g14; iexact H14
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- From any memory with zero counters every execution of the program terminates, with every array of the pipeline at
    what the proof data say and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.Conv

end
-- ==== Proof.Frames.lean ====
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Proof.Conv

open Idealize.ShloMosaic Idealize.SL.Sem

/-- The frame of the program over extended reals: the run, read at the argument arrays. -/
theorem frame_ideal : Cert.quiescent_KernelIdeal (hKernelIdeal := Cert.KernelIdeal.Gen.facts) := fun m ρ _ =>
  θ_run_with_sems (Cert.KernelIdeal.Gen.frame_of m ρ (dats m) fun _ _ => rfl) (run_main (F := Ideal) m ρ)

section
attribute [local instance] Cert.Kernel.Gen.facts Cert.KernelIdeal.Gen.facts

/-- The two programs' kernel tables are the same. -/
theorem defs₀_same : Cert.Kernel.defs₀ (F := Bits) = Cert.KernelIdeal.defs₀ (F := Bits) := by
  refine congrArg Defs.onTc (funext fun ℓ => ?_)
  match ℓ with
  | 0 => rfl

/-- The two programs' body tables are the same. -/
theorem defs_same : Cert.Kernel.defs (F := Bits) = Cert.KernelIdeal.defs (F := Bits) :=
  congrArg (Pipeline.defs (Cert.KernelIdeal.pcfgs (F := Bits))) defs₀_same

set_option maxHeartbeats 2000000 in
/-- The two programs' main functions are the same. -/
theorem main_same : Cert.Kernel.main (F := Bits) = Cert.KernelIdeal.main (F := Bits) := rfl

end

set_option maxHeartbeats 2000000 in
/-- The frame of the program over machine words, by the same run at the other instance. -/
theorem frame_kernel : Cert.quiescent_Kernel (hKernel := Cert.Kernel.Gen.facts) := fun m ρ _ => by
  rw [defs_same, main_same]
  exact (θ_run Cert.KernelIdeal.defs _ _).mono (fun _ h => h)
    (θ_run_with_sems (Cert.KernelIdeal.Gen.frame_of m ρ (dats m) fun _ _ => rfl) (run_main (F := Bits) m ρ))

/-- The frame of the reference: its run leaves the arguments, and it has no semaphore at all. -/
theorem frame_reference : Cert.quiescent_ReferenceIdeal (hReferenceIdeal := Cert.ReferenceIdeal.Gen.facts) := fun m ρ _ =>
  (θ_run Cert.ReferenceIdeal.defs _ _).mono
    (fun r h => ⟨fun c => ⟨(h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.ReferenceIdeal.Value.run (F := Ideal) m ρ)

end Cert.Proof.Conv

end
-- ==== Proof.Sums.lean ====
module

public import proofs.«01_k».proof.Proof.Out
public import Idealize.ShloMosaic.Lib.Pointwise
public import Mathlib.Algebra.BigOperators.Group.Finset.Basic
public import Mathlib.Algebra.BigOperators.Intervals

@[expose] public section

noncomputable section

namespace Cert.Proof.Conv

open Idealize.ShloMosaic
open Finset (range sum_congr sum_range_succ sum_comm mem_range)

/-- The reordered sequence's row `t` as a row of the stored array: the 16 leading positions lie from row 2048 on. -/
def row (t : ℕ) : ℕ := if t < 16 then 2048 + t else t - 16

/-- A sequence of 2064 values, stored in an array's rows, with zeros on both sides: value `t` at `32 + t`. -/
def zext (f : ℕ → EReal) (r : ℕ) : EReal :=
  if r < 32 then 0 else if r < 48 then f (2048 + (r - 32)) else if r < 2096 then f (r - 48) else 0

theorem zext_low (f : ℕ → EReal) {r : ℕ} (h : r < 32) : zext f r = 0 := if_pos h

theorem zext_high (f : ℕ → EReal) {r : ℕ} (h : 2096 ≤ r) : zext f r = 0 := by
  unfold zext
  rw [if_neg (by omega), if_neg (by omega), if_neg (by omega)]

theorem zext_mid (f : ℕ → EReal) {t : ℕ} (h : t < 2064) : zext f (32 + t) = f (row t) := by
  unfold zext row
  by_cases h' : t < 16
  · rw [if_neg (by omega), if_pos (by omega), if_pos h']
    congr 1
    omega
  · rw [if_neg (by omega), if_neg (by omega), if_pos (by omega), if_neg h']
    congr 1
    omega

theorem z32_ideal : (z32 : Ideal .f32) = (0 : EReal) := Ideal.ofBits_zero_f32

/-- A buffer's row is the extended sequence of its column. -/
theorem seqF_ideal (f : ℕ → Fin 128 → Ideal .f32) (r : ℕ) (l : Fin 128) : seqF (F := Ideal) f r l = zext (fun r => f r l) r := by
  unfold seqF zext
  rw [z32_ideal]

/-- A running sum is a sum. -/
theorem lfold_ideal (f : ℕ → Ideal .f32) (n : ℕ) : lfold (F := Ideal) z32 f n = ∑ k ∈ range n, (f k : EReal) := by
  induction n with
  | zero => exact z32_ideal
  | succ n ih =>
    rw [sum_range_succ, ← ih]
    rfl

theorem six_ideal (f : ℕ → Ideal .f32) : six (F := Ideal) f = ∑ k ∈ range 6, (f k : EReal) := by
  simp only [sum_range_succ, Finset.sum_range_zero, zero_add]
  rfl

/-- A sum over `a` blocks of `b`. -/
theorem sum_blocks (f : ℕ → EReal) (a b : ℕ) : ∑ t ∈ range (a * b), f t = ∑ j ∈ range a, ∑ i ∈ range b, f (b * j + i) := by
  induction a with
  | zero => simp
  | succ a ih => rw [Nat.add_mul, Nat.one_mul, Finset.sum_range_add, ih, sum_range_succ, Nat.mul_comm a b]

/-- The eight partial sums over the rows of one residue modulo 8 are the sum over all 2064 rows. -/
theorem acc_sum (p q : ℕ → Fin 128 → Ideal .f32) (o : ℕ) (l : Fin 128) :
    ∑ a ∈ range 8, (acc (F := Ideal) p q o 43 a l : EReal) = ∑ t ∈ range 2064, (p (32 + t) l * q (o + t) l : EReal) := by
  rw [show (2064 : ℕ) = 43 * 48 from rfl, sum_blocks]
  have h : ∀ a, (acc (F := Ideal) p q o 43 a l : EReal)
      = ∑ k ∈ range 43, ∑ g ∈ range 6, (p (32 + (48 * k + (8 * g + a))) l * q (o + (48 * k + (8 * g + a))) l : EReal) := fun a => by
    unfold acc
    rw [lfold_ideal]
    refine sum_congr rfl fun k _ => ?_
    rw [six_ideal]
    refine sum_congr rfl fun g _ => ?_
    rw [show 48 * k + 32 + (8 * g + a) = 32 + (48 * k + (8 * g + a)) by omega, show 48 * k + o + (8 * g + a) = o + (48 * k + (8 * g + a)) by omega]
    rfl
  simp only [h]
  rw [sum_comm]
  refine sum_congr rfl fun k _ => ?_
  rw [sum_comm, show (48 : ℕ) = 6 * 8 from rfl, sum_blocks]

/-- Two extended sequences against each other: the second moved down by `n` is the first moved up by `n`. -/
theorem corr_sum (f g : ℕ → EReal) (n : ℕ) (hn : n ≤ 30) :
    ∑ t ∈ range 2064, zext f (32 + t) * zext g (32 + n + t) = ∑ t ∈ range 2064, zext g (32 + t) * zext f (32 - n + t) := by
  rw [show (2064 : ℕ) = (2064 - n) + n by omega, Finset.sum_range_add]
  rw [show (∑ x ∈ range n, zext f (32 + (2064 - n + x)) * zext g (32 + n + (2064 - n + x))) = 0 from
    Finset.sum_eq_zero fun x _ => by rw [zext_high g (by omega), mul_zero], add_zero]
  rw [Nat.add_comm (2064 - n) n, Finset.sum_range_add]
  rw [show (∑ x ∈ range n, zext g (32 + x) * zext f (32 - n + x)) = 0 from
    Finset.sum_eq_zero fun x hx => by rw [zext_low f (by have := mem_range.1 hx; omega), mul_zero], zero_add]
  refine sum_congr rfl fun t _ => ?_
  rw [mul_comm, show 32 + n + t = 32 + (n + t) by omega, show 32 - n + (n + t) = 32 + t by omega]

/-- A sum over the reordered rows is the sum over the stored rows below 2064. -/
theorem row_sum (f : ℕ → EReal) : ∑ t ∈ range 2064, f (row t) = (∑ r ∈ range 2048, f r) + ∑ r ∈ range 16, f (2048 + r) := by
  rw [show (2064 : ℕ) = 16 + 2048 from rfl, Finset.sum_range_add, add_comm]
  refine congrArg₂ (· + ·) (sum_congr rfl fun t _ => ?_) (sum_congr rfl fun t ht => ?_)
  · unfold row
    rw [if_neg (by omega), show 16 + t - 16 = t by omega]
  · unfold row
    rw [if_pos (mem_range.1 ht)]

end Cert.Proof.Conv

end
-- ==== Proof.Math.lean ====
module

public import proofs.«01_k».proof.Proof.Sums

@[expose] public section

noncomputable section

namespace Cert.Proof.Conv

open Idealize.ShloMosaic
open Finset (range)

/-! The backward pass of the two gated convolutions in one column, over the 2064 rows in the sequence's order.  `P p r` is
plane `p` of the forward's arrays at the stored row `r`, `D` and `Z` the two cotangents, `A` and `B` the taps. -/

/-- The sigmoid as the programs compute it. -/
def gate (x : EReal) : EReal := Ideal.div 1 (1 + Ideal.exp (-x))

/-- The short convolution's input. -/
def cU (P : ℕ → ℕ → EReal) (r : ℕ) : EReal := P 1 r * P 2 r

/-- The long convolution's input. -/
def cG (P : ℕ → ℕ → EReal) (r : ℕ) : EReal := P 3 r * gate (P 4 r)

/-- The cotangent of the short convolution's result. -/
def cD (P : ℕ → ℕ → EReal) (D : ℕ → EReal) (r : ℕ) : EReal := D r * P 0 r

/-- The short convolution at row `t`. -/
def cFwd (P : ℕ → ℕ → EReal) (A : ℕ → EReal) (t : ℕ) : EReal := ∑ k ∈ range 3, A k * zext (cU P) (30 + t + k)

/-- The cotangent of the short convolution's input at row `t`. -/
def cDu (P : ℕ → ℕ → EReal) (D A : ℕ → EReal) (t : ℕ) : EReal := ∑ i ∈ range 3, A (2 - i) * zext (cD P D) (32 + t + i)

/-- The cotangent of the long convolution's input at row `t`. -/
def cDg (Z B : ℕ → EReal) (t : ℕ) : EReal := ∑ i ∈ range 31, B (30 - i) * zext Z (32 + t + i)

/-- The cotangent of plane `p` at row `t`. -/
def cotH (P : ℕ → ℕ → EReal) (D Z A B : ℕ → EReal) (t : ℕ) : ℕ → EReal
  | 0 => D (row t) * cFwd P A t
  | 1 => cDu P D A t * P 2 (row t)
  | 2 => P 1 (row t) * cDu P D A t
  | 3 => cDg Z B t * gate (P 4 (row t))
  | _ => P 3 (row t) * cDg Z B t * (gate (P 4 (row t)) * (1 - gate (P 4 (row t))))

/-- The place in the sequence of the stored row `y`. -/
def seqRow (y : ℕ) : ℕ := if y < 2048 then y + 16 else y - 2048

/-- The cotangent of tap `k` of the three. -/
def cotA (P : ℕ → ℕ → EReal) (D : ℕ → EReal) (k : ℕ) : EReal := ∑ t ∈ range 2064, cD P D (row t) * zext (cU P) (30 + k + t)

/-- The cotangent of tap `k` of the thirty-one. -/
def cotB (P : ℕ → ℕ → EReal) (Z : ℕ → EReal) (k : ℕ) : EReal := ∑ t ∈ range 2064, Z (row t) * zext (cG P) (2 + k + t)

/-- The cotangent of the bias. -/
def cotS (Z : ℕ → EReal) : EReal := ∑ t ∈ range 2064, Z (row t)

end Cert.Proof.Conv

end
-- ==== Proof.Cols.lean ====
module

public import proofs.«01_k».proof.Proof.Math

@[expose] public section

set_option maxRecDepth 16384

noncomputable section

namespace Cert.Proof.Conv

open Cert.KernelIdeal Cert.KernelIdeal.Gen
open Idealize.ShloMosaic
open Finset (range sum_congr)

/-! What the body leaves in its four result blocks, column by column, over extended reals. -/

variable (h : S5x2176x128.Idx → Ideal .f32) (d z : S2176x128.Idx → Ideal .f32) (w : S1x64x256.Idx → Ideal .f32) (l : Fin 128)

/-- The column's planes. -/
def bP (p r : ℕ) : EReal := pl h p r l

/-- A cotangent's column. -/
def bD (r : ℕ) : EReal := rw2 d r l

/-- The column's three taps. -/
def bA (k : ℕ) : EReal := wA w k l

/-- The column's thirty-one taps. -/
def bB (k : ℕ) : EReal := wB w k l

theorem one32_ideal : (one32 : Ideal .f32) = (1 : EReal) := Ideal.ofBits_one_f32

theorem sgF_ideal (r : ℕ) : (sgF h r l : EReal) = gate (bP h l 4 r) := by
  unfold sgF gate bP
  rw [one32_ideal, z32_ideal]
  show Ideal.div 1 (1 + Ideal.exp (0 - pl h 4 r l)) = _
  rw [zero_sub]

theorem seqU (r : ℕ) : (seqF (uF h) r l : EReal) = zext (cU (bP h l)) r := seqF_ideal _ r l

theorem seqD (r : ℕ) : (seqF (dF h d) r l : EReal) = zext (cD (bP h l) (bD d l)) r := seqF_ideal _ r l

theorem seqZ (r : ℕ) : (seqF (rw2 z) r l : EReal) = zext (bD z l) r := seqF_ideal _ r l

theorem seqG (r : ℕ) : (seqF (gF h) r l : EReal) = zext (cG (bP h l)) r := by
  rw [seqF_ideal]
  refine congrArg (fun f => zext f r) (funext fun r => ?_)
  show (pl h 3 r l * sgF h r l : EReal) = _
  rw [sgF_ideal]
  rfl

theorem pos_eq {y : ℕ} (hy : y < 2064) : pos y = 32 + seqRow y := by
  unfold pos seqRow
  split <;> omega

theorem row_seqRow {y : ℕ} (hy : y < 2064) : row (seqRow y) = y := by
  unfold row seqRow
  split <;> split <;> omega

theorem fwd3_ideal (r : ℕ) : (fwd3 (wA w) (seqF (uF h)) (30 + r) l : EReal) = cFwd (bP h l) (bA w l) r := by
  unfold fwd3 cFwd
  rw [lfold_ideal]
  refine sum_congr rfl fun k _ => ?_
  exact congrArg (fun x : EReal => (wA w k l : EReal) * x) (seqU h l _)

/-- A sum over the taps, the other way round. -/
theorem bwd_ideal (n : ℕ) (v s : ℕ → Fin 128 → Ideal .f32) (r : ℕ) : (bwd n v s r l : EReal) = ∑ i ∈ range (n + 1), (v (n - i) l * s (r + i) l : EReal) := by
  unfold bwd
  rw [lfold_ideal, ← Finset.sum_range_reflect]
  refine sum_congr rfl fun i hi => ?_
  have := Finset.mem_range.mp hi
  rw [show n + 1 - 1 - i = n - i by omega, show n - (n - i) = i by omega]
  rfl

theorem bwdA_ideal (r : ℕ) : (bwd 2 (wA w) (seqF (dF h d)) (32 + r) l : EReal) = cDu (bP h l) (bD d l) (bA w l) r := by
  rw [bwd_ideal]
  exact sum_congr rfl fun i _ => congrArg (fun x : EReal => (wA w (2 - i) l : EReal) * x) (seqD h d l _)

theorem bwdB_ideal (r : ℕ) : (bwd 30 (wB w) (seqF (rw2 z)) (32 + r) l : EReal) = cDg (bD z l) (bB w l) r := by
  rw [bwd_ideal]
  exact sum_congr rfl fun i _ => congrArg (fun x : EReal => (wB w (30 - i) l : EReal) * x) (seqZ z l _)

theorem out5f_ideal {y : ℕ} (hy : y < 2064) (p : ℕ) :
    (out5f h d z w p y l : EReal) = cotH (bP h l) (bD d l) (bD z l) (bA w l) (bB w l) (seqRow y) p := by
  unfold out5f cotH
  rw [pos_eq hy, row_seqRow hy, show 32 + seqRow y - 2 = 30 + seqRow y by omega]
  match p with
  | 0 =>
    show (rw2 d y l * fwd3 (wA w) (seqF (uF h)) (30 + seqRow y) l : EReal) = _
    rw [fwd3_ideal]
    rfl
  | 1 =>
    show (bwd 2 (wA w) (seqF (dF h d)) (32 + seqRow y) l * pl h 2 y l : EReal) = _
    rw [bwdA_ideal]
    rfl
  | 2 =>
    show (bwd 2 (wA w) (seqF (dF h d)) (32 + seqRow y) l * pl h 1 y l : EReal) = _
    rw [bwdA_ideal]
    exact mul_comm (G := EReal) _ _
  | 3 =>
    show (bwd 30 (wB w) (seqF (rw2 z)) (32 + seqRow y) l * sgF h y l : EReal) = _
    rw [bwdB_ideal, sgF_ideal]
    rfl
  | _ + 4 =>
    show (bwd 30 (wB w) (seqF (rw2 z)) (32 + seqRow y) l * pl h 3 y l * sgF h y l * ((one32 : Ideal .f32) - sgF h y l) : EReal) = _
    rw [bwdB_ideal, sgF_ideal, one32_ideal, mul_assoc, mul_comm (cDg _ _ _)]
    rfl

/-- The first block. -/
theorem out5_ideal (p : Fin 5) (y : Fin 2176) :
    (out5 h d z w (ix3 p y l) : EReal)
      = if y.val < 2064 then cotH (bP h l) (bD d l) (bD z l) (bA w l) (bB w l) (seqRow y.val) p.val else 0 := by
  by_cases hy : y.val < 2064
  · rw [if_pos hy, ← out5f_ideal h d z w l hy]
    exact if_pos hy
  · rw [if_neg hy]
    exact (if_neg hy).trans Ideal.ofBits_zero_bf16

/-- The sum of the eight partial sums. -/
theorem rows8 (u : S8x128.Idx → Ideal .f32) : ((k0_pay91 u : FVec Ideal S1x128 .f32) (ix2 0 l) : EReal) = ∑ a ∈ range 8, if h : a < 8 then (u (ix2 ⟨a, h⟩ l) : EReal) else 0 := by
  pointwise [k0_pay91]
  rw [Finset.sum_range]
  exact sum_congr rfl fun a _ => by rw [dif_pos a.isLt]

theorem out6_ideal (k : Fin 3) : (out6 h d (ix2 k l) : EReal) = cotA (bP h l) (bD d l) k.val := by
  refine (rows8 l _).trans ?_
  refine (sum_congr rfl fun a ha => dif_pos (Finset.mem_range.mp ha)).trans ((acc_sum _ _ _ l).trans ?_)
  refine sum_congr rfl fun t ht => ?_
  rw [seqD, seqU, zext_mid _ (Finset.mem_range.mp ht)]
  rfl

theorem out7_ideal (k : Fin 31) : (out7 h z (ix2 k l) : EReal) = cotB (bP h l) (bD z l) k.val := by
  refine (rows8 l _).trans ?_
  refine (sum_congr rfl fun a ha => dif_pos (Finset.mem_range.mp ha)).trans ((acc_sum _ _ _ l).trans ?_)
  have hk := k.isLt
  refine (sum_congr rfl fun t _ => ?_).trans ((corr_sum (cG (bP h l)) (bD z l) (30 - k.val) (by omega)).trans (sum_congr rfl fun t ht => ?_))
  · rw [seqG, seqZ]
    rfl
  · rw [zext_mid _ (Finset.mem_range.mp ht), show 32 - (30 - k.val) = 2 + k.val by omega]

theorem out8_ideal : (out8 z (ix2 0 l) : EReal) = cotS (bD z l) := by
  unfold cotS
  rw [row_sum, Finset.sum_range, Finset.sum_range]
  unfold out8
  pointwise [k0_pay112]
  rfl

end Cert.Proof.Conv

end
-- ==== Proof.Weights.lean ====
module

public import proofs.«01_k».proof.Proof.Run
public import Idealize.ShloMosaic.Lib.Routing.OpsOne
public import Idealize.ShloMosaic.Lib.Routing.OpsSet
public import Idealize.ShloMosaic.Lib.Pointwise
public import Idealize.ShloMosaic.Lib.StableHlo.RunRead

@[expose] public section

set_option maxRecDepth 16384

noncomputable section

namespace Cert.Proof.Conv

open Cert.KernelIdeal Cert.KernelIdeal.Gen
open Idealize.ShloMosaic Idealize.ShloMosaic.TcCoe Idealize.ShloMosaic.StableHlo Routing Idealize.SL

variable {F : FTy → Type} [FloatOps F]

/-- Where an update of `x.at[i : i + U, j : j + W].set(v)` lands: update `(k, l)` at the start words' row plus `k` and
    column plus `l`. -/
theorem lands_block {R C U W w : Nat} (d : ScatterDims (shape2 R C) (shape1 2) (shape2 U W)) (huw : d.updateWindowDims = [0, 1])
    (hiw : d.insertedWindowDims = []) (hsd : d.scatterDimsToOperandDims = [0, 1]) (hivd : d.indexVectorDim = 0)
    (idx : IVec (shape1 2) w) (k : Fin U) (l : Fin W) (r : Fin R) (c : Fin C) :
    d.resultIdx? (ix2 k l) idx = some (ix2 r c)
      ↔ (idx (ix1 (0 : Fin 2))).toInt + (k.val : Int) = r.val ∧ (idx (ix1 (1 : Fin 2))).toInt + (l.val : Int) = c.val := by
  have hk : d.sKept = [0, 1] := by
    show (shape2 R C).kept d.insertedWindowDims = _
    rw [hiw]
    rfl
  have hw0 : d.window (ix2 k l) 0 = k.val := by
    unfold ScatterDims.window
    rw [dif_pos (by rw [hk]; simp)]
    exact congrArg (fun t : Fin 2 => (ix2 k l t).val) (show _ = (0 : Fin 2) by simp [hk, huw])
  have hw1 : d.window (ix2 k l) 1 = l.val := by
    unfold ScatterDims.window
    rw [dif_pos (by rw [hk]; simp)]
    exact congrArg (fun t : Fin 2 => (ix2 k l t).val) (show _ = (1 : Fin 2) by simp [hk, huw])
  show d.resultIdx? _ _ = some (ValueIdx.ix2 r c) ↔ (idx (ValueIdx.ix1 (0 : Fin 2))).toInt + _ = _ ∧ (idx (ValueIdx.ix1 (1 : Fin 2))).toInt + _ = _
  rw [resultIdx?_ix2, start_pair d hsd hivd, start_pair d hsd hivd, hw0, hw1]

/-- The two index words of a block's start. -/
def startAt (r : BitVec 32) : IVec S2 32 :=
  concatenate S2 0 [⟨S1, broadcastInDim S1 ![] bcast_S_S1 (constantI S_ 32 r)⟩, ⟨S1, broadcastInDim S1 ![] bcast_S_S1 (constantI S_ 32 0#32)⟩]
    concatenates_S1_S1_S2_d0

/-- One chip's pack: zeros, with the first convolution's taps from row 16 and the second's from row 24. -/
def pack (a : S3x128.Idx → F .f32) (b : S31x128.Idx → F .f32) : S64x256.Idx → F .f32 :=
  Host.scatter scatter_S64x256_S2_S31x128_01_n_01_0 (fun _ b => b)
    (Host.scatter scatter_S64x256_S2_S3x128_01_n_01_0 (fun _ b => b) (broadcastInDim S64x256 ![] bcast_S_S64x256 (constant S_ .f32 0x00000000#32)) (startAt 16#32) a)
    (startAt 24#32) b

theorem startAt_row (r : BitVec 32) : startAt r (ix1 (0 : Fin 2)) = r := by
  unfold startAt
  pointwise

theorem startAt_col (r : BitVec 32) : startAt r (ix1 (1 : Fin 2)) = 0#32 := by
  unfold startAt
  pointwise

/-- A pack holds the first convolution's tap `k` in row `16 + k`. -/
theorem pack_a (a : S3x128.Idx → F .f32) (b : S31x128.Idx → F .f32) (k : Fin 3) (l : Fin 128) (r : Fin 64) (c : Fin 256)
    (hr : r.val = 16 + k.val) (hc : c.val = l.val) : pack a b (ix2 r c) = a (ix2 k l) := by
  unfold pack
  rw [scatter_set_miss]
  · refine scatter_set_hit _ _ _ _ _ _ (fun x hx => ?_) (ix2 k l) ?_
    · obtain ⟨k', l', rfl⟩ : ∃ k' l', x = ix2 k' l' := ⟨x 0, x 1, (Shape.idx_ext₂ rfl rfl)⟩
      rw [lands_block _ rfl rfl rfl rfl, startAt_row, startAt_col] at hx
      have h1 := hx.1
      have h2 := hx.2
      simp at h1 h2
      have : k' = k := Fin.ext (by omega)
      have : l' = l := Fin.ext (by omega)
      subst_vars
      rfl
    · rw [lands_block _ rfl rfl rfl rfl, startAt_row, startAt_col]
      simp
      omega
  · intro x hx
    obtain ⟨k', l', rfl⟩ : ∃ k' l', x = ix2 k' l' := ⟨x 0, x 1, (Shape.idx_ext₂ rfl rfl)⟩
    rw [lands_block _ rfl rfl rfl rfl, startAt_row, startAt_col] at hx
    have h1 := hx.1
    simp at h1
    omega

/-- A pack holds the second convolution's tap `k` in row `24 + k`. -/
theorem pack_b (a : S3x128.Idx → F .f32) (b : S31x128.Idx → F .f32) (k : Fin 31) (l : Fin 128) (r : Fin 64) (c : Fin 256)
    (hr : r.val = 24 + k.val) (hc : c.val = l.val) : pack a b (ix2 r c) = b (ix2 k l) := by
  unfold pack
  refine scatter_set_hit _ _ _ _ _ _ (fun x hx => ?_) (ix2 k l) ?_
  · obtain ⟨k', l', rfl⟩ : ∃ k' l', x = ix2 k' l' := ⟨x 0, x 1, (Shape.idx_ext₂ rfl rfl)⟩
    rw [lands_block _ rfl rfl rfl rfl, startAt_row, startAt_col] at hx
    have h1 := hx.1
    have h2 := hx.2
    simp at h1 h2
    have : k' = k := Fin.ext (by omega)
    have : l' = l := Fin.ext (by omega)
    subst_vars
    rfl
  · rw [lands_block _ rfl rfl rfl rfl, startAt_row, startAt_col]
    simp
    omega

/-- Four packs stacked depend on the four alone. -/
theorem concat_same {a b c d a' b' c' d' : S1x64x256.Idx → F .f32} (ha : a = a') (hb : b = b') (hc : c = c') (hd : d = d') :
    concatenate S4x64x256 0 [⟨S1x64x256, a⟩, ⟨S1x64x256, b⟩, ⟨S1x64x256, c⟩, ⟨S1x64x256, d⟩] concatenates_S1x64x256_S1x64x256_S1x64x256_S1x64x256_S4x64x256_d0
      = concatenate S4x64x256 0 [⟨S1x64x256, a'⟩, ⟨S1x64x256, b'⟩, ⟨S1x64x256, c'⟩, ⟨S1x64x256, d'⟩] concatenates_S1x64x256_S1x64x256_S1x64x256_S1x64x256_S4x64x256_d0 := by
  subst ha hb hc hd
  rfl

variable (m : (ℓ : Loc nD τ sig) → Buf (Elt F) ℓ)

/-- The packed array: the four chips' packs, of their columns of the two convolutions' taps. -/
theorem packs_eq (c : Dev nD) : V m c main_v48 =
    concatenate S4x64x256 0
      [⟨S1x64x256, broadcastInDim S1x64x256 ![1, 2] bcast_S64x256_S1x64x256_1_2
          (pack (extractStridedSlice S3x128 ![0, 0] (m ((c : Thread nD τ).loc main_arg3)) slices_S3x512_S3x128_0_0)
            (extractStridedSlice S31x128 ![0, 0] (m ((c : Thread nD τ).loc main_arg4)) slices_S31x512_S31x128_0_0))⟩,
        ⟨S1x64x256, broadcastInDim S1x64x256 ![1, 2] bcast_S64x256_S1x64x256_1_2
          (pack (extractStridedSlice S3x128 ![0, 128] (m ((c : Thread nD τ).loc main_arg3)) slices_S3x512_S3x128_0_128)
            (extractStridedSlice S31x128 ![0, 128] (m ((c : Thread nD τ).loc main_arg4)) slices_S31x512_S31x128_0_128))⟩,
        ⟨S1x64x256, broadcastInDim S1x64x256 ![1, 2] bcast_S64x256_S1x64x256_1_2
          (pack (extractStridedSlice S3x128 ![0, 256] (m ((c : Thread nD τ).loc main_arg3)) slices_S3x512_S3x128_0_256)
            (extractStridedSlice S31x128 ![0, 256] (m ((c : Thread nD τ).loc main_arg4)) slices_S31x512_S31x128_0_256))⟩,
        ⟨S1x64x256, broadcastInDim S1x64x256 ![1, 2] bcast_S64x256_S1x64x256_1_2
          (pack (extractStridedSlice S3x128 ![0, 384] (m ((c : Thread nD τ).loc main_arg3)) slices_S3x512_S3x128_0_384)
            (extractStridedSlice S31x128 ![0, 384] (m ((c : Thread nD τ).loc main_arg4)) slices_S31x512_S31x128_0_384))⟩]
      concatenates_S1x64x256_S1x64x256_S1x64x256_S1x64x256_S4x64x256_d0 := by
  unfold V
  after_reads_simp
  refine concat_same (a := upto hostOps0 (fun b => m (c, b)) 68 (Proc.tc.devRef main_v44)) (b := upto hostOps0 (fun b => m (c, b)) 68 (Proc.tc.devRef main_v45))
    (c := upto hostOps0 (fun b => m (c, b)) 68 (Proc.tc.devRef main_v46)) (d := upto hostOps0 (fun b => m (c, b)) 68 (Proc.tc.devRef main_v47)) ?_ ?_ ?_ ?_
  all_goals
    after_reads_simp
    rfl

/-- The packed array at chip `j`, row `16 + k`, column `l`: tap `k` of the first convolution at column `128 j + l`. -/
theorem packs_a (c : Dev nD) (j : Fin 4) (k : Fin 3) (l : Fin 128) (r : Fin 64) (x : Fin 256) (o : Fin 512)
    (hr : r.val = 16 + k.val) (hx : x.val = l.val) (ho : o.val = 128 * j.val + l.val) :
    V m c main_v48 (ix3 j r x) = m ((c : Thread nD τ).loc main_arg3) (ix2 k o) := by
  rw [packs_eq]
  obtain ⟨o, ho'⟩ := o
  simp only at ho
  subst ho
  fin_cases j
  all_goals
    pointwise
    rw [pack_a _ _ k l r x hr hx]
    pointwise

/-- The packed array at chip `j`, row `24 + k`, column `l`: tap `k` of the second convolution at column `128 j + l`. -/
theorem packs_b (c : Dev nD) (j : Fin 4) (k : Fin 31) (l : Fin 128) (r : Fin 64) (x : Fin 256) (o : Fin 512)
    (hr : r.val = 24 + k.val) (hx : x.val = l.val) (ho : o.val = 128 * j.val + l.val) :
    V m c main_v48 (ix3 j r x) = m ((c : Thread nD τ).loc main_arg4) (ix2 k o) := by
  rw [packs_eq]
  obtain ⟨o, ho'⟩ := o
  simp only at ho
  subst ho
  fin_cases j
  all_goals
    pointwise
    rw [pack_b _ _ k l r x hr hx]
    pointwise

end Cert.Proof.Conv

end
-- ==== Proof.RefRead.lean ====
module

public import proofs.«01_k».proof.Proof.Math
public import proofs.«01_k».proof.Proof.Gen.ReferenceIdeal
public import proofs.«01_k».proof.Proof.Gen.ReferenceIdeal.Run

@[expose] public section

set_option maxRecDepth 16384

noncomputable section

namespace Cert.Proof.Conv.Ref

open Cert.ReferenceIdeal Cert.ReferenceIdeal.Gen Cert.ReferenceIdeal.Value
open Idealize.ShloMosaic
open Finset (range sum_congr sum_range_succ)

/-- The value at plane `p`, row `r`, column `o` of a stack of five arrays, rows by number. -/
def arr3 (h : S5x2176x512.Idx → EReal) (o : Fin 512) (p r : ℕ) : EReal :=
  if hr : p < 5 ∧ r < 2176 then h (ix3 ⟨p, hr.1⟩ ⟨r, hr.2⟩ o) else 0

/-- The value at row `r`, column `o` of an array of 2176 rows, rows by number. -/
def arr2 (d : S2176x512.Idx → EReal) (o : Fin 512) (r : ℕ) : EReal := if hr : r < 2176 then d (ix2 ⟨r, hr⟩ o) else 0

/-- Tap `k`, column `o` of the three. -/
def tapA (w : S3x512.Idx → EReal) (o : Fin 512) (k : ℕ) : EReal := if hk : k < 3 then w (ix2 ⟨k, hk⟩ o) else 0

/-- Tap `k`, column `o` of the thirty-one. -/
def tapB (w : S31x512.Idx → EReal) (o : Fin 512) (k : ℕ) : EReal := if hk : k < 31 then w (ix2 ⟨k, hk⟩ o) else 0

variable (V0 : Valuation τ Cert.ReferenceIdeal.sig (Elt Ideal))

/-- The five arguments of a valuation. -/
abbrev aH : S5x2176x512.Idx → EReal := V0 (Proc.devRef .tc main_arg0)
abbrev aY : S2176x512.Idx → EReal := V0 (Proc.devRef .tc main_arg1)
abbrev aZ : S2176x512.Idx → EReal := V0 (Proc.devRef .tc main_arg2)
abbrev aA : S3x512.Idx → EReal := V0 (Proc.devRef .tc main_arg3)
abbrev aB : S31x512.Idx → EReal := V0 (Proc.devRef .tc main_arg4)

/-- The stack in the sequence's order. -/
theorem v3 (p : Fin 5) (t : Fin 2064) (o : Fin 512) : res_main_v3 (F := Ideal) V0 (ix3 p t o) = arr3 (aH V0) o p.val (row t.val) := by
  unfold res_main_v3 arr3 row
  have := t.isLt
  pointwise
  by_cases h : t.val < 16
  · simp only [dif_pos h, if_pos h]
    rw [dif_pos (by omega)]
  · simp only [dif_neg h, if_neg h]
    rw [dif_pos (by omega)]

theorem v5 (t : Fin 2064) (o : Fin 512) : res_main_v5 (F := Ideal) V0 (ix2 t o) = arr3 (aH V0) o 0 (row t.val) := by
  unfold res_main_v5
  pointwise
  exact v3 V0 0 t o

theorem v7 (t : Fin 2064) (o : Fin 512) : res_main_v7 (F := Ideal) V0 (ix2 t o) = arr3 (aH V0) o 1 (row t.val) := by
  unfold res_main_v7
  pointwise
  exact v3 V0 1 t o

theorem v9 (t : Fin 2064) (o : Fin 512) : res_main_v9 (F := Ideal) V0 (ix2 t o) = arr3 (aH V0) o 2 (row t.val) := by
  unfold res_main_v9
  pointwise
  exact v3 V0 2 t o

theorem v11 (t : Fin 2064) (o : Fin 512) : res_main_v11 (F := Ideal) V0 (ix2 t o) = arr3 (aH V0) o 3 (row t.val) := by
  unfold res_main_v11
  pointwise
  exact v3 V0 3 t o

/-- The gate. -/
theorem v46 (t : Fin 2064) (o : Fin 512) : res_main_v46 (F := Ideal) V0 (ix2 t o) = gate (arr3 (aH V0) o 4 (row t.val)) := by
  unfold res_main_v46 gate
  pointwise
  rw [v3 V0 4 t o]
  rfl

/-- A cotangent in the sequence's order. -/
theorem reorder (d : S2176x512.Idx → EReal) (t : Fin 2064) (o : Fin 512) :
    concatenate S2064x512 0 [⟨S16x512, extractStridedSlice S16x512 ![2048, 0] d slices_S2176x512_S16x512_2048_0⟩,
      ⟨S2048x512, extractStridedSlice S2048x512 ![0, 0] d slices_S2176x512_S2048x512_0_0⟩] concatenates_S16x512_S2048x512_S2064x512_d0 (ix2 t o)
      = arr2 d o (row t.val) := by
  unfold arr2 row
  have := t.isLt
  pointwise
  by_cases h : t.val < 16
  · simp only [dif_pos h, if_pos h]
    rw [dif_pos (by omega)]
  · simp only [dif_neg h, if_neg h]
    rw [dif_pos (by omega)]

theorem v276 (t : Fin 2064) (o : Fin 512) : res_main_v276 (F := Ideal) V0 (ix2 t o) = arr2 (aY V0) o (row t.val) := reorder _ t o

theorem v279 (t : Fin 2064) (o : Fin 512) : res_main_v279 (F := Ideal) V0 (ix2 t o) = arr2 (aZ V0) o (row t.val) := reorder _ t o

/-- The short convolution's input in column `o`. -/
abbrev uC (o : Fin 512) : ℕ → EReal := cU (arr3 (aH V0) o)

/-- The long convolution's input in column `o`. -/
abbrev gC (o : Fin 512) : ℕ → EReal := cG (arr3 (aH V0) o)

/-- The cotangent of the short convolution's result in column `o`. -/
abbrev dC (o : Fin 512) : ℕ → EReal := cD (arr3 (aH V0) o) (arr2 (aY V0) o)

theorem v626 (t : Fin 2064) (o : Fin 512) : res_main_v626 (F := Ideal) V0 (ix2 t o) = dC V0 o (row t.val) := by
  unfold res_main_v626 dC cD
  pointwise
  rw [v5, v276]
  exact mul_comm (G := EReal) _ _

/-- The short convolution's input behind its two zeros. -/
theorem v16 (q : Fin 2066) (o : Fin 512) : res_main_v16 (F := Ideal) V0 (ix2 q o) = zext (uC V0 o) (30 + q.val) := by
  unfold res_main_v16
  have := q.isLt
  pointwise
  by_cases h : q.val < 2
  · rw [dif_pos h, zext_low _ (by omega)]
  · rw [dif_neg h, v7, v9, show 30 + q.val = 32 + (q.val - 2) by omega, zext_mid _ (by omega)]
    rfl

/-- The long convolution's input behind its thirty zeros. -/
theorem v52 (q : Fin 2094) (o : Fin 512) : res_main_v52 (F := Ideal) V0 (ix2 q o) = zext (gC V0 o) (2 + q.val) := by
  unfold res_main_v52
  have := q.isLt
  pointwise
  by_cases h : q.val < 30
  · rw [dif_pos h, zext_low _ (by omega)]
  · rw [dif_neg h, v11, v46, show 2 + q.val = 32 + (q.val - 30) by omega, zext_mid _ (by omega)]
    rfl

/-- A cotangent at a row of the sequence, or zero outside it. -/
theorem inside {f : ℕ → EReal} {D : S2064x512.Idx → EReal} {o : Fin 512} (hD : ∀ t : Fin 2064, D (ix2 t o) = f (row t.val)) (j q : ℕ) :
    (if h : j ≤ q ∧ q - j < 2064 then D (ix2 ⟨q - j, h.2⟩ o) else 0) = zext f (32 + q - j) := by
  by_cases h : j ≤ q
  · by_cases h' : q - j < 2064
    · rw [dif_pos ⟨h, h'⟩, hD, show 32 + q - j = 32 + (q - j) by omega, zext_mid _ h']
    · rw [dif_neg (fun c => h' c.2), zext_high _ (by omega)]
  · rw [dif_neg (fun c => h c.1), zext_low _ (by omega)]

/-- Window `j` of the long convolution's input. -/
theorem slice_g (j : ℕ) (h : S2094x512.Slices ![j, 0] S2064x512) (t : Fin 2064) (o : Fin 512) :
    extractStridedSlice S2064x512 ![j, 0] (res_main_v52 (F := Ideal) V0) h (ix2 t o) = zext (gC V0 o) (2 + j + t.val) := by
  have hj : j + 2064 ≤ 2094 := h.2 0
  have := t.isLt
  pointwise
  rw [v52, Nat.add_assoc]

/-- Window `j` of the short convolution's input. -/
theorem slice_u (j : ℕ) (h : S2066x512.Slices ![j, 0] S2064x512) (t : Fin 2064) (o : Fin 512) :
    extractStridedSlice S2064x512 ![j, 0] (res_main_v16 (F := Ideal) V0) h (ix2 t o) = zext (uC V0 o) (30 + j + t.val) := by
  have hj : j + 2064 ≤ 2066 := h.2 0
  have := t.isLt
  pointwise
  rw [v16, Nat.add_assoc]

/-- Tap `j` of the long convolution, as a row. -/
theorem tap_b (j : ℕ) (h : S31x512.Slices ![j, 0] S1x512) (o : Fin 512) :
    broadcastInDim S1x512 ![1] bcast_S512_S1x512_1 (shapeCast _ (extractStridedSlice S1x512 ![j, 0] (V0 (Proc.devRef .tc main_arg4)) h) shapeCasts_S1x512_S512) (ix2 0 o)
      = tapB (aB V0) o j := by
  unfold tapB
  have hj : j + 1 ≤ 31 := h.2 0
  rw [dif_pos (by omega)]
  pointwise

/-- A product with a tap, moved by `j` rows into 2094. -/
theorem pad_tap (j e : ℕ) (W : S1x512.Idx → EReal) (D : S2064x512.Idx → EReal) (h : S2064x512.Pads ![j, 0] ![e, 0] ![0, 0] S2094x512) (q : Fin 2094) (o : Fin 512) :
    pad S2094x512 ![j, 0] ![e, 0] ![0, 0] (mulf (F := Ideal) (φ := .f32) (broadcastInDim S2064x512 ![0, 1] bcast_S1x512_S2064x512_0_1 W) D)
      (constant (F := Ideal) S_ .f32 0x00000000#32) h h_S_ (ix2 q o)
      = W (ix2 0 o) * (if h : j ≤ q.val ∧ q.val - j < 2064 then D (ix2 ⟨q.val - j, h.2⟩ o) else 0) := by
  pointwise
  split
  · rfl
  · exact (mul_zero (M₀ := EReal) _).symm

/-- A column sum of products, set into row `j` of 31. -/
theorem pad_col (j e : ℕ) (D S : S2064x512.Idx → EReal) (h : S1x512.Pads ![j, 0] ![e, 0] ![0, 0] S31x512) (k : Fin 31) (o : Fin 512) :
    pad S31x512 ![j, 0] ![e, 0] ![0, 0] (broadcastInDim S1x512 ![1] bcast_S512_S1x512_1 (Host.reduceAdd (F := Ideal) (φ := .f32) (shapeCast S1x512 (Host.reduceAdd (F := Ideal) (φ := .f32) (mulf (F := Ideal) (φ := .f32) D S) (constant S_ .f32 0x00000000#32) reducesTo_S2064x512_S512_d0 h_S_) shapeCasts_S512_S1x512) (constant S_ .f32 0x00000000#32) reducesTo_S1x512_S512_d0 h_S_))
      (constant (F := Ideal) S_ .f32 0x00000000#32) h h_S_ (ix2 k o)
      = if k.val = j then ∑ t : Fin 2064, D (ix2 t o) * S (ix2 t o) else 0 := by
  pointwise
  simp only [Finset.univ_unique, Finset.sum_singleton]
  by_cases hk : k.val = j
  · rw [dif_pos (by omega), if_pos hk]
  · rw [dif_neg (by omega), if_neg hk]

/-- A product with a tap, moved by `j` rows into 2066. -/
theorem pad_tap3 (j e : ℕ) (W : S1x512.Idx → EReal) (D : S2064x512.Idx → EReal) (h : S2064x512.Pads ![j, 0] ![e, 0] ![0, 0] S2066x512) (q : Fin 2066) (o : Fin 512) :
    pad S2066x512 ![j, 0] ![e, 0] ![0, 0] (mulf (F := Ideal) (φ := .f32) (broadcastInDim S2064x512 ![0, 1] bcast_S1x512_S2064x512_0_1 W) D)
      (constant (F := Ideal) S_ .f32 0x00000000#32) h h_S_ (ix2 q o)
      = W (ix2 0 o) * (if h : j ≤ q.val ∧ q.val - j < 2064 then D (ix2 ⟨q.val - j, h.2⟩ o) else 0) := by
  pointwise
  split
  · rfl
  · exact (mul_zero (M₀ := EReal) _).symm

/-- A column sum of products, set into row `j` of 3. -/
theorem pad_col3 (j e : ℕ) (D S : S2064x512.Idx → EReal) (h : S1x512.Pads ![j, 0] ![e, 0] ![0, 0] S3x512) (k : Fin 3) (o : Fin 512) :
    pad S3x512 ![j, 0] ![e, 0] ![0, 0] (broadcastInDim S1x512 ![1] bcast_S512_S1x512_1 (Host.reduceAdd (F := Ideal) (φ := .f32) (shapeCast S1x512 (Host.reduceAdd (F := Ideal) (φ := .f32) (mulf (F := Ideal) (φ := .f32) D S) (constant S_ .f32 0x00000000#32) reducesTo_S2064x512_S512_d0 h_S_) shapeCasts_S512_S1x512) (constant S_ .f32 0x00000000#32) reducesTo_S1x512_S512_d0 h_S_))
      (constant (F := Ideal) S_ .f32 0x00000000#32) h h_S_ (ix2 k o)
      = if k.val = j then ∑ t : Fin 2064, D (ix2 t o) * S (ix2 t o) else 0 := by
  pointwise
  simp only [Finset.univ_unique, Finset.sum_singleton]
  by_cases hk : k.val = j
  · rw [dif_pos (by omega), if_pos hk]
  · rw [dif_neg (by omega), if_neg hk]

end Cert.Proof.Conv.Ref

end
-- ==== Proof.Arrays.lean ====
module

public import proofs.«01_k».proof.Proof.Cols
public import proofs.«01_k».proof.Proof.Run
public import proofs.«01_k».proof.Proof.Weights
public import proofs.«01_k».proof.Proof.RefRead
public import Idealize.ShloMosaic.Lib.Pipeline.ValueKit

@[expose] public section

set_option maxRecDepth 16384

noncomputable section

namespace Cert.Proof.Conv

open Cert.KernelIdeal Cert.KernelIdeal.Gen
open Idealize.ShloMosaic Idealize.ShloMosaic.TcCoe
open Cert.Proof.Conv.Ref (arr3 arr2 tapA tapB)

/-! The kernel's result arrays after the run, over extended reals. -/

variable (m : (ℓ : Loc nD τ sig) → Buf (Elt Ideal) ℓ) (c : Dev nD)

/-- The five planes as the run finds them. -/
abbrev kH : S5x2176x512.Idx → EReal := m ((c : Thread nD τ).loc main_arg0)
/-- The gated branch's cotangent. -/
abbrev kY : S2176x512.Idx → EReal := m ((c : Thread nD τ).loc main_arg1)
/-- The convolution branch's cotangent. -/
abbrev kZ : S2176x512.Idx → EReal := m ((c : Thread nD τ).loc main_arg2)
/-- The three taps. -/
abbrev kA : S3x512.Idx → EReal := m ((c : Thread nD τ).loc main_arg3)
/-- The thirty-one taps. -/
abbrev kB : S31x512.Idx → EReal := m ((c : Thread nD τ).loc main_arg4)

/-- Column `l` of block `t`. -/
def col (t : Fin cfg0.N) (l : Fin 128) : Fin 512 := ⟨128 * t.val + l.val, by have h : t.val < 4 := t.isLt; have := l.isLt; omega⟩

theorem idx0 : ∀ t : Fin cfg0.N, win0_0.index t = ![0, 0, t.val] := by decide +kernel
theorem idx1 : ∀ t : Fin cfg0.N, win0_1.index t = ![0, t.val] := by decide +kernel
theorem idx2 : ∀ t : Fin cfg0.N, win0_2.index t = ![0, t.val] := by decide +kernel
theorem idx3 : ∀ t : Fin cfg0.N, win0_3.index t = ![t.val, 0, 0] := by decide +kernel
theorem idx4 : ∀ t : Fin cfg0.N, win0_4.index t = ![0, 0, t.val] := by decide +kernel
theorem idx5 : ∀ t : Fin cfg0.N, win0_5.index t = ![0, t.val] := by decide +kernel
theorem idx6 : ∀ t : Fin cfg0.N, win0_6.index t = ![0, t.val] := by decide +kernel
theorem idx7 : ∀ t : Fin cfg0.N, win0_7.index t = ![0, t.val] := by decide +kernel

theorem blk0 (t : Fin cfg0.N) (p : Fin 5) (r : Fin 2176) (l : Fin 128) : (iblk m c 0 t (ix3 p r l) : EReal) = kH m c (ix3 p r (col t l)) := by
  refine Eq.trans ?_ (congrFun (V_main_arg0 m c) _)
  unfold col
  blk_ext [iblk, idx0 t]

theorem blk1 (t : Fin cfg0.N) (r : Fin 2176) (l : Fin 128) : (iblk m c 1 t (ix2 r l) : EReal) = kY m c (ix2 r (col t l)) := by
  refine Eq.trans ?_ (congrFun (V_main_arg1 m c) _)
  unfold col
  blk_ext [iblk, idx1 t]

theorem blk2 (t : Fin cfg0.N) (r : Fin 2176) (l : Fin 128) : (iblk m c 2 t (ix2 r l) : EReal) = kZ m c (ix2 r (col t l)) := by
  refine Eq.trans ?_ (congrFun (V_main_arg2 m c) _)
  unfold col
  blk_ext [iblk, idx2 t]

theorem blk3 (t : Fin cfg0.N) (r : Fin 64) (x : Fin 256) : (iblk m c 3 t (ix3 0 r x) : EReal) = V m c main_v48 (ix3 (⟨t.val, t.isLt⟩ : Fin 4) r x) := by
  blk_ext [iblk, idx3 t]

theorem cP (t : Fin cfg0.N) (l : Fin 128) : bP (iblk m c 0 t) l = arr3 (kH m c) (col t l) := by
  funext p r
  unfold bP pl arr3
  split
  · exact blk0 m c t _ _ l
  · exact z32_ideal

theorem cY (t : Fin cfg0.N) (l : Fin 128) : bD (iblk m c 1 t) l = arr2 (kY m c) (col t l) := by
  funext r
  unfold bD rw2 arr2
  split
  · exact blk1 m c t _ l
  · exact z32_ideal

theorem cZ (t : Fin cfg0.N) (l : Fin 128) : bD (iblk m c 2 t) l = arr2 (kZ m c) (col t l) := by
  funext r
  unfold bD rw2 arr2
  split
  · exact blk2 m c t _ l
  · exact z32_ideal

theorem cA (t : Fin cfg0.N) (l : Fin 128) : bA (iblk m c 3 t) l = tapA (kA m c) (col t l) := by
  funext k
  unfold bA wA wrow3 tapA
  split
  · exact (blk3 m c t _ _).trans (packs_a m c ⟨t.val, t.isLt⟩ _ l _ _ (col t l) rfl rfl rfl)
  · exact z32_ideal

theorem cB (t : Fin cfg0.N) (l : Fin 128) : bB (iblk m c 3 t) l = tapB (kB m c) (col t l) := by
  funext k
  unfold bB wB wrow31 tapB
  split
  · exact (blk3 m c t _ _).trans (packs_b m c ⟨t.val, t.isLt⟩ _ l _ _ (col t l) rfl rfl rfl)
  · exact z32_ideal

/-- The planes' cotangents. -/
def G5 : S5x2176x512.Idx → EReal := fun i =>
  if (i 1).val < 2064 then cotH (arr3 (kH m c) (i 2)) (arr2 (kY m c) (i 2)) (arr2 (kZ m c) (i 2)) (tapA (kA m c) (i 2)) (tapB (kB m c) (i 2)) (seqRow (i 1).val) (i 0).val else 0

/-- The three taps' cotangents. -/
def G6 : S3x512.Idx → EReal := fun i => cotA (arr3 (kH m c) (i 1)) (arr2 (kY m c) (i 1)) (i 0).val

/-- The thirty-one taps' cotangents. -/
def G7 : S31x512.Idx → EReal := fun i => cotB (arr3 (kH m c) (i 1)) (arr2 (kZ m c) (i 1)) (i 0).val

/-- The bias's cotangent. -/
def G8 : S1x512.Idx → EReal := fun i => cotS (arr2 (kZ m c) (i 1))

theorem final5 : (dats m 0 c).arrAt 4 cfg0.N = G5 m c := by
  refine (dats m 0 c).arrAt_eq_of_covers 4 _ (by decide +kernel) fun t hf y => ?_
  blk_simp
  rw [after0_4]
  obtain ⟨p, r, l, rfl⟩ : ∃ p r l, y = ix3 p r l := ⟨y 0, y 1, y 2, eq_ix3 y⟩
  refine (out5_ideal _ _ _ _ l p r).trans ?_
  rw [cP, cY, cZ, cA, cB]
  refine congrArg (G5 m c) (a₁ := ix3 p r (col t l)) ?_
  unfold col
  blk_ext [idx4 t]

theorem final6 : (dats m 0 c).arrAt 5 cfg0.N = G6 m c := by
  refine (dats m 0 c).arrAt_eq_of_covers 5 _ (by decide +kernel) fun t hf y => ?_
  blk_simp
  rw [after0_5]
  obtain ⟨k, l, rfl⟩ : ∃ k l, y = ix2 k l := ⟨y 0, y 1, eq_ix2 y⟩
  refine (out6_ideal _ _ l k).trans ?_
  rw [cP, cY]
  refine congrArg (G6 m c) (a₁ := ix2 k (col t l)) ?_
  unfold col
  blk_ext [idx5 t]

theorem final7 : (dats m 0 c).arrAt 6 cfg0.N = G7 m c := by
  refine (dats m 0 c).arrAt_eq_of_covers 6 _ (by decide +kernel) fun t hf y => ?_
  blk_simp
  rw [after0_6]
  obtain ⟨k, l, rfl⟩ : ∃ k l, y = ix2 k l := ⟨y 0, y 1, eq_ix2 y⟩
  refine (out7_ideal _ _ l k).trans ?_
  rw [cP, cZ]
  refine congrArg (G7 m c) (a₁ := ix2 k (col t l)) ?_
  unfold col
  blk_ext [idx6 t]

theorem final8 : (dats m 0 c).arrAt 7 cfg0.N = G8 m c := by
  refine (dats m 0 c).arrAt_eq_of_covers 7 _ (by decide +kernel) fun t hf y => ?_
  blk_simp
  rw [after0_7]
  obtain ⟨l, rfl⟩ : ∃ l, y = ix2 0 l := ⟨y 1, (eq_ix2 y).trans (congrArg (ix2 · (y 1)) (Subsingleton.elim _ _))⟩
  refine (out8_ideal _ l).trans ?_
  rw [cZ]
  refine congrArg (G8 m c) (a₁ := ix2 0 (col t l)) ?_
  unfold col
  blk_ext [idx7 t]

end Cert.Proof.Conv

end
-- ==== Proof.RefSums.lean ====
module

public import proofs.«01_k».proof.Proof.RefRead

@[expose] public section

set_option maxRecDepth 16384

noncomputable section

namespace Cert.Proof.Conv.Ref

open Cert.ReferenceIdeal Cert.ReferenceIdeal.Gen Cert.ReferenceIdeal.Value
open Idealize.ShloMosaic
open Finset (range sum_congr sum_range_succ)

theorem add_at {s : Shape} (x y : FVec Ideal s .f32) (i : s.Idx) : addf x y i = (x i + y i : EReal) := rfl

variable (V0 : Valuation τ ReferenceIdeal.sig (Elt Ideal))

/-- Tap `j` of the short convolution, as a row. -/
theorem tap_a (j : ℕ) (h : S3x512.Slices ![j, 0] S1x512) (o : Fin 512) :
    broadcastInDim S1x512 ![1] bcast_S512_S1x512_1 (shapeCast _ (extractStridedSlice S1x512 ![j, 0] (V0 (Proc.devRef .tc main_arg3)) h) shapeCasts_S1x512_S512) (ix2 0 o)
      = tapA (aA V0) o j := by
  unfold tapA
  have hj : j + 1 ≤ 3 := h.2 0
  rw [dif_pos (by omega)]
  pointwise

/-- One term of the cotangent of the short convolution's input: tap `j`'s. -/
theorem term_a (j e : ℕ) (hs : S3x512.Slices ![j, 0] S1x512) (h : S2064x512.Pads ![j, 0] ![e, 0] ![0, 0] S2066x512) (q : Fin 2066) (o : Fin 512) :
    (pad S2066x512 ![j, 0] ![e, 0] ![0, 0] (mulf (F := Ideal) (φ := .f32) (broadcastInDim S2064x512 ![0, 1] bcast_S1x512_S2064x512_0_1
      (broadcastInDim S1x512 ![1] bcast_S512_S1x512_1 (shapeCast _ (extractStridedSlice S1x512 ![j, 0] (V0 (Proc.devRef .tc main_arg3)) hs) shapeCasts_S1x512_S512))) (res_main_v626 V0))
      (constant (F := Ideal) S_ .f32 0x00000000#32) h h_S_ (ix2 q o) : EReal) = tapA (aA V0) o j * zext (dC V0 o) (32 + q.val - j) := by
  rw [pad_tap3, tap_a, inside (fun t => v626 V0 t o)]

/-- One term of the cotangent of the long convolution's input: tap `j`'s. -/
theorem term_b (j e : ℕ) (hs : S31x512.Slices ![j, 0] S1x512) (h : S2064x512.Pads ![j, 0] ![e, 0] ![0, 0] S2094x512) (q : Fin 2094) (o : Fin 512) :
    (pad S2094x512 ![j, 0] ![e, 0] ![0, 0] (mulf (F := Ideal) (φ := .f32) (broadcastInDim S2064x512 ![0, 1] bcast_S1x512_S2064x512_0_1
      (broadcastInDim S1x512 ![1] bcast_S512_S1x512_1 (shapeCast _ (extractStridedSlice S1x512 ![j, 0] (V0 (Proc.devRef .tc main_arg4)) hs) shapeCasts_S1x512_S512))) (res_main_v279 V0))
      (constant (F := Ideal) S_ .f32 0x00000000#32) h h_S_ (ix2 q o) : EReal) = tapB (aB V0) o j * zext (arr2 (aZ V0) o) (32 + q.val - j) := by
  rw [pad_tap, tap_b, inside (fun t => v279 V0 t o)]

/-- One row of the cotangent of the short convolution's taps: tap `j`'s. -/
theorem col_a (j e : ℕ) (hs : S2066x512.Slices ![j, 0] S2064x512) (h : S1x512.Pads ![j, 0] ![e, 0] ![0, 0] S3x512) (k : Fin 3) (o : Fin 512) :
    (pad S3x512 ![j, 0] ![e, 0] ![0, 0] (broadcastInDim S1x512 ![1] bcast_S512_S1x512_1 (Host.reduceAdd (F := Ideal) (φ := .f32) (shapeCast S1x512 (Host.reduceAdd (F := Ideal) (φ := .f32)
      (mulf (F := Ideal) (φ := .f32) (res_main_v626 V0) (extractStridedSlice S2064x512 ![j, 0] (res_main_v16 V0) hs)) (constant S_ .f32 0x00000000#32) reducesTo_S2064x512_S512_d0 h_S_) shapeCasts_S512_S1x512) (constant S_ .f32 0x00000000#32) reducesTo_S1x512_S512_d0 h_S_))
      (constant (F := Ideal) S_ .f32 0x00000000#32) h h_S_ (ix2 k o) : EReal)
      = if k.val = j then ∑ t : Fin 2064, dC V0 o (row t.val) * zext (uC V0 o) (30 + j + t.val) else 0 := by
  rw [pad_col3]
  simp only [v626, slice_u V0 j]

/-- One row of the cotangent of the long convolution's taps: tap `j`'s. -/
theorem col_b (j e : ℕ) (hs : S2094x512.Slices ![j, 0] S2064x512) (h : S1x512.Pads ![j, 0] ![e, 0] ![0, 0] S31x512) (k : Fin 31) (o : Fin 512) :
    (pad S31x512 ![j, 0] ![e, 0] ![0, 0] (broadcastInDim S1x512 ![1] bcast_S512_S1x512_1 (Host.reduceAdd (F := Ideal) (φ := .f32) (shapeCast S1x512 (Host.reduceAdd (F := Ideal) (φ := .f32)
      (mulf (F := Ideal) (φ := .f32) (res_main_v279 V0) (extractStridedSlice S2064x512 ![j, 0] (res_main_v52 V0) hs)) (constant S_ .f32 0x00000000#32) reducesTo_S2064x512_S512_d0 h_S_) shapeCasts_S512_S1x512) (constant S_ .f32 0x00000000#32) reducesTo_S1x512_S512_d0 h_S_))
      (constant (F := Ideal) S_ .f32 0x00000000#32) h h_S_ (ix2 k o) : EReal)
      = if k.val = j then ∑ t : Fin 2064, arr2 (aZ V0) o (row t.val) * zext (gC V0 o) (2 + j + t.val) else 0 := by
  rw [pad_col]
  simp only [v279, slice_g V0 j]

/-- The short convolution. -/
theorem v39 (t : Fin 2064) (o : Fin 512) : res_main_v39 (F := Ideal) V0 (ix2 t o) = cFwd (arr3 (aH V0) o) (tapA (aA V0) o) t.val := by
  unfold res_main_v39 cFwd
  pointwise
  unfold res_main_v20 res_main_v28 res_main_v35 res_main_v21 res_main_v29 res_main_v36
  repeat rw [tap_a]
  repeat rw [slice_u]
  simp only [sum_range_succ, Finset.sum_range_zero, zero_add, Nat.add_zero, Nat.reduceAdd]
  rw [show 30 + t.val + 1 = 31 + t.val by omega, show 30 + t.val + 2 = 32 + t.val by omega]

/-- The cotangent of the short convolution's input. -/
theorem v660 (t : Fin 2064) (o : Fin 512) :
    res_main_v660 (F := Ideal) V0 (ix2 t o) = cDu (arr3 (aH V0) o) (arr2 (aY V0) o) (tapA (aA V0) o) t.val := by
  unfold res_main_v660 cDu
  pointwise
  unfold res_main_v654
  unfold res_main_v20 res_main_v28 res_main_v35
  simp only [add_at]
  repeat rw [term_a]
  simp only [sum_range_succ, Finset.sum_range_zero, zero_add, Nat.add_zero, Nat.sub_zero, Nat.reduceSub]
  rw [show 32 + (2 + t.val) - 2 = 32 + t.val by omega, show 32 + (2 + t.val) - 1 = 32 + t.val + 1 by omega, show 32 + (2 + t.val) = 32 + t.val + 2 by omega]

/-- The cotangent of the long convolution's input. -/
theorem v622 (t : Fin 2064) (o : Fin 512) : res_main_v622 (F := Ideal) V0 (ix2 t o) = cDg (arr2 (aZ V0) o) (tapB (aB V0) o) t.val := by
  have hs (i : ℕ) (hi : i ≤ 30) : 32 + (30 + t.val) - (30 - i) = 32 + t.val + i := by omega
  have hc : cDg (arr2 (aZ V0) o) (tapB (aB V0) o) t.val
      = ∑ i ∈ range 31, tapB (aB V0) o (30 - i) * zext (arr2 (aZ V0) o) (32 + (30 + t.val) - (30 - i)) :=
    sum_congr rfl fun i hi => by rw [hs i (by have := Finset.mem_range.mp hi; omega)]
  rw [hc]
  unfold res_main_v622
  pointwise
  unfold res_main_v616 res_main_v473
  simp only [add_at,
    res_main_v56, res_main_v64, res_main_v71, res_main_v78, res_main_v85, res_main_v92, res_main_v99, res_main_v106, res_main_v113,
    res_main_v120, res_main_v127, res_main_v134, res_main_v141, res_main_v148, res_main_v155, res_main_v162, res_main_v169, res_main_v176,
    res_main_v183, res_main_v190, res_main_v197, res_main_v204, res_main_v211, res_main_v218, res_main_v225, res_main_v232, res_main_v239,
    res_main_v246, res_main_v253, res_main_v260, res_main_v267]
  repeat rw [term_b]
  simp only [sum_range_succ, Finset.sum_range_zero, zero_add, Nat.sub_zero, Nat.reduceSub]

/-- The cotangent of the long convolution's taps. -/
theorem v620 (k : Fin 31) (o : Fin 512) :
    (addf (res_main_v609 V0) (pad S31x512 ![0, 0] ![30, 0] ![0, 0] (broadcastInDim S1x512 ![1] bcast_S512_S1x512_1 (Host.reduceAdd (shapeCast _ (Host.reduceAdd (mulf (res_main_v279 V0) (res_main_v57 V0)) (constant S_ .f32 0x00000000#32) reducesTo_S2064x512_S512_d0 h_S_) shapeCasts_S512_S1x512) (constant S_ .f32 0x00000000#32) reducesTo_S1x512_S512_d0 h_S_)) (constant S_ .f32 0x00000000#32) pads_S1x512_S31x512_0300_000 h_S_) : FVec Ideal S31x512 .f32) (ix2 k o)
      = cotB (arr3 (aH V0) o) (arr2 (aZ V0) o) k.val := by
  have hc : cotB (arr3 (aH V0) o) (arr2 (aZ V0) o) k.val
      = ∑ i ∈ range 31, if k.val = 30 - i then ∑ t : Fin 2064, arr2 (aZ V0) o (row t.val) * zext (gC V0 o) (2 + (30 - i) + t.val) else 0 := by
    rw [Finset.sum_eq_single (30 - k.val)]
    · rw [if_pos (by omega), show 30 - (30 - k.val) = k.val by omega]
      exact Finset.sum_range (fun t => arr2 (aZ V0) o (row t) * zext (gC V0 o) (2 + k.val + t))
    · intro i hi hne
      have := Finset.mem_range.mp hi
      rw [if_neg (by omega)]
    · intro h
      exact absurd (Finset.mem_range.mpr (by omega)) h
  rw [hc]
  unfold res_main_v609 res_main_v499 res_main_v389
  simp only [add_at,
    res_main_v57, res_main_v65, res_main_v72, res_main_v79, res_main_v86, res_main_v93, res_main_v100, res_main_v107, res_main_v114,
    res_main_v121, res_main_v128, res_main_v135, res_main_v142, res_main_v149, res_main_v156, res_main_v163, res_main_v170, res_main_v177,
    res_main_v184, res_main_v191, res_main_v198, res_main_v205, res_main_v212, res_main_v219, res_main_v226, res_main_v233, res_main_v240,
    res_main_v247, res_main_v254, res_main_v261, res_main_v268]
  repeat rw [col_b]
  simp only [sum_range_succ, Finset.sum_range_zero, zero_add, Nat.sub_zero, Nat.reduceSub]

/-- The cotangent of the short convolution's taps. -/
theorem v658 (k : Fin 3) (o : Fin 512) :
    (addf (addf (pad S3x512 ![2, 0] ![0, 0] ![0, 0] (broadcastInDim S1x512 ![1] bcast_S512_S1x512_1 (Host.reduceAdd (shapeCast _ (Host.reduceAdd (mulf (res_main_v626 V0) (res_main_v36 V0)) (constant S_ .f32 0x00000000#32) reducesTo_S2064x512_S512_d0 h_S_) shapeCasts_S512_S1x512) (constant S_ .f32 0x00000000#32) reducesTo_S1x512_S512_d0 h_S_)) (constant S_ .f32 0x00000000#32) pads_S1x512_S3x512_200_000 h_S_) (pad S3x512 ![1, 0] ![1, 0] ![0, 0] (broadcastInDim S1x512 ![1] bcast_S512_S1x512_1 (Host.reduceAdd (shapeCast _ (Host.reduceAdd (mulf (res_main_v626 V0) (res_main_v29 V0)) (constant S_ .f32 0x00000000#32) reducesTo_S2064x512_S512_d0 h_S_) shapeCasts_S512_S1x512) (constant S_ .f32 0x00000000#32) reducesTo_S1x512_S512_d0 h_S_)) (constant S_ .f32 0x00000000#32) pads_S1x512_S3x512_110_000 h_S_)) (pad S3x512 ![0, 0] ![2, 0] ![0, 0] (broadcastInDim S1x512 ![1] bcast_S512_S1x512_1 (Host.reduceAdd (shapeCast _ (Host.reduceAdd (mulf (res_main_v626 V0) (res_main_v21 V0)) (constant S_ .f32 0x00000000#32) reducesTo_S2064x512_S512_d0 h_S_) shapeCasts_S512_S1x512) (constant S_ .f32 0x00000000#32) reducesTo_S1x512_S512_d0 h_S_)) (constant S_ .f32 0x00000000#32) pads_S1x512_S3x512_020_000 h_S_) : FVec Ideal S3x512 .f32) (ix2 k o)
      = cotA (arr3 (aH V0) o) (arr2 (aY V0) o) k.val := by
  have hc (j : ℕ) : cotA (arr3 (aH V0) o) (arr2 (aY V0) o) j = ∑ t : Fin 2064, dC V0 o (row t.val) * zext (uC V0 o) (30 + j + t.val) :=
    Finset.sum_range (fun t => dC V0 o (row t) * zext (uC V0 o) (30 + j + t))
  rw [hc]
  unfold res_main_v21 res_main_v29 res_main_v36
  simp only [add_at]
  repeat rw [col_a]
  match k with
  | 0 => simp
  | 1 => simp
  | 2 => simp

/-- The cotangent of the bias. -/
theorem v281 (o : Fin 512) :
    (shapeCast S1x512 (Host.reduceAdd (res_main_v279 V0) (constant S_ .f32 0x00000000#32) reducesTo_S2064x512_S512_d0 h_S_) shapeCasts_S512_S1x512 : FVec Ideal S1x512 .f32) (ix2 0 o)
      = cotS (arr2 (aZ V0) o) := by
  pointwise
  simp only [v279]
  exact (Finset.sum_range (fun t => arr2 (aZ V0) o (row t))).symm

/-- An array of the sequence, set as plane `j` of five. -/
theorem pad_plane (j e : ℕ) (X : S2064x512.Idx → EReal) (h : S1x2064x512.Pads ![j, 0, 0] ![e, 0, 0] ![0, 0, 0] S5x2064x512) (p : Fin 5) (t : Fin 2064) (o : Fin 512) :
    pad S5x2064x512 ![j, 0, 0] ![e, 0, 0] ![0, 0, 0] (broadcastInDim S1x2064x512 ![1, 2] bcast_S2064x512_S1x2064x512_1_2 X)
      (constant (F := Ideal) S_ .f32 0x00000000#32) h h_S_ (ix3 p t o) = if p.val = j then X (ix2 t o) else 0 := by
  pointwise
  by_cases hk : p.val = j
  · rw [dif_pos (by omega), if_pos hk]
  · rw [dif_neg (by omega), if_neg hk]

/-- The planes' cotangents in the sequence's order. -/
theorem v676 (p : Fin 5) (t : Fin 2064) (o : Fin 512) :
    res_main_v676 (F := Ideal) V0 (ix3 p t o)
      = cotH (arr3 (aH V0) o) (arr2 (aY V0) o) (arr2 (aZ V0) o) (tapA (aA V0) o) (tapB (aB V0) o) t.val p.val := by
  unfold res_main_v676
  simp only [add_at]
  repeat rw [pad_plane]
  pointwise
  simp only [v7, v9, v11, v39, v46, v276, v622, v660]
  match p with
  | 0 => simp [cotH]
  | 1 => simp [cotH]
  | 2 => simp [cotH]
  | 3 => simp [cotH]
  | 4 => simp [cotH]

/-- The planes' cotangents as stored. -/
theorem v682 (p : Fin 5) (y : Fin 2176) (o : Fin 512) :
    (truncf .bf16 (addf (pad S5x2176x512 ![0, 0, 0] ![0, 128, 0] ![0, 0, 0] (extractStridedSlice S5x2048x512 ![0, 16, 0] (res_main_v676 V0) slices_S5x2064x512_S5x2048x512_0_16_0) (constant S_ .f32 0x00000000#32) pads_S5x2048x512_S5x2176x512_000_01280_000 h_S_) (pad S5x2176x512 ![0, 2048, 0] ![0, 112, 0] ![0, 0, 0] (extractStridedSlice S5x16x512 ![0, 0, 0] (res_main_v676 V0) slices_S5x2064x512_S5x16x512_0_0_0) (constant S_ .f32 0x00000000#32) pads_S5x16x512_S5x2176x512_000_20481120_000 h_S_)) bitsLt_bf16_f32 : FVec Ideal S5x2176x512 .bf16) (ix3 p y o)
      = if y.val < 2064 then cotH (arr3 (aH V0) o) (arr2 (aY V0) o) (arr2 (aZ V0) o) (tapA (aA V0) o) (tapB (aB V0) o) (seqRow y.val) p.val else 0 := by
  pointwise
  simp only [v676, seqRow]
  by_cases h : y.val < 2048
  · rw [dif_pos h, dif_neg (by omega), if_pos (by omega), if_pos h, add_zero, Nat.add_comm]
  · by_cases h' : y.val < 2064
    · rw [dif_neg h, dif_pos (by omega), if_pos h', if_neg h, zero_add]
    · rw [dif_neg h, dif_neg (by omega), if_neg h', add_zero]

end Cert.Proof.Conv.Ref

end
-- ==== Proof.Algebraic.lean ====
module

public import proofs.«01_k».proof.Proof.Frames
public import proofs.«01_k».proof.Proof.Arrays
public import proofs.«01_k».proof.Proof.RefSums

@[expose] public section

set_option maxRecDepth 16384

noncomputable section

namespace Cert.Proof.Conv

open Idealize.ShloMosaic Idealize.ShloMosaic.StableHlo Idealize.ShloMosaic.TcCoe Idealize.SL.Sem
open Cert.Proof.Conv.Ref (arr3 arr2 tapA tapB)

section
open Cert.KernelIdeal Cert.KernelIdeal.Gen

set_option maxHeartbeats 2000000 in
/-- The kernel's run: the four result arrays, and the arguments as they were. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v49_0) = G5 m c
      ∧ r.2.mem ((c.tc : Thread nD τ).loc main_v49_1) = G6 m c
      ∧ r.2.mem ((c.tc : Thread nD τ).loc main_v49_2) = G7 m c
      ∧ r.2.mem ((c.tc : Thread nD τ).loc main_v49_3) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main (F := Ideal) m ρ)
  have h := h.1 c
  refine ⟨?_, ?_, ?_, ?_, ?_, ?_, ?_, ?_, ?_⟩
  · exact (h.1 4).trans (final5 m c)
  · exact (h.1 5).trans (final6 m c)
  · exact (h.1 6).trans (final7 m c)
  · exact (h.1 7).trans (final8 m c)
  · exact (h.1 0).trans (((dats m 0 c).arrAt_in 0 rfl _).trans (V_main_arg0 m c))
  · exact (h.1 1).trans (((dats m 0 c).arrAt_in 1 rfl _).trans (V_main_arg1 m c))
  · exact (h.1 2).trans (((dats m 0 c).arrAt_in 2 rfl _).trans (V_main_arg2 m c))
  · exact (h.2 main_arg3 (Pipeline.mem_restRefs_of main_arg3 (by decide) (by decide))).trans (V_main_arg3 m c)
  · exact (h.2 main_arg4 (Pipeline.mem_restRefs_of main_arg4 (by decide) (by decide))).trans (V_main_arg4 m c)

end

/-- The kernel and the reference leave the same four arrays from the same five arguments. -/
theorem algebraic : Cert.algebraic_KernelIdeal_ReferenceIdeal (hKernelIdeal := Cert.KernelIdeal.Gen.facts) (hReferenceIdeal := Cert.ReferenceIdeal.Gen.facts) :=
  fun m ρ m' ρ' _ hag => by
  refine ⟨fun c => G5 m c, fun c => G6 m c, fun c => G7 m c, fun c => G8 m c, ?_, ?_⟩
  · exact run_arrays m ρ
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4⟩ := hag c
    have a0 : Ref.aH (launchContents m' c) = kH m c := e0
    have a1 : Ref.aY (launchContents m' c) = kY m c := e1
    have a2 : Ref.aZ (launchContents m' c) = kZ m c := e2
    have a3 : Ref.aA (launchContents m' c) = kA m c := e3
    have a4 : Ref.aB (launchContents m' c) = kB m c := e4
    refine ⟨h0.trans (funext fun i => ?_), h1.trans (funext fun i => ?_), h2.trans (funext fun i => ?_), h3.trans (funext fun i => ?_), hargs⟩
    · obtain ⟨p, y, o, rfl⟩ : ∃ p y o, i = ix3 p y o := ⟨i 0, i 1, i 2, eq_ix3 i⟩
      refine (Ref.v682 (launchContents m' c) p y o).trans ?_
      rw [a0, a1, a2, a3, a4]
      rfl
    · obtain ⟨k, o, rfl⟩ : ∃ k o, i = ix2 k o := ⟨i 0, i 1, eq_ix2 i⟩
      refine (Ref.v658 (launchContents m' c) k o).trans ?_
      rw [a0, a1]
      rfl
    · obtain ⟨k, o, rfl⟩ : ∃ k o, i = ix2 k o := ⟨i 0, i 1, eq_ix2 i⟩
      refine (Ref.v620 (launchContents m' c) k o).trans ?_
      rw [a0, a2]
      rfl
    · obtain ⟨o, rfl⟩ : ∃ o, i = ix2 0 o := ⟨i 1, (eq_ix2 i).trans (congrArg (ix2 · (i 1)) (Subsingleton.elim _ _))⟩
      refine (Ref.v281 (launchContents m' c) o).trans ?_
      rw [a2]
      rfl

end Cert.Proof.Conv

end
-- ==== Proof.WGateUp.lean ====
module

public import proofs.«01_k».proof.Defs
public import proofs.«01_k».proof.Proof.Gen.KernelGateUpIdeal.Value
public import proofs.«01_k».proof.Proof.Gen.ReferenceGateUpIdeal
public import proofs.«01_k».proof.Proof.Gen.ReferenceGateUpIdeal.Run
public import Idealize.ShloMosaic.Lib.Pipeline.ValueKit
public import Idealize.ShloMosaic.Lib.Pointwise

@[expose] public section

set_option maxRecDepth 16384

noncomputable section

/-! The gradients of the gate and the up projection: each a product of the transposed cotangent with the normed
inputs, block of columns by block of columns. -/

namespace Cert.Proof.WGateUp

open Idealize.ShloMosaic Idealize.ShloMosaic.TcCoe Idealize.SL.Sem

section
open Cert.KernelGateUpIdeal Cert.KernelGateUpIdeal.Gen

variable (m : (ℓ : Loc nD τ sig) → Buf (Elt Ideal) ℓ) (c : Dev nD)

/-- The gradient with cotangent `d` and inputs `x`: at (f, e) the sum over the rows of `d` at f times `x` at e. -/
def prod (x : S2176x1024.Idx → EReal) (d : S2176x2816.Idx → EReal) (i : S2816x1024.Idx) : EReal :=
  ∑ k : Fin 2176, d (ix2 k (i 0)) * x (ix2 k (i 1))

theorem idx0 : ∀ t : Fin cfg0.N, win0_0.index t = ![0, 0] := by decide +kernel
theorem idx1 : ∀ t : Fin cfg0.N, win0_1.index t = ![0, t.val] := by decide +kernel
theorem idx2 : ∀ t : Fin cfg0.N, win0_2.index t = ![0, t.val] := by decide +kernel
theorem idx3 : ∀ t : Fin cfg0.N, win0_3.index t = ![t.val, 0] := by decide +kernel
theorem idx4 : ∀ t : Fin cfg0.N, win0_4.index t = ![t.val, 0] := by decide +kernel

/-- One block of a gradient, at (f, e). -/
theorem pay1 (x : S2176x1024.Idx → EReal) (d : S2176x1408.Idx → EReal) (i : S1408x1024.Idx) :
    (k0_pay1 (F := Ideal) x d i : EReal) = ∑ k : Fin 2176, d (ix2 k (i 0)) * x (ix2 k (i 1)) := by
  pointwise [k0_pay1]

/-- One block of the other gradient, at (f, e). -/
theorem pay2 (x : S2176x1024.Idx → EReal) (d : S2176x1408.Idx → EReal) (i : S1408x1024.Idx) :
    (k0_pay2 (F := Ideal) x d i : EReal) = ∑ k : Fin 2176, d (ix2 k (i 0)) * x (ix2 k (i 1)) := by
  pointwise [k0_pay2]

/-- The first result after the run is the gate's gradient. -/
theorem final3 : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp
  rw [after0_3]
  frame_out
  exact (pay1 _ _ _).trans (Finset.sum_congr rfl fun k _ => by
    congr 1
    · refine Eq.trans ?_ (congrFun (V_main_arg1 m c) _)
      blk_ext [iblk, idx1 t, idx3 t]
    · refine Eq.trans ?_ (congrFun (V_main_arg0 m c) _)
      blk_ext [iblk, idx0 t, idx3 t])

/-- The second result after the run is the up projection's gradient. -/
theorem final4 : (dats m 0 c).arrAt 4 cfg0.N = prod (m ((c : Thread nD τ).loc main_arg0)) (m ((c : Thread nD τ).loc main_arg2)) := by
  refine (dats m 0 c).arrAt_eq_of_covers 4 _ (by decide +kernel) fun t hf y => ?_
  blk_simp
  rw [after0_4]
  frame_out
  exact (pay2 _ _ _).trans (Finset.sum_congr rfl fun k _ => by
    congr 1
    · refine Eq.trans ?_ (congrFun (V_main_arg2 m c) _)
      blk_ext [iblk, idx2 t, idx4 t]
    · refine Eq.trans ?_ (congrFun (V_main_arg0 m c) _)
      blk_ext [iblk, idx0 t, idx4 t])

end

section
open Cert.ReferenceGateUpIdeal Cert.ReferenceGateUpIdeal.Gen

/-- The reference's gradient, transposed twice, at an index. -/
theorem ref_prod (x : S2176x1024.Idx → EReal) (d : S2176x2816.Idx → EReal) :
    (truncf (F := Ideal) .bf16 (transpose S2816x1024 [1, 0] (transpose S1024x2816 [1, 0] (Host.dotGeneral dot_S2176x2816_S2176x1024_S2816x1024_0_0_1_1_n_n none (extf .f32 d bitsLt_bf16_f32) (extf .f32 x bitsLt_bf16_f32)) transposes_S2816x1024_S1024x2816_1_0) transposes_S1024x2816_S2816x1024_1_0) bitsLt_bf16_f32 : S2816x1024.Idx → EReal) = prod x d := by
  funext i
  unfold prod
  pointwise

end

/-- The kernel and the reference leave the same two gradients from the same arguments. -/
theorem algebraic : Cert.algebraic_KernelGateUpIdeal_ReferenceGateUpIdeal (hKernelGateUpIdeal := Cert.KernelGateUpIdeal.Gen.facts) (hReferenceGateUpIdeal := Cert.ReferenceGateUpIdeal.Gen.facts) :=
  fun m ρ m' ρ' _ hag => by
  refine ⟨_, _, (θ_run _ _ _).mono (fun r h c => ⟨(h c).1.trans (final3 m c), (h c).2.1.trans (final4 m c), (h c).2.2⟩) (Cert.KernelGateUpIdeal.Value.run_blocks (F := Ideal) m ρ), ?_⟩
  refine (θ_run _ _ _).mono (fun r h c => ?_) (Cert.ReferenceGateUpIdeal.Value.run (F := Ideal) m' ρ')
  obtain ⟨h0, h1, hargs⟩ := h c
  refine ⟨h0.trans ((ref_prod _ _).trans ?_), h1.trans ((ref_prod _ _).trans ?_), hargs⟩
  · rw [(hag c).1, (hag c).2.1]
  · rw [(hag c).1, (hag c).2.2]

end Cert.Proof.WGateUp

end
-- ==== Proof.WDown.lean ====
module

public import proofs.«01_k».proof.Defs
public import proofs.«01_k».proof.Proof.Gen.KernelDownIdeal.Value
public import proofs.«01_k».proof.Proof.Gen.ReferenceDownIdeal
public import proofs.«01_k».proof.Proof.Gen.ReferenceDownIdeal.Run
public import Idealize.ShloMosaic.Lib.Pipeline.ValueKit
public import Idealize.ShloMosaic.Lib.Pointwise

@[expose] public section

set_option maxRecDepth 16384

noncomputable section

/-! The gradient of the down projection: the product of the transposed activations with the cotangent, block of rows by
block of rows. -/

namespace Cert.Proof.WDown

open Idealize.ShloMosaic Idealize.ShloMosaic.TcCoe Idealize.SL.Sem

section
open Cert.KernelDownIdeal Cert.KernelDownIdeal.Gen

variable (m : (ℓ : Loc nD τ sig) → Buf (Elt Ideal) ℓ) (c : Dev nD)

/-- The gradient from activations `f` and cotangent `d`: at (k, e) the sum over the rows of `f` at k times `d` at e. -/
def prod (f : S2176x2816.Idx → EReal) (d : S2176x1024.Idx → EReal) (i : S2816x1024.Idx) : EReal :=
  ∑ k : Fin 2176, f (ix2 k (i 0)) * d (ix2 k (i 1))

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel

/-- One block of the gradient. -/
theorem pay1 (f : S2176x1408.Idx → EReal) (d : S2176x1024.Idx → EReal) (i : S1408x1024.Idx) :
    (k0_pay1 (F := Ideal) f d i : EReal) = ∑ k : Fin 2176, f (ix2 k (i 0)) * d (ix2 k (i 1)) := by
  pointwise [k0_pay1]

/-- The result after the run is the gradient. -/
theorem final2 : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  exact (pay1 _ _ _).trans (Finset.sum_congr rfl fun k _ => by
    congr 1
    · refine Eq.trans ?_ (congrFun (V_main_arg0 m c) _)
      blk_ext [iblk, idx0 t, idx2 t]
    · refine Eq.trans ?_ (congrFun (V_main_arg1 m c) _)
      blk_ext [iblk, idx1 t, idx2 t])

end

section
open Cert.ReferenceDownIdeal Cert.ReferenceDownIdeal.Gen

/-- The reference's gradient at an index: the same products with the factors in the other order. -/
theorem ref_prod (f : S2176x2816.Idx → EReal) (d : S2176x1024.Idx → EReal) :
    (truncf (F := Ideal) .bf16 (transpose S2816x1024 [1, 0] (Host.dotGeneral dot_S2176x1024_S2176x2816_S1024x2816_0_0_1_1_n_n none (extf .f32 d bitsLt_bf16_f32) (extf .f32 f bitsLt_bf16_f32)) transposes_S1024x2816_S2816x1024_1_0) bitsLt_bf16_f32 : S2816x1024.Idx → EReal) = prod f d := by
  funext i
  unfold prod
  pointwise
  exact Finset.sum_congr rfl fun k _ => mul_comm _ _

end

/-- The kernel and the reference leave the same gradient from the same arguments. -/
theorem algebraic : Cert.algebraic_KernelDownIdeal_ReferenceDownIdeal (hKernelDownIdeal := Cert.KernelDownIdeal.Gen.facts) (hReferenceDownIdeal := Cert.ReferenceDownIdeal.Gen.facts) :=
  fun m ρ m' ρ' _ hag => by
  refine ⟨_, (θ_run _ _ _).mono (fun r h c => ⟨(h c).1.trans (final2 m c), (h c).2⟩) (Cert.KernelDownIdeal.Value.run_blocks (F := Ideal) m ρ), ?_⟩
  refine (θ_run _ _ _).mono (fun r h c => ?_) (Cert.ReferenceDownIdeal.Value.run (F := Ideal) m' ρ')
  refine ⟨(h c).1.trans ((ref_prod _ _).trans ?_), (h c).2⟩
  rw [(hag c).1, (hag c).2]

end Cert.Proof.WDown

end
-- ==== Proof.WOut.lean ====
module

public import proofs.«01_k».proof.Defs
public import proofs.«01_k».proof.Proof.Gen.KernelOutIdeal.Value
public import proofs.«01_k».proof.Proof.Gen.ReferenceOutIdeal
public import proofs.«01_k».proof.Proof.Gen.ReferenceOutIdeal.Run
public import Idealize.ShloMosaic.Lib.Pipeline.ValueKit
public import Idealize.ShloMosaic.Lib.Pointwise

@[expose] public section

set_option maxRecDepth 16384

noncomputable section

/-! The gradient of the output projection: the two branches' transposed outputs, one above the other, times the
cotangent. -/

namespace Cert.Proof.WOut

open Idealize.ShloMosaic Idealize.ShloMosaic.TcCoe Idealize.SL.Sem

section
open Cert.KernelOutIdeal Cert.KernelOutIdeal.Gen

variable (m : (ℓ : Loc nD τ sig) → Buf (Elt Ideal) ℓ) (c : Dev nD)

/-- The gradient from the branches' outputs `a` and `b` and the cotangent `d`: the rows of the first 512 come from `a`, the
others from `b`. -/
def prod (a b : S2176x512.Idx → EReal) (d : S2176x1024.Idx → EReal) (i : S1024x1024.Idx) : EReal :=
  ∑ k : Fin 2176, (if h : (i 0).val < 512 then a (ix2 k (⟨(i 0).val, h⟩ : Fin 512)) else b (ix2 k (⟨(i 0).val - 512, by have h : (i 0).val < 1024 := (i 0).isLt; omega⟩ : Fin 512))) * d (ix2 k (i 1))

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel

/-- The upper half. -/
theorem pay1 (d : S2176x1024.Idx → EReal) (a : S2176x512.Idx → EReal) (i : S512x1024.Idx) :
    (k0_pay1 (F := Ideal) d a i : EReal) = ∑ k : Fin 2176, a (ix2 k (i 0)) * d (ix2 k (i 1)) := by
  pointwise [k0_pay1]

/-- The lower half. -/
theorem pay2 (d : S2176x1024.Idx → EReal) (a : S2176x512.Idx → EReal) (i : S512x1024.Idx) :
    (k0_pay2 (F := Ideal) d a i : EReal) = ∑ k : Fin 2176, a (ix2 k (i 0)) * d (ix2 k (i 1)) := by
  pointwise [k0_pay2]

/-- The result after the run is the gradient. -/
theorem final3 : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  canon_tiles x h
  · refine (pay2 _ _ _).trans (Finset.sum_congr rfl fun k _ => ?_)
    rw [dif_neg (by blk_simp [idx3 t]; omega)]
    congr 1
    · refine Eq.trans ?_ (congrFun (V_main_arg1 m c) _)
      blk_ext [iblk, idx1 t, idx3 t]
    · refine Eq.trans ?_ (congrFun (V_main_arg2 m c) _)
      blk_ext [iblk, idx2 t, idx3 t]
  · refine (pay1 _ _ _).trans (Finset.sum_congr rfl fun k _ => ?_)
    rw [dif_pos (by blk_simp [idx3 t]; omega)]
    congr 1
    · refine Eq.trans ?_ (congrFun (V_main_arg0 m c) _)
      blk_ext [iblk, idx0 t, idx3 t]
    · refine Eq.trans ?_ (congrFun (V_main_arg2 m c) _)
      blk_ext [iblk, idx2 t, idx3 t]

end

section
open Cert.ReferenceOutIdeal Cert.ReferenceOutIdeal.Gen

/-- The reference's gradient at an index. -/
theorem ref_prod (a b : S2176x512.Idx → EReal) (d : S2176x1024.Idx → EReal) :
    (truncf (F := Ideal) .bf16 (transpose S1024x1024 [1, 0] (Host.dotGeneral dot_S2176x1024_S2176x1024_S1024x1024_0_0_1_1_n_n none (extf .f32 d bitsLt_bf16_f32) (concatenate S2176x1024 1 [⟨S2176x512, (extf .f32 a bitsLt_bf16_f32)⟩, ⟨S2176x512, (extf .f32 b bitsLt_bf16_f32)⟩] concatenates_S2176x512_S2176x512_S2176x1024_d1)) transposes_S1024x1024_S1024x1024_1_0) bitsLt_bf16_f32 : S1024x1024.Idx → EReal) = prod a b d := by
  funext i
  unfold prod
  pointwise
  exact Finset.sum_congr rfl fun k _ => mul_comm _ _

end

/-- The kernel and the reference leave the same gradient from the same arguments. -/
theorem algebraic : Cert.algebraic_KernelOutIdeal_ReferenceOutIdeal (hKernelOutIdeal := Cert.KernelOutIdeal.Gen.facts) (hReferenceOutIdeal := Cert.ReferenceOutIdeal.Gen.facts) :=
  fun m ρ m' ρ' _ hag => by
  refine ⟨_, (θ_run _ _ _).mono (fun r h c => ⟨(h c).1.trans (final3 m c), (h c).2⟩) (Cert.KernelOutIdeal.Value.run_blocks (F := Ideal) m ρ), ?_⟩
  refine (θ_run _ _ _).mono (fun r h c => ?_) (Cert.ReferenceOutIdeal.Value.run (F := Ideal) m' ρ')
  refine ⟨(h c).1.trans ((ref_prod _ _ _).trans ?_), (h c).2⟩
  rw [(hag c).1, (hag c).2.1, (hag c).2.2.1]

end Cert.Proof.WOut

end
-- ==== Proof.WIn.lean ====
module

public import proofs.«01_k».proof.Defs
public import proofs.«01_k».proof.Proof.Gen.KernelInIdeal.Value
public import proofs.«01_k».proof.Proof.Gen.ReferenceInIdeal
public import proofs.«01_k».proof.Proof.Gen.ReferenceInIdeal.Run
public import Idealize.ShloMosaic.Lib.Pipeline.ValueKit
public import Idealize.ShloMosaic.Lib.Pointwise

@[expose] public section

set_option maxRecDepth 16384

noncomputable section

/-! The gradient of the combined input projection: the product of the transposed normed inputs with each of the five
planes' cotangents, plane by plane. -/

namespace Cert.Proof.WIn

open Idealize.ShloMosaic Idealize.ShloMosaic.TcCoe Idealize.SL.Sem

section
open Cert.KernelInIdeal Cert.KernelInIdeal.Gen

variable (m : (ℓ : Loc nD τ sig) → Buf (Elt Ideal) ℓ) (c : Dev nD)

/-- The gradient from inputs `x` and the planes' cotangent `d`: at (e, f) the sum over the rows of `x` at e times plane
f / 512 of `d` at f % 512. -/
def prod (x : S2176x1024.Idx → EReal) (d : S5x2176x512.Idx → EReal) (i : S1024x2560.Idx) : EReal :=
  ∑ k : Fin 2176, x (ix2 k (i 0)) * d (ix3 (⟨(i 1).val / 512, by have h : (i 1).val < 2560 := (i 1).isLt; omega⟩ : Fin 5) k (⟨(i 1).val % 512, by omega⟩ : Fin 512))

theorem idx0 : ∀ t : Fin cfg0.N, win0_0.index t = ![0, 0] := by decide +kernel
theorem idx1 : ∀ t : Fin cfg0.N, win0_1.index t = ![t.val, 0, 0] := by decide +kernel
theorem idx2 : ∀ t : Fin cfg0.N, win0_2.index t = ![0, t.val] := by decide +kernel

/-- One plane's block of the gradient. -/
theorem pay1 (x : S2176x1024.Idx → EReal) (d : S1x2176x512.Idx → EReal) (i : S1024x512.Idx) :
    (k0_pay1 (F := Ideal) x d i : EReal) = ∑ k : Fin 2176, x (ix2 k (i 0)) * d (ix3 0 k (i 1)) := by
  pointwise [k0_pay1]

/-- The result after the run is the gradient. -/
theorem final2 : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  exact (pay1 _ _ _).trans (Finset.sum_congr rfl fun k _ => by
    congr 1
    · refine Eq.trans ?_ (congrFun (V_main_arg0 m c) _)
      blk_ext [iblk, idx0 t, idx2 t]
    · refine Eq.trans ?_ (congrFun (V_main_arg1 m c) _)
      blk_ext [iblk, idx1 t, idx2 t])

end

section
open Cert.ReferenceInIdeal Cert.ReferenceInIdeal.Gen

/-- The reference's gradient at an index: the planes side by side. -/
theorem ref_prod (x : S2176x1024.Idx → EReal) (d : S5x2176x512.Idx → EReal) :
    (truncf (F := Ideal) .bf16 (transpose S1024x2560 [1, 0] (Host.dotGeneral (φ₁ := .f32) (φ₂ := .f32) dot_S2176x2560_S2176x1024_S2560x1024_0_0_1_1_n_n none ((concatenate S2176x2560 1 [⟨S2176x512, ((shapeCast _ (extractStridedSlice S1x2176x512 ![0, 0, 0] (extf (F := Ideal) (s := S5x2176x512) (φ := .bf16) .f32 d bitsLt_bf16_f32) slices_S5x2176x512_S1x2176x512_0_0_0) shapeCasts_S1x2176x512_S2176x512) : (⟨S2176x512, .f32⟩ : BufTy).Contents (Elt Ideal))⟩, ⟨S2176x512, ((shapeCast _ (extractStridedSlice S1x2176x512 ![1, 0, 0] (extf (F := Ideal) (s := S5x2176x512) (φ := .bf16) .f32 d bitsLt_bf16_f32) slices_S5x2176x512_S1x2176x512_1_0_0) shapeCasts_S1x2176x512_S2176x512) : (⟨S2176x512, .f32⟩ : BufTy).Contents (Elt Ideal))⟩, ⟨S2176x512, ((shapeCast _ (extractStridedSlice S1x2176x512 ![2, 0, 0] (extf (F := Ideal) (s := S5x2176x512) (φ := .bf16) .f32 d bitsLt_bf16_f32) slices_S5x2176x512_S1x2176x512_2_0_0) shapeCasts_S1x2176x512_S2176x512) : (⟨S2176x512, .f32⟩ : BufTy).Contents (Elt Ideal))⟩, ⟨S2176x512, ((shapeCast _ (extractStridedSlice S1x2176x512 ![3, 0, 0] (extf (F := Ideal) (s := S5x2176x512) (φ := .bf16) .f32 d bitsLt_bf16_f32) slices_S5x2176x512_S1x2176x512_3_0_0) shapeCasts_S1x2176x512_S2176x512) : (⟨S2176x512, .f32⟩ : BufTy).Contents (Elt Ideal))⟩, ⟨S2176x512, ((shapeCast _ (extractStridedSlice S1x2176x512 ![4, 0, 0] (extf (F := Ideal) (s := S5x2176x512) (φ := .bf16) .f32 d bitsLt_bf16_f32) slices_S5x2176x512_S1x2176x512_4_0_0) shapeCasts_S1x2176x512_S2176x512) : (⟨S2176x512, .f32⟩ : BufTy).Contents (Elt Ideal))⟩] concatenates_S2176x512_S2176x512_S2176x512_S2176x512_S2176x512_S2176x2560_d1 : (⟨S2176x2560, .f32⟩ : BufTy).Contents (Elt Ideal))) (extf .f32 x bitsLt_bf16_f32)) transposes_S2560x1024_S1024x2560_1_0) bitsLt_bf16_f32 : S1024x2560.Idx → EReal) = prod x d := by
  funext i
  unfold prod
  pointwise
  refine Finset.sum_congr rfl fun k _ => ?_
  rw [mul_comm]
  have h1 : (i 1).val < 2560 := (i 1).isLt
  congr 1
  split_ifs <;> (refine congrArg d ?_; refine funext fun a => Fin.ext ?_; fin_cases a <;> simp [ix3] <;> omega)

end

/-- The kernel and the reference leave the same gradient from the same arguments. -/
theorem algebraic : Cert.algebraic_KernelInIdeal_ReferenceInIdeal (hKernelInIdeal := Cert.KernelInIdeal.Gen.facts) (hReferenceInIdeal := Cert.ReferenceInIdeal.Gen.facts) :=
  fun m ρ m' ρ' _ hag => by
  refine ⟨_, (θ_run _ _ _).mono (fun r h c => ⟨(h c).1.trans (final2 m c), (h c).2⟩) (Cert.KernelInIdeal.Value.run_blocks (F := Ideal) m ρ), ?_⟩
  refine (θ_run _ _ _).mono (fun r h c => ?_) (Cert.ReferenceInIdeal.Value.run (F := Ideal) m' ρ')
  refine ⟨(h c).1.trans ((ref_prod _ _).trans ?_), (h c).2⟩
  rw [(hag c).1, (hag c).2]

end Cert.Proof.WIn

end
-- ==== Proof.WFrames.lean ====
module

public import proofs.«01_k».proof.Defs
public import proofs.«01_k».proof.Proof.Gen.KernelGateUp
public import proofs.«01_k».proof.Proof.Gen.KernelGateUp.Frame
public import proofs.«01_k».proof.Proof.Gen.KernelGateUpIdeal
public import proofs.«01_k».proof.Proof.Gen.KernelGateUpIdeal.Frame
public import proofs.«01_k».proof.Proof.Gen.ReferenceGateUpIdeal
public import proofs.«01_k».proof.Proof.Gen.ReferenceGateUpIdeal.Run
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.ReferenceInIdeal
public import proofs.«01_k».proof.Proof.Gen.ReferenceInIdeal.Run

@[expose] public section

noncomputable section

/-! The frames of the weight gradients' programs: they end, leave their arguments and leave every semaphore at zero. -/

namespace Cert.Proof.WFrames

open Idealize.ShloMosaic Idealize.SL.Sem

theorem bitsGateUp : Cert.quiescent_KernelGateUp (hKernelGateUp := Cert.KernelGateUp.Gen.facts) := fun m ρ _ => Cert.KernelGateUp.Gen.frame m ρ

theorem idealGateUp : Cert.quiescent_KernelGateUpIdeal (hKernelGateUpIdeal := Cert.KernelGateUpIdeal.Gen.facts) := fun m ρ _ => Cert.KernelGateUpIdeal.Gen.frame m ρ

theorem refGateUp : Cert.quiescent_ReferenceGateUpIdeal (hReferenceGateUpIdeal := Cert.ReferenceGateUpIdeal.Gen.facts) := fun m ρ _ =>
  (θ_run Cert.ReferenceGateUpIdeal.defs _ _).mono
    (fun r h => ⟨fun c => ⟨(h c).2.2.1, (h c).2.2.2.1, (h c).2.2.2.2⟩, Idealize.ShloMosaic.sem_eq_zero_of_no_sems (by decide) r.2⟩)
    (Cert.ReferenceGateUpIdeal.Value.run (F := Ideal) m ρ)

theorem bitsDown : Cert.quiescent_KernelDown (hKernelDown := Cert.KernelDown.Gen.facts) := fun m ρ _ => Cert.KernelDown.Gen.frame m ρ

theorem idealDown : Cert.quiescent_KernelDownIdeal (hKernelDownIdeal := Cert.KernelDownIdeal.Gen.facts) := fun m ρ _ => Cert.KernelDownIdeal.Gen.frame m ρ

theorem refDown : Cert.quiescent_ReferenceDownIdeal (hReferenceDownIdeal := Cert.ReferenceDownIdeal.Gen.facts) := fun m ρ _ =>
  (θ_run Cert.ReferenceDownIdeal.defs _ _).mono
    (fun r h => ⟨fun c => ⟨(h c).2.1, (h c).2.2⟩, Idealize.ShloMosaic.sem_eq_zero_of_no_sems (by decide) r.2⟩)
    (Cert.ReferenceDownIdeal.Value.run (F := Ideal) m ρ)

theorem bitsOut : Cert.quiescent_KernelOut (hKernelOut := Cert.KernelOut.Gen.facts) := fun m ρ _ => Cert.KernelOut.Gen.frame m ρ

theorem idealOut : Cert.quiescent_KernelOutIdeal (hKernelOutIdeal := Cert.KernelOutIdeal.Gen.facts) := fun m ρ _ => Cert.KernelOutIdeal.Gen.frame m ρ

theorem refOut : Cert.quiescent_ReferenceOutIdeal (hReferenceOutIdeal := Cert.ReferenceOutIdeal.Gen.facts) := fun m ρ _ =>
  (θ_run Cert.ReferenceOutIdeal.defs _ _).mono
    (fun r h => ⟨fun c => ⟨(h c).2.1, (h c).2.2.1, (h c).2.2.2.1, (h c).2.2.2.2⟩, Idealize.ShloMosaic.sem_eq_zero_of_no_sems (by decide) r.2⟩)
    (Cert.ReferenceOutIdeal.Value.run (F := Ideal) m ρ)

theorem bitsIn : Cert.quiescent_KernelIn (hKernelIn := Cert.KernelIn.Gen.facts) := fun m ρ _ => Cert.KernelIn.Gen.frame m ρ

theorem idealIn : Cert.quiescent_KernelInIdeal (hKernelInIdeal := Cert.KernelInIdeal.Gen.facts) := fun m ρ _ => Cert.KernelInIdeal.Gen.frame m ρ

theorem refIn : Cert.quiescent_ReferenceInIdeal (hReferenceInIdeal := Cert.ReferenceInIdeal.Gen.facts) := fun m ρ _ =>
  (θ_run Cert.ReferenceInIdeal.defs _ _).mono
    (fun r h => ⟨fun c => ⟨(h c).2.1, (h c).2.2⟩, Idealize.ShloMosaic.sem_eq_zero_of_no_sems (by decide) r.2⟩)
    (Cert.ReferenceInIdeal.Value.run (F := Ideal) m ρ)

end Cert.Proof.WFrames

end
-- ==== Proof.MmInRun.lean ====
module

public import proofs.«01_k».proof.Proof.Gen.KernelMmInIdeal
public import proofs.«01_k».proof.Proof.Gen.KernelMmInIdeal.Frame
public import proofs.«01_k».proof.Proof.Gen.KernelMmInIdeal.Skeleton
public import Idealize.ShloMosaic.Lib.Claim

@[expose] public section

set_option maxRecDepth 16384

noncomputable section

/-! The input projection's grid point, run once at the first point, where the weight's shards and the last block's tail are
laid out in the two scratch buffers, and once at a later one, where those buffers are read and kept. -/

namespace Cert.Proof.MmInRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelMmInIdeal Cert.KernelMmInIdeal.Gen

variable {F : FTy → Type} [FloatOps F]

/-- The resources a program logic statement speaks of. -/
abbrev Res (F : FTy → Type) [FloatOps F] := MT nD τ sig Unit (Elt F) ℕ (UR sig nD τ) ℕ

/-- The point is the first one: the two scratch buffers are filled. -/
abbrev First (i : grid0.Coords) : Prop :=
  (Scalar.cmpi .ne (Scalar.extui (Scalar.cmpi .eq (BitVec.ofNat 32 (i 0).val) 0#32)) 0#32) = 1#1

theorem first_iff (t : Fin cfg0.N) : First (grid0.coords t) ↔ t.val = 0 := by
  have ht : t.val < 4 := Nat.lt_of_lt_of_eq t.isLt N_0
  have e : (grid0.coords t 0).val = t.val / 1 % 4 := Pipeline.Grid.coords_val t 0 (by decide) rfl
  have e' : t.val / 1 % 4 = t.val := by omega
  rw [e'] at e
  simp only [First, e]
  word_cmp

variable (c : Dev nD) (i : grid0.Coords)
  (a1 : Memref sig .tc .vmem S544x1024 .f32) (w1 : a1.IsWhole)
  (a2 : Memref sig .tc .vmem S4x64x256 .f32) (w2 : a2.IsWhole)
  (a3 : Memref sig .tc .vmem S4x1024x640 .bf16) (w3 : a3.IsWhole)
  (a4 : Memref sig .tc .vmem S1x1024 .f32) (w4 : a4.IsWhole)
  (a5 : Memref sig .tc .hbm S8x128 .f32) (w5 : a5.IsWhole)
  (a6 : Memref sig .tc .vmem S544x1024 .f32) (w6 : a6.IsWhole)
  (a7 : Memref sig .tc .vmem S544x1024 .bf16) (w7 : a7.IsWhole)
  (a8 : Memref sig .tc .vmem S5x544x512 .f32) (w8 : a8.IsWhole)
  (a9 : Memref sig .tc .vmem S1024x2560 .bf16) (w9 : a9.IsWhole)
  (a10 : Memref sig .tc .vmem S544x1024 .f32) (w10 : a10.IsWhole)
  (x1 : Vec F S544x1024 .f32) (x2 : Vec F S4x64x256 .f32) (x3 : Vec F S4x1024x640 .bf16) (x4 : Vec F S1x1024 .f32)
  (s9 : Vec F S1024x2560 .bf16) (s10 : Vec F S544x1024 .f32)

/-- The four operands' buffers at their contents, the same before and after a point. -/
abbrev Ins : sProp (Res F) :=
  iprop(owns (c : Thread nD τ) a1 fullShare x1 ∗ owns (c : Thread nD τ) a2 fullShare x2 ∗ owns (c : Thread nD τ) a3 fullShare x3 ∗ owns (c : Thread nD τ) a4 fullShare x4)

/-- The three results' buffers, at anything. -/
abbrev Any : sProp (Res F) :=
  iprop((∃ d, owns (c : Thread nD τ) a6 fullShare d) ∗ (∃ d, owns (c : Thread nD τ) a7 fullShare d) ∗ (∃ d, owns (c : Thread nD τ) a8 fullShare d))

/-- A buffer after stores, last first, over anything. -/
abbrev Wrote {s : Shape} {e : EltTy} (a : Memref sig .tc .vmem s e) (L : List (View.Piece (Elt F) s e)) : sProp (Res F) :=
  iprop(∃ f, a.view.loc (c : Thread nD τ) ↦[a.view.set]{fullShare} a.view.writes (Elt F) f L)

set_option maxHeartbeats 1000000 in
/-- At the first point: the stores each result and each scratch buffer receives, last first, and that the body makes them. -/
def runA (hc : First i) :
    Σ' (L4 : List (View.Piece (Elt F) S544x1024 .f32)), Σ' (L5 : List (View.Piece (Elt F) S544x1024 .bf16)), Σ' (L6 : List (View.Piece (Elt F) S5x544x512 .f32)), Σ' (L9 : List (View.Piece (Elt F) S1024x2560 .bf16)),
      { L10 : List (View.Piece (Elt F) S544x1024 .f32) // ∀ (E : Set ℕ) (K : PUnit → sProp (Res F)),
        iprop(Ins c a1 a2 a3 a4 x1 x2 x3 x4 ∗ Any c a6 a7 a8 ∗ (∃ d, owns (c : Thread nD τ) a9 fullShare d) ∗ (∃ d, owns (c : Thread nD τ) a10 fullShare d)
            ∗ (iprop(Ins c a1 a2 a3 a4 x1 x2 x3 x4 ∗ Wrote c a6 L4 ∗ Wrote c a7 L5 ∗ Wrote c a8 L6 ∗ Wrote c a9 L9 ∗ Wrote c a10 L10) -∗ K ⟨⟩))
          ⊢ wp frame (wpE (defs₀ (F := F)) Variants.none c none) E (cc0_mm_in i a1 w1 a2 w2 a3 w3 a4 w4 a5 w5 a6 w6 a7 w7 a8 w8 a9 w9 a10 w10) K } := by
  refine ⟨?_, ?_, ?_, ?_, ?_, fun E K => ?run⟩
  case run =>
    simp only [cc0_mm_in_eq_skeleton]; unfold cc0_mm_in_skel
    simp only [k0_part1_eq_skeleton]
    unfold Ins Any Wrote owns
    iintro ⟨⟨⟨%f1, %h1, H1⟩, ⟨%f2, %h2, H2⟩, ⟨%f3, %h3, H3⟩, ⟨%f4, %h4, H4⟩⟩, ⟨⟨%d6, %f6, -, H6⟩, ⟨%d7, %f7, -, H7⟩, ⟨%d8, %f8, -, H8⟩⟩, ⟨%d9, %f9, -, H9⟩, ⟨%d10, %f10, -, H10⟩, Hk⟩
    obtain rfl := w1.eq_unread h1
    obtain rfl := w2.eq_unread h2
    obtain rfl := w3.eq_unread h3
    obtain rfl := w4.eq_unread h4
    sl_exec (disch := first | sl_exact hc)
    sl_step
    iapply Hk
    isplitl [H1 H2 H3 H4]
    · isplitl [H1]
      · iexists _; isplitr; · ipureintro; exact w1.read_unread _
        iexact H1
      isplitl [H2]
      · iexists _; isplitr; · ipureintro; exact w2.read_unread _
        iexact H2
      isplitl [H3]
      · iexists _; isplitr; · ipureintro; exact w3.read_unread _
        iexact H3
      iexists _; isplitr; · ipureintro; exact w4.read_unread _
      iexact H4
    isplitl [H6]; · iexists _; iexact H6
    isplitl [H7]; · iexists _; iexact H7
    isplitl [H8]; · iexists _; iexact H8
    isplitl [H9]; · iexists _; iexact H9
    iexists _; iexact H10

set_option maxHeartbeats 1000000 in
/-- At a later point, the scratch buffers found at `s9` and `s10` and left there. -/
def runB (hc : ¬First i) :
    Σ' (L4 : List (View.Piece (Elt F) S544x1024 .f32)), Σ' (L5 : List (View.Piece (Elt F) S544x1024 .bf16)),
      { L6 : List (View.Piece (Elt F) S5x544x512 .f32) // ∀ (E : Set ℕ) (K : PUnit → sProp (Res F)),
        iprop(Ins c a1 a2 a3 a4 x1 x2 x3 x4 ∗ Any c a6 a7 a8 ∗ owns (c : Thread nD τ) a9 fullShare s9 ∗ owns (c : Thread nD τ) a10 fullShare s10
            ∗ (iprop(Ins c a1 a2 a3 a4 x1 x2 x3 x4 ∗ Wrote c a6 L4 ∗ Wrote c a7 L5 ∗ Wrote c a8 L6 ∗ owns (c : Thread nD τ) a9 fullShare s9 ∗ owns (c : Thread nD τ) a10 fullShare s10) -∗ K ⟨⟩))
          ⊢ wp frame (wpE (defs₀ (F := F)) Variants.none c none) E (cc0_mm_in i a1 w1 a2 w2 a3 w3 a4 w4 a5 w5 a6 w6 a7 w7 a8 w8 a9 w9 a10 w10) K } := by
  refine ⟨?_, ?_, ?_, fun E K => ?run⟩
  case run =>
    simp only [cc0_mm_in_eq_skeleton]; unfold cc0_mm_in_skel
    simp only [k0_part1_eq_skeleton]
    unfold Ins Any Wrote owns
    iintro ⟨⟨⟨%f1, %h1, H1⟩, ⟨%f2, %h2, H2⟩, ⟨%f3, %h3, H3⟩, ⟨%f4, %h4, H4⟩⟩, ⟨⟨%d6, %f6, -, H6⟩, ⟨%d7, %f7, -, H7⟩, ⟨%d8, %f8, -, H8⟩⟩, ⟨%f9, %h9, H9⟩, ⟨%f10, %h10, H10⟩, Hk⟩
    obtain rfl := w1.eq_unread h1
    obtain rfl := w2.eq_unread h2
    obtain rfl := w3.eq_unread h3
    obtain rfl := w4.eq_unread h4
    obtain rfl := w9.eq_unread h9
    obtain rfl := w10.eq_unread h10
    sl_exec (disch := first | sl_exact hc)
    sl_step
    iapply Hk
    isplitl [H1 H2 H3 H4]
    · isplitl [H1]
      · iexists _; isplitr; · ipureintro; exact w1.read_unread _
        iexact H1
      isplitl [H2]
      · iexists _; isplitr; · ipureintro; exact w2.read_unread _
        iexact H2
      isplitl [H3]
      · iexists _; isplitr; · ipureintro; exact w3.read_unread _
        iexact H3
      iexists _; isplitr; · ipureintro; exact w4.read_unread _
      iexact H4
    isplitl [H6]; · iexists _; iexact H6
    isplitl [H7]; · iexists _; iexact H7
    isplitl [H8]; · iexists _; iexact H8
    isplitl [H9]
    · iexists _; isplitr; · ipureintro; exact w9.read_unread _
      iexact H9
    iexists _; isplitr; · ipureintro; exact w10.read_unread _
    iexact H10

theorem coverA4 (hc : First i) (y : S544x1024.Idx) : ∃ p ∈ (runA c i a1 w1 a2 w2 a3 w3 a4 w4 a5 w5 a6 w6 a7 w7 a8 w8 a9 w9 a10 w10 x1 x2 x3 x4 hc).1, y ∈ p.1.set :=
  View.cover_of_tiledL (runA c i a1 w1 a2 w2 a3 w3 a4 w4 a5 w5 a6 w6 a7 w7 a8 w8 a9 w9 a10 w10 x1 x2 x3 x4 hc).1 S544x1024.size (by sl_kernel_rfl) y

/-- What the residual stream's buffer holds after the first point. -/
def leftA4 (hc : First i) : Vec F S544x1024 .f32 := View.canon (runA c i a1 w1 a2 w2 a3 w3 a4 w4 a5 w5 a6 w6 a7 w7 a8 w8 a9 w9 a10 w10 x1 x2 x3 x4 hc).1

theorem coverA5 (hc : First i) (y : S544x1024.Idx) : ∃ p ∈ (runA c i a1 w1 a2 w2 a3 w3 a4 w4 a5 w5 a6 w6 a7 w7 a8 w8 a9 w9 a10 w10 x1 x2 x3 x4 hc).2.1, y ∈ p.1.set :=
  View.cover_of_tiledL (runA c i a1 w1 a2 w2 a3 w3 a4 w4 a5 w5 a6 w6 a7 w7 a8 w8 a9 w9 a10 w10 x1 x2 x3 x4 hc).2.1 S544x1024.size (by sl_kernel_rfl) y

/-- What the normed rows' buffer holds after the first point. -/
def leftA5 (hc : First i) : Vec F S544x1024 .bf16 := View.canon (runA c i a1 w1 a2 w2 a3 w3 a4 w4 a5 w5 a6 w6 a7 w7 a8 w8 a9 w9 a10 w10 x1 x2 x3 x4 hc).2.1

theorem coverA6 (hc : First i) (y : S5x544x512.Idx) : ∃ p ∈ (runA c i a1 w1 a2 w2 a3 w3 a4 w4 a5 w5 a6 w6 a7 w7 a8 w8 a9 w9 a10 w10 x1 x2 x3 x4 hc).2.2.1, y ∈ p.1.set :=
  View.cover_of_tiledL (runA c i a1 w1 a2 w2 a3 w3 a4 w4 a5 w5 a6 w6 a7 w7 a8 w8 a9 w9 a10 w10 x1 x2 x3 x4 hc).2.2.1 S1x544x512.size (by sl_kernel_rfl) y

/-- What the projection's buffer holds after the first point. -/
def leftA6 (hc : First i) : Vec F S5x544x512 .f32 := View.canon (runA c i a1 w1 a2 w2 a3 w3 a4 w4 a5 w5 a6 w6 a7 w7 a8 w8 a9 w9 a10 w10 x1 x2 x3 x4 hc).2.2.1

theorem coverB4 (hc : ¬First i) (y : S544x1024.Idx) : ∃ p ∈ (runB c i a1 w1 a2 w2 a3 w3 a4 w4 a5 w5 a6 w6 a7 w7 a8 w8 a9 w9 a10 w10 x1 x2 x3 x4 s9 s10 hc).1, y ∈ p.1.set :=
  View.cover_of_tiledL (runB c i a1 w1 a2 w2 a3 w3 a4 w4 a5 w5 a6 w6 a7 w7 a8 w8 a9 w9 a10 w10 x1 x2 x3 x4 s9 s10 hc).1 S544x1024.size (by sl_kernel_rfl) y

/-- What the residual stream's buffer holds after a later point. -/
def leftB4 (hc : ¬First i) : Vec F S544x1024 .f32 := View.canon (runB c i a1 w1 a2 w2 a3 w3 a4 w4 a5 w5 a6 w6 a7 w7 a8 w8 a9 w9 a10 w10 x1 x2 x3 x4 s9 s10 hc).1

theorem coverB5 (hc : ¬First i) (y : S544x1024.Idx) : ∃ p ∈ (runB c i a1 w1 a2 w2 a3 w3 a4 w4 a5 w5 a6 w6 a7 w7 a8 w8 a9 w9 a10 w10 x1 x2 x3 x4 s9 s10 hc).2.1, y ∈ p.1.set :=
  View.cover_of_tiledL (runB c i a1 w1 a2 w2 a3 w3 a4 w4 a5 w5 a6 w6 a7 w7 a8 w8 a9 w9 a10 w10 x1 x2 x3 x4 s9 s10 hc).2.1 S544x1024.size (by sl_kernel_rfl) y

/-- What the normed rows' buffer holds after a later point. -/
def leftB5 (hc : ¬First i) : Vec F S544x1024 .bf16 := View.canon (runB c i a1 w1 a2 w2 a3 w3 a4 w4 a5 w5 a6 w6 a7 w7 a8 w8 a9 w9 a10 w10 x1 x2 x3 x4 s9 s10 hc).2.1

theorem coverB6 (hc : ¬First i) (y : S5x544x512.Idx) : ∃ p ∈ (runB c i a1 w1 a2 w2 a3 w3 a4 w4 a5 w5 a6 w6 a7 w7 a8 w8 a9 w9 a10 w10 x1 x2 x3 x4 s9 s10 hc).2.2.1, y ∈ p.1.set :=
  View.cover_of_tiledL (runB c i a1 w1 a2 w2 a3 w3 a4 w4 a5 w5 a6 w6 a7 w7 a8 w8 a9 w9 a10 w10 x1 x2 x3 x4 s9 s10 hc).2.2.1 S1x544x512.size (by sl_kernel_rfl) y

/-- What the projection's buffer holds after a later point. -/
def leftB6 (hc : ¬First i) : Vec F S5x544x512 .f32 := View.canon (runB c i a1 w1 a2 w2 a3 w3 a4 w4 a5 w5 a6 w6 a7 w7 a8 w8 a9 w9 a10 w10 x1 x2 x3 x4 s9 s10 hc).2.2.1

theorem coverA9 (hc : First i) (y : S1024x2560.Idx) : ∃ p ∈ (runA c i a1 w1 a2 w2 a3 w3 a4 w4 a5 w5 a6 w6 a7 w7 a8 w8 a9 w9 a10 w10 x1 x2 x3 x4 hc).2.2.2.1, y ∈ p.1.set :=
  View.cover_of_tiledL (runA c i a1 w1 a2 w2 a3 w3 a4 w4 a5 w5 a6 w6 a7 w7 a8 w8 a9 w9 a10 w10 x1 x2 x3 x4 hc).2.2.2.1 S1024x640.size (by sl_kernel_rfl) y

/-- What the scratch with the weight's shards holds after the first point. -/
def leftA9 (hc : First i) : Vec F S1024x2560 .bf16 := View.canon (runA c i a1 w1 a2 w2 a3 w3 a4 w4 a5 w5 a6 w6 a7 w7 a8 w8 a9 w9 a10 w10 x1 x2 x3 x4 hc).2.2.2.1

theorem coverA10 (hc : First i) (y : S544x1024.Idx) : ∃ p ∈ (runA c i a1 w1 a2 w2 a3 w3 a4 w4 a5 w5 a6 w6 a7 w7 a8 w8 a9 w9 a10 w10 x1 x2 x3 x4 hc).2.2.2.2.1, y ∈ p.1.set :=
  View.cover_of_tiledL (runA c i a1 w1 a2 w2 a3 w3 a4 w4 a5 w5 a6 w6 a7 w7 a8 w8 a9 w9 a10 w10 x1 x2 x3 x4 hc).2.2.2.2.1 S544x1024.size (by sl_kernel_rfl) y

/-- What the scratch with the tail holds after the first point. -/
def leftA10 (hc : First i) : Vec F S544x1024 .f32 := View.canon (runA c i a1 w1 a2 w2 a3 w3 a4 w4 a5 w5 a6 w6 a7 w7 a8 w8 a9 w9 a10 w10 x1 x2 x3 x4 hc).2.2.2.2.1

end Cert.Proof.MmInRun
-- ==== Proof.Finite.lean ====
module

public import Idealize.ShloMosaic.Lib.StableHlo
public import Idealize.ShloMosaic.Lib.Pointwise
public import Idealize.ShloMosaic.Lib.ReduceAll
public import Idealize.ShloMosaic.PureOps

@[expose] public section

noncomputable section

/-! Arrays of finite numbers: what the finiteness precondition says of an argument, and the programs' scalar operations
on real numbers. -/

namespace Cert.Proof.Finite

open Idealize.ShloMosaic

/-- Both of two conjoined truth values hold. -/
theorem both {S : Shape} {a b : IVec S 1} {j : S.Idx} (h : andi a b j = 1#1) : a j = 1#1 ∧ b j = 1#1 := by
  have h' : a j &&& b j = 1#1 := h
  revert h'
  generalize a j = x
  generalize b j = y
  revert x y
  decide

/-- An extended real whose absolute value is below the top is a real number. -/
theorem real_of_lt (x : EReal) (h : max x (-x) < ⊤) : ∃ r : ℝ, x = (r : EReal) := by
  induction x using EReal.rec with
  | bot => simp at h
  | coe r => exact ⟨r, rfl⟩
  | top => simp at h

/-- What the comparison of an absolute value with the top says. -/
theorem lt_of_cmp {x y : EReal} (h : Ideal.cmp .olt x y = 1#1) : x < y := by
  by_contra hn
  simp [Ideal.cmp, hn] at h

/-- The single index of an array without axes. -/
instance : Subsingleton (⟨0, ![]⟩ : Shape).Idx := ⟨fun _ _ => funext fun i => i.elim0⟩

/-- An array all of whose absolute values compare below the top is an array of real numbers. -/
theorem real_of_all {s t u : Shape} {axes : List (Fin s.rank)} [Subsingleton t.Idx] (x c : s.Idx → EReal) (hc : ∀ i, c i = ⊤) (init : u.Idx → BitVec 1)
    (h : s.ReducesTo axes t) (hu : 0 < u.numel) (j : t.Idx)
    (e : Host.reduce IntOp.andi (cmpf (F := Ideal) (φ := .f32) .olt (Host.absf (F := Ideal) (φ := .f32) x) c) init h hu j = 1#1) :
    ∃ r : s.Idx → ℝ, x = fun i => (r i : EReal) := by
  have hx : ∀ i, ∃ r : ℝ, x i = (r : EReal) := fun i => by
    have hi := Host.reduce_andi_all _ init h hu j e i
    have hl : max (x i) (-(x i)) < c i := lt_of_cmp hi
    rw [hc i] at hl
    exact real_of_lt _ hl
  choose r hr using hx
  exact ⟨r, funext hr⟩

/-- The pattern of the positive infinity denotes the top. -/
theorem inf_eq : Ideal.ofBits .f32 0x7F800000#32 = ⊤ := by simp [Ideal.ofBits, Ideal.ieee]

/-- The pattern of one denotes one. -/
theorem one_eq : Ideal.ofBits .f32 0x3F800000#32 = 1 := by simp [Ideal.ofBits, Ideal.ieee, -EReal.coe_mul]; norm_num

/-- The pattern of zero denotes zero. -/
theorem zero_eq : Ideal.ofBits .f32 0x00000000#32 = 0 := by simp [Ideal.ofBits, Ideal.ieee]

/-- A sum of real numbers, as an extended real. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division by a real number that is not zero is multiplication with its inverse. -/
theorem div_real (x : EReal) {y : ℝ} (hy : y ≠ 0) : Ideal.div x (y : EReal) = x * ((y⁻¹ : ℝ) : EReal) := by
  unfold Ideal.div
  rw [if_neg (by exact_mod_cast hy), EReal.coe_inv]

/-- The inverse square root of a positive real number. -/
theorem rsqrt_real {y : ℝ} (hy : 0 < y) : Ideal.rsqrt (y : EReal) = (((Real.sqrt y)⁻¹ : ℝ) : EReal) := by
  rw [Ideal.rsqrt_coe, if_neg (not_lt.mpr hy.le), if_neg hy.ne']

/-- The sigmoid as the programs compute it. -/
def gate (x : EReal) : EReal := Ideal.div 1 (1 + Ideal.exp (-x))

/-- The sigmoid of a real number. -/
def sg (a : ℝ) : ℝ := (1 + Real.exp (-a))⁻¹

/-- The sigmoid as the programs compute it, at a real number. -/
theorem gate_coe (a : ℝ) : gate (a : EReal) = ((sg a : ℝ) : EReal) := by
  unfold gate
  have h1 : Ideal.exp (-(a : EReal)) = ((Real.exp (-a) : ℝ) : EReal) := by rw [← EReal.coe_neg]; rfl
  have h2 : (1 : EReal) + ((Real.exp (-a) : ℝ) : EReal) = ((1 + Real.exp (-a) : ℝ) : EReal) := by norm_cast
  rw [h1, h2]
  have h3 := Real.exp_pos (-a)
  rw [div_real _ (by positivity), one_mul]
  rfl

end Cert.Proof.Finite

end
-- ==== Proof.Rows.lean ====
module

public import proofs.«01_k».proof.Proof.Finite
public import Idealize.ShloMosaic.Lib.Pipeline.ValueKit
public import Idealize.ShloMosaic.Lib.Pointwise

@[expose] public section

noncomputable section

/-! One row of the root-mean-square norm: its backward pass as the kernels write it, over the extended reals and, for a
row of real numbers, over the reals. -/

namespace Cert.Proof.Rows

open Idealize.ShloMosaic

/-- The number of columns of a row, as the programs write it. -/
def sc : EReal := Ideal.ofBits .f32 1149239296#32

/-- The constant added under the root. -/
def ep : EReal := Ideal.ofBits .f32 897988541#32

/-- The constant added under the root, as a real number. -/
def epR : ℝ := 8796093 / 8796093022208

theorem sc_eq : sc = ((1024 : ℝ) : EReal) := by
  unfold sc
  simp [Ideal.ofBits, Ideal.ieee, -EReal.coe_mul]
  norm_num

theorem ep_eq : ep = ((epR : ℝ) : EReal) := by
  unfold ep epR
  simp [Ideal.ofBits, Ideal.ieee, -EReal.coe_mul]
  norm_num

theorem epR_pos : 0 < epR := by unfold epR; norm_num

/-- The inverse root mean square of a row. -/
def rn (x : Fin 1024 → EReal) : EReal := Ideal.rsqrt (Ideal.div (∑ k, x k * x k) sc + ep)

/-- The cotangent of a row under the norm, from the cotangent `d` of the normed row and the weights `g`. -/
def nb (d x g : Fin 1024 → EReal) (j : Fin 1024) : EReal :=
  rn x * (d j * g j - x j * rn x * Ideal.div (∑ k, d k * g k * (x k * rn x)) sc)

/-- A row's part in the gradient of the norm's weights. -/
def ng (d x : Fin 1024 → EReal) (j : Fin 1024) : EReal := d j * (x j * rn x)

/-- The mean square of a row of real numbers with the constant added. -/
def msR (x : Fin 1024 → ℝ) : ℝ := (∑ k, x k * x k) * (1024 : ℝ)⁻¹ + epR

theorem msR_pos (x : Fin 1024 → ℝ) : 0 < msR x := by
  have h : 0 ≤ ∑ k, x k * x k := Finset.sum_nonneg fun k _ => mul_self_nonneg _
  have := epR_pos
  unfold msR
  positivity

/-- The inverse root mean square of a row of real numbers. -/
def rnR (x : Fin 1024 → ℝ) : ℝ := (Real.sqrt (msR x))⁻¹

theorem rn_coe (x : Fin 1024 → ℝ) : rn (fun k => (x k : EReal)) = ((rnR x : ℝ) : EReal) := by
  unfold rn rnR
  rw [sc_eq, ep_eq, Finite.div_real _ (by norm_num : (1024 : ℝ) ≠ 0)]
  simp only [← EReal.coe_mul, Finite.coe_sum, ← EReal.coe_add]
  exact Finite.rsqrt_real (msR_pos x)

/-- The cotangent of a row of real numbers under the norm. -/
def nbR (d x g : Fin 1024 → ℝ) (j : Fin 1024) : ℝ :=
  rnR x * (d j * g j - x j * rnR x * ((∑ k, d k * g k * (x k * rnR x)) * (1024 : ℝ)⁻¹))

theorem nb_coe (d x g : Fin 1024 → ℝ) (j : Fin 1024) :
    nb (fun k => (d k : EReal)) (fun k => (x k : EReal)) (fun k => (g k : EReal)) j = ((nbR d x g j : ℝ) : EReal) := by
  unfold nb nbR
  rw [rn_coe, sc_eq, Finite.div_real _ (by norm_num : (1024 : ℝ) ≠ 0)]
  simp only [← EReal.coe_mul, Finite.coe_sum, ← EReal.coe_sub]

theorem ng_coe (d x : Fin 1024 → ℝ) (j : Fin 1024) :
    ng (fun k => (d k : EReal)) (fun k => (x k : EReal)) j = ((d j * (x j * rnR x) : ℝ) : EReal) := by
  unfold ng
  rw [rn_coe]
  simp only [← EReal.coe_mul]

/-- The share of the mean square in a row's cotangent, as the derivative of the inverse root gives it: half of it, since
the row stands twice in its square. -/
def hw (d x g : Fin 1024 → EReal) : EReal :=
  Ideal.div ((∑ k, x k * (d k * g k)) * (Ideal.ofBits .f32 3204448256#32 * Ideal.div (rn x) (Ideal.div (∑ k, x k * x k) sc + ep))) sc

/-- The same share under the sum over one term in which a broadcast along an axis of one element is undone. -/
def hs (d x g : Fin 1024 → EReal) : EReal :=
  ∑ _ : Fin 1, Ideal.div ((∑ k, x k * (d k * g k)) * (Ideal.ofBits .f32 3204448256#32 * Ideal.div (rn x) (Ideal.div (∑ k, x k * x k) sc + ep))) sc

theorem hs_eq (d x g : Fin 1024 → EReal) : hs d x g = hw d x g := Fin.sum_univ_one _

/-- The same share of a row of real numbers. -/
def hwR (d x g : Fin 1024 → ℝ) : ℝ := (∑ k, x k * (d k * g k)) * (-(1 / 2) * (rnR x * (msR x)⁻¹)) * (1024 : ℝ)⁻¹

theorem half_eq : Ideal.ofBits .f32 3204448256#32 = ((-(1 / 2) : ℝ) : EReal) := by
  simp [Ideal.ofBits, Ideal.ieee, -EReal.coe_mul]
  norm_num

theorem hw_coe (d x g : Fin 1024 → ℝ) :
    hw (fun k => (d k : EReal)) (fun k => (x k : EReal)) (fun k => (g k : EReal)) = ((hwR d x g : ℝ) : EReal) := by
  have hm : Ideal.div (∑ k, (x k : EReal) * (x k : EReal)) sc + ep = ((msR x : ℝ) : EReal) := by
    unfold msR
    rw [sc_eq, ep_eq, Finite.div_real _ (by norm_num : (1024 : ℝ) ≠ 0)]
    simp only [← EReal.coe_mul, Finite.coe_sum, ← EReal.coe_add]
  unfold hw hwR
  rw [rn_coe, hm, half_eq, Finite.div_real _ (ne_of_gt (msR_pos x)), sc_eq, Finite.div_real _ (by norm_num : (1024 : ℝ) ≠ 0)]
  simp only [← EReal.coe_mul, Finite.coe_sum]

theorem rnR_sq (x : Fin 1024 → ℝ) : rnR x * rnR x = (msR x)⁻¹ := by
  unfold rnR
  rw [← mul_inv, Real.mul_self_sqrt (le_of_lt (msR_pos x))]

/-- The two ways of writing a row's cotangent agree at real numbers. -/
theorem two_halves (d x g : Fin 1024 → ℝ) (j : Fin 1024) : d j * g j * rnR x + x j * hwR d x g + hwR d x g * x j = nbR d x g j := by
  have e : ∑ k, d k * g k * (x k * rnR x) = (∑ k, x k * (d k * g k)) * rnR x := by
    rw [Finset.sum_mul]
    exact Finset.sum_congr rfl fun k _ => by ring
  unfold nbR hwR
  rw [e, ← rnR_sq]
  ring

/-- A row's cotangent by the derivative's rule, as the norm's backward pass. -/
theorem nb_of_halves (d x g : Fin 1024 → ℝ) (j : Fin 1024) :
    (d j : EReal) * (g j : EReal) * rn (fun k => (x k : EReal)) + (x j : EReal) * hw (fun k => (d k : EReal)) (fun k => (x k : EReal)) (fun k => (g k : EReal))
      + hw (fun k => (d k : EReal)) (fun k => (x k : EReal)) (fun k => (g k : EReal)) * (x j : EReal)
    = nb (fun k => (d k : EReal)) (fun k => (x k : EReal)) (fun k => (g k : EReal)) j := by
  rw [hw_coe, rn_coe, nb_coe, ← two_halves]
  simp only [← EReal.coe_mul, ← EReal.coe_add]

/-- A sum over 544 rows in the three parts in which the kernels take it. -/
theorem sum_parts {M : Type} [AddCommMonoid M] (f : Fin 544 → M) :
    ∑ p, f p = (∑ p : Fin 192, f ⟨p.val, by omega⟩ + ∑ p : Fin 176, f ⟨192 + p.val, by omega⟩) + ∑ p : Fin 176, f ⟨368 + p.val, by omega⟩ := by
  have h1 := Fin.sum_univ_add (a := 368) (b := 176) f
  have h2 := Fin.sum_univ_add (a := 192) (b := 176) fun p : Fin 368 => f ⟨p.val, by omega⟩
  exact h1.trans (congrArg (· + _) h2)

end Cert.Proof.Rows

end
-- ==== Proof.MmInFrame.lean ====
module

public import proofs.«01_k».proof.Proof.MmInRun
public import proofs.«01_k».proof.Proof.Rows

@[expose] public section

set_option maxRecDepth 16384

noncomputable section

/-! The input projection: every run of the pipeline. The last block of the rows reaches past their end, where the tail
laid out at the first point is taken instead, so that what each result receives does not depend on what stands there. -/

namespace Cert.Proof.MmInFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose Window)
open Cert.KernelMmInIdeal Cert.KernelMmInIdeal.Gen Cert.Proof.MmInRun

variable {F : FTy → Type} [FloatOps F]

/-- A row comes from the rows given when its number, counted over the points, is below 2048. -/
theorem keep {α : Type} (a r : ℕ) (ha : a < 4) (hr : r < 544) (x y : α) :
    Scalar.select (IntOp.cmpi .slt (IntOp.addi (Scalar.muli (BitVec.ofNat 32 a) 544#32) (BitVec.ofNat 32 r)) 2048#32) x y
      = if a * 544 + r < 2048 then x else y := by
  have key : IntOp.cmpi .slt (IntOp.addi (Scalar.muli (BitVec.ofNat 32 a) 544#32) (BitVec.ofNat 32 r)) 2048#32 = 1 ↔ a * 544 + r < 2048 := by
    have e : IntOp.addi (Scalar.muli (BitVec.ofNat 32 a) 544#32) (BitVec.ofNat 32 r) = BitVec.ofNat 32 (a * 544 + r) := by
      show IntOp.addi (IntOp.muli (BitVec.ofNat 32 a) (BitVec.ofNat 32 544)) (BitVec.ofNat 32 r) = _
      rw [WordCmp.muli_ofNat, WordCmp.addi_ofNat]
    rw [e]
    show _ = 1#1 ↔ _
    word_cmp
  unfold Scalar.select
  by_cases h : a * 544 + r < 2048
  · rw [if_pos (key.mpr h), if_pos h]
  · rw [if_neg (fun hh => h (key.mp hh)), if_neg h]

theorem pay15_apply (i : grid0.Coords) (x t : Vec F S544x1024 .f32) (j : S544x1024.Idx) :
    k0_pay15 i x t j = if (i 0).val * 544 + (j 0).val < 2048 then x j else t j := by
  unfold k0_pay15
  pointwise
  exact keep (i 0).val (j 0).val (i 0).isLt (j 0).isLt _ _

/-- Two blocks of the rows agree on the rows that are taken. -/
def Agree (i : grid0.Coords) (x x' : Vec F S544x1024 .f32) : Prop := ∀ j : S544x1024.Idx, (i 0).val * 544 + (j 0).val < 2048 → x j = x' j

theorem pay15_congr (i : grid0.Coords) (x x' t : Vec F S544x1024 .f32) (h : Agree i x x') : k0_pay15 i x t = k0_pay15 i x' t := by
  funext j
  rw [pay15_apply, pay15_apply]
  split
  · rename_i hj; exact h j hj
  · rfl

theorem pay16_congr (i : grid0.Coords) (x x' t : Vec F S544x1024 .f32) (g : Vec F S1x1024 .f32) (h : Agree i x x') :
    k0_pay16 i x t g = k0_pay16 i x' t g := by
  unfold k0_pay16; rw [pay15_congr i x x' t h]

variable (c : Dev nD) (i : grid0.Coords)
  (a1 : Memref sig .tc .vmem S544x1024 .f32) (w1 : a1.IsWhole)
  (a2 : Memref sig .tc .vmem S4x64x256 .f32) (w2 : a2.IsWhole)
  (a3 : Memref sig .tc .vmem S4x1024x640 .bf16) (w3 : a3.IsWhole)
  (a4 : Memref sig .tc .vmem S1x1024 .f32) (w4 : a4.IsWhole)
  (a5 : Memref sig .tc .hbm S8x128 .f32) (w5 : a5.IsWhole)
  (a6 : Memref sig .tc .vmem S544x1024 .f32) (w6 : a6.IsWhole)
  (a7 : Memref sig .tc .vmem S544x1024 .bf16) (w7 : a7.IsWhole)
  (a8 : Memref sig .tc .vmem S5x544x512 .f32) (w8 : a8.IsWhole)
  (a9 : Memref sig .tc .vmem S1024x2560 .bf16) (w9 : a9.IsWhole)
  (a10 : Memref sig .tc .vmem S544x1024 .f32) (w10 : a10.IsWhole)
  (x1 : Vec F S544x1024 .f32) (x2 : Vec F S4x64x256 .f32) (x3 : Vec F S4x1024x640 .bf16) (x4 : Vec F S1x1024 .f32)
  (s9 : Vec F S1024x2560 .bf16) (s10 : Vec F S544x1024 .f32)

/-- The weight's four shards side by side, -/
def wcat : Vec F S1024x2560 .bf16 := View.canon
  [⟨Rect.unit (s := S1024x2560) ![0, 1920] ![1024, 640] inb_S1024x2560_S1024x640_0_1920, k0_pay9 (View.ld x3 (Rect.unit (s := S4x1024x640) ![3, 0, 0] ![1, 1024, 640] inb_S4x1024x640_S1x1024x640_3_0_0))⟩,
   ⟨Rect.unit (s := S1024x2560) ![0, 1280] ![1024, 640] inb_S1024x2560_S1024x640_0_1280, k0_pay8 (View.ld x3 (Rect.unit (s := S4x1024x640) ![2, 0, 0] ![1, 1024, 640] inb_S4x1024x640_S1x1024x640_2_0_0))⟩,
   ⟨Rect.unit (s := S1024x2560) ![0, 640] ![1024, 640] inb_S1024x2560_S1024x640_0_640, k0_pay7 (View.ld x3 (Rect.unit (s := S4x1024x640) ![1, 0, 0] ![1, 1024, 640] inb_S4x1024x640_S1x1024x640_1_0_0))⟩,
   ⟨Rect.unit (s := S1024x2560) ![0, 0] ![1024, 640] inb_S1024x2560_S1024x640_0_0, k0_pay6 (View.ld x3 (Rect.unit (s := S4x1024x640) ![0, 0, 0] ![1, 1024, 640] inb_S4x1024x640_S1x1024x640_0_0_0))⟩]

/-- the tail of the last block, -/
def tail : Vec F S544x1024 .f32 := View.canon
  [⟨Rect.unit (s := S544x1024) ![416, 768] ![16, 256] inb_S544x1024_S16x256_416_768, k0_pay14 (View.ld x2 (Rect.unit (s := S4x64x256) ![3, 0, 0] ![1, 16, 256] inb_S4x64x256_S1x16x256_3_0_0))⟩,
   ⟨Rect.unit (s := S544x1024) ![416, 512] ![16, 256] inb_S544x1024_S16x256_416_512, k0_pay13 (View.ld x2 (Rect.unit (s := S4x64x256) ![2, 0, 0] ![1, 16, 256] inb_S4x64x256_S1x16x256_2_0_0))⟩,
   ⟨Rect.unit (s := S544x1024) ![416, 256] ![16, 256] inb_S544x1024_S16x256_416_256, k0_pay12 (View.ld x2 (Rect.unit (s := S4x64x256) ![1, 0, 0] ![1, 16, 256] inb_S4x64x256_S1x16x256_1_0_0))⟩,
   ⟨Rect.unit (s := S544x1024) ![416, 0] ![16, 256] inb_S544x1024_S16x256_416_0, k0_pay11 (View.ld x2 (Rect.unit (s := S4x64x256) ![0, 0, 0] ![1, 16, 256] inb_S4x64x256_S1x16x256_0_0_0))⟩,
   ⟨Rect.unit (s := S544x1024) ![0, 0] ![544, 1024] inb_S544x1024_S544x1024_0_0, k0_pay10⟩]

/-- and what a point leaves in the five planes of the projection, from the normed rows and the weight. -/
def new6 (n : Vec F S544x1024 .bf16) (W : Vec F S1024x2560 .bf16) : Vec F S5x544x512 .f32 := View.canon
  [⟨Rect.unit (s := S5x544x512) ![4, 0, 0] ![1, 544, 512] inb_S5x544x512_S1x544x512_4_0_0, k0_pay5 n (View.ld W (Rect.unit (s := S1024x2560) ![0, 2048] ![1024, 512] inb_S1024x2560_S1024x512_0_2048))⟩,
   ⟨Rect.unit (s := S5x544x512) ![3, 0, 0] ![1, 544, 512] inb_S5x544x512_S1x544x512_3_0_0, k0_pay4 n (View.ld W (Rect.unit (s := S1024x2560) ![0, 1536] ![1024, 512] inb_S1024x2560_S1024x512_0_1536))⟩,
   ⟨Rect.unit (s := S5x544x512) ![2, 0, 0] ![1, 544, 512] inb_S5x544x512_S1x544x512_2_0_0, k0_pay3 n (View.ld W (Rect.unit (s := S1024x2560) ![0, 1024] ![1024, 512] inb_S1024x2560_S1024x512_0_1024))⟩,
   ⟨Rect.unit (s := S5x544x512) ![1, 0, 0] ![1, 544, 512] inb_S5x544x512_S1x544x512_1_0_0, k0_pay2 n (View.ld W (Rect.unit (s := S1024x2560) ![0, 512] ![1024, 512] inb_S1024x2560_S1024x512_0_512))⟩,
   ⟨Rect.unit (s := S5x544x512) ![0, 0, 0] ![1, 544, 512] inb_S5x544x512_S1x544x512_0_0_0, k0_pay1 n (View.ld W (Rect.unit (s := S1024x2560) ![0, 0] ![1024, 512] inb_S1024x2560_S1024x512_0_0))⟩]

theorem rdc {κ : Kind} {sp : Space} {s : Shape} {e : EltTy} (v : View sig κ sp s e) (L : List (View.Piece (Elt F) s e)) (r : Rect s) :
    v.readCov L r.toLoadRect = View.ld (View.canon L) r := View.readCov_eq_canon' v L r.toLoadRect

/-- The tail read whole. -/
theorem rdw {κ : Kind} {sp : Space} (v : View sig κ sp S544x1024 .f32) (L : List (View.Piece (Elt F) S544x1024 .f32)) :
    v.readCov L (Rect.unit (s := S544x1024) ![0, 0] ![544, 1024] inb_S544x1024_S544x1024_0_0).toLoadRect = View.canon L :=
  (rdc v L _).trans (View.ld_unit_lit _ _ (by decide))

theorem leftA9_eq (hc : First i) : leftA9 c i a1 w1 a2 w2 a3 w3 a4 w4 a5 w5 a6 w6 a7 w7 a8 w8 a9 w9 a10 w10 x1 x2 x3 x4 hc = wcat x3 := by
  frame_out

theorem leftA10_eq (hc : First i) : leftA10 c i a1 w1 a2 w2 a3 w3 a4 w4 a5 w5 a6 w6 a7 w7 a8 w8 a9 w9 a10 w10 x1 x2 x3 x4 hc = tail x2 := by
  frame_out

theorem leftA4_eq (hc : First i) : leftA4 c i a1 w1 a2 w2 a3 w3 a4 w4 a5 w5 a6 w6 a7 w7 a8 w8 a9 w9 a10 w10 x1 x2 x3 x4 hc = k0_pay15 i x1 (tail x2) := by
  unfold tail; frame_out; rw [rdw]

theorem leftA5_eq (hc : First i) : leftA5 c i a1 w1 a2 w2 a3 w3 a4 w4 a5 w5 a6 w6 a7 w7 a8 w8 a9 w9 a10 w10 x1 x2 x3 x4 hc = k0_pay16 i x1 (tail x2) x4 := by
  unfold tail; frame_out; rw [rdw]

theorem leftA6_eq (hc : First i) : leftA6 c i a1 w1 a2 w2 a3 w3 a4 w4 a5 w5 a6 w6 a7 w7 a8 w8 a9 w9 a10 w10 x1 x2 x3 x4 hc
    = new6 (k0_pay16 i x1 (tail x2) x4) (wcat x3) := by
  unfold new6 wcat tail; frame_out; rw [rdw]; simp only [rdc]

theorem leftB4_eq (hc : ¬First i) : leftB4 c i a1 w1 a2 w2 a3 w3 a4 w4 a5 w5 a6 w6 a7 w7 a8 w8 a9 w9 a10 w10 x1 x2 x3 x4 s9 s10 hc = k0_pay15 i x1 s10 := by
  frame_out

theorem leftB5_eq (hc : ¬First i) : leftB5 c i a1 w1 a2 w2 a3 w3 a4 w4 a5 w5 a6 w6 a7 w7 a8 w8 a9 w9 a10 w10 x1 x2 x3 x4 s9 s10 hc = k0_pay16 i x1 s10 x4 := by
  frame_out

theorem leftB6_eq (hc : ¬First i) : leftB6 c i a1 w1 a2 w2 a3 w3 a4 w4 a5 w5 a6 w6 a7 w7 a8 w8 a9 w9 a10 w10 x1 x2 x3 x4 s9 s10 hc
    = new6 (k0_pay16 i x1 s10 x4) s9 := by
  frame_out

section
variable (m : (ℓ : Loc nD τ sig) → Buf (Elt F) ℓ) (ρ : Dev nD → PrngReg) (c : Dev nD)

/-- The rows' block at a point, a zero in each row past their end. -/
def xblk (t : Fin cfg0.N) : Vec F S544x1024 .f32 := win0_0.fill (grid0.coords t) (fun _ => FloatOps.ofBits .f32 0#32) (iblk m c 0 t)

/-- A row that is taken lies inside the rows given. -/
theorem kept_moved : ∀ t : Fin cfg0.N, win0_0.xsize (grid0.coords t) 0 = min 544 (2048 - t.val * 544) ∧ win0_0.xsize (grid0.coords t) 1 = 1024
    ∧ (grid0.coords t 0).val = t.val := by decide +kernel

theorem moved (t : Fin cfg0.N) (j : S544x1024.Idx) (hj : (grid0.coords t 0).val * 544 + (j 0).val < 2048) : win0_0.moved (grid0.coords t) j = true := by
  obtain ⟨e0, e1, e2⟩ := kept_moved t
  rw [Window.moved_iff]
  intro a
  match a with
  | ⟨0, _⟩ =>
    show (j 0).val < win0_0.xsize (grid0.coords t) 0
    have h0 : (j 0).val < 544 := (j 0).isLt
    rw [e0]; rw [e2] at hj; omega
  | ⟨1, _⟩ =>
    show (j 1).val < win0_0.xsize (grid0.coords t) 1
    rw [e1]; exact (j 1).isLt

theorem agree (t : Fin cfg0.N) (d d' : Vec F S544x1024 .f32) :
    Agree (grid0.coords t) (win0_0.fill (grid0.coords t) d (iblk m c 0 t)) (win0_0.fill (grid0.coords t) d' (iblk m c 0 t)) := by
  intro j hj
  have hm := moved t j hj
  unfold Window.fill
  rw [dif_pos hm, dif_pos hm]

/-- What the two scratch buffers hold once filled, and the normed rows of a point. -/
def wts : Vec F S1024x2560 .bf16 := wcat (iblk m c 2 t0_0)
def tl : Vec F S544x1024 .f32 := tail (iblk m c 1 t0_0)
def nrm (t : Fin cfg0.N) : Vec F S544x1024 .bf16 := k0_pay16 (grid0.coords t) (xblk m c t) (tl m c) (iblk m c 3 t)

/-- Before the first point the scratch buffers hold anything; after it, the weight and the tail. -/
def PhiS (c : Dev nD) (n : ℕ) : sProp (Res F) :=
  if n = 0 then Pipeline.ΦA spec0 c
  else iprop((owns (c : Thread nD τ) (Memref.whole cc0_scratch0) fullShare (wts m c) ∗ owns (c : Thread nD τ) (Memref.whole cc0_scratch1) fullShare (tl m c)) ∗ ∃ r, prngReg c r)

theorem PhiA_eq (c : Dev nD) : (Pipeline.ΦA spec0 c : sProp (Res F))
    = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => iblk m c 2 t
    | ⟨3, _⟩ => iblk m c 3 t
    | ⟨4, _⟩ => k0_pay15 (grid0.coords t) (xblk m c t) (tl m c)
    | ⟨5, _⟩ => nrm m c t
    | ⟨6, _⟩ => new6 (nrm m c t) (wts m c)
  Φ t := PhiS m c t.val
  q _ := fullShare
  owed _ := 0

theorem A_eq (c : Dev nD) (w : Fin cfg0.W) : (dats m 0 c).A w = V m c (Pipeline.arrRef spec0 w) := by
  dsimp only [dats]

theorem after0 (t : Fin cfg0.N) : (dats m 0 c).after 0 t = xblk m c t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = k0_pay15 (grid0.coords t) (xblk m c t) (tl m c) := by dsimp only [dats]
theorem after5 (t : Fin cfg0.N) : (dats m 0 c).after 5 t = nrm m c t := by dsimp only [dats]
theorem after6 (t : Fin cfg0.N) : (dats m 0 c).after 6 t = new6 (nrm m c t) (wts m c) := by dsimp only [dats]

theorem before1 (t : Fin cfg0.N) (d) : (dats m 0 c).before 1 t d = iblk m c 1 t := before0_1_of m (dats m 0 c) (A_eq m c 1) (after1 m c) t d
theorem before2 (t : Fin cfg0.N) (d) : (dats m 0 c).before 2 t d = iblk m c 2 t := before0_2_of m (dats m 0 c) (A_eq m c 2) (after2 m c) t d
theorem before3 (t : Fin cfg0.N) (d) : (dats m 0 c).before 3 t d = iblk m c 3 t := before0_3_of m (dats m 0 c) (A_eq m c 3) (after3 m c) t d

/-- The rows' buffer: the block, and past the rows' end what stood there. -/
theorem before0 (t : Fin cfg0.N) (d) : (dats m 0 c).before 0 t d = win0_0.fill (grid0.coords t) d (iblk m c 0 t) := by
  unfold Dat.before
  rw [if_pos (fetch0_0 t)]
  unfold Dat.fetched Dat.blockOf iblk
  rw [A_eq]

/-- What a point starts from, -/
def Pre (t : Fin cfg0.N) : sProp (Res F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it leaves. -/
def Post (t : Fin cfg0.N) : sProp (Res F) :=
  iprop((dats m 0 c).Φ t.succ ∗ (dats m 0 c).owesAt () t.succ
    ∗ (∃ d, owns (c : Thread nD τ) (win0_0.stage (cfg0.slots t 0)) fullShare (win0_0.fill (grid0.coords t) d (win0_0.cut (grid0.coords t) ((dats m 0 c).after 0 t))))
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 1600000 in
/-- A point's body, from any words in the rows past the end. -/
theorem point_sound (t : Fin cfg0.N) :
    Pre m c t ⊢ wp frame (wpE (defs₀ (F := F)) Variants.none c none) Set.univ (bodyAt0 t) (fun _ => Post m c t) := by
  unfold Pre Post bodyAt0
  simp only [before0, before1, before2, before3]
  rw [show (dats m 0 c).Φ t.castSucc = PhiS m c t.val from rfl,
    show (dats m 0 c).Φ t.succ = PhiS m c (t.val + 1) from rfl,
    show (dats m 0 c).owesAt () t.succ = (dats m 0 c).owesAt () t.castSucc from rfl,
    after0, after1, after2, after3, after4, after5, after6]
  rw [show PhiS m c (t.val + 1) = _ from if_neg (Nat.succ_ne_zero _)]
  unfold nrm xblk
  rw [Window.cut_fill]
  by_cases h0 : t.val = 0
  · have ht : t = t0_0 := Fin.ext h0
    rw [show PhiS m c t.val = _ from if_pos h0, PhiA_eq]
    iintro ⟨⟨⟨⟨%d9, H9⟩, ⟨%d10, H10⟩⟩, Hg⟩, Ho, ⟨%d0, H0⟩, ⟨%d1, H1⟩, ⟨%d2, H2⟩, ⟨%d3, H3⟩, ⟨%d4, H4⟩, ⟨%d5, H5⟩, ⟨%d6, H6⟩⟩
    rw [← pay15_congr (grid0.coords t) _ _ (tl m c) (agree m c t d0 _), ← pay16_congr (grid0.coords t) _ _ (tl m c) (iblk m c 3 t) (agree m c t d0 _)]
    rw [show tl m c = tail (iblk m c 1 t) from by rw [ht]; rfl, show wts m c = wcat (iblk m c 2 t) from by rw [ht]; rfl]
    iapply ((runA c (grid0.coords t) _ _ _ _ _ _ _ _ _ _ _ _ _ _ _ _ _ _ _ _ (win0_0.fill (grid0.coords t) d0 (iblk m c 0 t)) (iblk m c 1 t) (iblk m c 2 t) (iblk m c 3 t) ((first_iff t).mpr h0)).2.2.2.2.2 Set.univ _)
    unfold Ins Any Wrote
    isplitl [H0 H1 H2 H3]
    · isplitl [H0]; · iexact H0
      isplitl [H1]; · iexact H1
      isplitl [H2]; · iexact H2
      iexact H3
    isplitl [H4 H5 H6]
    · isplitl [H4]; · iexists _; iexact H4
      isplitl [H5]; · iexists _; iexact H5
      iexists _; iexact H6
    isplitl [H9]; · iexists _; iexact H9
    isplitl [H10]; · iexists _; iexact H10
    iintro ⟨⟨H0, H1, H2, H3⟩, ⟨%e4, H4⟩, ⟨%e5, H5⟩, ⟨%e6, H6⟩, ⟨%e9, H9⟩, ⟨%e10, H10⟩⟩
    isplitl [H9 H10 Hg]
    · isplitl [H9 H10]
      · isplitl [H9]
        · unfold owns; iexists _; isplitr
          swap; · iexact H9
          ipureintro; exact (View.read_writes_eq_canon _ _ _ (coverA9 c _ _ _ _ _ _ _ _ _ _ _ _ _ _ _ _ _ _ _ _ _ _ _ _ _ _)).trans (leftA9_eq c _ _ _ _ _ _ _ _ _ _ _ _ _ _ _ _ _ _ _ _ _ _ _ _ _ _)
        unfold owns; iexists _; isplitr
        swap; · iexact H10
        ipureintro; exact (View.read_writes_eq_canon _ _ _ (coverA10 c _ _ _ _ _ _ _ _ _ _ _ _ _ _ _ _ _ _ _ _ _ _ _ _ _ _)).trans (leftA10_eq c _ _ _ _ _ _ _ _ _ _ _ _ _ _ _ _ _ _ _ _ _ _ _ _ _ _)
      iexact Hg
    isplitl [Ho]; · iexact Ho
    isplitl [H0]; · iexists d0; iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (coverA4 c _ _ _ _ _ _ _ _ _ _ _ _ _ _ _ _ _ _ _ _ _ _ _ _ _ _)).trans (leftA4_eq c _ _ _ _ _ _ _ _ _ _ _ _ _ _ _ _ _ _ _ _ _ _ _ _ _ _)
    isplitl [H5]
    · unfold owns; iexists _; isplitr
      swap; · iexact H5
      ipureintro; exact (View.read_writes_eq_canon _ _ _ (coverA5 c _ _ _ _ _ _ _ _ _ _ _ _ _ _ _ _ _ _ _ _ _ _ _ _ _ _)).trans (leftA5_eq c _ _ _ _ _ _ _ _ _ _ _ _ _ _ _ _ _ _ _ _ _ _ _ _ _ _)
    unfold owns; iexists _; isplitr
    swap; · iexact H6
    ipureintro; exact (View.read_writes_eq_canon _ _ _ (coverA6 c _ _ _ _ _ _ _ _ _ _ _ _ _ _ _ _ _ _ _ _ _ _ _ _ _ _)).trans (leftA6_eq c _ _ _ _ _ _ _ _ _ _ _ _ _ _ _ _ _ _ _ _ _ _ _ _ _ _)
  · rw [show PhiS m c t.val = _ from if_neg h0]
    iintro ⟨⟨⟨H9, H10⟩, Hg⟩, Ho, ⟨%d0, H0⟩, ⟨%d1, H1⟩, ⟨%d2, H2⟩, ⟨%d3, H3⟩, ⟨%d4, H4⟩, ⟨%d5, H5⟩, ⟨%d6, H6⟩⟩
    rw [← pay15_congr (grid0.coords t) _ _ (tl m c) (agree m c t d0 _), ← pay16_congr (grid0.coords t) _ _ (tl m c) (iblk m c 3 t) (agree m c t d0 _)]
    iapply ((runB c (grid0.coords t) _ _ _ _ _ _ _ _ _ _ _ _ _ _ _ _ _ _ _ _ (win0_0.fill (grid0.coords t) d0 (iblk m c 0 t)) (iblk m c 1 t) (iblk m c 2 t) (iblk m c 3 t) (wts m c) (tl m c) (fun h => h0 ((first_iff t).mp h))).2.2.2 Set.univ _)
    unfold Ins Any Wrote
    isplitl [H0 H1 H2 H3]
    · isplitl [H0]; · iexact H0
      isplitl [H1]; · iexact H1
      isplitl [H2]; · iexact H2
      iexact H3
    isplitl [H4 H5 H6]
    · isplitl [H4]; · iexists _; iexact H4
      isplitl [H5]; · iexists _; iexact H5
      iexists _; iexact H6
    isplitl [H9]; · iexact H9
    isplitl [H10]; · iexact H10
    iintro ⟨⟨H0, H1, H2, H3⟩, ⟨%e4, H4⟩, ⟨%e5, H5⟩, ⟨%e6, H6⟩, H9, H10⟩
    isplitl [H9 H10 Hg]
    · isplitl [H9 H10]
      · isplitl [H9]; · iexact H9
        iexact H10
      iexact Hg
    isplitl [Ho]; · iexact Ho
    isplitl [H0]; · iexists d0; iexact H0
    isplitl [H1]; · iexact H1
    isplitl [H2]; · iexact H2
    isplitl [H3]; · iexact H3
    isplitl [H4]
    · unfold owns; iexists _; isplitr
      swap; · iexact H4
      ipureintro; exact (View.read_writes_eq_canon _ _ _ (coverB4 c _ _ _ _ _ _ _ _ _ _ _ _ _ _ _ _ _ _ _ _ _ _ _ _ _ _ _ _)).trans (leftB4_eq c _ _ _ _ _ _ _ _ _ _ _ _ _ _ _ _ _ _ _ _ _ _ _ _ _ _ _ _)
    isplitl [H5]
    · unfold owns; iexists _; isplitr
      swap; · iexact H5
      ipureintro; exact (View.read_writes_eq_canon _ _ _ (coverB5 c _ _ _ _ _ _ _ _ _ _ _ _ _ _ _ _ _ _ _ _ _ _ _ _ _ _ _ _)).trans (leftB5_eq c _ _ _ _ _ _ _ _ _ _ _ _ _ _ _ _ _ _ _ _ _ _ _ _ _ _ _ _)
    unfold owns; iexists _; isplitr
    swap; · iexact H6
    ipureintro; exact (View.read_writes_eq_canon _ _ _ (coverB6 c _ _ _ _ _ _ _ _ _ _ _ _ _ _ _ _ _ _ _ _ _ _ _ _ _ _ _ _)).trans (leftB6_eq c _ _ _ _ _ _ _ _ _ _ _ _ _ _ _ _ _ _ _ _ _ _ _ _ _ _ _ _)

theorem row_eq (t : Fin cfg0.N) : defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ := fun t => by
  rw [bigSep_W0, bigSep_W0, row_eq]
  exact triple_restated (point_sound m c t) rfl .rfl fun _ => .rfl

theorem hin (c : Dev nD) : Pipeline.ΦA spec0 c ⊢ (dats m 0 c).Φ 0 := by
  rw [show (dats m 0 c).Φ 0 = PhiS m c 0 from rfl, show PhiS m c 0 = _ from if_pos rfl]

/-- After the last point what the scratch buffers hold is forgotten. -/
theorem hout (c : Dev nD) : (dats m 0 c).Φ (Fin.last cfg0.N) ⊢ Pipeline.ΦA spec0 c := by
  rw [show (dats m 0 c).Φ (Fin.last cfg0.N) = PhiS m c cfg0.N from rfl, show PhiS m c cfg0.N = _ from if_neg (by rw [show cfg0.N = 4 from N_0]; decide), PhiA_eq]
  iintro ⟨⟨H9, H10⟩, Hg⟩
  isplitl [H9 H10]
  · isplitl [H9]; · iexists _; iexact H9
    iexists _; iexact H10
  iexact Hg

set_option backward.isDefEq.respectTransparency.types false in
/-- Every run ends, with every array at what the points leave and no signal outstanding. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => obligation m c) (hshare := fun c => (dats m 0 c).share_full fun _ => rfl)
    (howed := fun _ _ => rfl) (V := V m) (hmain := hmain m Variants.none) (hA := A_eq m) (hin := hin m) (hout := hout m)

/-- The arguments are left as they were. -/
theorem kept (r : PUnit × MemSt nD τ sig (Elt F)) (h : Pipeline.FramePost cfgs (dats m) 0 (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c)⟩

end

end Cert.Proof.MmInFrame
-- ==== Proof.DownRun.lean ====
module

public import proofs.«01_k».proof.Proof.Gen.KernelFfnDownIdeal
public import proofs.«01_k».proof.Proof.Gen.KernelFfnDownIdeal.Frame
public import proofs.«01_k».proof.Proof.Gen.KernelFfnDownIdeal.Skeleton
public import Idealize.ShloMosaic.Lib.Claim

@[expose] public section

set_option maxRecDepth 16384

noncomputable section

/-! The feed-forward down projection's grid point, run once at the first point and once at a later one: what its stores
leave in the four results, whatever stands in the rows of the target's buffer past the target's end. -/

namespace Cert.Proof.DownRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelFfnDownIdeal Cert.KernelFfnDownIdeal.Gen

variable {F : FTy → Type} [FloatOps F]

/-- The resources a program logic statement speaks of. -/
abbrev Res (F : FTy → Type) [FloatOps F] := MT nD τ sig Unit (Elt F) ℕ (UR sig nD τ) ℕ

/-- The point is the first one: the two sums are set to zero before they are added to. -/
abbrev First (i : grid0.Coords) : Prop :=
  (Scalar.cmpi .ne (Scalar.extui (Scalar.cmpi .eq (BitVec.ofNat 32 (i 0).val) 0#32)) 0#32) = 1#1

theorem first_iff (t : Fin cfg0.N) : First (grid0.coords t) ↔ t.val = 0 := by
  have ht : t.val < 4 := Nat.lt_of_lt_of_eq t.isLt N_0
  have e : (grid0.coords t 0).val = t.val / 1 % 4 := Pipeline.Grid.coords_val t 0 (by decide) rfl
  have e' : t.val / 1 % 4 = t.val := by omega
  rw [e'] at e
  simp only [First, e]
  word_cmp

variable (c : Dev nD) (i : grid0.Coords)
  (a1 : Memref sig .tc .vmem S544x2816 .bf16) (w1 : a1.IsWhole)
  (a2 : Memref sig .tc .vmem S2816x1024 .bf16) (w2 : a2.IsWhole)
  (a3 : Memref sig .tc .vmem S544x1024 .f32) (w3 : a3.IsWhole)
  (a4 : Memref sig .tc .vmem S544x1024 .f32) (w4 : a4.IsWhole)
  (a5 : Memref sig .tc .vmem S1x1024 .f32) (w5 : a5.IsWhole)
  (a6 : Memref sig .tc .vmem S544x1024 .bf16) (w6 : a6.IsWhole)
  (a7 : Memref sig .tc .vmem S544x1024 .f32) (w7 : a7.IsWhole)
  (a8 : Memref sig .tc .vmem S8x128 .f32) (w8 : a8.IsWhole)
  (a9 : Memref sig .tc .vmem S1x1024 .f32) (w9 : a9.IsWhole)
  (x0 : Vec F S544x2816 .bf16) (x1 : Vec F S2816x1024 .bf16) (x2 x3 : Vec F S544x1024 .f32) (x4 : Vec F S1x1024 .f32)
  (s7 : Vec F S8x128 .f32) (s8 : Vec F S1x1024 .f32)

set_option maxHeartbeats 1000000 in
/-- At the first point: the stores each result receives, last first, and that the body makes them. -/
def runA (hc : First i) :
    Σ' (L5 : List (View.Piece (Elt F) S544x1024 .bf16)), Σ' (L6 : List (View.Piece (Elt F) S544x1024 .f32)), Σ' (L7 : List (View.Piece (Elt F) S8x128 .f32)),
      { L8 : List (View.Piece (Elt F) S1x1024 .f32) // ∀ (E : Set ℕ) (K : PUnit → sProp (Res F)),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
            ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
              ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ f, a9.view.loc (c : Thread nD τ) ↦[a9.view.set]{fullShare} a9.view.writes (Elt F) f L8)) -∗ K ⟨⟩))
          ⊢ wp frame (wpE (defs₀ (F := F)) Variants.none c none) E (cc0_ffn_down i a1 w1 a2 w2 a3 w3 a4 w4 a5 w5 a6 w6 a7 w7 a8 w8 a9 w9) K } := by
  refine ⟨?_, ?_, ?_, ?_, fun E K => ?run⟩
  case run =>
    simp only [cc0_ffn_down_eq_skeleton]; unfold cc0_ffn_down_skel
    simp only [k0_part1_eq_skeleton, k0_part2_eq_skeleton, k0_part3_eq_skeleton]
    unfold owns
    iintro ⟨⟨%f0, %h0, H0⟩, ⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, Hk⟩
    obtain rfl := w1.eq_unread h0
    obtain rfl := w2.eq_unread h1
    obtain rfl := w3.eq_unread h2
    obtain rfl := w4.eq_unread h3
    obtain rfl := w5.eq_unread h4
    sl_exec (disch := first | sl_exact hc)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]; · iexists _; iexact H5
    isplitl [H6]; · iexists _; iexact H6
    isplitl [H7]; · iexists _; iexact H7
    iexists _; iexact H8

set_option maxHeartbeats 1000000 in
/-- At a later point, the two sums found at `s7` and `s8`. -/
def runB (hc : ¬First i) :
    Σ' (L5 : List (View.Piece (Elt F) S544x1024 .bf16)), Σ' (L6 : List (View.Piece (Elt F) S544x1024 .f32)), Σ' (L7 : List (View.Piece (Elt F) S8x128 .f32)),
      { L8 : List (View.Piece (Elt F) S1x1024 .f32) // ∀ (E : Set ℕ) (K : PUnit → sProp (Res F)),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
            ∗ (∃ d, owns (c : Thread nD τ) a6 fullShare d) ∗ (∃ d, owns (c : Thread nD τ) a7 fullShare d) ∗ owns (c : Thread nD τ) a8 fullShare s7 ∗ owns (c : Thread nD τ) a9 fullShare s8
            ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4
              ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f L7) ∗ (∃ f, a9.view.loc (c : Thread nD τ) ↦[a9.view.set]{fullShare} a9.view.writes (Elt F) f L8)) -∗ K ⟨⟩))
          ⊢ wp frame (wpE (defs₀ (F := F)) Variants.none c none) E (cc0_ffn_down i a1 w1 a2 w2 a3 w3 a4 w4 a5 w5 a6 w6 a7 w7 a8 w8 a9 w9) K } := by
  refine ⟨?_, ?_, ?_, ?_, fun E K => ?run⟩
  case run =>
    simp only [cc0_ffn_down_eq_skeleton]; unfold cc0_ffn_down_skel
    simp only [k0_part1_eq_skeleton, k0_part2_eq_skeleton, k0_part3_eq_skeleton]
    unfold owns
    iintro ⟨⟨%f0, %h0, H0⟩, ⟨%f1, %h1, H1⟩, ⟨%f2, %h2, H2⟩, ⟨%f3, %h3, H3⟩, ⟨%f4, %h4, H4⟩, ⟨%d5, %f5, -, H5⟩, ⟨%d6, %f6, -, H6⟩, ⟨%f7, %h7, H7⟩, ⟨%f8, %h8, H8⟩, Hk⟩
    obtain rfl := w1.eq_unread h0
    obtain rfl := w2.eq_unread h1
    obtain rfl := w3.eq_unread h2
    obtain rfl := w4.eq_unread h3
    obtain rfl := w5.eq_unread h4
    obtain rfl := w8.eq_unread h7
    obtain rfl := w9.eq_unread h8
    sl_exec (disch := first | sl_exact hc)
    sl_step
    iapply Hk
    isplitl [H0]
    · iexists _; isplitr; · ipureintro; exact w1.read_unread _
      iexact H0
    isplitl [H1]
    · iexists _; isplitr; · ipureintro; exact w2.read_unread _
      iexact H1
    isplitl [H2]
    · iexists _; isplitr; · ipureintro; exact w3.read_unread _
      iexact H2
    isplitl [H3]
    · iexists _; isplitr; · ipureintro; exact w4.read_unread _
      iexact H3
    isplitl [H4]
    · iexists _; isplitr; · ipureintro; exact w5.read_unread _
      iexact H4
    isplitl [H5]; · iexists _; iexact H5
    isplitl [H6]; · iexists _; iexact H6
    isplitl [H7]; · iexists _; iexact H7
    iexists _; iexact H8

theorem coverA5 (hc : First i) (y : S544x1024.Idx) :
    ∃ p ∈ (runA c i a1 w1 a2 w2 a3 w3 a4 w4 a5 w5 a6 w6 a7 w7 a8 w8 a9 w9 x0 x1 x2 x3 x4 hc).1, y ∈ p.1.set :=
  View.cover_of_tiledL (runA c i a1 w1 a2 w2 a3 w3 a4 w4 a5 w5 a6 w6 a7 w7 a8 w8 a9 w9 x0 x1 x2 x3 x4 hc).1 S272x1024.size (by sl_kernel_rfl) y

/-- What the gradient at the projection's buffer holds after the first point. -/
def leftA5 (hc : First i) : Vec F S544x1024 .bf16 :=
  View.canon (runA c i a1 w1 a2 w2 a3 w3 a4 w4 a5 w5 a6 w6 a7 w7 a8 w8 a9 w9 x0 x1 x2 x3 x4 hc).1

theorem coverA6 (hc : First i) (y : S544x1024.Idx) :
    ∃ p ∈ (runA c i a1 w1 a2 w2 a3 w3 a4 w4 a5 w5 a6 w6 a7 w7 a8 w8 a9 w9 x0 x1 x2 x3 x4 hc).2.1, y ∈ p.1.set :=
  View.cover_of_tiledL (runA c i a1 w1 a2 w2 a3 w3 a4 w4 a5 w5 a6 w6 a7 w7 a8 w8 a9 w9 x0 x1 x2 x3 x4 hc).2.1 S272x1024.size (by sl_kernel_rfl) y

/-- What the gradient at the residual's buffer holds after the first point. -/
def leftA6 (hc : First i) : Vec F S544x1024 .f32 :=
  View.canon (runA c i a1 w1 a2 w2 a3 w3 a4 w4 a5 w5 a6 w6 a7 w7 a8 w8 a9 w9 x0 x1 x2 x3 x4 hc).2.1

theorem coverA7 (hc : First i) (y : S8x128.Idx) :
    ∃ p ∈ (runA c i a1 w1 a2 w2 a3 w3 a4 w4 a5 w5 a6 w6 a7 w7 a8 w8 a9 w9 x0 x1 x2 x3 x4 hc).2.2.1, y ∈ p.1.set :=
  View.cover_of_tiledL (runA c i a1 w1 a2 w2 a3 w3 a4 w4 a5 w5 a6 w6 a7 w7 a8 w8 a9 w9 x0 x1 x2 x3 x4 hc).2.2.1 S8x128.size (by sl_kernel_rfl) y

/-- What the loss's buffer holds after the first point. -/
def leftA7 (hc : First i) : Vec F S8x128 .f32 :=
  View.canon (runA c i a1 w1 a2 w2 a3 w3 a4 w4 a5 w5 a6 w6 a7 w7 a8 w8 a9 w9 x0 x1 x2 x3 x4 hc).2.2.1

theorem coverA8 (hc : First i) (y : S1x1024.Idx) :
    ∃ p ∈ (runA c i a1 w1 a2 w2 a3 w3 a4 w4 a5 w5 a6 w6 a7 w7 a8 w8 a9 w9 x0 x1 x2 x3 x4 hc).2.2.2.1, y ∈ p.1.set :=
  View.cover_of_tiledL (runA c i a1 w1 a2 w2 a3 w3 a4 w4 a5 w5 a6 w6 a7 w7 a8 w8 a9 w9 x0 x1 x2 x3 x4 hc).2.2.2.1 S1x1024.size (by sl_kernel_rfl) y

/-- What the gain's gradient's buffer holds after the first point. -/
def leftA8 (hc : First i) : Vec F S1x1024 .f32 :=
  View.canon (runA c i a1 w1 a2 w2 a3 w3 a4 w4 a5 w5 a6 w6 a7 w7 a8 w8 a9 w9 x0 x1 x2 x3 x4 hc).2.2.2.1

theorem coverB5 (hc : ¬First i) (y : S544x1024.Idx) :
    ∃ p ∈ (runB c i a1 w1 a2 w2 a3 w3 a4 w4 a5 w5 a6 w6 a7 w7 a8 w8 a9 w9 x0 x1 x2 x3 x4 s7 s8 hc).1, y ∈ p.1.set :=
  View.cover_of_tiledL (runB c i a1 w1 a2 w2 a3 w3 a4 w4 a5 w5 a6 w6 a7 w7 a8 w8 a9 w9 x0 x1 x2 x3 x4 s7 s8 hc).1 S272x1024.size (by sl_kernel_rfl) y

/-- What the gradient at the projection's buffer holds after a later point. -/
def leftB5 (hc : ¬First i) : Vec F S544x1024 .bf16 :=
  View.canon (runB c i a1 w1 a2 w2 a3 w3 a4 w4 a5 w5 a6 w6 a7 w7 a8 w8 a9 w9 x0 x1 x2 x3 x4 s7 s8 hc).1

theorem coverB6 (hc : ¬First i) (y : S544x1024.Idx) :
    ∃ p ∈ (runB c i a1 w1 a2 w2 a3 w3 a4 w4 a5 w5 a6 w6 a7 w7 a8 w8 a9 w9 x0 x1 x2 x3 x4 s7 s8 hc).2.1, y ∈ p.1.set :=
  View.cover_of_tiledL (runB c i a1 w1 a2 w2 a3 w3 a4 w4 a5 w5 a6 w6 a7 w7 a8 w8 a9 w9 x0 x1 x2 x3 x4 s7 s8 hc).2.1 S272x1024.size (by sl_kernel_rfl) y

/-- What the gradient at the residual's buffer holds after a later point. -/
def leftB6 (hc : ¬First i) : Vec F S544x1024 .f32 :=
  View.canon (runB c i a1 w1 a2 w2 a3 w3 a4 w4 a5 w5 a6 w6 a7 w7 a8 w8 a9 w9 x0 x1 x2 x3 x4 s7 s8 hc).2.1

theorem coverB7 (hc : ¬First i) (y : S8x128.Idx) :
    ∃ p ∈ (runB c i a1 w1 a2 w2 a3 w3 a4 w4 a5 w5 a6 w6 a7 w7 a8 w8 a9 w9 x0 x1 x2 x3 x4 s7 s8 hc).2.2.1, y ∈ p.1.set :=
  View.cover_of_tiledL (runB c i a1 w1 a2 w2 a3 w3 a4 w4 a5 w5 a6 w6 a7 w7 a8 w8 a9 w9 x0 x1 x2 x3 x4 s7 s8 hc).2.2.1 S8x128.size (by sl_kernel_rfl) y

/-- What the loss's buffer holds after a later point. -/
def leftB7 (hc : ¬First i) : Vec F S8x128 .f32 :=
  View.canon (runB c i a1 w1 a2 w2 a3 w3 a4 w4 a5 w5 a6 w6 a7 w7 a8 w8 a9 w9 x0 x1 x2 x3 x4 s7 s8 hc).2.2.1

theorem coverB8 (hc : ¬First i) (y : S1x1024.Idx) :
    ∃ p ∈ (runB c i a1 w1 a2 w2 a3 w3 a4 w4 a5 w5 a6 w6 a7 w7 a8 w8 a9 w9 x0 x1 x2 x3 x4 s7 s8 hc).2.2.2.1, y ∈ p.1.set :=
  View.cover_of_tiledL (runB c i a1 w1 a2 w2 a3 w3 a4 w4 a5 w5 a6 w6 a7 w7 a8 w8 a9 w9 x0 x1 x2 x3 x4 s7 s8 hc).2.2.2.1 S1x1024.size (by sl_kernel_rfl) y

/-- What the gain's gradient's buffer holds after a later point. -/
def leftB8 (hc : ¬First i) : Vec F S1x1024 .f32 :=
  View.canon (runB c i a1 w1 a2 w2 a3 w3 a4 w4 a5 w5 a6 w6 a7 w7 a8 w8 a9 w9 x0 x1 x2 x3 x4 s7 s8 hc).2.2.2.1

end Cert.Proof.DownRun
-- ==== Proof.DownFrame.lean ====
module

public import proofs.«01_k».proof.Proof.DownRun
public import proofs.«01_k».proof.Proof.Rows

@[expose] public section

set_option maxRecDepth 16384

noncomputable section

/-! The feed-forward down projection: every run of the pipeline, with the last block of the target reaching past the
target's end. A row past the end is selected away before it is used, so that what each result receives does not depend
on what stands there. -/

namespace Cert.Proof.DownFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose Window)
open Cert.KernelFfnDownIdeal Cert.KernelFfnDownIdeal.Gen Cert.Proof.DownRun

variable {F : FTy → Type} [FloatOps F]

/-- A row is kept when its number, counted over the points, is below 2048. -/
theorem keep {α : Type} (a r o : ℕ) (ha : a < 4) (hr : r < 272) (ho : o = 0 ∨ o = 272) (x y : α) :
    Scalar.select (IntOp.cmpi .slt (IntOp.addi (Scalar.addi (Scalar.muli (BitVec.ofNat 32 a) 544#32) (BitVec.ofNat 32 o)) (BitVec.ofNat 32 r)) 2048#32) x y
      = if a * 544 + o + r < 2048 then x else y := by
  have key : IntOp.cmpi .slt (IntOp.addi (Scalar.addi (Scalar.muli (BitVec.ofNat 32 a) 544#32) (BitVec.ofNat 32 o)) (BitVec.ofNat 32 r)) 2048#32 = 1
      ↔ a * 544 + o + r < 2048 := by
    have e : IntOp.addi (Scalar.addi (Scalar.muli (BitVec.ofNat 32 a) 544#32) (BitVec.ofNat 32 o)) (BitVec.ofNat 32 r) = BitVec.ofNat 32 (a * 544 + o + r) := by
      show IntOp.addi (IntOp.addi (IntOp.muli (BitVec.ofNat 32 a) (BitVec.ofNat 32 544)) (BitVec.ofNat 32 o)) (BitVec.ofNat 32 r) = _
      rw [WordCmp.muli_ofNat, WordCmp.addi_ofNat, WordCmp.addi_ofNat]
    rw [e]
    show _ = 1#1 ↔ _
    rcases ho with rfl | rfl <;> word_cmp
  unfold Scalar.select
  by_cases h : a * 544 + o + r < 2048
  · rw [if_pos (key.mpr h), if_pos h]
  · rw [if_neg (fun hh => h (key.mp hh)), if_neg h]

/-! A half's error, kept rows only, and what is computed from it, by the target's kept rows. -/

theorem pay9_congr (i : grid0.Coords) (v0 : Vec F S1x1024 .f32) (v4 : Vec F S272x2816 .bf16) (v5 : Vec F S2816x1024 .bf16) (v17 x x' : Vec F S272x1024 .f32)
    (h : ∀ j : S272x1024.Idx, (i 0).val * 544 + 0 + (j 0).val < 2048 → x j = x' j) :
    k0_pay9 i v0 v4 v5 v17 x = k0_pay9 i v0 v4 v5 v17 x' := by
  funext j
  unfold k0_pay9
  pointwise
  rw [keep (i 0).val (j 0).val 0 (i 0).isLt (j 0).isLt (.inl rfl), keep (i 0).val (j 0).val 0 (i 0).isLt (j 0).isLt (.inl rfl)]
  split
  · rename_i hj; rw [h j hj]
  · rfl

theorem pay10_congr (i : grid0.Coords) (v0 : Vec F S1x1024 .f32) (v4 : Vec F S272x2816 .bf16) (v5 : Vec F S2816x1024 .bf16) (v17 x x' : Vec F S272x1024 .f32)
    (h : ∀ j : S272x1024.Idx, (i 0).val * 544 + 0 + (j 0).val < 2048 → x j = x' j) :
    k0_pay10 i v0 v4 v5 v17 x = k0_pay10 i v0 v4 v5 v17 x' := by
  unfold k0_pay10; rw [pay9_congr i v0 v4 v5 v17 x x' h]

theorem pay17_congr (i : grid0.Coords) (v0 : Vec F S1x1024 .f32) (v4 : Vec F S272x2816 .bf16) (v5 : Vec F S2816x1024 .bf16) (v17 x x' : Vec F S272x1024 .f32)
    (h : ∀ j : S272x1024.Idx, (i 0).val * 544 + 272 + (j 0).val < 2048 → x j = x' j) :
    k0_pay17 (BitVec.ofNat 32 (i 0).val) v0 v4 v5 v17 x = k0_pay17 (BitVec.ofNat 32 (i 0).val) v0 v4 v5 v17 x' := by
  funext j
  unfold k0_pay17
  pointwise
  rw [keep (i 0).val (j 0).val 272 (i 0).isLt (j 0).isLt (.inr rfl), keep (i 0).val (j 0).val 272 (i 0).isLt (j 0).isLt (.inr rfl)]
  split
  · rename_i hj; rw [h j hj]
  · rfl

theorem pay18_congr (i : grid0.Coords) (v0 : Vec F S1x1024 .f32) (v4 : Vec F S272x2816 .bf16) (v5 : Vec F S2816x1024 .bf16) (v17 x x' : Vec F S272x1024 .f32)
    (h : ∀ j : S272x1024.Idx, (i 0).val * 544 + 272 + (j 0).val < 2048 → x j = x' j) :
    k0_pay18 (BitVec.ofNat 32 (i 0).val) v0 v4 v5 v17 x = k0_pay18 (BitVec.ofNat 32 (i 0).val) v0 v4 v5 v17 x' := by
  unfold k0_pay18; rw [pay17_congr i v0 v4 v5 v17 x x' h]

theorem pay19_congr (i : grid0.Coords) (v0 : Vec F S1x1024 .f32) (v4 : Vec F S272x2816 .bf16) (v5 : Vec F S2816x1024 .bf16) (v17 x x' : Vec F S272x1024 .f32)
    (h : ∀ j : S272x1024.Idx, (i 0).val * 544 + 272 + (j 0).val < 2048 → x j = x' j) :
    k0_pay19 (BitVec.ofNat 32 (i 0).val) v0 v4 v5 v17 x = k0_pay19 (BitVec.ofNat 32 (i 0).val) v0 v4 v5 v17 x' := by
  unfold k0_pay19; rw [pay18_congr i v0 v4 v5 v17 x x' h]

/-- The two halves of a block's rows. -/
abbrev fst {w : ℕ} {e : EltTy} (x : Vec F ⟨2, ![544, w]⟩ e) (h : ∀ a, (![0, 0] : Fin 2 → ℕ) a + (![272, w] : Fin 2 → ℕ) a ≤ (⟨2, ![544, w]⟩ : Shape).size a) :
    Vec F ⟨2, ![272, w]⟩ e := View.ld x (Rect.unit (s := ⟨2, ![544, w]⟩) ![0, 0] ![272, w] h)
abbrev snd {w : ℕ} {e : EltTy} (x : Vec F ⟨2, ![544, w]⟩ e) (h : ∀ a, (![272, 0] : Fin 2 → ℕ) a + (![272, w] : Fin 2 → ℕ) a ≤ (⟨2, ![544, w]⟩ : Shape).size a) :
    Vec F ⟨2, ![272, w]⟩ e := View.ld x (Rect.unit (s := ⟨2, ![544, w]⟩) ![272, 0] ![272, w] h)

variable (c : Dev nD) (i : grid0.Coords)
  (a1 : Memref sig .tc .vmem S544x2816 .bf16) (w1 : a1.IsWhole)
  (a2 : Memref sig .tc .vmem S2816x1024 .bf16) (w2 : a2.IsWhole)
  (a3 : Memref sig .tc .vmem S544x1024 .f32) (w3 : a3.IsWhole)
  (a4 : Memref sig .tc .vmem S544x1024 .f32) (w4 : a4.IsWhole)
  (a5 : Memref sig .tc .vmem S1x1024 .f32) (w5 : a5.IsWhole)
  (a6 : Memref sig .tc .vmem S544x1024 .bf16) (w6 : a6.IsWhole)
  (a7 : Memref sig .tc .vmem S544x1024 .f32) (w7 : a7.IsWhole)
  (a8 : Memref sig .tc .vmem S8x128 .f32) (w8 : a8.IsWhole)
  (a9 : Memref sig .tc .vmem S1x1024 .f32) (w9 : a9.IsWhole)
  (x0 : Vec F S544x2816 .bf16) (x1 : Vec F S2816x1024 .bf16) (x2 x3 : Vec F S544x1024 .f32) (x4 : Vec F S1x1024 .f32)
  (s7 : Vec F S8x128 .f32) (s8 : Vec F S1x1024 .f32)

/-- What a point leaves in its block of the gradient at the projection, -/
def new5 : Vec F S544x1024 .bf16 := View.canon
  [⟨Rect.unit (s := S544x1024) ![272, 0] ![272, 1024] inb_S544x1024_S272x1024_272_0, k0_pay1 (k0_pay15 (snd x0 inb_S544x2816_S272x2816_272_0) x1) (k0_pay19 (BitVec.ofNat 32 (i 0).val) x4 (snd x0 inb_S544x2816_S272x2816_272_0) x1 (snd x2 inb_S544x1024_S272x1024_272_0) (snd x3 inb_S544x1024_S272x1024_272_0))⟩,
   ⟨Rect.unit (s := S544x1024) ![0, 0] ![272, 1024] inb_S544x1024_S272x1024_0_0, k0_pay11 x4 (k0_pay7 (fst x0 inb_S544x2816_S272x2816_0_0) x1) (k0_pay8 (fst x0 inb_S544x2816_S272x2816_0_0) x1) (k0_pay10 i x4 (fst x0 inb_S544x2816_S272x2816_0_0) x1 (fst x2 inb_S544x1024_S272x1024_0_0) (fst x3 inb_S544x1024_S272x1024_0_0))⟩]

/-- in its block of the gradient at the residual, -/
def new6 : Vec F S544x1024 .f32 := View.canon
  [⟨Rect.unit (s := S544x1024) ![272, 0] ![272, 1024] inb_S544x1024_S272x1024_272_0, (k0_pay18 (BitVec.ofNat 32 (i 0).val) x4 (snd x0 inb_S544x2816_S272x2816_272_0) x1 (snd x2 inb_S544x1024_S272x1024_272_0) (snd x3 inb_S544x1024_S272x1024_272_0))⟩,
   ⟨Rect.unit (s := S544x1024) ![0, 0] ![272, 1024] inb_S544x1024_S272x1024_0_0, (k0_pay10 i x4 (fst x0 inb_S544x2816_S272x2816_0_0) x1 (fst x2 inb_S544x1024_S272x1024_0_0) (fst x3 inb_S544x1024_S272x1024_0_0))⟩]

/-- in the loss found at `s7`, -/
def new7 : Vec F S8x128 .f32 := k0_pay2 (k0_pay17 (BitVec.ofNat 32 (i 0).val) x4 (snd x0 inb_S544x2816_S272x2816_272_0) x1 (snd x2 inb_S544x1024_S272x1024_272_0) (snd x3 inb_S544x1024_S272x1024_272_0)) (k0_pay12 (k0_pay9 i x4 (fst x0 inb_S544x2816_S272x2816_0_0) x1 (fst x2 inb_S544x1024_S272x1024_0_0) (fst x3 inb_S544x1024_S272x1024_0_0)) s7)

/-- and in the gain's gradient found at `s8`. -/
def new8 : Vec F S1x1024 .f32 := k0_pay3 (k0_pay16 (snd x0 inb_S544x2816_S272x2816_272_0) x1) (k0_pay18 (BitVec.ofNat 32 (i 0).val) x4 (snd x0 inb_S544x2816_S272x2816_272_0) x1 (snd x2 inb_S544x1024_S272x1024_272_0) (snd x3 inb_S544x1024_S272x1024_272_0)) (k0_pay13 (k0_pay8 (fst x0 inb_S544x2816_S272x2816_0_0) x1) (k0_pay10 i x4 (fst x0 inb_S544x2816_S272x2816_0_0) x1 (fst x2 inb_S544x1024_S272x1024_0_0) (fst x3 inb_S544x1024_S272x1024_0_0)) s8)

theorem leftA5_eq (hc : First i) :
    leftA5 c i a1 w1 a2 w2 a3 w3 a4 w4 a5 w5 a6 w6 a7 w7 a8 w8 a9 w9 x0 x1 x2 x3 x4 hc = new5 i x0 x1 x2 x3 x4 := by
  frame_out

theorem leftB5_eq (hc : ¬First i) :
    leftB5 c i a1 w1 a2 w2 a3 w3 a4 w4 a5 w5 a6 w6 a7 w7 a8 w8 a9 w9 x0 x1 x2 x3 x4 s7 s8 hc = new5 i x0 x1 x2 x3 x4 := by
  frame_out

theorem leftA6_eq (hc : First i) :
    leftA6 c i a1 w1 a2 w2 a3 w3 a4 w4 a5 w5 a6 w6 a7 w7 a8 w8 a9 w9 x0 x1 x2 x3 x4 hc = new6 i x0 x1 x2 x3 x4 := by
  frame_out

theorem leftB6_eq (hc : ¬First i) :
    leftB6 c i a1 w1 a2 w2 a3 w3 a4 w4 a5 w5 a6 w6 a7 w7 a8 w8 a9 w9 x0 x1 x2 x3 x4 s7 s8 hc = new6 i x0 x1 x2 x3 x4 := by
  frame_out

theorem leftA7_eq (hc : First i) :
    leftA7 c i a1 w1 a2 w2 a3 w3 a4 w4 a5 w5 a6 w6 a7 w7 a8 w8 a9 w9 x0 x1 x2 x3 x4 hc = new7 i x0 x1 x2 x3 x4 k0_pay4 := by
  unfold new7; frame_out

theorem leftB7_eq (hc : ¬First i) :
    leftB7 c i a1 w1 a2 w2 a3 w3 a4 w4 a5 w5 a6 w6 a7 w7 a8 w8 a9 w9 x0 x1 x2 x3 x4 s7 s8 hc = new7 i x0 x1 x2 x3 x4 s7 := by
  unfold new7; frame_out

theorem leftA8_eq (hc : First i) :
    leftA8 c i a1 w1 a2 w2 a3 w3 a4 w4 a5 w5 a6 w6 a7 w7 a8 w8 a9 w9 x0 x1 x2 x3 x4 hc = new8 i x0 x1 x2 x3 x4 k0_pay5 := by
  unfold new8; frame_out

theorem leftB8_eq (hc : ¬First i) :
    leftB8 c i a1 w1 a2 w2 a3 w3 a4 w4 a5 w5 a6 w6 a7 w7 a8 w8 a9 w9 x0 x1 x2 x3 x4 s7 s8 hc = new8 i x0 x1 x2 x3 x4 s8 := by
  unfold new8; frame_out

/-- Two blocks of the target agree on the rows that are kept. -/
def Agree (x x' : Vec F S544x1024 .f32) : Prop := ∀ j : S544x1024.Idx, (i 0).val * 544 + (j 0).val < 2048 → x j = x' j

theorem Agree.fst {i : grid0.Coords} {x x' : Vec F S544x1024 .f32} (h : Agree i x x') (q) (j : S272x1024.Idx) (hj : (i 0).val * 544 + 0 + (j 0).val < 2048) :
    DownFrame.fst x q j = DownFrame.fst x' q j := by
  refine h _ ?_
  show (i 0).val * 544 + (0 + 1 * (j 0).val) < 2048
  omega

theorem Agree.snd {i : grid0.Coords} {x x' : Vec F S544x1024 .f32} (h : Agree i x x') (q) (j : S272x1024.Idx) (hj : (i 0).val * 544 + 272 + (j 0).val < 2048) :
    DownFrame.snd x q j = DownFrame.snd x' q j := by
  refine h _ ?_
  show (i 0).val * 544 + (272 + 1 * (j 0).val) < 2048
  omega

theorem new5_congr {x3' : Vec F S544x1024 .f32} (h : Agree i x3 x3') : new5 i x0 x1 x2 x3 x4 = new5 i x0 x1 x2 x3' x4 := by
  unfold new5
  rw [pay10_congr _ _ _ _ _ _ _ (h.fst _), pay19_congr _ _ _ _ _ _ _ (h.snd _)]

theorem new6_congr {x3' : Vec F S544x1024 .f32} (h : Agree i x3 x3') : new6 i x0 x1 x2 x3 x4 = new6 i x0 x1 x2 x3' x4 := by
  unfold new6
  rw [pay10_congr _ _ _ _ _ _ _ (h.fst _), pay18_congr _ _ _ _ _ _ _ (h.snd _)]

theorem new7_congr {x3' : Vec F S544x1024 .f32} (h : Agree i x3 x3') : new7 i x0 x1 x2 x3 x4 s7 = new7 i x0 x1 x2 x3' x4 s7 := by
  unfold new7
  rw [pay9_congr _ _ _ _ _ _ _ (h.fst _), pay17_congr _ _ _ _ _ _ _ (h.snd _)]

theorem new8_congr {x3' : Vec F S544x1024 .f32} (h : Agree i x3 x3') : new8 i x0 x1 x2 x3 x4 s8 = new8 i x0 x1 x2 x3' x4 s8 := by
  unfold new8
  rw [pay10_congr _ _ _ _ _ _ _ (h.fst _), pay18_congr _ _ _ _ _ _ _ (h.snd _)]

section
variable (m : (ℓ : Loc nD τ sig) → Buf (Elt F) ℓ) (ρ : Dev nD → PrngReg) (c : Dev nD)

/-- The target's block at a point, a zero in each row past the target's end. -/
def tblk (t : Fin cfg0.N) : Vec F S544x1024 .f32 := win0_3.fill (grid0.coords t) (fun _ => FloatOps.ofBits .f32 0#32) (iblk m c 3 t)

/-- A row that is kept lies inside the target. -/
theorem kept_moved : ∀ t : Fin cfg0.N, win0_3.xsize (grid0.coords t) 0 = min 544 (2048 - t.val * 544) ∧ win0_3.xsize (grid0.coords t) 1 = 1024
    ∧ (grid0.coords t 0).val = t.val := by decide +kernel

theorem agree (t : Fin cfg0.N) (d d' : Vec F S544x1024 .f32) :
    Agree (grid0.coords t) (win0_3.fill (grid0.coords t) d (iblk m c 3 t)) (win0_3.fill (grid0.coords t) d' (iblk m c 3 t)) := by
  intro j hj
  obtain ⟨e0, e1, e2⟩ := kept_moved t
  have hm : win0_3.moved (grid0.coords t) j = true := by
    rw [Window.moved_iff]
    intro a
    match a with
    | ⟨0, _⟩ =>
      show (j 0).val < win0_3.xsize (grid0.coords t) 0
      have h0 : (j 0).val < 544 := (j 0).isLt
      rw [e0]; rw [e2] at hj; omega
    | ⟨1, _⟩ =>
      show (j 1).val < win0_3.xsize (grid0.coords t) 1
      rw [e1]; exact (j 1).isLt
  unfold Window.fill
  rw [dif_pos hm, dif_pos hm]

/-- The loss and the gain's gradient after the first `n` points. -/
def sums : ℕ → Vec F S8x128 .f32 × Vec F S1x1024 .f32
  | 0 => (k0_pay4, k0_pay5)
  | n + 1 => if h : n < cfg0.N then
      (new7 (grid0.coords ⟨n, h⟩) (iblk m c 0 ⟨n, h⟩) (iblk m c 1 ⟨n, h⟩) (iblk m c 2 ⟨n, h⟩) (tblk m c ⟨n, h⟩) (iblk m c 4 ⟨n, h⟩) (sums n).1,
        new8 (grid0.coords ⟨n, h⟩) (iblk m c 0 ⟨n, h⟩) (iblk m c 1 ⟨n, h⟩) (iblk m c 2 ⟨n, h⟩) (tblk m c ⟨n, h⟩) (iblk m c 4 ⟨n, h⟩) (sums n).2)
    else sums n

theorem sums_succ (t : Fin cfg0.N) : sums m c (t.val + 1)
    = (new7 (grid0.coords t) (iblk m c 0 t) (iblk m c 1 t) (iblk m c 2 t) (tblk m c t) (iblk m c 4 t) (sums m c t.val).1,
        new8 (grid0.coords t) (iblk m c 0 t) (iblk m c 1 t) (iblk m c 2 t) (tblk m c t) (iblk m c 4 t) (sums m c t.val).2) :=
  dif_pos t.isLt

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tblk m c t
    | ⟨4, _⟩ => iblk m c 4 t
    | ⟨5, _⟩ => new5 (grid0.coords t) (iblk m c 0 t) (iblk m c 1 t) (iblk m c 2 t) (tblk m c t) (iblk m c 4 t)
    | ⟨6, _⟩ => new6 (grid0.coords t) (iblk m c 0 t) (iblk m c 1 t) (iblk m c 2 t) (tblk m c t) (iblk m c 4 t)
    | ⟨7, _⟩ => (sums m c (t.val + 1)).1
    | ⟨8, _⟩ => (sums m c (t.val + 1)).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = tblk m c t := by dsimp only [dats]
theorem after4 (t : Fin cfg0.N) : (dats m 0 c).after 4 t = iblk m c 4 t := by dsimp only [dats]
theorem after5 (t : Fin cfg0.N) : (dats m 0 c).after 5 t
    = new5 (grid0.coords t) (iblk m c 0 t) (iblk m c 1 t) (iblk m c 2 t) (tblk m c t) (iblk m c 4 t) := by dsimp only [dats]
theorem after6 (t : Fin cfg0.N) : (dats m 0 c).after 6 t
    = new6 (grid0.coords t) (iblk m c 0 t) (iblk m c 1 t) (iblk m c 2 t) (tblk m c t) (iblk m c 4 t) := by dsimp only [dats]
theorem after7 (t : Fin cfg0.N) : (dats m 0 c).after 7 t = (sums m c (t.val + 1)).1 := by dsimp only [dats]
theorem after8 (t : Fin cfg0.N) : (dats m 0 c).after 8 t = (sums m c (t.val + 1)).2 := by dsimp only [dats]

theorem before0 (t : Fin cfg0.N) (d) : (dats m 0 c).before 0 t d = iblk m c 0 t := before0_0_of m (dats m 0 c) (A_eq m c 0) (after0 m c) t d
theorem before1 (t : Fin cfg0.N) (d) : (dats m 0 c).before 1 t d = iblk m c 1 t := before0_1_of m (dats m 0 c) (A_eq m c 1) (after1 m c) t d
theorem before2 (t : Fin cfg0.N) (d) : (dats m 0 c).before 2 t d = iblk m c 2 t := before0_2_of m (dats m 0 c) (A_eq m c 2) (after2 m c) t d
theorem before4 (t : Fin cfg0.N) (d) : (dats m 0 c).before 4 t d = iblk m c 4 t := before0_4_of m (dats m 0 c) (A_eq m c 4) (after4 m c) t d

/-- The target's buffer: the block, and past the target's end what stood there. -/
theorem before3 (t : Fin cfg0.N) (d) : (dats m 0 c).before 3 t d = win0_3.fill (grid0.coords t) d (iblk m c 3 t) := by
  unfold Dat.before
  rw [if_pos (fetch0_3 t)]
  unfold Dat.fetched Dat.blockOf iblk
  rw [A_eq]

/-- The two sums' buffers: at a later point, what the point before left. -/
theorem before7 (t : Fin cfg0.N) (h : t.val ≠ 0) (d) : (dats m 0 c).before 7 t d = (sums m c t.val).1 := by
  have hN : t.val < 4 := lt_of_lt_of_eq t.isLt (show cfg0.N = 4 from N_0)
  rw [Dat.before_out_kept _ 7 rfl t (by omega) (Bool.eq_false_iff.mpr fun h => by have := (flush0_7 _).mp h; dsimp only at this; omega)
    (fun _ => rfl) (fun _ _ => rfl), after7]
  rw [Nat.sub_add_cancel (by omega)]

theorem before8 (t : Fin cfg0.N) (h : t.val ≠ 0) (d) : (dats m 0 c).before 8 t d = (sums m c t.val).2 := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl), after8]
  rw [Nat.sub_add_cancel (by omega)]

/-- What a point starts from, -/
def Pre (t : Fin cfg0.N) : sProp (Res F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it leaves. -/
def Post (t : Fin cfg0.N) : sProp (Res F) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ d, owns (c : Thread nD τ) (win0_3.stage (cfg0.slots t 3)) fullShare (win0_3.fill (grid0.coords t) d (win0_3.cut (grid0.coords t) ((dats m 0 c).after 3 t))))
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 1600000 in
/-- A point's body, from any words in the rows past the target's end. -/
theorem point_sound (t : Fin cfg0.N) :
    Pre m c t ⊢ wp frame (wpE (defs₀ (F := F)) Variants.none c none) Set.univ (bodyAt0 t) (fun _ => Post m c t) := by
  unfold Pre Post bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8, sums_succ]
  unfold tblk
  rw [Window.cut_fill]
  by_cases h0 : t.val = 0
  · rw [show (sums m c t.val).1 = k0_pay4 from by rw [h0]; rfl, show (sums m c t.val).2 = k0_pay5 from by rw [h0]; rfl]
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [← new5_congr (grid0.coords t) _ _ _ _ _ (agree m c t d3 _)]
    rw [← new6_congr (grid0.coords t) _ _ _ _ _ (agree m c t d3 _)]
    rw [← new7_congr (grid0.coords t) _ _ _ _ _ _ (agree m c t d3 _)]
    rw [← new8_congr (grid0.coords t) _ _ _ _ _ _ (agree m c t d3 _)]
    iapply ((runA c (grid0.coords t) _ _ _ _ _ _ _ _ _ _ _ _ _ _ _ _ _ _ (iblk m c 0 t) (iblk m c 1 t) (iblk m c 2 t) (win0_3.fill (grid0.coords t) d3 (iblk m c 3 t)) (iblk m c 4 t) ((first_iff t).mpr h0)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexists d3; iexact H3
    isplitl [H4]; · iexact H4
    isplitl [H5]
    · unfold owns; iexists _; isplitr
      swap; · iexact H5
      ipureintro; exact (View.read_writes_eq_canon _ _ _ (coverA5 c _ _ _ _ _ _ _ _ _ _ _ _ _ _ _ _ _ _ _ _ _ _ _ _ _)).trans (leftA5_eq c _ _ _ _ _ _ _ _ _ _ _ _ _ _ _ _ _ _ _ _ _ _ _ _ _)
    isplitl [H6]
    · unfold owns; iexists _; isplitr
      swap; · iexact H6
      ipureintro; exact (View.read_writes_eq_canon _ _ _ (coverA6 c _ _ _ _ _ _ _ _ _ _ _ _ _ _ _ _ _ _ _ _ _ _ _ _ _)).trans (leftA6_eq c _ _ _ _ _ _ _ _ _ _ _ _ _ _ _ _ _ _ _ _ _ _ _ _ _)
    isplitl [H7]
    · unfold owns; iexists _; isplitr
      swap; · iexact H7
      ipureintro; exact (View.read_writes_eq_canon _ _ _ (coverA7 c _ _ _ _ _ _ _ _ _ _ _ _ _ _ _ _ _ _ _ _ _ _ _ _ _)).trans (leftA7_eq c _ _ _ _ _ _ _ _ _ _ _ _ _ _ _ _ _ _ _ _ _ _ _ _ _)
    unfold owns; iexists _; isplitr
    swap; · iexact H8
    ipureintro; exact (View.read_writes_eq_canon _ _ _ (coverA8 c _ _ _ _ _ _ _ _ _ _ _ _ _ _ _ _ _ _ _ _ _ _ _ _ _)).trans (leftA8_eq c _ _ _ _ _ _ _ _ _ _ _ _ _ _ _ _ _ _ _ _ _ _ _ _ _)
  · simp only [before7 m c t h0, before8 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [← new5_congr (grid0.coords t) _ _ _ _ _ (agree m c t d3 _)]
    rw [← new6_congr (grid0.coords t) _ _ _ _ _ (agree m c t d3 _)]
    rw [← new7_congr (grid0.coords t) _ _ _ _ _ _ (agree m c t d3 _)]
    rw [← new8_congr (grid0.coords t) _ _ _ _ _ _ (agree m c t d3 _)]
    iapply ((runB c (grid0.coords t) _ _ _ _ _ _ _ _ _ _ _ _ _ _ _ _ _ _ (iblk m c 0 t) (iblk m c 1 t) (iblk m c 2 t) (win0_3.fill (grid0.coords t) d3 (iblk m c 3 t)) (iblk m c 4 t) _ _ (fun h => h0 ((first_iff t).mp h))).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexists d3; iexact H3
    isplitl [H4]; · iexact H4
    isplitl [H5]
    · unfold owns; iexists _; isplitr
      swap; · iexact H5
      ipureintro; exact (View.read_writes_eq_canon _ _ _ (coverB5 c _ _ _ _ _ _ _ _ _ _ _ _ _ _ _ _ _ _ _ _ _ _ _ _ _ _ _)).trans (leftB5_eq c _ _ _ _ _ _ _ _ _ _ _ _ _ _ _ _ _ _ _ _ _ _ _ _ _ _ _)
    isplitl [H6]
    · unfold owns; iexists _; isplitr
      swap; · iexact H6
      ipureintro; exact (View.read_writes_eq_canon _ _ _ (coverB6 c _ _ _ _ _ _ _ _ _ _ _ _ _ _ _ _ _ _ _ _ _ _ _ _ _ _ _)).trans (leftB6_eq c _ _ _ _ _ _ _ _ _ _ _ _ _ _ _ _ _ _ _ _ _ _ _ _ _ _ _)
    isplitl [H7]
    · unfold owns; iexists _; isplitr
      swap; · iexact H7
      ipureintro; exact (View.read_writes_eq_canon _ _ _ (coverB7 c _ _ _ _ _ _ _ _ _ _ _ _ _ _ _ _ _ _ _ _ _ _ _ _ _ _ _)).trans (leftB7_eq c _ _ _ _ _ _ _ _ _ _ _ _ _ _ _ _ _ _ _ _ _ _ _ _ _ _ _)
    unfold owns; iexists _; isplitr
    swap; · iexact H8
    ipureintro; exact (View.read_writes_eq_canon _ _ _ (coverB8 c _ _ _ _ _ _ _ _ _ _ _ _ _ _ _ _ _ _ _ _ _ _ _ _ _ _ _)).trans (leftB8_eq c _ _ _ _ _ _ _ _ _ _ _ _ _ _ _ _ _ _ _ _ _ _ _ _ _ _ _)

theorem row_eq (t : Fin cfg0.N) : defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ := fun t => by
  rw [bigSep_W0, bigSep_W0, row_eq]
  exact triple_restated (point_sound m c t) rfl .rfl fun _ => .rfl

set_option backward.isDefEq.respectTransparency.types false in
/-- Every run ends, with every array at what the points leave and no signal outstanding. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => obligation m c) (hshare := fun c => (dats m 0 c).share_full fun _ => rfl)
    (howed := fun _ _ => rfl) (V := V m) (hmain := hmain m Variants.none) (hA := A_eq m) (hΦ := fun _ _ => rfl)

/-- The arguments are left as they were. -/
theorem kept (r : PUnit × MemSt nD τ sig (Elt F)) (h : Pipeline.FramePost cfgs (dats m) 0 (V m) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩

end

end Cert.Proof.DownFrame
-- ==== Proof.WFrames2.lean ====
module

public import proofs.«01_k».proof.Defs
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.ReferenceUpIdeal
public import proofs.«01_k».proof.Proof.Gen.ReferenceUpIdeal.Run
public import proofs.«01_k».proof.Proof.Gen.Pre_finite_up
public import proofs.«01_k».proof.Proof.Gen.KernelAct
public import proofs.«01_k».proof.Proof.Gen.KernelAct.Frame
public import proofs.«01_k».proof.Proof.Gen.KernelActIdeal
public import proofs.«01_k».proof.Proof.Gen.KernelActIdeal.Frame
public import proofs.«01_k».proof.Proof.Gen.ReferenceActIdeal
public import proofs.«01_k».proof.Proof.Gen.ReferenceActIdeal.Run
public import proofs.«01_k».proof.Proof.Gen.Pre_finite_act
public import proofs.«01_k».proof.Proof.Gen.KernelMmIn
public import proofs.«01_k».proof.Proof.Gen.KernelMmIn.Frame
public import proofs.«01_k».proof.Proof.Gen.KernelMmInIdeal
public import proofs.«01_k».proof.Proof.Gen.KernelMmInIdeal.Frame
public import proofs.«01_k».proof.Proof.Gen.ReferenceMmInIdeal
public import proofs.«01_k».proof.Proof.Gen.ReferenceMmInIdeal.Run
public import proofs.«01_k».proof.Proof.Gen.KernelMmOut
public import proofs.«01_k».proof.Proof.Gen.KernelMmOut.Frame
public import proofs.«01_k».proof.Proof.Gen.KernelMmOutIdeal
public import proofs.«01_k».proof.Proof.Gen.KernelMmOutIdeal.Frame
public import proofs.«01_k».proof.Proof.Gen.ReferenceMmOutIdeal
public import proofs.«01_k».proof.Proof.Gen.ReferenceMmOutIdeal.Run
public import proofs.«01_k».proof.Proof.Gen.KernelFfnDown
public import proofs.«01_k».proof.Proof.Gen.KernelFfnDown.Frame
public import proofs.«01_k».proof.Proof.Gen.KernelFfnDownIdeal
public import proofs.«01_k».proof.Proof.Gen.KernelFfnDownIdeal.Frame
public import proofs.«01_k».proof.Proof.Gen.ReferenceFfnDownIdeal
public import proofs.«01_k».proof.Proof.Gen.ReferenceFfnDownIdeal.Run
public import proofs.«01_k».proof.Proof.Gen.Pre_finite_ffn_down
public import proofs.«01_k».proof.Proof.Gen.KernelBwdIn
public import proofs.«01_k».proof.Proof.Gen.KernelBwdIn.Frame
public import proofs.«01_k».proof.Proof.Gen.KernelBwdInIdeal
public import proofs.«01_k».proof.Proof.Gen.KernelBwdInIdeal.Frame
public import proofs.«01_k».proof.Proof.Gen.ReferenceBwdInIdeal
public import proofs.«01_k».proof.Proof.Gen.ReferenceBwdInIdeal.Run
public import proofs.«01_k».proof.Proof.Gen.Pre_finite_bwd_in
public import proofs.«01_k».proof.Proof.Gen.KernelMixOut
public import proofs.«01_k».proof.Proof.Gen.KernelMixOut.Frame
public import proofs.«01_k».proof.Proof.Gen.KernelMixOutIdeal
public import proofs.«01_k».proof.Proof.Gen.KernelMixOutIdeal.Frame
public import proofs.«01_k».proof.Proof.Gen.ReferenceMixOutIdeal
public import proofs.«01_k».proof.Proof.Gen.ReferenceMixOutIdeal.Run
public import proofs.«01_k».proof.Proof.Gen.Pre_finite_mix_out
public import proofs.«01_k».proof.Proof.Gen.KernelMixIn
public import proofs.«01_k».proof.Proof.Gen.KernelMixIn.Frame
public import proofs.«01_k».proof.Proof.Gen.KernelMixInIdeal
public import proofs.«01_k».proof.Proof.Gen.KernelMixInIdeal.Frame
public import proofs.«01_k».proof.Proof.Gen.ReferenceMixInIdeal
public import proofs.«01_k».proof.Proof.Gen.ReferenceMixInIdeal.Run
public import proofs.«01_k».proof.Proof.Gen.Pre_finite_mix_in
public import proofs.«01_k».proof.Proof.Gen.KernelAdamFfn
public import proofs.«01_k».proof.Proof.Gen.KernelAdamFfn.Frame
public import proofs.«01_k».proof.Proof.Gen.KernelAdamFfnIdeal
public import proofs.«01_k».proof.Proof.Gen.KernelAdamFfnIdeal.Frame
public import proofs.«01_k».proof.Proof.Gen.ReferenceAdamFfnIdeal
public import proofs.«01_k».proof.Proof.Gen.ReferenceAdamFfnIdeal.Run
public import proofs.«01_k».proof.Proof.Gen.KernelAdamMix
public import proofs.«01_k».proof.Proof.Gen.KernelAdamMix.Frame
public import proofs.«01_k».proof.Proof.Gen.KernelAdamMixIdeal
public import proofs.«01_k».proof.Proof.Gen.KernelAdamMixIdeal.Frame
public import proofs.«01_k».proof.Proof.Gen.ReferenceAdamMixIdeal
public import proofs.«01_k».proof.Proof.Gen.ReferenceAdamMixIdeal.Run
public import proofs.«01_k».proof.Proof.MmInFrame
public import proofs.«01_k».proof.Proof.DownFrame

@[expose] public section

noncomputable section

/-! The frames of the other calls' programs: they end, leave their arguments and leave every semaphore at zero. Where the
value claim assumes finite arguments, the same frames are stated once more under that assumption. -/

namespace Cert.Proof.WFrames

open Idealize.ShloMosaic Idealize.SL.Sem

theorem bitsUp : Cert.quiescent_KernelUp (hKernelUp := Cert.KernelUp.Gen.facts) := fun m ρ _ => Cert.KernelUp.Gen.frame m ρ

theorem idealUp : Cert.quiescent_KernelUpIdeal (hKernelUpIdeal := Cert.KernelUpIdeal.Gen.facts) := fun m ρ _ => Cert.KernelUpIdeal.Gen.frame m ρ

theorem refUp : Cert.quiescent_ReferenceUpIdeal (hReferenceUpIdeal := Cert.ReferenceUpIdeal.Gen.facts) := fun m ρ _ =>
  (θ_run Cert.ReferenceUpIdeal.defs _ _).mono
    (fun r h => ⟨fun c => (h c).2.2.2, Idealize.ShloMosaic.sem_eq_zero_of_no_sems (by decide) r.2⟩)
    (Cert.ReferenceUpIdeal.Value.run (F := Ideal) m ρ)

theorem idealUpPre : Cert.quiescent_KernelUpIdeal_pre_finite_up (hKernelUpIdeal := Cert.KernelUpIdeal.Gen.facts) (hPre_finite_up := Cert.Pre_finite_up.Gen.facts) := fun m ρ _ => Cert.KernelUpIdeal.Gen.frame m ρ

theorem refUpPre : Cert.quiescent_ReferenceUpIdeal_pre_finite_up (hReferenceUpIdeal := Cert.ReferenceUpIdeal.Gen.facts) (hPre_finite_up := Cert.Pre_finite_up.Gen.facts) := fun m ρ _ =>
  (θ_run Cert.ReferenceUpIdeal.defs _ _).mono
    (fun r h => ⟨fun c => (h c).2.2.2, Idealize.ShloMosaic.sem_eq_zero_of_no_sems (by decide) r.2⟩)
    (Cert.ReferenceUpIdeal.Value.run (F := Ideal) m ρ)

theorem bitsAct : Cert.quiescent_KernelAct (hKernelAct := Cert.KernelAct.Gen.facts) := fun m ρ _ => Cert.KernelAct.Gen.frame m ρ

theorem idealAct : Cert.quiescent_KernelActIdeal (hKernelActIdeal := Cert.KernelActIdeal.Gen.facts) := fun m ρ _ => Cert.KernelActIdeal.Gen.frame m ρ

theorem refAct : Cert.quiescent_ReferenceActIdeal (hReferenceActIdeal := Cert.ReferenceActIdeal.Gen.facts) := fun m ρ _ =>
  (θ_run Cert.ReferenceActIdeal.defs _ _).mono
    (fun r h => ⟨fun c => (h c).2.2, Idealize.ShloMosaic.sem_eq_zero_of_no_sems (by decide) r.2⟩)
    (Cert.ReferenceActIdeal.Value.run (F := Ideal) m ρ)

theorem idealActPre : Cert.quiescent_KernelActIdeal_pre_finite_act (hKernelActIdeal := Cert.KernelActIdeal.Gen.facts) (hPre_finite_act := Cert.Pre_finite_act.Gen.facts) := fun m ρ _ => Cert.KernelActIdeal.Gen.frame m ρ

theorem refActPre : Cert.quiescent_ReferenceActIdeal_pre_finite_act (hReferenceActIdeal := Cert.ReferenceActIdeal.Gen.facts) (hPre_finite_act := Cert.Pre_finite_act.Gen.facts) := fun m ρ _ =>
  (θ_run Cert.ReferenceActIdeal.defs _ _).mono
    (fun r h => ⟨fun c => (h c).2.2, Idealize.ShloMosaic.sem_eq_zero_of_no_sems (by decide) r.2⟩)
    (Cert.ReferenceActIdeal.Value.run (F := Ideal) m ρ)

section
attribute [local instance] Cert.KernelMmIn.Gen.facts Cert.KernelMmInIdeal.Gen.facts

/-- The two kernels' tables are the same, -/
theorem defs₀_sameMmIn : Cert.KernelMmIn.defs₀ (F := Bits) = Cert.KernelMmInIdeal.defs₀ (F := Bits) := by
  refine congrArg Defs.onTc (funext fun ℓ => ?_)
  match ℓ with
  | 0 => rfl

theorem defs_sameMmIn : Cert.KernelMmIn.defs (F := Bits) = Cert.KernelMmInIdeal.defs (F := Bits) :=
  congrArg (Pipeline.defs (Cert.KernelMmInIdeal.pcfgs (F := Bits))) defs₀_sameMmIn

set_option maxHeartbeats 2000000 in
/-- and so are their main functions: the bit frame is the same run's. -/
theorem main_sameMmIn : Cert.KernelMmIn.main (F := Bits) = Cert.KernelMmInIdeal.main (F := Bits) := rfl

end

theorem bitsMmIn : Cert.quiescent_KernelMmIn (hKernelMmIn := Cert.KernelMmIn.Gen.facts) := fun m ρ _ => by
  rw [defs_sameMmIn, main_sameMmIn]
  exact (θ_run Cert.KernelMmInIdeal.defs _ _).mono (fun r h => ⟨fun c => MmInFrame.kept m c r h.1, h.2⟩) (MmInFrame.run_main (F := Bits) m ρ)

theorem idealMmIn : Cert.quiescent_KernelMmInIdeal (hKernelMmInIdeal := Cert.KernelMmInIdeal.Gen.facts) := fun m ρ _ =>
  (θ_run Cert.KernelMmInIdeal.defs _ _).mono (fun r h => ⟨fun c => MmInFrame.kept m c r h.1, h.2⟩) (MmInFrame.run_main (F := Ideal) m ρ)

theorem refMmIn : Cert.quiescent_ReferenceMmInIdeal (hReferenceMmInIdeal := Cert.ReferenceMmInIdeal.Gen.facts) := fun m ρ _ =>
  (θ_run Cert.ReferenceMmInIdeal.defs _ _).mono
    (fun r h => ⟨fun c => (h c).2.2.2, Idealize.ShloMosaic.sem_eq_zero_of_no_sems (by decide) r.2⟩)
    (Cert.ReferenceMmInIdeal.Value.run (F := Ideal) m ρ)

theorem bitsMmOut : Cert.quiescent_KernelMmOut (hKernelMmOut := Cert.KernelMmOut.Gen.facts) := fun m ρ _ => Cert.KernelMmOut.Gen.frame m ρ

theorem idealMmOut : Cert.quiescent_KernelMmOutIdeal (hKernelMmOutIdeal := Cert.KernelMmOutIdeal.Gen.facts) := fun m ρ _ => Cert.KernelMmOutIdeal.Gen.frame m ρ

theorem refMmOut : Cert.quiescent_ReferenceMmOutIdeal (hReferenceMmOutIdeal := Cert.ReferenceMmOutIdeal.Gen.facts) := fun m ρ _ =>
  (θ_run Cert.ReferenceMmOutIdeal.defs _ _).mono
    (fun r h => ⟨fun c => (h c).2.2.2.2, Idealize.ShloMosaic.sem_eq_zero_of_no_sems (by decide) r.2⟩)
    (Cert.ReferenceMmOutIdeal.Value.run (F := Ideal) m ρ)

section
attribute [local instance] Cert.KernelFfnDown.Gen.facts Cert.KernelFfnDownIdeal.Gen.facts

/-- The two kernels' tables are the same, -/
theorem defs₀_sameFfnDown : Cert.KernelFfnDown.defs₀ (F := Bits) = Cert.KernelFfnDownIdeal.defs₀ (F := Bits) := by
  refine congrArg Defs.onTc (funext fun ℓ => ?_)
  match ℓ with
  | 0 => rfl

theorem defs_sameFfnDown : Cert.KernelFfnDown.defs (F := Bits) = Cert.KernelFfnDownIdeal.defs (F := Bits) :=
  congrArg (Pipeline.defs (Cert.KernelFfnDownIdeal.pcfgs (F := Bits))) defs₀_sameFfnDown

set_option maxHeartbeats 2000000 in
/-- and so are their main functions: the bit frame is the same run's. -/
theorem main_sameFfnDown : Cert.KernelFfnDown.main (F := Bits) = Cert.KernelFfnDownIdeal.main (F := Bits) := rfl

end

theorem bitsFfnDown : Cert.quiescent_KernelFfnDown (hKernelFfnDown := Cert.KernelFfnDown.Gen.facts) := fun m ρ _ => by
  rw [defs_sameFfnDown, main_sameFfnDown]
  exact (θ_run Cert.KernelFfnDownIdeal.defs _ _).mono (fun r h => ⟨fun c => DownFrame.kept m c r h.1, h.2⟩) (DownFrame.run_main (F := Bits) m ρ)

theorem idealFfnDown : Cert.quiescent_KernelFfnDownIdeal (hKernelFfnDownIdeal := Cert.KernelFfnDownIdeal.Gen.facts) := fun m ρ _ =>
  (θ_run Cert.KernelFfnDownIdeal.defs _ _).mono (fun r h => ⟨fun c => DownFrame.kept m c r h.1, h.2⟩) (DownFrame.run_main (F := Ideal) m ρ)

theorem refFfnDown : Cert.quiescent_ReferenceFfnDownIdeal (hReferenceFfnDownIdeal := Cert.ReferenceFfnDownIdeal.Gen.facts) := fun m ρ _ =>
  (θ_run Cert.ReferenceFfnDownIdeal.defs _ _).mono
    (fun r h => ⟨fun c => (h c).2.2.2.2, Idealize.ShloMosaic.sem_eq_zero_of_no_sems (by decide) r.2⟩)
    (Cert.ReferenceFfnDownIdeal.Value.run (F := Ideal) m ρ)

theorem idealFfnDownPre : Cert.quiescent_KernelFfnDownIdeal_pre_finite_ffn_down (hKernelFfnDownIdeal := Cert.KernelFfnDownIdeal.Gen.facts) (hPre_finite_ffn_down := Cert.Pre_finite_ffn_down.Gen.facts) := fun m ρ _ =>
  (θ_run Cert.KernelFfnDownIdeal.defs _ _).mono (fun r h => ⟨fun c => DownFrame.kept m c r h.1, h.2⟩) (DownFrame.run_main (F := Ideal) m ρ)

theorem refFfnDownPre : Cert.quiescent_ReferenceFfnDownIdeal_pre_finite_ffn_down (hReferenceFfnDownIdeal := Cert.ReferenceFfnDownIdeal.Gen.facts) (hPre_finite_ffn_down := Cert.Pre_finite_ffn_down.Gen.facts) := fun m ρ _ =>
  (θ_run Cert.ReferenceFfnDownIdeal.defs _ _).mono
    (fun r h => ⟨fun c => (h c).2.2.2.2, Idealize.ShloMosaic.sem_eq_zero_of_no_sems (by decide) r.2⟩)
    (Cert.ReferenceFfnDownIdeal.Value.run (F := Ideal) m ρ)

theorem bitsBwdIn : Cert.quiescent_KernelBwdIn (hKernelBwdIn := Cert.KernelBwdIn.Gen.facts) := fun m ρ _ => Cert.KernelBwdIn.Gen.frame m ρ

theorem idealBwdIn : Cert.quiescent_KernelBwdInIdeal (hKernelBwdInIdeal := Cert.KernelBwdInIdeal.Gen.facts) := fun m ρ _ => Cert.KernelBwdInIdeal.Gen.frame m ρ

theorem refBwdIn : Cert.quiescent_ReferenceBwdInIdeal (hReferenceBwdInIdeal := Cert.ReferenceBwdInIdeal.Gen.facts) := fun m ρ _ =>
  (θ_run Cert.ReferenceBwdInIdeal.defs _ _).mono
    (fun r h => ⟨fun c => (h c).2.2.2.2, Idealize.ShloMosaic.sem_eq_zero_of_no_sems (by decide) r.2⟩)
    (Cert.ReferenceBwdInIdeal.Value.run (F := Ideal) m ρ)

theorem idealBwdInPre : Cert.quiescent_KernelBwdInIdeal_pre_finite_bwd_in (hKernelBwdInIdeal := Cert.KernelBwdInIdeal.Gen.facts) (hPre_finite_bwd_in := Cert.Pre_finite_bwd_in.Gen.facts) := fun m ρ _ => Cert.KernelBwdInIdeal.Gen.frame m ρ

theorem refBwdInPre : Cert.quiescent_ReferenceBwdInIdeal_pre_finite_bwd_in (hReferenceBwdInIdeal := Cert.ReferenceBwdInIdeal.Gen.facts) (hPre_finite_bwd_in := Cert.Pre_finite_bwd_in.Gen.facts) := fun m ρ _ =>
  (θ_run Cert.ReferenceBwdInIdeal.defs _ _).mono
    (fun r h => ⟨fun c => (h c).2.2.2.2, Idealize.ShloMosaic.sem_eq_zero_of_no_sems (by decide) r.2⟩)
    (Cert.ReferenceBwdInIdeal.Value.run (F := Ideal) m ρ)

theorem bitsMixOut : Cert.quiescent_KernelMixOut (hKernelMixOut := Cert.KernelMixOut.Gen.facts) := fun m ρ _ => Cert.KernelMixOut.Gen.frame m ρ

theorem idealMixOut : Cert.quiescent_KernelMixOutIdeal (hKernelMixOutIdeal := Cert.KernelMixOutIdeal.Gen.facts) := fun m ρ _ => Cert.KernelMixOutIdeal.Gen.frame m ρ

theorem refMixOut : Cert.quiescent_ReferenceMixOutIdeal (hReferenceMixOutIdeal := Cert.ReferenceMixOutIdeal.Gen.facts) := fun m ρ _ =>
  (θ_run Cert.ReferenceMixOutIdeal.defs _ _).mono
    (fun r h => ⟨fun c => (h c).2.2.2.2, Idealize.ShloMosaic.sem_eq_zero_of_no_sems (by decide) r.2⟩)
    (Cert.ReferenceMixOutIdeal.Value.run (F := Ideal) m ρ)

theorem idealMixOutPre : Cert.quiescent_KernelMixOutIdeal_pre_finite_mix_out (hKernelMixOutIdeal := Cert.KernelMixOutIdeal.Gen.facts) (hPre_finite_mix_out := Cert.Pre_finite_mix_out.Gen.facts) := fun m ρ _ => Cert.KernelMixOutIdeal.Gen.frame m ρ

theorem refMixOutPre : Cert.quiescent_ReferenceMixOutIdeal_pre_finite_mix_out (hReferenceMixOutIdeal := Cert.ReferenceMixOutIdeal.Gen.facts) (hPre_finite_mix_out := Cert.Pre_finite_mix_out.Gen.facts) := fun m ρ _ =>
  (θ_run Cert.ReferenceMixOutIdeal.defs _ _).mono
    (fun r h => ⟨fun c => (h c).2.2.2.2, Idealize.ShloMosaic.sem_eq_zero_of_no_sems (by decide) r.2⟩)
    (Cert.ReferenceMixOutIdeal.Value.run (F := Ideal) m ρ)

theorem bitsMixIn : Cert.quiescent_KernelMixIn (hKernelMixIn := Cert.KernelMixIn.Gen.facts) := fun m ρ _ => Cert.KernelMixIn.Gen.frame m ρ

theorem idealMixIn : Cert.quiescent_KernelMixInIdeal (hKernelMixInIdeal := Cert.KernelMixInIdeal.Gen.facts) := fun m ρ _ => Cert.KernelMixInIdeal.Gen.frame m ρ

theorem refMixIn : Cert.quiescent_ReferenceMixInIdeal (hReferenceMixInIdeal := Cert.ReferenceMixInIdeal.Gen.facts) := fun m ρ _ =>
  (θ_run Cert.ReferenceMixInIdeal.defs _ _).mono
    (fun r h => ⟨fun c => (h c).2.2.2, Idealize.ShloMosaic.sem_eq_zero_of_no_sems (by decide) r.2⟩)
    (Cert.ReferenceMixInIdeal.Value.run (F := Ideal) m ρ)

theorem idealMixInPre : Cert.quiescent_KernelMixInIdeal_pre_finite_mix_in (hKernelMixInIdeal := Cert.KernelMixInIdeal.Gen.facts) (hPre_finite_mix_in := Cert.Pre_finite_mix_in.Gen.facts) := fun m ρ _ => Cert.KernelMixInIdeal.Gen.frame m ρ

theorem refMixInPre : Cert.quiescent_ReferenceMixInIdeal_pre_finite_mix_in (hReferenceMixInIdeal := Cert.ReferenceMixInIdeal.Gen.facts) (hPre_finite_mix_in := Cert.Pre_finite_mix_in.Gen.facts) := fun m ρ _ =>
  (θ_run Cert.ReferenceMixInIdeal.defs _ _).mono
    (fun r h => ⟨fun c => (h c).2.2.2, Idealize.ShloMosaic.sem_eq_zero_of_no_sems (by decide) r.2⟩)
    (Cert.ReferenceMixInIdeal.Value.run (F := Ideal) m ρ)

theorem bitsAdamFfn : Cert.quiescent_KernelAdamFfn (hKernelAdamFfn := Cert.KernelAdamFfn.Gen.facts) := fun m ρ _ => Cert.KernelAdamFfn.Gen.frame m ρ

theorem idealAdamFfn : Cert.quiescent_KernelAdamFfnIdeal (hKernelAdamFfnIdeal := Cert.KernelAdamFfnIdeal.Gen.facts) := fun m ρ _ => Cert.KernelAdamFfnIdeal.Gen.frame m ρ

theorem refAdamFfn : Cert.quiescent_ReferenceAdamFfnIdeal (hReferenceAdamFfnIdeal := Cert.ReferenceAdamFfnIdeal.Gen.facts) := fun m ρ _ =>
  (θ_run Cert.ReferenceAdamFfnIdeal.defs _ _).mono
    (fun r h => ⟨fun c => (h c).2.2.2.2.2.2.2.2.2.2.2.2, Idealize.ShloMosaic.sem_eq_zero_of_no_sems (by decide) r.2⟩)
    (Cert.ReferenceAdamFfnIdeal.Value.run (F := Ideal) m ρ)

theorem bitsAdamMix : Cert.quiescent_KernelAdamMix (hKernelAdamMix := Cert.KernelAdamMix.Gen.facts) := fun m ρ _ => Cert.KernelAdamMix.Gen.frame m ρ

theorem idealAdamMix : Cert.quiescent_KernelAdamMixIdeal (hKernelAdamMixIdeal := Cert.KernelAdamMixIdeal.Gen.facts) := fun m ρ _ => Cert.KernelAdamMixIdeal.Gen.frame m ρ

theorem refAdamMix : Cert.quiescent_ReferenceAdamMixIdeal (hReferenceAdamMixIdeal := Cert.ReferenceAdamMixIdeal.Gen.facts) := fun m ρ _ =>
  (θ_run Cert.ReferenceAdamMixIdeal.defs _ _).mono
    (fun r h => ⟨fun c => (h c).2.2.2.2.2.2.2.2, Idealize.ShloMosaic.sem_eq_zero_of_no_sems (by decide) r.2⟩)
    (Cert.ReferenceAdamMixIdeal.Value.run (F := Ideal) m ρ)

end Cert.Proof.WFrames

end
-- ==== Proof.WUp.lean ====
module

public import proofs.«01_k».proof.Defs
public import proofs.«01_k».proof.Proof.Finite
public import proofs.«01_k».proof.Proof.Gen.Pre_finite_up
public import proofs.«01_k».proof.Proof.Gen.KernelUpIdeal.Value
public import proofs.«01_k».proof.Proof.Gen.ReferenceUpIdeal
public import proofs.«01_k».proof.Proof.Gen.ReferenceUpIdeal.Run
public import Idealize.ShloMosaic.Lib.Pipeline.ValueKit
public import Idealize.ShloMosaic.Lib.Pointwise

@[expose] public section

set_option maxRecDepth 16384

noncomputable section

/-! The forward call of the feed-forward network's two projections and gated activation. -/

namespace Cert.Proof.WUp

open Idealize.ShloMosaic Idealize.ShloMosaic.TcCoe Idealize.SL.Sem

section
open Cert.KernelUpIdeal Cert.KernelUpIdeal.Gen

variable (m : (ℓ : Loc nD τ sig) → Buf (Elt Ideal) ℓ) (c : Dev nD)

/-- The product with a transposed projection at an index. -/
def dotT (x : S2176x1024.Idx → EReal) (w : S2816x1024.Idx → EReal) (i : S2176x2816.Idx) : EReal :=
  ∑ k : Fin 1024, x (ix2 (i 0) k) * w (ix2 (i 1) k)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel

/-- The derivative factor of the gate, from the two projections. -/
def fP (a u : EReal) : EReal := u * (Finite.gate a + a * Finite.gate a * (1 - Finite.gate a))
/-- The activation of the gate. -/
def fQ (a : EReal) : EReal := a * Finite.gate a
/-- The gated product. -/
def fF (a u : EReal) : EReal := a * Finite.gate a * u

theorem pay5 (x : S544x1024.Idx → EReal) (g u : S256x1024.Idx → EReal) (i : S544x256.Idx) :
    (k0_pay5 (F := Ideal) x g u i : EReal) = fP (∑ k : Fin 1024, x (ix2 (i 0) k) * g (ix2 (i 1) k)) (∑ k : Fin 1024, x (ix2 (i 0) k) * u (ix2 (i 1) k)) := by
  unfold fP Finite.gate
  pointwise [k0_pay5, k0_pay4, k0_pay3, k0_pay2, k0_pay1]
  simp only [sub_eq_add_neg, zero_add]

theorem pay6 (x : S544x1024.Idx → EReal) (g : S256x1024.Idx → EReal) (i : S544x256.Idx) :
    (k0_pay6 (F := Ideal) x g i : EReal) = fQ (∑ k : Fin 1024, x (ix2 (i 0) k) * g (ix2 (i 1) k)) := by
  unfold fQ Finite.gate
  pointwise [k0_pay6, k0_pay4, k0_pay3, k0_pay2, k0_pay1]
  simp only [sub_eq_add_neg, zero_add]

theorem pay7 (x : S544x1024.Idx → EReal) (g u : S256x1024.Idx → EReal) (i : S544x256.Idx) :
    (k0_pay7 (F := Ideal) x g u i : EReal) = fF (∑ k : Fin 1024, x (ix2 (i 0) k) * g (ix2 (i 1) k)) (∑ k : Fin 1024, x (ix2 (i 0) k) * u (ix2 (i 1) k)) := by
  unfold fF Finite.gate
  pointwise [k0_pay7, k0_pay4, k0_pay3, k0_pay2, k0_pay1]
  simp only [sub_eq_add_neg, zero_add]

/-- The first result's block from the operands' blocks, at an index. -/
theorem out3 (x0 : S544x1024.Idx → EReal) (x1 x2 : S2816x1024.Idx → EReal) (y : S544x2816.Idx) :
    (out0_3 (F := Ideal) x0 x1 x2 y : EReal) = fP (∑ k : Fin 1024, x0 (ix2 (y 0) k) * x1 (ix2 (y 1) k)) (∑ k : Fin 1024, x0 (ix2 (y 0) k) * x2 (ix2 (y 1) k)) := by
  unfold_out out0_3
  canon_tiles x h
  all_goals
    refine (pay5 _ _ _ _).trans ?_
    pointwise
    congr 1
    · refine Finset.sum_congr rfl fun k _ => ?_
      congr 1
      · blk_ext
      · blk_ext
    · refine Finset.sum_congr rfl fun k _ => ?_
      congr 1
      · blk_ext
      · blk_ext

/-- The second result's block from the operands' blocks, at an index. -/
theorem out4 (x0 : S544x1024.Idx → EReal) (x1 x2 : S2816x1024.Idx → EReal) (y : S544x2816.Idx) :
    (out0_4 (F := Ideal) x0 x1 x2 y : EReal) = fQ (∑ k : Fin 1024, x0 (ix2 (y 0) k) * x1 (ix2 (y 1) k)) := by
  unfold_out out0_4
  canon_tiles x h
  all_goals
    refine (pay6 _ _ _).trans ?_
    pointwise
    congr 1
    · refine Finset.sum_congr rfl fun k _ => ?_
      congr 1
      · blk_ext
      · blk_ext

/-- The third result's block from the operands' blocks, at an index. -/
theorem out5 (x0 : S544x1024.Idx → EReal) (x1 x2 : S2816x1024.Idx → EReal) (y : S544x2816.Idx) :
    (out0_5 (F := Ideal) x0 x1 x2 y : EReal) = fF (∑ k : Fin 1024, x0 (ix2 (y 0) k) * x1 (ix2 (y 1) k)) (∑ k : Fin 1024, x0 (ix2 (y 0) k) * x2 (ix2 (y 1) k)) := by
  unfold_out out0_5
  canon_tiles x h
  all_goals
    refine (pay7 _ _ _ _).trans ?_
    pointwise
    congr 1
    · refine Finset.sum_congr rfl fun k _ => ?_
      congr 1
      · blk_ext
      · blk_ext
    · refine Finset.sum_congr rfl fun k _ => ?_
      congr 1
      · blk_ext
      · blk_ext

/-- The first result after the run. -/
theorem final3 : (dats m 0 c).arrAt 3 cfg0.N = fun i => fP (dotT (m ((c : Thread nD τ).loc main_arg0)) (m ((c : Thread nD τ).loc main_arg1)) i) (dotT (m ((c : Thread nD τ).loc main_arg0)) (m ((c : Thread nD τ).loc main_arg2)) i) := by
  refine (dats m 0 c).arrAt_eq_of_covers 3 _ (by decide +kernel) fun t hf y => ?_
  blk_simp
  rw [after0_3]
  refine (out3 _ _ _ y).trans ?_
  unfold dotT
  congr 1
  · refine Finset.sum_congr rfl fun k _ => ?_
    refine congr (congrArg HMul.hMul ?_) ?_
    · refine Eq.trans ?_ (congrFun (V_main_arg0 m c) _)
      blk_ext [iblk, idx0 t, idx3 t]
    · refine Eq.trans ?_ (congrFun (V_main_arg1 m c) _)
      blk_ext [iblk, idx1 t, idx3 t]
  · refine Finset.sum_congr rfl fun k _ => ?_
    refine congr (congrArg HMul.hMul ?_) ?_
    · refine Eq.trans ?_ (congrFun (V_main_arg0 m c) _)
      blk_ext [iblk, idx0 t, idx3 t]
    · refine Eq.trans ?_ (congrFun (V_main_arg2 m c) _)
      blk_ext [iblk, idx2 t, idx3 t]

/-- The second result after the run. -/
theorem final4 : (dats m 0 c).arrAt 4 cfg0.N = fun i => fQ (dotT (m ((c : Thread nD τ).loc main_arg0)) (m ((c : Thread nD τ).loc main_arg1)) i) := by
  refine (dats m 0 c).arrAt_eq_of_covers 4 _ (by decide +kernel) fun t hf y => ?_
  blk_simp
  rw [after0_4]
  refine (out4 _ _ _ y).trans ?_
  unfold dotT
  congr 1
  · refine Finset.sum_congr rfl fun k _ => ?_
    refine congr (congrArg HMul.hMul ?_) ?_
    · refine Eq.trans ?_ (congrFun (V_main_arg0 m c) _)
      blk_ext [iblk, idx0 t, idx4 t]
    · refine Eq.trans ?_ (congrFun (V_main_arg1 m c) _)
      blk_ext [iblk, idx1 t, idx4 t]

/-- The third result after the run. -/
theorem final5 : (dats m 0 c).arrAt 5 cfg0.N = fun i => fF (dotT (m ((c : Thread nD τ).loc main_arg0)) (m ((c : Thread nD τ).loc main_arg1)) i) (dotT (m ((c : Thread nD τ).loc main_arg0)) (m ((c : Thread nD τ).loc main_arg2)) i) := by
  refine (dats m 0 c).arrAt_eq_of_covers 5 _ (by decide +kernel) fun t hf y => ?_
  blk_simp
  rw [after0_5]
  refine (out5 _ _ _ y).trans ?_
  unfold dotT
  congr 1
  · refine Finset.sum_congr rfl fun k _ => ?_
    refine congr (congrArg HMul.hMul ?_) ?_
    · refine Eq.trans ?_ (congrFun (V_main_arg0 m c) _)
      blk_ext [iblk, idx0 t, idx5 t]
    · refine Eq.trans ?_ (congrFun (V_main_arg1 m c) _)
      blk_ext [iblk, idx1 t, idx5 t]
  · refine Finset.sum_congr rfl fun k _ => ?_
    refine congr (congrArg HMul.hMul ?_) ?_
    · refine Eq.trans ?_ (congrFun (V_main_arg0 m c) _)
      blk_ext [iblk, idx0 t, idx5 t]
    · refine Eq.trans ?_ (congrFun (V_main_arg2 m c) _)
      blk_ext [iblk, idx2 t, idx5 t]

/-- The precondition: all three arguments are arrays of real numbers. -/
theorem reals (h : Cert.Pre_KernelUpIdeal_finite_up (hPre_finite_up := Cert.Pre_finite_up.Gen.facts) m) :
    (∃ r : S2176x1024.Idx → ℝ, m ((c : Thread nD τ).loc main_arg0) = fun i => (r i : EReal)) ∧
    (∃ r : S2816x1024.Idx → ℝ, m ((c : Thread nD τ).loc main_arg1) = fun i => (r i : EReal)) ∧
    (∃ r : S2816x1024.Idx → ℝ, m ((c : Thread nD τ).loc main_arg2) = fun i => (r i : EReal)) := by
  have h' := congrFun (h c) (fun a => a.elim0)
  dsimp only [Cert.Pre_finite_up.fn] at h'
  obtain ⟨h', h2⟩ := Finite.both h'
  obtain ⟨h0, h1⟩ := Finite.both h'
  exact ⟨Finite.real_of_all _ _ (fun _ => Finite.inf_eq) _ _ _ _ h0, Finite.real_of_all _ _ (fun _ => Finite.inf_eq) _ _ _ _ h1,
    Finite.real_of_all _ _ (fun _ => Finite.inf_eq) _ _ _ _ h2⟩

end

/-- The two ways of writing the derivative factor agree at real numbers. -/
theorem form1 (a u : ℝ) : (u : EReal) * Finite.gate (a : EReal) + ((a * u : ℝ) : EReal) * (Finite.gate (a : EReal) * (1 - Finite.gate (a : EReal))) = fP a u := by
  unfold fP
  rw [Finite.gate_coe]
  simp only [← EReal.coe_mul, ← EReal.coe_add, ← EReal.coe_one, ← EReal.coe_sub]
  exact congrArg _ (by ring)

/-- The kernel and the reference leave the same three arrays from the same finite arguments. -/
theorem algebraic : Cert.algebraic_KernelUpIdeal_ReferenceUpIdeal_pre_finite_up (hKernelUpIdeal := Cert.KernelUpIdeal.Gen.facts) (hReferenceUpIdeal := Cert.ReferenceUpIdeal.Gen.facts) (hPre_finite_up := Cert.Pre_finite_up.Gen.facts) :=
  fun m ρ m' ρ' hp hag => by
  refine ⟨_, _, _, (θ_run _ _ _).mono (fun r h c => ⟨(h c).1.trans (final3 m c), (h c).2.1.trans (final4 m c), (h c).2.2.1.trans (final5 m c), (h c).2.2.2⟩) (Cert.KernelUpIdeal.Value.run_blocks (F := Ideal) m ρ), ?_⟩
  refine (θ_run _ _ _).mono (fun r h c => ?_) (Cert.ReferenceUpIdeal.Value.run (F := Ideal) m' ρ')
  obtain ⟨h0, h1, h2, hargs⟩ := h c
  obtain ⟨⟨d, hd⟩, ⟨a, ha⟩, ⟨u, hu⟩⟩ := reals m c hp
  refine ⟨h0.trans ?_, h1.trans ?_, h2.trans ?_, hargs⟩
  all_goals
    clear h0 h1 h2 hargs h
    funext i
    simp only [(hag c).1, (hag c).2.1, (hag c).2.2, hd, ha, hu]
    unfold dotT
    pointwise
  · simp only [← EReal.coe_mul, Finite.coe_sum]
    exact form1 _ _
  · rfl
  · rfl

end Cert.Proof.WUp

end
-- ==== Proof.WAct.lean ====
module

public import proofs.«01_k».proof.Defs
public import proofs.«01_k».proof.Proof.Finite
public import proofs.«01_k».proof.Proof.Gen.Pre_finite_act
public import proofs.«01_k».proof.Proof.Gen.KernelActIdeal.Value
public import proofs.«01_k».proof.Proof.Gen.ReferenceActIdeal
public import proofs.«01_k».proof.Proof.Gen.ReferenceActIdeal.Run
public import Idealize.ShloMosaic.Lib.Pipeline.ValueKit
public import Idealize.ShloMosaic.Lib.Pointwise
public import Idealize.ShloMosaic.Lib.StableHlo.ReadAt

@[expose] public section

set_option maxRecDepth 16384

noncomputable section

/-! The backward call of the feed-forward network's down projection and gated activation. -/

namespace Cert.Proof.WAct

open Idealize.ShloMosaic Idealize.ShloMosaic.TcCoe Idealize.SL.Sem

section
open Cert.KernelActIdeal Cert.KernelActIdeal.Gen

variable (m : (ℓ : Loc nD τ sig) → Buf (Elt Ideal) ℓ) (c : Dev nD)

/-- The product with the transposed down projection at an index. -/
def dotT (x : S2176x1024.Idx → EReal) (w : S2816x1024.Idx → EReal) (i : S2176x2816.Idx) : EReal :=
  ∑ k : Fin 1024, x (ix2 (i 0) k) * w (ix2 (i 1) k)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel

/-- One piece of a result at an index: the product times the factor. -/
theorem pay2 (x : S544x1024.Idx → EReal) (w : S256x1024.Idx → EReal) (p : S544x256.Idx → EReal) (i : S544x256.Idx) :
    (k0_pay2 (F := Ideal) x w p i : EReal) = (∑ k : Fin 1024, x (ix2 (i 0) k) * w (ix2 (i 1) k)) * p i := by
  pointwise [k0_pay2, k0_pay1]

/-- One piece of the other result at an index. -/
theorem pay3 (x : S544x1024.Idx → EReal) (w : S256x1024.Idx → EReal) (p : S544x256.Idx → EReal) (i : S544x256.Idx) :
    (k0_pay3 (F := Ideal) x w p i : EReal) = (∑ k : Fin 1024, x (ix2 (i 0) k) * w (ix2 (i 1) k)) * p i := by
  pointwise [k0_pay3, k0_pay1]

/-- The first result's block from the operands' blocks, at an index. -/
theorem out4 (x0 : S544x1024.Idx → EReal) (x1 : S2816x1024.Idx → EReal) (x2 x3 : S544x2816.Idx → EReal) (y : S544x2816.Idx) :
    (out0_4 (F := Ideal) x0 x1 x2 x3 y : EReal) = (∑ k : Fin 1024, x0 (ix2 (y 0) k) * x1 (ix2 (y 1) k)) * x2 y := by
  unfold_out out0_4
  canon_tiles x h
  all_goals
    refine (pay2 _ _ _ _).trans ?_
    pointwise
    congr 1
    · refine Finset.sum_congr rfl fun k _ => ?_
      congr 1
      · blk_ext
      · blk_ext
    · blk_ext

/-- The second result's block from the operands' blocks, at an index. -/
theorem out5 (x0 : S544x1024.Idx → EReal) (x1 : S2816x1024.Idx → EReal) (x2 x3 : S544x2816.Idx → EReal) (y : S544x2816.Idx) :
    (out0_5 (F := Ideal) x0 x1 x2 x3 y : EReal) = (∑ k : Fin 1024, x0 (ix2 (y 0) k) * x1 (ix2 (y 1) k)) * x3 y := by
  unfold_out out0_5
  canon_tiles x h
  all_goals
    refine (pay3 _ _ _ _).trans ?_
    pointwise
    congr 1
    · refine Finset.sum_congr rfl fun k _ => ?_
      congr 1
      · blk_ext
      · blk_ext
    · blk_ext

theorem rd2 (A : S2176x2816.Idx → EReal) (t : Fin cfg0.N) (y : S544x2816.Idx) :
    View.read (Elt Ideal) ((cfg0.win 2).blk t).view A y = A (((cfg0.win 4).blk t).view.emb y) := by
  blk_ext [idx2 t, idx4 t]

/-- The first result after the run. -/
theorem final4 : (dats m 0 c).arrAt 4 cfg0.N = fun i => dotT (m ((c : Thread nD τ).loc main_arg0)) (m ((c : Thread nD τ).loc main_arg1)) i * V m c (Pipeline.arrRef spec0 2) i := by
  refine (dats m 0 c).arrAt_eq_of_covers 4 _ (by decide +kernel) fun t hf y => ?_
  blk_simp
  rw [after0_4]
  refine (out4 _ _ _ _ y).trans ?_
  refine congr (congrArg HMul.hMul ?_) (rd2 _ t y)
  unfold dotT
  refine Finset.sum_congr rfl fun k _ => ?_
  refine congr (congrArg HMul.hMul ?_) ?_
  · refine Eq.trans ?_ (congrFun (V_main_arg0 m c) _)
    blk_ext [iblk, idx0 t, idx4 t]
  · refine Eq.trans ?_ (congrFun (V_main_arg1 m c) _)
    blk_ext [iblk, idx1 t, idx4 t]

theorem rd3 (A : S2176x2816.Idx → EReal) (t : Fin cfg0.N) (y : S544x2816.Idx) :
    View.read (Elt Ideal) ((cfg0.win 3).blk t).view A y = A (((cfg0.win 5).blk t).view.emb y) := by
  blk_ext [idx3 t, idx5 t]

/-- The second result after the run. -/
theorem final5 : (dats m 0 c).arrAt 5 cfg0.N = fun i => dotT (m ((c : Thread nD τ).loc main_arg0)) (m ((c : Thread nD τ).loc main_arg1)) i * V m c (Pipeline.arrRef spec0 3) i := by
  refine (dats m 0 c).arrAt_eq_of_covers 5 _ (by decide +kernel) fun t hf y => ?_
  blk_simp
  rw [after0_5]
  refine (out5 _ _ _ _ y).trans ?_
  refine congr (congrArg HMul.hMul ?_) (rd3 _ t y)
  unfold dotT
  refine Finset.sum_congr rfl fun k _ => ?_
  refine congr (congrArg HMul.hMul ?_) ?_
  · refine Eq.trans ?_ (congrFun (V_main_arg0 m c) _)
    blk_ext [iblk, idx0 t, idx5 t]
  · refine Eq.trans ?_ (congrFun (V_main_arg1 m c) _)
    blk_ext [iblk, idx1 t, idx5 t]

/-- The factor of the gate's cotangent: what the activation's derivative leaves of the up projection. -/
def facP (a u : S2176x2816.Idx → EReal) (i : S2176x2816.Idx) : EReal :=
  u i * Finite.gate (a i) + a i * u i * (Finite.gate (a i) * (1 - Finite.gate (a i)))

/-- The factor of the up projection's cotangent: the activation. -/
def facQ (a : S2176x2816.Idx → EReal) (i : S2176x2816.Idx) : EReal := a i * Finite.gate (a i)

/-- The host leaves the first factor where the call reads it. -/
theorem e2 (i : S2176x2816.Idx) : (V m c (Pipeline.arrRef spec0 2) i : EReal) = facP (m ((c : Thread nD τ).loc main_arg2)) (m ((c : Thread nD τ).loc main_arg3)) i := by
  change (V m c main_v2 i : EReal) = _
  unfold V facP Finite.gate
  simp only [hostOps0, hostOps0_1, hostOps0_2, List.flatten_cons, List.flatten_nil, List.append_nil, List.cons_append, List.nil_append]
  after_reads_at

/-- The host leaves the second factor where the call reads it. -/
theorem e3 (i : S2176x2816.Idx) : (V m c (Pipeline.arrRef spec0 3) i : EReal) = facQ (m ((c : Thread nD τ).loc main_arg2)) i := by
  change (V m c main_v3 i : EReal) = _
  unfold V facQ Finite.gate
  simp only [hostOps0, hostOps0_1, hostOps0_2, List.flatten_cons, List.flatten_nil, List.append_nil, List.cons_append, List.nil_append]
  after_reads_at

/-- The precondition: all four arguments are arrays of real numbers. -/
theorem reals (h : Cert.Pre_KernelActIdeal_finite_act (hPre_finite_act := Cert.Pre_finite_act.Gen.facts) m) :
    (∃ r : S2176x1024.Idx → ℝ, m ((c : Thread nD τ).loc main_arg0) = fun i => (r i : EReal)) ∧
    (∃ r : S2816x1024.Idx → ℝ, m ((c : Thread nD τ).loc main_arg1) = fun i => (r i : EReal)) ∧
    (∃ r : S2176x2816.Idx → ℝ, m ((c : Thread nD τ).loc main_arg2) = fun i => (r i : EReal)) ∧
    (∃ r : S2176x2816.Idx → ℝ, m ((c : Thread nD τ).loc main_arg3) = fun i => (r i : EReal)) := by
  have h' := congrFun (h c) (fun a => a.elim0)
  dsimp only [Cert.Pre_finite_act.fn, Cert.Pre_finite_act.fn_part1] at h'
  obtain ⟨h', h3⟩ := Finite.both h'
  obtain ⟨h', h2⟩ := Finite.both h'
  obtain ⟨h0, h1⟩ := Finite.both h'
  exact ⟨Finite.real_of_all _ _ (fun _ => Finite.inf_eq) _ _ _ _ h0, Finite.real_of_all _ _ (fun _ => Finite.inf_eq) _ _ _ _ h1,
    Finite.real_of_all _ _ (fun _ => Finite.inf_eq) _ _ _ _ h2, Finite.real_of_all _ _ (fun _ => Finite.inf_eq) _ _ _ _ h3⟩

end

/-- The reference's first cotangent is the product times the factor. -/
theorem sum1 (d s a u : ℝ) : ((d * u * s + a * (d * u) * (s * (1 - s)) : ℝ)) = d * (u * s + a * u * (s * (1 - s))) := by ring

/-- The kernel and the reference leave the same two cotangents from the same finite arguments. -/
theorem algebraic : Cert.algebraic_KernelActIdeal_ReferenceActIdeal_pre_finite_act (hKernelActIdeal := Cert.KernelActIdeal.Gen.facts) (hReferenceActIdeal := Cert.ReferenceActIdeal.Gen.facts) (hPre_finite_act := Cert.Pre_finite_act.Gen.facts) :=
  fun m ρ m' ρ' hp hag => by
  refine ⟨_, _, (θ_run _ _ _).mono (fun r h c => ⟨(h c).1.trans (final4 m c), (h c).2.1.trans (final5 m c), (h c).2.2⟩) (Cert.KernelActIdeal.Value.run_blocks (F := Ideal) m ρ), ?_⟩
  refine (θ_run _ _ _).mono (fun r h c => ?_) (Cert.ReferenceActIdeal.Value.run (F := Ideal) m' ρ')
  obtain ⟨h0, h1, hargs⟩ := h c
  obtain ⟨⟨d, hd⟩, ⟨w, hw⟩, ⟨a, ha⟩, ⟨u, hu⟩⟩ := reals m c hp
  refine ⟨h0.trans ?_, h1.trans ?_, hargs⟩
  · funext i
    rw [e2, (hag c).1, (hag c).2.1, (hag c).2.2.1, (hag c).2.2.2, hd, hw, ha, hu]
    unfold facP dotT Finite.gate
    pointwise
    have hg := Finite.gate_coe (a i)
    unfold Finite.gate at hg
    simp only [hg]
    simp only [← EReal.coe_mul, Finite.coe_sum, ← EReal.coe_add, ← EReal.coe_one, ← EReal.coe_sub]
    exact congrArg _ (sum1 _ _ _ _)
  · funext i
    rw [e3, (hag c).1, (hag c).2.1, (hag c).2.2.1, hd, hw, ha]
    unfold facQ dotT Finite.gate
    pointwise
    exact mul_comm _ _

end Cert.Proof.WAct

end
-- ==== Proof.MixIn.lean ====
module

public import proofs.«01_k».proof.Defs
public import proofs.«01_k».proof.Proof.Rows
public import proofs.«01_k».proof.Proof.Gen.Pre_finite_mix_in
public import proofs.«01_k».proof.Proof.Gen.KernelMixInIdeal.Value
public import proofs.«01_k».proof.Proof.Gen.ReferenceMixInIdeal
public import proofs.«01_k».proof.Proof.Gen.ReferenceMixInIdeal.Run
public import Idealize.ShloMosaic.Lib.Pipeline.ValueKit
public import Idealize.ShloMosaic.Lib.Pipeline.ReadBack
public import Idealize.ShloMosaic.Lib.Pointwise

@[expose] public section

set_option maxRecDepth 16384

noncomputable section

/-! The backward call into the mixer: the cotangents of the residual stream, of the learned rows and of the first norm's
weights, from the five planes of the projections' cotangents. -/

namespace Cert.Proof.WMixIn

open Idealize.ShloMosaic Idealize.ShloMosaic.TcCoe Idealize.SL.Sem

/-- A row of an array of two axes. -/
def row {n w : ℕ} (X : (⟨2, ![n, w]⟩ : Shape).Idx → EReal) (i : Fin n) : Fin w → EReal := fun k => X (ix2 i k)

/-- A row of each of five planes. -/
def pl {n : ℕ} (X : (⟨3, ![5, n, 512]⟩ : Shape).Idx → EReal) (i : Fin n) : Fin 5 → Fin 512 → EReal := fun p k => X (ix3 p i k)

/-- The row of one plane. -/
def p1 {n : ℕ} (X : (⟨3, ![1, n, 512]⟩ : Shape).Idx → EReal) (i : Fin n) : Fin 512 → EReal := fun k => X (ix3 0 i k)

section
open Cert.KernelMixInIdeal Cert.KernelMixInIdeal.Gen

variable (m : (ℓ : Loc nD τ sig) → Buf (Elt Ideal) ℓ) (c : Dev nD)

/-- The four shards of the projections' weights side by side. -/
def cat (X : S4x1024x640.Idx → EReal) (i : S1024x2560.Idx) : EReal :=
  X (ix3 ⟨(i 1).val / 640, by have := (i 1).isLt; change (i 1).val < 2560 at this; omega⟩ (i 0) ⟨(i 1).val % 640, Nat.mod_lt _ (by norm_num)⟩)

/-- The cotangent of a normed row, from the rows of the five planes. -/
def dx (a : Fin 5 → Fin 512 → EReal) (W : S1024x2560.Idx → EReal) (j : Fin 1024) : EReal :=
  ∑ k : Fin 512, a 0 k * W (ix2 j ⟨k.val, by omega⟩) + ∑ k : Fin 512, a 1 k * W (ix2 j ⟨512 + k.val, by omega⟩) + ∑ k : Fin 512, a 2 k * W (ix2 j ⟨1024 + k.val, by omega⟩)
    + ∑ k : Fin 512, a 3 k * W (ix2 j ⟨1536 + k.val, by omega⟩) + ∑ k : Fin 512, a 4 k * W (ix2 j ⟨2048 + k.val, by omega⟩)

/-- A row of the residual stream's cotangent. -/
def dh (a : Fin 5 → Fin 512 → EReal) (W : S1024x2560.Idx → EReal) (x h g : Fin 1024 → EReal) (j : Fin 1024) : EReal :=
  h j + Rows.nb (dx a W) x g j

/-- A block's part in the gradient of the norm's weights. -/
def tg (x0 : S5x544x512.Idx → EReal) (W : S1024x2560.Idx → EReal) (x2 : S544x1024.Idx → EReal) (j : S1x1024.Idx) : EReal :=
  ∑ p, Rows.ng (dx (pl x0 p) W) (row x2 p) (j 1)

/-- A sum over 544 rows in two halves. -/
theorem sum_halves {M : Type} [AddCommMonoid M] (f : Fin 544 → M) :
    ∑ p, f p = ∑ p : Fin 272, f ⟨p.val, by omega⟩ + ∑ p : Fin 272, f ⟨272 + p.val, by omega⟩ :=
  Fin.sum_univ_add (a := 272) (b := 272) f

/-- The first half's rows of the residual stream's cotangent. -/
theorem nb0 (v : S272x1024.Idx → EReal) (a : S1x272x512.Idx → EReal) (w : S1024x512.Idx → EReal) (x h : S272x1024.Idx → EReal) (g : S1x1024.Idx → EReal) (i : S272x1024.Idx) :
    (k0_pay15 (F := Ideal) v a w x g h i : EReal) = row h (i 0) (i 1) + Rows.nb (row (k0_pay12 (F := Ideal) v a w) (i 0)) (row x (i 0)) (row g 0) (i 1) := by
  unfold Rows.nb Rows.rn row Rows.sc Rows.ep
  pointwise [k0_pay15, k0_pay13, k0_pay14, k0_pay12]

/-- The first half's part in the gradient of the norm's weights. -/
theorem ng0 (v : S272x1024.Idx → EReal) (a : S1x272x512.Idx → EReal) (w : S1024x512.Idx → EReal) (x : S272x1024.Idx → EReal) (s : S1x1024.Idx → EReal) (i : S1x1024.Idx) :
    (k0_pay16 (F := Ideal) v a w x s i : EReal) = s i + ∑ p, Rows.ng (row (k0_pay12 (F := Ideal) v a w) p) (row x p) (i 1) := by
  unfold Rows.ng Rows.rn row Rows.sc Rows.ep
  pointwise [k0_pay16, k0_pay13, k0_pay14, k0_pay12]

/-- The second half's rows of the residual stream's cotangent. -/
theorem nb1 (v : S272x1024.Idx → EReal) (x h : S272x1024.Idx → EReal) (g : S1x1024.Idx → EReal) (i : S272x1024.Idx) :
    (k0_pay3 (F := Ideal) v x (k0_pay18 (F := Ideal) x) g h i : EReal) = row h (i 0) (i 1) + Rows.nb (row v (i 0)) (row x (i 0)) (row g 0) (i 1) := by
  unfold Rows.nb Rows.rn row Rows.sc Rows.ep
  pointwise [k0_pay3, k0_pay1, k0_pay2, k0_pay18]

/-- The rows of the learned rows' cotangent. -/
theorem nb5 (v : S272x1024.Idx → EReal) (x h : S272x1024.Idx → EReal) (g : S1x1024.Idx → EReal) (i : S16x1024.Idx) :
    (k0_pay5 (F := Ideal) v x (k0_pay18 (F := Ideal) x) g h i : EReal) = (k0_pay3 (F := Ideal) v x (k0_pay18 (F := Ideal) x) g h (ix2 ⟨144 + (i 0).val, by have := (i 0).isLt; change (i 0).val < 16 at this; omega⟩ (i 1)) : EReal) := by
  generalize k0_pay18 (F := Ideal) x = x2
  unfold k0_pay5
  generalize k0_pay3 (F := Ideal) v x x2 g h = z
  pointwise

/-- The second half's part in the gradient of the norm's weights. -/
theorem ng1 (v : S272x1024.Idx → EReal) (x : S272x1024.Idx → EReal) (s : S1x1024.Idx → EReal) (i : S1x1024.Idx) :
    (k0_pay4 (F := Ideal) v x (k0_pay18 (F := Ideal) x) s i : EReal) = s i + ∑ p, Rows.ng (row v p) (row x p) (i 1) := by
  unfold Rows.ng Rows.rn row Rows.sc Rows.ep
  pointwise [k0_pay4, k0_pay1, k0_pay2, k0_pay18]

/-- The five products of the first half. -/
theorem dx0 (a0 a1 a2 a3 a4 : S1x272x512.Idx → EReal) (w0 w1 w2 w3 w4 : S1024x512.Idx → EReal) (i : S272x1024.Idx) :
    (k0_pay12 (F := Ideal) (k0_pay11 (F := Ideal) a0 w0 a1 w1 a2 w2 a3 w3) a4 w4 i : EReal)
      = ∑ k, p1 a0 (i 0) k * w0 (ix2 (i 1) k) + ∑ k, p1 a1 (i 0) k * w1 (ix2 (i 1) k) + ∑ k, p1 a2 (i 0) k * w2 (ix2 (i 1) k) + ∑ k, p1 a3 (i 0) k * w3 (ix2 (i 1) k) + ∑ k, p1 a4 (i 0) k * w4 (ix2 (i 1) k) := by
  unfold p1
  pointwise [k0_pay12, k0_pay11]

/-- The five products of the second half. -/
theorem dx1 (a0 a1 a2 a3 a4 : S1x272x512.Idx → EReal) (w0 w1 w2 w3 w4 : S1024x512.Idx → EReal) (i : S272x1024.Idx) :
    (k0_pay17 (F := Ideal) a0 w0 a1 w1 a2 w2 a3 w3 a4 w4 i : EReal)
      = ∑ k, p1 a0 (i 0) k * w0 (ix2 (i 1) k) + ∑ k, p1 a1 (i 0) k * w1 (ix2 (i 1) k) + ∑ k, p1 a2 (i 0) k * w2 (ix2 (i 1) k) + ∑ k, p1 a3 (i 0) k * w3 (ix2 (i 1) k) + ∑ k, p1 a4 (i 0) k * w4 (ix2 (i 1) k) := by
  unfold p1
  pointwise [k0_pay17]

/-- A row of a half of a block is a row of the block. -/
theorem ld0 (X : S544x1024.Idx → EReal) (r : Fin 272) (q : Fin 544) (h : q.val = r.val) :
    row (n := 272) (w := 1024) (View.ld (Val := Elt Ideal) (e' := .f32) X (Rect.unit ![0, 0] ![272, 1024] inb_S544x1024_S272x1024_0_0)) r = row X q := by
  funext k
  unfold row
  pointwise
  blk_ext

theorem pl0_0 (X : S5x544x512.Idx → EReal) (r : Fin 272) (q : Fin 544) (h : q.val = r.val) (k : Fin 512) :
    p1 (View.ld (Val := Elt Ideal) (e' := .f32) X (Rect.unit ![0, 0, 0] ![1, 272, 512] inb_S5x544x512_S1x272x512_0_0_0)) r k = pl X q 0 k := by
  unfold p1 pl
  pointwise
  blk_ext

theorem pl0_1 (X : S5x544x512.Idx → EReal) (r : Fin 272) (q : Fin 544) (h : q.val = r.val) (k : Fin 512) :
    p1 (View.ld (Val := Elt Ideal) (e' := .f32) X (Rect.unit ![1, 0, 0] ![1, 272, 512] inb_S5x544x512_S1x272x512_1_0_0)) r k = pl X q 1 k := by
  unfold p1 pl
  pointwise
  blk_ext

theorem pl0_2 (X : S5x544x512.Idx → EReal) (r : Fin 272) (q : Fin 544) (h : q.val = r.val) (k : Fin 512) :
    p1 (View.ld (Val := Elt Ideal) (e' := .f32) X (Rect.unit ![2, 0, 0] ![1, 272, 512] inb_S5x544x512_S1x272x512_2_0_0)) r k = pl X q 2 k := by
  unfold p1 pl
  pointwise
  blk_ext

theorem pl0_3 (X : S5x544x512.Idx → EReal) (r : Fin 272) (q : Fin 544) (h : q.val = r.val) (k : Fin 512) :
    p1 (View.ld (Val := Elt Ideal) (e' := .f32) X (Rect.unit ![3, 0, 0] ![1, 272, 512] inb_S5x544x512_S1x272x512_3_0_0)) r k = pl X q 3 k := by
  unfold p1 pl
  pointwise
  blk_ext

theorem pl0_4 (X : S5x544x512.Idx → EReal) (r : Fin 272) (q : Fin 544) (h : q.val = r.val) (k : Fin 512) :
    p1 (View.ld (Val := Elt Ideal) (e' := .f32) X (Rect.unit ![4, 0, 0] ![1, 272, 512] inb_S5x544x512_S1x272x512_4_0_0)) r k = pl X q 4 k := by
  unfold p1 pl
  pointwise
  blk_ext

/-- A row of a half of a block is a row of the block. -/
theorem ld272 (X : S544x1024.Idx → EReal) (r : Fin 272) (q : Fin 544) (h : q.val = 272 + r.val) :
    row (n := 272) (w := 1024) (View.ld (Val := Elt Ideal) (e' := .f32) X (Rect.unit ![272, 0] ![272, 1024] inb_S544x1024_S272x1024_272_0)) r = row X q := by
  funext k
  unfold row
  pointwise
  blk_ext

theorem pl272_0 (X : S5x544x512.Idx → EReal) (r : Fin 272) (q : Fin 544) (h : q.val = 272 + r.val) (k : Fin 512) :
    p1 (View.ld (Val := Elt Ideal) (e' := .f32) X (Rect.unit ![0, 272, 0] ![1, 272, 512] inb_S5x544x512_S1x272x512_0_272_0)) r k = pl X q 0 k := by
  unfold p1 pl
  pointwise
  blk_ext

theorem pl272_1 (X : S5x544x512.Idx → EReal) (r : Fin 272) (q : Fin 544) (h : q.val = 272 + r.val) (k : Fin 512) :
    p1 (View.ld (Val := Elt Ideal) (e' := .f32) X (Rect.unit ![1, 272, 0] ![1, 272, 512] inb_S5x544x512_S1x272x512_1_272_0)) r k = pl X q 1 k := by
  unfold p1 pl
  pointwise
  blk_ext

theorem pl272_2 (X : S5x544x512.Idx → EReal) (r : Fin 272) (q : Fin 544) (h : q.val = 272 + r.val) (k : Fin 512) :
    p1 (View.ld (Val := Elt Ideal) (e' := .f32) X (Rect.unit ![2, 272, 0] ![1, 272, 512] inb_S5x544x512_S1x272x512_2_272_0)) r k = pl X q 2 k := by
  unfold p1 pl
  pointwise
  blk_ext

theorem pl272_3 (X : S5x544x512.Idx → EReal) (r : Fin 272) (q : Fin 544) (h : q.val = 272 + r.val) (k : Fin 512) :
    p1 (View.ld (Val := Elt Ideal) (e' := .f32) X (Rect.unit ![3, 272, 0] ![1, 272, 512] inb_S5x544x512_S1x272x512_3_272_0)) r k = pl X q 3 k := by
  unfold p1 pl
  pointwise
  blk_ext

theorem pl272_4 (X : S5x544x512.Idx → EReal) (r : Fin 272) (q : Fin 544) (h : q.val = 272 + r.val) (k : Fin 512) :
    p1 (View.ld (Val := Elt Ideal) (e' := .f32) X (Rect.unit ![4, 272, 0] ![1, 272, 512] inb_S5x544x512_S1x272x512_4_272_0)) r k = pl X q 4 k := by
  unfold p1 pl
  pointwise
  blk_ext

theorem wd0 (W : S1024x2560.Idx → EReal) (j : Fin 1024) (k : Fin 512) :
    (View.ld (Val := Elt Ideal) (e' := .f32) W (Rect.unit ![0, 0] ![1024, 512] inb_S1024x2560_S1024x512_0_0) (ix2 j k) : EReal) = W (ix2 j ⟨k.val, by omega⟩) := by
  pointwise
  blk_ext

theorem wd1 (W : S1024x2560.Idx → EReal) (j : Fin 1024) (k : Fin 512) :
    (View.ld (Val := Elt Ideal) (e' := .f32) W (Rect.unit ![0, 512] ![1024, 512] inb_S1024x2560_S1024x512_0_512) (ix2 j k) : EReal) = W (ix2 j ⟨512 + k.val, by omega⟩) := by
  pointwise
  blk_ext

theorem wd2 (W : S1024x2560.Idx → EReal) (j : Fin 1024) (k : Fin 512) :
    (View.ld (Val := Elt Ideal) (e' := .f32) W (Rect.unit ![0, 1024] ![1024, 512] inb_S1024x2560_S1024x512_0_1024) (ix2 j k) : EReal) = W (ix2 j ⟨1024 + k.val, by omega⟩) := by
  pointwise
  blk_ext

theorem wd3 (W : S1024x2560.Idx → EReal) (j : Fin 1024) (k : Fin 512) :
    (View.ld (Val := Elt Ideal) (e' := .f32) W (Rect.unit ![0, 1536] ![1024, 512] inb_S1024x2560_S1024x512_0_1536) (ix2 j k) : EReal) = W (ix2 j ⟨1536 + k.val, by omega⟩) := by
  pointwise
  blk_ext

theorem wd4 (W : S1024x2560.Idx → EReal) (j : Fin 1024) (k : Fin 512) :
    (View.ld (Val := Elt Ideal) (e' := .f32) W (Rect.unit ![0, 2048] ![1024, 512] inb_S1024x2560_S1024x512_0_2048) (ix2 j k) : EReal) = W (ix2 j ⟨2048 + k.val, by omega⟩) := by
  pointwise
  blk_ext

/-- A normed row's cotangent in a half of a block. -/
theorem dxr0 (X : S5x544x512.Idx → EReal) (W : S1024x2560.Idx → EReal) (r : Fin 272) (q : Fin 544) (h : q.val = r.val) :
    row (n := 272) (w := 1024) (k0_pay12 (F := Ideal) (k0_pay11 (F := Ideal) (View.ld (Val := Elt Ideal) (e' := .bf16) X (Rect.unit ![0, 0, 0] ![1, 272, 512] inb_S5x544x512_S1x272x512_0_0_0)) (View.ld (Val := Elt Ideal) (e' := .bf16) W (Rect.unit ![0, 0] ![1024, 512] inb_S1024x2560_S1024x512_0_0)) (View.ld (Val := Elt Ideal) (e' := .bf16) X (Rect.unit ![1, 0, 0] ![1, 272, 512] inb_S5x544x512_S1x272x512_1_0_0)) (View.ld (Val := Elt Ideal) (e' := .bf16) W (Rect.unit ![0, 512] ![1024, 512] inb_S1024x2560_S1024x512_0_512)) (View.ld (Val := Elt Ideal) (e' := .bf16) X (Rect.unit ![2, 0, 0] ![1, 272, 512] inb_S5x544x512_S1x272x512_2_0_0)) (View.ld (Val := Elt Ideal) (e' := .bf16) W (Rect.unit ![0, 1024] ![1024, 512] inb_S1024x2560_S1024x512_0_1024)) (View.ld (Val := Elt Ideal) (e' := .bf16) X (Rect.unit ![3, 0, 0] ![1, 272, 512] inb_S5x544x512_S1x272x512_3_0_0)) (View.ld (Val := Elt Ideal) (e' := .bf16) W (Rect.unit ![0, 1536] ![1024, 512] inb_S1024x2560_S1024x512_0_1536))) (View.ld (Val := Elt Ideal) (e' := .bf16) X (Rect.unit ![4, 0, 0] ![1, 272, 512] inb_S5x544x512_S1x272x512_4_0_0)) (View.ld (Val := Elt Ideal) (e' := .bf16) W (Rect.unit ![0, 2048] ![1024, 512] inb_S1024x2560_S1024x512_0_2048))) r = dx (pl X q) W := by
  funext j
  refine (dx0 _ _ _ _ _ _ _ _ _ _ (ix2 r j)).trans ?_
  unfold dx
  refine congrArg₂ (· + ·) (congrArg₂ (· + ·) (congrArg₂ (· + ·) (congrArg₂ (· + ·) ?_ ?_) ?_) ?_) ?_
  · exact Finset.sum_congr rfl fun k _ => congrArg₂ (· * ·) (pl0_0 X r q h k) (wd0 W j k)
  · exact Finset.sum_congr rfl fun k _ => congrArg₂ (· * ·) (pl0_1 X r q h k) (wd1 W j k)
  · exact Finset.sum_congr rfl fun k _ => congrArg₂ (· * ·) (pl0_2 X r q h k) (wd2 W j k)
  · exact Finset.sum_congr rfl fun k _ => congrArg₂ (· * ·) (pl0_3 X r q h k) (wd3 W j k)
  · exact Finset.sum_congr rfl fun k _ => congrArg₂ (· * ·) (pl0_4 X r q h k) (wd4 W j k)

/-- A normed row's cotangent in a half of a block. -/
theorem dxr1 (X : S5x544x512.Idx → EReal) (W : S1024x2560.Idx → EReal) (r : Fin 272) (q : Fin 544) (h : q.val = 272 + r.val) :
    row (n := 272) (w := 1024) (k0_pay17 (F := Ideal) (View.ld (Val := Elt Ideal) (e' := .bf16) X (Rect.unit ![0, 272, 0] ![1, 272, 512] inb_S5x544x512_S1x272x512_0_272_0)) (View.ld (Val := Elt Ideal) (e' := .bf16) W (Rect.unit ![0, 0] ![1024, 512] inb_S1024x2560_S1024x512_0_0)) (View.ld (Val := Elt Ideal) (e' := .bf16) X (Rect.unit ![1, 272, 0] ![1, 272, 512] inb_S5x544x512_S1x272x512_1_272_0)) (View.ld (Val := Elt Ideal) (e' := .bf16) W (Rect.unit ![0, 512] ![1024, 512] inb_S1024x2560_S1024x512_0_512)) (View.ld (Val := Elt Ideal) (e' := .bf16) X (Rect.unit ![2, 272, 0] ![1, 272, 512] inb_S5x544x512_S1x272x512_2_272_0)) (View.ld (Val := Elt Ideal) (e' := .bf16) W (Rect.unit ![0, 1024] ![1024, 512] inb_S1024x2560_S1024x512_0_1024)) (View.ld (Val := Elt Ideal) (e' := .bf16) X (Rect.unit ![3, 272, 0] ![1, 272, 512] inb_S5x544x512_S1x272x512_3_272_0)) (View.ld (Val := Elt Ideal) (e' := .bf16) W (Rect.unit ![0, 1536] ![1024, 512] inb_S1024x2560_S1024x512_0_1536)) (View.ld (Val := Elt Ideal) (e' := .bf16) X (Rect.unit ![4, 272, 0] ![1, 272, 512] inb_S5x544x512_S1x272x512_4_272_0)) (View.ld (Val := Elt Ideal) (e' := .bf16) W (Rect.unit ![0, 2048] ![1024, 512] inb_S1024x2560_S1024x512_0_2048))) r = dx (pl X q) W := by
  funext j
  refine (dx1 _ _ _ _ _ _ _ _ _ _ (ix2 r j)).trans ?_
  unfold dx
  refine congrArg₂ (· + ·) (congrArg₂ (· + ·) (congrArg₂ (· + ·) (congrArg₂ (· + ·) ?_ ?_) ?_) ?_) ?_
  · exact Finset.sum_congr rfl fun k _ => congrArg₂ (· * ·) (pl272_0 X r q h k) (wd0 W j k)
  · exact Finset.sum_congr rfl fun k _ => congrArg₂ (· * ·) (pl272_1 X r q h k) (wd1 W j k)
  · exact Finset.sum_congr rfl fun k _ => congrArg₂ (· * ·) (pl272_2 X r q h k) (wd2 W j k)
  · exact Finset.sum_congr rfl fun k _ => congrArg₂ (· * ·) (pl272_3 X r q h k) (wd3 W j k)
  · exact Finset.sum_congr rfl fun k _ => congrArg₂ (· * ·) (pl272_4 X r q h k) (wd4 W j k)

theorem sh0 (X : S4x1024x640.Idx → EReal) (i : S1024x640.Idx) (y : S1024x2560.Idx) (h0 : (y 0).val = (i 0).val) (h1 : (y 1).val = (i 1).val) :
    (k0_pay6 (F := Ideal) (View.ld (Val := Elt Ideal) (e' := .bf16) X (Rect.unit ![0, 0, 0] ![1, 1024, 640] inb_S4x1024x640_S1x1024x640_0_0_0)) i : EReal) = cat X y := by
  have hi := (i 1).isLt
  change (i 1).val < 640 at hi
  unfold cat
  pointwise [k0_pay6]
  blk_ext

theorem sh1 (X : S4x1024x640.Idx → EReal) (i : S1024x640.Idx) (y : S1024x2560.Idx) (h0 : (y 0).val = (i 0).val) (h1 : (y 1).val = 640 + (i 1).val) :
    (k0_pay7 (F := Ideal) (View.ld (Val := Elt Ideal) (e' := .bf16) X (Rect.unit ![1, 0, 0] ![1, 1024, 640] inb_S4x1024x640_S1x1024x640_1_0_0)) i : EReal) = cat X y := by
  have hi := (i 1).isLt
  change (i 1).val < 640 at hi
  unfold cat
  pointwise [k0_pay7]
  blk_ext

theorem sh2 (X : S4x1024x640.Idx → EReal) (i : S1024x640.Idx) (y : S1024x2560.Idx) (h0 : (y 0).val = (i 0).val) (h1 : (y 1).val = 1280 + (i 1).val) :
    (k0_pay8 (F := Ideal) (View.ld (Val := Elt Ideal) (e' := .bf16) X (Rect.unit ![2, 0, 0] ![1, 1024, 640] inb_S4x1024x640_S1x1024x640_2_0_0)) i : EReal) = cat X y := by
  have hi := (i 1).isLt
  change (i 1).val < 640 at hi
  unfold cat
  pointwise [k0_pay8]
  blk_ext

theorem sh3 (X : S4x1024x640.Idx → EReal) (i : S1024x640.Idx) (y : S1024x2560.Idx) (h0 : (y 0).val = (i 0).val) (h1 : (y 1).val = 1920 + (i 1).val) :
    (k0_pay9 (F := Ideal) (View.ld (Val := Elt Ideal) (e' := .bf16) X (Rect.unit ![3, 0, 0] ![1, 1024, 640] inb_S4x1024x640_S1x1024x640_3_0_0)) i : EReal) = cat X y := by
  have hi := (i 1).isLt
  change (i 1).val < 640 at hi
  unfold cat
  pointwise [k0_pay9]
  blk_ext

/-- The pieces written at the first point make the scratch the shards side by side. -/
theorem canon_cat (X : S4x1024x640.Idx → EReal) :
    (View.canon (Val := Elt Ideal) (e := .bf16) (s := S1024x2560)
      [⟨Rect.unit ![0, 1920] ![1024, 640] inb_S1024x2560_S1024x640_0_1920, k0_pay9 (F := Ideal) (View.ld (Val := Elt Ideal) (e' := .bf16) X (Rect.unit ![3, 0, 0] ![1, 1024, 640] inb_S4x1024x640_S1x1024x640_3_0_0))⟩,
        ⟨Rect.unit ![0, 1280] ![1024, 640] inb_S1024x2560_S1024x640_0_1280, k0_pay8 (F := Ideal) (View.ld (Val := Elt Ideal) (e' := .bf16) X (Rect.unit ![2, 0, 0] ![1, 1024, 640] inb_S4x1024x640_S1x1024x640_2_0_0))⟩,
        ⟨Rect.unit ![0, 640] ![1024, 640] inb_S1024x2560_S1024x640_0_640, k0_pay7 (F := Ideal) (View.ld (Val := Elt Ideal) (e' := .bf16) X (Rect.unit ![1, 0, 0] ![1, 1024, 640] inb_S4x1024x640_S1x1024x640_1_0_0))⟩,
        ⟨Rect.unit ![0, 0] ![1024, 640] inb_S1024x2560_S1024x640_0_0, k0_pay6 (F := Ideal) (View.ld (Val := Elt Ideal) (e' := .bf16) X (Rect.unit ![0, 0, 0] ![1, 1024, 640] inb_S4x1024x640_S1x1024x640_0_0_0))⟩]) = cat X := by
  funext y
  canon_tiles x h
  · exact sh3 X x y h0 h1
  · exact sh2 X x y h0 h1
  · exact sh1 X x y h0 h1
  · exact sh0 X x y h0 h1

theorem rdc {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L r.toLoadRect

/-- What a point leaves in the residual stream's cotangent. -/
theorem atA5 (t : Fin cfg0.N) (h0 : t.val % 4 = 0) (h1 : t.val % 4 = 0) (h2 : ¬t.val % 4 = 3) (y : S544x1024.Idx) :
    ((outsAt0 m c t.val t.isLt).1 y : EReal) = dh (pl (n := 544) (iblk m c 0 t) (y 0)) (cat (iblk m c 1 t)) (row (n := 544) (w := 1024) (iblk m c 2 t) (y 0)) (row (n := 544) (w := 1024) (iblk m c 3 t) (y 0)) (row (n := 1) (w := 1024) (iblk m c 4 t) 0) (y 1) := by
  rw [outsAt0_A m c t h0 h1 h2]
  dsimp only
  generalize iblk m c 0 t = x0
  generalize iblk m c 1 t = x1
  generalize iblk m c 2 t = x2
  generalize iblk m c 3 t = x3
  generalize iblk m c 4 t = x4
  frame_out
  simp only [rdc, canon_cat]
  unfold dh
  canon_tiles x h
  · refine (nb1 _ _ _ _ _).trans ?_
    refine congrArg₂ (· + ·) ?_ ?_
    · exact (congrFun (ld272 x3 (x 0) (y 0) h0) (x 1)).trans (congrArg (row x3 (y 0)) (Fin.ext h1.symm))
    · rw [dxr1 x0 _ (x 0) (y 0) h0, ld272 x2 (x 0) (y 0) h0]
      exact congrArg (Rows.nb _ _ _) (Fin.ext h1.symm)
  · refine (nb0 _ _ _ _ _ _ _).trans ?_
    refine congrArg₂ (· + ·) ?_ ?_
    · exact (congrFun (ld0 x3 (x 0) (y 0) h0) (x 1)).trans (congrArg (row x3 (y 0)) (Fin.ext h1.symm))
    · rw [dxr0 x0 _ (x 0) (y 0) h0, ld0 x2 (x 0) (y 0) h0]
      exact congrArg (Rows.nb _ _ _) (Fin.ext h1.symm)

/-- What a point adds to the gradient of the norm's weights. -/
theorem atA7 (t : Fin cfg0.N) (h0 : t.val % 4 = 0) (h1 : t.val % 4 = 0) (h2 : ¬t.val % 4 = 3) (y : S1x1024.Idx) :
    ((outsAt0 m c t.val t.isLt).2.2.1 y : EReal) = (k0_pay10 (F := Ideal) y : EReal) + tg (iblk m c 0 t) (cat (iblk m c 1 t)) (iblk m c 2 t) y := by
  rw [outsAt0_A m c t h0 h1 h2]
  dsimp only
  generalize iblk m c 0 t = x0
  generalize iblk m c 1 t = x1
  generalize iblk m c 2 t = x2
  generalize iblk m c 3 t = x3
  generalize iblk m c 4 t = x4
  frame_out
  simp only [rdc, canon_cat]
  refine (ng1 _ _ _ y).trans ?_
  rw [ng0]
  unfold tg
  rw [sum_halves, ← add_assoc]
  refine congrArg₂ (· + ·) (congrArg₂ (· + ·) rfl (Finset.sum_congr rfl fun p _ => ?_)) (Finset.sum_congr rfl fun p _ => ?_)
  · exact congrFun (congrArg₂ Rows.ng (dxr0 x0 _ p ⟨p.val, by omega⟩ rfl) (ld0 x2 p ⟨p.val, by omega⟩ rfl)) (y 1)
  · exact congrFun (congrArg₂ Rows.ng (dxr1 x0 _ p ⟨272 + p.val, by omega⟩ rfl) (ld272 x2 p ⟨272 + p.val, by omega⟩ rfl)) (y 1)

/-- The scratch after the first point. -/
theorem atA8 (t : Fin cfg0.N) (h0 : t.val % 4 = 0) (h1 : t.val % 4 = 0) (h2 : ¬t.val % 4 = 3) (y : S1024x2560.Idx) :
    ((outsAt0 m c t.val t.isLt).2.2.2 y : EReal) = (cat (iblk m c 1 t)) y := by
  rw [outsAt0_A m c t h0 h1 h2]
  dsimp only
  generalize iblk m c 0 t = x0
  generalize iblk m c 1 t = x1
  generalize iblk m c 2 t = x2
  generalize iblk m c 3 t = x3
  generalize iblk m c 4 t = x4
  frame_out
  exact congrFun (canon_cat x1) y

/-- What a point leaves in the residual stream's cotangent. -/
theorem atB5 (t : Fin cfg0.N) (h0 : ¬t.val % 4 = 0) (h1 : ¬t.val % 4 = 0) (h2 : ¬t.val % 4 = 3) (y : S544x1024.Idx) :
    ((outsAt0 m c t.val t.isLt).1 y : EReal) = dh (pl (n := 544) (iblk m c 0 t) (y 0)) (outsAt0 m c (t.val - 1) (Nat.lt_of_le_of_lt (Nat.sub_le _ _) t.isLt)).2.2.2 (row (n := 544) (w := 1024) (iblk m c 2 t) (y 0)) (row (n := 544) (w := 1024) (iblk m c 3 t) (y 0)) (row (n := 1) (w := 1024) (iblk m c 4 t) 0) (y 1) := by
  rw [outsAt0_B m c t h0 h1 h2]
  dsimp only
  generalize (outsAt0 m c (t.val - 1) (Nat.lt_of_le_of_lt (Nat.sub_le _ _) t.isLt)).2.2.1 = acc
  generalize (outsAt0 m c (t.val - 1) (Nat.lt_of_le_of_lt (Nat.sub_le _ _) t.isLt)).2.2.2 = wc
  generalize iblk m c 0 t = x0
  generalize iblk m c 1 t = x1
  generalize iblk m c 2 t = x2
  generalize iblk m c 3 t = x3
  generalize iblk m c 4 t = x4
  frame_out
  simp only [read_unread_whole]
  unfold dh
  canon_tiles x h
  · refine (nb1 _ _ _ _ _).trans ?_
    refine congrArg₂ (· + ·) ?_ ?_
    · exact (congrFun (ld272 x3 (x 0) (y 0) h0) (x 1)).trans (congrArg (row x3 (y 0)) (Fin.ext h1.symm))
    · rw [dxr1 x0 _ (x 0) (y 0) h0, ld272 x2 (x 0) (y 0) h0]
      exact congrArg (Rows.nb _ _ _) (Fin.ext h1.symm)
  · refine (nb0 _ _ _ _ _ _ _).trans ?_
    refine congrArg₂ (· + ·) ?_ ?_
    · exact (congrFun (ld0 x3 (x 0) (y 0) h0) (x 1)).trans (congrArg (row x3 (y 0)) (Fin.ext h1.symm))
    · rw [dxr0 x0 _ (x 0) (y 0) h0, ld0 x2 (x 0) (y 0) h0]
      exact congrArg (Rows.nb _ _ _) (Fin.ext h1.symm)

/-- What a point adds to the gradient of the norm's weights. -/
theorem atB7 (t : Fin cfg0.N) (h0 : ¬t.val % 4 = 0) (h1 : ¬t.val % 4 = 0) (h2 : ¬t.val % 4 = 3) (y : S1x1024.Idx) :
    ((outsAt0 m c t.val t.isLt).2.2.1 y : EReal) = ((outsAt0 m c (t.val - 1) (Nat.lt_of_le_of_lt (Nat.sub_le _ _) t.isLt)).2.2.1 y : EReal) + tg (iblk m c 0 t) (outsAt0 m c (t.val - 1) (Nat.lt_of_le_of_lt (Nat.sub_le _ _) t.isLt)).2.2.2 (iblk m c 2 t) y := by
  rw [outsAt0_B m c t h0 h1 h2]
  dsimp only
  generalize (outsAt0 m c (t.val - 1) (Nat.lt_of_le_of_lt (Nat.sub_le _ _) t.isLt)).2.2.1 = acc
  generalize (outsAt0 m c (t.val - 1) (Nat.lt_of_le_of_lt (Nat.sub_le _ _) t.isLt)).2.2.2 = wc
  generalize iblk m c 0 t = x0
  generalize iblk m c 1 t = x1
  generalize iblk m c 2 t = x2
  generalize iblk m c 3 t = x3
  generalize iblk m c 4 t = x4
  frame_out
  simp only [read_unread_whole]
  refine (ng1 _ _ _ y).trans ?_
  rw [ng0]
  unfold tg
  rw [sum_halves, ← add_assoc]
  refine congrArg₂ (· + ·) (congrArg₂ (· + ·) rfl (Finset.sum_congr rfl fun p _ => ?_)) (Finset.sum_congr rfl fun p _ => ?_)
  · exact congrFun (congrArg₂ Rows.ng (dxr0 x0 _ p ⟨p.val, by omega⟩ rfl) (ld0 x2 p ⟨p.val, by omega⟩ rfl)) (y 1)
  · exact congrFun (congrArg₂ Rows.ng (dxr1 x0 _ p ⟨272 + p.val, by omega⟩ rfl) (ld272 x2 p ⟨272 + p.val, by omega⟩ rfl)) (y 1)

/-- A later point keeps the scratch. -/
theorem atB8 (t : Fin cfg0.N) (h0 : ¬t.val % 4 = 0) (h1 : ¬t.val % 4 = 0) (h2 : ¬t.val % 4 = 3) (y : S1024x2560.Idx) :
    ((outsAt0 m c t.val t.isLt).2.2.2 y : EReal) = (outsAt0 m c (t.val - 1) (Nat.lt_of_le_of_lt (Nat.sub_le _ _) t.isLt)).2.2.2 y := by
  rw [outsAt0_B m c t h0 h1 h2]
  rfl

/-- What a point leaves in the residual stream's cotangent. -/
theorem atC5 (t : Fin cfg0.N) (h0 : ¬t.val % 4 = 0) (h1 : ¬t.val % 4 = 0) (h2 : t.val % 4 = 3) (y : S544x1024.Idx) :
    ((outsAt0 m c t.val t.isLt).1 y : EReal) = dh (pl (n := 544) (iblk m c 0 t) (y 0)) (outsAt0 m c (t.val - 1) (Nat.lt_of_le_of_lt (Nat.sub_le _ _) t.isLt)).2.2.2 (row (n := 544) (w := 1024) (iblk m c 2 t) (y 0)) (row (n := 544) (w := 1024) (iblk m c 3 t) (y 0)) (row (n := 1) (w := 1024) (iblk m c 4 t) 0) (y 1) := by
  rw [outsAt0_C m c t h0 h1 h2]
  dsimp only
  generalize (outsAt0 m c (t.val - 1) (Nat.lt_of_le_of_lt (Nat.sub_le _ _) t.isLt)).2.2.1 = acc
  generalize (outsAt0 m c (t.val - 1) (Nat.lt_of_le_of_lt (Nat.sub_le _ _) t.isLt)).2.2.2 = wc
  generalize iblk m c 0 t = x0
  generalize iblk m c 1 t = x1
  generalize iblk m c 2 t = x2
  generalize iblk m c 3 t = x3
  generalize iblk m c 4 t = x4
  frame_out
  simp only [read_unread_whole]
  unfold dh
  canon_tiles x h
  · refine (nb1 _ _ _ _ _).trans ?_
    refine congrArg₂ (· + ·) ?_ ?_
    · exact (congrFun (ld272 x3 (x 0) (y 0) h0) (x 1)).trans (congrArg (row x3 (y 0)) (Fin.ext h1.symm))
    · rw [dxr1 x0 _ (x 0) (y 0) h0, ld272 x2 (x 0) (y 0) h0]
      exact congrArg (Rows.nb _ _ _) (Fin.ext h1.symm)
  · refine (nb0 _ _ _ _ _ _ _).trans ?_
    refine congrArg₂ (· + ·) ?_ ?_
    · exact (congrFun (ld0 x3 (x 0) (y 0) h0) (x 1)).trans (congrArg (row x3 (y 0)) (Fin.ext h1.symm))
    · rw [dxr0 x0 _ (x 0) (y 0) h0, ld0 x2 (x 0) (y 0) h0]
      exact congrArg (Rows.nb _ _ _) (Fin.ext h1.symm)

/-- What the last point leaves in the learned rows' cotangent. -/
theorem atC6 (t : Fin cfg0.N) (h0 : ¬t.val % 4 = 0) (h1 : ¬t.val % 4 = 0) (h2 : t.val % 4 = 3) (y : S16x1024.Idx) :
    ((outsAt0 m c t.val t.isLt).2.1 y : EReal) = dh (pl (n := 544) (iblk m c 0 t) ⟨416 + (y 0).val, by have := (y 0).isLt; change (y 0).val < 16 at this; omega⟩) (outsAt0 m c (t.val - 1) (Nat.lt_of_le_of_lt (Nat.sub_le _ _) t.isLt)).2.2.2 (row (n := 544) (w := 1024) (iblk m c 2 t) ⟨416 + (y 0).val, by have := (y 0).isLt; change (y 0).val < 16 at this; omega⟩) (row (n := 544) (w := 1024) (iblk m c 3 t) ⟨416 + (y 0).val, by have := (y 0).isLt; change (y 0).val < 16 at this; omega⟩) (row (n := 1) (w := 1024) (iblk m c 4 t) 0) (y 1) := by
  rw [outsAt0_C m c t h0 h1 h2]
  dsimp only
  generalize (outsAt0 m c (t.val - 1) (Nat.lt_of_le_of_lt (Nat.sub_le _ _) t.isLt)).2.2.1 = acc
  generalize (outsAt0 m c (t.val - 1) (Nat.lt_of_le_of_lt (Nat.sub_le _ _) t.isLt)).2.2.2 = wc
  generalize iblk m c 0 t = x0
  generalize iblk m c 1 t = x1
  generalize iblk m c 2 t = x2
  generalize iblk m c 3 t = x3
  generalize iblk m c 4 t = x4
  frame_out
  simp only [read_unread_whole]
  unfold dh
  refine (nb5 _ _ _ _ _).trans ((nb1 _ _ _ _ _).trans ?_)
  have h : (⟨416 + (y 0).val, by have := (y 0).isLt; change (y 0).val < 16 at this; omega⟩ : Fin 544).val = 272 + (⟨144 + (y 0).val, by have := (y 0).isLt; change (y 0).val < 16 at this; omega⟩ : Fin 272).val := by
    show 416 + (y 0).val = 272 + (144 + (y 0).val)
    omega
  refine congrArg₂ (· + ·) (congrFun (ld272 x3 _ _ h) (y 1)) ?_
  exact congrFun (congrFun (congrArg₂ Rows.nb (dxr1 x0 _ _ _ h) (ld272 x2 _ _ h)) _) (y 1)

/-- What a point adds to the gradient of the norm's weights. -/
theorem atC7 (t : Fin cfg0.N) (h0 : ¬t.val % 4 = 0) (h1 : ¬t.val % 4 = 0) (h2 : t.val % 4 = 3) (y : S1x1024.Idx) :
    ((outsAt0 m c t.val t.isLt).2.2.1 y : EReal) = ((outsAt0 m c (t.val - 1) (Nat.lt_of_le_of_lt (Nat.sub_le _ _) t.isLt)).2.2.1 y : EReal) + tg (iblk m c 0 t) (outsAt0 m c (t.val - 1) (Nat.lt_of_le_of_lt (Nat.sub_le _ _) t.isLt)).2.2.2 (iblk m c 2 t) y := by
  rw [outsAt0_C m c t h0 h1 h2]
  dsimp only
  generalize (outsAt0 m c (t.val - 1) (Nat.lt_of_le_of_lt (Nat.sub_le _ _) t.isLt)).2.2.1 = acc
  generalize (outsAt0 m c (t.val - 1) (Nat.lt_of_le_of_lt (Nat.sub_le _ _) t.isLt)).2.2.2 = wc
  generalize iblk m c 0 t = x0
  generalize iblk m c 1 t = x1
  generalize iblk m c 2 t = x2
  generalize iblk m c 3 t = x3
  generalize iblk m c 4 t = x4
  frame_out
  simp only [read_unread_whole]
  refine (ng1 _ _ _ y).trans ?_
  rw [ng0]
  unfold tg
  rw [sum_halves, ← add_assoc]
  refine congrArg₂ (· + ·) (congrArg₂ (· + ·) rfl (Finset.sum_congr rfl fun p _ => ?_)) (Finset.sum_congr rfl fun p _ => ?_)
  · exact congrFun (congrArg₂ Rows.ng (dxr0 x0 _ p ⟨p.val, by omega⟩ rfl) (ld0 x2 p ⟨p.val, by omega⟩ rfl)) (y 1)
  · exact congrFun (congrArg₂ Rows.ng (dxr1 x0 _ p ⟨272 + p.val, by omega⟩ rfl) (ld272 x2 p ⟨272 + p.val, by omega⟩ rfl)) (y 1)

/-- A later point keeps the scratch. -/
theorem atC8 (t : Fin cfg0.N) (h0 : ¬t.val % 4 = 0) (h1 : ¬t.val % 4 = 0) (h2 : t.val % 4 = 3) (y : S1024x2560.Idx) :
    ((outsAt0 m c t.val t.isLt).2.2.2 y : EReal) = (outsAt0 m c (t.val - 1) (Nat.lt_of_le_of_lt (Nat.sub_le _ _) t.isLt)).2.2.2 y := by
  rw [outsAt0_C m c t h0 h1 h2]
  rfl

end
end Cert.Proof.WMixIn
end
-- ==== Proof.WMixIn.lean ====
module

public import proofs.«01_k».proof.Proof.MixIn

@[expose] public section

set_option maxRecDepth 16384

noncomputable section

/-! The backward call into the mixer: what the run leaves in its three results, and that the derivative of the norm and
the projections leaves the same. -/

namespace Cert.Proof.WMixIn

open Idealize.ShloMosaic Idealize.ShloMosaic.TcCoe Idealize.SL.Sem

section
open Cert.KernelMixInIdeal Cert.KernelMixInIdeal.Gen

variable (m : (ℓ : Loc nD τ sig) → Buf (Elt Ideal) ℓ) (c : Dev nD)

theorem idx0 : ∀ t : Fin cfg0.N, win0_0.index t = ![0, t.val, 0] := by decide +kernel
theorem idx1 : ∀ t : Fin cfg0.N, win0_1.index t = ![0, 0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![0, 0] := by decide +kernel
theorem idx7 : ∀ t : Fin cfg0.N, win0_7.index t = ![0, 0] := by decide +kernel

/-- A row of a point's block is a row of the argument. -/
theorem br2 (t : Fin cfg0.N) (r : Fin 544) (l : Fin 2176) (h : l.val = t.val * 544 + r.val) :
    row (n := 544) (w := 1024) (iblk m c 2 t) r = (row (n := 2176) (w := 1024) (m ((c : Thread nD τ).loc main_arg2)) l) := by
  funext k
  refine Eq.trans ?_ (congrFun (V_main_arg2 m c) _)
  unfold row
  blk_ext [iblk, idx2 t]

/-- A row of a point's block is a row of the argument. -/
theorem br3 (t : Fin cfg0.N) (r : Fin 544) (l : Fin 2176) (h : l.val = t.val * 544 + r.val) :
    row (n := 544) (w := 1024) (iblk m c 3 t) r = (row (n := 2176) (w := 1024) (m ((c : Thread nD τ).loc main_arg3)) l) := by
  funext k
  refine Eq.trans ?_ (congrFun (V_main_arg3 m c) _)
  unfold row
  blk_ext [iblk, idx3 t]

/-- A row of each plane of a point's block is a row of the argument's plane. -/
theorem br0 (t : Fin cfg0.N) (r : Fin 544) (l : Fin 2176) (h : l.val = t.val * 544 + r.val) :
    pl (n := 544) (iblk m c 0 t) r = (pl (n := 2176) (m ((c : Thread nD τ).loc main_arg0)) l) := by
  funext p k
  refine Eq.trans ?_ (congrFun (V_main_arg0 m c) _)
  unfold pl
  blk_ext [iblk, idx0 t]

theorem wh1 (t : Fin cfg0.N) : (iblk m c 1 t : S4x1024x640.Idx → EReal) = (m ((c : Thread nD τ).loc main_arg1)) := by
  funext k
  refine Eq.trans ?_ (congrFun (V_main_arg1 m c) _)
  blk_ext [iblk, idx1 t]

theorem br4 (t : Fin cfg0.N) : row (n := 1) (w := 1024) (iblk m c 4 t) 0 = (row (n := 1) (w := 1024) (m ((c : Thread nD τ).loc main_arg4)) 0) := by
  funext k
  refine Eq.trans ?_ (congrFun (V_main_arg4 m c) _)
  unfold row
  blk_ext [iblk, idx4 t]

/-- The scratch holds the shards side by side after every point. -/
theorem scr : ∀ (n : ℕ) (h : n < cfg0.N), ((outsAt0 m c n h).2.2.2 : S1024x2560.Idx → EReal) = cat (m ((c : Thread nD τ).loc main_arg1)) := by
  intro n
  induction n with
  | zero =>
    intro h
    funext y
    refine (atA8 m c ⟨0, h⟩ rfl rfl (by show ¬ 0 % 4 = 3; omega) y).trans ?_
    rw [wh1]
  | succ n ih =>
    intro h
    have h4 : n + 1 < 4 := h
    funext y
    by_cases h2 : (n + 1) % 4 = 3
    · exact (atC8 m c ⟨n + 1, h⟩ (by show ¬ (n + 1) % 4 = 0; omega) (by show ¬ (n + 1) % 4 = 0; omega) h2 y).trans (congrFun (ih _) y)
    · exact (atB8 m c ⟨n + 1, h⟩ (by show ¬ (n + 1) % 4 = 0; omega) (by show ¬ (n + 1) % 4 = 0; omega) h2 y).trans (congrFun (ih _) y)

/-- What every point leaves in the residual stream's cotangent. -/
theorem at5 (t : Fin cfg0.N) (y : S544x1024.Idx) (l : Fin 2176) (h : l.val = t.val * 544 + (y 0).val) :
    ((outsAt0 m c t.val t.isLt).1 y : EReal) = dh (pl (n := 2176) (m ((c : Thread nD τ).loc main_arg0)) l) (cat (m ((c : Thread nD τ).loc main_arg1))) (row (n := 2176) (w := 1024) (m ((c : Thread nD τ).loc main_arg2)) l) (row (n := 2176) (w := 1024) (m ((c : Thread nD τ).loc main_arg3)) l) (row (n := 1) (w := 1024) (m ((c : Thread nD τ).loc main_arg4)) 0) (y 1) := by
  by_cases h0 : t.val % 4 = 0
  · refine (atA5 m c t h0 h0 (by omega) y).trans ?_
    rw [br0 m c t (y 0) l h, br2 m c t (y 0) l h, br3 m c t (y 0) l h, br4, wh1]
  · by_cases h2 : t.val % 4 = 3
    · refine (atC5 m c t h0 h0 h2 y).trans ?_
      rw [br0 m c t (y 0) l h, br2 m c t (y 0) l h, br3 m c t (y 0) l h, br4, scr]
    · refine (atB5 m c t h0 h0 h2 y).trans ?_
      rw [br0 m c t (y 0) l h, br2 m c t (y 0) l h, br3 m c t (y 0) l h, br4, scr]

theorem i50 (t : Fin cfg0.N) : win0_5.index t 0 = t.val := congrFun (idx5 t) 0
theorem i51 (t : Fin cfg0.N) : win0_5.index t 1 = 0 := congrFun (idx5 t) 1

/-- The residual stream's cotangent, as an array. -/
def gx (i : S2048x1024.Idx) : EReal := dh (pl (n := 2176) (m ((c : Thread nD τ).loc main_arg0)) ⟨(i 0).val, by have := (i 0).isLt; change (i 0).val < 2048 at this; omega⟩) (cat (m ((c : Thread nD τ).loc main_arg1))) (row (n := 2176) (w := 1024) (m ((c : Thread nD τ).loc main_arg2)) ⟨(i 0).val, by have := (i 0).isLt; change (i 0).val < 2048 at this; omega⟩) (row (n := 2176) (w := 1024) (m ((c : Thread nD τ).loc main_arg3)) ⟨(i 0).val, by have := (i 0).isLt; change (i 0).val < 2048 at this; omega⟩) (row (n := 1) (w := 1024) (m ((c : Thread nD τ).loc main_arg4)) 0) (i 1)

theorem at5' (t : Fin cfg0.N) (y : S544x1024.Idx) (i : S2048x1024.Idx) (h0 : (i 0).val = t.val * 544 + (y 0).val) (h1 : (i 1).val = (y 1).val) :
    ((outsAt0 m c t.val t.isLt).1 y : EReal) = gx m c i := by
  have e : i 1 = y 1 := Fin.ext h1
  unfold gx
  rw [e]
  exact at5 m c t y _ h0

/-- The residual stream's cotangent after the run. -/
theorem final5 : (dats m 0 c).arrAt 5 cfg0.N = gx m c := by
  refine (dats m 0 c).arrAt_eq_of_covers 5 _ (by decide +kernel) fun t hf y => ?_
  rw [after0_5]
  refine at5' m c t _ _ ?_ ?_
  · rw [Pipeline.Window.xinj_val]
    blk_simp [idx5 t]
    try rfl
  · rw [Pipeline.Window.xinj_val]
    blk_simp
    rw [i51 t, Nat.zero_mul, Nat.zero_add]

/-- The learned rows' cotangent after the run. -/
theorem final6 : (dats m 0 c).arrAt 6 cfg0.N = fun i => dh (pl (n := 2176) (m ((c : Thread nD τ).loc main_arg0)) ⟨2048 + (i 0).val, by have := (i 0).isLt; change (i 0).val < 16 at this; omega⟩) (cat (m ((c : Thread nD τ).loc main_arg1))) (row (n := 2176) (w := 1024) (m ((c : Thread nD τ).loc main_arg2)) ⟨2048 + (i 0).val, by have := (i 0).isLt; change (i 0).val < 16 at this; omega⟩) (row (n := 2176) (w := 1024) (m ((c : Thread nD τ).loc main_arg3)) ⟨2048 + (i 0).val, by have := (i 0).isLt; change (i 0).val < 16 at this; omega⟩) (row (n := 1) (w := 1024) (m ((c : Thread nD τ).loc main_arg4)) 0) (i 1) := by
  refine (dats m 0 c).arrAt_eq_of_after_last 6 t0_3 (by decide +kernel) _ fun j => ?_
  blk_simp
  rw [after0_6]
  have hl : (2048 + (j 0).val) = (t0_3 : Fin cfg0.N).val * 544 + (416 + (j 0).val) := by
    show 2048 + (j 0).val = 3 * 544 + (416 + (j 0).val)
    omega
  refine (atC6 m c t0_3 (by decide) (by decide) (by decide) j).trans ?_
  have hb : (j 0).val < 16 := (j 0).isLt
  rw [br0 m c t0_3 _ ⟨2048 + (j 0).val, by omega⟩ hl, br2 m c t0_3 _ ⟨2048 + (j 0).val, by omega⟩ hl, br3 m c t0_3 _ ⟨2048 + (j 0).val, by omega⟩ hl, br4, scr]

/-- What the first point leaves in the gradient of the norm's weights. -/
theorem at7A (t : Fin cfg0.N) (h0 : t.val % 4 = 0) (y : S1x1024.Idx) :
    ((outsAt0 m c t.val t.isLt).2.2.1 y : EReal) = (k0_pay10 (F := Ideal) y : EReal) + tg (iblk m c 0 t) (cat (iblk m c 1 t)) (iblk m c 2 t) y :=
  atA7 m c t h0 h0 (by omega) y

/-- What a later point adds to it. -/
theorem at7B (t : Fin cfg0.N) (h0 : ¬ t.val % 4 = 0) (y : S1x1024.Idx) :
    ((outsAt0 m c t.val t.isLt).2.2.1 y : EReal) = ((outsAt0 m c (t.val - 1) (Nat.lt_of_le_of_lt (Nat.sub_le _ _) t.isLt)).2.2.1 y : EReal) + tg (iblk m c 0 t) (cat (iblk m c 1 t)) (iblk m c 2 t) y := by
  by_cases h2 : t.val % 4 = 3
  · refine (atC7 m c t h0 h0 h2 y).trans ?_
    rw [scr, wh1]
  · refine (atB7 m c t h0 h0 h2 y).trans ?_
    rw [scr, wh1]

/-- The norm's weights' gradient after the run. -/
theorem final7 : (dats m 0 c).arrAt 7 cfg0.N = fun i => ∑ l : Fin 2176, Rows.ng (dx (pl (n := 2176) (m ((c : Thread nD τ).loc main_arg0)) l) (cat (m ((c : Thread nD τ).loc main_arg1)))) (row (n := 2176) (w := 1024) (m ((c : Thread nD τ).loc main_arg2)) l) (i 1) := by
  refine (dats m 0 c).arrAt_eq_of_after_last 7 t0_3 (by decide +kernel) _ fun j => ?_
  blk_simp
  rw [after0_7]
  refine (Pipeline.eq_sum_fin_of_reset_step_apply_last (fun n h => ((outsAt0 m c n h).2.2.1 : S1x1024.Idx → EReal)) 4 (fun i => (k0_pay10 (F := Ideal) i : EReal))
    (fun t i => tg (iblk m c 0 t) (cat (iblk m c 1 t)) (iblk m c 2 t) i) (at7A m c) (at7B m c) (by decide +kernel) t0_3 (by decide +kernel) j).trans ?_
  have hz : (k0_pay10 (F := Ideal) j : EReal) = 0 := by pointwise [k0_pay10]
  rw [hz, zero_add]
  refine (Finset.sum_congr rfl fun t _ => ?_).trans (Fin.sum_mul_add_congr (S := 4) (n := 544) (L := 2176) (F := fun s k => Rows.ng (dx (pl (n := 2176) (m ((c : Thread nD τ).loc main_arg0)) ⟨s.val * 544 + k.val, by omega⟩) (cat (m ((c : Thread nD τ).loc main_arg1)))) (row (n := 2176) (w := 1024) (m ((c : Thread nD τ).loc main_arg2)) ⟨s.val * 544 + k.val, by omega⟩) (j 1)) fun s k hl => rfl)
  unfold tg
  refine Finset.sum_congr rfl fun p _ => ?_
  rw [br0 m c t p ⟨t.val * 544 + p.val, by have : t.val < 4 := t.isLt; omega⟩ rfl, br2 m c t p ⟨t.val * 544 + p.val, by have : t.val < 4 := t.isLt; omega⟩ rfl, wh1]

/-- The precondition: all five arguments the result depends on are arrays of real numbers. -/
theorem reals (h : Cert.Pre_KernelMixInIdeal_finite_mix_in (hPre_finite_mix_in := Cert.Pre_finite_mix_in.Gen.facts) m) :
    (∃ r : S5x2176x512.Idx → ℝ, m ((c : Thread nD τ).loc main_arg0) = fun i => (r i : EReal)) ∧
    (∃ r : S4x1024x640.Idx → ℝ, m ((c : Thread nD τ).loc main_arg1) = fun i => (r i : EReal)) ∧
    (∃ r : S2176x1024.Idx → ℝ, m ((c : Thread nD τ).loc main_arg2) = fun i => (r i : EReal)) ∧
    (∃ r : S2176x1024.Idx → ℝ, m ((c : Thread nD τ).loc main_arg3) = fun i => (r i : EReal)) ∧
    (∃ r : S1x1024.Idx → ℝ, m ((c : Thread nD τ).loc main_arg4) = fun i => (r i : EReal)) := by
  have h' := congrFun (h c) (fun a => a.elim0)
  dsimp only [Cert.Pre_finite_mix_in.fn, Cert.Pre_finite_mix_in.fn_part1] at h'
  obtain ⟨h_, h4⟩ := Finite.both h'
  obtain ⟨h_, h3⟩ := Finite.both h_
  obtain ⟨h_, h2⟩ := Finite.both h_
  obtain ⟨h0, h1⟩ := Finite.both h_
  exact ⟨Finite.real_of_all _ _ (fun _ => Finite.inf_eq) _ _ _ _ h0, Finite.real_of_all _ _ (fun _ => Finite.inf_eq) _ _ _ _ h1, Finite.real_of_all _ _ (fun _ => Finite.inf_eq) _ _ _ _ h2, Finite.real_of_all _ _ (fun _ => Finite.inf_eq) _ _ _ _ h3, Finite.real_of_all _ _ (fun _ => Finite.inf_eq) _ _ _ _ h4⟩
end

/-- A row's cotangent as the derivative's rule writes it, with the residual's cotangent added first. -/
def rh (d x h g : Fin 1024 → EReal) (j : Fin 1024) : EReal := h j + d j * g j * Rows.rn x + x j * Rows.hs d x g + Rows.hs d x g * x j

section
open Cert.KernelMixInIdeal

/-- An element of the shards side by side, found by walking past the shards before it. -/
def lw (X : S4x1024x640.Idx → EReal) (j : Fin 1024) (k : Fin 2560) : EReal :=
  if h : k.val < 640 then X (ix3 0 j ⟨k.val, h⟩) else if h : k.val - 640 < 640 then X (ix3 1 j ⟨k.val - 640, h⟩) else if h : k.val - 640 - 640 < 640 then X (ix3 2 j ⟨k.val - 640 - 640, h⟩) else X (ix3 3 j ⟨k.val - 640 - 640 - 640, by omega⟩)

/-- An element of a row of the planes side by side. -/
def lp (X : S5x2176x512.Idx → EReal) (l : Fin 2176) (k : Fin 2560) : EReal :=
  if h : k.val < 512 then X (ix3 0 l ⟨k.val, h⟩) else if h : k.val - 512 < 512 then X (ix3 1 l ⟨k.val - 512, h⟩) else if h : k.val - 512 - 512 < 512 then X (ix3 2 l ⟨k.val - 512 - 512, h⟩) else if h : k.val - 512 - 512 - 512 < 512 then X (ix3 3 l ⟨k.val - 512 - 512 - 512, h⟩) else X (ix3 4 l ⟨k.val - 512 - 512 - 512 - 512, by omega⟩)

/-- The cotangent of a normed row as one product over the planes side by side. -/
def dy (X : S5x2176x512.Idx → EReal) (Y : S4x1024x640.Idx → EReal) (l : Fin 2176) (j : Fin 1024) : EReal := ∑ k, lp X l k * lw Y j k

/-- An element of a row of the residual stream, cut into three runs of rows and put together again. -/
def hr (X : S2176x1024.Idx → EReal) (l : Fin 2176) (j : Fin 1024) : EReal :=
  if h : l.val < 2048 then X (ix2 l j) else if h : l.val - 2048 < 16 then X (ix2 ⟨2048 + (l.val - 2048), by omega⟩ j) else X (ix2 ⟨2064 + (l.val - 2048 - 16), by omega⟩ j)

theorem hr_row (X : S2176x1024.Idx → EReal) (l : Fin 2176) : hr X l = row (n := 2176) (w := 1024) X l := by
  funext j
  unfold hr row
  split_ifs with h1 h2
  · rfl
  all_goals exact congrArg (fun z => X (ix2 z j)) (Fin.ext (by dsimp only; omega))

theorem ix3_congr {a b d : ℕ} (X : (⟨3, ![a, b, d]⟩ : Shape).Idx → EReal) {p p' : Fin a} (q : Fin b) {r r' : Fin d} (hp : p.val = p'.val) (hr : r.val = r'.val) :
    X (ix3 p q r) = X (ix3 p' q r') := by
  obtain rfl := Fin.ext hp
  obtain rfl := Fin.ext hr
  rfl

/-- The two ways of finding an element of the shards side by side agree. -/
theorem lw_cat (X : S4x1024x640.Idx → EReal) (j : Fin 1024) (k : Fin 2560) : lw X j k = cat X (ix2 j k) := by
  have hk := k.isLt
  unfold lw cat
  split_ifs with h1 h2 h3
  · exact ix3_congr X j (by show 0 = k.val / 640; omega) (by show k.val = k.val % 640; omega)
  · exact ix3_congr X j (by show 1 = k.val / 640; omega) (by show k.val - 640 = k.val % 640; omega)
  · exact ix3_congr X j (by show 2 = k.val / 640; omega) (by show k.val - 640 - 640 = k.val % 640; omega)
  · exact ix3_congr X j (by show 3 = k.val / 640; omega) (by show k.val - 640 - 640 - 640 = k.val % 640; omega)

/-- A sum over 2560 terms in five runs of 512. -/
theorem sum_five (f : Fin 2560 → EReal) :
    ∑ k, f k = ∑ k : Fin 512, f ⟨k.val, by omega⟩ + ∑ k : Fin 512, f ⟨512 + k.val, by omega⟩ + ∑ k : Fin 512, f ⟨1024 + k.val, by omega⟩ + ∑ k : Fin 512, f ⟨1536 + k.val, by omega⟩
      + ∑ k : Fin 512, f ⟨2048 + k.val, by omega⟩ := by
  have h1 := Fin.sum_univ_add (a := 2048) (b := 512) f
  have h2 := Fin.sum_univ_add (a := 1536) (b := 512) fun p : Fin 2048 => f ⟨p.val, by omega⟩
  have h3 := Fin.sum_univ_add (a := 1024) (b := 512) fun p : Fin 1536 => f ⟨p.val, by omega⟩
  have h4 := Fin.sum_univ_add (a := 512) (b := 512) fun p : Fin 1024 => f ⟨p.val, by omega⟩
  exact h1.trans (congrArg (· + _) (h2.trans (congrArg (· + _) (h3.trans (congrArg (· + _) h4)))))

/-- One product over the planes side by side is the sum of the five products. -/
theorem dy_dx (X : S5x2176x512.Idx → EReal) (Y : S4x1024x640.Idx → EReal) (l : Fin 2176) : dy X Y l = dx (pl X l) (cat Y) := by
  funext j
  unfold dy
  rw [sum_five]
  simp only [lw_cat]
  unfold dx
  refine congrArg₂ (· + ·) (congrArg₂ (· + ·) (congrArg₂ (· + ·) (congrArg₂ (· + ·) ?_ ?_) ?_) ?_) ?_
  all_goals refine Finset.sum_congr rfl fun k _ => congrArg (· * _) ?_
  · unfold lp
    exact dif_pos (show k.val < 512 by omega)
  · unfold lp
    rw [dif_neg (show ¬ 512 + k.val < 512 by omega), dif_pos (show 512 + k.val - 512 < 512 by omega)]
    exact ix3_congr X l rfl (show 512 + k.val - 512 = k.val by omega)
  · unfold lp
    rw [dif_neg (show ¬ 1024 + k.val < 512 by omega), dif_neg (show ¬ 1024 + k.val - 512 < 512 by omega), dif_pos (show 1024 + k.val - 512 - 512 < 512 by omega)]
    exact ix3_congr X l rfl (show 1024 + k.val - 512 - 512 = k.val by omega)
  · unfold lp
    rw [dif_neg (show ¬ 1536 + k.val < 512 by omega), dif_neg (show ¬ 1536 + k.val - 512 < 512 by omega), dif_neg (show ¬ 1536 + k.val - 512 - 512 < 512 by omega),
      dif_pos (show 1536 + k.val - 512 - 512 - 512 < 512 by omega)]
    exact ix3_congr X l rfl (show 1536 + k.val - 512 - 512 - 512 = k.val by omega)
  · unfold lp
    rw [dif_neg (show ¬ 2048 + k.val < 512 by omega), dif_neg (show ¬ 2048 + k.val - 512 < 512 by omega), dif_neg (show ¬ 2048 + k.val - 512 - 512 < 512 by omega),
      dif_neg (show ¬ 2048 + k.val - 512 - 512 - 512 < 512 by omega)]
    exact ix3_congr X l rfl (show 2048 + k.val - 512 - 512 - 512 - 512 = k.val by omega)
end

section
open Cert.ReferenceMixInIdeal Cert.ReferenceMixInIdeal.Gen Cert.ReferenceMixInIdeal.Value

variable (m : (ℓ : Loc nD τ sig) → Buf (Elt Ideal) ℓ) (c : Dev nD)

/-- The residual stream's cotangent, at one element. -/
theorem ref0 (i : S2048x1024.Idx) : (res_main_v78 m c i : EReal) = rh (dy (m ((c.tc : Thread nD τ).loc main_arg0)) (m ((c.tc : Thread nD τ).loc main_arg1)) ⟨(i 0).val, by have := (i 0).isLt; change (i 0).val < 2048 at this; omega⟩) (row (n := 2176) (w := 1024) (m ((c.tc : Thread nD τ).loc main_arg2)) ⟨(i 0).val, by have := (i 0).isLt; change (i 0).val < 2048 at this; omega⟩) (row (n := 2176) (w := 1024) (m ((c.tc : Thread nD τ).loc main_arg3)) ⟨(i 0).val, by have := (i 0).isLt; change (i 0).val < 2048 at this; omega⟩) (row (n := 1) (w := 1024) (m ((c.tc : Thread nD τ).loc main_arg4)) 0) (i 1) := by
  unfold res_main_v78 rh Rows.hs Rows.rn dy lp lw row Rows.sc Rows.ep
  pointwise

/-- The learned rows' cotangent, at one element. -/
theorem ref1 (i : S16x1024.Idx) : (res_main_v79 m c i : EReal) = rh (dy (m ((c.tc : Thread nD τ).loc main_arg0)) (m ((c.tc : Thread nD τ).loc main_arg1)) ⟨2048 + (i 0).val, by have := (i 0).isLt; change (i 0).val < 16 at this; omega⟩) (row (n := 2176) (w := 1024) (m ((c.tc : Thread nD τ).loc main_arg2)) ⟨2048 + (i 0).val, by have := (i 0).isLt; change (i 0).val < 16 at this; omega⟩) (row (n := 2176) (w := 1024) (m ((c.tc : Thread nD τ).loc main_arg3)) ⟨2048 + (i 0).val, by have := (i 0).isLt; change (i 0).val < 16 at this; omega⟩) (row (n := 1) (w := 1024) (m ((c.tc : Thread nD τ).loc main_arg4)) 0) (i 1) := by
  unfold res_main_v79 rh Rows.hs Rows.rn dy lp lw row Rows.sc Rows.ep
  pointwise

/-- The gradient of the norm's weights, at one element. -/
theorem ref2 (i : S1x1024.Idx) : (res_main_v60 m c i : EReal) = ∑ l : Fin 2176, hr (m ((c.tc : Thread nD τ).loc main_arg2)) l (i 1) * Rows.rn (hr (m ((c.tc : Thread nD τ).loc main_arg2)) l) * (dy (m ((c.tc : Thread nD τ).loc main_arg0)) (m ((c.tc : Thread nD τ).loc main_arg1)) l) (i 1) := by
  unfold res_main_v60 Rows.rn dy lp lw hr Rows.sc Rows.ep
  pointwise
end

section
open Cert.KernelMixInIdeal

/-- The cotangent of a normed row of real numbers. -/
def dxR (a : Fin 5 → Fin 512 → ℝ) (W : S1024x2560.Idx → ℝ) (j : Fin 1024) : ℝ :=
  ∑ k : Fin 512, a 0 k * W (ix2 j ⟨k.val, by omega⟩) + ∑ k : Fin 512, a 1 k * W (ix2 j ⟨512 + k.val, by omega⟩) + ∑ k : Fin 512, a 2 k * W (ix2 j ⟨1024 + k.val, by omega⟩)
    + ∑ k : Fin 512, a 3 k * W (ix2 j ⟨1536 + k.val, by omega⟩) + ∑ k : Fin 512, a 4 k * W (ix2 j ⟨2048 + k.val, by omega⟩)

theorem dx_coe (a : Fin 5 → Fin 512 → ℝ) (W : S1024x2560.Idx → ℝ) :
    dx (fun p k => (a p k : EReal)) (fun i => (W i : EReal)) = fun j => ((dxR a W j : ℝ) : EReal) := by
  funext j
  unfold dx dxR
  simp only [← EReal.coe_mul, Finite.coe_sum, ← EReal.coe_add]

/-- The derivative's rule and the kernel's form of the residual stream's cotangent agree at real numbers. -/
theorem rh_dh (a : Fin 5 → Fin 512 → ℝ) (W : S1024x2560.Idx → ℝ) (x h g : Fin 1024 → ℝ) :
    rh (dx (fun p k => (a p k : EReal)) (fun i => (W i : EReal))) (fun k => (x k : EReal)) (fun k => (h k : EReal)) (fun k => (g k : EReal))
      = dh (fun p k => (a p k : EReal)) (fun i => (W i : EReal)) (fun k => (x k : EReal)) (fun k => (h k : EReal)) (fun k => (g k : EReal)) := by
  funext j
  unfold rh dh
  rw [dx_coe, Rows.hs_eq, Rows.hw_coe, Rows.rn_coe, Rows.nb_coe, ← Rows.two_halves]
  simp only [← EReal.coe_mul, ← EReal.coe_add]
  exact congrArg _ (by ring)

/-- The shards of real numbers side by side. -/
def catR (X : S4x1024x640.Idx → ℝ) (i : S1024x2560.Idx) : ℝ :=
  X (ix3 ⟨(i 1).val / 640, by have := (i 1).isLt; change (i 1).val < 2560 at this; omega⟩ (i 0) ⟨(i 1).val % 640, Nat.mod_lt _ (by norm_num)⟩)
end

/-- The kernel and the reference leave the same three arrays from the same finite arguments. -/
theorem algebraic : Cert.algebraic_KernelMixInIdeal_ReferenceMixInIdeal_pre_finite_mix_in (hKernelMixInIdeal := Cert.KernelMixInIdeal.Gen.facts) (hReferenceMixInIdeal := Cert.ReferenceMixInIdeal.Gen.facts) (hPre_finite_mix_in := Cert.Pre_finite_mix_in.Gen.facts) :=
  fun m ρ m' ρ' hp hag => by
  refine ⟨_, _, _, (θ_run _ _ _).mono (fun r h c => ⟨(h c).1.trans (final5 m c), (h c).2.1.trans (final6 m c), (h c).2.2.1.trans (final7 m c), (h c).2.2.2⟩) (Cert.KernelMixInIdeal.Value.run_blocks (F := Ideal) m ρ), ?_⟩
  refine (θ_run _ _ _).mono (fun r h c => ?_) (Cert.ReferenceMixInIdeal.Value.run (F := Ideal) m' ρ')
  obtain ⟨r0, r1, r2, hargs⟩ := h c
  obtain ⟨⟨a0, e0⟩, ⟨a1, e1⟩, ⟨a2, e2⟩, ⟨a3, e3⟩, ⟨a4, e4⟩⟩ := reals m c hp
  obtain ⟨g0, g1, g2, g3, g4, -⟩ := hag c
  have eh := fun l : Fin 2176 => rh_dh (fun p k => a0 (ix3 p l k)) (catR a1) (fun k => a2 (ix2 l k)) (fun k => a3 (ix2 l k)) (fun k => a4 (ix2 0 k))
  refine ⟨r0.trans ?_, r1.trans ?_, r2.trans ?_, hargs⟩
  all_goals
    clear r0 r1 r2 hargs h
    funext i
  · refine (ref0 m' c i).trans ?_
    unfold gx
    simp only [g0, g1, g2, g3, g4, e0, e1, e2, e3, e4, dy_dx]
    exact congrFun (eh _) (i 1)
  · refine (ref1 m' c i).trans ?_
    simp only [g0, g1, g2, g3, g4, e0, e1, e2, e3, e4, dy_dx]
    exact congrFun (eh _) (i 1)
  · refine (ref2 m' c i).trans ?_
    simp only [g0, g1, g2, dy_dx, hr_row]
    refine Finset.sum_congr (M := EReal) rfl fun l _ => ?_
    exact mul_comm (G := EReal) _ _

end Cert.Proof.WMixIn

end
-- ==== Proof.MmIn.lean ====
module

public import proofs.«01_k».proof.Proof.MmInFrame
public import proofs.«01_k».proof.Proof.WMixIn

@[expose] public section

set_option maxRecDepth 16384

noncomputable section

/-! The input projection: what one point leaves in its three results, as functions of the rows given, the meta rows and
the weights. -/

namespace Cert.Proof.MmIn

open Idealize.ShloMosaic Idealize.ShloMosaic.TcCoe
open Cert.KernelMmInIdeal Cert.KernelMmInIdeal.Gen Cert.Proof.MmInFrame
open Cert.Proof.WMixIn (row)

/-- A list of writes read at one place: the last write there, or else the list without it. -/
theorem step {s : Shape} {e : EltTy} (r : Rect s) (w : r.shape.Idx → Elt Ideal e) (L : List (View.Piece (Elt Ideal) s e)) (y : s.Idx) (v : Elt Ideal e)
    (h : ∀ x, r.emb x = y → w x = v) (h' : (∀ x, r.emb x ≠ y) → View.canon L y = v) : View.canon (⟨r, w⟩ :: L) y = v := by
  by_cases hy : ∃ x, r.emb x = y
  · obtain ⟨x, rfl⟩ := hy
    exact (View.canon_cons_emb r w L x).trans (h x rfl)
  · refine (View.canon_cons_of_not_mem _ L fun hm => hy ?_).trans (h' fun x hx => hy ⟨x, hx⟩)
    exact r.exists_idx_of_mem hm

/-- The tail at one element: the meta rows from row 416 on, zeros elsewhere. -/
def tv (X : S4x64x256.Idx → EReal) (y : S544x1024.Idx) : EReal :=
  if h : 416 ≤ (y 0).val ∧ (y 0).val < 432 then X (ix3 ⟨(y 1).val / 256, by have := (y 1).isLt; change (y 1).val < 1024 at this; omega⟩ ⟨(y 0).val - 416, by omega⟩ ⟨(y 1).val % 256, by omega⟩) else 0

theorem tv_at (X : S4x64x256.Idx → EReal) (y : S544x1024.Idx) (p : Fin 4) (r : Fin 16) (k : Fin 256) (h0 : (y 0).val = 416 + r.val) (h1 : (y 1).val = p.val * 256 + k.val) :
    tv X y = X (ix3 p ⟨r.val, by omega⟩ k) := by
  unfold tv
  rw [dif_pos (by omega)]
  congr 2
  · exact Fin.ext (by show (y 1).val / 256 = p.val; omega)
  · exact Fin.ext (by show (y 0).val - 416 = r.val; omega)
  · exact Fin.ext (by show (y 1).val % 256 = k.val; omega)

theorem pc0 (X : S4x64x256.Idx → EReal) (x : S16x256.Idx) : (k0_pay11 (F := Ideal) (View.ld (Val := Elt Ideal) (e' := .f32) X (Rect.unit ![0, 0, 0] ![1, 16, 256] inb_S4x64x256_S1x16x256_0_0_0)) x : EReal) = X (ix3 0 ⟨(x 0).val, by have := (x 0).isLt; change (x 0).val < 16 at this; omega⟩ (x 1)) := by
  pointwise [k0_pay11]
  blk_ext
theorem pc1 (X : S4x64x256.Idx → EReal) (x : S16x256.Idx) : (k0_pay12 (F := Ideal) (View.ld (Val := Elt Ideal) (e' := .f32) X (Rect.unit ![1, 0, 0] ![1, 16, 256] inb_S4x64x256_S1x16x256_1_0_0)) x : EReal) = X (ix3 1 ⟨(x 0).val, by have := (x 0).isLt; change (x 0).val < 16 at this; omega⟩ (x 1)) := by
  pointwise [k0_pay12]
  blk_ext
theorem pc2 (X : S4x64x256.Idx → EReal) (x : S16x256.Idx) : (k0_pay13 (F := Ideal) (View.ld (Val := Elt Ideal) (e' := .f32) X (Rect.unit ![2, 0, 0] ![1, 16, 256] inb_S4x64x256_S1x16x256_2_0_0)) x : EReal) = X (ix3 2 ⟨(x 0).val, by have := (x 0).isLt; change (x 0).val < 16 at this; omega⟩ (x 1)) := by
  pointwise [k0_pay13]
  blk_ext
theorem pc3 (X : S4x64x256.Idx → EReal) (x : S16x256.Idx) : (k0_pay14 (F := Ideal) (View.ld (Val := Elt Ideal) (e' := .f32) X (Rect.unit ![3, 0, 0] ![1, 16, 256] inb_S4x64x256_S1x16x256_3_0_0)) x : EReal) = X (ix3 3 ⟨(x 0).val, by have := (x 0).isLt; change (x 0).val < 16 at this; omega⟩ (x 1)) := by
  pointwise [k0_pay14]
  blk_ext

/-- A place in the tail's rows lies in the piece its column names. -/
theorem inside (c : ℕ) (inb : ∀ a, (![416, c] : Fin 2 → ℕ) a + (![16, 256] : Fin 2 → ℕ) a ≤ S544x1024.size a) (y : S544x1024.Idx) (h0 : 416 ≤ (y 0).val) (h1 : (y 0).val < 432)
    (h2 : c ≤ (y 1).val) (h3 : (y 1).val < c + 256) : ∃ x, (Rect.unit (s := S544x1024) ![416, c] ![16, 256] inb).emb x = y := by
  refine ⟨ix2 (⟨(y 0).val - 416, by omega⟩ : Fin 16) (⟨(y 1).val - c, by omega⟩ : Fin 256), funext fun a => Fin.ext ?_⟩
  match a with
  | 0 => blk_simp; show 416 + ((y 0).val - 416) = _; omega
  | 1 => blk_simp; show c + ((y 1).val - c) = _; omega

theorem tail_tv (X : S4x64x256.Idx → EReal) : (tail (F := Ideal) X : S544x1024.Idx → EReal) = tv X := by
  funext y
  have b1 : (y 1).val < 1024 := (y 1).isLt
  have at_ (p : Fin 4) (x : S16x256.Idx) (h0 : (y 0).val = 416 + (x 0).val) (h1 : (y 1).val = p.val * 256 + (x 1).val) := tv_at X y p (x 0) (x 1) h0 h1
  refine step _ _ _ _ _ (fun x hx => (pc3 X x).trans (at_ 3 x ?_ ?_).symm) fun n3 => ?_
  · subst hx; blk_simp
  · subst hx; blk_simp; try rfl
  refine step _ _ _ _ _ (fun x hx => (pc2 X x).trans (at_ 2 x ?_ ?_).symm) fun n2 => ?_
  · subst hx; blk_simp
  · subst hx; blk_simp; try rfl
  refine step _ _ _ _ _ (fun x hx => (pc1 X x).trans (at_ 1 x ?_ ?_).symm) fun n1 => ?_
  · subst hx; blk_simp
  · subst hx; blk_simp; try rfl
  refine step _ _ _ _ _ (fun x hx => (pc0 X x).trans (at_ 0 x ?_ ?_).symm) fun n0 => ?_
  · subst hx; blk_simp
  · subst hx; blk_simp; exact (Nat.zero_add _).symm
  refine (congrFun (View.canon_cons_unit_lit _ _ _ (by decide)) y).trans ?_
  have hz : (k0_pay10 (F := Ideal) y : EReal) = 0 := by pointwise [k0_pay10]
  refine hz.trans ?_
  unfold tv
  rw [dif_neg]
  rintro ⟨h0, h1⟩
  have h : (y 1).val / 256 = 0 ∨ (y 1).val / 256 = 1 ∨ (y 1).val / 256 = 2 ∨ (y 1).val / 256 = 3 := by omega
  obtain h | h | h | h := h
  · obtain ⟨x, hx⟩ := inside 0 inb_S544x1024_S16x256_416_0 y h0 h1 (by omega) (by omega); exact n0 x hx
  · obtain ⟨x, hx⟩ := inside 256 inb_S544x1024_S16x256_416_256 y h0 h1 (by omega) (by omega); exact n1 x hx
  · obtain ⟨x, hx⟩ := inside 512 inb_S544x1024_S16x256_416_512 y h0 h1 (by omega) (by omega); exact n2 x hx
  · obtain ⟨x, hx⟩ := inside 768 inb_S544x1024_S16x256_416_768 y h0 h1 (by omega) (by omega); exact n3 x hx

/-- An element of the rows' row `l`: the rows given, then the meta rows, then zeros. -/
def hh (x : S2048x1024.Idx → EReal) (X : S4x64x256.Idx → EReal) (l : Fin 2176) (k : Fin 1024) : EReal :=
  if h : l.val < 2048 then x (ix2 ⟨l.val, h⟩ k) else if h : l.val < 2064 then X (ix3 ⟨k.val / 256, by omega⟩ ⟨l.val - 2048, by omega⟩ ⟨k.val % 256, by omega⟩) else 0

/-- A row of the norm's result. -/
def nm (x g : Fin 1024 → EReal) (j : Fin 1024) : EReal := x j * Rows.rn x * g j

theorem pay16_nm (i : grid0.Coords) (x t : S544x1024.Idx → EReal) (g : S1x1024.Idx → EReal) (y : S544x1024.Idx) :
    (k0_pay16 (F := Ideal) i x t g y : EReal) = nm (row (n := 544) (w := 1024) (k0_pay15 (F := Ideal) i x t) (y 0)) (row (n := 1) (w := 1024) g 0) (y 1) := by
  unfold nm Rows.rn row Rows.sc Rows.ep
  pointwise [k0_pay16]

/-- The shards side by side, as the scratch holds them. -/
theorem wcat_cat (X : S4x1024x640.Idx → EReal) : (wcat (F := Ideal) X : S1024x2560.Idx → EReal) = WMixIn.cat X := WMixIn.canon_cat X

/-- A column of a plane of the projection. -/
def pc (n : Fin 1024 → EReal) (W : S1024x2560.Idx → EReal) (p : Fin 5) (k : Fin 512) : EReal := ∑ j, n j * W (ix2 j ⟨p.val * 512 + k.val, by omega⟩)

theorem pc_congr (n : S544x1024.Idx → EReal) (W : S1024x2560.Idx → EReal) (r r' : Fin 544) (p p' : Fin 5) (k k' : Fin 512) (hp : p'.val = p.val) (hr : r'.val = r.val) (hk : k'.val = k.val) :
    pc (row (n := 544) (w := 1024) n r) W p k = pc (row (n := 544) (w := 1024) n r') W p' k' := by
  obtain rfl := Fin.ext hp
  obtain rfl := Fin.ext hr
  obtain rfl := Fin.ext hk
  rfl

theorem pl0 (n : S544x1024.Idx → EReal) (W : S1024x2560.Idx → EReal) (x : S1x544x512.Idx) :
    (k0_pay1 (F := Ideal) n (View.ld (Val := Elt Ideal) (e' := .bf16) W (Rect.unit ![0, 0] ![1024, 512] inb_S1024x2560_S1024x512_0_0)) x : EReal) = pc (row (n := 544) (w := 1024) n (x 1)) W 0 (x 2) := by
  unfold pc row
  pointwise [k0_pay1]

theorem pl1 (n : S544x1024.Idx → EReal) (W : S1024x2560.Idx → EReal) (x : S1x544x512.Idx) :
    (k0_pay2 (F := Ideal) n (View.ld (Val := Elt Ideal) (e' := .bf16) W (Rect.unit ![0, 512] ![1024, 512] inb_S1024x2560_S1024x512_0_512)) x : EReal) = pc (row (n := 544) (w := 1024) n (x 1)) W 1 (x 2) := by
  unfold pc row
  pointwise [k0_pay2]

theorem pl2 (n : S544x1024.Idx → EReal) (W : S1024x2560.Idx → EReal) (x : S1x544x512.Idx) :
    (k0_pay3 (F := Ideal) n (View.ld (Val := Elt Ideal) (e' := .bf16) W (Rect.unit ![0, 1024] ![1024, 512] inb_S1024x2560_S1024x512_0_1024)) x : EReal) = pc (row (n := 544) (w := 1024) n (x 1)) W 2 (x 2) := by
  unfold pc row
  pointwise [k0_pay3]

theorem pl3 (n : S544x1024.Idx → EReal) (W : S1024x2560.Idx → EReal) (x : S1x544x512.Idx) :
    (k0_pay4 (F := Ideal) n (View.ld (Val := Elt Ideal) (e' := .bf16) W (Rect.unit ![0, 1536] ![1024, 512] inb_S1024x2560_S1024x512_0_1536)) x : EReal) = pc (row (n := 544) (w := 1024) n (x 1)) W 3 (x 2) := by
  unfold pc row
  pointwise [k0_pay4]

theorem pl4 (n : S544x1024.Idx → EReal) (W : S1024x2560.Idx → EReal) (x : S1x544x512.Idx) :
    (k0_pay5 (F := Ideal) n (View.ld (Val := Elt Ideal) (e' := .bf16) W (Rect.unit ![0, 2048] ![1024, 512] inb_S1024x2560_S1024x512_0_2048)) x : EReal) = pc (row (n := 544) (w := 1024) n (x 1)) W 4 (x 2) := by
  unfold pc row
  pointwise [k0_pay5]

theorem at6 (n : S544x1024.Idx → EReal) (W : S1024x2560.Idx → EReal) (y : S5x544x512.Idx) :
    (new6 (F := Ideal) n W y : EReal) = pc (row (n := 544) (w := 1024) n (y 1)) W (y 0) (y 2) := by
  unfold new6
  canon_tiles x h
  · refine (pl4 n W x).trans ?_
    have u : (x 0).val < 1 := (x 0).isLt
    exact pc_congr n W _ _ _ _ _ _ (by rw [h0]; show 4 + (x 0).val = 4; omega) (by omega) (by omega)
  · refine (pl3 n W x).trans ?_
    have u : (x 0).val < 1 := (x 0).isLt
    exact pc_congr n W _ _ _ _ _ _ (by rw [h0]; show 3 + (x 0).val = 3; omega) (by omega) (by omega)
  · refine (pl2 n W x).trans ?_
    have u : (x 0).val < 1 := (x 0).isLt
    exact pc_congr n W _ _ _ _ _ _ (by rw [h0]; show 2 + (x 0).val = 2; omega) (by omega) (by omega)
  · refine (pl1 n W x).trans ?_
    have u : (x 0).val < 1 := (x 0).isLt
    exact pc_congr n W _ _ _ _ _ _ (by rw [h0]; show 1 + (x 0).val = 1; omega) (by omega) (by omega)
  · refine (pl0 n W x).trans ?_
    have u : (x 0).val < 1 := (x 0).isLt
    exact pc_congr n W _ _ _ _ _ _ (by rw [h0]; show (x 0).val = 0; omega) (by omega) (by omega)

end Cert.Proof.MmIn

end
-- ==== Proof.WMmIn.lean ====
module

public import proofs.«01_k».proof.Proof.MmIn

@[expose] public section

set_option maxRecDepth 16384

noncomputable section

/-! The input projection: what the run leaves in its three results, and that the forward lines leave the same. -/

namespace Cert.Proof.WMmIn

open Idealize.ShloMosaic Idealize.ShloMosaic.TcCoe Idealize.SL.Sem
open Cert.Proof.MmIn
open Cert.Proof.WMixIn (row)

section
open Cert.KernelMmInIdeal Cert.KernelMmInIdeal.Gen Cert.Proof.MmInFrame

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, t.val, 0] := by decide +kernel

theorem wh1 (t : Fin cfg0.N) : (iblk m c 1 t : S4x64x256.Idx → EReal) = m ((c : Thread nD τ).loc main_arg1) := by
  funext k
  refine Eq.trans ?_ (congrFun (V_main_arg1 m c) _)
  blk_ext [iblk, idx1 t]

theorem wh2 (t : Fin cfg0.N) : (iblk m c 2 t : S4x1024x640.Idx → EReal) = m ((c : Thread nD τ).loc main_arg2) := by
  funext k
  refine Eq.trans ?_ (congrFun (V_main_arg2 m c) _)
  blk_ext [iblk, idx2 t]

theorem br3 (t : Fin cfg0.N) : row (n := 1) (w := 1024) (iblk m c 3 t) 0 = row (n := 1) (w := 1024) (m ((c : Thread nD τ).loc main_arg3)) 0 := by
  funext k
  refine Eq.trans ?_ (congrFun (V_main_arg3 m c) _)
  unfold row
  blk_ext [iblk, idx3 t]

/-- A row that is taken from the rows given. -/
theorem br0 (t : Fin cfg0.N) (r : Fin 544) (k : Fin 1024) (n : Fin 2048) (hn : n.val = t.val * 544 + r.val) :
    (xblk m c t (ix2 r k) : EReal) = (m ((c : Thread nD τ).loc main_arg0) : S2048x1024.Idx → EReal) (ix2 n k) := by
  have hm := moved t (ix2 r k) (by rw [(kept_moved t).2.2]; show t.val * 544 + r.val < 2048; have := n.isLt; omega)
  unfold xblk Pipeline.Window.fill
  rw [dif_pos hm]
  refine Eq.trans ?_ (congrFun (V_main_arg0 m c) _)
  blk_ext [iblk, idx0 t]

theorem tl_tv : (tl m c : S544x1024.Idx → EReal) = tv (m ((c : Thread nD τ).loc main_arg1)) :=
  (tail_tv _).trans (congrArg tv (wh1 m c t0_0))

theorem wts_cat : (wts m c : S1024x2560.Idx → EReal) = WMixIn.cat (m ((c : Thread nD τ).loc main_arg2)) :=
  (wcat_cat _).trans (congrArg WMixIn.cat (wh2 m c t0_0))

/-- A row of a point's block is a row of the input. -/
theorem hrow (t : Fin cfg0.N) (r : Fin 544) (l : Fin 2176) (h : l.val = t.val * 544 + r.val) :
    row (n := 544) (w := 1024) (k0_pay15 (F := Ideal) (grid0.coords t) (xblk m c t) (tl m c)) r = hh (m ((c : Thread nD τ).loc main_arg0)) (m ((c : Thread nD τ).loc main_arg1)) l := by
  funext k
  have ht : t.val < 4 := t.isLt
  have hr := r.isLt
  unfold row hh
  rw [pay15_apply, tl_tv, (kept_moved t).2.2]
  show (if t.val * 544 + r.val < 2048 then _ else _) = _
  by_cases h1 : l.val < 2048
  · rw [if_pos (by omega), dif_pos h1]
    exact br0 m c t r k _ h
  · rw [if_neg (by omega), dif_neg h1]
    unfold tv
    by_cases h2 : l.val < 2064
    · rw [dif_pos (show 416 ≤ (ix2 r k 0).val ∧ (ix2 r k 0).val < 432 from (by omega : 416 ≤ r.val ∧ r.val < 432)), dif_pos h2]
      exact congrArg (fun z => (m ((c : Thread nD τ).loc main_arg1) : S4x64x256.Idx → EReal) (ix3 _ z _)) (Fin.ext (by show r.val - 416 = l.val - 2048; omega))
    · rw [dif_neg (show ¬ (416 ≤ (ix2 r k 0).val ∧ (ix2 r k 0).val < 432) from (by omega : ¬ (416 ≤ r.val ∧ r.val < 432))), dif_neg h2]

/-- A row of a point's normed block is the norm of a row of the input. -/
theorem nrow (t : Fin cfg0.N) (r : Fin 544) (l : Fin 2176) (h : l.val = t.val * 544 + r.val) :
    row (n := 544) (w := 1024) (nrm m c t) r = nm (hh (m ((c : Thread nD τ).loc main_arg0)) (m ((c : Thread nD τ).loc main_arg1)) l) (row (n := 1) (w := 1024) (m ((c : Thread nD τ).loc main_arg3)) 0) := by
  funext k
  refine (pay16_nm _ _ _ _ (ix2 r k)).trans ?_
  show nm (row (n := 544) (w := 1024) _ r) _ k = _
  rw [hrow m c t r l h, br3]

/-- The input after the run. -/
theorem final4 : (dats m 0 c).arrAt 4 cfg0.N = fun i => hh (m ((c : Thread nD τ).loc main_arg0)) (m ((c : Thread nD τ).loc main_arg1)) (i 0) (i 1) := by
  refine (dats m 0 c).arrAt_eq_of_covers 4 _ (by decide +kernel) fun t hf y => ?_
  blk_simp
  rw [after4]
  have e0 : ((win0_4.blk t).view.emb y 0).val = t.val * 544 + (y 0).val := by
    blk_simp [idx4 t]
    try rfl
  have e1 : (win0_4.blk t).view.emb y 1 = y 1 := by
    refine Fin.ext ?_
    blk_simp [idx4 t]
    try omega
  rw [e1]
  exact (congrArg _ (eq_ix2 y)).trans (congrFun (hrow m c t (y 0) _ e0) (y 1))

/-- The normed input after the run. -/
theorem final5 : (dats m 0 c).arrAt 5 cfg0.N = fun i => nm (hh (m ((c : Thread nD τ).loc main_arg0)) (m ((c : Thread nD τ).loc main_arg1)) (i 0)) (row (n := 1) (w := 1024) (m ((c : Thread nD τ).loc main_arg3)) 0) (i 1) := by
  refine (dats m 0 c).arrAt_eq_of_covers 5 _ (by decide +kernel) fun t hf y => ?_
  blk_simp
  rw [after5]
  have e0 : ((win0_5.blk t).view.emb y 0).val = t.val * 544 + (y 0).val := by
    blk_simp [idx5 t]
    try rfl
  have e1 : (win0_5.blk t).view.emb y 1 = y 1 := by
    refine Fin.ext ?_
    blk_simp [idx5 t]
    try omega
  rw [e1]
  exact (congrArg _ (eq_ix2 y)).trans (congrFun (nrow m c t (y 0) _ e0) (y 1))

/-- The projection's planes after the run. -/
theorem final6 : (dats m 0 c).arrAt 6 cfg0.N = fun i => pc (nm (hh (m ((c : Thread nD τ).loc main_arg0)) (m ((c : Thread nD τ).loc main_arg1)) (i 1)) (row (n := 1) (w := 1024) (m ((c : Thread nD τ).loc main_arg3)) 0)) (WMixIn.cat (m ((c : Thread nD τ).loc main_arg2))) (i 0) (i 2) := by
  refine (dats m 0 c).arrAt_eq_of_covers 6 _ (by decide +kernel) fun t hf y => ?_
  blk_simp
  rw [after6]
  have e1 : ((win0_6.blk t).view.emb y 1).val = t.val * 544 + (y 1).val := by
    blk_simp [idx6 t]
    try rfl
  have e0 : (win0_6.blk t).view.emb y 0 = y 0 := by
    refine Fin.ext ?_
    blk_simp [idx6 t]
    try omega
  have e2 : (win0_6.blk t).view.emb y 2 = y 2 := by
    refine Fin.ext ?_
    blk_simp [idx6 t]
    try omega
  rw [e0, e2]
  refine (at6 _ _ y).trans ?_
  rw [nrow m c t (y 1) _ e1, wts_cat]

end

section
open Cert.ReferenceMmInIdeal Cert.ReferenceMmInIdeal.Gen Cert.ReferenceMmInIdeal.Value

/-- An element of the input, found by walking past the arrays before it. -/
def rh (x : S2048x1024.Idx → EReal) (X : S4x64x256.Idx → EReal) (l : Fin 2176) (k : Fin 1024) : EReal :=
  if h : l.val < 2048 then x (ix2 ⟨l.val, h⟩ k) else if h : l.val - 2048 < 16 then
    (if h' : k.val < 256 then X (ix3 0 ⟨l.val - 2048, by omega⟩ ⟨k.val, h'⟩) else if h' : k.val - 256 < 256 then X (ix3 1 ⟨l.val - 2048, by omega⟩ ⟨k.val - 256, h'⟩)
      else if h' : k.val - 256 - 256 < 256 then X (ix3 2 ⟨l.val - 2048, by omega⟩ ⟨k.val - 256 - 256, h'⟩) else X (ix3 3 ⟨l.val - 2048, by omega⟩ ⟨k.val - 256 - 256 - 256, by omega⟩)) else 0

theorem rh_hh (x : S2048x1024.Idx → EReal) (X : S4x64x256.Idx → EReal) : rh x X = hh x X := by
  funext l k
  have hk := k.isLt
  unfold rh hh
  split_ifs with h1 h2 h3 h4 h5 h6 h7 h8 <;> first
    | rfl
    | exact absurd h2 (by omega)
    | exact WMixIn.ix3_congr X _ (by simp; omega) (by simp; omega)

variable (m : (ℓ : Loc nD τ sig) → Buf (Elt Ideal) ℓ) (c : Dev nD)

/-- The normed input, at one element. -/
theorem ref1 (i : S2176x1024.Idx) : (res_main_v36 m c i : EReal) = nm (rh (m ((c.tc : Thread nD τ).loc main_arg0)) (m ((c.tc : Thread nD τ).loc main_arg1)) (i 0)) (row (n := 1) (w := 1024) (m ((c.tc : Thread nD τ).loc main_arg3)) 0) (i 1) := by
  unfold res_main_v36 nm rh Rows.rn row Rows.sc Rows.ep
  pointwise

/-- A column of a plane of the projection with the shards walked past. -/
def rc (n : Fin 1024 → EReal) (X : S4x1024x640.Idx → EReal) (k : Fin 2560) : EReal := ∑ j, n j * WMixIn.lw X j k

/-- The same column, its plane walked to. -/
def rp (n : Fin 1024 → EReal) (X : S4x1024x640.Idx → EReal) (p : Fin 5) (k : Fin 512) : EReal :=
  if _h : p.val < 1 then rc n X ⟨k.val, by omega⟩ else if _h : p.val - 1 < 1 then rc n X ⟨512 + k.val, by omega⟩ else if _h : p.val - 1 - 1 < 1 then rc n X ⟨1024 + k.val, by omega⟩
    else if _h : p.val - 1 - 1 - 1 < 1 then rc n X ⟨1536 + k.val, by omega⟩ else rc n X ⟨2048 + k.val, by omega⟩

theorem rp_pc (n : Fin 1024 → EReal) (X : S4x1024x640.Idx → EReal) (p : Fin 5) (k : Fin 512) : rp n X p k = pc n (WMixIn.cat X) p k := by
  have e (q : Fin 2560) (h : q.val = p.val * 512 + k.val) : rc n X q = pc n (WMixIn.cat X) p k := by
    unfold rc pc
    refine Finset.sum_congr rfl fun j _ => ?_
    rw [WMixIn.lw_cat, show q = ⟨p.val * 512 + k.val, by omega⟩ from Fin.ext h]
  unfold rp
  split_ifs <;> exact e _ (by dsimp only; omega)

/-- The projection's planes, at one element. -/
theorem ref2 (i : S5x2176x512.Idx) : (res_main_v48 m c i : EReal) = rp (nm (rh (m ((c.tc : Thread nD τ).loc main_arg0)) (m ((c.tc : Thread nD τ).loc main_arg1)) (i 1)) (row (n := 1) (w := 1024) (m ((c.tc : Thread nD τ).loc main_arg3)) 0)) (m ((c.tc : Thread nD τ).loc main_arg2)) (i 0) (i 2) := by
  refine Eq.trans ?_ (congrArg (fun n => rp n _ (i 0) (i 2)) (funext fun k => ref1 m c (ix2 (i 1) k)))
  unfold res_main_v48
  generalize hA : (mulf (mulf _ _) _ : FVec Ideal S2176x1024 .f32) = A
  have hA' : res_main_v36 m c = A := hA
  rw [hA']
  clear hA hA'
  unfold rp rc WMixIn.lw
  pointwise

end

/-- The kernel and the reference leave the same three arrays from the same arguments. -/
theorem algebraic : Cert.algebraic_KernelMmInIdeal_ReferenceMmInIdeal (hKernelMmInIdeal := Cert.KernelMmInIdeal.Gen.facts) (hReferenceMmInIdeal := Cert.ReferenceMmInIdeal.Gen.facts) :=
  fun m ρ m' ρ' _ hag => by
  refine ⟨_, _, _, (θ_run _ _ _).mono (fun r h c => ⟨((h.1 c).1 4).trans (final4 m c), ((h.1 c).1 5).trans (final5 m c), ((h.1 c).1 6).trans (final6 m c), MmInFrame.kept m c r h.1⟩) (MmInFrame.run_main (F := Ideal) m ρ), ?_⟩
  refine (θ_run _ _ _).mono (fun r h c => ?_) (Cert.ReferenceMmInIdeal.Value.run (F := Ideal) m' ρ')
  obtain ⟨r0, r1, r2, hargs⟩ := h c
  obtain ⟨g0, g1, g2, g3, g4⟩ := hag c
  refine ⟨r0.trans ?_, r1.trans ?_, r2.trans ?_, hargs⟩
  all_goals
    clear r0 r1 r2 hargs h
    funext i
  · rw [← rh_hh, ← g0, ← g1]
    unfold rh
    pointwise
  · refine (ref1 m' c i).trans ?_
    simp only [g0, g1, g3, rh_hh]
  · refine (ref2 m' c i).trans ?_
    simp only [g0, g1, g2, g3, rh_hh]
    exact rp_pc _ _ _ _

end Cert.Proof.WMmIn

end
-- ==== Proof.LRows.lean ====
module

public import proofs.«01_k».proof.Proof.Finite
public import Idealize.ShloMosaic.Lib.Pipeline.ValueKit
public import Idealize.ShloMosaic.Lib.Pointwise

@[expose] public section

noncomputable section

/-! One row of the layer norm followed by the gated activation: the forward pieces and the backward pass as the kernels
write them. -/

namespace Cert.Proof.LRows

open Idealize.ShloMosaic

/-- The number of columns of a row, as the programs write it. -/
def sc : EReal := Ideal.ofBits .f32 1140850688#32

/-- The constant added under the root. -/
def ep : EReal := Ideal.ofBits .f32 925353388#32

/-- A row less its mean. -/
def zc (x : Fin 512 → EReal) (j : Fin 512) : EReal := x j - Ideal.div (∑ k, x k) sc

/-- The inverse root of a row's variance. -/
def rl (x : Fin 512 → EReal) : EReal := Ideal.rsqrt (Ideal.div (∑ k, zc x k * zc x k) sc + ep)

/-- The normed row. -/
def zh (x : Fin 512 → EReal) (j : Fin 512) : EReal := zc x j * rl x

/-- The normed row under the learned scale and shift. -/
def ly (x g b : Fin 512 → EReal) (j : Fin 512) : EReal := zh x j * g j + b j

/-- The cotangent of the activation's argument, as the kernels compute it. -/
def dk (d l : EReal) : EReal := d * (Ideal.div 1 (1 + Ideal.exp (0 - l)) * (1 + l * (1 - Ideal.div 1 (1 + Ideal.exp (0 - l)))))

/-- The cotangent of a row under the layer norm, from the cotangent `d` of the scaled row. -/
def lz (d x g : Fin 512 → EReal) (j : Fin 512) : EReal :=
  rl x * (d j * g j - Ideal.div (∑ k, d k * g k) sc - zh x j * Ideal.div (∑ k, d k * g k * zh x k) sc)

/-- The cotangent of the activation's argument, as the derivative's rule writes it. -/
def dr (d l : EReal) : EReal := d * Finite.gate l + l * d * (Finite.gate l * (1 - Finite.gate l))

/-- The share of the variance in a row's cotangent, as the derivative of the inverse root gives it. -/
def hw (d x g : Fin 512 → EReal) : EReal :=
  Ideal.div ((∑ k, zc x k * (d k * g k)) * (Ideal.ofBits .f32 3204448256#32 * Ideal.div (rl x) (Ideal.div (∑ k, zc x k * zc x k) sc + ep))) sc

/-- The same share under the sum over one term in which a broadcast along an axis of one element is undone. -/
def hs (d x g : Fin 512 → EReal) : EReal :=
  ∑ _ : Fin 1, Ideal.div ((∑ k, zc x k * (d k * g k)) * (Ideal.ofBits .f32 3204448256#32 * Ideal.div (rl x) (Ideal.div (∑ k, zc x k * zc x k) sc + ep))) sc

theorem hs_eq (d x g : Fin 512 → EReal) : hs d x g = hw d x g := Fin.sum_univ_one _

/-- The cotangent of a row under the layer norm, as the derivative's rule writes it. -/
def lr (d x g : Fin 512 → EReal) (j : Fin 512) : EReal :=
  d j * g j * rl x + hs d x g * (Ideal.ofBits .f32 1073741824#32 * zc x j)
    + ∑ _ : Fin 1, Ideal.div (∑ k, -(d k * g k * rl x) + ∑ k, -(hs d x g * (Ideal.ofBits .f32 1073741824#32 * zc x k))) sc

/-- The constant added under the root, as a real number. -/
def epR : ℝ := 10995116 / 1099511627776

theorem sc_eq : sc = ((512 : ℝ) : EReal) := by
  unfold sc
  simp [Ideal.ofBits, Ideal.ieee, -EReal.coe_mul]
  norm_num

theorem ep_eq : ep = ((epR : ℝ) : EReal) := by
  unfold ep epR
  simp [Ideal.ofBits, Ideal.ieee, -EReal.coe_mul]
  norm_num

theorem two_eq : Ideal.ofBits .f32 1073741824#32 = ((2 : ℝ) : EReal) := by
  simp [Ideal.ofBits, Ideal.ieee, -EReal.coe_mul]
  norm_num

theorem half_eq : Ideal.ofBits .f32 3204448256#32 = ((-(1 / 2) : ℝ) : EReal) := by
  simp [Ideal.ofBits, Ideal.ieee, -EReal.coe_mul]
  norm_num

theorem epR_pos : 0 < epR := by unfold epR; norm_num

theorem div_sc (a : ℝ) : Ideal.div (a : EReal) sc = ((a * (512 : ℝ)⁻¹ : ℝ) : EReal) := by
  rw [sc_eq, Finite.div_real _ (by norm_num : (512 : ℝ) ≠ 0), ← EReal.coe_mul]

/-- A row of real numbers less its mean. -/
def zcR (x : Fin 512 → ℝ) (j : Fin 512) : ℝ := x j - (∑ k, x k) * (512 : ℝ)⁻¹

theorem zc_coe (x : Fin 512 → ℝ) (j : Fin 512) : zc (fun k => (x k : EReal)) j = ((zcR x j : ℝ) : EReal) := by
  unfold zc zcR
  rw [Finite.coe_sum, div_sc, ← EReal.coe_sub]

theorem sum_zcR (x : Fin 512 → ℝ) : ∑ k, zcR x k = 0 := by
  unfold zcR
  rw [Finset.sum_sub_distrib, Finset.sum_const, Finset.card_univ, Fintype.card_fin, nsmul_eq_mul]
  push_cast
  ring

/-- The variance of a row of real numbers with the constant added. -/
def vrR (x : Fin 512 → ℝ) : ℝ := (∑ k, zcR x k * zcR x k) * (512 : ℝ)⁻¹ + epR

theorem vrR_pos (x : Fin 512 → ℝ) : 0 < vrR x := by
  have h : 0 ≤ ∑ k, zcR x k * zcR x k := Finset.sum_nonneg fun k _ => mul_self_nonneg _
  have := epR_pos
  unfold vrR
  positivity

theorem vr_coe (x : Fin 512 → ℝ) : Ideal.div (∑ k, zc (fun k => (x k : EReal)) k * zc (fun k => (x k : EReal)) k) sc + ep = ((vrR x : ℝ) : EReal) := by
  unfold vrR
  simp only [zc_coe, ← EReal.coe_mul, Finite.coe_sum]
  rw [div_sc, ep_eq, ← EReal.coe_add]

/-- The inverse root of the variance of a row of real numbers. -/
def rlR (x : Fin 512 → ℝ) : ℝ := (Real.sqrt (vrR x))⁻¹

theorem rl_coe (x : Fin 512 → ℝ) : rl (fun k => (x k : EReal)) = ((rlR x : ℝ) : EReal) := by
  unfold rl rlR
  rw [vr_coe]
  exact Finite.rsqrt_real (vrR_pos x)

theorem rlR_sq (x : Fin 512 → ℝ) : rlR x * rlR x = (vrR x)⁻¹ := by
  unfold rlR
  rw [← mul_inv, Real.mul_self_sqrt (le_of_lt (vrR_pos x))]

theorem zh_coe (x : Fin 512 → ℝ) (j : Fin 512) : zh (fun k => (x k : EReal)) j = ((zcR x j * rlR x : ℝ) : EReal) := by
  unfold zh
  rw [zc_coe, rl_coe, ← EReal.coe_mul]

theorem ly_coe (x g b : Fin 512 → ℝ) (j : Fin 512) :
    ly (fun k => (x k : EReal)) (fun k => (g k : EReal)) (fun k => (b k : EReal)) j = ((zcR x j * rlR x * g j + b j : ℝ) : EReal) := by
  unfold ly
  rw [zh_coe, ← EReal.coe_mul, ← EReal.coe_add]

/-- The cotangent of a row of real numbers under the layer norm. -/
def lzR (d x g : Fin 512 → ℝ) (j : Fin 512) : ℝ :=
  rlR x * (d j * g j - (∑ k, d k * g k) * (512 : ℝ)⁻¹ - zcR x j * rlR x * ((∑ k, d k * g k * (zcR x k * rlR x)) * (512 : ℝ)⁻¹))

theorem lz_coe (d x g : Fin 512 → ℝ) (j : Fin 512) :
    lz (fun k => (d k : EReal)) (fun k => (x k : EReal)) (fun k => (g k : EReal)) j = ((lzR d x g j : ℝ) : EReal) := by
  unfold lz lzR
  simp only [rl_coe, zh_coe, ← EReal.coe_mul, Finite.coe_sum, div_sc, ← EReal.coe_sub]

/-- The share of the variance in the cotangent of a row of real numbers. -/
def hwR (d x g : Fin 512 → ℝ) : ℝ := (∑ k, zcR x k * (d k * g k)) * (-(1 / 2) * (rlR x * (vrR x)⁻¹)) * (512 : ℝ)⁻¹

theorem hw_coe (d x g : Fin 512 → ℝ) :
    hw (fun k => (d k : EReal)) (fun k => (x k : EReal)) (fun k => (g k : EReal)) = ((hwR d x g : ℝ) : EReal) := by
  unfold hw hwR
  rw [vr_coe, rl_coe, half_eq, Finite.div_real _ (ne_of_gt (vrR_pos x))]
  simp only [zc_coe, ← EReal.coe_mul, Finite.coe_sum, div_sc]

/-- The two ways of writing a row's cotangent agree at real numbers: the deviations from a mean sum to zero. -/
theorem two_ways (d x g : Fin 512 → ℝ) (j : Fin 512) :
    d j * g j * rlR x + hwR d x g * (2 * zcR x j) + (∑ k, -(d k * g k * rlR x) + ∑ k, -(hwR d x g * (2 * zcR x k))) * (512 : ℝ)⁻¹ = lzR d x g j := by
  have e : ∑ k, d k * g k * (zcR x k * rlR x) = (∑ k, zcR x k * (d k * g k)) * rlR x := by
    rw [Finset.sum_mul]
    exact Finset.sum_congr rfl fun k _ => by ring
  have e1 : ∑ k, -(d k * g k * rlR x) = -((∑ k, d k * g k) * rlR x) := by
    rw [Finset.sum_neg_distrib, Finset.sum_mul]
  have e2 : ∑ k, -(hwR d x g * (2 * zcR x k)) = 0 := by
    rw [Finset.sum_neg_distrib, ← Finset.mul_sum, ← Finset.mul_sum, sum_zcR]
    ring
  rw [e1, e2]
  unfold lzR hwR
  rw [e, ← rlR_sq]
  ring

/-- A row's cotangent by the derivative's rule, as the layer norm's backward pass. -/
theorem lr_lz (d x g : Fin 512 → ℝ) (j : Fin 512) :
    lr (fun k => (d k : EReal)) (fun k => (x k : EReal)) (fun k => (g k : EReal)) j = lz (fun k => (d k : EReal)) (fun k => (x k : EReal)) (fun k => (g k : EReal)) j := by
  unfold lr
  rw [Fin.sum_univ_one, hs_eq, hw_coe, rl_coe, lz_coe, ← two_ways, two_eq]
  simp only [zc_coe, ← EReal.coe_mul, ← EReal.coe_neg, Finite.coe_sum, ← EReal.coe_add, div_sc]

/-- The kernels' cotangent of the activation's argument at real numbers. -/
theorem dk_coe (d l : ℝ) : dk (d : EReal) (l : EReal) = ((d * (Finite.sg l * (1 + l * (1 - Finite.sg l))) : ℝ) : EReal) := by
  unfold dk
  rw [zero_sub]
  change (d : EReal) * (Finite.gate l * (1 + l * (1 - Finite.gate l))) = _
  rw [Finite.gate_coe]
  simp only [← EReal.coe_one, ← EReal.coe_sub, ← EReal.coe_mul, ← EReal.coe_add]

/-- The derivative's rule agrees with it. -/
theorem dr_dk (d l : ℝ) : dr (d : EReal) (l : EReal) = dk (d : EReal) (l : EReal) := by
  rw [dk_coe]
  unfold dr
  rw [Finite.gate_coe]
  simp only [← EReal.coe_one, ← EReal.coe_sub, ← EReal.coe_mul, ← EReal.coe_add]
  exact congrArg _ (by ring)

end Cert.Proof.LRows

end
-- ==== Proof.MmOut.lean ====
module

public import proofs.«01_k».proof.Defs
public import proofs.«01_k».proof.Proof.Rows
public import proofs.«01_k».proof.Proof.LRows
public import proofs.«01_k».proof.Proof.Gen.KernelMmOutIdeal.Value
public import proofs.«01_k».proof.Proof.Gen.ReferenceMmOutIdeal
public import proofs.«01_k».proof.Proof.Gen.ReferenceMmOutIdeal.Run
public import Idealize.ShloMosaic.Lib.Pipeline.ValueKit
public import Idealize.ShloMosaic.Lib.Pointwise

@[expose] public section

set_option maxRecDepth 16384

noncomputable section

/-! The forward call out of the mixer: the second branch after its layer norm and activation, the output projection, the
residual stream after the mixer and the normed input of the next layer. -/

namespace Cert.Proof.WMmOut

open Idealize.ShloMosaic Idealize.ShloMosaic.TcCoe Idealize.SL.Sem

/-- A row of an array of two axes. -/
def row {n w : ℕ} (X : (⟨2, ![n, w]⟩ : Shape).Idx → EReal) (i : Fin n) : Fin w → EReal := fun k => X (ix2 i k)

section
open Cert.KernelMmOutIdeal Cert.KernelMmOutIdeal.Gen

variable (m : (ℓ : Loc nD τ sig) → Buf (Elt Ideal) ℓ) (c : Dev nD)

/-- The activation of a row of the scaled layer norm. -/
def sy (x g b : Fin 512 → EReal) (j : Fin 512) : EReal := LRows.ly x g b j * Ideal.div 1 (1 + Ideal.exp (0 - LRows.ly x g b j))

theorem sy_gate (x g b : Fin 512 → EReal) (j : Fin 512) : sy x g b j = LRows.ly x g b j * Finite.gate (LRows.ly x g b j) := by
  unfold sy Finite.gate
  rw [zero_sub]

/-- A row of the output projection, from the rows of the two branches. -/
def mx (a y : Fin 512 → EReal) (W : S1024x1024.Idx → EReal) (j : Fin 1024) : EReal :=
  ∑ k : Fin 512, a k * W (ix2 ⟨k.val, by omega⟩ j) + ∑ k : Fin 512, y k * W (ix2 ⟨512 + k.val, by omega⟩ j)

/-- A row of the residual stream with the normed row added. -/
def rs (h x g : Fin 1024 → EReal) (j : Fin 1024) : EReal := h j + x j * Rows.rn x * g j

/-- A normed row. -/
def nm (x g : Fin 1024 → EReal) (j : Fin 1024) : EReal := x j * Rows.rn x * g j

/-- The second branch in a part of a block. -/
theorem sy0 (x : S192x512.Idx → EReal) (g b : S1x512.Idx → EReal) (i : S192x512.Idx) :
    (k0_pay3 (F := Ideal) x g b i : EReal) = sy (row x (i 0)) (row g 0) (row b 0) (i 1) := by
  unfold sy
  unfold LRows.ly LRows.zh LRows.rl LRows.zc row LRows.sc LRows.ep
  pointwise [k0_pay3]

/-- The output projection in a part of a block. -/
theorem mx0 (y : S192x512.Idx → EReal) (a : S192x512.Idx → EReal) (w0 w1 : S512x1024.Idx → EReal) (i : S192x1024.Idx) :
    (k0_pay5 (F := Ideal) y (k0_pay4 (F := Ideal) a w0) w1 i : EReal) = ∑ k, row a (i 0) k * w0 (ix2 k (i 1)) + ∑ k, row y (i 0) k * w1 (ix2 k (i 1)) := by
  unfold row
  pointwise [k0_pay5, k0_pay4]

/-- The residual stream in a part of a block. -/
theorem rs0 (y : S192x512.Idx → EReal) (p : S192x1024.Idx → EReal) (w : S512x1024.Idx → EReal) (h : S192x1024.Idx → EReal) (g : S1x1024.Idx → EReal) (i : S192x1024.Idx) :
    (k0_pay6 (F := Ideal) y p w h g i : EReal) = rs (row h (i 0)) (row (k0_pay5 (F := Ideal) y p w ) (i 0)) (row g 0) (i 1) := by
  unfold rs Rows.rn row Rows.sc Rows.ep
  pointwise [k0_pay6]

/-- The normed residual stream in a part of a block. -/
theorem nm0 (y : S192x512.Idx → EReal) (p : S192x1024.Idx → EReal) (w : S512x1024.Idx → EReal) (h : S192x1024.Idx → EReal) (g : S1x1024.Idx → EReal) (f : S1x1024.Idx → EReal) (i : S192x1024.Idx) :
    (k0_pay7 (F := Ideal) y p w h g f i : EReal) = nm (row (k0_pay6 (F := Ideal) y p w h g) (i 0)) (row f 0) (i 1) := by
  unfold nm Rows.rn row Rows.sc Rows.ep
  pointwise [k0_pay7]

/-- The second branch in a part of a block. -/
theorem sy1 (x : S176x512.Idx → EReal) (g b : S1x512.Idx → EReal) (i : S176x512.Idx) :
    (k0_pay8 (F := Ideal) x g b i : EReal) = sy (row x (i 0)) (row g 0) (row b 0) (i 1) := by
  unfold sy
  unfold LRows.ly LRows.zh LRows.rl LRows.zc row LRows.sc LRows.ep
  pointwise [k0_pay8]

/-- The output projection in a part of a block. -/
theorem mx1 (y : S176x512.Idx → EReal) (a : S176x512.Idx → EReal) (w0 w1 : S512x1024.Idx → EReal) (i : S176x1024.Idx) :
    (k0_pay10 (F := Ideal) y (k0_pay9 (F := Ideal) a w0) w1 (constant (F := Ideal) S176x1024 .f32 0#32) i : EReal) = ∑ k, row a (i 0) k * w0 (ix2 k (i 1)) + ∑ k, row y (i 0) k * w1 (ix2 k (i 1)) := by
  unfold row
  pointwise [k0_pay10, k0_pay9]

/-- The residual stream in a part of a block. -/
theorem rs1 (y : S176x512.Idx → EReal) (p : S176x1024.Idx → EReal) (w : S512x1024.Idx → EReal) (h : S176x1024.Idx → EReal) (g : S1x1024.Idx → EReal) (i : S176x1024.Idx) :
    (k0_pay11 (F := Ideal) y p w (constant (F := Ideal) S176x1024 .f32 0#32) h g i : EReal) = rs (row h (i 0)) (row (k0_pay10 (F := Ideal) y p w (constant (F := Ideal) S176x1024 .f32 0#32)) (i 0)) (row g 0) (i 1) := by
  unfold rs Rows.rn row Rows.sc Rows.ep
  pointwise [k0_pay11]

/-- The normed residual stream in a part of a block. -/
theorem nm1 (y : S176x512.Idx → EReal) (p : S176x1024.Idx → EReal) (w : S512x1024.Idx → EReal) (h : S176x1024.Idx → EReal) (g : S1x1024.Idx → EReal) (f : S1x1024.Idx → EReal) (i : S176x1024.Idx) :
    (k0_pay12 (F := Ideal) y p w (constant (F := Ideal) S176x1024 .f32 0#32) h g f i : EReal) = nm (row (k0_pay11 (F := Ideal) y p w (constant (F := Ideal) S176x1024 .f32 0#32) h g) (i 0)) (row f 0) (i 1) := by
  unfold nm Rows.rn row Rows.sc Rows.ep
  pointwise [k0_pay12]

/-- The second branch in a part of a block. -/
theorem sy2 (x : S176x512.Idx → EReal) (g b : S1x512.Idx → EReal) (i : S176x512.Idx) :
    (k0_pay13 (F := Ideal) x g b i : EReal) = sy (row x (i 0)) (row g 0) (row b 0) (i 1) := by
  unfold sy
  unfold LRows.ly LRows.zh LRows.rl LRows.zc row LRows.sc LRows.ep
  pointwise [k0_pay13]

/-- The output projection in a part of a block. -/
theorem mx2 (x : S176x512.Idx → EReal) (g b : S1x512.Idx → EReal) (a : S176x512.Idx → EReal) (w0 w1 : S512x1024.Idx → EReal) (i : S176x1024.Idx) :
    (k0_pay14 (F := Ideal) x g b a w0 w1 i : EReal) = ∑ k, row a (i 0) k * w0 (ix2 k (i 1)) + ∑ k, row (k0_pay13 (F := Ideal) x g b) (i 0) k * w1 (ix2 k (i 1)) := by
  unfold row
  pointwise [k0_pay14]

/-- The residual stream in a part of a block. -/
theorem rs2 (v h : S176x1024.Idx → EReal) (g : S1x1024.Idx → EReal) (i : S176x1024.Idx) :
    (k0_pay1 (F := Ideal) v h g i : EReal) = rs (row h (i 0)) (row v (i 0)) (row g 0) (i 1) := by
  unfold rs Rows.rn row Rows.sc Rows.ep
  pointwise [k0_pay1]

/-- The normed residual stream in a part of a block. -/
theorem nm2 (v h : S176x1024.Idx → EReal) (g : S1x1024.Idx → EReal) (f : S1x1024.Idx → EReal) (i : S176x1024.Idx) :
    (k0_pay2 (F := Ideal) v h g f i : EReal) = nm (row (k0_pay1 (F := Ideal) v h g) (i 0)) (row f 0) (i 1) := by
  unfold nm Rows.rn row Rows.sc Rows.ep
  pointwise [k0_pay2]

/-- A row of a part of a block is a row of the block. -/
theorem ld0_512 (X : S544x512.Idx → EReal) (r : Fin 192) (q : Fin 544) (h : q.val = r.val) :
    row (n := 192) (w := 512) (View.ld (Val := Elt Ideal) (e' := .f32) X (Rect.unit ![0, 0] ![192, 512] inb_S544x512_S192x512_0_0)) r = row X q := by
  funext k
  unfold row
  pointwise
  blk_ext

/-- A row of a part of a block is a row of the block. -/
theorem ld0_1024 (X : S544x1024.Idx → EReal) (r : Fin 192) (q : Fin 544) (h : q.val = r.val) :
    row (n := 192) (w := 1024) (View.ld (Val := Elt Ideal) (e' := .f32) X (Rect.unit ![0, 0] ![192, 1024] inb_S544x1024_S192x1024_0_0)) r = row X q := by
  funext k
  unfold row
  pointwise
  blk_ext

/-- A row of a part of a block is a row of the block. -/
theorem ld192_512 (X : S544x512.Idx → EReal) (r : Fin 176) (q : Fin 544) (h : q.val = 192 + r.val) :
    row (n := 176) (w := 512) (View.ld (Val := Elt Ideal) (e' := .f32) X (Rect.unit ![192, 0] ![176, 512] inb_S544x512_S176x512_192_0)) r = row X q := by
  funext k
  unfold row
  pointwise
  blk_ext

/-- A row of a part of a block is a row of the block. -/
theorem ld192_1024 (X : S544x1024.Idx → EReal) (r : Fin 176) (q : Fin 544) (h : q.val = 192 + r.val) :
    row (n := 176) (w := 1024) (View.ld (Val := Elt Ideal) (e' := .f32) X (Rect.unit ![192, 0] ![176, 1024] inb_S544x1024_S176x1024_192_0)) r = row X q := by
  funext k
  unfold row
  pointwise
  blk_ext

/-- A row of a part of a block is a row of the block. -/
theorem ld368_512 (X : S544x512.Idx → EReal) (r : Fin 176) (q : Fin 544) (h : q.val = 368 + r.val) :
    row (n := 176) (w := 512) (View.ld (Val := Elt Ideal) (e' := .f32) X (Rect.unit ![368, 0] ![176, 512] inb_S544x512_S176x512_368_0)) r = row X q := by
  funext k
  unfold row
  pointwise
  blk_ext

/-- A row of a part of a block is a row of the block. -/
theorem ld368_1024 (X : S544x1024.Idx → EReal) (r : Fin 176) (q : Fin 544) (h : q.val = 368 + r.val) :
    row (n := 176) (w := 1024) (View.ld (Val := Elt Ideal) (e' := .f32) X (Rect.unit ![368, 0] ![176, 1024] inb_S544x1024_S176x1024_368_0)) r = row X q := by
  funext k
  unfold row
  pointwise
  blk_ext

theorem wa (W : S1024x1024.Idx → EReal) (k : Fin 512) (j : Fin 1024) :
    (View.ld (Val := Elt Ideal) (e' := .f32) W (Rect.unit ![0, 0] ![512, 1024] inb_S1024x1024_S512x1024_0_0) (ix2 k j) : EReal) = W (ix2 ⟨k.val, by omega⟩ j) := by
  pointwise
  blk_ext

theorem wb (W : S1024x1024.Idx → EReal) (k : Fin 512) (j : Fin 1024) :
    (View.ld (Val := Elt Ideal) (e' := .f32) W (Rect.unit ![512, 0] ![512, 1024] inb_S1024x1024_S512x1024_512_0) (ix2 k j) : EReal) = W (ix2 ⟨512 + k.val, by omega⟩ j) := by
  pointwise
  blk_ext

/-- Rows of the second branch in a part of a block. -/
theorem yr0 (Z : S544x512.Idx → EReal) (g b : S1x512.Idx → EReal) (r : Fin 192) (q : Fin 544) (h : q.val = r.val) :
    row (n := 192) (w := 512) (k0_pay3 (F := Ideal) (View.ld (Val := Elt Ideal) (e' := .f32) Z (Rect.unit ![0, 0] ![192, 512] inb_S544x512_S192x512_0_0)) g b) r = sy (row Z q) (row g 0) (row b 0) := by
  funext j
  refine (sy0 _ _ _ (ix2 r j)).trans ?_
  exact congrFun (congrArg (fun z => sy z (row g 0) (row b 0)) (ld0_512 Z r q h)) j

/-- Rows of the output projection in a part of a block. -/
theorem mr0 (A Z : S544x512.Idx → EReal) (W : S1024x1024.Idx → EReal) (g b : S1x512.Idx → EReal) (r : Fin 192) (q : Fin 544) (h : q.val = r.val) :
    row (n := 192) (w := 1024) (k0_pay5 (F := Ideal) (k0_pay3 (F := Ideal) (View.ld (Val := Elt Ideal) (e' := .f32) Z (Rect.unit ![0, 0] ![192, 512] inb_S544x512_S192x512_0_0)) g b) (k0_pay4 (F := Ideal) (View.ld (Val := Elt Ideal) (e' := .bf16) A (Rect.unit ![0, 0] ![192, 512] inb_S544x512_S192x512_0_0)) (View.ld (Val := Elt Ideal) (e' := .bf16) W (Rect.unit ![0, 0] ![512, 1024] inb_S1024x1024_S512x1024_0_0))) (View.ld (Val := Elt Ideal) (e' := .bf16) W (Rect.unit ![512, 0] ![512, 1024] inb_S1024x1024_S512x1024_512_0))) r = mx (row A q) (sy (row Z q) (row g 0) (row b 0)) W := by
  funext j
  refine (mx0 _ _ _ _ (ix2 r j)).trans ?_
  unfold mx
  refine congrArg₂ (· + ·) (Finset.sum_congr rfl fun k _ => congrArg₂ (· * ·) ?_ (wa W k j)) (Finset.sum_congr rfl fun k _ => congrArg₂ (· * ·) ?_ (wb W k j))
  · exact congrFun (ld0_512 A r q h) k
  · exact congrFun (yr0 Z g b r q h) k

/-- Rows of the residual stream in a part of a block. -/
theorem hr0 (A Z : S544x512.Idx → EReal) (W : S1024x1024.Idx → EReal) (g b : S1x512.Idx → EReal) (H : S544x1024.Idx → EReal) (p : S1x1024.Idx → EReal) (r : Fin 192) (q : Fin 544) (h : q.val = r.val) :
    row (n := 192) (w := 1024) (k0_pay6 (F := Ideal) (k0_pay3 (F := Ideal) (View.ld (Val := Elt Ideal) (e' := .f32) Z (Rect.unit ![0, 0] ![192, 512] inb_S544x512_S192x512_0_0)) g b) (k0_pay4 (F := Ideal) (View.ld (Val := Elt Ideal) (e' := .bf16) A (Rect.unit ![0, 0] ![192, 512] inb_S544x512_S192x512_0_0)) (View.ld (Val := Elt Ideal) (e' := .bf16) W (Rect.unit ![0, 0] ![512, 1024] inb_S1024x1024_S512x1024_0_0))) (View.ld (Val := Elt Ideal) (e' := .bf16) W (Rect.unit ![512, 0] ![512, 1024] inb_S1024x1024_S512x1024_512_0)) (View.ld (Val := Elt Ideal) (e' := .f32) H (Rect.unit ![0, 0] ![192, 1024] inb_S544x1024_S192x1024_0_0)) p) r = rs (row H q) (mx (row A q) (sy (row Z q) (row g 0) (row b 0)) W) (row p 0) := by
  funext j
  refine (rs0 _ _ _ _ _ (ix2 r j)).trans ?_
  exact congrFun (congrArg₂ (fun h z => rs h z (row p 0)) (ld0_1024 H r q h) (mr0 A Z W g b r q h)) j

/-- Rows of the second branch in a part of a block. -/
theorem yr1 (Z : S544x512.Idx → EReal) (g b : S1x512.Idx → EReal) (r : Fin 176) (q : Fin 544) (h : q.val = 192 + r.val) :
    row (n := 176) (w := 512) (k0_pay8 (F := Ideal) (View.ld (Val := Elt Ideal) (e' := .f32) Z (Rect.unit ![192, 0] ![176, 512] inb_S544x512_S176x512_192_0)) g b) r = sy (row Z q) (row g 0) (row b 0) := by
  funext j
  refine (sy1 _ _ _ (ix2 r j)).trans ?_
  exact congrFun (congrArg (fun z => sy z (row g 0) (row b 0)) (ld192_512 Z r q h)) j

/-- Rows of the output projection in a part of a block. -/
theorem mr1 (A Z : S544x512.Idx → EReal) (W : S1024x1024.Idx → EReal) (g b : S1x512.Idx → EReal) (r : Fin 176) (q : Fin 544) (h : q.val = 192 + r.val) :
    row (n := 176) (w := 1024) (k0_pay10 (F := Ideal) (k0_pay8 (F := Ideal) (View.ld (Val := Elt Ideal) (e' := .f32) Z (Rect.unit ![192, 0] ![176, 512] inb_S544x512_S176x512_192_0)) g b) (k0_pay9 (F := Ideal) (View.ld (Val := Elt Ideal) (e' := .bf16) A (Rect.unit ![192, 0] ![176, 512] inb_S544x512_S176x512_192_0)) (View.ld (Val := Elt Ideal) (e' := .bf16) W (Rect.unit ![0, 0] ![512, 1024] inb_S1024x1024_S512x1024_0_0))) (View.ld (Val := Elt Ideal) (e' := .bf16) W (Rect.unit ![512, 0] ![512, 1024] inb_S1024x1024_S512x1024_512_0)) (constant (F := Ideal) S176x1024 .f32 0#32)) r = mx (row A q) (sy (row Z q) (row g 0) (row b 0)) W := by
  funext j
  refine (mx1 _ _ _ _ (ix2 r j)).trans ?_
  unfold mx
  refine congrArg₂ (· + ·) (Finset.sum_congr rfl fun k _ => congrArg₂ (· * ·) ?_ (wa W k j)) (Finset.sum_congr rfl fun k _ => congrArg₂ (· * ·) ?_ (wb W k j))
  · exact congrFun (ld192_512 A r q h) k
  · exact congrFun (yr1 Z g b r q h) k

/-- Rows of the residual stream in a part of a block. -/
theorem hr1 (A Z : S544x512.Idx → EReal) (W : S1024x1024.Idx → EReal) (g b : S1x512.Idx → EReal) (H : S544x1024.Idx → EReal) (p : S1x1024.Idx → EReal) (r : Fin 176) (q : Fin 544) (h : q.val = 192 + r.val) :
    row (n := 176) (w := 1024) (k0_pay11 (F := Ideal) (k0_pay8 (F := Ideal) (View.ld (Val := Elt Ideal) (e' := .f32) Z (Rect.unit ![192, 0] ![176, 512] inb_S544x512_S176x512_192_0)) g b) (k0_pay9 (F := Ideal) (View.ld (Val := Elt Ideal) (e' := .bf16) A (Rect.unit ![192, 0] ![176, 512] inb_S544x512_S176x512_192_0)) (View.ld (Val := Elt Ideal) (e' := .bf16) W (Rect.unit ![0, 0] ![512, 1024] inb_S1024x1024_S512x1024_0_0))) (View.ld (Val := Elt Ideal) (e' := .bf16) W (Rect.unit ![512, 0] ![512, 1024] inb_S1024x1024_S512x1024_512_0)) (constant (F := Ideal) S176x1024 .f32 0#32) (View.ld (Val := Elt Ideal) (e' := .f32) H (Rect.unit ![192, 0] ![176, 1024] inb_S544x1024_S176x1024_192_0)) p) r = rs (row H q) (mx (row A q) (sy (row Z q) (row g 0) (row b 0)) W) (row p 0) := by
  funext j
  refine (rs1 _ _ _ _ _ (ix2 r j)).trans ?_
  exact congrFun (congrArg₂ (fun h z => rs h z (row p 0)) (ld192_1024 H r q h) (mr1 A Z W g b r q h)) j

/-- Rows of the second branch in a part of a block. -/
theorem yr2 (Z : S544x512.Idx → EReal) (g b : S1x512.Idx → EReal) (r : Fin 176) (q : Fin 544) (h : q.val = 368 + r.val) :
    row (n := 176) (w := 512) (k0_pay13 (F := Ideal) (View.ld (Val := Elt Ideal) (e' := .f32) Z (Rect.unit ![368, 0] ![176, 512] inb_S544x512_S176x512_368_0)) g b) r = sy (row Z q) (row g 0) (row b 0) := by
  funext j
  refine (sy2 _ _ _ (ix2 r j)).trans ?_
  exact congrFun (congrArg (fun z => sy z (row g 0) (row b 0)) (ld368_512 Z r q h)) j

/-- Rows of the output projection in a part of a block. -/
theorem mr2 (A Z : S544x512.Idx → EReal) (W : S1024x1024.Idx → EReal) (g b : S1x512.Idx → EReal) (r : Fin 176) (q : Fin 544) (h : q.val = 368 + r.val) :
    row (n := 176) (w := 1024) (k0_pay14 (F := Ideal) (View.ld (Val := Elt Ideal) (e' := .f32) Z (Rect.unit ![368, 0] ![176, 512] inb_S544x512_S176x512_368_0)) g b (View.ld (Val := Elt Ideal) (e' := .bf16) A (Rect.unit ![368, 0] ![176, 512] inb_S544x512_S176x512_368_0)) (View.ld (Val := Elt Ideal) (e' := .bf16) W (Rect.unit ![0, 0] ![512, 1024] inb_S1024x1024_S512x1024_0_0)) (View.ld (Val := Elt Ideal) (e' := .bf16) W (Rect.unit ![512, 0] ![512, 1024] inb_S1024x1024_S512x1024_512_0))) r = mx (row A q) (sy (row Z q) (row g 0) (row b 0)) W := by
  funext j
  refine (mx2 _ _ _ _ _ _ (ix2 r j)).trans ?_
  unfold mx
  refine congrArg₂ (· + ·) (Finset.sum_congr rfl fun k _ => congrArg₂ (· * ·) ?_ (wa W k j)) (Finset.sum_congr rfl fun k _ => congrArg₂ (· * ·) ?_ (wb W k j))
  · exact congrFun (ld368_512 A r q h) k
  · exact congrFun (yr2 Z g b r q h) k

/-- Rows of the residual stream in a part of a block. -/
theorem hr2 (A Z : S544x512.Idx → EReal) (W : S1024x1024.Idx → EReal) (g b : S1x512.Idx → EReal) (H : S544x1024.Idx → EReal) (p : S1x1024.Idx → EReal) (r : Fin 176) (q : Fin 544) (h : q.val = 368 + r.val) :
    row (n := 176) (w := 1024) (k0_pay1 (F := Ideal) (k0_pay14 (F := Ideal) (View.ld (Val := Elt Ideal) (e' := .f32) Z (Rect.unit ![368, 0] ![176, 512] inb_S544x512_S176x512_368_0)) g b (View.ld (Val := Elt Ideal) (e' := .bf16) A (Rect.unit ![368, 0] ![176, 512] inb_S544x512_S176x512_368_0)) (View.ld (Val := Elt Ideal) (e' := .bf16) W (Rect.unit ![0, 0] ![512, 1024] inb_S1024x1024_S512x1024_0_0)) (View.ld (Val := Elt Ideal) (e' := .bf16) W (Rect.unit ![512, 0] ![512, 1024] inb_S1024x1024_S512x1024_512_0))) (View.ld (Val := Elt Ideal) (e' := .f32) H (Rect.unit ![368, 0] ![176, 1024] inb_S544x1024_S176x1024_368_0)) p) r = rs (row H q) (mx (row A q) (sy (row Z q) (row g 0) (row b 0)) W) (row p 0) := by
  funext j
  refine (rs2 _ _ _ (ix2 r j)).trans ?_
  exact congrFun (congrArg₂ (fun h z => rs h z (row p 0)) (ld368_1024 H r q h) (mr2 A Z W g b r q h)) j

/-- The three parts cover the block. -/
theorem cov8 (p1 p2 : S176x512.Idx → Elt Ideal .bf16) (p3 : S192x512.Idx → Elt Ideal .bf16) (y : S544x512.Idx) :
    ∃ p ∈ ([⟨Rect.unit ![368, 0] ![176, 512] inb_S544x512_S176x512_368_0, p1⟩, ⟨Rect.unit ![192, 0] ![176, 512] inb_S544x512_S176x512_192_0, p2⟩, ⟨Rect.unit ![0, 0] ![192, 512] inb_S544x512_S192x512_0_0, p3⟩] : List (View.Piece (Elt Ideal) S544x512 .bf16)),
      y ∈ p.1.set :=
  View.cover_of_tiledBy _ ![16, 512] (by sl_kernel_rfl) y

/-- The three parts cover the block. -/
theorem cov9 (p1 p2 : S176x1024.Idx → Elt Ideal .f32) (p3 : S192x1024.Idx → Elt Ideal .f32) (y : S544x1024.Idx) :
    ∃ p ∈ ([⟨Rect.unit ![368, 0] ![176, 1024] inb_S544x1024_S176x1024_368_0, p1⟩, ⟨Rect.unit ![192, 0] ![176, 1024] inb_S544x1024_S176x1024_192_0, p2⟩, ⟨Rect.unit ![0, 0] ![192, 1024] inb_S544x1024_S192x1024_0_0, p3⟩] : List (View.Piece (Elt Ideal) S544x1024 .f32)),
      y ∈ p.1.set :=
  View.cover_of_tiledBy _ ![16, 1024] (by sl_kernel_rfl) y

/-- The three parts cover the block. -/
theorem cov11 (p1 p2 : S176x1024.Idx → Elt Ideal .bf16) (p3 : S192x1024.Idx → Elt Ideal .bf16) (y : S544x1024.Idx) :
    ∃ p ∈ ([⟨Rect.unit ![368, 0] ![176, 1024] inb_S544x1024_S176x1024_368_0, p1⟩, ⟨Rect.unit ![192, 0] ![176, 1024] inb_S544x1024_S176x1024_192_0, p2⟩, ⟨Rect.unit ![0, 0] ![192, 1024] inb_S544x1024_S192x1024_0_0, p3⟩] : List (View.Piece (Elt Ideal) S544x1024 .bf16)),
      y ∈ p.1.set :=
  View.cover_of_tiledBy _ ![16, 1024] (by sl_kernel_rfl) y

/-- What a point leaves in the second branch. -/
theorem at8 (t : Fin cfg0.N) (y : S544x512.Idx) : ((outsAt0 m c t).1 y : EReal) = sy (row (n := 544) (w := 512) (iblk m c 1 t) (y 0)) (row (n := 1) (w := 512) (iblk m c 4 t) 0) (row (n := 1) (w := 512) (iblk m c 5 t) 0) (y 1) := by
  unfold outsAt0
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_out
  canon_tiles x h using cov8 _ _ _ y
  · exact ((sy2 _ _ _ x).trans (sy2 _ _ _ (ix2 (x 0) (x 1))).symm).trans <| (congrFun (yr2 x1 x4 x5 (x 0) (y 0) h0) (x 1)).trans (congrArg _ (Fin.ext h1.symm))
  · exact ((sy1 _ _ _ x).trans (sy1 _ _ _ (ix2 (x 0) (x 1))).symm).trans <| (congrFun (yr1 x1 x4 x5 (x 0) (y 0) h0) (x 1)).trans (congrArg _ (Fin.ext h1.symm))
  · exact ((sy0 _ _ _ x).trans (sy0 _ _ _ (ix2 (x 0) (x 1))).symm).trans <| (congrFun (yr0 x1 x4 x5 (x 0) (y 0) h0) (x 1)).trans (congrArg _ (Fin.ext h1.symm))

/-- What a point leaves in the output projection. -/
theorem at9 (t : Fin cfg0.N) (y : S544x1024.Idx) : ((outsAt0 m c t).2.1 y : EReal) = mx (row (n := 544) (w := 512) (iblk m c 0 t) (y 0)) (sy (row (n := 544) (w := 512) (iblk m c 1 t) (y 0)) (row (n := 1) (w := 512) (iblk m c 4 t) 0) (row (n := 1) (w := 512) (iblk m c 5 t) 0)) (iblk m c 3 t) (y 1) := by
  unfold outsAt0
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_out
  canon_tiles x h using cov9 _ _ _ y
  · exact ((mx2 _ _ _ _ _ _ x).trans (mx2 _ _ _ _ _ _ (ix2 (x 0) (x 1))).symm).trans <| (congrFun (mr2 x0 x1 x3 x4 x5 (x 0) (y 0) h0) (x 1)).trans (congrArg _ (Fin.ext h1.symm))
  · exact ((mx1 _ _ _ _ x).trans (mx1 _ _ _ _ (ix2 (x 0) (x 1))).symm).trans <| (congrFun (mr1 x0 x1 x3 x4 x5 (x 0) (y 0) h0) (x 1)).trans (congrArg _ (Fin.ext h1.symm))
  · exact ((mx0 _ _ _ _ x).trans (mx0 _ _ _ _ (ix2 (x 0) (x 1))).symm).trans <| (congrFun (mr0 x0 x1 x3 x4 x5 (x 0) (y 0) h0) (x 1)).trans (congrArg _ (Fin.ext h1.symm))

/-- What a point leaves in the residual stream. -/
theorem at10 (t : Fin cfg0.N) (y : S544x1024.Idx) : ((outsAt0 m c t).2.2.1 y : EReal) = rs (row (n := 544) (w := 1024) (iblk m c 2 t) (y 0)) (mx (row (n := 544) (w := 512) (iblk m c 0 t) (y 0)) (sy (row (n := 544) (w := 512) (iblk m c 1 t) (y 0)) (row (n := 1) (w := 512) (iblk m c 4 t) 0) (row (n := 1) (w := 512) (iblk m c 5 t) 0)) (iblk m c 3 t)) (row (n := 1) (w := 1024) (iblk m c 6 t) 0) (y 1) := by
  unfold outsAt0
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_out
  canon_tiles x h using cov9 _ _ _ y
  · exact ((rs2 _ _ _ x).trans (rs2 _ _ _ (ix2 (x 0) (x 1))).symm).trans <| (congrFun (hr2 x0 x1 x3 x4 x5 x2 x6 (x 0) (y 0) h0) (x 1)).trans (congrArg _ (Fin.ext h1.symm))
  · exact ((rs1 _ _ _ _ _ x).trans (rs1 _ _ _ _ _ (ix2 (x 0) (x 1))).symm).trans <| (congrFun (hr1 x0 x1 x3 x4 x5 x2 x6 (x 0) (y 0) h0) (x 1)).trans (congrArg _ (Fin.ext h1.symm))
  · exact ((rs0 _ _ _ _ _ x).trans (rs0 _ _ _ _ _ (ix2 (x 0) (x 1))).symm).trans <| (congrFun (hr0 x0 x1 x3 x4 x5 x2 x6 (x 0) (y 0) h0) (x 1)).trans (congrArg _ (Fin.ext h1.symm))

/-- What a point leaves in the normed residual stream. -/
theorem at11 (t : Fin cfg0.N) (y : S544x1024.Idx) : ((outsAt0 m c t).2.2.2 y : EReal) = nm (rs (row (n := 544) (w := 1024) (iblk m c 2 t) (y 0)) (mx (row (n := 544) (w := 512) (iblk m c 0 t) (y 0)) (sy (row (n := 544) (w := 512) (iblk m c 1 t) (y 0)) (row (n := 1) (w := 512) (iblk m c 4 t) 0) (row (n := 1) (w := 512) (iblk m c 5 t) 0)) (iblk m c 3 t)) (row (n := 1) (w := 1024) (iblk m c 6 t) 0)) (row (n := 1) (w := 1024) (iblk m c 7 t) 0) (y 1) := by
  unfold outsAt0
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_out
  canon_tiles x h using cov11 _ _ _ y
  · refine (nm2 _ _ _ _ x).trans ?_
    rw [hr2 x0 x1 x3 x4 x5 x2 x6 (x 0) (y 0) h0]
    exact congrArg _ (Fin.ext h1.symm)
  · refine (nm1 _ _ _ _ _ _ x).trans ?_
    rw [hr1 x0 x1 x3 x4 x5 x2 x6 (x 0) (y 0) h0]
    exact congrArg _ (Fin.ext h1.symm)
  · refine (nm0 _ _ _ _ _ _ x).trans ?_
    rw [hr0 x0 x1 x3 x4 x5 x2 x6 (x 0) (y 0) h0]
    exact congrArg _ (Fin.ext h1.symm)

end
end Cert.Proof.WMmOut
end
-- ==== Proof.WMmOut.lean ====
module

public import proofs.«01_k».proof.Proof.MmOut

@[expose] public section

set_option maxRecDepth 16384

noncomputable section

/-! The forward call out of the mixer: what the run leaves in its four results, and that the forward lines leave the same. -/

namespace Cert.Proof.WMmOut

open Idealize.ShloMosaic Idealize.ShloMosaic.TcCoe Idealize.SL.Sem

section
open Cert.KernelMmOutIdeal Cert.KernelMmOutIdeal.Gen

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel

/-- A row of a point's block is a row of the argument. -/
theorem br0 (t : Fin cfg0.N) (r : Fin 544) (l : Fin 2176) (h : l.val = t.val * 544 + r.val) :
    row (n := 544) (w := 512) (iblk m c 0 t) r = (row (n := 2176) (w := 512) (m ((c : Thread nD τ).loc main_arg0)) l) := by
  funext k
  refine Eq.trans ?_ (congrFun (V_main_arg0 m c) _)
  unfold row
  blk_ext [iblk, idx0 t]

/-- A row of a point's block is a row of the argument. -/
theorem br1 (t : Fin cfg0.N) (r : Fin 544) (l : Fin 2176) (h : l.val = t.val * 544 + r.val) :
    row (n := 544) (w := 512) (iblk m c 1 t) r = (row (n := 2176) (w := 512) (m ((c : Thread nD τ).loc main_arg1)) l) := by
  funext k
  refine Eq.trans ?_ (congrFun (V_main_arg1 m c) _)
  unfold row
  blk_ext [iblk, idx1 t]

/-- A row of a point's block is a row of the argument. -/
theorem br2 (t : Fin cfg0.N) (r : Fin 544) (l : Fin 2176) (h : l.val = t.val * 544 + r.val) :
    row (n := 544) (w := 1024) (iblk m c 2 t) r = (row (n := 2176) (w := 1024) (m ((c : Thread nD τ).loc main_arg2)) l) := by
  funext k
  refine Eq.trans ?_ (congrFun (V_main_arg2 m c) _)
  unfold row
  blk_ext [iblk, idx2 t]

theorem wh3 (t : Fin cfg0.N) : (iblk m c 3 t : S1024x1024.Idx → EReal) = (m ((c : Thread nD τ).loc main_arg3)) := by
  funext k
  refine Eq.trans ?_ (congrFun (V_main_arg3 m c) _)
  blk_ext [iblk, idx3 t]

theorem br4 (t : Fin cfg0.N) : row (n := 1) (w := 512) (iblk m c 4 t) 0 = (row (n := 1) (w := 512) (m ((c : Thread nD τ).loc main_arg4)) 0) := by
  funext k
  refine Eq.trans ?_ (congrFun (V_main_arg4 m c) _)
  unfold row
  blk_ext [iblk, idx4 t]

theorem br5 (t : Fin cfg0.N) : row (n := 1) (w := 512) (iblk m c 5 t) 0 = (row (n := 1) (w := 512) (m ((c : Thread nD τ).loc main_arg5)) 0) := by
  funext k
  refine Eq.trans ?_ (congrFun (V_main_arg5 m c) _)
  unfold row
  blk_ext [iblk, idx5 t]

theorem br6 (t : Fin cfg0.N) : row (n := 1) (w := 1024) (iblk m c 6 t) 0 = (row (n := 1) (w := 1024) (m ((c : Thread nD τ).loc main_arg6)) 0) := by
  funext k
  refine Eq.trans ?_ (congrFun (V_main_arg6 m c) _)
  unfold row
  blk_ext [iblk, idx6 t]

theorem br7 (t : Fin cfg0.N) : row (n := 1) (w := 1024) (iblk m c 7 t) 0 = (row (n := 1) (w := 1024) (m ((c : Thread nD τ).loc main_arg7)) 0) := by
  funext k
  refine Eq.trans ?_ (congrFun (V_main_arg7 m c) _)
  unfold row
  blk_ext [iblk, idx7 t]

theorem i81 (t : Fin cfg0.N) : win0_8.index t 1 = 0 := congrFun (idx8 t) 1

/-- The second branch, as an array. -/
def gy (i : S2176x512.Idx) : EReal := sy (row (n := 2176) (w := 512) (m ((c : Thread nD τ).loc main_arg1)) (i 0)) (row (n := 1) (w := 512) (m ((c : Thread nD τ).loc main_arg4)) 0) (row (n := 1) (w := 512) (m ((c : Thread nD τ).loc main_arg5)) 0) (i 1)

theorem bt8 (t : Fin cfg0.N) (y : S544x512.Idx) (l : Fin 2176) (h : l.val = t.val * 544 + (y 0).val) :
    ((outsAt0 m c t).1 y : EReal) = sy (row (n := 2176) (w := 512) (m ((c : Thread nD τ).loc main_arg1)) l) (row (n := 1) (w := 512) (m ((c : Thread nD τ).loc main_arg4)) 0) (row (n := 1) (w := 512) (m ((c : Thread nD τ).loc main_arg5)) 0) (y 1) := by
  refine (at8 m c t y).trans ?_
  rw [br1 m c t (y 0) l h, br4, br5]

theorem ct8 (t : Fin cfg0.N) (y : S544x512.Idx) (i : S2176x512.Idx) (h0 : (i 0).val = t.val * 544 + (y 0).val) (h1 : (i 1).val = (y 1).val) :
    ((outsAt0 m c t).1 y : EReal) = gy m c i := by
  have e : i 1 = y 1 := Fin.ext h1
  unfold gy
  rw [e]
  exact bt8 m c t y _ h0

/-- The second branch after the run. -/
theorem final8 : (dats m 0 c).arrAt 8 cfg0.N = gy m c := by
  refine (dats m 0 c).arrAt_eq_of_covers 8 _ (by decide +kernel) fun t hf y => ?_
  rw [after0_8]
  refine ct8 m c t _ _ ?_ ?_
  · rw [Pipeline.Window.xinj_val]
    blk_simp [idx8 t]
    try rfl
  · rw [Pipeline.Window.xinj_val]
    blk_simp
    rw [i81 t, Nat.zero_mul, Nat.zero_add]

theorem i91 (t : Fin cfg0.N) : win0_9.index t 1 = 0 := congrFun (idx9 t) 1

/-- The output projection, as an array. -/
def gm (i : S2176x1024.Idx) : EReal := mx (row (n := 2176) (w := 512) (m ((c : Thread nD τ).loc main_arg0)) (i 0)) (sy (row (n := 2176) (w := 512) (m ((c : Thread nD τ).loc main_arg1)) (i 0)) (row (n := 1) (w := 512) (m ((c : Thread nD τ).loc main_arg4)) 0) (row (n := 1) (w := 512) (m ((c : Thread nD τ).loc main_arg5)) 0)) (m ((c : Thread nD τ).loc main_arg3)) (i 1)

theorem bt9 (t : Fin cfg0.N) (y : S544x1024.Idx) (l : Fin 2176) (h : l.val = t.val * 544 + (y 0).val) :
    ((outsAt0 m c t).2.1 y : EReal) = mx (row (n := 2176) (w := 512) (m ((c : Thread nD τ).loc main_arg0)) l) (sy (row (n := 2176) (w := 512) (m ((c : Thread nD τ).loc main_arg1)) l) (row (n := 1) (w := 512) (m ((c : Thread nD τ).loc main_arg4)) 0) (row (n := 1) (w := 512) (m ((c : Thread nD τ).loc main_arg5)) 0)) (m ((c : Thread nD τ).loc main_arg3)) (y 1) := by
  refine (at9 m c t y).trans ?_
  rw [br0 m c t (y 0) l h, br1 m c t (y 0) l h, br4, br5, wh3]

theorem ct9 (t : Fin cfg0.N) (y : S544x1024.Idx) (i : S2176x1024.Idx) (h0 : (i 0).val = t.val * 544 + (y 0).val) (h1 : (i 1).val = (y 1).val) :
    ((outsAt0 m c t).2.1 y : EReal) = gm m c i := by
  have e : i 1 = y 1 := Fin.ext h1
  unfold gm
  rw [e]
  exact bt9 m c t y _ h0

/-- The output projection after the run. -/
theorem final9 : (dats m 0 c).arrAt 9 cfg0.N = gm m c := by
  refine (dats m 0 c).arrAt_eq_of_covers 9 _ (by decide +kernel) fun t hf y => ?_
  rw [after0_9]
  refine ct9 m c t _ _ ?_ ?_
  · rw [Pipeline.Window.xinj_val]
    blk_simp [idx9 t]
    try rfl
  · rw [Pipeline.Window.xinj_val]
    blk_simp
    rw [i91 t, Nat.zero_mul, Nat.zero_add]

theorem i101 (t : Fin cfg0.N) : win0_10.index t 1 = 0 := congrFun (idx10 t) 1

/-- The residual stream, as an array. -/
def gh (i : S2176x1024.Idx) : EReal := rs (row (n := 2176) (w := 1024) (m ((c : Thread nD τ).loc main_arg2)) (i 0)) (mx (row (n := 2176) (w := 512) (m ((c : Thread nD τ).loc main_arg0)) (i 0)) (sy (row (n := 2176) (w := 512) (m ((c : Thread nD τ).loc main_arg1)) (i 0)) (row (n := 1) (w := 512) (m ((c : Thread nD τ).loc main_arg4)) 0) (row (n := 1) (w := 512) (m ((c : Thread nD τ).loc main_arg5)) 0)) (m ((c : Thread nD τ).loc main_arg3))) (row (n := 1) (w := 1024) (m ((c : Thread nD τ).loc main_arg6)) 0) (i 1)

theorem bt10 (t : Fin cfg0.N) (y : S544x1024.Idx) (l : Fin 2176) (h : l.val = t.val * 544 + (y 0).val) :
    ((outsAt0 m c t).2.2.1 y : EReal) = rs (row (n := 2176) (w := 1024) (m ((c : Thread nD τ).loc main_arg2)) l) (mx (row (n := 2176) (w := 512) (m ((c : Thread nD τ).loc main_arg0)) l) (sy (row (n := 2176) (w := 512) (m ((c : Thread nD τ).loc main_arg1)) l) (row (n := 1) (w := 512) (m ((c : Thread nD τ).loc main_arg4)) 0) (row (n := 1) (w := 512) (m ((c : Thread nD τ).loc main_arg5)) 0)) (m ((c : Thread nD τ).loc main_arg3))) (row (n := 1) (w := 1024) (m ((c : Thread nD τ).loc main_arg6)) 0) (y 1) := by
  refine (at10 m c t y).trans ?_
  rw [br2 m c t (y 0) l h, br0 m c t (y 0) l h, br1 m c t (y 0) l h, br4, br5, wh3, br6]

theorem ct10 (t : Fin cfg0.N) (y : S544x1024.Idx) (i : S2176x1024.Idx) (h0 : (i 0).val = t.val * 544 + (y 0).val) (h1 : (i 1).val = (y 1).val) :
    ((outsAt0 m c t).2.2.1 y : EReal) = gh m c i := by
  have e : i 1 = y 1 := Fin.ext h1
  unfold gh
  rw [e]
  exact bt10 m c t y _ h0

/-- The residual stream after the run. -/
theorem final10 : (dats m 0 c).arrAt 10 cfg0.N = gh m c := by
  refine (dats m 0 c).arrAt_eq_of_covers 10 _ (by decide +kernel) fun t hf y => ?_
  rw [after0_10]
  refine ct10 m c t _ _ ?_ ?_
  · rw [Pipeline.Window.xinj_val]
    blk_simp [idx10 t]
    try rfl
  · rw [Pipeline.Window.xinj_val]
    blk_simp
    rw [i101 t, Nat.zero_mul, Nat.zero_add]

theorem i111 (t : Fin cfg0.N) : win0_11.index t 1 = 0 := congrFun (idx11 t) 1

/-- The normed residual stream, as an array. -/
def gn (i : S2176x1024.Idx) : EReal := nm (rs (row (n := 2176) (w := 1024) (m ((c : Thread nD τ).loc main_arg2)) (i 0)) (mx (row (n := 2176) (w := 512) (m ((c : Thread nD τ).loc main_arg0)) (i 0)) (sy (row (n := 2176) (w := 512) (m ((c : Thread nD τ).loc main_arg1)) (i 0)) (row (n := 1) (w := 512) (m ((c : Thread nD τ).loc main_arg4)) 0) (row (n := 1) (w := 512) (m ((c : Thread nD τ).loc main_arg5)) 0)) (m ((c : Thread nD τ).loc main_arg3))) (row (n := 1) (w := 1024) (m ((c : Thread nD τ).loc main_arg6)) 0)) (row (n := 1) (w := 1024) (m ((c : Thread nD τ).loc main_arg7)) 0) (i 1)

theorem bt11 (t : Fin cfg0.N) (y : S544x1024.Idx) (l : Fin 2176) (h : l.val = t.val * 544 + (y 0).val) :
    ((outsAt0 m c t).2.2.2 y : EReal) = nm (rs (row (n := 2176) (w := 1024) (m ((c : Thread nD τ).loc main_arg2)) l) (mx (row (n := 2176) (w := 512) (m ((c : Thread nD τ).loc main_arg0)) l) (sy (row (n := 2176) (w := 512) (m ((c : Thread nD τ).loc main_arg1)) l) (row (n := 1) (w := 512) (m ((c : Thread nD τ).loc main_arg4)) 0) (row (n := 1) (w := 512) (m ((c : Thread nD τ).loc main_arg5)) 0)) (m ((c : Thread nD τ).loc main_arg3))) (row (n := 1) (w := 1024) (m ((c : Thread nD τ).loc main_arg6)) 0)) (row (n := 1) (w := 1024) (m ((c : Thread nD τ).loc main_arg7)) 0) (y 1) := by
  refine (at11 m c t y).trans ?_
  rw [br2 m c t (y 0) l h, br0 m c t (y 0) l h, br1 m c t (y 0) l h, br4, br5, wh3, br6, br7]

theorem ct11 (t : Fin cfg0.N) (y : S544x1024.Idx) (i : S2176x1024.Idx) (h0 : (i 0).val = t.val * 544 + (y 0).val) (h1 : (i 1).val = (y 1).val) :
    ((outsAt0 m c t).2.2.2 y : EReal) = gn m c i := by
  have e : i 1 = y 1 := Fin.ext h1
  unfold gn
  rw [e]
  exact bt11 m c t y _ h0

/-- The normed residual stream after the run. -/
theorem final11 : (dats m 0 c).arrAt 11 cfg0.N = gn m c := by
  refine (dats m 0 c).arrAt_eq_of_covers 11 _ (by decide +kernel) fun t hf y => ?_
  rw [after0_11]
  refine ct11 m c t _ _ ?_ ?_
  · rw [Pipeline.Window.xinj_val]
    blk_simp [idx11 t]
    try rfl
  · rw [Pipeline.Window.xinj_val]
    blk_simp
    rw [i111 t, Nat.zero_mul, Nat.zero_add]

/-- An element of the two branches side by side. -/
def lc (a y : Fin 512 → EReal) (k : Fin 1024) : EReal := if h : k.val < 512 then a ⟨k.val, h⟩ else y ⟨k.val - 512, by omega⟩

/-- A row of the output projection as one product over the branches side by side. -/
def my (a y : Fin 512 → EReal) (W : S1024x1024.Idx → EReal) (j : Fin 1024) : EReal := ∑ k : Fin 1024, lc a y k * W (ix2 k j)

theorem my_mx (a y : Fin 512 → EReal) (W : S1024x1024.Idx → EReal) : my a y W = mx a y W := by
  funext j
  unfold my mx
  refine (Fin.sum_univ_add (a := 512) (b := 512) fun k : Fin 1024 => lc a y k * W (ix2 k j)).trans ?_
  refine congrArg₂ (· + ·) (Finset.sum_congr rfl fun k _ => congrArg (· * _) ?_) (Finset.sum_congr rfl fun k _ => congrArg (· * _) ?_)
  · unfold lc
    exact dif_pos (show k.val < 512 by omega)
  · unfold lc
    refine (dif_neg (show ¬ 512 + k.val < 512 by omega)).trans (congrArg y (Fin.ext ?_))
    show 512 + k.val - 512 = k.val
    omega

/-- The activation with the logistic function written as the forward lines write it. -/
def sr (x g b : Fin 512 → EReal) (j : Fin 512) : EReal := LRows.ly x g b j * Finite.gate (LRows.ly x g b j)

theorem sr_sy (x g b : Fin 512 → EReal) : sr x g b = sy x g b := funext fun j => (sy_gate x g b j).symm
end

section
open Cert.ReferenceMmOutIdeal Cert.ReferenceMmOutIdeal.Gen Cert.ReferenceMmOutIdeal.Value

variable (m : (ℓ : Loc nD τ sig) → Buf (Elt Ideal) ℓ) (c : Dev nD)

/-- The output projection, at one element. -/
theorem ref1 (i : S2176x1024.Idx) : (res_main_v26 m c i : EReal) = my (row (n := 2176) (w := 512) (m ((c.tc : Thread nD τ).loc main_arg0)) (i 0)) (sr (row (n := 2176) (w := 512) (m ((c.tc : Thread nD τ).loc main_arg1)) (i 0)) (row (n := 1) (w := 512) (m ((c.tc : Thread nD τ).loc main_arg4)) 0) (row (n := 1) (w := 512) (m ((c.tc : Thread nD τ).loc main_arg5)) 0)) (m ((c.tc : Thread nD τ).loc main_arg3)) (i 1) := by
  unfold res_main_v26 my lc sr Finite.gate LRows.ly LRows.zh LRows.rl LRows.zc row LRows.sc LRows.ep
  pointwise

/-- The residual stream, at one element. -/
theorem ref2 (i : S2176x1024.Idx) : (res_main_v39 m c i : EReal) = rs (row (n := 2176) (w := 1024) (m ((c.tc : Thread nD τ).loc main_arg2)) (i 0)) (my (row (n := 2176) (w := 512) (m ((c.tc : Thread nD τ).loc main_arg0)) (i 0)) (sr (row (n := 2176) (w := 512) (m ((c.tc : Thread nD τ).loc main_arg1)) (i 0)) (row (n := 1) (w := 512) (m ((c.tc : Thread nD τ).loc main_arg4)) 0) (row (n := 1) (w := 512) (m ((c.tc : Thread nD τ).loc main_arg5)) 0)) (m ((c.tc : Thread nD τ).loc main_arg3))) (row (n := 1) (w := 1024) (m ((c.tc : Thread nD τ).loc main_arg6)) 0) (i 1) := by
  unfold res_main_v39 rs my lc sr Finite.gate LRows.ly LRows.zh LRows.rl LRows.zc Rows.rn row LRows.sc LRows.ep Rows.sc Rows.ep
  pointwise

/-- The normed residual stream, at one element. -/
theorem ref3 (i : S2176x1024.Idx) : (res_main_v53 m c i : EReal) = nm (rs (row (n := 2176) (w := 1024) (m ((c.tc : Thread nD τ).loc main_arg2)) (i 0)) (my (row (n := 2176) (w := 512) (m ((c.tc : Thread nD τ).loc main_arg0)) (i 0)) (sr (row (n := 2176) (w := 512) (m ((c.tc : Thread nD τ).loc main_arg1)) (i 0)) (row (n := 1) (w := 512) (m ((c.tc : Thread nD τ).loc main_arg4)) 0) (row (n := 1) (w := 512) (m ((c.tc : Thread nD τ).loc main_arg5)) 0)) (m ((c.tc : Thread nD τ).loc main_arg3))) (row (n := 1) (w := 1024) (m ((c.tc : Thread nD τ).loc main_arg6)) 0)) (row (n := 1) (w := 1024) (m ((c.tc : Thread nD τ).loc main_arg7)) 0) (i 1) := by
  unfold res_main_v53 nm rs my lc sr Finite.gate LRows.ly LRows.zh LRows.rl LRows.zc Rows.rn row LRows.sc LRows.ep Rows.sc Rows.ep
  pointwise
end

/-- The kernel and the reference leave the same four arrays from the same arguments. -/
theorem algebraic : Cert.algebraic_KernelMmOutIdeal_ReferenceMmOutIdeal (hKernelMmOutIdeal := Cert.KernelMmOutIdeal.Gen.facts) (hReferenceMmOutIdeal := Cert.ReferenceMmOutIdeal.Gen.facts) :=
  fun m ρ m' ρ' _ hag => by
  refine ⟨_, _, _, _, (θ_run _ _ _).mono (fun r h c => ⟨(h c).1.trans (final8 m c), (h c).2.1.trans (final9 m c), (h c).2.2.1.trans (final10 m c), (h c).2.2.2.1.trans (final11 m c), (h c).2.2.2.2⟩) (Cert.KernelMmOutIdeal.Value.run_blocks (F := Ideal) m ρ), ?_⟩
  refine (θ_run _ _ _).mono (fun r h c => ?_) (Cert.ReferenceMmOutIdeal.Value.run (F := Ideal) m' ρ')
  obtain ⟨r0, r1, r2, r3, hargs⟩ := h c
  obtain ⟨g0, g1, g2, g3, g4, g5, g6, g7⟩ := hag c
  refine ⟨r0.trans ?_, r1.trans ?_, r2.trans ?_, r3.trans ?_, hargs⟩
  all_goals
    clear r0 r1 r2 r3 hargs h
    funext i
  · unfold gy
    rw [← sr_sy, ← g1, ← g4, ← g5]
    unfold sr Finite.gate LRows.ly LRows.zh LRows.rl LRows.zc row LRows.sc LRows.ep
    pointwise
  · refine (ref1 m' c i).trans ?_
    unfold gm
    simp only [g0, g1, g3, g4, g5, my_mx, sr_sy]
  · refine (ref2 m' c i).trans ?_
    unfold gh
    simp only [g0, g1, g2, g3, g4, g5, g6, my_mx, sr_sy]
  · refine (ref3 m' c i).trans ?_
    unfold gn
    simp only [g0, g1, g2, g3, g4, g5, g6, g7, my_mx, sr_sy]

end Cert.Proof.WMmOut

end
-- ==== Proof.FfnDown.lean ====
module

public import proofs.«01_k».proof.Defs
public import proofs.«01_k».proof.Proof.DownFrame
public import proofs.«01_k».proof.Proof.Finite
public import proofs.«01_k».proof.Proof.Gen.Pre_finite_ffn_down
public import proofs.«01_k».proof.Proof.Gen.KernelFfnDown
public import proofs.«01_k».proof.Proof.Gen.KernelFfnDown.Skeleton
public import proofs.«01_k».proof.Proof.Gen.KernelFfnDown.Frame
public import proofs.«01_k».proof.Proof.Gen.ReferenceFfnDownIdeal
public import proofs.«01_k».proof.Proof.Gen.ReferenceFfnDownIdeal.Run
public import Idealize.ShloMosaic.Lib.Pipeline.ValueKit
public import Idealize.ShloMosaic.Lib.Pointwise

@[expose] public section

set_option maxRecDepth 16384

noncomputable section

/-! The feed-forward down projection: what a point leaves in the four results, row by row. -/

namespace Cert.Proof.WFfnDown

open Idealize.ShloMosaic Idealize.ShloMosaic.TcCoe Idealize.SL.Sem

/-- A row of an array of two axes. -/
def row {n w : ℕ} (X : (⟨2, ![n, w]⟩ : Shape).Idx → EReal) (i : Fin n) : Fin w → EReal := fun k => X (ix2 i k)

section
open Cert.KernelFfnDownIdeal Cert.KernelFfnDownIdeal.Gen Cert.Proof.DownFrame

/-- A projected row. -/
def px (a : Fin 2816 → EReal) (wd : S2816x1024.Idx → EReal) (j : Fin 1024) : EReal := ∑ k, a k * wd (ix2 k j)

/-- The error of row `n` from its projection, its residual, its target and the norm's weights: none past row 2048. -/
def er (n : ℕ) (x h y g : Fin 1024 → EReal) (j : Fin 1024) : EReal :=
  if n < 2048 then h j + x j * Rows.rn x * g j - y j else 0

/-- The factor of the error in the cotangent, and of its square in the loss. -/
def c1 : EReal := Ideal.ofBits .f32 981467136#32
def c2 : EReal := Ideal.ofBits .f32 973078528#32

/-- The cotangent of row `n` of the result. -/
def de (n : ℕ) (x h y g : Fin 1024 → EReal) (j : Fin 1024) : EReal := er n x h y g j * c1

theorem ep0 (i : grid0.Coords) (g : S1x1024.Idx → EReal) (a : S272x2816.Idx → EReal) (wd : S2816x1024.Idx → EReal) (h y : S272x1024.Idx → EReal) (j : S272x1024.Idx) :
    (k0_pay9 (F := Ideal) i g a wd h y j : EReal) = er ((i 0).val * 544 + (j 0).val) (px (row a (j 0)) wd) (row h (j 0)) (row y (j 0)) (row g 0) (j 1) := by
  unfold er Rows.rn px row Rows.sc Rows.ep
  pointwise [k0_pay9, k0_pay8, k0_pay7, k0_pay6]
  rw [keep (i 0).val (j 0).val 0 (i 0).isLt (j 0).isLt (.inl rfl)]
  simp only [add_zero]

theorem ep1 (i : grid0.Coords) (g : S1x1024.Idx → EReal) (a : S272x2816.Idx → EReal) (wd : S2816x1024.Idx → EReal) (h y : S272x1024.Idx → EReal) (j : S272x1024.Idx) :
    (k0_pay17 (F := Ideal) (BitVec.ofNat 32 (i 0).val) g a wd h y j : EReal) = er ((i 0).val * 544 + 272 + (j 0).val) (px (row a (j 0)) wd) (row h (j 0)) (row y (j 0)) (row g 0) (j 1) := by
  unfold er Rows.rn px row Rows.sc Rows.ep
  pointwise [k0_pay17, k0_pay16, k0_pay15, k0_pay14]
  rw [keep (i 0).val (j 0).val 272 (i 0).isLt (j 0).isLt (.inr rfl)]

theorem dp0 (i : grid0.Coords) (g : S1x1024.Idx → EReal) (a : S272x2816.Idx → EReal) (wd : S2816x1024.Idx → EReal) (h y : S272x1024.Idx → EReal) (j : S272x1024.Idx) :
    (k0_pay10 (F := Ideal) i g a wd h y j : EReal) = de ((i 0).val * 544 + (j 0).val) (px (row a (j 0)) wd) (row h (j 0)) (row y (j 0)) (row g 0) (j 1) := by
  have e : (k0_pay10 (F := Ideal) i g a wd h y j : EReal) = (k0_pay9 (F := Ideal) i g a wd h y j : EReal) * c1 := rfl
  rw [e, ep0]
  rfl

theorem dp1 (i : grid0.Coords) (g : S1x1024.Idx → EReal) (a : S272x2816.Idx → EReal) (wd : S2816x1024.Idx → EReal) (h y : S272x1024.Idx → EReal) (j : S272x1024.Idx) :
    (k0_pay18 (F := Ideal) (BitVec.ofNat 32 (i 0).val) g a wd h y j : EReal) = de ((i 0).val * 544 + 272 + (j 0).val) (px (row a (j 0)) wd) (row h (j 0)) (row y (j 0)) (row g 0) (j 1) := by
  have e : (k0_pay18 (F := Ideal) (BitVec.ofNat 32 (i 0).val) g a wd h y j : EReal) = (k0_pay17 (F := Ideal) (BitVec.ofNat 32 (i 0).val) g a wd h y j : EReal) * c1 := rfl
  rw [e, ep1]
  rfl

theorem np0 (g : S1x1024.Idx → EReal) (a : S272x2816.Idx → EReal) (wd : S2816x1024.Idx → EReal) (d : S272x1024.Idx → EReal) (j : S272x1024.Idx) :
    (k0_pay11 (F := Ideal) g (k0_pay7 (F := Ideal) a wd) (k0_pay8 (F := Ideal) a wd) d j : EReal) = Rows.nb (row d (j 0)) (px (row a (j 0)) wd) (row g 0) (j 1) := by
  unfold Rows.nb Rows.rn px row Rows.sc Rows.ep
  pointwise [k0_pay11, k0_pay8, k0_pay7, k0_pay6]

theorem np1 (i : grid0.Coords) (g : S1x1024.Idx → EReal) (a : S272x2816.Idx → EReal) (wd : S2816x1024.Idx → EReal) (h y : S272x1024.Idx → EReal) (j : S272x1024.Idx) :
    (k0_pay1 (F := Ideal) (k0_pay15 (F := Ideal) a wd) (k0_pay19 (F := Ideal) (BitVec.ofNat 32 (i 0).val) g a wd h y) j : EReal)
      = Rows.nb (row (n := 272) (w := 1024) (k0_pay18 (F := Ideal) (BitVec.ofNat 32 (i 0).val) g a wd h y) (j 0)) (px (row a (j 0)) wd) (row g 0) (j 1) := by
  unfold Rows.nb Rows.rn px row Rows.sc Rows.ep k0_pay19
  generalize k0_pay18 (F := Ideal) (BitVec.ofNat 32 (i 0).val) g a wd h y = d
  pointwise [k0_pay1, k0_pay16, k0_pay15, k0_pay14]

theorem lp0 (v : S272x1024.Idx → EReal) (s : S8x128.Idx → EReal) (i : S8x128.Idx) :
    (k0_pay12 (F := Ideal) v s i : EReal) = s i + c2 * ∑ p, ∑ q, v (ix2 p q) * v (ix2 p q) := by
  unfold c2
  pointwise [k0_pay12]

theorem lp1 (v : S272x1024.Idx → EReal) (s : S8x128.Idx → EReal) (i : S8x128.Idx) :
    (k0_pay2 (F := Ideal) v s i : EReal) = s i + c2 * ∑ p, ∑ q, v (ix2 p q) * v (ix2 p q) := by
  unfold c2
  pointwise [k0_pay2]

theorem gp0 (a : S272x2816.Idx → EReal) (wd : S2816x1024.Idx → EReal) (d : S272x1024.Idx → EReal) (s : S1x1024.Idx → EReal) (i : S1x1024.Idx) :
    (k0_pay13 (F := Ideal) (k0_pay8 (F := Ideal) a wd) d s i : EReal) = s i + ∑ p, Rows.ng (row d p) (px (row a p) wd) (i 1) := by
  unfold Rows.ng Rows.rn px row Rows.sc Rows.ep
  pointwise [k0_pay13, k0_pay8, k0_pay7, k0_pay6]

theorem gp1 (a : S272x2816.Idx → EReal) (wd : S2816x1024.Idx → EReal) (d : S272x1024.Idx → EReal) (s : S1x1024.Idx → EReal) (i : S1x1024.Idx) :
    (k0_pay3 (F := Ideal) (k0_pay16 (F := Ideal) a wd) d s i : EReal) = s i + ∑ p, Rows.ng (row d p) (px (row a p) wd) (i 1) := by
  unfold Rows.ng Rows.rn px row Rows.sc Rows.ep
  pointwise [k0_pay3, k0_pay16, k0_pay15, k0_pay14]

/-- A row of a half of the block is a row of the block. -/
theorem l0_2816 (X : S544x2816.Idx → EReal) (r : Fin 272) (q : Fin 544) (h : q.val = r.val) :
    row (n := 272) (w := 2816) (fst (F := Ideal) (e := .f32) X inb_S544x2816_S272x2816_0_0) r = row X q := by
  funext k
  unfold row fst
  pointwise
  blk_ext

/-- A row of a half of the block is a row of the block. -/
theorem l1_2816 (X : S544x2816.Idx → EReal) (r : Fin 272) (q : Fin 544) (h : q.val = 272 + r.val) :
    row (n := 272) (w := 2816) (snd (F := Ideal) (e := .f32) X inb_S544x2816_S272x2816_272_0) r = row X q := by
  funext k
  unfold row snd
  pointwise
  blk_ext

/-- A row of a half of the block is a row of the block. -/
theorem l0_1024 (X : S544x1024.Idx → EReal) (r : Fin 272) (q : Fin 544) (h : q.val = r.val) :
    row (n := 272) (w := 1024) (fst (F := Ideal) (e := .f32) X inb_S544x1024_S272x1024_0_0) r = row X q := by
  funext k
  unfold row fst
  pointwise
  blk_ext

/-- A row of a half of the block is a row of the block. -/
theorem l1_1024 (X : S544x1024.Idx → EReal) (r : Fin 272) (q : Fin 544) (h : q.val = 272 + r.val) :
    row (n := 272) (w := 1024) (snd (F := Ideal) (e := .f32) X inb_S544x1024_S272x1024_272_0) r = row X q := by
  funext k
  unfold row snd
  pointwise
  blk_ext

/-- The two halves cover the block. -/
theorem cov_f32 (p1 p2 : S272x1024.Idx → Elt Ideal .f32) (y : S544x1024.Idx) :
    ∃ pc ∈ ([⟨Rect.unit ![272, 0] ![272, 1024] inb_S544x1024_S272x1024_272_0, p1⟩, ⟨Rect.unit ![0, 0] ![272, 1024] inb_S544x1024_S272x1024_0_0, p2⟩] : List (View.Piece (Elt Ideal) S544x1024 .f32)), y ∈ pc.1.set :=
  View.cover_of_tiledBy _ ![16, 1024] (by sl_kernel_rfl) y

/-- The two halves cover the block. -/
theorem cov_bf16 (p1 p2 : S272x1024.Idx → Elt Ideal .bf16) (y : S544x1024.Idx) :
    ∃ pc ∈ ([⟨Rect.unit ![272, 0] ![272, 1024] inb_S544x1024_S272x1024_272_0, p1⟩, ⟨Rect.unit ![0, 0] ![272, 1024] inb_S544x1024_S272x1024_0_0, p2⟩] : List (View.Piece (Elt Ideal) S544x1024 .bf16)), y ∈ pc.1.set :=
  View.cover_of_tiledBy _ ![16, 1024] (by sl_kernel_rfl) y

/-- The number of rows in two halves. -/
theorem sum_halves {M : Type} [AddCommMonoid M] (f : Fin 544 → M) : ∑ p, f p = ∑ p : Fin 272, f ⟨p.val, by omega⟩ + ∑ p : Fin 272, f ⟨272 + p.val, by omega⟩ :=
  Fin.sum_univ_add (a := 272) (b := 272) f

theorem at6 (i : grid0.Coords) (x0 : S544x2816.Idx → EReal) (x1 : S2816x1024.Idx → EReal) (x2 x3 : S544x1024.Idx → EReal) (x4 : S1x1024.Idx → EReal) (y : S544x1024.Idx) :
    (new6 (F := Ideal) i x0 x1 x2 x3 x4 y : EReal) = de ((i 0).val * 544 + (y 0).val) (px (row x0 (y 0)) x1) (row x2 (y 0)) (row x3 (y 0)) (row x4 0) (y 1) := by
  unfold new6
  canon_tiles x h using cov_f32 _ _ y
  · refine (dp1 _ _ _ _ _ _ _).trans ?_
    congr 1
    · rw [h0]; omega
    · congr 1; exact l1_2816 _ _ _ h0
    · exact l1_1024 _ _ _ h0
    · exact l1_1024 _ _ _ h0
    · exact Fin.ext h1.symm
  · refine (dp0 _ _ _ _ _ _ _).trans ?_
    congr 1
    · rw [h0]
    · congr 1; exact l0_2816 _ _ _ h0
    · exact l0_1024 _ _ _ h0
    · exact l0_1024 _ _ _ h0
    · exact Fin.ext h1.symm

theorem at5 (i : grid0.Coords) (x0 : S544x2816.Idx → EReal) (x1 : S2816x1024.Idx → EReal) (x2 x3 : S544x1024.Idx → EReal) (x4 : S1x1024.Idx → EReal) (y : S544x1024.Idx) :
    (new5 (F := Ideal) i x0 x1 x2 x3 x4 y : EReal) = Rows.nb (de ((i 0).val * 544 + (y 0).val) (px (row x0 (y 0)) x1) (row x2 (y 0)) (row x3 (y 0)) (row x4 0)) (px (row x0 (y 0)) x1) (row x4 0) (y 1) := by
  unfold new5
  canon_tiles x h using cov_bf16 _ _ y
  · refine (np1 _ _ _ _ _ _ _).trans ?_
    congr 1
    · funext l
      refine (dp1 _ _ _ _ _ _ _).trans ?_
      congr 1
      · show (i 0).val * 544 + 272 + _ = _
        rw [h0]; exact Nat.add_assoc _ _ _
      · congr 1; exact l1_2816 _ _ _ h0
      · exact l1_1024 _ _ _ h0
      · exact l1_1024 _ _ _ h0
    · congr 1; exact l1_2816 _ _ _ h0
    · exact Fin.ext h1.symm
  · refine (np0 _ _ _ _ _).trans ?_
    congr 1
    · funext l
      refine (dp0 _ _ _ _ _ _ _).trans ?_
      congr 1
      · show (i 0).val * 544 + _ = _
        rw [h0]; rfl
      · congr 1; exact l0_2816 _ _ _ h0
      · exact l0_1024 _ _ _ h0
      · exact l0_1024 _ _ _ h0
    · congr 1; exact l0_2816 _ _ _ h0
    · exact Fin.ext h1.symm

/-- The factor may be taken out of a sum. -/
theorem c2_add (x y : EReal) : c2 * x + c2 * y = c2 * (x + y) := by
  have e : c2 = (((1 / 2048 : ℝ)) : EReal) := by
    unfold c2
    simp [Ideal.ofBits, Ideal.ieee, -EReal.coe_mul]
    norm_num
  rw [e]
  exact (EReal.left_distrib_of_nonneg_of_ne_top (EReal.coe_nonneg.mpr (by norm_num)) (EReal.coe_ne_top _) x y).symm

/-- The sum of the squares of row `n`'s errors. -/
def sq (n : ℕ) (x h y g : Fin 1024 → EReal) : EReal := ∑ q, er n x h y g q * er n x h y g q

/-- What a block adds to the loss. -/
def bl (i : grid0.Coords) (x0 : S544x2816.Idx → EReal) (x1 : S2816x1024.Idx → EReal) (x2 x3 : S544x1024.Idx → EReal) (x4 : S1x1024.Idx → EReal) : EReal := c2 * ∑ p : Fin 544, sq ((i 0).val * 544 + p.val) (px (row x0 p) x1) (row x2 p) (row x3 p) (row x4 0)

/-- What a block adds to the gradient of the norm's weights. -/
def bg (i : grid0.Coords) (x0 : S544x2816.Idx → EReal) (x1 : S2816x1024.Idx → EReal) (x2 x3 : S544x1024.Idx → EReal) (x4 : S1x1024.Idx → EReal) (j : S1x1024.Idx) : EReal := ∑ p : Fin 544, Rows.ng (de ((i 0).val * 544 + p.val) (px (row x0 p) x1) (row x2 p) (row x3 p) (row x4 0)) (px (row x0 p) x1) (j 1)

theorem at7 (i : grid0.Coords) (x0 : S544x2816.Idx → EReal) (x1 : S2816x1024.Idx → EReal) (x2 x3 : S544x1024.Idx → EReal) (x4 : S1x1024.Idx → EReal) (s : S8x128.Idx → EReal) (y : S8x128.Idx) :
    (new7 (F := Ideal) i x0 x1 x2 x3 x4 s y : EReal) = s y + bl i x0 x1 x2 x3 x4 := by
  unfold new7
  refine (lp1 _ _ _).trans ?_
  rw [lp0, add_assoc]
  congr 1
  refine (c2_add _ _).trans ?_
  unfold bl sq
  rw [sum_halves]
  simp only [ep0, ep1]
  refine congrArg (fun z : EReal => c2 * z) (congrArg₂ (fun a b : EReal => a + b) ?_ ?_)
  · refine Finset.sum_congr rfl fun p _ => Finset.sum_congr rfl fun q _ => ?_
    refine congrArg (fun z : EReal => z * z) ?_
    congr 1
    · congr 1; exact l0_2816 _ _ _ rfl
    · exact l0_1024 _ _ _ rfl
    · exact l0_1024 _ _ _ rfl
  · refine Finset.sum_congr rfl fun p _ => Finset.sum_congr rfl fun q _ => ?_
    refine congrArg (fun z : EReal => z * z) ?_
    congr 1
    · exact Nat.add_assoc _ _ _
    · congr 1; exact l1_2816 _ _ _ rfl
    · exact l1_1024 _ _ _ rfl
    · exact l1_1024 _ _ _ rfl

theorem at8 (i : grid0.Coords) (x0 : S544x2816.Idx → EReal) (x1 : S2816x1024.Idx → EReal) (x2 x3 : S544x1024.Idx → EReal) (x4 : S1x1024.Idx → EReal) (s : S1x1024.Idx → EReal) (y : S1x1024.Idx) :
    (new8 (F := Ideal) i x0 x1 x2 x3 x4 s y : EReal) = s y + bg i x0 x1 x2 x3 x4 y := by
  unfold new8
  refine (gp1 _ _ _ _ _).trans ?_
  rw [gp0, add_assoc]
  congr 1
  unfold bg
  rw [sum_halves]
  congr 1
  · refine Finset.sum_congr rfl fun p _ => ?_
    congr 1
    · funext l
      refine (dp0 _ _ _ _ _ _ _).trans ?_
      congr 1
      · congr 1; exact l0_2816 _ _ _ rfl
      · exact l0_1024 _ _ _ rfl
      · exact l0_1024 _ _ _ rfl
    · congr 1; exact l0_2816 _ _ _ rfl
  · refine Finset.sum_congr rfl fun p _ => ?_
    congr 1
    · funext l
      refine (dp1 _ _ _ _ _ _ _).trans ?_
      congr 1
      · exact Nat.add_assoc _ _ _
      · congr 1; exact l1_2816 _ _ _ rfl
      · exact l1_1024 _ _ _ rfl
      · exact l1_1024 _ _ _ rfl
    · congr 1; exact l1_2816 _ _ _ rfl

end

end Cert.Proof.WFfnDown

end
-- ==== Proof.WFfnDown.lean ====
module

public import proofs.«01_k».proof.Proof.FfnDown

@[expose] public section

set_option maxRecDepth 16384

noncomputable section

/-! The feed-forward down projection: what the run leaves in its four results, and that the derivative of the loss leaves
the same. -/

namespace Cert.Proof.WFfnDown

open Idealize.ShloMosaic Idealize.ShloMosaic.TcCoe Idealize.SL.Sem

section
open Cert.KernelFfnDownIdeal Cert.KernelFfnDownIdeal.Gen Cert.Proof.DownFrame

/-- The target's row `n`; zeros past its end. -/
def tr (T : S2048x1024.Idx → EReal) (n : ℕ) : Fin 1024 → EReal := fun k => if h : n < 2048 then T (ix2 ⟨n, h⟩ k) else 0

/-- The cotangent of row `l` of the result, from the arguments. -/
def dl (f : S2176x2816.Idx → EReal) (wd : S2816x1024.Idx → EReal) (h : S2176x1024.Idx → EReal) (T : S2048x1024.Idx → EReal) (g : S1x1024.Idx → EReal) (l : Fin 2176) : Fin 1024 → EReal :=
  de l.val (px (row f l) wd) (row h l) (tr T l.val) (row g 0)

/-- The sum of the squares of its errors. -/
def sl (f : S2176x2816.Idx → EReal) (wd : S2816x1024.Idx → EReal) (h : S2176x1024.Idx → EReal) (T : S2048x1024.Idx → EReal) (g : S1x1024.Idx → EReal) (l : Fin 2176) : EReal :=
  sq l.val (px (row f l) wd) (row h l) (tr T l.val) (row g 0)

/-- An error reads the target in a row that is kept alone. -/
theorem er_congr (n : ℕ) (x h y y' g : Fin 1024 → EReal) (e : n < 2048 → y = y') : er n x h y g = er n x h y' g := by
  funext j
  unfold er
  split
  · rename_i hn; rw [e hn]
  · rfl

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0] := by decide +kernel

/-- A row of a point's block is a row of the argument. -/
theorem br0 (t : Fin cfg0.N) (r : Fin 544) (l : Fin 2176) (h : l.val = t.val * 544 + r.val) :
    row (n := 544) (w := 2816) (iblk m c 0 t) r = row (n := 2176) (w := 2816) (m ((c : Thread nD τ).loc main_arg0)) l := by
  funext k
  refine Eq.trans ?_ (congrFun (V_main_arg0 m c) _)
  unfold row
  blk_ext [iblk, idx0 t]

/-- A row of a point's block is a row of the argument. -/
theorem br2 (t : Fin cfg0.N) (r : Fin 544) (l : Fin 2176) (h : l.val = t.val * 544 + r.val) :
    row (n := 544) (w := 1024) (iblk m c 2 t) r = row (n := 2176) (w := 1024) (m ((c : Thread nD τ).loc main_arg2)) l := by
  funext k
  refine Eq.trans ?_ (congrFun (V_main_arg2 m c) _)
  unfold row
  blk_ext [iblk, idx2 t]

theorem wh1 (t : Fin cfg0.N) : (iblk m c 1 t : S2816x1024.Idx → EReal) = (m ((c : Thread nD τ).loc main_arg1)) := by
  funext k
  refine Eq.trans ?_ (congrFun (V_main_arg1 m c) _)
  blk_ext [iblk, idx1 t]

theorem br4 (t : Fin cfg0.N) : row (n := 1) (w := 1024) (iblk m c 4 t) 0 = row (n := 1) (w := 1024) (m ((c : Thread nD τ).loc main_arg4)) 0 := by
  funext k
  refine Eq.trans ?_ (congrFun (V_main_arg4 m c) _)
  unfold row
  blk_ext [iblk, idx4 t]

/-- A kept row of a point's block of the target is a row of the target. -/
theorem br3 (t : Fin cfg0.N) (r : Fin 544) (n : ℕ) (hn : n = t.val * 544 + r.val) (h : n < 2048) :
    row (n := 544) (w := 1024) (tblk m c t) r = tr (m ((c : Thread nD τ).loc main_arg3)) n := by
  obtain ⟨e0, e1, e2⟩ := kept_moved t
  funext k
  have hm : win0_3.moved (grid0.coords t) (ix2 r k) = true := by
    rw [Pipeline.Window.moved_iff]
    intro a
    match a with
    | ⟨0, _⟩ =>
      show r.val < win0_3.xsize (grid0.coords t) 0
      have h0 : r.val < 544 := r.isLt
      rw [e0]; omega
    | ⟨1, _⟩ =>
      show k.val < win0_3.xsize (grid0.coords t) 1
      rw [e1]; exact k.isLt
  unfold row tr tblk Pipeline.Window.fill
  rw [dif_pos hm, dif_pos h]
  refine Eq.trans ?_ (congrFun (V_main_arg3 m c) _)
  blk_ext [iblk, idx3 t]

theorem rows (t : Fin cfg0.N) (r : Fin 544) (l : Fin 2176) (h : l.val = t.val * 544 + r.val) :
    er ((grid0.coords t 0).val * 544 + r.val) (px (row (n := 544) (w := 2816) (iblk m c 0 t) r) (iblk m c 1 t)) (row (n := 544) (w := 1024) (iblk m c 2 t) r) (row (n := 544) (w := 1024) (tblk m c t) r) (row (n := 1) (w := 1024) (iblk m c 4 t) 0)
      = er l.val (px (row (n := 2176) (w := 2816) (m ((c : Thread nD τ).loc main_arg0)) l) (m ((c : Thread nD τ).loc main_arg1))) (row (n := 2176) (w := 1024) (m ((c : Thread nD τ).loc main_arg2)) l) (tr (m ((c : Thread nD τ).loc main_arg3)) l.val) (row (n := 1) (w := 1024) (m ((c : Thread nD τ).loc main_arg4)) 0) := by
  rw [(kept_moved t).2.2, ← h, br0 m c t r l h, br2 m c t r l h, wh1, br4]
  exact er_congr _ _ _ _ _ _ fun hn => br3 m c t r l.val h hn

theorem derow (t : Fin cfg0.N) (r : Fin 544) (l : Fin 2176) (h : l.val = t.val * 544 + r.val) :
    de ((grid0.coords t 0).val * 544 + r.val) (px (row (n := 544) (w := 2816) (iblk m c 0 t) r) (iblk m c 1 t)) (row (n := 544) (w := 1024) (iblk m c 2 t) r) (row (n := 544) (w := 1024) (tblk m c t) r) (row (n := 1) (w := 1024) (iblk m c 4 t) 0)
      = dl (m ((c : Thread nD τ).loc main_arg0)) (m ((c : Thread nD τ).loc main_arg1)) (m ((c : Thread nD τ).loc main_arg2)) (m ((c : Thread nD τ).loc main_arg3)) (m ((c : Thread nD τ).loc main_arg4)) l :=
  funext fun j => congrArg (fun z : Fin 1024 → EReal => z j * c1) (rows m c t r l h)

theorem sqrow (t : Fin cfg0.N) (r : Fin 544) (l : Fin 2176) (h : l.val = t.val * 544 + r.val) :
    sq ((grid0.coords t 0).val * 544 + r.val) (px (row (n := 544) (w := 2816) (iblk m c 0 t) r) (iblk m c 1 t)) (row (n := 544) (w := 1024) (iblk m c 2 t) r) (row (n := 544) (w := 1024) (tblk m c t) r) (row (n := 1) (w := 1024) (iblk m c 4 t) 0)
      = sl (m ((c : Thread nD τ).loc main_arg0)) (m ((c : Thread nD τ).loc main_arg1)) (m ((c : Thread nD τ).loc main_arg2)) (m ((c : Thread nD τ).loc main_arg3)) (m ((c : Thread nD τ).loc main_arg4)) l :=
  congrArg (fun z : Fin 1024 → EReal => ∑ q, z q * z q) (rows m c t r l h)

/-- The gradient at the projection after the run. -/
theorem final5 : (dats m 0 c).arrAt 5 cfg0.N = fun i => Rows.nb (dl (m ((c : Thread nD τ).loc main_arg0)) (m ((c : Thread nD τ).loc main_arg1)) (m ((c : Thread nD τ).loc main_arg2)) (m ((c : Thread nD τ).loc main_arg3)) (m ((c : Thread nD τ).loc main_arg4)) (i 0)) (px (row (n := 2176) (w := 2816) (m ((c : Thread nD τ).loc main_arg0)) (i 0)) (m ((c : Thread nD τ).loc main_arg1))) (row (n := 1) (w := 1024) (m ((c : Thread nD τ).loc main_arg4)) 0) (i 1) := by
  refine (dats m 0 c).arrAt_eq_of_covers 5 _ (by decide +kernel) fun t hf y => ?_
  blk_simp
  rw [after5]
  have e0 : ((win0_5.blk t).view.emb y 0).val = t.val * 544 + (y 0).val := by
    blk_simp [idx5 t]
    try rfl
  have e1 : (win0_5.blk t).view.emb y 1 = y 1 := by
    refine Fin.ext ?_
    blk_simp [idx5 t]
    try omega
  rw [e1]
  refine (at5 _ _ _ _ _ _ y).trans ?_
  rw [derow m c t (y 0) _ e0, br0 m c t (y 0) _ e0, wh1, br4]

/-- The gradient at the residual after the run. -/
theorem final6 : (dats m 0 c).arrAt 6 cfg0.N = fun i => dl (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  blk_simp
  rw [after6]
  have e0 : ((win0_6.blk t).view.emb y 0).val = t.val * 544 + (y 0).val := by
    blk_simp [idx6 t]
    try rfl
  have e1 : (win0_6.blk t).view.emb y 1 = y 1 := by
    refine Fin.ext ?_
    blk_simp [idx6 t]
    try omega
  rw [e1]
  refine (at6 _ _ _ _ _ _ y).trans ?_
  rw [derow m c t (y 0) _ e0]

/-- The loss after `n` points. -/
theorem sums1 (y : S8x128.Idx) : ∀ (n : ℕ) (h : n ≤ 4), ((sums m c n).1 y : EReal)
    = c2 * ∑ s : Fin n, ∑ p : Fin 544, sl (m ((c : Thread nD τ).loc main_arg0)) (m ((c : Thread nD τ).loc main_arg1)) (m ((c : Thread nD τ).loc main_arg2)) (m ((c : Thread nD τ).loc main_arg3)) (m ((c : Thread nD τ).loc main_arg4)) ⟨s.val * 544 + p.val, by omega⟩
  | 0, _ => by
    have hz : (k0_pay4 (F := Ideal) y : EReal) = 0 := by pointwise [k0_pay4]
    refine Eq.trans ?_ (mul_zero c2).symm
    exact hz
  | n + 1, h => by
    rw [show (sums m c (n + 1)).1 = _ from congrArg Prod.fst (sums_succ m c ⟨n, h⟩)]
    refine (at7 _ _ _ _ _ _ _ y).trans ?_
    rw [sums1 y n (by omega)]
    unfold bl
    rw [c2_add, Fin.sum_univ_castSucc (n := n)]
    refine congrArg₂ (fun a b : EReal => c2 * (a + b)) rfl ?_
    exact Finset.sum_congr rfl fun p _ => sqrow m c ⟨n, h⟩ p _ rfl

/-- The weights' gradient after `n` points. -/
theorem sums2 (y : S1x1024.Idx) : ∀ (n : ℕ) (h : n ≤ 4), ((sums m c n).2 y : EReal)
    = ∑ s : Fin n, ∑ p : Fin 544, Rows.ng (dl (m ((c : Thread nD τ).loc main_arg0)) (m ((c : Thread nD τ).loc main_arg1)) (m ((c : Thread nD τ).loc main_arg2)) (m ((c : Thread nD τ).loc main_arg3)) (m ((c : Thread nD τ).loc main_arg4)) ⟨s.val * 544 + p.val, by omega⟩) (px (row (n := 2176) (w := 2816) (m ((c : Thread nD τ).loc main_arg0)) ⟨s.val * 544 + p.val, by omega⟩) (m ((c : Thread nD τ).loc main_arg1))) (y 1)
  | 0, _ => by
    have hz : (k0_pay5 (F := Ideal) y : EReal) = 0 := by pointwise [k0_pay5]
    exact hz
  | n + 1, h => by
    rw [show (sums m c (n + 1)).2 = _ from congrArg Prod.snd (sums_succ m c ⟨n, h⟩)]
    refine (at8 _ _ _ _ _ _ _ y).trans ?_
    rw [sums2 y n (by omega)]
    unfold bg
    rw [Fin.sum_univ_castSucc (n := n)]
    refine congrArg₂ (fun a b : EReal => a + b) rfl ?_
    refine Finset.sum_congr rfl fun p _ => ?_
    rw [derow m c ⟨n, h⟩ p ⟨n * 544 + p.val, by omega⟩ rfl, br0 m c ⟨n, h⟩ p ⟨n * 544 + p.val, by omega⟩ rfl, wh1]
    rfl

/-- The loss after the run. -/
theorem final7 : (dats m 0 c).arrAt 7 cfg0.N = fun _ => c2 * ∑ l : Fin 2176, sl (m ((c : Thread nD τ).loc main_arg0)) (m ((c : Thread nD τ).loc main_arg1)) (m ((c : Thread nD τ).loc main_arg2)) (m ((c : Thread nD τ).loc main_arg3)) (m ((c : Thread nD τ).loc main_arg4)) l := by
  refine (dats m 0 c).arrAt_eq_of_after_last 7 t0_3 (by decide +kernel) _ fun j => ?_
  blk_simp
  rw [after7]
  refine (sums1 m c j 4 le_rfl).trans ?_
  exact congrArg (fun z : EReal => c2 * z) (Fin.sum_mul_add_congr (S := 4) (n := 544) (L := 2176) (F := fun s k => sl (m ((c : Thread nD τ).loc main_arg0)) (m ((c : Thread nD τ).loc main_arg1)) (m ((c : Thread nD τ).loc main_arg2)) (m ((c : Thread nD τ).loc main_arg3)) (m ((c : Thread nD τ).loc main_arg4)) ⟨s.val * 544 + k.val, by omega⟩) fun s k hl => rfl)

/-- The weights' gradient after the run. -/
theorem final8 : (dats m 0 c).arrAt 8 cfg0.N = fun i => ∑ l : Fin 2176, Rows.ng (dl (m ((c : Thread nD τ).loc main_arg0)) (m ((c : Thread nD τ).loc main_arg1)) (m ((c : Thread nD τ).loc main_arg2)) (m ((c : Thread nD τ).loc main_arg3)) (m ((c : Thread nD τ).loc main_arg4)) l) (px (row (n := 2176) (w := 2816) (m ((c : Thread nD τ).loc main_arg0)) l) (m ((c : Thread nD τ).loc main_arg1))) (i 1) := by
  refine (dats m 0 c).arrAt_eq_of_after_last 8 t0_3 (by decide +kernel) _ fun j => ?_
  blk_simp
  rw [after8]
  refine (sums2 m c j 4 le_rfl).trans ?_
  exact Fin.sum_mul_add_congr (S := 4) (n := 544) (L := 2176) (F := fun s k => Rows.ng (dl (m ((c : Thread nD τ).loc main_arg0)) (m ((c : Thread nD τ).loc main_arg1)) (m ((c : Thread nD τ).loc main_arg2)) (m ((c : Thread nD τ).loc main_arg3)) (m ((c : Thread nD τ).loc main_arg4)) ⟨s.val * 544 + k.val, by omega⟩) (px (row (n := 2176) (w := 2816) (m ((c : Thread nD τ).loc main_arg0)) ⟨s.val * 544 + k.val, by omega⟩) (m ((c : Thread nD τ).loc main_arg1))) (j 1)) fun s k hl => rfl

/-- The precondition: all five arguments are arrays of real numbers. -/
theorem reals (h : Cert.Pre_KernelFfnDownIdeal_finite_ffn_down (hPre_finite_ffn_down := Cert.Pre_finite_ffn_down.Gen.facts) m) :
    (∃ r : S2176x2816.Idx → ℝ, m ((c : Thread nD τ).loc main_arg0) = fun i => (r i : EReal)) ∧
    (∃ r : S2816x1024.Idx → ℝ, m ((c : Thread nD τ).loc main_arg1) = fun i => (r i : EReal)) ∧
    (∃ r : S2176x1024.Idx → ℝ, m ((c : Thread nD τ).loc main_arg2) = fun i => (r i : EReal)) ∧
    (∃ r : S2048x1024.Idx → ℝ, m ((c : Thread nD τ).loc main_arg3) = fun i => (r i : EReal)) ∧
    (∃ r : S1x1024.Idx → ℝ, m ((c : Thread nD τ).loc main_arg4) = fun i => (r i : EReal)) := by
  have h' := congrFun (h c) (fun a => a.elim0)
  dsimp only [Cert.Pre_finite_ffn_down.fn, Cert.Pre_finite_ffn_down.fn_part1] at h'
  obtain ⟨h_, h4⟩ := Finite.both h'
  obtain ⟨h_, h3⟩ := Finite.both h_
  obtain ⟨h_, h2⟩ := Finite.both h_
  obtain ⟨h0, h1⟩ := Finite.both h_
  exact ⟨Finite.real_of_all _ _ (fun _ => Finite.inf_eq) _ _ _ _ h0, Finite.real_of_all _ _ (fun _ => Finite.inf_eq) _ _ _ _ h1, Finite.real_of_all _ _ (fun _ => Finite.inf_eq) _ _ _ _ h2, Finite.real_of_all _ _ (fun _ => Finite.inf_eq) _ _ _ _ h3, Finite.real_of_all _ _ (fun _ => Finite.inf_eq) _ _ _ _ h4⟩

end

section
open Cert.ReferenceFfnDownIdeal Cert.ReferenceFfnDownIdeal.Gen Cert.ReferenceFfnDownIdeal.Value

/-- The cotangent of row `l` of the result as the derivative's rule writes it. -/
def rd (f : S2176x2816.Idx → EReal) (wd : S2816x1024.Idx → EReal) (h : S2176x1024.Idx → EReal) (T : S2048x1024.Idx → EReal) (g : S1x1024.Idx → EReal) (l : Fin 2176) (j : Fin 1024) : EReal :=
  if e : l.val < 2048 then Ideal.div (Ideal.ofBits .f32 1056964608#32) (Ideal.ofBits .f32 1149239296#32) * (Ideal.ofBits .f32 1073741824#32 * (row h l j + px (row f l) wd j * Rows.rn (px (row f l) wd) * row g 0 j - T (ix2 ⟨l.val, e⟩ j))) else 0

variable (m : (ℓ : Loc nD τ sig) → Buf (Elt Ideal) ℓ) (c : Dev nD)

/-- The gradient at the projection, at one element. -/
theorem ref0 (i : S2176x1024.Idx) : (res_main_v55 m c i : EReal)
    = rd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) * row (n := 1) (w := 1024) (m ((c.tc : Thread nD τ).loc main_arg4)) 0 (i 1) * Rows.rn (px (row (n := 2176) (w := 2816) (m ((c.tc : Thread nD τ).loc main_arg0)) (i 0)) (m ((c.tc : Thread nD τ).loc main_arg1)))
      + px (row (n := 2176) (w := 2816) (m ((c.tc : Thread nD τ).loc main_arg0)) (i 0)) (m ((c.tc : Thread nD τ).loc main_arg1)) (i 1) * Rows.hs (rd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0)) (px (row (n := 2176) (w := 2816) (m ((c.tc : Thread nD τ).loc main_arg0)) (i 0)) (m ((c.tc : Thread nD τ).loc main_arg1))) (row (n := 1) (w := 1024) (m ((c.tc : Thread nD τ).loc main_arg4)) 0)
      + Rows.hs (rd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0)) (px (row (n := 2176) (w := 2816) (m ((c.tc : Thread nD τ).loc main_arg0)) (i 0)) (m ((c.tc : Thread nD τ).loc main_arg1))) (row (n := 1) (w := 1024) (m ((c.tc : Thread nD τ).loc main_arg4)) 0) * px (row (n := 2176) (w := 2816) (m ((c.tc : Thread nD τ).loc main_arg0)) (i 0)) (m ((c.tc : Thread nD τ).loc main_arg1)) (i 1) := by
  unfold res_main_v55 rd Rows.hs Rows.rn px row Rows.sc Rows.ep
  pointwise

end

section
open Cert.KernelFfnDownIdeal

theorem c1_eq : c1 = ((1 / 1024 : ℝ) : EReal) := by
  unfold c1
  simp [Ideal.ofBits, Ideal.ieee, -EReal.coe_mul]
  norm_num

theorem c2_eq : c2 = ((1 / 2048 : ℝ) : EReal) := by
  unfold c2
  simp [Ideal.ofBits, Ideal.ieee, -EReal.coe_mul]
  norm_num

theorem half_eq : Ideal.ofBits .f32 1056964608#32 = ((1 / 2 : ℝ) : EReal) := by
  simp [Ideal.ofBits, Ideal.ieee, -EReal.coe_mul]
  norm_num

theorem two_eq : Ideal.ofBits .f32 1073741824#32 = ((2 : ℝ) : EReal) := by
  simp [Ideal.ofBits, Ideal.ieee, -EReal.coe_mul]
  norm_num

/-- The two factors of the derivative's rule are the kernel's one. -/
theorem fac (x : EReal) : Ideal.div (Ideal.ofBits .f32 1056964608#32) (Ideal.ofBits .f32 1149239296#32) * (Ideal.ofBits .f32 1073741824#32 * x) = x * c1 := by
  rw [show Ideal.ofBits .f32 1149239296#32 = ((1024 : ℝ) : EReal) from Rows.sc_eq, Finite.div_real _ (by norm_num : (1024 : ℝ) ≠ 0), half_eq, two_eq, c1_eq, ← mul_assoc, ← EReal.coe_mul, ← EReal.coe_mul, mul_comm x]
  congr 2
  norm_num

variable (f : S2176x2816.Idx → EReal) (wd : S2816x1024.Idx → EReal) (h : S2176x1024.Idx → EReal) (T : S2048x1024.Idx → EReal) (g : S1x1024.Idx → EReal)

/-- The two ways of writing the cotangent agree. -/
theorem rd_dl (l : Fin 2176) : rd f wd h T g l = dl f wd h T g l := by
  funext j
  unfold rd dl de er tr
  split
  · rename_i e
    exact fac _
  · rw [zero_mul]

/-- A cotangent past row 2048 is zero, -/
theorem dl_past (l : Fin 2176) (hl : 2048 ≤ l.val) (j : Fin 1024) : dl f wd h T g l j = 0 := by
  unfold dl de er
  rw [if_neg (by omega), zero_mul]

/-- and so is the sum of the squares. -/
theorem sl_past (l : Fin 2176) (hl : 2048 ≤ l.val) : sl f wd h T g l = 0 := by
  unfold sl sq er
  simp only [if_neg (show ¬ l.val < 2048 by omega), mul_zero, Finset.sum_const_zero]

/-- A factor that is a real number and not negative may be taken out of a sum. -/
theorem sum_fac {n : ℕ} (v : Fin n → EReal) (r : ℝ) (hr : 0 ≤ r) : ∑ i, v i * (r : EReal) = (∑ i, v i) * (r : EReal) := by
  induction n with
  | zero => simp
  | succ n ih =>
    rw [Fin.sum_univ_castSucc, Fin.sum_univ_castSucc, ih,
      EReal.right_distrib_of_nonneg_of_ne_top (EReal.coe_nonneg.mpr hr) (EReal.coe_ne_top _)]

/-- The half of a sum of means is the kernel's one factor. -/
theorem mean_fac (v : Fin 2048 → EReal) : Ideal.ofBits .f32 1056964608#32 * ∑ i, Ideal.div (v i) (Ideal.ofBits .f32 1149239296#32) = c2 * ∑ i, v i := by
  rw [show Ideal.ofBits .f32 1149239296#32 = ((1024 : ℝ) : EReal) from Rows.sc_eq]
  simp only [Finite.div_real _ (by norm_num : (1024 : ℝ) ≠ 0)]
  rw [sum_fac _ _ (by norm_num), half_eq, c2_eq, mul_comm (∑ i, v i), ← mul_assoc, ← EReal.coe_mul]
  congr 2
  norm_num

/-- The loss over the target's rows. -/
theorem loss_sum : Ideal.ofBits .f32 1056964608#32 * ∑ x : Fin 2048, Ideal.div (∑ q, (row h ⟨x.val, by omega⟩ q + px (row f ⟨x.val, by omega⟩) wd q * Rows.rn (px (row f ⟨x.val, by omega⟩) wd) * row g 0 q - T (ix2 x q)) * (row h ⟨x.val, by omega⟩ q + px (row f ⟨x.val, by omega⟩) wd q * Rows.rn (px (row f ⟨x.val, by omega⟩) wd) * row g 0 q - T (ix2 x q))) (Ideal.ofBits .f32 1149239296#32)
    = c2 * ∑ l : Fin 2176, sl f wd h T g l := by
  refine (mean_fac _).trans (congrArg (fun z : EReal => c2 * z) ?_)
  refine Eq.trans ?_ (Fin.sum_univ_add (a := 2048) (b := 128) fun l => sl f wd h T g l).symm
  rw [Finset.sum_eq_zero fun x (_ : x ∈ (Finset.univ : Finset (Fin 128))) => sl_past f wd h T g (Fin.natAdd 2048 x) (Nat.le_add_right _ _), add_zero]
  refine Finset.sum_congr rfl fun x _ => ?_
  unfold sl sq er tr
  have hx : (Fin.castAdd 128 x).val < 2048 := x.isLt
  simp only [if_pos hx, dif_pos hx]
  rfl

/-- The weights' gradient over the target's rows and the rows past it. -/
theorem grad_sum (j : Fin 1024) : ∑ x : Fin 2048, px (row f ⟨x.val, by omega⟩) wd j * Rows.rn (px (row f ⟨x.val, by omega⟩) wd) * (Ideal.div (Ideal.ofBits .f32 1056964608#32) (Ideal.ofBits .f32 1149239296#32) * (Ideal.ofBits .f32 1073741824#32 * (row h ⟨x.val, by omega⟩ j + px (row f ⟨x.val, by omega⟩) wd j * Rows.rn (px (row f ⟨x.val, by omega⟩) wd) * row g 0 j - T (ix2 x j))))
      + ∑ x : Fin 128, px (row f ⟨2048 + x.val, by omega⟩) wd j * Rows.rn (px (row f ⟨2048 + x.val, by omega⟩) wd) * 0
    = ∑ l : Fin 2176, Rows.ng (dl f wd h T g l) (px (row f l) wd) j := by
  refine Eq.trans ?_ (Fin.sum_univ_add (a := 2048) (b := 128) fun l => Rows.ng (dl f wd h T g l) (px (row f l) wd) j).symm
  congr 1
  · refine Finset.sum_congr rfl fun x _ => ?_
    have hx : (Fin.castAdd 128 x).val < 2048 := x.isLt
    rw [← rd_dl]
    unfold Rows.ng rd
    rw [dif_pos hx, mul_comm (Ideal.div _ _ * _)]
    rfl
  · refine Finset.sum_congr rfl fun x _ => ?_
    unfold Rows.ng
    rw [dl_past f wd h T g (Fin.natAdd 2048 x) (Nat.le_add_right _ _), mul_zero, zero_mul]

/-- A projected row of real numbers. -/
def pxR (a : Fin 2816 → ℝ) (wd : S2816x1024.Idx → ℝ) (j : Fin 1024) : ℝ := ∑ k, a k * wd (ix2 k j)

theorem px_coe (a : Fin 2816 → ℝ) (wd : S2816x1024.Idx → ℝ) : px (fun k => (a k : EReal)) (fun i => (wd i : EReal)) = fun j => ((pxR a wd j : ℝ) : EReal) := by
  funext j
  unfold px pxR
  simp only [← EReal.coe_mul, Finite.coe_sum]

/-- A cotangent of real numbers is real. -/
theorem dl_real (f : S2176x2816.Idx → ℝ) (wd : S2816x1024.Idx → ℝ) (h : S2176x1024.Idx → ℝ) (T : S2048x1024.Idx → ℝ) (g : S1x1024.Idx → ℝ) (l : Fin 2176) :
    ∃ d : Fin 1024 → ℝ, dl (fun i => (f i : EReal)) (fun i => (wd i : EReal)) (fun i => (h i : EReal)) (fun i => (T i : EReal)) (fun i => (g i : EReal)) l = fun j => ((d j : ℝ) : EReal) := by
  have ex : px (row (n := 2176) (w := 2816) (fun i => (f i : EReal)) l) (fun i => (wd i : EReal)) = fun j => ((pxR (fun k => f (ix2 l k)) wd j : ℝ) : EReal) := px_coe (fun k => f (ix2 l k)) wd
  by_cases hl : l.val < 2048
  · refine ⟨fun j => (h (ix2 l j) + pxR (fun k => f (ix2 l k)) wd j * Rows.rnR (pxR (fun k => f (ix2 l k)) wd) * g (ix2 0 j) - T (ix2 ⟨l.val, hl⟩ j)) * (1 / 1024), ?_⟩
    funext j
    unfold dl de er tr
    rw [if_pos hl, dif_pos hl, ex, Rows.rn_coe, c1_eq]
    unfold row
    simp only [← EReal.coe_mul, ← EReal.coe_add, ← EReal.coe_sub]
  · exact ⟨fun _ => 0, funext fun j => dl_past _ _ _ _ _ l (by omega) j⟩

/-- The derivative's rule for the norm is the kernel's form of it, for real numbers. -/
theorem nb_real (a0 : S2176x2816.Idx → ℝ) (a1 : S2816x1024.Idx → ℝ) (a2 : S2176x1024.Idx → ℝ) (a3 : S2048x1024.Idx → ℝ) (a4 : S1x1024.Idx → ℝ) (l : Fin 2176) (j : Fin 1024) :
    rd (fun i => (a0 i : EReal)) (fun i => (a1 i : EReal)) (fun i => (a2 i : EReal)) (fun i => (a3 i : EReal)) (fun i => (a4 i : EReal)) l j * row (n := 1) (w := 1024) (fun i => (a4 i : EReal)) 0 j * Rows.rn (px (row (n := 2176) (w := 2816) (fun i => (a0 i : EReal)) l) (fun i => (a1 i : EReal)))
      + px (row (n := 2176) (w := 2816) (fun i => (a0 i : EReal)) l) (fun i => (a1 i : EReal)) j * Rows.hs (rd (fun i => (a0 i : EReal)) (fun i => (a1 i : EReal)) (fun i => (a2 i : EReal)) (fun i => (a3 i : EReal)) (fun i => (a4 i : EReal)) l) (px (row (n := 2176) (w := 2816) (fun i => (a0 i : EReal)) l) (fun i => (a1 i : EReal))) (row (n := 1) (w := 1024) (fun i => (a4 i : EReal)) 0)
      + Rows.hs (rd (fun i => (a0 i : EReal)) (fun i => (a1 i : EReal)) (fun i => (a2 i : EReal)) (fun i => (a3 i : EReal)) (fun i => (a4 i : EReal)) l) (px (row (n := 2176) (w := 2816) (fun i => (a0 i : EReal)) l) (fun i => (a1 i : EReal))) (row (n := 1) (w := 1024) (fun i => (a4 i : EReal)) 0) * px (row (n := 2176) (w := 2816) (fun i => (a0 i : EReal)) l) (fun i => (a1 i : EReal)) j
    = Rows.nb (dl (fun i => (a0 i : EReal)) (fun i => (a1 i : EReal)) (fun i => (a2 i : EReal)) (fun i => (a3 i : EReal)) (fun i => (a4 i : EReal)) l) (px (row (n := 2176) (w := 2816) (fun i => (a0 i : EReal)) l) (fun i => (a1 i : EReal))) (row (n := 1) (w := 1024) (fun i => (a4 i : EReal)) 0) j := by
  obtain ⟨d, ed⟩ := dl_real a0 a1 a2 a3 a4 l
  have ex : px (row (n := 2176) (w := 2816) (fun i => (a0 i : EReal)) l) (fun i => (a1 i : EReal)) = fun j => ((pxR (fun k => a0 (ix2 l k)) a1 j : ℝ) : EReal) := px_coe (fun k => a0 (ix2 l k)) a1
  rw [rd_dl, ed, ex, Rows.hs_eq]
  exact Rows.nb_of_halves d (pxR (fun k => a0 (ix2 l k)) a1) (fun k => a4 (ix2 0 k)) j

end

/-- The kernel and the reference leave the same four arrays from the same finite arguments. -/
theorem algebraic : Cert.algebraic_KernelFfnDownIdeal_ReferenceFfnDownIdeal_pre_finite_ffn_down (hKernelFfnDownIdeal := Cert.KernelFfnDownIdeal.Gen.facts) (hReferenceFfnDownIdeal := Cert.ReferenceFfnDownIdeal.Gen.facts) (hPre_finite_ffn_down := Cert.Pre_finite_ffn_down.Gen.facts) :=
  fun m ρ m' ρ' hp hag => by
  refine ⟨_, _, _, _, (θ_run _ _ _).mono (fun r h c => ⟨((h.1 c).1 5).trans (final5 m c), ((h.1 c).1 6).trans (final6 m c), ((h.1 c).1 7).trans (final7 m c), ((h.1 c).1 8).trans (final8 m c), DownFrame.kept m c r h.1⟩) (DownFrame.run_main (F := Ideal) m ρ), ?_⟩
  refine (θ_run _ _ _).mono (fun r h c => ?_) (Cert.ReferenceFfnDownIdeal.Value.run (F := Ideal) m' ρ')
  obtain ⟨r0, r1, r2, r3, hargs⟩ := h c
  obtain ⟨⟨a0, e0⟩, ⟨a1, e1⟩, ⟨a2, e2⟩, ⟨a3, e3⟩, ⟨a4, e4⟩⟩ := reals m c hp
  obtain ⟨g0, g1, g2, g3, g4⟩ := hag c
  refine ⟨r0.trans ?_, r1.trans ?_, r2.trans ?_, r3.trans ?_, hargs⟩
  all_goals
    clear r0 r1 r2 r3 hargs h
    funext i
  · refine (ref0 m' c i).trans ?_
    simp only [g0, g1, g2, g3, g4, e0, e1, e2, e3, e4]
    exact nb_real a0 a1 a2 a3 a4 (i 0) (i 1)
  · refine Eq.trans ?_ (congrFun (rd_dl _ _ _ _ _ (i 0)) (i 1))
    unfold rd Rows.rn px row Rows.sc Rows.ep
    pointwise
    simp only [g0, g1, g2, g3, g4]
  · refine Eq.trans ?_ (loss_sum _ _ _ _ _)
    pointwise
    simp only [g0, g1, g2, g3, g4]
    rfl
  · refine Eq.trans ?_ (grad_sum _ _ _ _ _ (i 1))
    pointwise
    simp only [g0, g1, g2, g3, g4]
    rfl

end Cert.Proof.WFfnDown

end
-- ==== Proof.BwdIn.lean ====
module

public import proofs.«01_k».proof.Defs
public import proofs.«01_k».proof.Proof.Rows
public import proofs.«01_k».proof.Proof.Gen.Pre_finite_bwd_in
public import proofs.«01_k».proof.Proof.Gen.KernelBwdInIdeal.Value
public import proofs.«01_k».proof.Proof.Gen.ReferenceBwdInIdeal
public import proofs.«01_k».proof.Proof.Gen.ReferenceBwdInIdeal.Run
public import Idealize.ShloMosaic.Lib.Pipeline.ValueKit
public import Idealize.ShloMosaic.Lib.Pointwise

@[expose] public section

set_option maxRecDepth 16384

noncomputable section

/-! The backward call into the feed-forward layer: the cotangents of the residual and of the mixer's result, and the
gradients of the two norms' weights. -/

namespace Cert.Proof.WBwdIn

open Idealize.ShloMosaic Idealize.ShloMosaic.TcCoe Idealize.SL.Sem

/-- A row of an array of two axes. -/
def row {n w : ℕ} (X : (⟨2, ![n, w]⟩ : Shape).Idx → EReal) (i : Fin n) : Fin w → EReal := fun k => X (ix2 i k)

section
open Cert.KernelBwdInIdeal Cert.KernelBwdInIdeal.Gen

variable (m : (ℓ : Loc nD τ sig) → Buf (Elt Ideal) ℓ) (c : Dev nD)

/-- The cotangent of a normed row, from the rows of the two projections' cotangents. -/
def dx (a b : Fin 2816 → EReal) (wg wu : S2816x1024.Idx → EReal) (j : Fin 1024) : EReal :=
  ∑ k, a k * wg (ix2 k j) + ∑ k, b k * wu (ix2 k j)

/-- The cotangent of a row of the residual. -/
def dh (a b : Fin 2816 → EReal) (wg wu : S2816x1024.Idx → EReal) (x h g : Fin 1024 → EReal) (j : Fin 1024) : EReal :=
  h j + Rows.nb (dx a b wg wu) x g j

/-- The norm's backward pass in a part of 192 rows. -/
theorem nbp192 (a b : S192x2816.Idx → EReal) (wg wu : S2816x1024.Idx → EReal) (x : S192x1024.Idx → EReal) (g : S1x1024.Idx → EReal) (i : S192x1024.Idx) :
    (k0_pay7 (F := Ideal) a wg b wu x g i : EReal) = Rows.nb (dx (row a (i 0)) (row b (i 0)) wg wu) (row x (i 0)) (row g 0) (i 1) := by
  unfold Rows.nb Rows.rn dx row Rows.sc Rows.ep
  pointwise [k0_pay7, k0_pay4, k0_pay5, k0_pay6, k0_pay10, k0_pay11]

/-- The rows' parts in the gradient of the first norm's weights, in a part of 192 rows. -/
theorem ngp192 (a b : S192x2816.Idx → EReal) (wg wu : S2816x1024.Idx → EReal) (x : S192x1024.Idx → EReal) (i : S192x1024.Idx) :
    (k0_pay8 (F := Ideal) a wg b wu x i : EReal) = Rows.ng (dx (row a (i 0)) (row b (i 0)) wg wu) (row x (i 0)) (i 1) := by
  unfold Rows.ng Rows.rn dx row Rows.sc Rows.ep
  pointwise [k0_pay8, k0_pay4, k0_pay5, k0_pay6, k0_pay10, k0_pay11]

/-- The residual's cotangent in a part of 192 rows. -/
theorem dhp192 (a b : S192x2816.Idx → EReal) (wg wu : S2816x1024.Idx → EReal) (x h : S192x1024.Idx → EReal) (g : S1x1024.Idx → EReal) (i : S192x1024.Idx) :
    (k0_pay9 (F := Ideal) (k0_pay7 (F := Ideal) a wg b wu x g) h i : EReal) = dh (row a (i 0)) (row b (i 0)) wg wu (row x (i 0)) (row h (i 0)) (row g 0) (i 1) := by
  have e : (k0_pay9 (F := Ideal) (k0_pay7 (F := Ideal) a wg b wu x g) h i : EReal) = h i + (k0_pay7 (F := Ideal) a wg b wu x g i : EReal) := rfl
  rw [e, nbp192]
  unfold dh row
  pointwise

/-- The second norm's backward pass in a part of 192 rows, over any rows. -/
theorem mxp192 (v h y : S192x1024.Idx → EReal) (g : S1x1024.Idx → EReal) (i : S192x1024.Idx) :
    (k0_pay13 (F := Ideal) v h y g i : EReal) = Rows.nb (row (k0_pay9 (F := Ideal) v h) (i 0)) (row y (i 0)) (row g 0) (i 1) := by
  unfold Rows.nb Rows.rn row Rows.sc Rows.ep
  pointwise [k0_pay13, k0_pay9, k0_pay4, k0_pay5, k0_pay6, k0_pay10, k0_pay11]

/-- The rows' parts in the gradient of the second norm's weights, in a part of 192 rows. -/
theorem mgp192 (v h y : S192x1024.Idx → EReal) (i : S192x1024.Idx) :
    (k0_pay12 (F := Ideal) v h y i : EReal) = Rows.ng (row (k0_pay9 (F := Ideal) v h) (i 0)) (row y (i 0)) (i 1) := by
  unfold Rows.ng Rows.rn row Rows.sc Rows.ep
  pointwise [k0_pay12, k0_pay9, k0_pay4, k0_pay5, k0_pay6, k0_pay10, k0_pay11]

theorem rowdh192 (a b : S192x2816.Idx → EReal) (wg wu : S2816x1024.Idx → EReal) (x h : S192x1024.Idx → EReal) (g : S1x1024.Idx → EReal) (r : Fin 192) :
    row (n := 192) (w := 1024) (k0_pay9 (F := Ideal) (k0_pay7 (F := Ideal) a wg b wu x g) h) r = dh (row a r) (row b r) wg wu (row x r) (row h r) (row g 0) := by
  funext j
  exact dhp192 a b wg wu x h g (ix2 r j)

/-- The second norm's backward pass in a part of 192 rows. -/
theorem mxdh192 (a b : S192x2816.Idx → EReal) (wg wu : S2816x1024.Idx → EReal) (x h y : S192x1024.Idx → EReal) (g gp : S1x1024.Idx → EReal) (i : S192x1024.Idx) :
    (k0_pay13 (F := Ideal) (k0_pay7 (F := Ideal) a wg b wu x g) h y gp i : EReal) = Rows.nb (dh (row a (i 0)) (row b (i 0)) wg wu (row x (i 0)) (row h (i 0)) (row g 0)) (row y (i 0)) (row gp 0) (i 1) := by
  refine (mxp192 _ _ _ _ _).trans ?_
  exact congrArg (fun z => Rows.nb z (row y (i 0)) (row gp 0) (i 1)) (rowdh192 a b wg wu x h g (i 0))

/-- The rows' parts in the gradient of the second norm's weights, in a part of 192 rows. -/
theorem mgdh192 (a b : S192x2816.Idx → EReal) (wg wu : S2816x1024.Idx → EReal) (x h y : S192x1024.Idx → EReal) (g : S1x1024.Idx → EReal) (i : S192x1024.Idx) :
    (k0_pay12 (F := Ideal) (k0_pay7 (F := Ideal) a wg b wu x g) h y i : EReal) = Rows.ng (dh (row a (i 0)) (row b (i 0)) wg wu (row x (i 0)) (row h (i 0)) (row g 0)) (row y (i 0)) (i 1) := by
  refine (mgp192 _ _ _ _).trans ?_
  exact congrArg (fun z => Rows.ng z (row y (i 0)) (i 1)) (rowdh192 a b wg wu x h g (i 0))

/-- A part's rows added to an accumulator. -/
theorem acc192 (v : S192x1024.Idx → EReal) (s : S1x1024.Idx → EReal) (i : S1x1024.Idx) :
    (k0_pay14 (F := Ideal) v s i : EReal) = s i + ∑ p, v (ix2 p (i 1)) := by
  pointwise [k0_pay14]

theorem acc'192 (v : S192x1024.Idx → EReal) (s : S1x1024.Idx → EReal) (i : S1x1024.Idx) :
    (k0_pay15 (F := Ideal) v s i : EReal) = s i + ∑ p, v (ix2 p (i 1)) := by
  pointwise [k0_pay15]

/-- The norm's backward pass in a part of 176 rows. -/
theorem nbp176 (a b : S176x2816.Idx → EReal) (wg wu : S2816x1024.Idx → EReal) (x : S176x1024.Idx → EReal) (g : S1x1024.Idx → EReal) (i : S176x1024.Idx) :
    (k0_pay19 (F := Ideal) a wg b wu x g i : EReal) = Rows.nb (dx (row a (i 0)) (row b (i 0)) wg wu) (row x (i 0)) (row g 0) (i 1) := by
  unfold Rows.nb Rows.rn dx row Rows.sc Rows.ep
  pointwise [k0_pay19, k0_pay16, k0_pay17, k0_pay18, k0_pay22, k0_pay23]

/-- The rows' parts in the gradient of the first norm's weights, in a part of 176 rows. -/
theorem ngp176 (a b : S176x2816.Idx → EReal) (wg wu : S2816x1024.Idx → EReal) (x : S176x1024.Idx → EReal) (i : S176x1024.Idx) :
    (k0_pay20 (F := Ideal) a wg b wu x i : EReal) = Rows.ng (dx (row a (i 0)) (row b (i 0)) wg wu) (row x (i 0)) (i 1) := by
  unfold Rows.ng Rows.rn dx row Rows.sc Rows.ep
  pointwise [k0_pay20, k0_pay16, k0_pay17, k0_pay18, k0_pay22, k0_pay23]

/-- The residual's cotangent in a part of 176 rows. -/
theorem dhp176 (a b : S176x2816.Idx → EReal) (wg wu : S2816x1024.Idx → EReal) (x h : S176x1024.Idx → EReal) (g : S1x1024.Idx → EReal) (i : S176x1024.Idx) :
    (k0_pay21 (F := Ideal) (k0_pay19 (F := Ideal) a wg b wu x g) h i : EReal) = dh (row a (i 0)) (row b (i 0)) wg wu (row x (i 0)) (row h (i 0)) (row g 0) (i 1) := by
  have e : (k0_pay21 (F := Ideal) (k0_pay19 (F := Ideal) a wg b wu x g) h i : EReal) = h i + (k0_pay19 (F := Ideal) a wg b wu x g i : EReal) := rfl
  rw [e, nbp176]
  unfold dh row
  pointwise

/-- The second norm's backward pass in a part of 176 rows, over any rows. -/
theorem mxp176 (v h y : S176x1024.Idx → EReal) (g : S1x1024.Idx → EReal) (i : S176x1024.Idx) :
    (k0_pay25 (F := Ideal) v h y g i : EReal) = Rows.nb (row (k0_pay21 (F := Ideal) v h) (i 0)) (row y (i 0)) (row g 0) (i 1) := by
  unfold Rows.nb Rows.rn row Rows.sc Rows.ep
  pointwise [k0_pay25, k0_pay21, k0_pay16, k0_pay17, k0_pay18, k0_pay22, k0_pay23]

/-- The rows' parts in the gradient of the second norm's weights, in a part of 176 rows. -/
theorem mgp176 (v h y : S176x1024.Idx → EReal) (i : S176x1024.Idx) :
    (k0_pay24 (F := Ideal) v h y i : EReal) = Rows.ng (row (k0_pay21 (F := Ideal) v h) (i 0)) (row y (i 0)) (i 1) := by
  unfold Rows.ng Rows.rn row Rows.sc Rows.ep
  pointwise [k0_pay24, k0_pay21, k0_pay16, k0_pay17, k0_pay18, k0_pay22, k0_pay23]

theorem rowdh176 (a b : S176x2816.Idx → EReal) (wg wu : S2816x1024.Idx → EReal) (x h : S176x1024.Idx → EReal) (g : S1x1024.Idx → EReal) (r : Fin 176) :
    row (n := 176) (w := 1024) (k0_pay21 (F := Ideal) (k0_pay19 (F := Ideal) a wg b wu x g) h) r = dh (row a r) (row b r) wg wu (row x r) (row h r) (row g 0) := by
  funext j
  exact dhp176 a b wg wu x h g (ix2 r j)

/-- The second norm's backward pass in a part of 176 rows. -/
theorem mxdh176 (a b : S176x2816.Idx → EReal) (wg wu : S2816x1024.Idx → EReal) (x h y : S176x1024.Idx → EReal) (g gp : S1x1024.Idx → EReal) (i : S176x1024.Idx) :
    (k0_pay25 (F := Ideal) (k0_pay19 (F := Ideal) a wg b wu x g) h y gp i : EReal) = Rows.nb (dh (row a (i 0)) (row b (i 0)) wg wu (row x (i 0)) (row h (i 0)) (row g 0)) (row y (i 0)) (row gp 0) (i 1) := by
  refine (mxp176 _ _ _ _ _).trans ?_
  exact congrArg (fun z => Rows.nb z (row y (i 0)) (row gp 0) (i 1)) (rowdh176 a b wg wu x h g (i 0))

/-- The rows' parts in the gradient of the second norm's weights, in a part of 176 rows. -/
theorem mgdh176 (a b : S176x2816.Idx → EReal) (wg wu : S2816x1024.Idx → EReal) (x h y : S176x1024.Idx → EReal) (g : S1x1024.Idx → EReal) (i : S176x1024.Idx) :
    (k0_pay24 (F := Ideal) (k0_pay19 (F := Ideal) a wg b wu x g) h y i : EReal) = Rows.ng (dh (row a (i 0)) (row b (i 0)) wg wu (row x (i 0)) (row h (i 0)) (row g 0)) (row y (i 0)) (i 1) := by
  refine (mgp176 _ _ _ _).trans ?_
  exact congrArg (fun z => Rows.ng z (row y (i 0)) (i 1)) (rowdh176 a b wg wu x h g (i 0))

/-- A part's rows added to an accumulator. -/
theorem acc176 (v : S176x1024.Idx → EReal) (s : S1x1024.Idx → EReal) (i : S1x1024.Idx) :
    (k0_pay26 (F := Ideal) v s i : EReal) = s i + ∑ p, v (ix2 p (i 1)) := by
  pointwise [k0_pay26]

theorem acc'176 (v : S176x1024.Idx → EReal) (s : S1x1024.Idx → EReal) (i : S1x1024.Idx) :
    (k0_pay27 (F := Ideal) v s i : EReal) = s i + ∑ p, v (ix2 p (i 1)) := by
  pointwise [k0_pay27]

/-- A block's part in the gradient of the first norm's weights. -/
def tg (x0 x1 : S544x2816.Idx → EReal) (x2 x3 : S2816x1024.Idx → EReal) (x4 : S544x1024.Idx → EReal) (j : S1x1024.Idx) : EReal :=
  ∑ p, Rows.ng (dx (row x0 p) (row x1 p) x2 x3) (row x4 p) (j 1)

/-- A block's part in the gradient of the second norm's weights. -/
def tm (x0 x1 : S544x2816.Idx → EReal) (x2 x3 : S2816x1024.Idx → EReal) (x4 x5 x6 : S544x1024.Idx → EReal) (x7 : S1x1024.Idx → EReal) (j : S1x1024.Idx) : EReal :=
  ∑ p, Rows.ng (dh (row x0 p) (row x1 p) x2 x3 (row x4 p) (row x6 p) (row x7 0)) (row x5 p) (j 1)

/-- A row of a part of the block is a row of the block. -/
theorem ld0_2816 (X : S544x2816.Idx → EReal) (r : Fin 192) (q : Fin 544) (h : q.val = r.val) :
    row (n := 192) (w := 2816) (View.ld (Val := Elt Ideal) (e' := .f32) X (Rect.unit ![0, 0] ![192, 2816] inb_S544x2816_S192x2816_0_0)) r = row X q := by
  funext k
  unfold row
  pointwise
  blk_ext

/-- A row of a part of the block is a row of the block. -/
theorem ld0_1024 (X : S544x1024.Idx → EReal) (r : Fin 192) (q : Fin 544) (h : q.val = r.val) :
    row (n := 192) (w := 1024) (View.ld (Val := Elt Ideal) (e' := .f32) X (Rect.unit ![0, 0] ![192, 1024] inb_S544x1024_S192x1024_0_0)) r = row X q := by
  funext k
  unfold row
  pointwise
  blk_ext

/-- A row of a part of the block is a row of the block. -/
theorem ld192_2816 (X : S544x2816.Idx → EReal) (r : Fin 176) (q : Fin 544) (h : q.val = 192 + r.val) :
    row (n := 176) (w := 2816) (View.ld (Val := Elt Ideal) (e' := .f32) X (Rect.unit ![192, 0] ![176, 2816] inb_S544x2816_S176x2816_192_0)) r = row X q := by
  funext k
  unfold row
  pointwise
  blk_ext

/-- A row of a part of the block is a row of the block. -/
theorem ld192_1024 (X : S544x1024.Idx → EReal) (r : Fin 176) (q : Fin 544) (h : q.val = 192 + r.val) :
    row (n := 176) (w := 1024) (View.ld (Val := Elt Ideal) (e' := .f32) X (Rect.unit ![192, 0] ![176, 1024] inb_S544x1024_S176x1024_192_0)) r = row X q := by
  funext k
  unfold row
  pointwise
  blk_ext

/-- A row of a part of the block is a row of the block. -/
theorem ld368_2816 (X : S544x2816.Idx → EReal) (r : Fin 176) (q : Fin 544) (h : q.val = 368 + r.val) :
    row (n := 176) (w := 2816) (View.ld (Val := Elt Ideal) (e' := .f32) X (Rect.unit ![368, 0] ![176, 2816] inb_S544x2816_S176x2816_368_0)) r = row X q := by
  funext k
  unfold row
  pointwise
  blk_ext

/-- A row of a part of the block is a row of the block. -/
theorem ld368_1024 (X : S544x1024.Idx → EReal) (r : Fin 176) (q : Fin 544) (h : q.val = 368 + r.val) :
    row (n := 176) (w := 1024) (View.ld (Val := Elt Ideal) (e' := .f32) X (Rect.unit ![368, 0] ![176, 1024] inb_S544x1024_S176x1024_368_0)) r = row X q := by
  funext k
  unfold row
  pointwise
  blk_ext

/-- The three parts cover the block. -/
theorem cov_f32 (p1 p2 : S176x1024.Idx → Elt Ideal .f32) (p3 : S192x1024.Idx → Elt Ideal .f32) (y : S544x1024.Idx) :
    ∃ pc ∈ ([⟨Rect.unit ![368, 0] ![176, 1024] inb_S544x1024_S176x1024_368_0, p1⟩, ⟨Rect.unit ![192, 0] ![176, 1024] inb_S544x1024_S176x1024_192_0, p2⟩,
      ⟨Rect.unit ![0, 0] ![192, 1024] inb_S544x1024_S192x1024_0_0, p3⟩] : List (View.Piece (Elt Ideal) S544x1024 .f32)), y ∈ pc.1.set :=
  View.cover_of_tiledBy _ ![16, 1024] (by sl_kernel_rfl) y

/-- The three parts cover the block. -/
theorem cov_bf16 (p1 p2 : S176x1024.Idx → Elt Ideal .bf16) (p3 : S192x1024.Idx → Elt Ideal .bf16) (y : S544x1024.Idx) :
    ∃ pc ∈ ([⟨Rect.unit ![368, 0] ![176, 1024] inb_S544x1024_S176x1024_368_0, p1⟩, ⟨Rect.unit ![192, 0] ![176, 1024] inb_S544x1024_S176x1024_192_0, p2⟩,
      ⟨Rect.unit ![0, 0] ![192, 1024] inb_S544x1024_S192x1024_0_0, p3⟩] : List (View.Piece (Elt Ideal) S544x1024 .bf16)), y ∈ pc.1.set :=
  View.cover_of_tiledBy _ ![16, 1024] (by sl_kernel_rfl) y

/-- What a point leaves in the residual's cotangent. -/
theorem atA9 (t : Fin cfg0.N) (h0 : t.val % 4 = 0) (y : S544x1024.Idx) :
    ((outsAt0 m c t.val t.isLt).1 y : EReal) = dh (row (n := 544) (w := 2816) (iblk m c 0 t) (y 0)) (row (n := 544) (w := 2816) (iblk m c 1 t) (y 0)) (iblk m c 2 t) (iblk m c 3 t) (row (n := 544) (w := 1024) (iblk m c 4 t) (y 0)) (row (n := 544) (w := 1024) (iblk m c 6 t) (y 0)) (row (n := 1) (w := 1024) (iblk m c 7 t) 0) (y 1) := by
  rw [outsAt0_A m c t h0]
  dsimp only
  generalize iblk m c 0 t = x0, iblk m c 1 t = x1, iblk m c 2 t = x2, iblk m c 3 t = x3, iblk m c 4 t = x4, iblk m c 5 t = x5, iblk m c 6 t = x6, iblk m c 7 t = x7, iblk m c 8 t = x8
  frame_out
  canon_tiles x h using cov_f32 _ _ _ y
  on_goal 1 => refine (dhp176 _ _ _ _ _ _ _ _).trans ?_
  on_goal 2 => refine (dhp176 _ _ _ _ _ _ _ _).trans ?_
  on_goal 3 => refine (dhp192 _ _ _ _ _ _ _ _).trans ?_
  all_goals congr 1
  all_goals first | exact Fin.ext h1.symm | exact ld368_2816 _ _ _ h0 | exact ld368_1024 _ _ _ h0 | exact ld192_2816 _ _ _ h0 | exact ld192_1024 _ _ _ h0 | exact ld0_2816 _ _ _ h0 | exact ld0_1024 _ _ _ h0

/-- What a point leaves in the mixer's cotangent. -/
theorem atA10 (t : Fin cfg0.N) (h0 : t.val % 4 = 0) (y : S544x1024.Idx) :
    ((outsAt0 m c t.val t.isLt).2.1 y : EReal) = Rows.nb (dh (row (n := 544) (w := 2816) (iblk m c 0 t) (y 0)) (row (n := 544) (w := 2816) (iblk m c 1 t) (y 0)) (iblk m c 2 t) (iblk m c 3 t) (row (n := 544) (w := 1024) (iblk m c 4 t) (y 0)) (row (n := 544) (w := 1024) (iblk m c 6 t) (y 0)) (row (n := 1) (w := 1024) (iblk m c 7 t) 0)) (row (n := 544) (w := 1024) (iblk m c 5 t) (y 0)) (row (n := 1) (w := 1024) (iblk m c 8 t) 0) (y 1) := by
  rw [outsAt0_A m c t h0]
  dsimp only
  generalize iblk m c 0 t = x0, iblk m c 1 t = x1, iblk m c 2 t = x2, iblk m c 3 t = x3, iblk m c 4 t = x4, iblk m c 5 t = x5, iblk m c 6 t = x6, iblk m c 7 t = x7, iblk m c 8 t = x8
  frame_out
  canon_tiles x h using cov_bf16 _ _ _ y
  on_goal 1 => refine (mxdh176 _ _ _ _ _ _ _ _ _ _).trans ?_
  on_goal 2 => refine (mxdh176 _ _ _ _ _ _ _ _ _ _).trans ?_
  on_goal 3 => refine (mxdh192 _ _ _ _ _ _ _ _ _ _).trans ?_
  all_goals
    congr 1
    on_goal 3 => exact Fin.ext h1.symm
    on_goal 1 => congr 1
    all_goals first | exact ld368_2816 _ _ _ h0 | exact ld368_1024 _ _ _ h0 | exact ld192_2816 _ _ _ h0 | exact ld192_1024 _ _ _ h0 | exact ld0_2816 _ _ _ h0 | exact ld0_1024 _ _ _ h0

/-- What a point adds to the gradient of the first norm's weights. -/
theorem atA11 (t : Fin cfg0.N) (h0 : t.val % 4 = 0) (y : S1x1024.Idx) :
    ((outsAt0 m c t.val t.isLt).2.2.1 y : EReal) = (k0_pay2 (F := Ideal) y : EReal) + tg (iblk m c 0 t) (iblk m c 1 t) (iblk m c 2 t) (iblk m c 3 t) (iblk m c 4 t) y := by
  rw [outsAt0_A m c t h0]
  dsimp only
  generalize iblk m c 0 t = x0, iblk m c 1 t = x1, iblk m c 2 t = x2, iblk m c 3 t = x3, iblk m c 4 t = x4, iblk m c 5 t = x5, iblk m c 6 t = x6, iblk m c 7 t = x7, iblk m c 8 t = x8
  frame_out
  refine (acc176 (k0_pay20 (F := Ideal) _ _ _ _ _) _ y).trans ?_
  rw [acc176, acc192]
  simp only [ngp176, ngp192]
  unfold tg
  rw [Rows.sum_parts, ← add_assoc, ← add_assoc]
  congr 1
  on_goal 1 => congr 1
  on_goal 1 => congr 1
  all_goals
    refine Finset.sum_congr rfl fun p _ => ?_
    congr 1
    on_goal 1 => congr 1
    all_goals first | exact ld368_2816 _ _ _ rfl | exact ld368_1024 _ _ _ rfl | exact ld192_2816 _ _ _ rfl | exact ld192_1024 _ _ _ rfl | exact ld0_2816 _ _ _ rfl | exact ld0_1024 _ _ _ rfl

/-- What a point adds to the gradient of the second norm's weights. -/
theorem atA12 (t : Fin cfg0.N) (h0 : t.val % 4 = 0) (y : S1x1024.Idx) :
    ((outsAt0 m c t.val t.isLt).2.2.2 y : EReal) = (k0_pay3 (F := Ideal) y : EReal) + tm (iblk m c 0 t) (iblk m c 1 t) (iblk m c 2 t) (iblk m c 3 t) (iblk m c 4 t) (iblk m c 5 t) (iblk m c 6 t) (iblk m c 7 t) y := by
  rw [outsAt0_A m c t h0]
  dsimp only
  generalize iblk m c 0 t = x0, iblk m c 1 t = x1, iblk m c 2 t = x2, iblk m c 3 t = x3, iblk m c 4 t = x4, iblk m c 5 t = x5, iblk m c 6 t = x6, iblk m c 7 t = x7, iblk m c 8 t = x8
  frame_out
  refine (acc'176 (k0_pay24 (F := Ideal) (k0_pay19 (F := Ideal) _ _ _ _ _ _) _ _) _ y).trans ?_
  rw [acc'176, acc'192]
  simp only [mgdh176, mgdh192]
  unfold tm
  rw [Rows.sum_parts, ← add_assoc, ← add_assoc]
  congr 1
  on_goal 1 => congr 1
  on_goal 1 => congr 1
  all_goals
    refine Finset.sum_congr rfl fun p _ => ?_
    congr 1
    on_goal 1 => congr 1
    all_goals first | exact ld368_2816 _ _ _ rfl | exact ld368_1024 _ _ _ rfl | exact ld192_2816 _ _ _ rfl | exact ld192_1024 _ _ _ rfl | exact ld0_2816 _ _ _ rfl | exact ld0_1024 _ _ _ rfl

/-- What a point leaves in the residual's cotangent. -/
theorem atB9 (t : Fin cfg0.N) (h0 : ¬ t.val % 4 = 0) (y : S544x1024.Idx) :
    ((outsAt0 m c t.val t.isLt).1 y : EReal) = dh (row (n := 544) (w := 2816) (iblk m c 0 t) (y 0)) (row (n := 544) (w := 2816) (iblk m c 1 t) (y 0)) (iblk m c 2 t) (iblk m c 3 t) (row (n := 544) (w := 1024) (iblk m c 4 t) (y 0)) (row (n := 544) (w := 1024) (iblk m c 6 t) (y 0)) (row (n := 1) (w := 1024) (iblk m c 7 t) 0) (y 1) := by
  rw [outsAt0_B m c t h0]
  dsimp only
  generalize iblk m c 0 t = x0, iblk m c 1 t = x1, iblk m c 2 t = x2, iblk m c 3 t = x3, iblk m c 4 t = x4, iblk m c 5 t = x5, iblk m c 6 t = x6, iblk m c 7 t = x7, iblk m c 8 t = x8
  frame_out
  canon_tiles x h using cov_f32 _ _ _ y
  on_goal 1 => refine (dhp176 _ _ _ _ _ _ _ _).trans ?_
  on_goal 2 => refine (dhp176 _ _ _ _ _ _ _ _).trans ?_
  on_goal 3 => refine (dhp192 _ _ _ _ _ _ _ _).trans ?_
  all_goals congr 1
  all_goals first | exact Fin.ext h1.symm | exact ld368_2816 _ _ _ h0 | exact ld368_1024 _ _ _ h0 | exact ld192_2816 _ _ _ h0 | exact ld192_1024 _ _ _ h0 | exact ld0_2816 _ _ _ h0 | exact ld0_1024 _ _ _ h0

/-- What a point leaves in the mixer's cotangent. -/
theorem atB10 (t : Fin cfg0.N) (h0 : ¬ t.val % 4 = 0) (y : S544x1024.Idx) :
    ((outsAt0 m c t.val t.isLt).2.1 y : EReal) = Rows.nb (dh (row (n := 544) (w := 2816) (iblk m c 0 t) (y 0)) (row (n := 544) (w := 2816) (iblk m c 1 t) (y 0)) (iblk m c 2 t) (iblk m c 3 t) (row (n := 544) (w := 1024) (iblk m c 4 t) (y 0)) (row (n := 544) (w := 1024) (iblk m c 6 t) (y 0)) (row (n := 1) (w := 1024) (iblk m c 7 t) 0)) (row (n := 544) (w := 1024) (iblk m c 5 t) (y 0)) (row (n := 1) (w := 1024) (iblk m c 8 t) 0) (y 1) := by
  rw [outsAt0_B m c t h0]
  dsimp only
  generalize iblk m c 0 t = x0, iblk m c 1 t = x1, iblk m c 2 t = x2, iblk m c 3 t = x3, iblk m c 4 t = x4, iblk m c 5 t = x5, iblk m c 6 t = x6, iblk m c 7 t = x7, iblk m c 8 t = x8
  frame_out
  canon_tiles x h using cov_bf16 _ _ _ y
  on_goal 1 => refine (mxdh176 _ _ _ _ _ _ _ _ _ _).trans ?_
  on_goal 2 => refine (mxdh176 _ _ _ _ _ _ _ _ _ _).trans ?_
  on_goal 3 => refine (mxdh192 _ _ _ _ _ _ _ _ _ _).trans ?_
  all_goals
    congr 1
    on_goal 3 => exact Fin.ext h1.symm
    on_goal 1 => congr 1
    all_goals first | exact ld368_2816 _ _ _ h0 | exact ld368_1024 _ _ _ h0 | exact ld192_2816 _ _ _ h0 | exact ld192_1024 _ _ _ h0 | exact ld0_2816 _ _ _ h0 | exact ld0_1024 _ _ _ h0

/-- What a point adds to the gradient of the first norm's weights. -/
theorem atB11 (t : Fin cfg0.N) (h0 : ¬ t.val % 4 = 0) (y : S1x1024.Idx) :
    ((outsAt0 m c t.val t.isLt).2.2.1 y : EReal) = ((outsAt0 m c (t.val - 1) (Nat.lt_of_le_of_lt (Nat.sub_le _ _) t.isLt)).2.2.1 y : EReal) + tg (iblk m c 0 t) (iblk m c 1 t) (iblk m c 2 t) (iblk m c 3 t) (iblk m c 4 t) y := by
  rw [outsAt0_B m c t h0]
  dsimp only
  generalize (outsAt0 m c (t.val - 1) (Nat.lt_of_le_of_lt (Nat.sub_le _ _) t.isLt)).2.2.1 = acc
  generalize iblk m c 0 t = x0, iblk m c 1 t = x1, iblk m c 2 t = x2, iblk m c 3 t = x3, iblk m c 4 t = x4, iblk m c 5 t = x5, iblk m c 6 t = x6, iblk m c 7 t = x7, iblk m c 8 t = x8
  frame_out
  refine (acc176 (k0_pay20 (F := Ideal) _ _ _ _ _) _ y).trans ?_
  rw [acc176, acc192]
  simp only [ngp176, ngp192]
  unfold tg
  rw [Rows.sum_parts, ← add_assoc, ← add_assoc]
  congr 1
  on_goal 1 => congr 1
  on_goal 1 => congr 1
  all_goals
    refine Finset.sum_congr rfl fun p _ => ?_
    congr 1
    on_goal 1 => congr 1
    all_goals first | exact ld368_2816 _ _ _ rfl | exact ld368_1024 _ _ _ rfl | exact ld192_2816 _ _ _ rfl | exact ld192_1024 _ _ _ rfl | exact ld0_2816 _ _ _ rfl | exact ld0_1024 _ _ _ rfl

/-- What a point adds to the gradient of the second norm's weights. -/
theorem atB12 (t : Fin cfg0.N) (h0 : ¬ t.val % 4 = 0) (y : S1x1024.Idx) :
    ((outsAt0 m c t.val t.isLt).2.2.2 y : EReal) = ((outsAt0 m c (t.val - 1) (Nat.lt_of_le_of_lt (Nat.sub_le _ _) t.isLt)).2.2.2 y : EReal) + tm (iblk m c 0 t) (iblk m c 1 t) (iblk m c 2 t) (iblk m c 3 t) (iblk m c 4 t) (iblk m c 5 t) (iblk m c 6 t) (iblk m c 7 t) y := by
  rw [outsAt0_B m c t h0]
  dsimp only
  generalize (outsAt0 m c (t.val - 1) (Nat.lt_of_le_of_lt (Nat.sub_le _ _) t.isLt)).2.2.2 = acc
  generalize iblk m c 0 t = x0, iblk m c 1 t = x1, iblk m c 2 t = x2, iblk m c 3 t = x3, iblk m c 4 t = x4, iblk m c 5 t = x5, iblk m c 6 t = x6, iblk m c 7 t = x7, iblk m c 8 t = x8
  frame_out
  refine (acc'176 (k0_pay24 (F := Ideal) (k0_pay19 (F := Ideal) _ _ _ _ _ _) _ _) _ y).trans ?_
  rw [acc'176, acc'192]
  simp only [mgdh176, mgdh192]
  unfold tm
  rw [Rows.sum_parts, ← add_assoc, ← add_assoc]
  congr 1
  on_goal 1 => congr 1
  on_goal 1 => congr 1
  all_goals
    refine Finset.sum_congr rfl fun p _ => ?_
    congr 1
    on_goal 1 => congr 1
    all_goals first | exact ld368_2816 _ _ _ rfl | exact ld368_1024 _ _ _ rfl | exact ld192_2816 _ _ _ rfl | exact ld192_1024 _ _ _ rfl | exact ld0_2816 _ _ _ rfl | exact ld0_1024 _ _ _ rfl

end
end Cert.Proof.WBwdIn
end
-- ==== Proof.WBwdIn.lean ====
module

public import proofs.«01_k».proof.Proof.BwdIn

@[expose] public section

set_option maxRecDepth 16384

noncomputable section

/-! The backward call into the feed-forward layer: what the run leaves in its four results, and that the derivative of
the two norms and projections leaves the same. -/

namespace Cert.Proof.WBwdIn

open Idealize.ShloMosaic Idealize.ShloMosaic.TcCoe Idealize.SL.Sem

section
open Cert.KernelBwdInIdeal Cert.KernelBwdInIdeal.Gen

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel
theorem idx10 : ∀ t : Fin cfg0.N, win0_10.index t = ![t.val, 0] := by decide +kernel

/-- A row of a point's block is a row of the argument. -/
theorem br0 (t : Fin cfg0.N) (r : Fin 544) (l : Fin 2176) (h : l.val = t.val * 544 + r.val) :
    row (n := 544) (w := 2816) (iblk m c 0 t) r = row (n := 2176) (w := 2816) (m ((c : Thread nD τ).loc main_arg0)) l := by
  funext k
  refine Eq.trans ?_ (congrFun (V_main_arg0 m c) _)
  unfold row
  blk_ext [iblk, idx0 t]

/-- A row of a point's block is a row of the argument. -/
theorem br1 (t : Fin cfg0.N) (r : Fin 544) (l : Fin 2176) (h : l.val = t.val * 544 + r.val) :
    row (n := 544) (w := 2816) (iblk m c 1 t) r = row (n := 2176) (w := 2816) (m ((c : Thread nD τ).loc main_arg1)) l := by
  funext k
  refine Eq.trans ?_ (congrFun (V_main_arg1 m c) _)
  unfold row
  blk_ext [iblk, idx1 t]

/-- A row of a point's block is a row of the argument. -/
theorem br4 (t : Fin cfg0.N) (r : Fin 544) (l : Fin 2176) (h : l.val = t.val * 544 + r.val) :
    row (n := 544) (w := 1024) (iblk m c 4 t) r = row (n := 2176) (w := 1024) (m ((c : Thread nD τ).loc main_arg4)) l := by
  funext k
  refine Eq.trans ?_ (congrFun (V_main_arg4 m c) _)
  unfold row
  blk_ext [iblk, idx4 t]

/-- A row of a point's block is a row of the argument. -/
theorem br5 (t : Fin cfg0.N) (r : Fin 544) (l : Fin 2176) (h : l.val = t.val * 544 + r.val) :
    row (n := 544) (w := 1024) (iblk m c 5 t) r = row (n := 2176) (w := 1024) (m ((c : Thread nD τ).loc main_arg5)) l := by
  funext k
  refine Eq.trans ?_ (congrFun (V_main_arg5 m c) _)
  unfold row
  blk_ext [iblk, idx5 t]

/-- A row of a point's block is a row of the argument. -/
theorem br6 (t : Fin cfg0.N) (r : Fin 544) (l : Fin 2176) (h : l.val = t.val * 544 + r.val) :
    row (n := 544) (w := 1024) (iblk m c 6 t) r = row (n := 2176) (w := 1024) (m ((c : Thread nD τ).loc main_arg6)) l := by
  funext k
  refine Eq.trans ?_ (congrFun (V_main_arg6 m c) _)
  unfold row
  blk_ext [iblk, idx6 t]

theorem wh2 (t : Fin cfg0.N) : (iblk m c 2 t : S2816x1024.Idx → EReal) = (m ((c : Thread nD τ).loc main_arg2)) := by
  funext k
  refine Eq.trans ?_ (congrFun (V_main_arg2 m c) _)
  blk_ext [iblk, idx2 t]

theorem wh3 (t : Fin cfg0.N) : (iblk m c 3 t : S2816x1024.Idx → EReal) = (m ((c : Thread nD τ).loc main_arg3)) := by
  funext k
  refine Eq.trans ?_ (congrFun (V_main_arg3 m c) _)
  blk_ext [iblk, idx3 t]

theorem br7 (t : Fin cfg0.N) : row (n := 1) (w := 1024) (iblk m c 7 t) 0 = (row (n := 1) (w := 1024) (m ((c : Thread nD τ).loc main_arg7)) 0) := by
  funext k
  refine Eq.trans ?_ (congrFun (V_main_arg7 m c) _)
  unfold row
  blk_ext [iblk, idx7 t]

theorem br8 (t : Fin cfg0.N) : row (n := 1) (w := 1024) (iblk m c 8 t) 0 = (row (n := 1) (w := 1024) (m ((c : Thread nD τ).loc main_arg8)) 0) := by
  funext k
  refine Eq.trans ?_ (congrFun (V_main_arg8 m c) _)
  unfold row
  blk_ext [iblk, idx8 t]

/-- The residual's cotangent after the run. -/
theorem final9 : (dats m 0 c).arrAt 9 cfg0.N = fun i => (dh (row (n := 2176) (w := 2816) (m ((c : Thread nD τ).loc main_arg0)) (i 0)) (row (n := 2176) (w := 2816) (m ((c : Thread nD τ).loc main_arg1)) (i 0)) (m ((c : Thread nD τ).loc main_arg2)) (m ((c : Thread nD τ).loc main_arg3)) (row (n := 2176) (w := 1024) (m ((c : Thread nD τ).loc main_arg4)) (i 0)) (row (n := 2176) (w := 1024) (m ((c : Thread nD τ).loc main_arg6)) (i 0)) (row (n := 1) (w := 1024) (m ((c : Thread nD τ).loc main_arg7)) 0)) (i 1) := by
  refine (dats m 0 c).arrAt_eq_of_covers 9 _ (by decide +kernel) fun t hf y => ?_
  blk_simp
  rw [after0_9]
  have e0 : ((win0_9.blk t).view.emb y 0).val = t.val * 544 + (y 0).val := by
    blk_simp [idx9 t]
    try rfl
  have e1 : (win0_9.blk t).view.emb y 1 = y 1 := by
    refine Fin.ext ?_
    blk_simp [idx9 t]
    try omega
  rw [e1]
  by_cases h0 : t.val % 4 = 0
  · refine (atA9 m c t h0 y).trans ?_
    rw [br0 m c t (y 0) _ e0, br1 m c t (y 0) _ e0, br4 m c t (y 0) _ e0, br6 m c t (y 0) _ e0, wh2, wh3, br7]
  · refine (atB9 m c t h0 y).trans ?_
    rw [br0 m c t (y 0) _ e0, br1 m c t (y 0) _ e0, br4 m c t (y 0) _ e0, br6 m c t (y 0) _ e0, wh2, wh3, br7]

/-- The mixer's cotangent after the run. -/
theorem final10 : (dats m 0 c).arrAt 10 cfg0.N = fun i => Rows.nb (dh (row (n := 2176) (w := 2816) (m ((c : Thread nD τ).loc main_arg0)) (i 0)) (row (n := 2176) (w := 2816) (m ((c : Thread nD τ).loc main_arg1)) (i 0)) (m ((c : Thread nD τ).loc main_arg2)) (m ((c : Thread nD τ).loc main_arg3)) (row (n := 2176) (w := 1024) (m ((c : Thread nD τ).loc main_arg4)) (i 0)) (row (n := 2176) (w := 1024) (m ((c : Thread nD τ).loc main_arg6)) (i 0)) (row (n := 1) (w := 1024) (m ((c : Thread nD τ).loc main_arg7)) 0)) (row (n := 2176) (w := 1024) (m ((c : Thread nD τ).loc main_arg5)) (i 0)) (row (n := 1) (w := 1024) (m ((c : Thread nD τ).loc main_arg8)) 0) (i 1) := by
  refine (dats m 0 c).arrAt_eq_of_covers 10 _ (by decide +kernel) fun t hf y => ?_
  blk_simp
  rw [after0_10]
  have e0 : ((win0_10.blk t).view.emb y 0).val = t.val * 544 + (y 0).val := by
    blk_simp [idx10 t]
    try rfl
  have e1 : (win0_10.blk t).view.emb y 1 = y 1 := by
    refine Fin.ext ?_
    blk_simp [idx10 t]
    try omega
  rw [e1]
  by_cases h0 : t.val % 4 = 0
  · refine (atA10 m c t h0 y).trans ?_
    rw [br0 m c t (y 0) _ e0, br1 m c t (y 0) _ e0, br4 m c t (y 0) _ e0, br5 m c t (y 0) _ e0, br6 m c t (y 0) _ e0, wh2, wh3, br7, br8]
  · refine (atB10 m c t h0 y).trans ?_
    rw [br0 m c t (y 0) _ e0, br1 m c t (y 0) _ e0, br4 m c t (y 0) _ e0, br5 m c t (y 0) _ e0, br6 m c t (y 0) _ e0, wh2, wh3, br7, br8]

/-- The first norm's weights' gradient after the run. -/
theorem final11 : (dats m 0 c).arrAt 11 cfg0.N = fun i => ∑ l : Fin 2176, Rows.ng (dx (row (n := 2176) (w := 2816) (m ((c : Thread nD τ).loc main_arg0)) l) (row (n := 2176) (w := 2816) (m ((c : Thread nD τ).loc main_arg1)) l) (m ((c : Thread nD τ).loc main_arg2)) (m ((c : Thread nD τ).loc main_arg3))) (row (n := 2176) (w := 1024) (m ((c : Thread nD τ).loc main_arg4)) l) (i 1) := by
  refine (dats m 0 c).arrAt_eq_of_after_last 11 t0_3 (by decide +kernel) _ fun j => ?_
  blk_simp
  rw [after0_11]
  refine (Pipeline.eq_sum_fin_of_reset_step_apply_last (fun n h => ((outsAt0 m c n h).2.2.1 : S1x1024.Idx → EReal)) 4 (fun i => (k0_pay2 (F := Ideal) i : EReal))
    (fun t i => tg (iblk m c 0 t) (iblk m c 1 t) (iblk m c 2 t) (iblk m c 3 t) (iblk m c 4 t) i) (atA11 m c) (atB11 m c) (by decide +kernel) t0_3 (by decide +kernel) j).trans ?_
  have hz : (k0_pay2 (F := Ideal) j : EReal) = 0 := by pointwise [k0_pay2]
  rw [hz, zero_add]
  refine (Finset.sum_congr rfl fun t _ => ?_).trans (Fin.sum_mul_add_congr (S := 4) (n := 544) (L := 2176) (F := fun s k => Rows.ng (dx (row (n := 2176) (w := 2816) (m ((c : Thread nD τ).loc main_arg0)) ⟨s.val * 544 + k.val, by omega⟩) (row (n := 2176) (w := 2816) (m ((c : Thread nD τ).loc main_arg1)) ⟨s.val * 544 + k.val, by omega⟩) (m ((c : Thread nD τ).loc main_arg2)) (m ((c : Thread nD τ).loc main_arg3))) (row (n := 2176) (w := 1024) (m ((c : Thread nD τ).loc main_arg4)) ⟨s.val * 544 + k.val, by omega⟩) (j 1)) fun s k hl => rfl)
  unfold tg
  refine Finset.sum_congr rfl fun p _ => ?_
  rw [br0 m c t p ⟨t.val * 544 + p.val, by have : t.val < 4 := t.isLt; omega⟩ rfl, br1 m c t p ⟨t.val * 544 + p.val, by have : t.val < 4 := t.isLt; omega⟩ rfl, br4 m c t p ⟨t.val * 544 + p.val, by have : t.val < 4 := t.isLt; omega⟩ rfl, wh2, wh3]

/-- The second norm's weights' gradient after the run. -/
theorem final12 : (dats m 0 c).arrAt 12 cfg0.N = fun i => ∑ l : Fin 2176, Rows.ng (dh (row (n := 2176) (w := 2816) (m ((c : Thread nD τ).loc main_arg0)) l) (row (n := 2176) (w := 2816) (m ((c : Thread nD τ).loc main_arg1)) l) (m ((c : Thread nD τ).loc main_arg2)) (m ((c : Thread nD τ).loc main_arg3)) (row (n := 2176) (w := 1024) (m ((c : Thread nD τ).loc main_arg4)) l) (row (n := 2176) (w := 1024) (m ((c : Thread nD τ).loc main_arg6)) l) (row (n := 1) (w := 1024) (m ((c : Thread nD τ).loc main_arg7)) 0)) (row (n := 2176) (w := 1024) (m ((c : Thread nD τ).loc main_arg5)) l) (i 1) := by
  refine (dats m 0 c).arrAt_eq_of_after_last 12 t0_3 (by decide +kernel) _ fun j => ?_
  blk_simp
  rw [after0_12]
  refine (Pipeline.eq_sum_fin_of_reset_step_apply_last (fun n h => ((outsAt0 m c n h).2.2.2 : S1x1024.Idx → EReal)) 4 (fun i => (k0_pay3 (F := Ideal) i : EReal))
    (fun t i => tm (iblk m c 0 t) (iblk m c 1 t) (iblk m c 2 t) (iblk m c 3 t) (iblk m c 4 t) (iblk m c 5 t) (iblk m c 6 t) (iblk m c 7 t) i) (atA12 m c) (atB12 m c) (by decide +kernel) t0_3 (by decide +kernel) j).trans ?_
  have hz : (k0_pay3 (F := Ideal) j : EReal) = 0 := by pointwise [k0_pay3]
  rw [hz, zero_add]
  refine (Finset.sum_congr rfl fun t _ => ?_).trans (Fin.sum_mul_add_congr (S := 4) (n := 544) (L := 2176) (F := fun s k => Rows.ng (dh (row (n := 2176) (w := 2816) (m ((c : Thread nD τ).loc main_arg0)) ⟨s.val * 544 + k.val, by omega⟩) (row (n := 2176) (w := 2816) (m ((c : Thread nD τ).loc main_arg1)) ⟨s.val * 544 + k.val, by omega⟩) (m ((c : Thread nD τ).loc main_arg2)) (m ((c : Thread nD τ).loc main_arg3)) (row (n := 2176) (w := 1024) (m ((c : Thread nD τ).loc main_arg4)) ⟨s.val * 544 + k.val, by omega⟩) (row (n := 2176) (w := 1024) (m ((c : Thread nD τ).loc main_arg6)) ⟨s.val * 544 + k.val, by omega⟩) (row (n := 1) (w := 1024) (m ((c : Thread nD τ).loc main_arg7)) 0)) (row (n := 2176) (w := 1024) (m ((c : Thread nD τ).loc main_arg5)) ⟨s.val * 544 + k.val, by omega⟩) (j 1)) fun s k hl => rfl)
  unfold tm
  refine Finset.sum_congr rfl fun p _ => ?_
  rw [br0 m c t p ⟨t.val * 544 + p.val, by have : t.val < 4 := t.isLt; omega⟩ rfl, br1 m c t p ⟨t.val * 544 + p.val, by have : t.val < 4 := t.isLt; omega⟩ rfl, br4 m c t p ⟨t.val * 544 + p.val, by have : t.val < 4 := t.isLt; omega⟩ rfl, br5 m c t p ⟨t.val * 544 + p.val, by have : t.val < 4 := t.isLt; omega⟩ rfl, br6 m c t p ⟨t.val * 544 + p.val, by have : t.val < 4 := t.isLt; omega⟩ rfl, wh2, wh3, br7]

/-- The precondition: all nine arguments are arrays of real numbers. -/
theorem reals (h : Cert.Pre_KernelBwdInIdeal_finite_bwd_in (hPre_finite_bwd_in := Cert.Pre_finite_bwd_in.Gen.facts) m) :
    (∃ r : S2176x2816.Idx → ℝ, m ((c : Thread nD τ).loc main_arg0) = fun i => (r i : EReal)) ∧
    (∃ r : S2176x2816.Idx → ℝ, m ((c : Thread nD τ).loc main_arg1) = fun i => (r i : EReal)) ∧
    (∃ r : S2816x1024.Idx → ℝ, m ((c : Thread nD τ).loc main_arg2) = fun i => (r i : EReal)) ∧
    (∃ r : S2816x1024.Idx → ℝ, m ((c : Thread nD τ).loc main_arg3) = fun i => (r i : EReal)) ∧
    (∃ r : S2176x1024.Idx → ℝ, m ((c : Thread nD τ).loc main_arg4) = fun i => (r i : EReal)) ∧
    (∃ r : S2176x1024.Idx → ℝ, m ((c : Thread nD τ).loc main_arg5) = fun i => (r i : EReal)) ∧
    (∃ r : S2176x1024.Idx → ℝ, m ((c : Thread nD τ).loc main_arg6) = fun i => (r i : EReal)) ∧
    (∃ r : S1x1024.Idx → ℝ, m ((c : Thread nD τ).loc main_arg7) = fun i => (r i : EReal)) ∧
    (∃ r : S1x1024.Idx → ℝ, m ((c : Thread nD τ).loc main_arg8) = fun i => (r i : EReal)) := by
  have h' := congrFun (h c) (fun a => a.elim0)
  dsimp only [Cert.Pre_finite_bwd_in.fn, Cert.Pre_finite_bwd_in.fn_part1, Cert.Pre_finite_bwd_in.fn_part2] at h'
  obtain ⟨h_, h8⟩ := Finite.both h'
  obtain ⟨h_, h7⟩ := Finite.both h_
  obtain ⟨h_, h6⟩ := Finite.both h_
  obtain ⟨h_, h5⟩ := Finite.both h_
  obtain ⟨h_, h4⟩ := Finite.both h_
  obtain ⟨h_, h3⟩ := Finite.both h_
  obtain ⟨h_, h2⟩ := Finite.both h_
  obtain ⟨h0, h1⟩ := Finite.both h_
  exact ⟨Finite.real_of_all _ _ (fun _ => Finite.inf_eq) _ _ _ _ h0, Finite.real_of_all _ _ (fun _ => Finite.inf_eq) _ _ _ _ h1, Finite.real_of_all _ _ (fun _ => Finite.inf_eq) _ _ _ _ h2, Finite.real_of_all _ _ (fun _ => Finite.inf_eq) _ _ _ _ h3, Finite.real_of_all _ _ (fun _ => Finite.inf_eq) _ _ _ _ h4, Finite.real_of_all _ _ (fun _ => Finite.inf_eq) _ _ _ _ h5, Finite.real_of_all _ _ (fun _ => Finite.inf_eq) _ _ _ _ h6, Finite.real_of_all _ _ (fun _ => Finite.inf_eq) _ _ _ _ h7, Finite.real_of_all _ _ (fun _ => Finite.inf_eq) _ _ _ _ h8⟩

end

/-- A row's cotangent as the derivative's rule writes it. -/
def rb (d x g : Fin 1024 → EReal) (j : Fin 1024) : EReal := d j * g j * Rows.rn x + x j * Rows.hs d x g + Rows.hs d x g * x j

/-- The same with the residual's cotangent added first. -/
def rh (d x h g : Fin 1024 → EReal) (j : Fin 1024) : EReal := h j + d j * g j * Rows.rn x + x j * Rows.hs d x g + Rows.hs d x g * x j

section
open Cert.ReferenceBwdInIdeal Cert.ReferenceBwdInIdeal.Gen Cert.ReferenceBwdInIdeal.Value

variable (m : (ℓ : Loc nD τ sig) → Buf (Elt Ideal) ℓ) (c : Dev nD)

/-- The residual's cotangent, at one element. -/
theorem ref0 (i : S2176x1024.Idx) : (res_main_v45 m c i : EReal) = (rh (dx (row (n := 2176) (w := 2816) (m ((c.tc : Thread nD τ).loc main_arg1)) (i 0)) (row (n := 2176) (w := 2816) (m ((c.tc : Thread nD τ).loc main_arg0)) (i 0)) (m ((c.tc : Thread nD τ).loc main_arg3)) (m ((c.tc : Thread nD τ).loc main_arg2))) (row (n := 2176) (w := 1024) (m ((c.tc : Thread nD τ).loc main_arg4)) (i 0)) (row (n := 2176) (w := 1024) (m ((c.tc : Thread nD τ).loc main_arg6)) (i 0)) (row (n := 1) (w := 1024) (m ((c.tc : Thread nD τ).loc main_arg7)) 0)) (i 1) := by
  unfold res_main_v45 rh Rows.hs Rows.rn dx row Rows.sc Rows.ep
  pointwise

/-- The mixer's cotangent, at one element. -/
theorem ref1 (i : S2176x1024.Idx) : (res_main_v80 m c i : EReal) = rb (rh (dx (row (n := 2176) (w := 2816) (m ((c.tc : Thread nD τ).loc main_arg1)) (i 0)) (row (n := 2176) (w := 2816) (m ((c.tc : Thread nD τ).loc main_arg0)) (i 0)) (m ((c.tc : Thread nD τ).loc main_arg3)) (m ((c.tc : Thread nD τ).loc main_arg2))) (row (n := 2176) (w := 1024) (m ((c.tc : Thread nD τ).loc main_arg4)) (i 0)) (row (n := 2176) (w := 1024) (m ((c.tc : Thread nD τ).loc main_arg6)) (i 0)) (row (n := 1) (w := 1024) (m ((c.tc : Thread nD τ).loc main_arg7)) 0)) (row (n := 2176) (w := 1024) (m ((c.tc : Thread nD τ).loc main_arg5)) (i 0)) (row (n := 1) (w := 1024) (m ((c.tc : Thread nD τ).loc main_arg8)) 0) (i 1) := by
  unfold res_main_v80 rb rh Rows.hs Rows.rn dx row Rows.sc Rows.ep
  pointwise

/-- The second norm's weights' gradient, at one element. -/
theorem ref3 (i : S1x1024.Idx) : (res_main_v63 m c i : EReal) = ∑ l : Fin 2176, (row (n := 2176) (w := 1024) (m ((c.tc : Thread nD τ).loc main_arg5)) l) (i 1) * Rows.rn (row (n := 2176) (w := 1024) (m ((c.tc : Thread nD τ).loc main_arg5)) l) * (rh (dx (row (n := 2176) (w := 2816) (m ((c.tc : Thread nD τ).loc main_arg1)) l) (row (n := 2176) (w := 2816) (m ((c.tc : Thread nD τ).loc main_arg0)) l) (m ((c.tc : Thread nD τ).loc main_arg3)) (m ((c.tc : Thread nD τ).loc main_arg2))) (row (n := 2176) (w := 1024) (m ((c.tc : Thread nD τ).loc main_arg4)) l) (row (n := 2176) (w := 1024) (m ((c.tc : Thread nD τ).loc main_arg6)) l) (row (n := 1) (w := 1024) (m ((c.tc : Thread nD τ).loc main_arg7)) 0)) (i 1) := by
  unfold res_main_v63 rh Rows.hs Rows.rn dx row Rows.sc Rows.ep
  pointwise

end
section
open Cert.KernelBwdInIdeal

/-- The cotangent of a normed row of real numbers. -/
def dxR (a b : Fin 2816 → ℝ) (wg wu : S2816x1024.Idx → ℝ) (j : Fin 1024) : ℝ := ∑ k, a k * wg (ix2 k j) + ∑ k, b k * wu (ix2 k j)

theorem dx_coe (a b : Fin 2816 → ℝ) (wg wu : S2816x1024.Idx → ℝ) :
    dx (fun k => (a k : EReal)) (fun k => (b k : EReal)) (fun i => (wg i : EReal)) (fun i => (wu i : EReal)) = fun j => ((dxR a b wg wu j : ℝ) : EReal) := by
  funext j
  unfold dx dxR
  simp only [← EReal.coe_mul, Finite.coe_sum, ← EReal.coe_add]

/-- The two products stand in either order. -/
theorem dx_comm (a b : Fin 2816 → EReal) (wg wu : S2816x1024.Idx → EReal) : dx b a wu wg = dx a b wg wu := funext fun _ => add_comm _ _

theorem dh_coe (a b : Fin 2816 → ℝ) (wg wu : S2816x1024.Idx → ℝ) (x h g : Fin 1024 → ℝ) :
    dh (fun k => (a k : EReal)) (fun k => (b k : EReal)) (fun i => (wg i : EReal)) (fun i => (wu i : EReal)) (fun k => (x k : EReal)) (fun k => (h k : EReal)) (fun k => (g k : EReal))
      = fun j => ((h j + Rows.nbR (dxR a b wg wu) x g j : ℝ) : EReal) := by
  funext j
  unfold dh
  rw [dx_coe, Rows.nb_coe, ← EReal.coe_add]

/-- The derivative's rule and the kernel's form of the residual's cotangent agree at real numbers. -/
theorem rh_dh (a b : Fin 2816 → ℝ) (wg wu : S2816x1024.Idx → ℝ) (x h g : Fin 1024 → ℝ) :
    rh (dx (fun k => (b k : EReal)) (fun k => (a k : EReal)) (fun i => (wu i : EReal)) (fun i => (wg i : EReal))) (fun k => (x k : EReal)) (fun k => (h k : EReal)) (fun k => (g k : EReal))
      = dh (fun k => (a k : EReal)) (fun k => (b k : EReal)) (fun i => (wg i : EReal)) (fun i => (wu i : EReal)) (fun k => (x k : EReal)) (fun k => (h k : EReal)) (fun k => (g k : EReal)) := by
  rw [dx_comm, dh_coe, dx_coe]
  funext j
  unfold rh
  rw [Rows.hs_eq, Rows.hw_coe, Rows.rn_coe, ← Rows.two_halves]
  simp only [← EReal.coe_mul, ← EReal.coe_add]
  exact congrArg _ (by ring)

/-- The same for a row's cotangent under a norm alone. -/
theorem rb_nb (d x g : Fin 1024 → ℝ) (j : Fin 1024) :
    rb (fun k => (d k : EReal)) (fun k => (x k : EReal)) (fun k => (g k : EReal)) j = Rows.nb (fun k => (d k : EReal)) (fun k => (x k : EReal)) (fun k => (g k : EReal)) j := by
  unfold rb
  rw [Rows.hs_eq]
  exact Rows.nb_of_halves d x g j

end

/-- The kernel and the reference leave the same four arrays from the same finite arguments. -/
theorem algebraic : Cert.algebraic_KernelBwdInIdeal_ReferenceBwdInIdeal_pre_finite_bwd_in (hKernelBwdInIdeal := Cert.KernelBwdInIdeal.Gen.facts) (hReferenceBwdInIdeal := Cert.ReferenceBwdInIdeal.Gen.facts) (hPre_finite_bwd_in := Cert.Pre_finite_bwd_in.Gen.facts) :=
  fun m ρ m' ρ' hp hag => by
  refine ⟨_, _, _, _, (θ_run _ _ _).mono (fun r h c => ⟨(h c).1.trans (final9 m c), (h c).2.1.trans (final10 m c), (h c).2.2.1.trans (final11 m c), (h c).2.2.2.1.trans (final12 m c), (h c).2.2.2.2⟩) (Cert.KernelBwdInIdeal.Value.run_blocks (F := Ideal) m ρ), ?_⟩
  refine (θ_run _ _ _).mono (fun r h c => ?_) (Cert.ReferenceBwdInIdeal.Value.run (F := Ideal) m' ρ')
  obtain ⟨r0, r1, r2, r3, hargs⟩ := h c
  obtain ⟨⟨a0, e0⟩, ⟨a1, e1⟩, ⟨a2, e2⟩, ⟨a3, e3⟩, ⟨a4, e4⟩, ⟨a5, e5⟩, ⟨a6, e6⟩, ⟨a7, e7⟩, ⟨a8, e8⟩⟩ := reals m c hp
  obtain ⟨g0, g1, g2, g3, g4, g5, g6, g7, g8, -⟩ := hag c
  have eh := fun l : Fin 2176 => rh_dh (fun k => a0 (ix2 l k)) (fun k => a1 (ix2 l k)) a2 a3 (fun k => a4 (ix2 l k)) (fun k => a6 (ix2 l k)) (fun k => a7 (ix2 0 k))
  refine ⟨r0.trans ?_, r1.trans ?_, r2.trans ?_, r3.trans ?_, hargs⟩
  all_goals
    clear r0 r1 r2 r3 hargs h
    funext i
  · refine (ref0 m' c i).trans ?_
    simp only [g0, g1, g2, g3, g4, g6, g7, e0, e1, e2, e3, e4, e6, e7]
    exact congrFun (eh (i 0)) (i 1)
  · refine (ref1 m' c i).trans ?_
    simp only [g0, g1, g2, g3, g4, g5, g6, g7, g8, e0, e1, e2, e3, e4, e5, e6, e7, e8]
    refine (congrArg (fun z => rb z _ _ (i 1)) (eh (i 0))).trans ?_
    rw [dh_coe]
    refine (rb_nb _ (fun k => a5 (ix2 (i 0) k)) (fun k => a8 (ix2 0 k)) (i 1)).trans ?_
    rw [← dh_coe]
    rfl
  · pointwise
    simp only [g0, g1, g2, g3, g4]
    unfold Rows.ng Rows.rn dx row Rows.sc Rows.ep
    refine Finset.sum_congr rfl fun l _ => ?_
    exact (mul_comm (G := EReal) _ _).trans (congrArg (fun z : EReal => z * _) (add_comm (G := EReal) _ _))
  · refine (ref3 m' c i).trans ?_
    simp only [g0, g1, g2, g3, g4, g5, g6, g7, e0, e1, e2, e3, e4, e5, e6, e7]
    refine Finset.sum_congr (M := EReal) rfl fun l _ => ?_
    refine (congrArg (fun z : Fin 1024 → EReal => _ * z (i 1)) (eh l)).trans ?_
    exact mul_comm (G := EReal) _ _

end Cert.Proof.WBwdIn

end
-- ==== Proof.MixOut.lean ====
module

public import proofs.«01_k».proof.Defs
public import proofs.«01_k».proof.Proof.LRows
public import proofs.«01_k».proof.Proof.Gen.Pre_finite_mix_out
public import proofs.«01_k».proof.Proof.Gen.KernelMixOutIdeal.Value
public import proofs.«01_k».proof.Proof.Gen.ReferenceMixOutIdeal
public import proofs.«01_k».proof.Proof.Gen.ReferenceMixOutIdeal.Run
public import Idealize.ShloMosaic.Lib.Pipeline.ValueKit
public import Idealize.ShloMosaic.Lib.Pipeline.ReadBack
public import Idealize.ShloMosaic.Lib.Pointwise

@[expose] public section

set_option maxRecDepth 16384

noncomputable section

/-! The backward call out of the mixer: the cotangents of the attention's output, of the gate's argument before its layer
norm, and of the norm's scale and shift. -/

namespace Cert.Proof.WMixOut

open Idealize.ShloMosaic Idealize.ShloMosaic.TcCoe Idealize.SL.Sem

/-- A row of an array of two axes. -/
def row {n w : ℕ} (X : (⟨2, ![n, w]⟩ : Shape).Idx → EReal) (i : Fin n) : Fin w → EReal := fun k => X (ix2 i k)

section
open Cert.KernelMixOutIdeal Cert.KernelMixOutIdeal.Gen

variable (m : (ℓ : Loc nD τ sig) → Buf (Elt Ideal) ℓ) (c : Dev nD)

/-- The cotangent of the lower half of the joined row. -/
def ya (d : Fin 1024 → EReal) (W : S1024x1024.Idx → EReal) (j : Fin 512) : EReal := ∑ k : Fin 1024, d k * W (ix2 ⟨j.val, by omega⟩ k)

/-- The cotangent of the upper half of the joined row. -/
def yb (d : Fin 1024 → EReal) (W : S1024x1024.Idx → EReal) (j : Fin 512) : EReal := ∑ k : Fin 1024, d k * W (ix2 ⟨512 + j.val, by omega⟩ k)

/-- The cotangent of a row of the scaled layer norm. -/
def dl (d : Fin 1024 → EReal) (W : S1024x1024.Idx → EReal) (x g b : Fin 512 → EReal) (j : Fin 512) : EReal :=
  LRows.dk (yb d W j) (LRows.ly x g b j)

/-- A sum over 544 rows in two halves. -/
theorem sum_halves {M : Type} [AddCommMonoid M] (f : Fin 544 → M) :
    ∑ p, f p = ∑ p : Fin 272, f ⟨p.val, by omega⟩ + ∑ p : Fin 272, f ⟨272 + p.val, by omega⟩ :=
  Fin.sum_univ_add (a := 272) (b := 272) f

/-- A block's part in the gradient of the norm's scale. -/
def tg (x0 : S544x1024.Idx → EReal) (W : S1024x1024.Idx → EReal) (x2 : S544x512.Idx → EReal) (x3 x4 : S1x512.Idx → EReal) (j : S1x512.Idx) : EReal :=
  ∑ p, dl (row (n := 544) x0 p) W (row x2 p) (row x3 0) (row x4 0) (j 1) * LRows.zh (row (n := 544) x2 p) (j 1)

/-- A block's part in the gradient of the norm's shift. -/
def tb (x0 : S544x1024.Idx → EReal) (W : S1024x1024.Idx → EReal) (x2 : S544x512.Idx → EReal) (x3 x4 : S1x512.Idx → EReal) (j : S1x512.Idx) : EReal :=
  ∑ p, dl (row (n := 544) x0 p) W (row x2 p) (row x3 0) (row x4 0) (j 1)

/-- The first half's products. -/
theorem ma0 (a : S272x1024.Idx → EReal) (w : S512x1024.Idx → EReal) (i : S272x512.Idx) :
    (k0_pay4 (F := Ideal) a w i : EReal) = ∑ k, row a (i 0) k * w (ix2 (i 1) k) := by
  unfold row
  pointwise [k0_pay4]

theorem mb0 (a : S272x1024.Idx → EReal) (w : S512x1024.Idx → EReal) (i : S272x512.Idx) :
    (k0_pay5 (F := Ideal) a w i : EReal) = ∑ k, row a (i 0) k * w (ix2 (i 1) k) := by
  unfold row
  pointwise [k0_pay5]

/-- The first half's cotangent of the activation's argument. -/
theorem dk0 (v : S272x512.Idx → EReal) (x : S272x512.Idx → EReal) (g b : S1x512.Idx → EReal) (i : S272x512.Idx) :
    (k0_pay11 (F := Ideal) v (k0_pay9 (F := Ideal) g x b) (k0_pay10 (F := Ideal)) i : EReal) = LRows.dk (row v (i 0) (i 1)) (LRows.ly (row x (i 0)) (row g 0) (row b 0) (i 1)) := by
  unfold LRows.dk LRows.ly LRows.zh LRows.rl LRows.zc row LRows.sc LRows.ep
  pointwise [k0_pay11, k0_pay10, k0_pay6, k0_pay7, k0_pay8, k0_pay9]

/-- The first half's rows of the second result. -/
theorem dz0 (v : S272x512.Idx → EReal) (x : S272x512.Idx → EReal) (g b : S1x512.Idx → EReal) (i : S272x512.Idx) :
    (k0_pay12 (F := Ideal) g v (k0_pay7 (F := Ideal) x) (k0_pay8 (F := Ideal) x) (k0_pay9 (F := Ideal) g x b) (k0_pay10 (F := Ideal)) i : EReal)
      = LRows.lz (fun k => LRows.dk (row v (i 0) k) (LRows.ly (row x (i 0)) (row g 0) (row b 0) k)) (row x (i 0)) (row g 0) (i 1) := by
  unfold LRows.lz LRows.dk LRows.ly LRows.zh LRows.rl LRows.zc row LRows.sc LRows.ep
  pointwise [k0_pay12, k0_pay11, k0_pay10, k0_pay6, k0_pay7, k0_pay8, k0_pay9]

/-- The first half's part in the scale's gradient. -/
theorem dg0 (v : S272x512.Idx → EReal) (x : S272x512.Idx → EReal) (g b : S1x512.Idx → EReal) (s : S1x512.Idx → EReal) (i : S1x512.Idx) :
    (k0_pay13 (F := Ideal) v (k0_pay8 (F := Ideal) x) (k0_pay9 (F := Ideal) g x b) (k0_pay10 (F := Ideal)) s i : EReal)
      = s i + ∑ p, LRows.dk (row v p (i 1)) (LRows.ly (row x p) (row g 0) (row b 0) (i 1)) * LRows.zh (row x p) (i 1) := by
  unfold LRows.dk LRows.ly LRows.zh LRows.rl LRows.zc row LRows.sc LRows.ep
  pointwise [k0_pay13, k0_pay11, k0_pay10, k0_pay6, k0_pay7, k0_pay8, k0_pay9]

/-- The first half's part in the shift's gradient. -/
theorem db0 (v : S272x512.Idx → EReal) (x : S272x512.Idx → EReal) (g b : S1x512.Idx → EReal) (s : S1x512.Idx → EReal) (i : S1x512.Idx) :
    (k0_pay15 (F := Ideal) (k0_pay11 (F := Ideal) v (k0_pay9 (F := Ideal) g x b) (k0_pay10 (F := Ideal))) (k0_pay14 (F := Ideal) s) i : EReal)
      = s i + ∑ p, LRows.dk (row v p (i 1)) (LRows.ly (row x p) (row g 0) (row b 0) (i 1)) := by
  unfold LRows.dk LRows.ly LRows.zh LRows.rl LRows.zc row LRows.sc LRows.ep
  pointwise [k0_pay15, k0_pay14, k0_pay11, k0_pay10, k0_pay6, k0_pay7, k0_pay8, k0_pay9]

/-- The second half's products. -/
theorem ma1 (a : S272x1024.Idx → EReal) (w : S512x1024.Idx → EReal) (i : S272x512.Idx) :
    (k0_pay16 (F := Ideal) a w i : EReal) = ∑ k, row a (i 0) k * w (ix2 (i 1) k) := by
  unfold row
  pointwise [k0_pay16]

theorem mb1 (a : S272x1024.Idx → EReal) (w : S512x1024.Idx → EReal) (i : S272x512.Idx) :
    (k0_pay17 (F := Ideal) a w i : EReal) = ∑ k, row a (i 0) k * w (ix2 (i 1) k) := by
  unfold row
  pointwise [k0_pay17]

/-- The second half's cotangent of the activation's argument. -/
theorem dk1 (v : S272x512.Idx → EReal) (x : S272x512.Idx → EReal) (g b : S1x512.Idx → EReal) (i : S272x512.Idx) :
    (k0_pay23 (F := Ideal) v (k0_pay21 (F := Ideal) g x b) (k0_pay22 (F := Ideal) g x b) i : EReal) = LRows.dk (row v (i 0) (i 1)) (LRows.ly (row x (i 0)) (row g 0) (row b 0) (i 1)) := by
  unfold LRows.dk LRows.ly LRows.zh LRows.rl LRows.zc row LRows.sc LRows.ep
  pointwise [k0_pay23, k0_pay22, k0_pay18, k0_pay19, k0_pay20, k0_pay21]

/-- The second half's rows of the second result. -/
theorem dz1 (v : S272x512.Idx → EReal) (x : S272x512.Idx → EReal) (g b : S1x512.Idx → EReal) (i : S272x512.Idx) :
    (k0_pay24 (F := Ideal) g v (k0_pay19 (F := Ideal) x) (k0_pay20 (F := Ideal) x) (k0_pay21 (F := Ideal) g x b) (k0_pay22 (F := Ideal) g x b) i : EReal)
      = LRows.lz (fun k => LRows.dk (row v (i 0) k) (LRows.ly (row x (i 0)) (row g 0) (row b 0) k)) (row x (i 0)) (row g 0) (i 1) := by
  unfold LRows.lz LRows.dk LRows.ly LRows.zh LRows.rl LRows.zc row LRows.sc LRows.ep
  pointwise [k0_pay24, k0_pay23, k0_pay22, k0_pay18, k0_pay19, k0_pay20, k0_pay21]

/-- The second half's part in the scale's gradient. -/
theorem dg1 (v : S272x512.Idx → EReal) (x : S272x512.Idx → EReal) (g b : S1x512.Idx → EReal) (s : S1x512.Idx → EReal) (i : S1x512.Idx) :
    (k0_pay25 (F := Ideal) v (k0_pay20 (F := Ideal) x) (k0_pay21 (F := Ideal) g x b) (k0_pay22 (F := Ideal) g x b) s i : EReal)
      = s i + ∑ p, LRows.dk (row v p (i 1)) (LRows.ly (row x p) (row g 0) (row b 0) (i 1)) * LRows.zh (row x p) (i 1) := by
  unfold LRows.dk LRows.ly LRows.zh LRows.rl LRows.zc row LRows.sc LRows.ep
  pointwise [k0_pay25, k0_pay23, k0_pay22, k0_pay18, k0_pay19, k0_pay20, k0_pay21]

/-- The second half's part in the shift's gradient. -/
theorem db1 (v : S272x512.Idx → EReal) (x : S272x512.Idx → EReal) (g b : S1x512.Idx → EReal) (s : S1x512.Idx → EReal) (i : S1x512.Idx) :
    (k0_pay1 (F := Ideal) (k0_pay26 (F := Ideal) s) (k0_pay27 (F := Ideal) v (k0_pay21 (F := Ideal) g x b) (k0_pay22 (F := Ideal) g x b)) i : EReal)
      = s i + ∑ p, LRows.dk (row v p (i 1)) (LRows.ly (row x p) (row g 0) (row b 0) (i 1)) := by
  unfold LRows.dk LRows.ly LRows.zh LRows.rl LRows.zc row LRows.sc LRows.ep
  pointwise [k0_pay1, k0_pay26, k0_pay27, k0_pay23, k0_pay22, k0_pay18, k0_pay19, k0_pay20, k0_pay21]

/-- A row of a half of a block is a row of the block. -/
theorem ld0_512 (X : S544x512.Idx → EReal) (r : Fin 272) (q : Fin 544) (h : q.val = r.val) :
    row (n := 272) (w := 512) (View.ld (Val := Elt Ideal) (e' := .f32) X (Rect.unit ![0, 0] ![272, 512] inb_S544x512_S272x512_0_0)) r = row X q := by
  funext k
  unfold row
  pointwise
  blk_ext

/-- A row of a half of a block is a row of the block. -/
theorem ld0_1024 (X : S544x1024.Idx → EReal) (r : Fin 272) (q : Fin 544) (h : q.val = r.val) :
    row (n := 272) (w := 1024) (View.ld (Val := Elt Ideal) (e' := .f32) X (Rect.unit ![0, 0] ![272, 1024] inb_S544x1024_S272x1024_0_0)) r = row X q := by
  funext k
  unfold row
  pointwise
  blk_ext

/-- A row of a half of a block is a row of the block. -/
theorem ld272_512 (X : S544x512.Idx → EReal) (r : Fin 272) (q : Fin 544) (h : q.val = 272 + r.val) :
    row (n := 272) (w := 512) (View.ld (Val := Elt Ideal) (e' := .f32) X (Rect.unit ![272, 0] ![272, 512] inb_S544x512_S272x512_272_0)) r = row X q := by
  funext k
  unfold row
  pointwise
  blk_ext

/-- A row of a half of a block is a row of the block. -/
theorem ld272_1024 (X : S544x1024.Idx → EReal) (r : Fin 272) (q : Fin 544) (h : q.val = 272 + r.val) :
    row (n := 272) (w := 1024) (View.ld (Val := Elt Ideal) (e' := .f32) X (Rect.unit ![272, 0] ![272, 1024] inb_S544x1024_S272x1024_272_0)) r = row X q := by
  funext k
  unfold row
  pointwise
  blk_ext

theorem wa (W : S1024x1024.Idx → EReal) (j : Fin 512) (k : Fin 1024) :
    (View.ld (Val := Elt Ideal) (e' := .f32) W (Rect.unit ![0, 0] ![512, 1024] inb_S1024x1024_S512x1024_0_0) (ix2 j k) : EReal) = W (ix2 ⟨j.val, by omega⟩ k) := by
  pointwise
  blk_ext

theorem ya0 (X : S544x1024.Idx → EReal) (W : S1024x1024.Idx → EReal) (r : Fin 272) (q : Fin 544) (h : q.val = r.val) :
    row (n := 272) (w := 512) (k0_pay4 (F := Ideal) (View.ld (Val := Elt Ideal) (e' := .bf16) X (Rect.unit ![0, 0] ![272, 1024] inb_S544x1024_S272x1024_0_0)) (View.ld (Val := Elt Ideal) (e' := .bf16) W (Rect.unit ![0, 0] ![512, 1024] inb_S1024x1024_S512x1024_0_0))) r = ya (row X q) W := by
  funext j
  refine (ma0 _ _ (ix2 r j)).trans ?_
  unfold ya
  exact Finset.sum_congr rfl fun k _ => congrArg₂ (· * ·) (congrFun (ld0_1024 X r q h) k) (wa W j k)

theorem ya1 (X : S544x1024.Idx → EReal) (W : S1024x1024.Idx → EReal) (r : Fin 272) (q : Fin 544) (h : q.val = 272 + r.val) :
    row (n := 272) (w := 512) (k0_pay16 (F := Ideal) (View.ld (Val := Elt Ideal) (e' := .bf16) X (Rect.unit ![272, 0] ![272, 1024] inb_S544x1024_S272x1024_272_0)) (View.ld (Val := Elt Ideal) (e' := .bf16) W (Rect.unit ![0, 0] ![512, 1024] inb_S1024x1024_S512x1024_0_0))) r = ya (row X q) W := by
  funext j
  refine (ma1 _ _ (ix2 r j)).trans ?_
  unfold ya
  exact Finset.sum_congr rfl fun k _ => congrArg₂ (· * ·) (congrFun (ld272_1024 X r q h) k) (wa W j k)

theorem wb (W : S1024x1024.Idx → EReal) (j : Fin 512) (k : Fin 1024) :
    (View.ld (Val := Elt Ideal) (e' := .f32) W (Rect.unit ![512, 0] ![512, 1024] inb_S1024x1024_S512x1024_512_0) (ix2 j k) : EReal) = W (ix2 ⟨512 + j.val, by omega⟩ k) := by
  pointwise
  blk_ext

theorem yb0 (X : S544x1024.Idx → EReal) (W : S1024x1024.Idx → EReal) (r : Fin 272) (q : Fin 544) (h : q.val = r.val) :
    row (n := 272) (w := 512) (k0_pay5 (F := Ideal) (View.ld (Val := Elt Ideal) (e' := .bf16) X (Rect.unit ![0, 0] ![272, 1024] inb_S544x1024_S272x1024_0_0)) (View.ld (Val := Elt Ideal) (e' := .bf16) W (Rect.unit ![512, 0] ![512, 1024] inb_S1024x1024_S512x1024_512_0))) r = yb (row X q) W := by
  funext j
  refine (mb0 _ _ (ix2 r j)).trans ?_
  unfold yb
  exact Finset.sum_congr rfl fun k _ => congrArg₂ (· * ·) (congrFun (ld0_1024 X r q h) k) (wb W j k)

theorem yb1 (X : S544x1024.Idx → EReal) (W : S1024x1024.Idx → EReal) (r : Fin 272) (q : Fin 544) (h : q.val = 272 + r.val) :
    row (n := 272) (w := 512) (k0_pay17 (F := Ideal) (View.ld (Val := Elt Ideal) (e' := .bf16) X (Rect.unit ![272, 0] ![272, 1024] inb_S544x1024_S272x1024_272_0)) (View.ld (Val := Elt Ideal) (e' := .bf16) W (Rect.unit ![512, 0] ![512, 1024] inb_S1024x1024_S512x1024_512_0))) r = yb (row X q) W := by
  funext j
  refine (mb1 _ _ (ix2 r j)).trans ?_
  unfold yb
  exact Finset.sum_congr rfl fun k _ => congrArg₂ (· * ·) (congrFun (ld272_1024 X r q h) k) (wb W j k)

/-- What a point leaves in the lower half's cotangent. -/
theorem atA5 (t : Fin cfg0.N) (h0 : t.val % 4 = 0) (y : S544x512.Idx) :
    ((outsAt0 m c t.val t.isLt).1 y : EReal) = ya (row (n := 544) (w := 1024) (iblk m c 0 t) (y 0)) (iblk m c 1 t) (y 1) := by
  rw [outsAt0_A m c t h0]
  dsimp only
  generalize iblk m c 0 t = x0
  generalize iblk m c 1 t = x1
  generalize iblk m c 2 t = x2
  generalize iblk m c 3 t = x3
  generalize iblk m c 4 t = x4
  frame_out
  canon_tiles x h
  · exact ((ma1 _ _ x).trans (ma1 _ _ (ix2 (x 0) (x 1))).symm).trans <| (congrFun (ya1 x0 x1 (x 0) (y 0) h0) (x 1)).trans (congrArg (ya (row x0 (y 0)) x1) (Fin.ext h1.symm))
  · exact ((ma0 _ _ x).trans (ma0 _ _ (ix2 (x 0) (x 1))).symm).trans <| (congrFun (ya0 x0 x1 (x 0) (y 0) h0) (x 1)).trans (congrArg (ya (row x0 (y 0)) x1) (Fin.ext h1.symm))

/-- What a point leaves in the cotangent of the norm's argument. -/
theorem atA6 (t : Fin cfg0.N) (h0 : t.val % 4 = 0) (y : S544x512.Idx) :
    ((outsAt0 m c t.val t.isLt).2.1 y : EReal) = LRows.lz (dl (row (n := 544) (w := 1024) (iblk m c 0 t) (y 0)) (iblk m c 1 t) (row (n := 544) (w := 512) (iblk m c 2 t) (y 0)) (row (n := 1) (w := 512) (iblk m c 3 t) 0) (row (n := 1) (w := 512) (iblk m c 4 t) 0)) (row (n := 544) (w := 512) (iblk m c 2 t) (y 0)) (row (n := 1) (w := 512) (iblk m c 3 t) 0) (y 1) := by
  rw [outsAt0_A m c t h0]
  dsimp only
  generalize iblk m c 0 t = x0
  generalize iblk m c 1 t = x1
  generalize iblk m c 2 t = x2
  generalize iblk m c 3 t = x3
  generalize iblk m c 4 t = x4
  frame_out
  unfold dl
  canon_tiles x h
  · refine (dz1 _ _ _ _ _).trans ?_
    rw [yb1 x0 x1 (x 0) (y 0) h0, ld272_512 x2 (x 0) (y 0) h0]
    exact congrArg (LRows.lz _ _ _) (Fin.ext h1.symm)
  · refine (dz0 _ _ _ _ _).trans ?_
    rw [yb0 x0 x1 (x 0) (y 0) h0, ld0_512 x2 (x 0) (y 0) h0]
    exact congrArg (LRows.lz _ _ _) (Fin.ext h1.symm)

/-- What a point adds to the gradient of the norm's scale. -/
theorem atA7 (t : Fin cfg0.N) (h0 : t.val % 4 = 0) (y : S1x512.Idx) :
    ((outsAt0 m c t.val t.isLt).2.2.1 y : EReal) = (k0_pay2 (F := Ideal) y : EReal) + tg (iblk m c 0 t) (iblk m c 1 t) (iblk m c 2 t) (iblk m c 3 t) (iblk m c 4 t) y := by
  rw [outsAt0_A m c t h0]
  dsimp only
  generalize iblk m c 0 t = x0
  generalize iblk m c 1 t = x1
  generalize iblk m c 2 t = x2
  generalize iblk m c 3 t = x3
  generalize iblk m c 4 t = x4
  frame_out
  refine (dg1 _ _ _ _ _ y).trans ?_
  rw [dg0]
  unfold tg dl
  rw [sum_halves, ← add_assoc]
  refine congrArg₂ (· + ·) (congrArg₂ (· + ·) rfl (Finset.sum_congr rfl fun p _ => ?_)) (Finset.sum_congr rfl fun p _ => ?_)
  · exact congrArg₂ (· * ·) (congrFun (congrArg₂ (fun (d e : Fin 512 → EReal) (j : Fin 512) => LRows.dk (d j) (LRows.ly e (row x3 0) (row x4 0) j)) (yb0 x0 x1 p ⟨p.val, by omega⟩ rfl) (ld0_512 x2 p ⟨p.val, by omega⟩ rfl)) (y 1)) (congrFun (congrArg LRows.zh (ld0_512 x2 p ⟨p.val, by omega⟩ rfl)) (y 1))
  · exact congrArg₂ (· * ·) (congrFun (congrArg₂ (fun (d e : Fin 512 → EReal) (j : Fin 512) => LRows.dk (d j) (LRows.ly e (row x3 0) (row x4 0) j)) (yb1 x0 x1 p ⟨272 + p.val, by omega⟩ rfl) (ld272_512 x2 p ⟨272 + p.val, by omega⟩ rfl)) (y 1)) (congrFun (congrArg LRows.zh (ld272_512 x2 p ⟨272 + p.val, by omega⟩ rfl)) (y 1))

/-- What a point adds to the gradient of the norm's shift. -/
theorem atA8 (t : Fin cfg0.N) (h0 : t.val % 4 = 0) (y : S1x512.Idx) :
    ((outsAt0 m c t.val t.isLt).2.2.2 y : EReal) = (k0_pay3 (F := Ideal) y : EReal) + tb (iblk m c 0 t) (iblk m c 1 t) (iblk m c 2 t) (iblk m c 3 t) (iblk m c 4 t) y := by
  rw [outsAt0_A m c t h0]
  dsimp only
  generalize iblk m c 0 t = x0
  generalize iblk m c 1 t = x1
  generalize iblk m c 2 t = x2
  generalize iblk m c 3 t = x3
  generalize iblk m c 4 t = x4
  frame_out
  refine (db1 _ _ _ _ _ y).trans ?_
  rw [db0]
  unfold tb dl
  rw [sum_halves, ← add_assoc]
  refine congrArg₂ (· + ·) (congrArg₂ (· + ·) rfl (Finset.sum_congr rfl fun p _ => ?_)) (Finset.sum_congr rfl fun p _ => ?_)
  · exact congrFun (congrArg₂ (fun (d e : Fin 512 → EReal) (j : Fin 512) => LRows.dk (d j) (LRows.ly e (row x3 0) (row x4 0) j)) (yb0 x0 x1 p ⟨p.val, by omega⟩ rfl) (ld0_512 x2 p ⟨p.val, by omega⟩ rfl)) (y 1)
  · exact congrFun (congrArg₂ (fun (d e : Fin 512 → EReal) (j : Fin 512) => LRows.dk (d j) (LRows.ly e (row x3 0) (row x4 0) j)) (yb1 x0 x1 p ⟨272 + p.val, by omega⟩ rfl) (ld272_512 x2 p ⟨272 + p.val, by omega⟩ rfl)) (y 1)

/-- What a point leaves in the lower half's cotangent. -/
theorem atB5 (t : Fin cfg0.N) (h0 : ¬t.val % 4 = 0) (y : S544x512.Idx) :
    ((outsAt0 m c t.val t.isLt).1 y : EReal) = ya (row (n := 544) (w := 1024) (iblk m c 0 t) (y 0)) (iblk m c 1 t) (y 1) := by
  rw [outsAt0_B m c t h0]
  dsimp only
  generalize (outsAt0 m c (t.val - 1) (Nat.lt_of_le_of_lt (Nat.sub_le _ _) t.isLt)).2.2.1 = acc
  generalize (outsAt0 m c (t.val - 1) (Nat.lt_of_le_of_lt (Nat.sub_le _ _) t.isLt)).2.2.2 = acd
  generalize iblk m c 0 t = x0
  generalize iblk m c 1 t = x1
  generalize iblk m c 2 t = x2
  generalize iblk m c 3 t = x3
  generalize iblk m c 4 t = x4
  frame_out
  canon_tiles x h
  · exact ((ma1 _ _ x).trans (ma1 _ _ (ix2 (x 0) (x 1))).symm).trans <| (congrFun (ya1 x0 x1 (x 0) (y 0) h0) (x 1)).trans (congrArg (ya (row x0 (y 0)) x1) (Fin.ext h1.symm))
  · exact ((ma0 _ _ x).trans (ma0 _ _ (ix2 (x 0) (x 1))).symm).trans <| (congrFun (ya0 x0 x1 (x 0) (y 0) h0) (x 1)).trans (congrArg (ya (row x0 (y 0)) x1) (Fin.ext h1.symm))

/-- What a point leaves in the cotangent of the norm's argument. -/
theorem atB6 (t : Fin cfg0.N) (h0 : ¬t.val % 4 = 0) (y : S544x512.Idx) :
    ((outsAt0 m c t.val t.isLt).2.1 y : EReal) = LRows.lz (dl (row (n := 544) (w := 1024) (iblk m c 0 t) (y 0)) (iblk m c 1 t) (row (n := 544) (w := 512) (iblk m c 2 t) (y 0)) (row (n := 1) (w := 512) (iblk m c 3 t) 0) (row (n := 1) (w := 512) (iblk m c 4 t) 0)) (row (n := 544) (w := 512) (iblk m c 2 t) (y 0)) (row (n := 1) (w := 512) (iblk m c 3 t) 0) (y 1) := by
  rw [outsAt0_B m c t h0]
  dsimp only
  generalize (outsAt0 m c (t.val - 1) (Nat.lt_of_le_of_lt (Nat.sub_le _ _) t.isLt)).2.2.1 = acc
  generalize (outsAt0 m c (t.val - 1) (Nat.lt_of_le_of_lt (Nat.sub_le _ _) t.isLt)).2.2.2 = acd
  generalize iblk m c 0 t = x0
  generalize iblk m c 1 t = x1
  generalize iblk m c 2 t = x2
  generalize iblk m c 3 t = x3
  generalize iblk m c 4 t = x4
  frame_out
  unfold dl
  canon_tiles x h
  · refine (dz1 _ _ _ _ _).trans ?_
    rw [yb1 x0 x1 (x 0) (y 0) h0, ld272_512 x2 (x 0) (y 0) h0]
    exact congrArg (LRows.lz _ _ _) (Fin.ext h1.symm)
  · refine (dz0 _ _ _ _ _).trans ?_
    rw [yb0 x0 x1 (x 0) (y 0) h0, ld0_512 x2 (x 0) (y 0) h0]
    exact congrArg (LRows.lz _ _ _) (Fin.ext h1.symm)

/-- What a point adds to the gradient of the norm's scale. -/
theorem atB7 (t : Fin cfg0.N) (h0 : ¬t.val % 4 = 0) (y : S1x512.Idx) :
    ((outsAt0 m c t.val t.isLt).2.2.1 y : EReal) = ((outsAt0 m c (t.val - 1) (Nat.lt_of_le_of_lt (Nat.sub_le _ _) t.isLt)).2.2.1 y : EReal) + tg (iblk m c 0 t) (iblk m c 1 t) (iblk m c 2 t) (iblk m c 3 t) (iblk m c 4 t) y := by
  rw [outsAt0_B m c t h0]
  dsimp only
  generalize (outsAt0 m c (t.val - 1) (Nat.lt_of_le_of_lt (Nat.sub_le _ _) t.isLt)).2.2.1 = acc
  generalize (outsAt0 m c (t.val - 1) (Nat.lt_of_le_of_lt (Nat.sub_le _ _) t.isLt)).2.2.2 = acd
  generalize iblk m c 0 t = x0
  generalize iblk m c 1 t = x1
  generalize iblk m c 2 t = x2
  generalize iblk m c 3 t = x3
  generalize iblk m c 4 t = x4
  frame_out
  refine (dg1 _ _ _ _ _ y).trans ?_
  rw [dg0]
  unfold tg dl
  rw [sum_halves, ← add_assoc]
  refine congrArg₂ (· + ·) (congrArg₂ (· + ·) rfl (Finset.sum_congr rfl fun p _ => ?_)) (Finset.sum_congr rfl fun p _ => ?_)
  · exact congrArg₂ (· * ·) (congrFun (congrArg₂ (fun (d e : Fin 512 → EReal) (j : Fin 512) => LRows.dk (d j) (LRows.ly e (row x3 0) (row x4 0) j)) (yb0 x0 x1 p ⟨p.val, by omega⟩ rfl) (ld0_512 x2 p ⟨p.val, by omega⟩ rfl)) (y 1)) (congrFun (congrArg LRows.zh (ld0_512 x2 p ⟨p.val, by omega⟩ rfl)) (y 1))
  · exact congrArg₂ (· * ·) (congrFun (congrArg₂ (fun (d e : Fin 512 → EReal) (j : Fin 512) => LRows.dk (d j) (LRows.ly e (row x3 0) (row x4 0) j)) (yb1 x0 x1 p ⟨272 + p.val, by omega⟩ rfl) (ld272_512 x2 p ⟨272 + p.val, by omega⟩ rfl)) (y 1)) (congrFun (congrArg LRows.zh (ld272_512 x2 p ⟨272 + p.val, by omega⟩ rfl)) (y 1))

/-- What a point adds to the gradient of the norm's shift. -/
theorem atB8 (t : Fin cfg0.N) (h0 : ¬t.val % 4 = 0) (y : S1x512.Idx) :
    ((outsAt0 m c t.val t.isLt).2.2.2 y : EReal) = ((outsAt0 m c (t.val - 1) (Nat.lt_of_le_of_lt (Nat.sub_le _ _) t.isLt)).2.2.2 y : EReal) + tb (iblk m c 0 t) (iblk m c 1 t) (iblk m c 2 t) (iblk m c 3 t) (iblk m c 4 t) y := by
  rw [outsAt0_B m c t h0]
  dsimp only
  generalize (outsAt0 m c (t.val - 1) (Nat.lt_of_le_of_lt (Nat.sub_le _ _) t.isLt)).2.2.1 = acc
  generalize (outsAt0 m c (t.val - 1) (Nat.lt_of_le_of_lt (Nat.sub_le _ _) t.isLt)).2.2.2 = acd
  generalize iblk m c 0 t = x0
  generalize iblk m c 1 t = x1
  generalize iblk m c 2 t = x2
  generalize iblk m c 3 t = x3
  generalize iblk m c 4 t = x4
  frame_out
  refine (db1 _ _ _ _ _ y).trans ?_
  rw [db0]
  unfold tb dl
  rw [sum_halves, ← add_assoc]
  refine congrArg₂ (· + ·) (congrArg₂ (· + ·) rfl (Finset.sum_congr rfl fun p _ => ?_)) (Finset.sum_congr rfl fun p _ => ?_)
  · exact congrFun (congrArg₂ (fun (d e : Fin 512 → EReal) (j : Fin 512) => LRows.dk (d j) (LRows.ly e (row x3 0) (row x4 0) j)) (yb0 x0 x1 p ⟨p.val, by omega⟩ rfl) (ld0_512 x2 p ⟨p.val, by omega⟩ rfl)) (y 1)
  · exact congrFun (congrArg₂ (fun (d e : Fin 512 → EReal) (j : Fin 512) => LRows.dk (d j) (LRows.ly e (row x3 0) (row x4 0) j)) (yb1 x0 x1 p ⟨272 + p.val, by omega⟩ rfl) (ld272_512 x2 p ⟨272 + p.val, by omega⟩ rfl)) (y 1)

end
end Cert.Proof.WMixOut
end
-- ==== Proof.WMixOut.lean ====
module

public import proofs.«01_k».proof.Proof.MixOut

@[expose] public section

set_option maxRecDepth 16384

noncomputable section

/-! The backward call out of the mixer: what the run leaves in its four results, and that the derivative of the output
projection, the activation and the layer norm leaves the same. -/

namespace Cert.Proof.WMixOut

open Idealize.ShloMosaic Idealize.ShloMosaic.TcCoe Idealize.SL.Sem

section
open Cert.KernelMixOutIdeal Cert.KernelMixOutIdeal.Gen

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0] := by decide +kernel

/-- A row of a point's block is a row of the argument. -/
theorem br0 (t : Fin cfg0.N) (r : Fin 544) (l : Fin 2176) (h : l.val = t.val * 544 + r.val) :
    row (n := 544) (w := 1024) (iblk m c 0 t) r = (row (n := 2176) (w := 1024) (m ((c : Thread nD τ).loc main_arg0)) l) := by
  funext k
  refine Eq.trans ?_ (congrFun (V_main_arg0 m c) _)
  unfold row
  blk_ext [iblk, idx0 t]

/-- A row of a point's block is a row of the argument. -/
theorem br2 (t : Fin cfg0.N) (r : Fin 544) (l : Fin 2176) (h : l.val = t.val * 544 + r.val) :
    row (n := 544) (w := 512) (iblk m c 2 t) r = (row (n := 2176) (w := 512) (m ((c : Thread nD τ).loc main_arg2)) l) := by
  funext k
  refine Eq.trans ?_ (congrFun (V_main_arg2 m c) _)
  unfold row
  blk_ext [iblk, idx2 t]

theorem wh1 (t : Fin cfg0.N) : (iblk m c 1 t : S1024x1024.Idx → EReal) = (m ((c : Thread nD τ).loc main_arg1)) := by
  funext k
  refine Eq.trans ?_ (congrFun (V_main_arg1 m c) _)
  blk_ext [iblk, idx1 t]

theorem br3 (t : Fin cfg0.N) : row (n := 1) (w := 512) (iblk m c 3 t) 0 = (row (n := 1) (w := 512) (m ((c : Thread nD τ).loc main_arg3)) 0) := by
  funext k
  refine Eq.trans ?_ (congrFun (V_main_arg3 m c) _)
  unfold row
  blk_ext [iblk, idx3 t]

theorem br4 (t : Fin cfg0.N) : row (n := 1) (w := 512) (iblk m c 4 t) 0 = (row (n := 1) (w := 512) (m ((c : Thread nD τ).loc main_arg4)) 0) := by
  funext k
  refine Eq.trans ?_ (congrFun (V_main_arg4 m c) _)
  unfold row
  blk_ext [iblk, idx4 t]

/-- What every point leaves in the lower half's cotangent. -/
theorem at5 (t : Fin cfg0.N) (y : S544x512.Idx) (l : Fin 2176) (h : l.val = t.val * 544 + (y 0).val) :
    ((outsAt0 m c t.val t.isLt).1 y : EReal) = ya (row (n := 2176) (w := 1024) (m ((c : Thread nD τ).loc main_arg0)) l) (m ((c : Thread nD τ).loc main_arg1)) (y 1) := by
  by_cases h0 : t.val % 4 = 0
  · refine (atA5 m c t h0 y).trans ?_
    rw [br0 m c t (y 0) l h, wh1]
  · refine (atB5 m c t h0 y).trans ?_
    rw [br0 m c t (y 0) l h, wh1]

theorem i51 (t : Fin cfg0.N) : win0_5.index t 1 = 0 := congrFun (idx5 t) 1

/-- The lower half's cotangent, as an array. -/
def gy (i : S2176x512.Idx) : EReal := ya (row (n := 2176) (w := 1024) (m ((c : Thread nD τ).loc main_arg0)) (i 0)) (m ((c : Thread nD τ).loc main_arg1)) (i 1)

theorem at5' (t : Fin cfg0.N) (y : S544x512.Idx) (i : S2176x512.Idx) (h0 : (i 0).val = t.val * 544 + (y 0).val) (h1 : (i 1).val = (y 1).val) :
    ((outsAt0 m c t.val t.isLt).1 y : EReal) = gy m c i := by
  have e : i 1 = y 1 := Fin.ext h1
  unfold gy
  rw [e]
  exact at5 m c t y _ h0

/-- The lower half's cotangent after the run. -/
theorem final5 : (dats m 0 c).arrAt 5 cfg0.N = gy m c := by
  refine (dats m 0 c).arrAt_eq_of_covers 5 _ (by decide +kernel) fun t hf y => ?_
  rw [after0_5]
  refine at5' m c t _ _ ?_ ?_
  · rw [Pipeline.Window.xinj_val]
    blk_simp [idx5 t]
    try rfl
  · rw [Pipeline.Window.xinj_val]
    blk_simp
    rw [i51 t, Nat.zero_mul, Nat.zero_add]

/-- What every point leaves in the cotangent of the norm's argument. -/
theorem at6 (t : Fin cfg0.N) (y : S544x512.Idx) (l : Fin 2176) (h : l.val = t.val * 544 + (y 0).val) :
    ((outsAt0 m c t.val t.isLt).2.1 y : EReal) = LRows.lz (dl (row (n := 2176) (w := 1024) (m ((c : Thread nD τ).loc main_arg0)) l) (m ((c : Thread nD τ).loc main_arg1)) (row (n := 2176) (w := 512) (m ((c : Thread nD τ).loc main_arg2)) l) (row (n := 1) (w := 512) (m ((c : Thread nD τ).loc main_arg3)) 0) (row (n := 1) (w := 512) (m ((c : Thread nD τ).loc main_arg4)) 0)) (row (n := 2176) (w := 512) (m ((c : Thread nD τ).loc main_arg2)) l) (row (n := 1) (w := 512) (m ((c : Thread nD τ).loc main_arg3)) 0) (y 1) := by
  by_cases h0 : t.val % 4 = 0
  · refine (atA6 m c t h0 y).trans ?_
    rw [br0 m c t (y 0) l h, br2 m c t (y 0) l h, br3, br4, wh1]
  · refine (atB6 m c t h0 y).trans ?_
    rw [br0 m c t (y 0) l h, br2 m c t (y 0) l h, br3, br4, wh1]

theorem i61 (t : Fin cfg0.N) : win0_6.index t 1 = 0 := congrFun (idx6 t) 1

/-- The cotangent of the norm's argument, as an array. -/
def gz (i : S2176x512.Idx) : EReal := LRows.lz (dl (row (n := 2176) (w := 1024) (m ((c : Thread nD τ).loc main_arg0)) (i 0)) (m ((c : Thread nD τ).loc main_arg1)) (row (n := 2176) (w := 512) (m ((c : Thread nD τ).loc main_arg2)) (i 0)) (row (n := 1) (w := 512) (m ((c : Thread nD τ).loc main_arg3)) 0) (row (n := 1) (w := 512) (m ((c : Thread nD τ).loc main_arg4)) 0)) (row (n := 2176) (w := 512) (m ((c : Thread nD τ).loc main_arg2)) (i 0)) (row (n := 1) (w := 512) (m ((c : Thread nD τ).loc main_arg3)) 0) (i 1)

theorem at6' (t : Fin cfg0.N) (y : S544x512.Idx) (i : S2176x512.Idx) (h0 : (i 0).val = t.val * 544 + (y 0).val) (h1 : (i 1).val = (y 1).val) :
    ((outsAt0 m c t.val t.isLt).2.1 y : EReal) = gz m c i := by
  have e : i 1 = y 1 := Fin.ext h1
  unfold gz
  rw [e]
  exact at6 m c t y _ h0

/-- The cotangent of the norm's argument after the run. -/
theorem final6 : (dats m 0 c).arrAt 6 cfg0.N = gz m c := by
  refine (dats m 0 c).arrAt_eq_of_covers 6 _ (by decide +kernel) fun t hf y => ?_
  rw [after0_6]
  refine at6' m c t _ _ ?_ ?_
  · rw [Pipeline.Window.xinj_val]
    blk_simp [idx6 t]
    try rfl
  · rw [Pipeline.Window.xinj_val]
    blk_simp
    rw [i61 t, Nat.zero_mul, Nat.zero_add]

/-- The norm's scale's gradient after the run. -/
theorem final7 : (dats m 0 c).arrAt 7 cfg0.N = fun (j : S1x512.Idx) => ∑ l : Fin 2176, (dl (row (n := 2176) (w := 1024) (m ((c : Thread nD τ).loc main_arg0)) l) (m ((c : Thread nD τ).loc main_arg1)) (row (n := 2176) (w := 512) (m ((c : Thread nD τ).loc main_arg2)) l) (row (n := 1) (w := 512) (m ((c : Thread nD τ).loc main_arg3)) 0) (row (n := 1) (w := 512) (m ((c : Thread nD τ).loc main_arg4)) 0)) (j 1) * LRows.zh (row (n := 2176) (w := 512) (m ((c : Thread nD τ).loc main_arg2)) l) (j 1) := by
  refine (dats m 0 c).arrAt_eq_of_after_last 7 t0_3 (by decide +kernel) _ fun j => ?_
  blk_simp
  rw [after0_7]
  refine (Pipeline.eq_sum_fin_of_reset_step_apply_last (fun n h => ((outsAt0 m c n h).2.2.1 : S1x512.Idx → EReal)) 4 (fun i => (k0_pay2 (F := Ideal) i : EReal))
    (fun t i => tg (iblk m c 0 t) (iblk m c 1 t) (iblk m c 2 t) (iblk m c 3 t) (iblk m c 4 t) i) (atA7 m c) (atB7 m c) (by decide +kernel) t0_3 (by decide +kernel) j).trans ?_
  have hz : (k0_pay2 (F := Ideal) j : EReal) = 0 := by pointwise [k0_pay2]
  rw [hz, zero_add]
  refine (Finset.sum_congr rfl fun t _ => ?_).trans (Fin.sum_mul_add_congr (S := 4) (n := 544) (L := 2176) (F := fun s k => (dl (row (n := 2176) (w := 1024) (m ((c : Thread nD τ).loc main_arg0)) ⟨s.val * 544 + k.val, by omega⟩) (m ((c : Thread nD τ).loc main_arg1)) (row (n := 2176) (w := 512) (m ((c : Thread nD τ).loc main_arg2)) ⟨s.val * 544 + k.val, by omega⟩) (row (n := 1) (w := 512) (m ((c : Thread nD τ).loc main_arg3)) 0) (row (n := 1) (w := 512) (m ((c : Thread nD τ).loc main_arg4)) 0)) (j 1) * LRows.zh (row (n := 2176) (w := 512) (m ((c : Thread nD τ).loc main_arg2)) ⟨s.val * 544 + k.val, by omega⟩) (j 1)) fun s k hl => rfl)
  unfold tg
  refine Finset.sum_congr rfl fun p _ => ?_
  rw [br0 m c t p ⟨t.val * 544 + p.val, by have : t.val < 4 := t.isLt; omega⟩ rfl, br2 m c t p ⟨t.val * 544 + p.val, by have : t.val < 4 := t.isLt; omega⟩ rfl, br3, br4, wh1]

/-- The norm's shift's gradient after the run. -/
theorem final8 : (dats m 0 c).arrAt 8 cfg0.N = fun (j : S1x512.Idx) => ∑ l : Fin 2176, (dl (row (n := 2176) (w := 1024) (m ((c : Thread nD τ).loc main_arg0)) l) (m ((c : Thread nD τ).loc main_arg1)) (row (n := 2176) (w := 512) (m ((c : Thread nD τ).loc main_arg2)) l) (row (n := 1) (w := 512) (m ((c : Thread nD τ).loc main_arg3)) 0) (row (n := 1) (w := 512) (m ((c : Thread nD τ).loc main_arg4)) 0)) (j 1) := by
  refine (dats m 0 c).arrAt_eq_of_after_last 8 t0_3 (by decide +kernel) _ fun j => ?_
  blk_simp
  rw [after0_8]
  refine (Pipeline.eq_sum_fin_of_reset_step_apply_last (fun n h => ((outsAt0 m c n h).2.2.2 : S1x512.Idx → EReal)) 4 (fun i => (k0_pay3 (F := Ideal) i : EReal))
    (fun t i => tb (iblk m c 0 t) (iblk m c 1 t) (iblk m c 2 t) (iblk m c 3 t) (iblk m c 4 t) i) (atA8 m c) (atB8 m c) (by decide +kernel) t0_3 (by decide +kernel) j).trans ?_
  have hz : (k0_pay3 (F := Ideal) j : EReal) = 0 := by pointwise [k0_pay3]
  rw [hz, zero_add]
  refine (Finset.sum_congr rfl fun t _ => ?_).trans (Fin.sum_mul_add_congr (S := 4) (n := 544) (L := 2176) (F := fun s k => (dl (row (n := 2176) (w := 1024) (m ((c : Thread nD τ).loc main_arg0)) ⟨s.val * 544 + k.val, by omega⟩) (m ((c : Thread nD τ).loc main_arg1)) (row (n := 2176) (w := 512) (m ((c : Thread nD τ).loc main_arg2)) ⟨s.val * 544 + k.val, by omega⟩) (row (n := 1) (w := 512) (m ((c : Thread nD τ).loc main_arg3)) 0) (row (n := 1) (w := 512) (m ((c : Thread nD τ).loc main_arg4)) 0)) (j 1)) fun s k hl => rfl)
  unfold tb
  refine Finset.sum_congr rfl fun p _ => ?_
  rw [br0 m c t p ⟨t.val * 544 + p.val, by have : t.val < 4 := t.isLt; omega⟩ rfl, br2 m c t p ⟨t.val * 544 + p.val, by have : t.val < 4 := t.isLt; omega⟩ rfl, br3, br4, wh1]

/-- The precondition: all five arguments the result depends on are arrays of real numbers. -/
theorem reals (h : Cert.Pre_KernelMixOutIdeal_finite_mix_out (hPre_finite_mix_out := Cert.Pre_finite_mix_out.Gen.facts) m) :
    (∃ r : S2176x1024.Idx → ℝ, m ((c : Thread nD τ).loc main_arg0) = fun i => (r i : EReal)) ∧
    (∃ r : S1024x1024.Idx → ℝ, m ((c : Thread nD τ).loc main_arg1) = fun i => (r i : EReal)) ∧
    (∃ r : S2176x512.Idx → ℝ, m ((c : Thread nD τ).loc main_arg2) = fun i => (r i : EReal)) ∧
    (∃ r : S1x512.Idx → ℝ, m ((c : Thread nD τ).loc main_arg3) = fun i => (r i : EReal)) ∧
    (∃ r : S1x512.Idx → ℝ, m ((c : Thread nD τ).loc main_arg4) = fun i => (r i : EReal)) := by
  have h' := congrFun (h c) (fun a => a.elim0)
  dsimp only [Cert.Pre_finite_mix_out.fn, Cert.Pre_finite_mix_out.fn_part1] at h'
  obtain ⟨h_, h4⟩ := Finite.both h'
  obtain ⟨h_, h3⟩ := Finite.both h_
  obtain ⟨h_, h2⟩ := Finite.both h_
  obtain ⟨h0, h1⟩ := Finite.both h_
  exact ⟨Finite.real_of_all _ _ (fun _ => Finite.inf_eq) _ _ _ _ h0, Finite.real_of_all _ _ (fun _ => Finite.inf_eq) _ _ _ _ h1, Finite.real_of_all _ _ (fun _ => Finite.inf_eq) _ _ _ _ h2, Finite.real_of_all _ _ (fun _ => Finite.inf_eq) _ _ _ _ h3, Finite.real_of_all _ _ (fun _ => Finite.inf_eq) _ _ _ _ h4⟩

/-- The cotangent of the upper half of the joined row, at real numbers. -/
def ybR (d : Fin 1024 → ℝ) (W : S1024x1024.Idx → ℝ) (j : Fin 512) : ℝ := ∑ k : Fin 1024, d k * W (ix2 ⟨512 + j.val, by omega⟩ k)

theorem yb_coe (d : Fin 1024 → ℝ) (W : S1024x1024.Idx → ℝ) (j : Fin 512) : yb (fun k => (d k : EReal)) (fun i => (W i : EReal)) j = ((ybR d W j : ℝ) : EReal) := by
  unfold yb ybR
  simp only [← EReal.coe_mul, Finite.coe_sum]

/-- The cotangent of a row of the scaled layer norm, as the derivative's rule writes it. -/
def dq (d : Fin 1024 → EReal) (W : S1024x1024.Idx → EReal) (x g b : Fin 512 → EReal) (j : Fin 512) : EReal :=
  LRows.dr (yb d W j) (LRows.ly x g b j)

theorem dq_dl (d : Fin 1024 → ℝ) (W : S1024x1024.Idx → ℝ) (x g b : Fin 512 → ℝ) :
    dq (fun k => (d k : EReal)) (fun i => (W i : EReal)) (fun k => (x k : EReal)) (fun k => (g k : EReal)) (fun k => (b k : EReal))
      = dl (fun k => (d k : EReal)) (fun i => (W i : EReal)) (fun k => (x k : EReal)) (fun k => (g k : EReal)) (fun k => (b k : EReal)) := by
  funext j
  unfold dq dl
  rw [yb_coe, LRows.ly_coe, LRows.dr_dk]

theorem dl_coe (d : Fin 1024 → ℝ) (W : S1024x1024.Idx → ℝ) (x g b : Fin 512 → ℝ) : ∃ r : Fin 512 → ℝ,
    dl (fun k => (d k : EReal)) (fun i => (W i : EReal)) (fun k => (x k : EReal)) (fun k => (g k : EReal)) (fun k => (b k : EReal)) = fun j => (r j : EReal) := by
  refine ⟨fun j => ybR d W j * (Finite.sg (LRows.zcR x j * LRows.rlR x * g j + b j) * (1 + (LRows.zcR x j * LRows.rlR x * g j + b j) * (1 - Finite.sg (LRows.zcR x j * LRows.rlR x * g j + b j)))), funext fun j => ?_⟩
  unfold dl
  rw [yb_coe, LRows.ly_coe, LRows.dk_coe]

/-- The derivative's rule and the kernel's form of the cotangent of the norm's argument agree at real numbers. -/
theorem row_eq (d : Fin 1024 → ℝ) (W : S1024x1024.Idx → ℝ) (x g b : Fin 512 → ℝ) (j : Fin 512) :
    LRows.lr (dq (fun k => (d k : EReal)) (fun i => (W i : EReal)) (fun k => (x k : EReal)) (fun k => (g k : EReal)) (fun k => (b k : EReal))) (fun k => (x k : EReal)) (fun k => (g k : EReal)) j
      = LRows.lz (dl (fun k => (d k : EReal)) (fun i => (W i : EReal)) (fun k => (x k : EReal)) (fun k => (g k : EReal)) (fun k => (b k : EReal))) (fun k => (x k : EReal)) (fun k => (g k : EReal)) j := by
  rw [dq_dl]
  obtain ⟨r, hr⟩ := dl_coe d W x g b
  rw [hr]
  exact LRows.lr_lz r x g j
end

section
open Cert.ReferenceMixOutIdeal Cert.ReferenceMixOutIdeal.Gen Cert.ReferenceMixOutIdeal.Value

variable (m : (ℓ : Loc nD τ sig) → Buf (Elt Ideal) ℓ) (c : Dev nD)

/-- The lower half's cotangent, at one element. -/
theorem ref0 (x : S2176x1024.Idx → EReal) (w : S1024x1024.Idx → EReal) (i : S2176x512.Idx) :
    (extractStridedSlice S2176x512 ![0, 0] (Host.dotGeneral (F := Ideal) dot_S2176x1024_S1024x1024_S2176x1024_1_1_0_0_n_n none (extf (F := Ideal) (φ := .bf16) .f32 x bitsLt_bf16_f32) (extf (F := Ideal) (φ := .bf16) .f32 w bitsLt_bf16_f32)) slices_S2176x1024_S2176x512_0_0 i : EReal)
      = ya (row (n := 2176) (w := 1024) x (i 0)) w (i 1) := by
  unfold ya row
  pointwise

/-- The cotangent of the norm's argument, at one element. -/
theorem ref1 (i : S2176x512.Idx) : (res_main_v67 m c i : EReal) = LRows.lr (dq (row (n := 2176) (w := 1024) (m ((c.tc : Thread nD τ).loc main_arg0)) (i 0)) (m ((c.tc : Thread nD τ).loc main_arg1)) (row (n := 2176) (w := 512) (m ((c.tc : Thread nD τ).loc main_arg2)) (i 0)) (row (n := 1) (w := 512) (m ((c.tc : Thread nD τ).loc main_arg3)) 0) (row (n := 1) (w := 512) (m ((c.tc : Thread nD τ).loc main_arg4)) 0)) (row (n := 2176) (w := 512) (m ((c.tc : Thread nD τ).loc main_arg2)) (i 0)) (row (n := 1) (w := 512) (m ((c.tc : Thread nD τ).loc main_arg3)) 0) (i 1) := by
  unfold res_main_v67 LRows.lr LRows.hs dq LRows.dr yb Finite.gate LRows.ly LRows.zh LRows.rl LRows.zc row LRows.sc LRows.ep
  pointwise

/-- The gradient of the norm's scale, at one element. -/
theorem ref2 (i : S1x512.Idx) : (res_main_v41 m c i : EReal) = ∑ l : Fin 2176, LRows.zh (row (n := 2176) (w := 512) (m ((c.tc : Thread nD τ).loc main_arg2)) l) (i 1) * (dq (row (n := 2176) (w := 1024) (m ((c.tc : Thread nD τ).loc main_arg0)) l) (m ((c.tc : Thread nD τ).loc main_arg1)) (row (n := 2176) (w := 512) (m ((c.tc : Thread nD τ).loc main_arg2)) l) (row (n := 1) (w := 512) (m ((c.tc : Thread nD τ).loc main_arg3)) 0) (row (n := 1) (w := 512) (m ((c.tc : Thread nD τ).loc main_arg4)) 0)) (i 1) := by
  unfold res_main_v41 dq LRows.dr yb Finite.gate LRows.ly LRows.zh LRows.rl LRows.zc row LRows.sc LRows.ep
  pointwise

/-- The gradient of the norm's shift, at one element. -/
theorem ref3 (i : S1x512.Idx) : (res_main_v38 m c i : EReal) = ∑ l : Fin 2176, (dq (row (n := 2176) (w := 1024) (m ((c.tc : Thread nD τ).loc main_arg0)) l) (m ((c.tc : Thread nD τ).loc main_arg1)) (row (n := 2176) (w := 512) (m ((c.tc : Thread nD τ).loc main_arg2)) l) (row (n := 1) (w := 512) (m ((c.tc : Thread nD τ).loc main_arg3)) 0) (row (n := 1) (w := 512) (m ((c.tc : Thread nD τ).loc main_arg4)) 0)) (i 1) := by
  unfold res_main_v38 dq LRows.dr yb Finite.gate LRows.ly LRows.zh LRows.rl LRows.zc row LRows.sc LRows.ep
  pointwise
end

/-- The kernel and the reference leave the same four arrays from the same finite arguments. -/
theorem algebraic : Cert.algebraic_KernelMixOutIdeal_ReferenceMixOutIdeal_pre_finite_mix_out (hKernelMixOutIdeal := Cert.KernelMixOutIdeal.Gen.facts) (hReferenceMixOutIdeal := Cert.ReferenceMixOutIdeal.Gen.facts) (hPre_finite_mix_out := Cert.Pre_finite_mix_out.Gen.facts) :=
  fun m ρ m' ρ' hp hag => by
  refine ⟨_, _, _, _, (θ_run _ _ _).mono (fun r h c => ⟨(h c).1.trans (final5 m c), (h c).2.1.trans (final6 m c), (h c).2.2.1.trans (final7 m c), (h c).2.2.2.1.trans (final8 m c), (h c).2.2.2.2⟩) (Cert.KernelMixOutIdeal.Value.run_blocks (F := Ideal) m ρ), ?_⟩
  refine (θ_run _ _ _).mono (fun r h c => ?_) (Cert.ReferenceMixOutIdeal.Value.run (F := Ideal) m' ρ')
  obtain ⟨r0, r1, r2, r3, hargs⟩ := h c
  obtain ⟨⟨a0, e0⟩, ⟨a1, e1⟩, ⟨a2, e2⟩, ⟨a3, e3⟩, ⟨a4, e4⟩⟩ := reals m c hp
  obtain ⟨g0, g1, g2, g3, g4, -⟩ := hag c
  have ez := fun l : Fin 2176 => row_eq (fun k => a0 (ix2 l k)) a1 (fun k => a2 (ix2 l k)) (fun k => a3 (ix2 0 k)) (fun k => a4 (ix2 0 k))
  have ed := fun l : Fin 2176 => dq_dl (fun k => a0 (ix2 l k)) a1 (fun k => a2 (ix2 l k)) (fun k => a3 (ix2 0 k)) (fun k => a4 (ix2 0 k))
  refine ⟨r0.trans ?_, r1.trans ?_, r2.trans ?_, r3.trans ?_, hargs⟩
  all_goals
    clear r0 r1 r2 r3 hargs h
    funext i
  · refine (ref0 _ _ i).trans ?_
    unfold gy
    simp only [g0, g1]
  · refine (ref1 m' c i).trans ?_
    unfold gz
    simp only [g0, g1, g2, g3, g4, e0, e1, e2, e3, e4]
    exact ez _ (i 1)
  · refine (ref2 m' c i).trans ?_
    simp only [g0, g1, g2, g3, g4, e0, e1, e2, e3, e4]
    refine Finset.sum_congr (M := EReal) rfl fun l _ => ?_
    refine (mul_comm (G := EReal) _ _).trans ?_
    exact congrArg (· * _) (congrFun (ed l) (i 1))
  · refine (ref3 m' c i).trans ?_
    simp only [g0, g1, g2, g3, g4, e0, e1, e2, e3, e4]
    refine Finset.sum_congr (M := EReal) rfl fun l _ => ?_
    exact congrFun (ed l) (i 1)

end Cert.Proof.WMixOut

end
-- ==== Proof.Adam.lean ====
module

public import Idealize.ShloMosaic.Lib.StableHlo
public import Idealize.ShloMosaic.Lib.Pointwise
public import Idealize.ShloMosaic.PureOps

@[expose] public section

noncomputable section

/-! The optimiser's step on one number. -/

namespace Cert.Proof.Adam

open Idealize.ShloMosaic

/-- The new first moment from the gradient and the old one. -/
def mom (g m : EReal) : EReal := Ideal.ofBits FTy.f32 0x3F666666#32 * m + Ideal.ofBits FTy.f32 0x3DCCCCCD#32 * g

/-- The new second moment from the gradient and the old one. -/
def vel (g v : EReal) : EReal := Ideal.ofBits FTy.f32 0x3F7FBE77#32 * v + Ideal.ofBits FTy.f32 0x3A83126F#32 * (g * g)

/-- The change of a weight. -/
def upd (w g m v : EReal) : EReal :=
  Ideal.ofBits FTy.f32 0xBA83126F#32 *
    (Ideal.div (Ideal.div (mom g m) (Ideal.ofBits FTy.f32 0x3F26BD02#32))
        (Ideal.sqrt (Ideal.div (vel g v) (Ideal.ofBits FTy.f32 0x3C231ACC#32)) + Ideal.ofBits FTy.f32 0x322BCC77#32) +
      Ideal.ofBits FTy.f32 0x3C23D70A#32 * w)

end Cert.Proof.Adam

end
-- ==== Proof.WAdamFfn.lean ====
module

public import proofs.«01_k».proof.Defs
public import proofs.«01_k».proof.Proof.Adam
public import proofs.«01_k».proof.Proof.Gen.KernelAdamFfnIdeal.Value
public import proofs.«01_k».proof.Proof.Gen.ReferenceAdamFfnIdeal
public import proofs.«01_k».proof.Proof.Gen.ReferenceAdamFfnIdeal.Run
public import Idealize.ShloMosaic.Lib.Pipeline.ValueKit
public import Idealize.ShloMosaic.Lib.Pointwise
public import Idealize.ShloMosaic.Lib.StableHlo.ReadAt

@[expose] public section

set_option maxRecDepth 16384

noncomputable section

/-! The optimiser's call for the three weights of the feed-forward layer. -/

namespace Cert.Proof.WAdamFfn

open Idealize.ShloMosaic Idealize.ShloMosaic.TcCoe Idealize.SL.Sem
open Cert.Proof.Adam

section
open Cert.KernelAdamFfnIdeal Cert.KernelAdamFfnIdeal.Gen

variable (m : (ℓ : Loc nD τ sig) → Buf (Elt Ideal) ℓ) (c : Dev nD)

/-- Each point takes and leaves the row block of its number, in all windows. -/
theorem idx : ∀ t : Fin cfg0.N,
    win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] ∧
    win0_8.index t = ![t.val, 0] ∧ win0_9.index t = ![t.val, 0] ∧ win0_10.index t = ![t.val, 0] ∧ win0_11.index t = ![t.val, 0] ∧
    win0_12.index t = ![t.val, 0] ∧ win0_13.index t = ![t.val, 0] ∧ win0_14.index t = ![t.val, 0] ∧ win0_15.index t = ![t.val, 0] ∧
    win0_16.index t = ![t.val, 0] ∧ win0_17.index t = ![t.val, 0] ∧ win0_18.index t = ![t.val, 0] ∧ win0_19.index t = ![t.val, 0] ∧
    win0_20.index t = ![t.val, 0] ∧ win0_21.index t = ![t.val, 0] ∧ win0_22.index t = ![t.val, 0] ∧ win0_23.index t = ![t.val, 0] := by decide +kernel

/-- What the body computes, at an index: the three weights' steps, -/
theorem steps (w g a v : S88x1024.Idx → EReal) (y : S88x1024.Idx) :
    (k0_pay4 (F := Ideal) g w a v y : EReal) = upd (w y) (g y) (a y) (v y) ∧
    (k0_pay7 (F := Ideal) g w a v y : EReal) = upd (w y) (g y) (a y) (v y) ∧
    (k0_pay1 (F := Ideal) (k0_pay10 (F := Ideal) g w a v) (k0_pay11 (F := Ideal)) y : EReal) = upd (w y) (g y) (a y) (v y) := by
  unfold upd mom vel
  refine ⟨?_, ?_, ?_⟩
  · pointwise [k0_pay4, k0_pay2, k0_pay3]
  · pointwise [k0_pay7, k0_pay5, k0_pay6]
  · pointwise [k0_pay1, k0_pay10, k0_pay8, k0_pay9, k0_pay11]

/-- and their moments. -/
theorem moments (g a : S88x1024.Idx → EReal) (y : S88x1024.Idx) :
    ((k0_pay2 (F := Ideal) g a y : EReal) = mom (g y) (a y) ∧ (k0_pay5 (F := Ideal) g a y : EReal) = mom (g y) (a y) ∧
      (k0_pay8 (F := Ideal) g a y : EReal) = mom (g y) (a y)) ∧
    (k0_pay3 (F := Ideal) g a y : EReal) = vel (g y) (a y) ∧ (k0_pay6 (F := Ideal) g a y : EReal) = vel (g y) (a y) ∧
      (k0_pay9 (F := Ideal) g a y : EReal) = vel (g y) (a y) := by
  unfold mom vel
  refine ⟨⟨?_, ?_, ?_⟩, ?_, ?_, ?_⟩
  all_goals pointwise [k0_pay2, k0_pay5, k0_pay8, k0_pay3, k0_pay6, k0_pay9]

/-- What a weight's four result blocks are, from the blocks of the weight, the gradient and the moments. -/
def Blocks (w g a v d0 d1 d2 d3 : S88x1024.Idx → EReal) : Prop :=
  ∀ y, d0 y = g y ∧ d1 y = upd (w y) (g y) (a y) (v y) ∧ d2 y = mom (g y) (a y) ∧ d3 y = vel (g y) (v y)

/-- What a point leaves in the windows of the three weights. -/
theorem blocks (t : Fin cfg0.N) :
    Blocks (iblk m c 0 t) (iblk m c 3 t) (iblk m c 6 t) (iblk m c 9 t) (outsAt0 m c t).1 (outsAt0 m c t).2.1 (outsAt0 m c t).2.2.1 (outsAt0 m c t).2.2.2.1 ∧
    Blocks (iblk m c 1 t) (iblk m c 4 t) (iblk m c 7 t) (iblk m c 10 t) (outsAt0 m c t).2.2.2.2.1 (outsAt0 m c t).2.2.2.2.2.1 (outsAt0 m c t).2.2.2.2.2.2.1 (outsAt0 m c t).2.2.2.2.2.2.2.1 ∧
    Blocks (iblk m c 2 t) (iblk m c 5 t) (iblk m c 8 t) (iblk m c 11 t) (outsAt0 m c t).2.2.2.2.2.2.2.2.1 (outsAt0 m c t).2.2.2.2.2.2.2.2.2.1 (outsAt0 m c t).2.2.2.2.2.2.2.2.2.2.1 (outsAt0 m c t).2.2.2.2.2.2.2.2.2.2.2 := by
  rw [outsAt0]
  dsimp only
  refine ⟨fun y => ⟨?_, ?_, ?_, ?_⟩, fun y => ⟨?_, ?_, ?_, ?_⟩, fun y => ⟨?_, ?_, ?_, ?_⟩⟩
  · frame_out
  · refine Eq.trans ?_ (steps _ _ _ _ y).1
    frame_out
  · refine Eq.trans ?_ (moments _ _ y).1.1
    frame_out
  · refine Eq.trans ?_ (moments _ _ y).2.1
    frame_out
  · frame_out
  · refine Eq.trans ?_ (steps _ _ _ _ y).2.1
    frame_out
  · refine Eq.trans ?_ (moments _ _ y).1.2.1
    frame_out
  · refine Eq.trans ?_ (moments _ _ y).2.2.1
    frame_out
  · frame_out
  · refine Eq.trans ?_ (steps _ _ _ _ y).2.2
    frame_out
  · refine Eq.trans ?_ (moments _ _ y).1.2.2
    frame_out
  · refine Eq.trans ?_ (moments _ _ y).2.2.2
    frame_out

/-- The same for whole arrays. -/
def Arrays (w g a v d0 d1 d2 d3 : S704x1024.Idx → EReal) : Prop :=
  d0 = g ∧ d1 = (fun i => upd (w i) (g i) (a i) (v i)) ∧ d2 = (fun i => mom (g i) (a i)) ∧ d3 = fun i => vel (g i) (v i)

set_option maxHeartbeats 1000000 in
/-- The first weight's results after the run. -/
theorem fin0 : Arrays (V m c (Pipeline.arrRef spec0 0)) (V m c (Pipeline.arrRef spec0 3)) (V m c (Pipeline.arrRef spec0 6)) (V m c (Pipeline.arrRef spec0 9))
    ((dats m 0 c).arrAt 12 cfg0.N) ((dats m 0 c).arrAt 13 cfg0.N) ((dats m 0 c).arrAt 14 cfg0.N) ((dats m 0 c).arrAt 15 cfg0.N) := by
  refine ⟨(dats m 0 c).arrAt_eq_of_covers 12 _ (by decide +kernel) fun t hf y => ?_,
    (dats m 0 c).arrAt_eq_of_covers 13 _ (by decide +kernel) fun t hf y => ?_,
    (dats m 0 c).arrAt_eq_of_covers 14 _ (by decide +kernel) fun t hf y => ?_,
    (dats m 0 c).arrAt_eq_of_covers 15 _ (by decide +kernel) fun t hf y => ?_⟩
  all_goals blk_simp
  on_goal 1 => rw [after0_12]; refine ((blocks m c t).1 y).1.trans ?_
  on_goal 2 => rw [after0_13]; refine ((blocks m c t).1 y).2.1.trans ?_
  on_goal 3 => rw [after0_14]; refine ((blocks m c t).1 y).2.2.1.trans ?_
  on_goal 4 => rw [after0_15]; refine ((blocks m c t).1 y).2.2.2.trans ?_
  on_goal 1 => blk_ext [iblk, idx t]
  all_goals congr 1 <;> blk_ext [iblk, idx t]

set_option maxHeartbeats 1000000 in
/-- The second weight's results after the run. -/
theorem fin1 : Arrays (V m c (Pipeline.arrRef spec0 1)) (V m c (Pipeline.arrRef spec0 4)) (V m c (Pipeline.arrRef spec0 7)) (V m c (Pipeline.arrRef spec0 10))
    ((dats m 0 c).arrAt 16 cfg0.N) ((dats m 0 c).arrAt 17 cfg0.N) ((dats m 0 c).arrAt 18 cfg0.N) ((dats m 0 c).arrAt 19 cfg0.N) := by
  refine ⟨(dats m 0 c).arrAt_eq_of_covers 16 _ (by decide +kernel) fun t hf y => ?_,
    (dats m 0 c).arrAt_eq_of_covers 17 _ (by decide +kernel) fun t hf y => ?_,
    (dats m 0 c).arrAt_eq_of_covers 18 _ (by decide +kernel) fun t hf y => ?_,
    (dats m 0 c).arrAt_eq_of_covers 19 _ (by decide +kernel) fun t hf y => ?_⟩
  all_goals blk_simp
  on_goal 1 => rw [after0_16]; refine ((blocks m c t).2.1 y).1.trans ?_
  on_goal 2 => rw [after0_17]; refine ((blocks m c t).2.1 y).2.1.trans ?_
  on_goal 3 => rw [after0_18]; refine ((blocks m c t).2.1 y).2.2.1.trans ?_
  on_goal 4 => rw [after0_19]; refine ((blocks m c t).2.1 y).2.2.2.trans ?_
  on_goal 1 => blk_ext [iblk, idx t]
  all_goals congr 1 <;> blk_ext [iblk, idx t]

set_option maxHeartbeats 1000000 in
/-- The third weight's results after the run. -/
theorem fin2 : Arrays (V m c (Pipeline.arrRef spec0 2)) (V m c (Pipeline.arrRef spec0 5)) (V m c (Pipeline.arrRef spec0 8)) (V m c (Pipeline.arrRef spec0 11))
    ((dats m 0 c).arrAt 20 cfg0.N) ((dats m 0 c).arrAt 21 cfg0.N) ((dats m 0 c).arrAt 22 cfg0.N) ((dats m 0 c).arrAt 23 cfg0.N) := by
  refine ⟨(dats m 0 c).arrAt_eq_of_covers 20 _ (by decide +kernel) fun t hf y => ?_,
    (dats m 0 c).arrAt_eq_of_covers 21 _ (by decide +kernel) fun t hf y => ?_,
    (dats m 0 c).arrAt_eq_of_covers 22 _ (by decide +kernel) fun t hf y => ?_,
    (dats m 0 c).arrAt_eq_of_covers 23 _ (by decide +kernel) fun t hf y => ?_⟩
  all_goals blk_simp
  on_goal 1 => rw [after0_20]; refine ((blocks m c t).2.2 y).1.trans ?_
  on_goal 2 => rw [after0_21]; refine ((blocks m c t).2.2 y).2.1.trans ?_
  on_goal 3 => rw [after0_22]; refine ((blocks m c t).2.2 y).2.2.1.trans ?_
  on_goal 4 => rw [after0_23]; refine ((blocks m c t).2.2 y).2.2.2.trans ?_
  on_goal 1 => blk_ext [iblk, idx t]
  all_goals congr 1 <;> blk_ext [iblk, idx t]

set_option maxHeartbeats 1000000 in
/-- The host transposes the first two weights and their moments and drops the leading axis. -/
theorem host :
    (∀ i, (V m c (Pipeline.arrRef spec0 0) i : EReal) = m ((c : Thread nD τ).loc main_arg0) (ix3 0 (i 1) (i 0))) ∧
    (∀ i, (V m c (Pipeline.arrRef spec0 1) i : EReal) = m ((c : Thread nD τ).loc main_arg1) (ix3 0 (i 1) (i 0))) ∧
    (∀ i, (V m c (Pipeline.arrRef spec0 2) i : EReal) = m ((c : Thread nD τ).loc main_arg2) (ix3 0 (i 0) (i 1))) ∧
    (∀ i, (V m c (Pipeline.arrRef spec0 3) i : EReal) = m ((c : Thread nD τ).loc main_arg3) i) ∧
    (∀ i, (V m c (Pipeline.arrRef spec0 4) i : EReal) = m ((c : Thread nD τ).loc main_arg4) i) ∧
    (∀ i, (V m c (Pipeline.arrRef spec0 5) i : EReal) = m ((c : Thread nD τ).loc main_arg5) i) ∧
    (∀ i, (V m c (Pipeline.arrRef spec0 6) i : EReal) = m ((c : Thread nD τ).loc main_arg6) (ix3 0 (i 1) (i 0))) ∧
    (∀ i, (V m c (Pipeline.arrRef spec0 7) i : EReal) = m ((c : Thread nD τ).loc main_arg7) (ix3 0 (i 1) (i 0))) ∧
    (∀ i, (V m c (Pipeline.arrRef spec0 8) i : EReal) = m ((c : Thread nD τ).loc main_arg8) (ix3 0 (i 0) (i 1))) ∧
    (∀ i, (V m c (Pipeline.arrRef spec0 9) i : EReal) = m ((c : Thread nD τ).loc main_arg9) (ix3 0 (i 1) (i 0))) ∧
    (∀ i, (V m c (Pipeline.arrRef spec0 10) i : EReal) = m ((c : Thread nD τ).loc main_arg10) (ix3 0 (i 1) (i 0))) ∧
    (∀ i, (V m c (Pipeline.arrRef spec0 11) i : EReal) = m ((c : Thread nD τ).loc main_arg11) (ix3 0 (i 0) (i 1))) := by
  refine ⟨fun i => (?_ : (V m c main_v1 i : EReal) = _), fun i => (?_ : (V m c main_v3 i : EReal) = _), fun i => (?_ : (V m c main_v4 i : EReal) = _),
    congrFun (V_main_arg3 m c), congrFun (V_main_arg4 m c), congrFun (V_main_arg5 m c),
    fun i => (?_ : (V m c main_v6 i : EReal) = _), fun i => (?_ : (V m c main_v8 i : EReal) = _), fun i => (?_ : (V m c main_v9 i : EReal) = _),
    fun i => (?_ : (V m c main_v11 i : EReal) = _), fun i => (?_ : (V m c main_v13 i : EReal) = _), fun i => (?_ : (V m c main_v14 i : EReal) = _)⟩
  all_goals
    unfold V hostOps0
    after_reads_at

end

/-- Dropping the leading axis and transposing, as the reference does for the first two weights, -/
theorem castT {α : Type} (w : ReferenceAdamFfnIdeal.S1x1024x704.Idx → α) :
    transpose ReferenceAdamFfnIdeal.S704x1024 [1, 0] (shapeCast ReferenceAdamFfnIdeal.S1024x704 w ReferenceAdamFfnIdeal.Gen.shapeCasts_S1x1024x704_S1024x704)
      ReferenceAdamFfnIdeal.Gen.transposes_S1024x704_S704x1024_1_0 = fun i : ReferenceAdamFfnIdeal.S704x1024.Idx => w (ix3 0 (i 1) (i 0)) := by
  funext i
  pointwise

/-- and dropping it for the third. -/
theorem castD {α : Type} (w : ReferenceAdamFfnIdeal.S1x704x1024.Idx → α) :
    shapeCast ReferenceAdamFfnIdeal.S704x1024 w ReferenceAdamFfnIdeal.Gen.shapeCasts_S1x704x1024_S704x1024 =
      fun i : ReferenceAdamFfnIdeal.S704x1024.Idx => w (ix3 0 (i 0) (i 1)) := by
  funext i
  pointwise

set_option maxHeartbeats 2000000 in
/-- The kernel and the reference leave the same results from the same arguments. -/
theorem algebraic : Cert.algebraic_KernelAdamFfnIdeal_ReferenceAdamFfnIdeal (hKernelAdamFfnIdeal := Cert.KernelAdamFfnIdeal.Gen.facts) (hReferenceAdamFfnIdeal := Cert.ReferenceAdamFfnIdeal.Gen.facts) :=
  fun m ρ m' ρ' _ hag => by
  refine ⟨_, _, _, _, _, _, _, _, _, _, _, _, (θ_run _ _ _).mono (fun r h c => by
    obtain ⟨k0, k1, k2, k3, k4, k5, k6, k7, k8, k9, k10, k11, kargs⟩ := h c
    exact ⟨k0.trans (fin0 m c).1, k1.trans (fin0 m c).2.1, k2.trans (fin0 m c).2.2.1, k3.trans (fin0 m c).2.2.2,
      k4.trans (fin1 m c).1, k5.trans (fin1 m c).2.1, k6.trans (fin1 m c).2.2.1, k7.trans (fin1 m c).2.2.2,
      k8.trans (fin2 m c).1, k9.trans (fin2 m c).2.1, k10.trans (fin2 m c).2.2.1, k11.trans (fin2 m c).2.2.2, kargs⟩)
    (Cert.KernelAdamFfnIdeal.Value.run_blocks (F := Ideal) m ρ), ?_⟩
  refine (θ_run _ _ _).mono (fun r h c => ?_) (Cert.ReferenceAdamFfnIdeal.Value.run (F := Ideal) m' ρ')
  obtain ⟨h0, h1, h2, h3, h4, h5, h6, h7, h8, h9, h10, h11, hargs⟩ := h c
  obtain ⟨a0, a1, a2, a3, a4, a5, a6, a7, a8, a9, a10, a11, -⟩ := hag c
  obtain ⟨e0, e1, e2, e3, e4, e5, e6, e7, e8, e9, e10, e11⟩ := host m c
  refine ⟨h0.trans ?_, h1.trans ?_, h2.trans ?_, h3.trans ?_, h4.trans ?_, h5.trans ?_, h6.trans ?_, h7.trans ?_, h8.trans ?_, h9.trans ?_,
    h10.trans ?_, h11.trans ?_, hargs⟩
  · exact a3.trans (funext fun i => (e3 i).symm)
  · rw [a0, a3, a6, a9, castT, castT, castT]; funext i; rw [e0 i, e3 i, e6 i, e9 i]; rfl
  · rw [a3, a6, castT]; funext i; rw [e3 i, e6 i]; rfl
  · rw [a3, a9, castT]; funext i; rw [e3 i, e9 i]; rfl
  · exact a4.trans (funext fun i => (e4 i).symm)
  · rw [a1, a4, a7, a10, castT, castT, castT]; funext i; rw [e1 i, e4 i, e7 i, e10 i]; rfl
  · rw [a4, a7, castT]; funext i; rw [e4 i, e7 i]; rfl
  · rw [a4, a10, castT]; funext i; rw [e4 i, e10 i]; rfl
  · exact a5.trans (funext fun i => (e5 i).symm)
  · rw [a2, a5, a8, a11, castD, castD, castD]; funext i; rw [e2 i, e5 i, e8 i, e11 i]; rfl
  · rw [a5, a8, castD]; funext i; rw [e5 i, e8 i]; rfl
  · rw [a5, a11, castD]; funext i; rw [e5 i, e11 i]; rfl

end Cert.Proof.WAdamFfn

end
-- ==== Proof.WAdamMix.lean ====
module

public import proofs.«01_k».proof.Defs
public import proofs.«01_k».proof.Proof.Adam
public import proofs.«01_k».proof.Proof.Gen.KernelAdamMixIdeal.Value
public import proofs.«01_k».proof.Proof.Gen.ReferenceAdamMixIdeal
public import proofs.«01_k».proof.Proof.Gen.ReferenceAdamMixIdeal.Run
public import Idealize.ShloMosaic.Lib.Pipeline.ValueKit
public import Idealize.ShloMosaic.Lib.Pointwise
public import Idealize.ShloMosaic.Lib.StableHlo.ReadAt

@[expose] public section

set_option maxRecDepth 16384

noncomputable section

/-! The optimiser's call for the mixer's two weights. -/

namespace Cert.Proof.WAdamMix

open Idealize.ShloMosaic Idealize.ShloMosaic.TcCoe Idealize.SL.Sem
open Cert.Proof.Adam

section
open Cert.KernelAdamMixIdeal Cert.KernelAdamMixIdeal.Gen

variable (m : (ℓ : Loc nD τ sig) → Buf (Elt Ideal) ℓ) (c : Dev nD)

/-- Each point takes and leaves the row block of its number, in all windows. -/
theorem idx : ∀ t : Fin cfg0.N,
    win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] ∧
    win0_8.index t = ![t.val, 0] ∧ win0_9.index t = ![t.val, 0] ∧ win0_10.index t = ![t.val, 0] ∧ win0_11.index t = ![t.val, 0] ∧
    win0_12.index t = ![t.val, 0] ∧ win0_13.index t = ![t.val, 0] ∧ win0_14.index t = ![t.val, 0] ∧ win0_15.index t = ![t.val, 0] := by decide +kernel

/-- What the body leaves of the first weight's blocks. -/
theorem outA (x0 x2 x4 x6 : S256x640.Idx → EReal) (x1 x3 x5 x7 : S64x1024.Idx → EReal) (y : S256x640.Idx) :
    (out0_8 (F := Ideal) x0 x1 x2 x3 x4 x5 x6 x7 y : EReal) = x2 y ∧
    (out0_9 (F := Ideal) x0 x1 x2 x3 x4 x5 x6 x7 y : EReal) = upd (x0 y) (x2 y) (x4 y) (x6 y) ∧
    (out0_10 (F := Ideal) x0 x1 x2 x3 x4 x5 x6 x7 y : EReal) = mom (x2 y) (x4 y) ∧
    (out0_11 (F := Ideal) x0 x1 x2 x3 x4 x5 x6 x7 y : EReal) = vel (x2 y) (x6 y) := by
  unfold out0_8 out0_9 out0_10 out0_11 upd mom vel
  refine ⟨?_, ?_, ?_, ?_⟩
  all_goals
    canon_tiles x h
    pointwise [k0_pay1, k0_pay2, k0_pay3]
    congr! <;> blk_ext

/-- What the body leaves of the second weight's blocks. -/
theorem outB (x0 x2 x4 x6 : S256x640.Idx → EReal) (x1 x3 x5 x7 : S64x1024.Idx → EReal) (y : S64x1024.Idx) :
    (out0_12 (F := Ideal) x0 x1 x2 x3 x4 x5 x6 x7 y : EReal) = x3 y ∧
    (out0_13 (F := Ideal) x0 x1 x2 x3 x4 x5 x6 x7 y : EReal) = upd (x1 y) (x3 y) (x5 y) (x7 y) ∧
    (out0_14 (F := Ideal) x0 x1 x2 x3 x4 x5 x6 x7 y : EReal) = mom (x3 y) (x5 y) ∧
    (out0_15 (F := Ideal) x0 x1 x2 x3 x4 x5 x6 x7 y : EReal) = vel (x3 y) (x7 y) := by
  unfold out0_12 out0_13 out0_14 out0_15 upd mom vel
  refine ⟨?_, ?_, ?_, ?_⟩
  all_goals
    canon_tiles x h
    pointwise [k0_pay4, k0_pay5, k0_pay6]
    congr! <;> blk_ext

/-- The first weight's results after the run. -/
theorem finA :
    (dats m 0 c).arrAt 8 cfg0.N = (fun i => V m c (Pipeline.arrRef spec0 2) i) ∧
    (dats m 0 c).arrAt 9 cfg0.N = (fun i => upd (V m c (Pipeline.arrRef spec0 0) i) (V m c (Pipeline.arrRef spec0 2) i) (V m c (Pipeline.arrRef spec0 4) i) (V m c (Pipeline.arrRef spec0 6) i)) ∧
    (dats m 0 c).arrAt 10 cfg0.N = (fun i => mom (V m c (Pipeline.arrRef spec0 2) i) (V m c (Pipeline.arrRef spec0 4) i)) ∧
    (dats m 0 c).arrAt 11 cfg0.N = (fun i => vel (V m c (Pipeline.arrRef spec0 2) i) (V m c (Pipeline.arrRef spec0 6) i)) := by
  refine ⟨?_, ?_, ?_, ?_⟩
  · refine (dats m 0 c).arrAt_eq_of_covers 8 _ (by decide +kernel) fun t hf y => ?_
    blk_simp
    rw [after0_8]
    refine (outA _ _ _ _ _ _ _ _ y).1.trans ?_
    blk_ext [iblk, idx t]
  · refine (dats m 0 c).arrAt_eq_of_covers 9 _ (by decide +kernel) fun t hf y => ?_
    blk_simp
    rw [after0_9]
    refine (outA _ _ _ _ _ _ _ _ y).2.1.trans ?_
    congr 1 <;> blk_ext [iblk, idx t]
  · refine (dats m 0 c).arrAt_eq_of_covers 10 _ (by decide +kernel) fun t hf y => ?_
    blk_simp
    rw [after0_10]
    refine (outA _ _ _ _ _ _ _ _ y).2.2.1.trans ?_
    congr 1 <;> blk_ext [iblk, idx t]
  · refine (dats m 0 c).arrAt_eq_of_covers 11 _ (by decide +kernel) fun t hf y => ?_
    blk_simp
    rw [after0_11]
    refine (outA _ _ _ _ _ _ _ _ y).2.2.2.trans ?_
    congr 1 <;> blk_ext [iblk, idx t]

/-- The second weight's results after the run. -/
theorem finB :
    (dats m 0 c).arrAt 12 cfg0.N = (fun i => V m c (Pipeline.arrRef spec0 3) i) ∧
    (dats m 0 c).arrAt 13 cfg0.N = (fun i => upd (V m c (Pipeline.arrRef spec0 1) i) (V m c (Pipeline.arrRef spec0 3) i) (V m c (Pipeline.arrRef spec0 5) i) (V m c (Pipeline.arrRef spec0 7) i)) ∧
    (dats m 0 c).arrAt 14 cfg0.N = (fun i => mom (V m c (Pipeline.arrRef spec0 3) i) (V m c (Pipeline.arrRef spec0 5) i)) ∧
    (dats m 0 c).arrAt 15 cfg0.N = (fun i => vel (V m c (Pipeline.arrRef spec0 3) i) (V m c (Pipeline.arrRef spec0 7) i)) := by
  refine ⟨?_, ?_, ?_, ?_⟩
  · refine (dats m 0 c).arrAt_eq_of_covers 12 _ (by decide +kernel) fun t hf y => ?_
    blk_simp
    rw [after0_12]
    refine (outB _ _ _ _ _ _ _ _ y).1.trans ?_
    blk_ext [iblk, idx t]
  · refine (dats m 0 c).arrAt_eq_of_covers 13 _ (by decide +kernel) fun t hf y => ?_
    blk_simp
    rw [after0_13]
    refine (outB _ _ _ _ _ _ _ _ y).2.1.trans ?_
    congr 1 <;> blk_ext [iblk, idx t]
  · refine (dats m 0 c).arrAt_eq_of_covers 14 _ (by decide +kernel) fun t hf y => ?_
    blk_simp
    rw [after0_14]
    refine (outB _ _ _ _ _ _ _ _ y).2.2.1.trans ?_
    congr 1 <;> blk_ext [iblk, idx t]
  · refine (dats m 0 c).arrAt_eq_of_covers 15 _ (by decide +kernel) fun t hf y => ?_
    blk_simp
    rw [after0_15]
    refine (outB _ _ _ _ _ _ _ _ y).2.2.2.trans ?_
    congr 1 <;> blk_ext [iblk, idx t]

/-- The host drops the leading axis of the weights and the moments, and leaves the gradients as they are. -/
theorem host :
    (∀ i, (V m c (Pipeline.arrRef spec0 0) i : EReal) = m ((c : Thread nD τ).loc main_arg0) (ix3 0 (i 0) (i 1))) ∧
    (∀ i, (V m c (Pipeline.arrRef spec0 1) i : EReal) = m ((c : Thread nD τ).loc main_arg1) (ix3 0 (i 0) (i 1))) ∧
    (∀ i, (V m c (Pipeline.arrRef spec0 2) i : EReal) = m ((c : Thread nD τ).loc main_arg2) i) ∧
    (∀ i, (V m c (Pipeline.arrRef spec0 3) i : EReal) = m ((c : Thread nD τ).loc main_arg3) i) ∧
    (∀ i, (V m c (Pipeline.arrRef spec0 4) i : EReal) = m ((c : Thread nD τ).loc main_arg4) (ix3 0 (i 0) (i 1))) ∧
    (∀ i, (V m c (Pipeline.arrRef spec0 5) i : EReal) = m ((c : Thread nD τ).loc main_arg5) (ix3 0 (i 0) (i 1))) ∧
    (∀ i, (V m c (Pipeline.arrRef spec0 6) i : EReal) = m ((c : Thread nD τ).loc main_arg6) (ix3 0 (i 0) (i 1))) ∧
    (∀ i, (V m c (Pipeline.arrRef spec0 7) i : EReal) = m ((c : Thread nD τ).loc main_arg7) (ix3 0 (i 0) (i 1))) := by
  refine ⟨fun i => ?_, fun i => ?_, fun i => congrFun (V_main_arg2 m c) i, fun i => congrFun (V_main_arg3 m c) i, fun i => ?_, fun i => ?_, fun i => ?_, fun i => ?_⟩
  · change (V m c main_v0 i : EReal) = _
    unfold V hostOps0
    after_reads_at
  · change (V m c main_v1 i : EReal) = _
    unfold V
    simp only [hostOps0, List.flatten_cons, List.flatten_nil, List.append_nil, List.cons_append, List.nil_append]
    after_reads_at
  · change (V m c main_v2 i : EReal) = _
    unfold V
    simp only [hostOps0, List.flatten_cons, List.flatten_nil, List.append_nil, List.cons_append, List.nil_append]
    after_reads_at
  · change (V m c main_v3 i : EReal) = _
    unfold V
    simp only [hostOps0, List.flatten_cons, List.flatten_nil, List.append_nil, List.cons_append, List.nil_append]
    after_reads_at
  · change (V m c main_v4 i : EReal) = _
    unfold V
    simp only [hostOps0, List.flatten_cons, List.flatten_nil, List.append_nil, List.cons_append, List.nil_append]
    after_reads_at
  · change (V m c main_v5 i : EReal) = _
    unfold V
    simp only [hostOps0, List.flatten_cons, List.flatten_nil, List.append_nil, List.cons_append, List.nil_append]
    after_reads_at

end

/-- Dropping the leading axis, for the first weight's shape, -/
theorem castA {α : Type} (w : ReferenceAdamMixIdeal.S1x1024x640.Idx → α) :
    shapeCast ReferenceAdamMixIdeal.S1024x640 w ReferenceAdamMixIdeal.Gen.shapeCasts_S1x1024x640_S1024x640 = fun i : ReferenceAdamMixIdeal.S1024x640.Idx => w (ix3 0 (i 0) (i 1)) := by
  funext i
  pointwise

/-- and for the second's. -/
theorem castB {α : Type} (w : ReferenceAdamMixIdeal.S1x256x1024.Idx → α) :
    shapeCast ReferenceAdamMixIdeal.S256x1024 w ReferenceAdamMixIdeal.Gen.shapeCasts_S1x256x1024_S256x1024 = fun i : ReferenceAdamMixIdeal.S256x1024.Idx => w (ix3 0 (i 0) (i 1)) := by
  funext i
  pointwise

set_option maxHeartbeats 1000000 in
/-- The kernel and the reference leave the same results from the same arguments. -/
theorem algebraic : Cert.algebraic_KernelAdamMixIdeal_ReferenceAdamMixIdeal (hKernelAdamMixIdeal := Cert.KernelAdamMixIdeal.Gen.facts) (hReferenceAdamMixIdeal := Cert.ReferenceAdamMixIdeal.Gen.facts) :=
  fun m ρ m' ρ' _ hag => by
  refine ⟨_, _, _, _, _, _, _, _, (θ_run _ _ _).mono (fun r h c => ⟨(h c).1.trans (finA m c).1, (h c).2.1.trans (finA m c).2.1,
    (h c).2.2.1.trans (finA m c).2.2.1, (h c).2.2.2.1.trans (finA m c).2.2.2, (h c).2.2.2.2.1.trans (finB m c).1,
    (h c).2.2.2.2.2.1.trans (finB m c).2.1, (h c).2.2.2.2.2.2.1.trans (finB m c).2.2.1,
    (h c).2.2.2.2.2.2.2.1.trans (finB m c).2.2.2, (h c).2.2.2.2.2.2.2.2⟩) (Cert.KernelAdamMixIdeal.Value.run_blocks (F := Ideal) m ρ), ?_⟩
  refine (θ_run _ _ _).mono (fun r h c => ?_) (Cert.ReferenceAdamMixIdeal.Value.run (F := Ideal) m' ρ')
  obtain ⟨h0, h1, h2, h3, h4, h5, h6, h7, hargs⟩ := h c
  obtain ⟨a0, a1, a2, a3, a4, a5, a6, a7⟩ := hag c
  obtain ⟨e0, e1, e2, e3, e4, e5, e6, e7⟩ := host m c
  refine ⟨h0.trans ?_, h1.trans ?_, h2.trans ?_, h3.trans ?_, h4.trans ?_, h5.trans ?_, h6.trans ?_, h7.trans ?_, hargs⟩
  · exact a2.trans (funext fun i => (e2 i).symm)
  · rw [a0, a2, a4, a6, castA, castA, castA]
    funext i
    rw [e0 i, e2 i, e4 i, e6 i]
    rfl
  · rw [a2, a4, castA]
    funext i
    rw [e2 i, e4 i]
    rfl
  · rw [a2, a6, castA]
    funext i
    rw [e2 i, e6 i]
    rfl
  · exact a3.trans (funext fun i => (e3 i).symm)
  · rw [a1, a3, a5, a7, castB, castB, castB]
    funext i
    rw [e1 i, e3 i, e5 i, e7 i]
    rfl
  · rw [a3, a5, castB]
    funext i
    rw [e3 i, e5 i]
    rfl
  · rw [a3, a7, castB]
    funext i
    rw [e3 i, e7 i]
    rfl

end Cert.Proof.WAdamMix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import proofs.«01_k».proof.Proof.WGateUp
public import proofs.«01_k».proof.Proof.Gen.KernelGateUpIdeal.Value
public import proofs.«01_k».proof.Proof.Gen.ReferenceGateUpIdeal.Run
public import proofs.«01_k».proof.Proof.WDown
public import proofs.«01_k».proof.Proof.Gen.KernelDownIdeal.Value
public import proofs.«01_k».proof.Proof.Gen.ReferenceDownIdeal.Run
public import proofs.«01_k».proof.Proof.WOut
public import proofs.«01_k».proof.Proof.Gen.KernelOutIdeal.Value
public import proofs.«01_k».proof.Proof.Gen.ReferenceOutIdeal.Run
public import proofs.«01_k».proof.Proof.WIn
public import proofs.«01_k».proof.Proof.Gen.KernelInIdeal.Value
public import proofs.«01_k».proof.Proof.Gen.ReferenceInIdeal.Run
public import proofs.«01_k».proof.Proof.WFrames
public import proofs.«01_k».proof.Proof.WFrames2
public import proofs.«01_k».proof.Proof.WUp
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.Pre_finite_up
public import proofs.«01_k».proof.Proof.WAct
public import proofs.«01_k».proof.Proof.Gen.KernelAct.Frame
public import proofs.«01_k».proof.Proof.Gen.KernelActIdeal.Value
public import proofs.«01_k».proof.Proof.Gen.ReferenceActIdeal.Run
public import proofs.«01_k».proof.Proof.Gen.Pre_finite_act
public import proofs.«01_k».proof.Proof.WMmIn
public import proofs.«01_k».proof.Proof.Gen.KernelMmIn.Frame
public import proofs.«01_k».proof.Proof.Gen.KernelMmInIdeal.Frame
public import proofs.«01_k».proof.Proof.Gen.ReferenceMmInIdeal.Run
public import proofs.«01_k».proof.Proof.WMmOut
public import proofs.«01_k».proof.Proof.Gen.KernelMmOut.Frame
public import proofs.«01_k».proof.Proof.Gen.KernelMmOutIdeal.Value
public import proofs.«01_k».proof.Proof.Gen.ReferenceMmOutIdeal.Run
public import proofs.«01_k».proof.Proof.WFfnDown
public import proofs.«01_k».proof.Proof.Gen.KernelFfnDown.Frame
public import proofs.«01_k».proof.Proof.Gen.KernelFfnDownIdeal.Frame
public import proofs.«01_k».proof.Proof.Gen.ReferenceFfnDownIdeal.Run
public import proofs.«01_k».proof.Proof.Gen.Pre_finite_ffn_down
public import proofs.«01_k».proof.Proof.WBwdIn
public import proofs.«01_k».proof.Proof.Gen.KernelBwdIn.Frame
public import proofs.«01_k».proof.Proof.Gen.KernelBwdInIdeal.Value
public import proofs.«01_k».proof.Proof.Gen.ReferenceBwdInIdeal.Run
public import proofs.«01_k».proof.Proof.Gen.Pre_finite_bwd_in
public import proofs.«01_k».proof.Proof.WMixOut
public import proofs.«01_k».proof.Proof.Gen.KernelMixOut.Frame
public import proofs.«01_k».proof.Proof.Gen.KernelMixOutIdeal.Value
public import proofs.«01_k».proof.Proof.Gen.ReferenceMixOutIdeal.Run
public import proofs.«01_k».proof.Proof.Gen.Pre_finite_mix_out
public import proofs.«01_k».proof.Proof.WMixIn
public import proofs.«01_k».proof.Proof.Gen.KernelMixIn.Frame
public import proofs.«01_k».proof.Proof.Gen.KernelMixInIdeal.Value
public import proofs.«01_k».proof.Proof.Gen.ReferenceMixInIdeal.Run
public import proofs.«01_k».proof.Proof.Gen.Pre_finite_mix_in
public import proofs.«01_k».proof.Proof.WAdamFfn
public import proofs.«01_k».proof.Proof.Gen.KernelAdamFfn.Frame
public import proofs.«01_k».proof.Proof.Gen.KernelAdamFfnIdeal.Value
public import proofs.«01_k».proof.Proof.Gen.ReferenceAdamFfnIdeal.Run
public import proofs.«01_k».proof.Proof.WAdamMix
public import proofs.«01_k».proof.Proof.Gen.KernelAdamMix.Frame
public import proofs.«01_k».proof.Proof.Gen.KernelAdamMixIdeal.Value
public import proofs.«01_k».proof.Proof.Gen.ReferenceAdamMixIdeal.Run
public import Idealize.ShloMosaic.Adequacy
public import Idealize.ShloMosaic.Init

@[expose] public section

noncomputable section

namespace Cert.Proof

open Idealize.ShloMosaic Idealize.SL.Sem Cert.Kernel

/-- The claims: each program's frames, that each ideal reading is the program's own text, and that kernel and reference
compute the same. -/
theorem claim : Cert.Claim :=
  ⟨Cert.Kernel.Gen.facts, Cert.KernelIdeal.Gen.facts, Cert.ReferenceIdeal.Gen.facts, Cert.KernelGateUp.Gen.facts, Cert.KernelGateUpIdeal.Gen.facts, Cert.ReferenceGateUpIdeal.Gen.facts, Cert.KernelDown.Gen.facts, Cert.KernelDownIdeal.Gen.facts, Cert.ReferenceDownIdeal.Gen.facts, Cert.KernelOut.Gen.facts, Cert.KernelOutIdeal.Gen.facts, Cert.ReferenceOutIdeal.Gen.facts, Cert.KernelIn.Gen.facts, Cert.KernelInIdeal.Gen.facts, Cert.ReferenceInIdeal.Gen.facts, Cert.KernelUp.Gen.facts, Cert.KernelUpIdeal.Gen.facts, Cert.ReferenceUpIdeal.Gen.facts, Cert.KernelAct.Gen.facts, Cert.KernelActIdeal.Gen.facts, Cert.ReferenceActIdeal.Gen.facts, Cert.KernelMmIn.Gen.facts, Cert.KernelMmInIdeal.Gen.facts, Cert.ReferenceMmInIdeal.Gen.facts, Cert.KernelMmOut.Gen.facts, Cert.KernelMmOutIdeal.Gen.facts, Cert.ReferenceMmOutIdeal.Gen.facts, Cert.KernelFfnDown.Gen.facts, Cert.KernelFfnDownIdeal.Gen.facts, Cert.ReferenceFfnDownIdeal.Gen.facts, Cert.KernelBwdIn.Gen.facts, Cert.KernelBwdInIdeal.Gen.facts, Cert.ReferenceBwdInIdeal.Gen.facts, Cert.KernelMixOut.Gen.facts, Cert.KernelMixOutIdeal.Gen.facts, Cert.ReferenceMixOutIdeal.Gen.facts, Cert.KernelMixIn.Gen.facts, Cert.KernelMixInIdeal.Gen.facts, Cert.ReferenceMixInIdeal.Gen.facts, Cert.KernelAdamFfn.Gen.facts, Cert.KernelAdamFfnIdeal.Gen.facts, Cert.ReferenceAdamFfnIdeal.Gen.facts, Cert.KernelAdamMix.Gen.facts, Cert.KernelAdamMixIdeal.Gen.facts, Cert.ReferenceAdamMixIdeal.Gen.facts, Cert.Pre_finite_up.Gen.facts, Cert.Pre_finite_act.Gen.facts, Cert.Pre_finite_ffn_down.Gen.facts, Cert.Pre_finite_bwd_in.Gen.facts, Cert.Pre_finite_mix_out.Gen.facts, Cert.Pre_finite_mix_in.Gen.facts,
    Conv.frame_kernel, Conv.frame_ideal, Conv.frame_reference,
    WFrames.bitsGateUp, WFrames.idealGateUp, WFrames.refGateUp,
    WFrames.bitsDown, WFrames.idealDown, WFrames.refDown,
    WFrames.bitsOut, WFrames.idealOut, WFrames.refOut,
    WFrames.bitsIn, WFrames.idealIn, WFrames.refIn,
    WFrames.bitsUp, WFrames.idealUp, WFrames.idealUpPre, WFrames.refUp, WFrames.refUpPre,
    WFrames.bitsAct, WFrames.idealAct, WFrames.idealActPre, WFrames.refAct, WFrames.refActPre,
    WFrames.bitsMmIn, WFrames.idealMmIn, WFrames.refMmIn,
    WFrames.bitsMmOut, WFrames.idealMmOut, WFrames.refMmOut,
    WFrames.bitsFfnDown, WFrames.idealFfnDown, WFrames.idealFfnDownPre, WFrames.refFfnDown, WFrames.refFfnDownPre,
    WFrames.bitsBwdIn, WFrames.idealBwdIn, WFrames.idealBwdInPre, WFrames.refBwdIn, WFrames.refBwdInPre,
    WFrames.bitsMixOut, WFrames.idealMixOut, WFrames.idealMixOutPre, WFrames.refMixOut, WFrames.refMixOutPre,
    WFrames.bitsMixIn, WFrames.idealMixIn, WFrames.idealMixInPre, WFrames.refMixIn, WFrames.refMixInPre,
    WFrames.bitsAdamFfn, WFrames.idealAdamFfn, WFrames.refAdamFfn,
    WFrames.bitsAdamMix, WFrames.idealAdamMix, WFrames.refAdamMix,
    trivial, Conv.algebraic, trivial, WGateUp.algebraic, trivial, WDown.algebraic, trivial, WOut.algebraic, trivial, WIn.algebraic, trivial, WUp.algebraic, trivial, WAct.algebraic, trivial, WMmIn.algebraic, trivial, WMmOut.algebraic, trivial, WFfnDown.algebraic, trivial, WBwdIn.algebraic, trivial, WMixOut.algebraic, trivial, WMixIn.algebraic, trivial, WAdamFfn.algebraic, trivial, WAdamMix.algebraic⟩

end Cert.Proof

end
